-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Dact (m : (ℓ : Loc Cert.Dact.nD Cert.Dact.τ Cert.Dact.sig) → Buf (Elt Bits) ℓ) : Prop :=
  True

def Pre_DactIdeal (m : (ℓ : Loc Cert.DactIdeal.nD Cert.DactIdeal.τ Cert.DactIdeal.sig) → Buf (Elt Ideal) ℓ) : Prop :=
  True

def Pre_DactReferenceIdeal (m : (ℓ : Loc Cert.DactReferenceIdeal.nD Cert.DactReferenceIdeal.τ Cert.DactReferenceIdeal.sig) → Buf (Elt Ideal) ℓ) : Prop :=
  True

def Pre_Gdown (m : (ℓ : Loc Cert.Gdown.nD Cert.Gdown.τ Cert.Gdown.sig) → Buf (Elt Bits) ℓ) : Prop :=
  True

def Pre_GdownIdeal (m : (ℓ : Loc Cert.GdownIdeal.nD Cert.GdownIdeal.τ Cert.GdownIdeal.sig) → Buf (Elt Ideal) ℓ) : Prop :=
  True

def Pre_GdownReferenceIdeal (m : (ℓ : Loc Cert.GdownReferenceIdeal.nD Cert.GdownReferenceIdeal.τ Cert.GdownReferenceIdeal.sig) → Buf (Elt Ideal) ℓ) : Prop :=
  True

def Pre_Ggate (m : (ℓ : Loc Cert.Ggate.nD Cert.Ggate.τ Cert.Ggate.sig) → Buf (Elt Bits) ℓ) : Prop :=
  True

def Pre_GgateIdeal (m : (ℓ : Loc Cert.GgateIdeal.nD Cert.GgateIdeal.τ Cert.GgateIdeal.sig) → Buf (Elt Ideal) ℓ) : Prop :=
  True

def Pre_GgateReferenceIdeal (m : (ℓ : Loc Cert.GgateReferenceIdeal.nD Cert.GgateReferenceIdeal.τ Cert.GgateReferenceIdeal.sig) → Buf (Elt Ideal) ℓ) : Prop :=
  True

def Pre_Gval (m : (ℓ : Loc Cert.Gval.nD Cert.Gval.τ Cert.Gval.sig) → Buf (Elt Bits) ℓ) : Prop :=
  True

def Pre_GvalIdeal (m : (ℓ : Loc Cert.GvalIdeal.nD Cert.GvalIdeal.τ Cert.GvalIdeal.sig) → Buf (Elt Ideal) ℓ) : Prop :=
  True

def Pre_GvalReferenceIdeal (m : (ℓ : Loc Cert.GvalReferenceIdeal.nD Cert.GvalReferenceIdeal.τ Cert.GvalReferenceIdeal.sig) → Buf (Elt Ideal) ℓ) : Prop :=
  True

def Pre_Dhn (m : (ℓ : Loc Cert.Dhn.nD Cert.Dhn.τ Cert.Dhn.sig) → Buf (Elt Bits) ℓ) : Prop :=
  True

def Pre_DhnIdeal (m : (ℓ : Loc Cert.DhnIdeal.nD Cert.DhnIdeal.τ Cert.DhnIdeal.sig) → Buf (Elt Ideal) ℓ) : Prop :=
  True

def Pre_DhnReferenceIdeal (m : (ℓ : Loc Cert.DhnReferenceIdeal.nD Cert.DhnReferenceIdeal.τ Cert.DhnReferenceIdeal.sig) → Buf (Elt Ideal) ℓ) : Prop :=
  True

def Pre_Dmix (m : (ℓ : Loc Cert.Dmix.nD Cert.Dmix.τ Cert.Dmix.sig) → Buf (Elt Bits) ℓ) : Prop :=
  True

def Pre_DmixIdeal (m : (ℓ : Loc Cert.DmixIdeal.nD Cert.DmixIdeal.τ Cert.DmixIdeal.sig) → Buf (Elt Ideal) ℓ) : Prop :=
  True

def Pre_DmixReferenceIdeal (m : (ℓ : Loc Cert.DmixReferenceIdeal.nD Cert.DmixReferenceIdeal.τ Cert.DmixReferenceIdeal.sig) → Buf (Elt Ideal) ℓ) : Prop :=
  True

def Pre_Gout (m : (ℓ : Loc Cert.Gout.nD Cert.Gout.τ Cert.Gout.sig) → Buf (Elt Bits) ℓ) : Prop :=
  True

def Pre_GoutIdeal (m : (ℓ : Loc Cert.GoutIdeal.nD Cert.GoutIdeal.τ Cert.GoutIdeal.sig) → Buf (Elt Ideal) ℓ) : Prop :=
  True

def Pre_GoutReferenceIdeal (m : (ℓ : Loc Cert.GoutReferenceIdeal.nD Cert.GoutReferenceIdeal.τ Cert.GoutReferenceIdeal.sig) → Buf (Elt Ideal) ℓ) : Prop :=
  True

def Pre_Gin (m : (ℓ : Loc Cert.Gin.nD Cert.Gin.τ Cert.Gin.sig) → Buf (Elt Bits) ℓ) : Prop :=
  True

def Pre_GinIdeal (m : (ℓ : Loc Cert.GinIdeal.nD Cert.GinIdeal.τ Cert.GinIdeal.sig) → Buf (Elt Ideal) ℓ) : Prop :=
  True

def Pre_GinReferenceIdeal (m : (ℓ : Loc Cert.GinReferenceIdeal.nD Cert.GinReferenceIdeal.τ Cert.GinReferenceIdeal.sig) → Buf (Elt Ideal) ℓ) : Prop :=
  True

def Pre_Gconv (m : (ℓ : Loc Cert.Gconv.nD Cert.Gconv.τ Cert.Gconv.sig) → Buf (Elt Bits) ℓ) : Prop :=
  True

def Pre_GconvIdeal (m : (ℓ : Loc Cert.GconvIdeal.nD Cert.GconvIdeal.τ Cert.GconvIdeal.sig) → Buf (Elt Ideal) ℓ) : Prop :=
  True

def Pre_GconvReferenceIdeal (m : (ℓ : Loc Cert.GconvReferenceIdeal.nD Cert.GconvReferenceIdeal.τ Cert.GconvReferenceIdeal.sig) → Buf (Elt Ideal) ℓ) : Prop :=
  True

def Pre_Fup (m : (ℓ : Loc Cert.Fup.nD Cert.Fup.τ Cert.Fup.sig) → Buf (Elt Bits) ℓ) : Prop :=
  True

def Pre_FupIdeal (m : (ℓ : Loc Cert.FupIdeal.nD Cert.FupIdeal.τ Cert.FupIdeal.sig) → Buf (Elt Ideal) ℓ) : Prop :=
  True

def Pre_FupReferenceIdeal (m : (ℓ : Loc Cert.FupReferenceIdeal.nD Cert.FupReferenceIdeal.τ Cert.FupReferenceIdeal.sig) → Buf (Elt Ideal) ℓ) : Prop :=
  True

def Pre_Fdown (m : (ℓ : Loc Cert.Fdown.nD Cert.Fdown.τ Cert.Fdown.sig) → Buf (Elt Bits) ℓ) : Prop :=
  True

def Pre_FdownIdeal (m : (ℓ : Loc Cert.FdownIdeal.nD Cert.FdownIdeal.τ Cert.FdownIdeal.sig) → Buf (Elt Ideal) ℓ) : Prop :=
  True

def Pre_FdownReferenceIdeal (m : (ℓ : Loc Cert.FdownReferenceIdeal.nD Cert.FdownReferenceIdeal.τ Cert.FdownReferenceIdeal.sig) → Buf (Elt Ideal) ℓ) : Prop :=
  True

def Pre_Oproj (m : (ℓ : Loc Cert.Oproj.nD Cert.Oproj.τ Cert.Oproj.sig) → Buf (Elt Bits) ℓ) : Prop :=
  True

def Pre_OprojIdeal (m : (ℓ : Loc Cert.OprojIdeal.nD Cert.OprojIdeal.τ Cert.OprojIdeal.sig) → Buf (Elt Ideal) ℓ) : Prop :=
  True

def Pre_OprojReferenceIdeal (m : (ℓ : Loc Cert.OprojReferenceIdeal.nD Cert.OprojReferenceIdeal.τ Cert.OprojReferenceIdeal.sig) → Buf (Elt Ideal) ℓ) : Prop :=
  True

def Pre_Psb (m : (ℓ : Loc Cert.Psb.nD Cert.Psb.τ Cert.Psb.sig) → Buf (Elt Bits) ℓ) : Prop :=
  True

def Pre_PsbIdeal (m : (ℓ : Loc Cert.PsbIdeal.nD Cert.PsbIdeal.τ Cert.PsbIdeal.sig) → Buf (Elt Ideal) ℓ) : Prop :=
  True

def Pre_PsbReferenceIdeal (m : (ℓ : Loc Cert.PsbReferenceIdeal.nD Cert.PsbReferenceIdeal.τ Cert.PsbReferenceIdeal.sig) → Buf (Elt Ideal) ℓ) : Prop :=
  True

def Pre_Pdn (m : (ℓ : Loc Cert.Pdn.nD Cert.Pdn.τ Cert.Pdn.sig) → Buf (Elt Bits) ℓ) : Prop :=
  True

def Pre_PdnIdeal (m : (ℓ : Loc Cert.PdnIdeal.nD Cert.PdnIdeal.τ Cert.PdnIdeal.sig) → Buf (Elt Ideal) ℓ) : Prop :=
  True

def Pre_PdnReferenceIdeal (m : (ℓ : Loc Cert.PdnReferenceIdeal.nD Cert.PdnReferenceIdeal.τ Cert.PdnReferenceIdeal.sig) → Buf (Elt Ideal) ℓ) : Prop :=
  True

def Pre_Pba (m : (ℓ : Loc Cert.Pba.nD Cert.Pba.τ Cert.Pba.sig) → Buf (Elt Bits) ℓ) : Prop :=
  True

def Pre_PbaIdeal (m : (ℓ : Loc Cert.PbaIdeal.nD Cert.PbaIdeal.τ Cert.PbaIdeal.sig) → Buf (Elt Ideal) ℓ) : Prop :=
  True

def Pre_PbaReferenceIdeal (m : (ℓ : Loc Cert.PbaReferenceIdeal.nD Cert.PbaReferenceIdeal.τ Cert.PbaReferenceIdeal.sig) → Buf (Elt Ideal) ℓ) : Prop :=
  True

def Pre_Gba (m : (ℓ : Loc Cert.Gba.nD Cert.Gba.τ Cert.Gba.sig) → Buf (Elt Bits) ℓ) : Prop :=
  True

def Pre_GbaIdeal (m : (ℓ : Loc Cert.GbaIdeal.nD Cert.GbaIdeal.τ Cert.GbaIdeal.sig) → Buf (Elt Ideal) ℓ) : Prop :=
  True

def Pre_GbaReferenceIdeal (m : (ℓ : Loc Cert.GbaReferenceIdeal.nD Cert.GbaReferenceIdeal.τ Cert.GbaReferenceIdeal.sig) → Buf (Elt Ideal) ℓ) : Prop :=
  True

def Pre_AdIn (m : (ℓ : Loc Cert.AdIn.nD Cert.AdIn.τ Cert.AdIn.sig) → Buf (Elt Bits) ℓ) : Prop :=
  True

def Pre_AdInIdeal (m : (ℓ : Loc Cert.AdInIdeal.nD Cert.AdInIdeal.τ Cert.AdInIdeal.sig) → Buf (Elt Ideal) ℓ) : Prop :=
  True

def Pre_AdInReferenceIdeal (m : (ℓ : Loc Cert.AdInReferenceIdeal.nD Cert.AdInReferenceIdeal.τ Cert.AdInReferenceIdeal.sig) → Buf (Elt Ideal) ℓ) : Prop :=
  True

def Pre_AdOut (m : (ℓ : Loc Cert.AdOut.nD Cert.AdOut.τ Cert.AdOut.sig) → Buf (Elt Bits) ℓ) : Prop :=
  True

def Pre_AdOutIdeal (m : (ℓ : Loc Cert.AdOutIdeal.nD Cert.AdOutIdeal.τ Cert.AdOutIdeal.sig) → Buf (Elt Ideal) ℓ) : Prop :=
  True

def Pre_AdOutReferenceIdeal (m : (ℓ : Loc Cert.AdOutReferenceIdeal.nD Cert.AdOutReferenceIdeal.τ Cert.AdOutReferenceIdeal.sig) → Buf (Elt Ideal) ℓ) : Prop :=
  True

def Pre_AdUp (m : (ℓ : Loc Cert.AdUp.nD Cert.AdUp.τ Cert.AdUp.sig) → Buf (Elt Bits) ℓ) : Prop :=
  True

def Pre_AdUpIdeal (m : (ℓ : Loc Cert.AdUpIdeal.nD Cert.AdUpIdeal.τ Cert.AdUpIdeal.sig) → Buf (Elt Ideal) ℓ) : Prop :=
  True

def Pre_AdUpReferenceIdeal (m : (ℓ : Loc Cert.AdUpReferenceIdeal.nD Cert.AdUpReferenceIdeal.τ Cert.AdUpReferenceIdeal.sig) → Buf (Elt Ideal) ℓ) : Prop :=
  True

def Pre_AdDown (m : (ℓ : Loc Cert.AdDown.nD Cert.AdDown.τ Cert.AdDown.sig) → Buf (Elt Bits) ℓ) : Prop :=
  True

def Pre_AdDownIdeal (m : (ℓ : Loc Cert.AdDownIdeal.nD Cert.AdDownIdeal.τ Cert.AdDownIdeal.sig) → Buf (Elt Ideal) ℓ) : Prop :=
  True

def Pre_AdDownReferenceIdeal (m : (ℓ : Loc Cert.AdDownReferenceIdeal.nD Cert.AdDownReferenceIdeal.τ Cert.AdDownReferenceIdeal.sig) → Buf (Elt Ideal) ℓ) : Prop :=
  True

def Pre_AdSmall (m : (ℓ : Loc Cert.AdSmall.nD Cert.AdSmall.τ Cert.AdSmall.sig) → Buf (Elt Bits) ℓ) : Prop :=
  True

def Pre_AdSmallIdeal (m : (ℓ : Loc Cert.AdSmallIdeal.nD Cert.AdSmallIdeal.τ Cert.AdSmallIdeal.sig) → Buf (Elt Ideal) ℓ) : Prop :=
  True

def Pre_AdSmallReferenceIdeal (m : (ℓ : Loc Cert.AdSmallReferenceIdeal.nD Cert.AdSmallReferenceIdeal.τ Cert.AdSmallReferenceIdeal.sig) → Buf (Elt Ideal) ℓ) : Prop :=
  True

def Pre_Rpre (m : (ℓ : Loc Cert.Rpre.nD Cert.Rpre.τ Cert.Rpre.sig) → Buf (Elt Bits) ℓ) : Prop :=
  True

def Pre_RpreIdeal (m : (ℓ : Loc Cert.RpreIdeal.nD Cert.RpreIdeal.τ Cert.RpreIdeal.sig) → Buf (Elt Ideal) ℓ) : Prop :=
  True

def Pre_RpreReferenceIdeal (m : (ℓ : Loc Cert.RpreReferenceIdeal.nD Cert.RpreReferenceIdeal.τ Cert.RpreReferenceIdeal.sig) → Buf (Elt Ideal) ℓ) : Prop :=
  True

def Pre_Rpost (m : (ℓ : Loc Cert.Rpost.nD Cert.Rpost.τ Cert.Rpost.sig) → Buf (Elt Bits) ℓ) : Prop :=
  True

def Pre_RpostIdeal (m : (ℓ : Loc Cert.RpostIdeal.nD Cert.RpostIdeal.τ Cert.RpostIdeal.sig) → Buf (Elt Ideal) ℓ) : Prop :=
  True

def Pre_RpostReferenceIdeal (m : (ℓ : Loc Cert.RpostReferenceIdeal.nD Cert.RpostReferenceIdeal.τ Cert.RpostReferenceIdeal.sig) → Buf (Elt Ideal) ℓ) : Prop :=
  True

def Pre_Bpre (m : (ℓ : Loc Cert.Bpre.nD Cert.Bpre.τ Cert.Bpre.sig) → Buf (Elt Bits) ℓ) : Prop :=
  True

def Pre_BpreIdeal (m : (ℓ : Loc Cert.BpreIdeal.nD Cert.BpreIdeal.τ Cert.BpreIdeal.sig) → Buf (Elt Ideal) ℓ) : Prop :=
  True

def Pre_BpreReferenceIdeal (m : (ℓ : Loc Cert.BpreReferenceIdeal.nD Cert.BpreReferenceIdeal.τ Cert.BpreReferenceIdeal.sig) → Buf (Elt Ideal) ℓ) : Prop :=
  True

def Pre_Bpost (m : (ℓ : Loc Cert.Bpost.nD Cert.Bpost.τ Cert.Bpost.sig) → Buf (Elt Bits) ℓ) : Prop :=
  True

def Pre_BpostIdeal (m : (ℓ : Loc Cert.BpostIdeal.nD Cert.BpostIdeal.τ Cert.BpostIdeal.sig) → Buf (Elt Ideal) ℓ) : Prop :=
  True

def Pre_BpostReferenceIdeal (m : (ℓ : Loc Cert.BpostReferenceIdeal.nD Cert.BpostReferenceIdeal.τ Cert.BpostReferenceIdeal.sig) → Buf (Elt Ideal) ℓ) : Prop :=
  True

def Pre_Lhead (m : (ℓ : Loc Cert.Lhead.nD Cert.Lhead.τ Cert.Lhead.sig) → Buf (Elt Bits) ℓ) : Prop :=
  True

def Pre_LheadIdeal (m : (ℓ : Loc Cert.LheadIdeal.nD Cert.LheadIdeal.τ Cert.LheadIdeal.sig) → Buf (Elt Ideal) ℓ) : Prop :=
  True

def Pre_LheadReferenceIdeal (m : (ℓ : Loc Cert.LheadReferenceIdeal.nD Cert.LheadReferenceIdeal.τ Cert.LheadReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Dact [hDact : Cert.Dact.Facts] : Prop :=
  ∀ (m : (ℓ : Loc Cert.Dact.nD Cert.Dact.τ Cert.Dact.sig) → Buf (Elt Bits) ℓ) (g : Dev Cert.Dact.nD → PrngReg), Pre_Dact m →
    θ_run (Cert.Dact.defs (F := Bits)) (onTc (τ := Cert.Dact.τ) (Cert.Dact.main (F := Bits))) ⟨m, fun _ => 0, g⟩ (fun r => (∀ c : Dev Cert.Dact.nD,
      r.2.mem ((c.tc : Thread Cert.Dact.nD Cert.Dact.τ).loc Cert.Dact.main_arg0) = m ((c.tc : Thread Cert.Dact.nD Cert.Dact.τ).loc Cert.Dact.main_arg0)
      ∧ r.2.mem ((c.tc : Thread Cert.Dact.nD Cert.Dact.τ).loc Cert.Dact.main_arg1) = m ((c.tc : Thread Cert.Dact.nD Cert.Dact.τ).loc Cert.Dact.main_arg1)
      ∧ r.2.mem ((c.tc : Thread Cert.Dact.nD Cert.Dact.τ).loc Cert.Dact.main_arg2) = m ((c.tc : Thread Cert.Dact.nD Cert.Dact.τ).loc Cert.Dact.main_arg2))
      ∧ r.2.sem = fun _ => 0)

def quiescent_DactIdeal [hDactIdeal : Cert.DactIdeal.Facts] : Prop :=
  ∀ (m : (ℓ : Loc Cert.DactIdeal.nD Cert.DactIdeal.τ Cert.DactIdeal.sig) → Buf (Elt Ideal) ℓ) (g : Dev Cert.DactIdeal.nD → PrngReg), Pre_DactIdeal m →
    θ_run (Cert.DactIdeal.defs (F := Ideal)) (onTc (τ := Cert.DactIdeal.τ) (Cert.DactIdeal.main (F := Ideal))) ⟨m, fun _ => 0, g⟩ (fun r => (∀ c : Dev Cert.DactIdeal.nD,
      r.2.mem ((c.tc : Thread Cert.DactIdeal.nD Cert.DactIdeal.τ).loc Cert.DactIdeal.main_arg0) = m ((c.tc : Thread Cert.DactIdeal.nD Cert.DactIdeal.τ).loc Cert.DactIdeal.main_arg0)
      ∧ r.2.mem ((c.tc : Thread Cert.DactIdeal.nD Cert.DactIdeal.τ).loc Cert.DactIdeal.main_arg1) = m ((c.tc : Thread Cert.DactIdeal.nD Cert.DactIdeal.τ).loc Cert.DactIdeal.main_arg1)
      ∧ r.2.mem ((c.tc : Thread Cert.DactIdeal.nD Cert.DactIdeal.τ).loc Cert.DactIdeal.main_arg2) = m ((c.tc : Thread Cert.DactIdeal.nD Cert.DactIdeal.τ).loc Cert.DactIdeal.main_arg2))
      ∧ r.2.sem = fun _ => 0)

def quiescent_DactReferenceIdeal [hDactReferenceIdeal : Cert.DactReferenceIdeal.Facts] : Prop :=
  ∀ (m : (ℓ : Loc Cert.DactReferenceIdeal.nD Cert.DactReferenceIdeal.τ Cert.DactReferenceIdeal.sig) → Buf (Elt Ideal) ℓ) (g : Dev Cert.DactReferenceIdeal.nD → PrngReg), Pre_DactReferenceIdeal m →
    θ_run (Cert.DactReferenceIdeal.defs (F := Ideal)) (onTc (τ := Cert.DactReferenceIdeal.τ) (Cert.DactReferenceIdeal.main (F := Ideal))) ⟨m, fun _ => 0, g⟩ (fun r => (∀ c : Dev Cert.DactReferenceIdeal.nD,
      r.2.mem ((c.tc : Thread Cert.DactReferenceIdeal.nD Cert.DactReferenceIdeal.τ).loc Cert.DactReferenceIdeal.main_arg0) = m ((c.tc : Thread Cert.DactReferenceIdeal.nD Cert.DactReferenceIdeal.τ).loc Cert.DactReferenceIdeal.main_arg0)
      ∧ r.2.mem ((c.tc : Thread Cert.DactReferenceIdeal.nD Cert.DactReferenceIdeal.τ).loc Cert.DactReferenceIdeal.main_arg1) = m ((c.tc : Thread Cert.DactReferenceIdeal.nD Cert.DactReferenceIdeal.τ).loc Cert.DactReferenceIdeal.main_arg1)
      ∧ r.2.mem ((c.tc : Thread Cert.DactReferenceIdeal.nD Cert.DactReferenceIdeal.τ).loc Cert.DactReferenceIdeal.main_arg2) = m ((c.tc : Thread Cert.DactReferenceIdeal.nD Cert.DactReferenceIdeal.τ).loc Cert.DactReferenceIdeal.main_arg2))
      ∧ r.2.sem = fun _ => 0)

def quiescent_Gdown [hGdown : Cert.Gdown.Facts] : Prop :=
  ∀ (m : (ℓ : Loc Cert.Gdown.nD Cert.Gdown.τ Cert.Gdown.sig) → Buf (Elt Bits) ℓ) (g : Dev Cert.Gdown.nD → PrngReg), Pre_Gdown m →
    θ_run (Cert.Gdown.defs (F := Bits)) (onTc (τ := Cert.Gdown.τ) (Cert.Gdown.main (F := Bits))) ⟨m, fun _ => 0, g⟩ (fun r => (∀ c : Dev Cert.Gdown.nD,
      r.2.mem ((c.tc : Thread Cert.Gdown.nD Cert.Gdown.τ).loc Cert.Gdown.main_arg0) = m ((c.tc : Thread Cert.Gdown.nD Cert.Gdown.τ).loc Cert.Gdown.main_arg0)
      ∧ r.2.mem ((c.tc : Thread Cert.Gdown.nD Cert.Gdown.τ).loc Cert.Gdown.main_arg1) = m ((c.tc : Thread Cert.Gdown.nD Cert.Gdown.τ).loc Cert.Gdown.main_arg1)
      ∧ r.2.mem ((c.tc : Thread Cert.Gdown.nD Cert.Gdown.τ).loc Cert.Gdown.main_arg2) = m ((c.tc : Thread Cert.Gdown.nD Cert.Gdown.τ).loc Cert.Gdown.main_arg2))
      ∧ r.2.sem = fun _ => 0)

def quiescent_GdownIdeal [hGdownIdeal : Cert.GdownIdeal.Facts] : Prop :=
  ∀ (m : (ℓ : Loc Cert.GdownIdeal.nD Cert.GdownIdeal.τ Cert.GdownIdeal.sig) → Buf (Elt Ideal) ℓ) (g : Dev Cert.GdownIdeal.nD → PrngReg), Pre_GdownIdeal m →
    θ_run (Cert.GdownIdeal.defs (F := Ideal)) (onTc (τ := Cert.GdownIdeal.τ) (Cert.GdownIdeal.main (F := Ideal))) ⟨m, fun _ => 0, g⟩ (fun r => (∀ c : Dev Cert.GdownIdeal.nD,
      r.2.mem ((c.tc : Thread Cert.GdownIdeal.nD Cert.GdownIdeal.τ).loc Cert.GdownIdeal.main_arg0) = m ((c.tc : Thread Cert.GdownIdeal.nD Cert.GdownIdeal.τ).loc Cert.GdownIdeal.main_arg0)
      ∧ r.2.mem ((c.tc : Thread Cert.GdownIdeal.nD Cert.GdownIdeal.τ).loc Cert.GdownIdeal.main_arg1) = m ((c.tc : Thread Cert.GdownIdeal.nD Cert.GdownIdeal.τ).loc Cert.GdownIdeal.main_arg1)
      ∧ r.2.mem ((c.tc : Thread Cert.GdownIdeal.nD Cert.GdownIdeal.τ).loc Cert.GdownIdeal.main_arg2) = m ((c.tc : Thread Cert.GdownIdeal.nD Cert.GdownIdeal.τ).loc Cert.GdownIdeal.main_arg2))
      ∧ r.2.sem = fun _ => 0)

def quiescent_GdownReferenceIdeal [hGdownReferenceIdeal : Cert.GdownReferenceIdeal.Facts] : Prop :=
  ∀ (m : (ℓ : Loc Cert.GdownReferenceIdeal.nD Cert.GdownReferenceIdeal.τ Cert.GdownReferenceIdeal.sig) → Buf (Elt Ideal) ℓ) (g : Dev Cert.GdownReferenceIdeal.nD → PrngReg), Pre_GdownReferenceIdeal m →
    θ_run (Cert.GdownReferenceIdeal.defs (F := Ideal)) (onTc (τ := Cert.GdownReferenceIdeal.τ) (Cert.GdownReferenceIdeal.main (F := Ideal))) ⟨m, fun _ => 0, g⟩ (fun r => (∀ c : Dev Cert.GdownReferenceIdeal.nD,
      r.2.mem ((c.tc : Thread Cert.GdownReferenceIdeal.nD Cert.GdownReferenceIdeal.τ).loc Cert.GdownReferenceIdeal.main_arg0) = m ((c.tc : Thread Cert.GdownReferenceIdeal.nD Cert.GdownReferenceIdeal.τ).loc Cert.GdownReferenceIdeal.main_arg0)
      ∧ r.2.mem ((c.tc : Thread Cert.GdownReferenceIdeal.nD Cert.GdownReferenceIdeal.τ).loc Cert.GdownReferenceIdeal.main_arg1) = m ((c.tc : Thread Cert.GdownReferenceIdeal.nD Cert.GdownReferenceIdeal.τ).loc Cert.GdownReferenceIdeal.main_arg1)
      ∧ r.2.mem ((c.tc : Thread Cert.GdownReferenceIdeal.nD Cert.GdownReferenceIdeal.τ).loc Cert.GdownReferenceIdeal.main_arg2) = m ((c.tc : Thread Cert.GdownReferenceIdeal.nD Cert.GdownReferenceIdeal.τ).loc Cert.GdownReferenceIdeal.main_arg2))
      ∧ r.2.sem = fun _ => 0)

def quiescent_Ggate [hGgate : Cert.Ggate.Facts] : Prop :=
  ∀ (m : (ℓ : Loc Cert.Ggate.nD Cert.Ggate.τ Cert.Ggate.sig) → Buf (Elt Bits) ℓ) (g : Dev Cert.Ggate.nD → PrngReg), Pre_Ggate m →
    θ_run (Cert.Ggate.defs (F := Bits)) (onTc (τ := Cert.Ggate.τ) (Cert.Ggate.main (F := Bits))) ⟨m, fun _ => 0, g⟩ (fun r => (∀ c : Dev Cert.Ggate.nD,
      r.2.mem ((c.tc : Thread Cert.Ggate.nD Cert.Ggate.τ).loc Cert.Ggate.main_arg0) = m ((c.tc : Thread Cert.Ggate.nD Cert.Ggate.τ).loc Cert.Ggate.main_arg0)
      ∧ r.2.mem ((c.tc : Thread Cert.Ggate.nD Cert.Ggate.τ).loc Cert.Ggate.main_arg1) = m ((c.tc : Thread Cert.Ggate.nD Cert.Ggate.τ).loc Cert.Ggate.main_arg1)
      ∧ r.2.mem ((c.tc : Thread Cert.Ggate.nD Cert.Ggate.τ).loc Cert.Ggate.main_arg2) = m ((c.tc : Thread Cert.Ggate.nD Cert.Ggate.τ).loc Cert.Ggate.main_arg2))
      ∧ r.2.sem = fun _ => 0)

def quiescent_GgateIdeal [hGgateIdeal : Cert.GgateIdeal.Facts] : Prop :=
  ∀ (m : (ℓ : Loc Cert.GgateIdeal.nD Cert.GgateIdeal.τ Cert.GgateIdeal.sig) → Buf (Elt Ideal) ℓ) (g : Dev Cert.GgateIdeal.nD → PrngReg), Pre_GgateIdeal m →
    θ_run (Cert.GgateIdeal.defs (F := Ideal)) (onTc (τ := Cert.GgateIdeal.τ) (Cert.GgateIdeal.main (F := Ideal))) ⟨m, fun _ => 0, g⟩ (fun r => (∀ c : Dev Cert.GgateIdeal.nD,
      r.2.mem ((c.tc : Thread Cert.GgateIdeal.nD Cert.GgateIdeal.τ).loc Cert.GgateIdeal.main_arg0) = m ((c.tc : Thread Cert.GgateIdeal.nD Cert.GgateIdeal.τ).loc Cert.GgateIdeal.main_arg0)
      ∧ r.2.mem ((c.tc : Thread Cert.GgateIdeal.nD Cert.GgateIdeal.τ).loc Cert.GgateIdeal.main_arg1) = m ((c.tc : Thread Cert.GgateIdeal.nD Cert.GgateIdeal.τ).loc Cert.GgateIdeal.main_arg1)
      ∧ r.2.mem ((c.tc : Thread Cert.GgateIdeal.nD Cert.GgateIdeal.τ).loc Cert.GgateIdeal.main_arg2) = m ((c.tc : Thread Cert.GgateIdeal.nD Cert.GgateIdeal.τ).loc Cert.GgateIdeal.main_arg2))
      ∧ r.2.sem = fun _ => 0)

def quiescent_GgateReferenceIdeal [hGgateReferenceIdeal : Cert.GgateReferenceIdeal.Facts] : Prop :=
  ∀ (m : (ℓ : Loc Cert.GgateReferenceIdeal.nD Cert.GgateReferenceIdeal.τ Cert.GgateReferenceIdeal.sig) → Buf (Elt Ideal) ℓ) (g : Dev Cert.GgateReferenceIdeal.nD → PrngReg), Pre_GgateReferenceIdeal m →
    θ_run (Cert.GgateReferenceIdeal.defs (F := Ideal)) (onTc (τ := Cert.GgateReferenceIdeal.τ) (Cert.GgateReferenceIdeal.main (F := Ideal))) ⟨m, fun _ => 0, g⟩ (fun r => (∀ c : Dev Cert.GgateReferenceIdeal.nD,
      r.2.mem ((c.tc : Thread Cert.GgateReferenceIdeal.nD Cert.GgateReferenceIdeal.τ).loc Cert.GgateReferenceIdeal.main_arg0) = m ((c.tc : Thread Cert.GgateReferenceIdeal.nD Cert.GgateReferenceIdeal.τ).loc Cert.GgateReferenceIdeal.main_arg0)
      ∧ r.2.mem ((c.tc : Thread Cert.GgateReferenceIdeal.nD Cert.GgateReferenceIdeal.τ).loc Cert.GgateReferenceIdeal.main_arg1) = m ((c.tc : Thread Cert.GgateReferenceIdeal.nD Cert.GgateReferenceIdeal.τ).loc Cert.GgateReferenceIdeal.main_arg1)
      ∧ r.2.mem ((c.tc : Thread Cert.GgateReferenceIdeal.nD Cert.GgateReferenceIdeal.τ).loc Cert.GgateReferenceIdeal.main_arg2) = m ((c.tc : Thread Cert.GgateReferenceIdeal.nD Cert.GgateReferenceIdeal.τ).loc Cert.GgateReferenceIdeal.main_arg2))
      ∧ r.2.sem = fun _ => 0)

def quiescent_Gval [hGval : Cert.Gval.Facts] : Prop :=
  ∀ (m : (ℓ : Loc Cert.Gval.nD Cert.Gval.τ Cert.Gval.sig) → Buf (Elt Bits) ℓ) (g : Dev Cert.Gval.nD → PrngReg), Pre_Gval m →
    θ_run (Cert.Gval.defs (F := Bits)) (onTc (τ := Cert.Gval.τ) (Cert.Gval.main (F := Bits))) ⟨m, fun _ => 0, g⟩ (fun r => (∀ c : Dev Cert.Gval.nD,
      r.2.mem ((c.tc : Thread Cert.Gval.nD Cert.Gval.τ).loc Cert.Gval.main_arg0) = m ((c.tc : Thread Cert.Gval.nD Cert.Gval.τ).loc Cert.Gval.main_arg0)
      ∧ r.2.mem ((c.tc : Thread Cert.Gval.nD Cert.Gval.τ).loc Cert.Gval.main_arg1) = m ((c.tc : Thread Cert.Gval.nD Cert.Gval.τ).loc Cert.Gval.main_arg1)
      ∧ r.2.mem ((c.tc : Thread Cert.Gval.nD Cert.Gval.τ).loc Cert.Gval.main_arg2) = m ((c.tc : Thread Cert.Gval.nD Cert.Gval.τ).loc Cert.Gval.main_arg2))
      ∧ r.2.sem = fun _ => 0)

def quiescent_GvalIdeal [hGvalIdeal : Cert.GvalIdeal.Facts] : Prop :=
  ∀ (m : (ℓ : Loc Cert.GvalIdeal.nD Cert.GvalIdeal.τ Cert.GvalIdeal.sig) → Buf (Elt Ideal) ℓ) (g : Dev Cert.GvalIdeal.nD → PrngReg), Pre_GvalIdeal m →
    θ_run (Cert.GvalIdeal.defs (F := Ideal)) (onTc (τ := Cert.GvalIdeal.τ) (Cert.GvalIdeal.main (F := Ideal))) ⟨m, fun _ => 0, g⟩ (fun r => (∀ c : Dev Cert.GvalIdeal.nD,
      r.2.mem ((c.tc : Thread Cert.GvalIdeal.nD Cert.GvalIdeal.τ).loc Cert.GvalIdeal.main_arg0) = m ((c.tc : Thread Cert.GvalIdeal.nD Cert.GvalIdeal.τ).loc Cert.GvalIdeal.main_arg0)
      ∧ r.2.mem ((c.tc : Thread Cert.GvalIdeal.nD Cert.GvalIdeal.τ).loc Cert.GvalIdeal.main_arg1) = m ((c.tc : Thread Cert.GvalIdeal.nD Cert.GvalIdeal.τ).loc Cert.GvalIdeal.main_arg1)
      ∧ r.2.mem ((c.tc : Thread Cert.GvalIdeal.nD Cert.GvalIdeal.τ).loc Cert.GvalIdeal.main_arg2) = m ((c.tc : Thread Cert.GvalIdeal.nD Cert.GvalIdeal.τ).loc Cert.GvalIdeal.main_arg2))
      ∧ r.2.sem = fun _ => 0)

def quiescent_GvalReferenceIdeal [hGvalReferenceIdeal : Cert.GvalReferenceIdeal.Facts] : Prop :=
  ∀ (m : (ℓ : Loc Cert.GvalReferenceIdeal.nD Cert.GvalReferenceIdeal.τ Cert.GvalReferenceIdeal.sig) → Buf (Elt Ideal) ℓ) (g : Dev Cert.GvalReferenceIdeal.nD → PrngReg), Pre_GvalReferenceIdeal m →
    θ_run (Cert.GvalReferenceIdeal.defs (F := Ideal)) (onTc (τ := Cert.GvalReferenceIdeal.τ) (Cert.GvalReferenceIdeal.main (F := Ideal))) ⟨m, fun _ => 0, g⟩ (fun r => (∀ c : Dev Cert.GvalReferenceIdeal.nD,
      r.2.mem ((c.tc : Thread Cert.GvalReferenceIdeal.nD Cert.GvalReferenceIdeal.τ).loc Cert.GvalReferenceIdeal.main_arg0) = m ((c.tc : Thread Cert.GvalReferenceIdeal.nD Cert.GvalReferenceIdeal.τ).loc Cert.GvalReferenceIdeal.main_arg0)
      ∧ r.2.mem ((c.tc : Thread Cert.GvalReferenceIdeal.nD Cert.GvalReferenceIdeal.τ).loc Cert.GvalReferenceIdeal.main_arg1) = m ((c.tc : Thread Cert.GvalReferenceIdeal.nD Cert.GvalReferenceIdeal.τ).loc Cert.GvalReferenceIdeal.main_arg1)
      ∧ r.2.mem ((c.tc : Thread Cert.GvalReferenceIdeal.nD Cert.GvalReferenceIdeal.τ).loc Cert.GvalReferenceIdeal.main_arg2) = m ((c.tc : Thread Cert.GvalReferenceIdeal.nD Cert.GvalReferenceIdeal.τ).loc Cert.GvalReferenceIdeal.main_arg2))
      ∧ r.2.sem = fun _ => 0)

def quiescent_Dhn [hDhn : Cert.Dhn.Facts] : Prop :=
  ∀ (m : (ℓ : Loc Cert.Dhn.nD Cert.Dhn.τ Cert.Dhn.sig) → Buf (Elt Bits) ℓ) (g : Dev Cert.Dhn.nD → PrngReg), Pre_Dhn m →
    θ_run (Cert.Dhn.defs (F := Bits)) (onTc (τ := Cert.Dhn.τ) (Cert.Dhn.main (F := Bits))) ⟨m, fun _ => 0, g⟩ (fun r => (∀ c : Dev Cert.Dhn.nD,
      r.2.mem ((c.tc : Thread Cert.Dhn.nD Cert.Dhn.τ).loc Cert.Dhn.main_arg0) = m ((c.tc : Thread Cert.Dhn.nD Cert.Dhn.τ).loc Cert.Dhn.main_arg0)
      ∧ r.2.mem ((c.tc : Thread Cert.Dhn.nD Cert.Dhn.τ).loc Cert.Dhn.main_arg1) = m ((c.tc : Thread Cert.Dhn.nD Cert.Dhn.τ).loc Cert.Dhn.main_arg1)
      ∧ r.2.mem ((c.tc : Thread Cert.Dhn.nD Cert.Dhn.τ).loc Cert.Dhn.main_arg2) = m ((c.tc : Thread Cert.Dhn.nD Cert.Dhn.τ).loc Cert.Dhn.main_arg2))
      ∧ r.2.sem = fun _ => 0)

def quiescent_DhnIdeal [hDhnIdeal : Cert.DhnIdeal.Facts] : Prop :=
  ∀ (m : (ℓ : Loc Cert.DhnIdeal.nD Cert.DhnIdeal.τ Cert.DhnIdeal.sig) → Buf (Elt Ideal) ℓ) (g : Dev Cert.DhnIdeal.nD → PrngReg), Pre_DhnIdeal m →
    θ_run (Cert.DhnIdeal.defs (F := Ideal)) (onTc (τ := Cert.DhnIdeal.τ) (Cert.DhnIdeal.main (F := Ideal))) ⟨m, fun _ => 0, g⟩ (fun r => (∀ c : Dev Cert.DhnIdeal.nD,
      r.2.mem ((c.tc : Thread Cert.DhnIdeal.nD Cert.DhnIdeal.τ).loc Cert.DhnIdeal.main_arg0) = m ((c.tc : Thread Cert.DhnIdeal.nD Cert.DhnIdeal.τ).loc Cert.DhnIdeal.main_arg0)
      ∧ r.2.mem ((c.tc : Thread Cert.DhnIdeal.nD Cert.DhnIdeal.τ).loc Cert.DhnIdeal.main_arg1) = m ((c.tc : Thread Cert.DhnIdeal.nD Cert.DhnIdeal.τ).loc Cert.DhnIdeal.main_arg1)
      ∧ r.2.mem ((c.tc : Thread Cert.DhnIdeal.nD Cert.DhnIdeal.τ).loc Cert.DhnIdeal.main_arg2) = m ((c.tc : Thread Cert.DhnIdeal.nD Cert.DhnIdeal.τ).loc Cert.DhnIdeal.main_arg2))
      ∧ r.2.sem = fun _ => 0)

def quiescent_DhnReferenceIdeal [hDhnReferenceIdeal : Cert.DhnReferenceIdeal.Facts] : Prop :=
  ∀ (m : (ℓ : Loc Cert.DhnReferenceIdeal.nD Cert.DhnReferenceIdeal.τ Cert.DhnReferenceIdeal.sig) → Buf (Elt Ideal) ℓ) (g : Dev Cert.DhnReferenceIdeal.nD → PrngReg), Pre_DhnReferenceIdeal m →
    θ_run (Cert.DhnReferenceIdeal.defs (F := Ideal)) (onTc (τ := Cert.DhnReferenceIdeal.τ) (Cert.DhnReferenceIdeal.main (F := Ideal))) ⟨m, fun _ => 0, g⟩ (fun r => (∀ c : Dev Cert.DhnReferenceIdeal.nD,
      r.2.mem ((c.tc : Thread Cert.DhnReferenceIdeal.nD Cert.DhnReferenceIdeal.τ).loc Cert.DhnReferenceIdeal.main_arg0) = m ((c.tc : Thread Cert.DhnReferenceIdeal.nD Cert.DhnReferenceIdeal.τ).loc Cert.DhnReferenceIdeal.main_arg0)
      ∧ r.2.mem ((c.tc : Thread Cert.DhnReferenceIdeal.nD Cert.DhnReferenceIdeal.τ).loc Cert.DhnReferenceIdeal.main_arg1) = m ((c.tc : Thread Cert.DhnReferenceIdeal.nD Cert.DhnReferenceIdeal.τ).loc Cert.DhnReferenceIdeal.main_arg1)
      ∧ r.2.mem ((c.tc : Thread Cert.DhnReferenceIdeal.nD Cert.DhnReferenceIdeal.τ).loc Cert.DhnReferenceIdeal.main_arg2) = m ((c.tc : Thread Cert.DhnReferenceIdeal.nD Cert.DhnReferenceIdeal.τ).loc Cert.DhnReferenceIdeal.main_arg2))
      ∧ r.2.sem = fun _ => 0)

def quiescent_Dmix [hDmix : Cert.Dmix.Facts] : Prop :=
  ∀ (m : (ℓ : Loc Cert.Dmix.nD Cert.Dmix.τ Cert.Dmix.sig) → Buf (Elt Bits) ℓ) (g : Dev Cert.Dmix.nD → PrngReg), Pre_Dmix m →
    θ_run (Cert.Dmix.defs (F := Bits)) (onTc (τ := Cert.Dmix.τ) (Cert.Dmix.main (F := Bits))) ⟨m, fun _ => 0, g⟩ (fun r => (∀ c : Dev Cert.Dmix.nD,
      r.2.mem ((c.tc : Thread Cert.Dmix.nD Cert.Dmix.τ).loc Cert.Dmix.main_arg0) = m ((c.tc : Thread Cert.Dmix.nD Cert.Dmix.τ).loc Cert.Dmix.main_arg0)
      ∧ r.2.mem ((c.tc : Thread Cert.Dmix.nD Cert.Dmix.τ).loc Cert.Dmix.main_arg1) = m ((c.tc : Thread Cert.Dmix.nD Cert.Dmix.τ).loc Cert.Dmix.main_arg1))
      ∧ r.2.sem = fun _ => 0)

def quiescent_DmixIdeal [hDmixIdeal : Cert.DmixIdeal.Facts] : Prop :=
  ∀ (m : (ℓ : Loc Cert.DmixIdeal.nD Cert.DmixIdeal.τ Cert.DmixIdeal.sig) → Buf (Elt Ideal) ℓ) (g : Dev Cert.DmixIdeal.nD → PrngReg), Pre_DmixIdeal m →
    θ_run (Cert.DmixIdeal.defs (F := Ideal)) (onTc (τ := Cert.DmixIdeal.τ) (Cert.DmixIdeal.main (F := Ideal))) ⟨m, fun _ => 0, g⟩ (fun r => (∀ c : Dev Cert.DmixIdeal.nD,
      r.2.mem ((c.tc : Thread Cert.DmixIdeal.nD Cert.DmixIdeal.τ).loc Cert.DmixIdeal.main_arg0) = m ((c.tc : Thread Cert.DmixIdeal.nD Cert.DmixIdeal.τ).loc Cert.DmixIdeal.main_arg0)
      ∧ r.2.mem ((c.tc : Thread Cert.DmixIdeal.nD Cert.DmixIdeal.τ).loc Cert.DmixIdeal.main_arg1) = m ((c.tc : Thread Cert.DmixIdeal.nD Cert.DmixIdeal.τ).loc Cert.DmixIdeal.main_arg1))
      ∧ r.2.sem = fun _ => 0)

def quiescent_DmixReferenceIdeal [hDmixReferenceIdeal : Cert.DmixReferenceIdeal.Facts] : Prop :=
  ∀ (m : (ℓ : Loc Cert.DmixReferenceIdeal.nD Cert.DmixReferenceIdeal.τ Cert.DmixReferenceIdeal.sig) → Buf (Elt Ideal) ℓ) (g : Dev Cert.DmixReferenceIdeal.nD → PrngReg), Pre_DmixReferenceIdeal m →
    θ_run (Cert.DmixReferenceIdeal.defs (F := Ideal)) (onTc (τ := Cert.DmixReferenceIdeal.τ) (Cert.DmixReferenceIdeal.main (F := Ideal))) ⟨m, fun _ => 0, g⟩ (fun r => (∀ c : Dev Cert.DmixReferenceIdeal.nD,
      r.2.mem ((c.tc : Thread Cert.DmixReferenceIdeal.nD Cert.DmixReferenceIdeal.τ).loc Cert.DmixReferenceIdeal.main_arg0) = m ((c.tc : Thread Cert.DmixReferenceIdeal.nD Cert.DmixReferenceIdeal.τ).loc Cert.DmixReferenceIdeal.main_arg0)
      ∧ r.2.mem ((c.tc : Thread Cert.DmixReferenceIdeal.nD Cert.DmixReferenceIdeal.τ).loc Cert.DmixReferenceIdeal.main_arg1) = m ((c.tc : Thread Cert.DmixReferenceIdeal.nD Cert.DmixReferenceIdeal.τ).loc Cert.DmixReferenceIdeal.main_arg1))
      ∧ r.2.sem = fun _ => 0)

def quiescent_Gout [hGout : Cert.Gout.Facts] : Prop :=
  ∀ (m : (ℓ : Loc Cert.Gout.nD Cert.Gout.τ Cert.Gout.sig) → Buf (Elt Bits) ℓ) (g : Dev Cert.Gout.nD → PrngReg), Pre_Gout m →
    θ_run (Cert.Gout.defs (F := Bits)) (onTc (τ := Cert.Gout.τ) (Cert.Gout.main (F := Bits))) ⟨m, fun _ => 0, g⟩ (fun r => (∀ c : Dev Cert.Gout.nD,
      r.2.mem ((c.tc : Thread Cert.Gout.nD Cert.Gout.τ).loc Cert.Gout.main_arg0) = m ((c.tc : Thread Cert.Gout.nD Cert.Gout.τ).loc Cert.Gout.main_arg0)
      ∧ r.2.mem ((c.tc : Thread Cert.Gout.nD Cert.Gout.τ).loc Cert.Gout.main_arg1) = m ((c.tc : Thread Cert.Gout.nD Cert.Gout.τ).loc Cert.Gout.main_arg1))
      ∧ r.2.sem = fun _ => 0)

def quiescent_GoutIdeal [hGoutIdeal : Cert.GoutIdeal.Facts] : Prop :=
  ∀ (m : (ℓ : Loc Cert.GoutIdeal.nD Cert.GoutIdeal.τ Cert.GoutIdeal.sig) → Buf (Elt Ideal) ℓ) (g : Dev Cert.GoutIdeal.nD → PrngReg), Pre_GoutIdeal m →
    θ_run (Cert.GoutIdeal.defs (F := Ideal)) (onTc (τ := Cert.GoutIdeal.τ) (Cert.GoutIdeal.main (F := Ideal))) ⟨m, fun _ => 0, g⟩ (fun r => (∀ c : Dev Cert.GoutIdeal.nD,
      r.2.mem ((c.tc : Thread Cert.GoutIdeal.nD Cert.GoutIdeal.τ).loc Cert.GoutIdeal.main_arg0) = m ((c.tc : Thread Cert.GoutIdeal.nD Cert.GoutIdeal.τ).loc Cert.GoutIdeal.main_arg0)
      ∧ r.2.mem ((c.tc : Thread Cert.GoutIdeal.nD Cert.GoutIdeal.τ).loc Cert.GoutIdeal.main_arg1) = m ((c.tc : Thread Cert.GoutIdeal.nD Cert.GoutIdeal.τ).loc Cert.GoutIdeal.main_arg1))
      ∧ r.2.sem = fun _ => 0)

def quiescent_GoutReferenceIdeal [hGoutReferenceIdeal : Cert.GoutReferenceIdeal.Facts] : Prop :=
  ∀ (m : (ℓ : Loc Cert.GoutReferenceIdeal.nD Cert.GoutReferenceIdeal.τ Cert.GoutReferenceIdeal.sig) → Buf (Elt Ideal) ℓ) (g : Dev Cert.GoutReferenceIdeal.nD → PrngReg), Pre_GoutReferenceIdeal m →
    θ_run (Cert.GoutReferenceIdeal.defs (F := Ideal)) (onTc (τ := Cert.GoutReferenceIdeal.τ) (Cert.GoutReferenceIdeal.main (F := Ideal))) ⟨m, fun _ => 0, g⟩ (fun r => (∀ c : Dev Cert.GoutReferenceIdeal.nD,
      r.2.mem ((c.tc : Thread Cert.GoutReferenceIdeal.nD Cert.GoutReferenceIdeal.τ).loc Cert.GoutReferenceIdeal.main_arg0) = m ((c.tc : Thread Cert.GoutReferenceIdeal.nD Cert.GoutReferenceIdeal.τ).loc Cert.GoutReferenceIdeal.main_arg0)
      ∧ r.2.mem ((c.tc : Thread Cert.GoutReferenceIdeal.nD Cert.GoutReferenceIdeal.τ).loc Cert.GoutReferenceIdeal.main_arg1) = m ((c.tc : Thread Cert.GoutReferenceIdeal.nD Cert.GoutReferenceIdeal.τ).loc Cert.GoutReferenceIdeal.main_arg1))
      ∧ r.2.sem = fun _ => 0)

def quiescent_Gin [hGin : Cert.Gin.Facts] : Prop :=
  ∀ (m : (ℓ : Loc Cert.Gin.nD Cert.Gin.τ Cert.Gin.sig) → Buf (Elt Bits) ℓ) (g : Dev Cert.Gin.nD → PrngReg), Pre_Gin m →
    θ_run (Cert.Gin.defs (F := Bits)) (onTc (τ := Cert.Gin.τ) (Cert.Gin.main (F := Bits))) ⟨m, fun _ => 0, g⟩ (fun r => (∀ c : Dev Cert.Gin.nD,
      r.2.mem ((c.tc : Thread Cert.Gin.nD Cert.Gin.τ).loc Cert.Gin.main_arg0) = m ((c.tc : Thread Cert.Gin.nD Cert.Gin.τ).loc Cert.Gin.main_arg0)
      ∧ r.2.mem ((c.tc : Thread Cert.Gin.nD Cert.Gin.τ).loc Cert.Gin.main_arg1) = m ((c.tc : Thread Cert.Gin.nD Cert.Gin.τ).loc Cert.Gin.main_arg1))
      ∧ r.2.sem = fun _ => 0)

def quiescent_GinIdeal [hGinIdeal : Cert.GinIdeal.Facts] : Prop :=
  ∀ (m : (ℓ : Loc Cert.GinIdeal.nD Cert.GinIdeal.τ Cert.GinIdeal.sig) → Buf (Elt Ideal) ℓ) (g : Dev Cert.GinIdeal.nD → PrngReg), Pre_GinIdeal m →
    θ_run (Cert.GinIdeal.defs (F := Ideal)) (onTc (τ := Cert.GinIdeal.τ) (Cert.GinIdeal.main (F := Ideal))) ⟨m, fun _ => 0, g⟩ (fun r => (∀ c : Dev Cert.GinIdeal.nD,
      r.2.mem ((c.tc : Thread Cert.GinIdeal.nD Cert.GinIdeal.τ).loc Cert.GinIdeal.main_arg0) = m ((c.tc : Thread Cert.GinIdeal.nD Cert.GinIdeal.τ).loc Cert.GinIdeal.main_arg0)
      ∧ r.2.mem ((c.tc : Thread Cert.GinIdeal.nD Cert.GinIdeal.τ).loc Cert.GinIdeal.main_arg1) = m ((c.tc : Thread Cert.GinIdeal.nD Cert.GinIdeal.τ).loc Cert.GinIdeal.main_arg1))
      ∧ r.2.sem = fun _ => 0)

def quiescent_GinReferenceIdeal [hGinReferenceIdeal : Cert.GinReferenceIdeal.Facts] : Prop :=
  ∀ (m : (ℓ : Loc Cert.GinReferenceIdeal.nD Cert.GinReferenceIdeal.τ Cert.GinReferenceIdeal.sig) → Buf (Elt Ideal) ℓ) (g : Dev Cert.GinReferenceIdeal.nD → PrngReg), Pre_GinReferenceIdeal m →
    θ_run (Cert.GinReferenceIdeal.defs (F := Ideal)) (onTc (τ := Cert.GinReferenceIdeal.τ) (Cert.GinReferenceIdeal.main (F := Ideal))) ⟨m, fun _ => 0, g⟩ (fun r => (∀ c : Dev Cert.GinReferenceIdeal.nD,
      r.2.mem ((c.tc : Thread Cert.GinReferenceIdeal.nD Cert.GinReferenceIdeal.τ).loc Cert.GinReferenceIdeal.main_arg0) = m ((c.tc : Thread Cert.GinReferenceIdeal.nD Cert.GinReferenceIdeal.τ).loc Cert.GinReferenceIdeal.main_arg0)
      ∧ r.2.mem ((c.tc : Thread Cert.GinReferenceIdeal.nD Cert.GinReferenceIdeal.τ).loc Cert.GinReferenceIdeal.main_arg1) = m ((c.tc : Thread Cert.GinReferenceIdeal.nD Cert.GinReferenceIdeal.τ).loc Cert.GinReferenceIdeal.main_arg1))
      ∧ r.2.sem = fun _ => 0)

def quiescent_Gconv [hGconv : Cert.Gconv.Facts] : Prop :=
  ∀ (m : (ℓ : Loc Cert.Gconv.nD Cert.Gconv.τ Cert.Gconv.sig) → Buf (Elt Bits) ℓ) (g : Dev Cert.Gconv.nD → PrngReg), Pre_Gconv m →
    θ_run (Cert.Gconv.defs (F := Bits)) (onTc (τ := Cert.Gconv.τ) (Cert.Gconv.main (F := Bits))) ⟨m, fun _ => 0, g⟩ (fun r => (∀ c : Dev Cert.Gconv.nD,
      r.2.mem ((c.tc : Thread Cert.Gconv.nD Cert.Gconv.τ).loc Cert.Gconv.main_arg0) = m ((c.tc : Thread Cert.Gconv.nD Cert.Gconv.τ).loc Cert.Gconv.main_arg0)
      ∧ r.2.mem ((c.tc : Thread Cert.Gconv.nD Cert.Gconv.τ).loc Cert.Gconv.main_arg1) = m ((c.tc : Thread Cert.Gconv.nD Cert.Gconv.τ).loc Cert.Gconv.main_arg1))
      ∧ r.2.sem = fun _ => 0)

def quiescent_GconvIdeal [hGconvIdeal : Cert.GconvIdeal.Facts] : Prop :=
  ∀ (m : (ℓ : Loc Cert.GconvIdeal.nD Cert.GconvIdeal.τ Cert.GconvIdeal.sig) → Buf (Elt Ideal) ℓ) (g : Dev Cert.GconvIdeal.nD → PrngReg), Pre_GconvIdeal m →
    θ_run (Cert.GconvIdeal.defs (F := Ideal)) (onTc (τ := Cert.GconvIdeal.τ) (Cert.GconvIdeal.main (F := Ideal))) ⟨m, fun _ => 0, g⟩ (fun r => (∀ c : Dev Cert.GconvIdeal.nD,
      r.2.mem ((c.tc : Thread Cert.GconvIdeal.nD Cert.GconvIdeal.τ).loc Cert.GconvIdeal.main_arg0) = m ((c.tc : Thread Cert.GconvIdeal.nD Cert.GconvIdeal.τ).loc Cert.GconvIdeal.main_arg0)
      ∧ r.2.mem ((c.tc : Thread Cert.GconvIdeal.nD Cert.GconvIdeal.τ).loc Cert.GconvIdeal.main_arg1) = m ((c.tc : Thread Cert.GconvIdeal.nD Cert.GconvIdeal.τ).loc Cert.GconvIdeal.main_arg1))
      ∧ r.2.sem = fun _ => 0)

def quiescent_GconvReferenceIdeal [hGconvReferenceIdeal : Cert.GconvReferenceIdeal.Facts] : Prop :=
  ∀ (m : (ℓ : Loc Cert.GconvReferenceIdeal.nD Cert.GconvReferenceIdeal.τ Cert.GconvReferenceIdeal.sig) → Buf (Elt Ideal) ℓ) (g : Dev Cert.GconvReferenceIdeal.nD → PrngReg), Pre_GconvReferenceIdeal m →
    θ_run (Cert.GconvReferenceIdeal.defs (F := Ideal)) (onTc (τ := Cert.GconvReferenceIdeal.τ) (Cert.GconvReferenceIdeal.main (F := Ideal))) ⟨m, fun _ => 0, g⟩ (fun r => (∀ c : Dev Cert.GconvReferenceIdeal.nD,
      r.2.mem ((c.tc : Thread Cert.GconvReferenceIdeal.nD Cert.GconvReferenceIdeal.τ).loc Cert.GconvReferenceIdeal.main_arg0) = m ((c.tc : Thread Cert.GconvReferenceIdeal.nD Cert.GconvReferenceIdeal.τ).loc Cert.GconvReferenceIdeal.main_arg0)
      ∧ r.2.mem ((c.tc : Thread Cert.GconvReferenceIdeal.nD Cert.GconvReferenceIdeal.τ).loc Cert.GconvReferenceIdeal.main_arg1) = m ((c.tc : Thread Cert.GconvReferenceIdeal.nD Cert.GconvReferenceIdeal.τ).loc Cert.GconvReferenceIdeal.main_arg1))
      ∧ r.2.sem = fun _ => 0)

def quiescent_Fup [hFup : Cert.Fup.Facts] : Prop :=
  ∀ (m : (ℓ : Loc Cert.Fup.nD Cert.Fup.τ Cert.Fup.sig) → Buf (Elt Bits) ℓ) (g : Dev Cert.Fup.nD → PrngReg), Pre_Fup m →
    θ_run (Cert.Fup.defs (F := Bits)) (onTc (τ := Cert.Fup.τ) (Cert.Fup.main (F := Bits))) ⟨m, fun _ => 0, g⟩ (fun r => (∀ c : Dev Cert.Fup.nD,
      r.2.mem ((c.tc : Thread Cert.Fup.nD Cert.Fup.τ).loc Cert.Fup.main_arg0) = m ((c.tc : Thread Cert.Fup.nD Cert.Fup.τ).loc Cert.Fup.main_arg0)
      ∧ r.2.mem ((c.tc : Thread Cert.Fup.nD Cert.Fup.τ).loc Cert.Fup.main_arg1) = m ((c.tc : Thread Cert.Fup.nD Cert.Fup.τ).loc Cert.Fup.main_arg1))
      ∧ r.2.sem = fun _ => 0)

def quiescent_FupIdeal [hFupIdeal : Cert.FupIdeal.Facts] : Prop :=
  ∀ (m : (ℓ : Loc Cert.FupIdeal.nD Cert.FupIdeal.τ Cert.FupIdeal.sig) → Buf (Elt Ideal) ℓ) (g : Dev Cert.FupIdeal.nD → PrngReg), Pre_FupIdeal m →
    θ_run (Cert.FupIdeal.defs (F := Ideal)) (onTc (τ := Cert.FupIdeal.τ) (Cert.FupIdeal.main (F := Ideal))) ⟨m, fun _ => 0, g⟩ (fun r => (∀ c : Dev Cert.FupIdeal.nD,
      r.2.mem ((c.tc : Thread Cert.FupIdeal.nD Cert.FupIdeal.τ).loc Cert.FupIdeal.main_arg0) = m ((c.tc : Thread Cert.FupIdeal.nD Cert.FupIdeal.τ).loc Cert.FupIdeal.main_arg0)
      ∧ r.2.mem ((c.tc : Thread Cert.FupIdeal.nD Cert.FupIdeal.τ).loc Cert.FupIdeal.main_arg1) = m ((c.tc : Thread Cert.FupIdeal.nD Cert.FupIdeal.τ).loc Cert.FupIdeal.main_arg1))
      ∧ r.2.sem = fun _ => 0)

def quiescent_FupReferenceIdeal [hFupReferenceIdeal : Cert.FupReferenceIdeal.Facts] : Prop :=
  ∀ (m : (ℓ : Loc Cert.FupReferenceIdeal.nD Cert.FupReferenceIdeal.τ Cert.FupReferenceIdeal.sig) → Buf (Elt Ideal) ℓ) (g : Dev Cert.FupReferenceIdeal.nD → PrngReg), Pre_FupReferenceIdeal m →
    θ_run (Cert.FupReferenceIdeal.defs (F := Ideal)) (onTc (τ := Cert.FupReferenceIdeal.τ) (Cert.FupReferenceIdeal.main (F := Ideal))) ⟨m, fun _ => 0, g⟩ (fun r => (∀ c : Dev Cert.FupReferenceIdeal.nD,
      r.2.mem ((c.tc : Thread Cert.FupReferenceIdeal.nD Cert.FupReferenceIdeal.τ).loc Cert.FupReferenceIdeal.main_arg0) = m ((c.tc : Thread Cert.FupReferenceIdeal.nD Cert.FupReferenceIdeal.τ).loc Cert.FupReferenceIdeal.main_arg0)
      ∧ r.2.mem ((c.tc : Thread Cert.FupReferenceIdeal.nD Cert.FupReferenceIdeal.τ).loc Cert.FupReferenceIdeal.main_arg1) = m ((c.tc : Thread Cert.FupReferenceIdeal.nD Cert.FupReferenceIdeal.τ).loc Cert.FupReferenceIdeal.main_arg1))
      ∧ r.2.sem = fun _ => 0)

def quiescent_Fdown [hFdown : Cert.Fdown.Facts] : Prop :=
  ∀ (m : (ℓ : Loc Cert.Fdown.nD Cert.Fdown.τ Cert.Fdown.sig) → Buf (Elt Bits) ℓ) (g : Dev Cert.Fdown.nD → PrngReg), Pre_Fdown m →
    θ_run (Cert.Fdown.defs (F := Bits)) (onTc (τ := Cert.Fdown.τ) (Cert.Fdown.main (F := Bits))) ⟨m, fun _ => 0, g⟩ (fun r => (∀ c : Dev Cert.Fdown.nD,
      r.2.mem ((c.tc : Thread Cert.Fdown.nD Cert.Fdown.τ).loc Cert.Fdown.main_arg0) = m ((c.tc : Thread Cert.Fdown.nD Cert.Fdown.τ).loc Cert.Fdown.main_arg0)
      ∧ r.2.mem ((c.tc : Thread Cert.Fdown.nD Cert.Fdown.τ).loc Cert.Fdown.main_arg1) = m ((c.tc : Thread Cert.Fdown.nD Cert.Fdown.τ).loc Cert.Fdown.main_arg1))
      ∧ r.2.sem = fun _ => 0)

def quiescent_FdownIdeal [hFdownIdeal : Cert.FdownIdeal.Facts] : Prop :=
  ∀ (m : (ℓ : Loc Cert.FdownIdeal.nD Cert.FdownIdeal.τ Cert.FdownIdeal.sig) → Buf (Elt Ideal) ℓ) (g : Dev Cert.FdownIdeal.nD → PrngReg), Pre_FdownIdeal m →
    θ_run (Cert.FdownIdeal.defs (F := Ideal)) (onTc (τ := Cert.FdownIdeal.τ) (Cert.FdownIdeal.main (F := Ideal))) ⟨m, fun _ => 0, g⟩ (fun r => (∀ c : Dev Cert.FdownIdeal.nD,
      r.2.mem ((c.tc : Thread Cert.FdownIdeal.nD Cert.FdownIdeal.τ).loc Cert.FdownIdeal.main_arg0) = m ((c.tc : Thread Cert.FdownIdeal.nD Cert.FdownIdeal.τ).loc Cert.FdownIdeal.main_arg0)
      ∧ r.2.mem ((c.tc : Thread Cert.FdownIdeal.nD Cert.FdownIdeal.τ).loc Cert.FdownIdeal.main_arg1) = m ((c.tc : Thread Cert.FdownIdeal.nD Cert.FdownIdeal.τ).loc Cert.FdownIdeal.main_arg1))
      ∧ r.2.sem = fun _ => 0)

def quiescent_FdownReferenceIdeal [hFdownReferenceIdeal : Cert.FdownReferenceIdeal.Facts] : Prop :=
  ∀ (m : (ℓ : Loc Cert.FdownReferenceIdeal.nD Cert.FdownReferenceIdeal.τ Cert.FdownReferenceIdeal.sig) → Buf (Elt Ideal) ℓ) (g : Dev Cert.FdownReferenceIdeal.nD → PrngReg), Pre_FdownReferenceIdeal m →
    θ_run (Cert.FdownReferenceIdeal.defs (F := Ideal)) (onTc (τ := Cert.FdownReferenceIdeal.τ) (Cert.FdownReferenceIdeal.main (F := Ideal))) ⟨m, fun _ => 0, g⟩ (fun r => (∀ c : Dev Cert.FdownReferenceIdeal.nD,
      r.2.mem ((c.tc : Thread Cert.FdownReferenceIdeal.nD Cert.FdownReferenceIdeal.τ).loc Cert.FdownReferenceIdeal.main_arg0) = m ((c.tc : Thread Cert.FdownReferenceIdeal.nD Cert.FdownReferenceIdeal.τ).loc Cert.FdownReferenceIdeal.main_arg0)
      ∧ r.2.mem ((c.tc : Thread Cert.FdownReferenceIdeal.nD Cert.FdownReferenceIdeal.τ).loc Cert.FdownReferenceIdeal.main_arg1) = m ((c.tc : Thread Cert.FdownReferenceIdeal.nD Cert.FdownReferenceIdeal.τ).loc Cert.FdownReferenceIdeal.main_arg1))
      ∧ r.2.sem = fun _ => 0)

def quiescent_Oproj [hOproj : Cert.Oproj.Facts] : Prop :=
  ∀ (m : (ℓ : Loc Cert.Oproj.nD Cert.Oproj.τ Cert.Oproj.sig) → Buf (Elt Bits) ℓ) (g : Dev Cert.Oproj.nD → PrngReg), Pre_Oproj m →
    θ_run (Cert.Oproj.defs (F := Bits)) (onTc (τ := Cert.Oproj.τ) (Cert.Oproj.main (F := Bits))) ⟨m, fun _ => 0, g⟩ (fun r => (∀ c : Dev Cert.Oproj.nD,
      r.2.mem ((c.tc : Thread Cert.Oproj.nD Cert.Oproj.τ).loc Cert.Oproj.main_arg0) = m ((c.tc : Thread Cert.Oproj.nD Cert.Oproj.τ).loc Cert.Oproj.main_arg0)
      ∧ r.2.mem ((c.tc : Thread Cert.Oproj.nD Cert.Oproj.τ).loc Cert.Oproj.main_arg1) = m ((c.tc : Thread Cert.Oproj.nD Cert.Oproj.τ).loc Cert.Oproj.main_arg1)
      ∧ r.2.mem ((c.tc : Thread Cert.Oproj.nD Cert.Oproj.τ).loc Cert.Oproj.main_arg2) = m ((c.tc : Thread Cert.Oproj.nD Cert.Oproj.τ).loc Cert.Oproj.main_arg2))
      ∧ r.2.sem = fun _ => 0)

def quiescent_OprojIdeal [hOprojIdeal : Cert.OprojIdeal.Facts] : Prop :=
  ∀ (m : (ℓ : Loc Cert.OprojIdeal.nD Cert.OprojIdeal.τ Cert.OprojIdeal.sig) → Buf (Elt Ideal) ℓ) (g : Dev Cert.OprojIdeal.nD → PrngReg), Pre_OprojIdeal m →
    θ_run (Cert.OprojIdeal.defs (F := Ideal)) (onTc (τ := Cert.OprojIdeal.τ) (Cert.OprojIdeal.main (F := Ideal))) ⟨m, fun _ => 0, g⟩ (fun r => (∀ c : Dev Cert.OprojIdeal.nD,
      r.2.mem ((c.tc : Thread Cert.OprojIdeal.nD Cert.OprojIdeal.τ).loc Cert.OprojIdeal.main_arg0) = m ((c.tc : Thread Cert.OprojIdeal.nD Cert.OprojIdeal.τ).loc Cert.OprojIdeal.main_arg0)
      ∧ r.2.mem ((c.tc : Thread Cert.OprojIdeal.nD Cert.OprojIdeal.τ).loc Cert.OprojIdeal.main_arg1) = m ((c.tc : Thread Cert.OprojIdeal.nD Cert.OprojIdeal.τ).loc Cert.OprojIdeal.main_arg1)
      ∧ r.2.mem ((c.tc : Thread Cert.OprojIdeal.nD Cert.OprojIdeal.τ).loc Cert.OprojIdeal.main_arg2) = m ((c.tc : Thread Cert.OprojIdeal.nD Cert.OprojIdeal.τ).loc Cert.OprojIdeal.main_arg2))
      ∧ r.2.sem = fun _ => 0)

def quiescent_OprojReferenceIdeal [hOprojReferenceIdeal : Cert.OprojReferenceIdeal.Facts] : Prop :=
  ∀ (m : (ℓ : Loc Cert.OprojReferenceIdeal.nD Cert.OprojReferenceIdeal.τ Cert.OprojReferenceIdeal.sig) → Buf (Elt Ideal) ℓ) (g : Dev Cert.OprojReferenceIdeal.nD → PrngReg), Pre_OprojReferenceIdeal m →
    θ_run (Cert.OprojReferenceIdeal.defs (F := Ideal)) (onTc (τ := Cert.OprojReferenceIdeal.τ) (Cert.OprojReferenceIdeal.main (F := Ideal))) ⟨m, fun _ => 0, g⟩ (fun r => (∀ c : Dev Cert.OprojReferenceIdeal.nD,
      r.2.mem ((c.tc : Thread Cert.OprojReferenceIdeal.nD Cert.OprojReferenceIdeal.τ).loc Cert.OprojReferenceIdeal.main_arg0) = m ((c.tc : Thread Cert.OprojReferenceIdeal.nD Cert.OprojReferenceIdeal.τ).loc Cert.OprojReferenceIdeal.main_arg0)
      ∧ r.2.mem ((c.tc : Thread Cert.OprojReferenceIdeal.nD Cert.OprojReferenceIdeal.τ).loc Cert.OprojReferenceIdeal.main_arg1) = m ((c.tc : Thread Cert.OprojReferenceIdeal.nD Cert.OprojReferenceIdeal.τ).loc Cert.OprojReferenceIdeal.main_arg1)
      ∧ r.2.mem ((c.tc : Thread Cert.OprojReferenceIdeal.nD Cert.OprojReferenceIdeal.τ).loc Cert.OprojReferenceIdeal.main_arg2) = m ((c.tc : Thread Cert.OprojReferenceIdeal.nD Cert.OprojReferenceIdeal.τ).loc Cert.OprojReferenceIdeal.main_arg2))
      ∧ r.2.sem = fun _ => 0)

def quiescent_Psb [hPsb : Cert.Psb.Facts] : Prop :=
  ∀ (m : (ℓ : Loc Cert.Psb.nD Cert.Psb.τ Cert.Psb.sig) → Buf (Elt Bits) ℓ) (g : Dev Cert.Psb.nD → PrngReg), Pre_Psb m →
    θ_run (Cert.Psb.defs (F := Bits)) (onTc (τ := Cert.Psb.τ) (Cert.Psb.main (F := Bits))) ⟨m, fun _ => 0, g⟩ (fun r => (∀ c : Dev Cert.Psb.nD,
      r.2.mem ((c.tc : Thread Cert.Psb.nD Cert.Psb.τ).loc Cert.Psb.main_arg0) = m ((c.tc : Thread Cert.Psb.nD Cert.Psb.τ).loc Cert.Psb.main_arg0)
      ∧ r.2.mem ((c.tc : Thread Cert.Psb.nD Cert.Psb.τ).loc Cert.Psb.main_arg1) = m ((c.tc : Thread Cert.Psb.nD Cert.Psb.τ).loc Cert.Psb.main_arg1))
      ∧ r.2.sem = fun _ => 0)

def quiescent_PsbIdeal [hPsbIdeal : Cert.PsbIdeal.Facts] : Prop :=
  ∀ (m : (ℓ : Loc Cert.PsbIdeal.nD Cert.PsbIdeal.τ Cert.PsbIdeal.sig) → Buf (Elt Ideal) ℓ) (g : Dev Cert.PsbIdeal.nD → PrngReg), Pre_PsbIdeal m →
    θ_run (Cert.PsbIdeal.defs (F := Ideal)) (onTc (τ := Cert.PsbIdeal.τ) (Cert.PsbIdeal.main (F := Ideal))) ⟨m, fun _ => 0, g⟩ (fun r => (∀ c : Dev Cert.PsbIdeal.nD,
      r.2.mem ((c.tc : Thread Cert.PsbIdeal.nD Cert.PsbIdeal.τ).loc Cert.PsbIdeal.main_arg0) = m ((c.tc : Thread Cert.PsbIdeal.nD Cert.PsbIdeal.τ).loc Cert.PsbIdeal.main_arg0)
      ∧ r.2.mem ((c.tc : Thread Cert.PsbIdeal.nD Cert.PsbIdeal.τ).loc Cert.PsbIdeal.main_arg1) = m ((c.tc : Thread Cert.PsbIdeal.nD Cert.PsbIdeal.τ).loc Cert.PsbIdeal.main_arg1))
      ∧ r.2.sem = fun _ => 0)

def quiescent_PsbReferenceIdeal [hPsbReferenceIdeal : Cert.PsbReferenceIdeal.Facts] : Prop :=
  ∀ (m : (ℓ : Loc Cert.PsbReferenceIdeal.nD Cert.PsbReferenceIdeal.τ Cert.PsbReferenceIdeal.sig) → Buf (Elt Ideal) ℓ) (g : Dev Cert.PsbReferenceIdeal.nD → PrngReg), Pre_PsbReferenceIdeal m →
    θ_run (Cert.PsbReferenceIdeal.defs (F := Ideal)) (onTc (τ := Cert.PsbReferenceIdeal.τ) (Cert.PsbReferenceIdeal.main (F := Ideal))) ⟨m, fun _ => 0, g⟩ (fun r => (∀ c : Dev Cert.PsbReferenceIdeal.nD,
      r.2.mem ((c.tc : Thread Cert.PsbReferenceIdeal.nD Cert.PsbReferenceIdeal.τ).loc Cert.PsbReferenceIdeal.main_arg0) = m ((c.tc : Thread Cert.PsbReferenceIdeal.nD Cert.PsbReferenceIdeal.τ).loc Cert.PsbReferenceIdeal.main_arg0)
      ∧ r.2.mem ((c.tc : Thread Cert.PsbReferenceIdeal.nD Cert.PsbReferenceIdeal.τ).loc Cert.PsbReferenceIdeal.main_arg1) = m ((c.tc : Thread Cert.PsbReferenceIdeal.nD Cert.PsbReferenceIdeal.τ).loc Cert.PsbReferenceIdeal.main_arg1))
      ∧ r.2.sem = fun _ => 0)

def quiescent_Pdn [hPdn : Cert.Pdn.Facts] : Prop :=
  ∀ (m : (ℓ : Loc Cert.Pdn.nD Cert.Pdn.τ Cert.Pdn.sig) → Buf (Elt Bits) ℓ) (g : Dev Cert.Pdn.nD → PrngReg), Pre_Pdn m →
    θ_run (Cert.Pdn.defs (F := Bits)) (onTc (τ := Cert.Pdn.τ) (Cert.Pdn.main (F := Bits))) ⟨m, fun _ => 0, g⟩ (fun r => (∀ c : Dev Cert.Pdn.nD,
      r.2.mem ((c.tc : Thread Cert.Pdn.nD Cert.Pdn.τ).loc Cert.Pdn.main_arg0) = m ((c.tc : Thread Cert.Pdn.nD Cert.Pdn.τ).loc Cert.Pdn.main_arg0)
      ∧ r.2.mem ((c.tc : Thread Cert.Pdn.nD Cert.Pdn.τ).loc Cert.Pdn.main_arg1) = m ((c.tc : Thread Cert.Pdn.nD Cert.Pdn.τ).loc Cert.Pdn.main_arg1))
      ∧ r.2.sem = fun _ => 0)

def quiescent_PdnIdeal [hPdnIdeal : Cert.PdnIdeal.Facts] : Prop :=
  ∀ (m : (ℓ : Loc Cert.PdnIdeal.nD Cert.PdnIdeal.τ Cert.PdnIdeal.sig) → Buf (Elt Ideal) ℓ) (g : Dev Cert.PdnIdeal.nD → PrngReg), Pre_PdnIdeal m →
    θ_run (Cert.PdnIdeal.defs (F := Ideal)) (onTc (τ := Cert.PdnIdeal.τ) (Cert.PdnIdeal.main (F := Ideal))) ⟨m, fun _ => 0, g⟩ (fun r => (∀ c : Dev Cert.PdnIdeal.nD,
      r.2.mem ((c.tc : Thread Cert.PdnIdeal.nD Cert.PdnIdeal.τ).loc Cert.PdnIdeal.main_arg0) = m ((c.tc : Thread Cert.PdnIdeal.nD Cert.PdnIdeal.τ).loc Cert.PdnIdeal.main_arg0)
      ∧ r.2.mem ((c.tc : Thread Cert.PdnIdeal.nD Cert.PdnIdeal.τ).loc Cert.PdnIdeal.main_arg1) = m ((c.tc : Thread Cert.PdnIdeal.nD Cert.PdnIdeal.τ).loc Cert.PdnIdeal.main_arg1))
      ∧ r.2.sem = fun _ => 0)

def quiescent_PdnReferenceIdeal [hPdnReferenceIdeal : Cert.PdnReferenceIdeal.Facts] : Prop :=
  ∀ (m : (ℓ : Loc Cert.PdnReferenceIdeal.nD Cert.PdnReferenceIdeal.τ Cert.PdnReferenceIdeal.sig) → Buf (Elt Ideal) ℓ) (g : Dev Cert.PdnReferenceIdeal.nD → PrngReg), Pre_PdnReferenceIdeal m →
    θ_run (Cert.PdnReferenceIdeal.defs (F := Ideal)) (onTc (τ := Cert.PdnReferenceIdeal.τ) (Cert.PdnReferenceIdeal.main (F := Ideal))) ⟨m, fun _ => 0, g⟩ (fun r => (∀ c : Dev Cert.PdnReferenceIdeal.nD,
      r.2.mem ((c.tc : Thread Cert.PdnReferenceIdeal.nD Cert.PdnReferenceIdeal.τ).loc Cert.PdnReferenceIdeal.main_arg0) = m ((c.tc : Thread Cert.PdnReferenceIdeal.nD Cert.PdnReferenceIdeal.τ).loc Cert.PdnReferenceIdeal.main_arg0)
      ∧ r.2.mem ((c.tc : Thread Cert.PdnReferenceIdeal.nD Cert.PdnReferenceIdeal.τ).loc Cert.PdnReferenceIdeal.main_arg1) = m ((c.tc : Thread Cert.PdnReferenceIdeal.nD Cert.PdnReferenceIdeal.τ).loc Cert.PdnReferenceIdeal.main_arg1))
      ∧ r.2.sem = fun _ => 0)

def quiescent_Pba [hPba : Cert.Pba.Facts] : Prop :=
  ∀ (m : (ℓ : Loc Cert.Pba.nD Cert.Pba.τ Cert.Pba.sig) → Buf (Elt Bits) ℓ) (g : Dev Cert.Pba.nD → PrngReg), Pre_Pba m →
    θ_run (Cert.Pba.defs (F := Bits)) (onTc (τ := Cert.Pba.τ) (Cert.Pba.main (F := Bits))) ⟨m, fun _ => 0, g⟩ (fun r => (∀ c : Dev Cert.Pba.nD,
      r.2.mem ((c.tc : Thread Cert.Pba.nD Cert.Pba.τ).loc Cert.Pba.main_arg0) = m ((c.tc : Thread Cert.Pba.nD Cert.Pba.τ).loc Cert.Pba.main_arg0)
      ∧ r.2.mem ((c.tc : Thread Cert.Pba.nD Cert.Pba.τ).loc Cert.Pba.main_arg1) = m ((c.tc : Thread Cert.Pba.nD Cert.Pba.τ).loc Cert.Pba.main_arg1))
      ∧ r.2.sem = fun _ => 0)

def quiescent_PbaIdeal [hPbaIdeal : Cert.PbaIdeal.Facts] : Prop :=
  ∀ (m : (ℓ : Loc Cert.PbaIdeal.nD Cert.PbaIdeal.τ Cert.PbaIdeal.sig) → Buf (Elt Ideal) ℓ) (g : Dev Cert.PbaIdeal.nD → PrngReg), Pre_PbaIdeal m →
    θ_run (Cert.PbaIdeal.defs (F := Ideal)) (onTc (τ := Cert.PbaIdeal.τ) (Cert.PbaIdeal.main (F := Ideal))) ⟨m, fun _ => 0, g⟩ (fun r => (∀ c : Dev Cert.PbaIdeal.nD,
      r.2.mem ((c.tc : Thread Cert.PbaIdeal.nD Cert.PbaIdeal.τ).loc Cert.PbaIdeal.main_arg0) = m ((c.tc : Thread Cert.PbaIdeal.nD Cert.PbaIdeal.τ).loc Cert.PbaIdeal.main_arg0)
      ∧ r.2.mem ((c.tc : Thread Cert.PbaIdeal.nD Cert.PbaIdeal.τ).loc Cert.PbaIdeal.main_arg1) = m ((c.tc : Thread Cert.PbaIdeal.nD Cert.PbaIdeal.τ).loc Cert.PbaIdeal.main_arg1))
      ∧ r.2.sem = fun _ => 0)

def quiescent_PbaReferenceIdeal [hPbaReferenceIdeal : Cert.PbaReferenceIdeal.Facts] : Prop :=
  ∀ (m : (ℓ : Loc Cert.PbaReferenceIdeal.nD Cert.PbaReferenceIdeal.τ Cert.PbaReferenceIdeal.sig) → Buf (Elt Ideal) ℓ) (g : Dev Cert.PbaReferenceIdeal.nD → PrngReg), Pre_PbaReferenceIdeal m →
    θ_run (Cert.PbaReferenceIdeal.defs (F := Ideal)) (onTc (τ := Cert.PbaReferenceIdeal.τ) (Cert.PbaReferenceIdeal.main (F := Ideal))) ⟨m, fun _ => 0, g⟩ (fun r => (∀ c : Dev Cert.PbaReferenceIdeal.nD,
      r.2.mem ((c.tc : Thread Cert.PbaReferenceIdeal.nD Cert.PbaReferenceIdeal.τ).loc Cert.PbaReferenceIdeal.main_arg0) = m ((c.tc : Thread Cert.PbaReferenceIdeal.nD Cert.PbaReferenceIdeal.τ).loc Cert.PbaReferenceIdeal.main_arg0)
      ∧ r.2.mem ((c.tc : Thread Cert.PbaReferenceIdeal.nD Cert.PbaReferenceIdeal.τ).loc Cert.PbaReferenceIdeal.main_arg1) = m ((c.tc : Thread Cert.PbaReferenceIdeal.nD Cert.PbaReferenceIdeal.τ).loc Cert.PbaReferenceIdeal.main_arg1))
      ∧ r.2.sem = fun _ => 0)

def quiescent_Gba [hGba : Cert.Gba.Facts] : Prop :=
  ∀ (m : (ℓ : Loc Cert.Gba.nD Cert.Gba.τ Cert.Gba.sig) → Buf (Elt Bits) ℓ) (g : Dev Cert.Gba.nD → PrngReg), Pre_Gba m →
    θ_run (Cert.Gba.defs (F := Bits)) (onTc (τ := Cert.Gba.τ) (Cert.Gba.main (F := Bits))) ⟨m, fun _ => 0, g⟩ (fun r => (∀ c : Dev Cert.Gba.nD,
      r.2.mem ((c.tc : Thread Cert.Gba.nD Cert.Gba.τ).loc Cert.Gba.main_arg0) = m ((c.tc : Thread Cert.Gba.nD Cert.Gba.τ).loc Cert.Gba.main_arg0)
      ∧ r.2.mem ((c.tc : Thread Cert.Gba.nD Cert.Gba.τ).loc Cert.Gba.main_arg1) = m ((c.tc : Thread Cert.Gba.nD Cert.Gba.τ).loc Cert.Gba.main_arg1))
      ∧ r.2.sem = fun _ => 0)

def quiescent_GbaIdeal [hGbaIdeal : Cert.GbaIdeal.Facts] : Prop :=
  ∀ (m : (ℓ : Loc Cert.GbaIdeal.nD Cert.GbaIdeal.τ Cert.GbaIdeal.sig) → Buf (Elt Ideal) ℓ) (g : Dev Cert.GbaIdeal.nD → PrngReg), Pre_GbaIdeal m →
    θ_run (Cert.GbaIdeal.defs (F := Ideal)) (onTc (τ := Cert.GbaIdeal.τ) (Cert.GbaIdeal.main (F := Ideal))) ⟨m, fun _ => 0, g⟩ (fun r => (∀ c : Dev Cert.GbaIdeal.nD,
      r.2.mem ((c.tc : Thread Cert.GbaIdeal.nD Cert.GbaIdeal.τ).loc Cert.GbaIdeal.main_arg0) = m ((c.tc : Thread Cert.GbaIdeal.nD Cert.GbaIdeal.τ).loc Cert.GbaIdeal.main_arg0)
      ∧ r.2.mem ((c.tc : Thread Cert.GbaIdeal.nD Cert.GbaIdeal.τ).loc Cert.GbaIdeal.main_arg1) = m ((c.tc : Thread Cert.GbaIdeal.nD Cert.GbaIdeal.τ).loc Cert.GbaIdeal.main_arg1))
      ∧ r.2.sem = fun _ => 0)

def quiescent_GbaReferenceIdeal [hGbaReferenceIdeal : Cert.GbaReferenceIdeal.Facts] : Prop :=
  ∀ (m : (ℓ : Loc Cert.GbaReferenceIdeal.nD Cert.GbaReferenceIdeal.τ Cert.GbaReferenceIdeal.sig) → Buf (Elt Ideal) ℓ) (g : Dev Cert.GbaReferenceIdeal.nD → PrngReg), Pre_GbaReferenceIdeal m →
    θ_run (Cert.GbaReferenceIdeal.defs (F := Ideal)) (onTc (τ := Cert.GbaReferenceIdeal.τ) (Cert.GbaReferenceIdeal.main (F := Ideal))) ⟨m, fun _ => 0, g⟩ (fun r => (∀ c : Dev Cert.GbaReferenceIdeal.nD,
      r.2.mem ((c.tc : Thread Cert.GbaReferenceIdeal.nD Cert.GbaReferenceIdeal.τ).loc Cert.GbaReferenceIdeal.main_arg0) = m ((c.tc : Thread Cert.GbaReferenceIdeal.nD Cert.GbaReferenceIdeal.τ).loc Cert.GbaReferenceIdeal.main_arg0)
      ∧ r.2.mem ((c.tc : Thread Cert.GbaReferenceIdeal.nD Cert.GbaReferenceIdeal.τ).loc Cert.GbaReferenceIdeal.main_arg1) = m ((c.tc : Thread Cert.GbaReferenceIdeal.nD Cert.GbaReferenceIdeal.τ).loc Cert.GbaReferenceIdeal.main_arg1))
      ∧ r.2.sem = fun _ => 0)

def quiescent_AdIn [hAdIn : Cert.AdIn.Facts] : Prop :=
  ∀ (m : (ℓ : Loc Cert.AdIn.nD Cert.AdIn.τ Cert.AdIn.sig) → Buf (Elt Bits) ℓ) (g : Dev Cert.AdIn.nD → PrngReg), Pre_AdIn m →
    θ_run (Cert.AdIn.defs (F := Bits)) (onTc (τ := Cert.AdIn.τ) (Cert.AdIn.main (F := Bits))) ⟨m, fun _ => 0, g⟩ (fun r => (∀ c : Dev Cert.AdIn.nD,
      r.2.mem ((c.tc : Thread Cert.AdIn.nD Cert.AdIn.τ).loc Cert.AdIn.main_arg0) = m ((c.tc : Thread Cert.AdIn.nD Cert.AdIn.τ).loc Cert.AdIn.main_arg0)
      ∧ r.2.mem ((c.tc : Thread Cert.AdIn.nD Cert.AdIn.τ).loc Cert.AdIn.main_arg1) = m ((c.tc : Thread Cert.AdIn.nD Cert.AdIn.τ).loc Cert.AdIn.main_arg1)
      ∧ r.2.mem ((c.tc : Thread Cert.AdIn.nD Cert.AdIn.τ).loc Cert.AdIn.main_arg2) = m ((c.tc : Thread Cert.AdIn.nD Cert.AdIn.τ).loc Cert.AdIn.main_arg2)
      ∧ r.2.mem ((c.tc : Thread Cert.AdIn.nD Cert.AdIn.τ).loc Cert.AdIn.main_arg3) = m ((c.tc : Thread Cert.AdIn.nD Cert.AdIn.τ).loc Cert.AdIn.main_arg3)
      ∧ r.2.mem ((c.tc : Thread Cert.AdIn.nD Cert.AdIn.τ).loc Cert.AdIn.main_arg4) = m ((c.tc : Thread Cert.AdIn.nD Cert.AdIn.τ).loc Cert.AdIn.main_arg4)
      ∧ r.2.mem ((c.tc : Thread Cert.AdIn.nD Cert.AdIn.τ).loc Cert.AdIn.main_arg5) = m ((c.tc : Thread Cert.AdIn.nD Cert.AdIn.τ).loc Cert.AdIn.main_arg5))
      ∧ r.2.sem = fun _ => 0)

def quiescent_AdInIdeal [hAdInIdeal : Cert.AdInIdeal.Facts] : Prop :=
  ∀ (m : (ℓ : Loc Cert.AdInIdeal.nD Cert.AdInIdeal.τ Cert.AdInIdeal.sig) → Buf (Elt Ideal) ℓ) (g : Dev Cert.AdInIdeal.nD → PrngReg), Pre_AdInIdeal m →
    θ_run (Cert.AdInIdeal.defs (F := Ideal)) (onTc (τ := Cert.AdInIdeal.τ) (Cert.AdInIdeal.main (F := Ideal))) ⟨m, fun _ => 0, g⟩ (fun r => (∀ c : Dev Cert.AdInIdeal.nD,
      r.2.mem ((c.tc : Thread Cert.AdInIdeal.nD Cert.AdInIdeal.τ).loc Cert.AdInIdeal.main_arg0) = m ((c.tc : Thread Cert.AdInIdeal.nD Cert.AdInIdeal.τ).loc Cert.AdInIdeal.main_arg0)
      ∧ r.2.mem ((c.tc : Thread Cert.AdInIdeal.nD Cert.AdInIdeal.τ).loc Cert.AdInIdeal.main_arg1) = m ((c.tc : Thread Cert.AdInIdeal.nD Cert.AdInIdeal.τ).loc Cert.AdInIdeal.main_arg1)
      ∧ r.2.mem ((c.tc : Thread Cert.AdInIdeal.nD Cert.AdInIdeal.τ).loc Cert.AdInIdeal.main_arg2) = m ((c.tc : Thread Cert.AdInIdeal.nD Cert.AdInIdeal.τ).loc Cert.AdInIdeal.main_arg2)
      ∧ r.2.mem ((c.tc : Thread Cert.AdInIdeal.nD Cert.AdInIdeal.τ).loc Cert.AdInIdeal.main_arg3) = m ((c.tc : Thread Cert.AdInIdeal.nD Cert.AdInIdeal.τ).loc Cert.AdInIdeal.main_arg3)
      ∧ r.2.mem ((c.tc : Thread Cert.AdInIdeal.nD Cert.AdInIdeal.τ).loc Cert.AdInIdeal.main_arg4) = m ((c.tc : Thread Cert.AdInIdeal.nD Cert.AdInIdeal.τ).loc Cert.AdInIdeal.main_arg4)
      ∧ r.2.mem ((c.tc : Thread Cert.AdInIdeal.nD Cert.AdInIdeal.τ).loc Cert.AdInIdeal.main_arg5) = m ((c.tc : Thread Cert.AdInIdeal.nD Cert.AdInIdeal.τ).loc Cert.AdInIdeal.main_arg5))
      ∧ r.2.sem = fun _ => 0)

def quiescent_AdInReferenceIdeal [hAdInReferenceIdeal : Cert.AdInReferenceIdeal.Facts] : Prop :=
  ∀ (m : (ℓ : Loc Cert.AdInReferenceIdeal.nD Cert.AdInReferenceIdeal.τ Cert.AdInReferenceIdeal.sig) → Buf (Elt Ideal) ℓ) (g : Dev Cert.AdInReferenceIdeal.nD → PrngReg), Pre_AdInReferenceIdeal m →
    θ_run (Cert.AdInReferenceIdeal.defs (F := Ideal)) (onTc (τ := Cert.AdInReferenceIdeal.τ) (Cert.AdInReferenceIdeal.main (F := Ideal))) ⟨m, fun _ => 0, g⟩ (fun r => (∀ c : Dev Cert.AdInReferenceIdeal.nD,
      r.2.mem ((c.tc : Thread Cert.AdInReferenceIdeal.nD Cert.AdInReferenceIdeal.τ).loc Cert.AdInReferenceIdeal.main_arg0) = m ((c.tc : Thread Cert.AdInReferenceIdeal.nD Cert.AdInReferenceIdeal.τ).loc Cert.AdInReferenceIdeal.main_arg0)
      ∧ r.2.mem ((c.tc : Thread Cert.AdInReferenceIdeal.nD Cert.AdInReferenceIdeal.τ).loc Cert.AdInReferenceIdeal.main_arg1) = m ((c.tc : Thread Cert.AdInReferenceIdeal.nD Cert.AdInReferenceIdeal.τ).loc Cert.AdInReferenceIdeal.main_arg1)
      ∧ r.2.mem ((c.tc : Thread Cert.AdInReferenceIdeal.nD Cert.AdInReferenceIdeal.τ).loc Cert.AdInReferenceIdeal.main_arg2) = m ((c.tc : Thread Cert.AdInReferenceIdeal.nD Cert.AdInReferenceIdeal.τ).loc Cert.AdInReferenceIdeal.main_arg2)
      ∧ r.2.mem ((c.tc : Thread Cert.AdInReferenceIdeal.nD Cert.AdInReferenceIdeal.τ).loc Cert.AdInReferenceIdeal.main_arg3) = m ((c.tc : Thread Cert.AdInReferenceIdeal.nD Cert.AdInReferenceIdeal.τ).loc Cert.AdInReferenceIdeal.main_arg3)
      ∧ r.2.mem ((c.tc : Thread Cert.AdInReferenceIdeal.nD Cert.AdInReferenceIdeal.τ).loc Cert.AdInReferenceIdeal.main_arg4) = m ((c.tc : Thread Cert.AdInReferenceIdeal.nD Cert.AdInReferenceIdeal.τ).loc Cert.AdInReferenceIdeal.main_arg4)
      ∧ r.2.mem ((c.tc : Thread Cert.AdInReferenceIdeal.nD Cert.AdInReferenceIdeal.τ).loc Cert.AdInReferenceIdeal.main_arg5) = m ((c.tc : Thread Cert.AdInReferenceIdeal.nD Cert.AdInReferenceIdeal.τ).loc Cert.AdInReferenceIdeal.main_arg5))
      ∧ r.2.sem = fun _ => 0)

def quiescent_AdOut [hAdOut : Cert.AdOut.Facts] : Prop :=
  ∀ (m : (ℓ : Loc Cert.AdOut.nD Cert.AdOut.τ Cert.AdOut.sig) → Buf (Elt Bits) ℓ) (g : Dev Cert.AdOut.nD → PrngReg), Pre_AdOut m →
    θ_run (Cert.AdOut.defs (F := Bits)) (onTc (τ := Cert.AdOut.τ) (Cert.AdOut.main (F := Bits))) ⟨m, fun _ => 0, g⟩ (fun r => (∀ c : Dev Cert.AdOut.nD,
      r.2.mem ((c.tc : Thread Cert.AdOut.nD Cert.AdOut.τ).loc Cert.AdOut.main_arg0) = m ((c.tc : Thread Cert.AdOut.nD Cert.AdOut.τ).loc Cert.AdOut.main_arg0)
      ∧ r.2.mem ((c.tc : Thread Cert.AdOut.nD Cert.AdOut.τ).loc Cert.AdOut.main_arg1) = m ((c.tc : Thread Cert.AdOut.nD Cert.AdOut.τ).loc Cert.AdOut.main_arg1)
      ∧ r.2.mem ((c.tc : Thread Cert.AdOut.nD Cert.AdOut.τ).loc Cert.AdOut.main_arg2) = m ((c.tc : Thread Cert.AdOut.nD Cert.AdOut.τ).loc Cert.AdOut.main_arg2)
      ∧ r.2.mem ((c.tc : Thread Cert.AdOut.nD Cert.AdOut.τ).loc Cert.AdOut.main_arg3) = m ((c.tc : Thread Cert.AdOut.nD Cert.AdOut.τ).loc Cert.AdOut.main_arg3)
      ∧ r.2.mem ((c.tc : Thread Cert.AdOut.nD Cert.AdOut.τ).loc Cert.AdOut.main_arg4) = m ((c.tc : Thread Cert.AdOut.nD Cert.AdOut.τ).loc Cert.AdOut.main_arg4)
      ∧ r.2.mem ((c.tc : Thread Cert.AdOut.nD Cert.AdOut.τ).loc Cert.AdOut.main_arg5) = m ((c.tc : Thread Cert.AdOut.nD Cert.AdOut.τ).loc Cert.AdOut.main_arg5))
      ∧ r.2.sem = fun _ => 0)

def quiescent_AdOutIdeal [hAdOutIdeal : Cert.AdOutIdeal.Facts] : Prop :=
  ∀ (m : (ℓ : Loc Cert.AdOutIdeal.nD Cert.AdOutIdeal.τ Cert.AdOutIdeal.sig) → Buf (Elt Ideal) ℓ) (g : Dev Cert.AdOutIdeal.nD → PrngReg), Pre_AdOutIdeal m →
    θ_run (Cert.AdOutIdeal.defs (F := Ideal)) (onTc (τ := Cert.AdOutIdeal.τ) (Cert.AdOutIdeal.main (F := Ideal))) ⟨m, fun _ => 0, g⟩ (fun r => (∀ c : Dev Cert.AdOutIdeal.nD,
      r.2.mem ((c.tc : Thread Cert.AdOutIdeal.nD Cert.AdOutIdeal.τ).loc Cert.AdOutIdeal.main_arg0) = m ((c.tc : Thread Cert.AdOutIdeal.nD Cert.AdOutIdeal.τ).loc Cert.AdOutIdeal.main_arg0)
      ∧ r.2.mem ((c.tc : Thread Cert.AdOutIdeal.nD Cert.AdOutIdeal.τ).loc Cert.AdOutIdeal.main_arg1) = m ((c.tc : Thread Cert.AdOutIdeal.nD Cert.AdOutIdeal.τ).loc Cert.AdOutIdeal.main_arg1)
      ∧ r.2.mem ((c.tc : Thread Cert.AdOutIdeal.nD Cert.AdOutIdeal.τ).loc Cert.AdOutIdeal.main_arg2) = m ((c.tc : Thread Cert.AdOutIdeal.nD Cert.AdOutIdeal.τ).loc Cert.AdOutIdeal.main_arg2)
      ∧ r.2.mem ((c.tc : Thread Cert.AdOutIdeal.nD Cert.AdOutIdeal.τ).loc Cert.AdOutIdeal.main_arg3) = m ((c.tc : Thread Cert.AdOutIdeal.nD Cert.AdOutIdeal.τ).loc Cert.AdOutIdeal.main_arg3)
      ∧ r.2.mem ((c.tc : Thread Cert.AdOutIdeal.nD Cert.AdOutIdeal.τ).loc Cert.AdOutIdeal.main_arg4) = m ((c.tc : Thread Cert.AdOutIdeal.nD Cert.AdOutIdeal.τ).loc Cert.AdOutIdeal.main_arg4)
      ∧ r.2.mem ((c.tc : Thread Cert.AdOutIdeal.nD Cert.AdOutIdeal.τ).loc Cert.AdOutIdeal.main_arg5) = m ((c.tc : Thread Cert.AdOutIdeal.nD Cert.AdOutIdeal.τ).loc Cert.AdOutIdeal.main_arg5))
      ∧ r.2.sem = fun _ => 0)

def quiescent_AdOutReferenceIdeal [hAdOutReferenceIdeal : Cert.AdOutReferenceIdeal.Facts] : Prop :=
  ∀ (m : (ℓ : Loc Cert.AdOutReferenceIdeal.nD Cert.AdOutReferenceIdeal.τ Cert.AdOutReferenceIdeal.sig) → Buf (Elt Ideal) ℓ) (g : Dev Cert.AdOutReferenceIdeal.nD → PrngReg), Pre_AdOutReferenceIdeal m →
    θ_run (Cert.AdOutReferenceIdeal.defs (F := Ideal)) (onTc (τ := Cert.AdOutReferenceIdeal.τ) (Cert.AdOutReferenceIdeal.main (F := Ideal))) ⟨m, fun _ => 0, g⟩ (fun r => (∀ c : Dev Cert.AdOutReferenceIdeal.nD,
      r.2.mem ((c.tc : Thread Cert.AdOutReferenceIdeal.nD Cert.AdOutReferenceIdeal.τ).loc Cert.AdOutReferenceIdeal.main_arg0) = m ((c.tc : Thread Cert.AdOutReferenceIdeal.nD Cert.AdOutReferenceIdeal.τ).loc Cert.AdOutReferenceIdeal.main_arg0)
      ∧ r.2.mem ((c.tc : Thread Cert.AdOutReferenceIdeal.nD Cert.AdOutReferenceIdeal.τ).loc Cert.AdOutReferenceIdeal.main_arg1) = m ((c.tc : Thread Cert.AdOutReferenceIdeal.nD Cert.AdOutReferenceIdeal.τ).loc Cert.AdOutReferenceIdeal.main_arg1)
      ∧ r.2.mem ((c.tc : Thread Cert.AdOutReferenceIdeal.nD Cert.AdOutReferenceIdeal.τ).loc Cert.AdOutReferenceIdeal.main_arg2) = m ((c.tc : Thread Cert.AdOutReferenceIdeal.nD Cert.AdOutReferenceIdeal.τ).loc Cert.AdOutReferenceIdeal.main_arg2)
      ∧ r.2.mem ((c.tc : Thread Cert.AdOutReferenceIdeal.nD Cert.AdOutReferenceIdeal.τ).loc Cert.AdOutReferenceIdeal.main_arg3) = m ((c.tc : Thread Cert.AdOutReferenceIdeal.nD Cert.AdOutReferenceIdeal.τ).loc Cert.AdOutReferenceIdeal.main_arg3)
      ∧ r.2.mem ((c.tc : Thread Cert.AdOutReferenceIdeal.nD Cert.AdOutReferenceIdeal.τ).loc Cert.AdOutReferenceIdeal.main_arg4) = m ((c.tc : Thread Cert.AdOutReferenceIdeal.nD Cert.AdOutReferenceIdeal.τ).loc Cert.AdOutReferenceIdeal.main_arg4)
      ∧ r.2.mem ((c.tc : Thread Cert.AdOutReferenceIdeal.nD Cert.AdOutReferenceIdeal.τ).loc Cert.AdOutReferenceIdeal.main_arg5) = m ((c.tc : Thread Cert.AdOutReferenceIdeal.nD Cert.AdOutReferenceIdeal.τ).loc Cert.AdOutReferenceIdeal.main_arg5))
      ∧ r.2.sem = fun _ => 0)

def quiescent_AdUp [hAdUp : Cert.AdUp.Facts] : Prop :=
  ∀ (m : (ℓ : Loc Cert.AdUp.nD Cert.AdUp.τ Cert.AdUp.sig) → Buf (Elt Bits) ℓ) (g : Dev Cert.AdUp.nD → PrngReg), Pre_AdUp m →
    θ_run (Cert.AdUp.defs (F := Bits)) (onTc (τ := Cert.AdUp.τ) (Cert.AdUp.main (F := Bits))) ⟨m, fun _ => 0, g⟩ (fun r => (∀ c : Dev Cert.AdUp.nD,
      r.2.mem ((c.tc : Thread Cert.AdUp.nD Cert.AdUp.τ).loc Cert.AdUp.main_arg0) = m ((c.tc : Thread Cert.AdUp.nD Cert.AdUp.τ).loc Cert.AdUp.main_arg0)
      ∧ r.2.mem ((c.tc : Thread Cert.AdUp.nD Cert.AdUp.τ).loc Cert.AdUp.main_arg1) = m ((c.tc : Thread Cert.AdUp.nD Cert.AdUp.τ).loc Cert.AdUp.main_arg1)
      ∧ r.2.mem ((c.tc : Thread Cert.AdUp.nD Cert.AdUp.τ).loc Cert.AdUp.main_arg2) = m ((c.tc : Thread Cert.AdUp.nD Cert.AdUp.τ).loc Cert.AdUp.main_arg2)
      ∧ r.2.mem ((c.tc : Thread Cert.AdUp.nD Cert.AdUp.τ).loc Cert.AdUp.main_arg3) = m ((c.tc : Thread Cert.AdUp.nD Cert.AdUp.τ).loc Cert.AdUp.main_arg3)
      ∧ r.2.mem ((c.tc : Thread Cert.AdUp.nD Cert.AdUp.τ).loc Cert.AdUp.main_arg4) = m ((c.tc : Thread Cert.AdUp.nD Cert.AdUp.τ).loc Cert.AdUp.main_arg4)
      ∧ r.2.mem ((c.tc : Thread Cert.AdUp.nD Cert.AdUp.τ).loc Cert.AdUp.main_arg5) = m ((c.tc : Thread Cert.AdUp.nD Cert.AdUp.τ).loc Cert.AdUp.main_arg5))
      ∧ r.2.sem = fun _ => 0)

def quiescent_AdUpIdeal [hAdUpIdeal : Cert.AdUpIdeal.Facts] : Prop :=
  ∀ (m : (ℓ : Loc Cert.AdUpIdeal.nD Cert.AdUpIdeal.τ Cert.AdUpIdeal.sig) → Buf (Elt Ideal) ℓ) (g : Dev Cert.AdUpIdeal.nD → PrngReg), Pre_AdUpIdeal m →
    θ_run (Cert.AdUpIdeal.defs (F := Ideal)) (onTc (τ := Cert.AdUpIdeal.τ) (Cert.AdUpIdeal.main (F := Ideal))) ⟨m, fun _ => 0, g⟩ (fun r => (∀ c : Dev Cert.AdUpIdeal.nD,
      r.2.mem ((c.tc : Thread Cert.AdUpIdeal.nD Cert.AdUpIdeal.τ).loc Cert.AdUpIdeal.main_arg0) = m ((c.tc : Thread Cert.AdUpIdeal.nD Cert.AdUpIdeal.τ).loc Cert.AdUpIdeal.main_arg0)
      ∧ r.2.mem ((c.tc : Thread Cert.AdUpIdeal.nD Cert.AdUpIdeal.τ).loc Cert.AdUpIdeal.main_arg1) = m ((c.tc : Thread Cert.AdUpIdeal.nD Cert.AdUpIdeal.τ).loc Cert.AdUpIdeal.main_arg1)
      ∧ r.2.mem ((c.tc : Thread Cert.AdUpIdeal.nD Cert.AdUpIdeal.τ).loc Cert.AdUpIdeal.main_arg2) = m ((c.tc : Thread Cert.AdUpIdeal.nD Cert.AdUpIdeal.τ).loc Cert.AdUpIdeal.main_arg2)
      ∧ r.2.mem ((c.tc : Thread Cert.AdUpIdeal.nD Cert.AdUpIdeal.τ).loc Cert.AdUpIdeal.main_arg3) = m ((c.tc : Thread Cert.AdUpIdeal.nD Cert.AdUpIdeal.τ).loc Cert.AdUpIdeal.main_arg3)
      ∧ r.2.mem ((c.tc : Thread Cert.AdUpIdeal.nD Cert.AdUpIdeal.τ).loc Cert.AdUpIdeal.main_arg4) = m ((c.tc : Thread Cert.AdUpIdeal.nD Cert.AdUpIdeal.τ).loc Cert.AdUpIdeal.main_arg4)
      ∧ r.2.mem ((c.tc : Thread Cert.AdUpIdeal.nD Cert.AdUpIdeal.τ).loc Cert.AdUpIdeal.main_arg5) = m ((c.tc : Thread Cert.AdUpIdeal.nD Cert.AdUpIdeal.τ).loc Cert.AdUpIdeal.main_arg5))
      ∧ r.2.sem = fun _ => 0)

def quiescent_AdUpReferenceIdeal [hAdUpReferenceIdeal : Cert.AdUpReferenceIdeal.Facts] : Prop :=
  ∀ (m : (ℓ : Loc Cert.AdUpReferenceIdeal.nD Cert.AdUpReferenceIdeal.τ Cert.AdUpReferenceIdeal.sig) → Buf (Elt Ideal) ℓ) (g : Dev Cert.AdUpReferenceIdeal.nD → PrngReg), Pre_AdUpReferenceIdeal m →
    θ_run (Cert.AdUpReferenceIdeal.defs (F := Ideal)) (onTc (τ := Cert.AdUpReferenceIdeal.τ) (Cert.AdUpReferenceIdeal.main (F := Ideal))) ⟨m, fun _ => 0, g⟩ (fun r => (∀ c : Dev Cert.AdUpReferenceIdeal.nD,
      r.2.mem ((c.tc : Thread Cert.AdUpReferenceIdeal.nD Cert.AdUpReferenceIdeal.τ).loc Cert.AdUpReferenceIdeal.main_arg0) = m ((c.tc : Thread Cert.AdUpReferenceIdeal.nD Cert.AdUpReferenceIdeal.τ).loc Cert.AdUpReferenceIdeal.main_arg0)
      ∧ r.2.mem ((c.tc : Thread Cert.AdUpReferenceIdeal.nD Cert.AdUpReferenceIdeal.τ).loc Cert.AdUpReferenceIdeal.main_arg1) = m ((c.tc : Thread Cert.AdUpReferenceIdeal.nD Cert.AdUpReferenceIdeal.τ).loc Cert.AdUpReferenceIdeal.main_arg1)
      ∧ r.2.mem ((c.tc : Thread Cert.AdUpReferenceIdeal.nD Cert.AdUpReferenceIdeal.τ).loc Cert.AdUpReferenceIdeal.main_arg2) = m ((c.tc : Thread Cert.AdUpReferenceIdeal.nD Cert.AdUpReferenceIdeal.τ).loc Cert.AdUpReferenceIdeal.main_arg2)
      ∧ r.2.mem ((c.tc : Thread Cert.AdUpReferenceIdeal.nD Cert.AdUpReferenceIdeal.τ).loc Cert.AdUpReferenceIdeal.main_arg3) = m ((c.tc : Thread Cert.AdUpReferenceIdeal.nD Cert.AdUpReferenceIdeal.τ).loc Cert.AdUpReferenceIdeal.main_arg3)
      ∧ r.2.mem ((c.tc : Thread Cert.AdUpReferenceIdeal.nD Cert.AdUpReferenceIdeal.τ).loc Cert.AdUpReferenceIdeal.main_arg4) = m ((c.tc : Thread Cert.AdUpReferenceIdeal.nD Cert.AdUpReferenceIdeal.τ).loc Cert.AdUpReferenceIdeal.main_arg4)
      ∧ r.2.mem ((c.tc : Thread Cert.AdUpReferenceIdeal.nD Cert.AdUpReferenceIdeal.τ).loc Cert.AdUpReferenceIdeal.main_arg5) = m ((c.tc : Thread Cert.AdUpReferenceIdeal.nD Cert.AdUpReferenceIdeal.τ).loc Cert.AdUpReferenceIdeal.main_arg5))
      ∧ r.2.sem = fun _ => 0)

def quiescent_AdDown [hAdDown : Cert.AdDown.Facts] : Prop :=
  ∀ (m : (ℓ : Loc Cert.AdDown.nD Cert.AdDown.τ Cert.AdDown.sig) → Buf (Elt Bits) ℓ) (g : Dev Cert.AdDown.nD → PrngReg), Pre_AdDown m →
    θ_run (Cert.AdDown.defs (F := Bits)) (onTc (τ := Cert.AdDown.τ) (Cert.AdDown.main (F := Bits))) ⟨m, fun _ => 0, g⟩ (fun r => (∀ c : Dev Cert.AdDown.nD,
      r.2.mem ((c.tc : Thread Cert.AdDown.nD Cert.AdDown.τ).loc Cert.AdDown.main_arg0) = m ((c.tc : Thread Cert.AdDown.nD Cert.AdDown.τ).loc Cert.AdDown.main_arg0)
      ∧ r.2.mem ((c.tc : Thread Cert.AdDown.nD Cert.AdDown.τ).loc Cert.AdDown.main_arg1) = m ((c.tc : Thread Cert.AdDown.nD Cert.AdDown.τ).loc Cert.AdDown.main_arg1)
      ∧ r.2.mem ((c.tc : Thread Cert.AdDown.nD Cert.AdDown.τ).loc Cert.AdDown.main_arg2) = m ((c.tc : Thread Cert.AdDown.nD Cert.AdDown.τ).loc Cert.AdDown.main_arg2)
      ∧ r.2.mem ((c.tc : Thread Cert.AdDown.nD Cert.AdDown.τ).loc Cert.AdDown.main_arg3) = m ((c.tc : Thread Cert.AdDown.nD Cert.AdDown.τ).loc Cert.AdDown.main_arg3)
      ∧ r.2.mem ((c.tc : Thread Cert.AdDown.nD Cert.AdDown.τ).loc Cert.AdDown.main_arg4) = m ((c.tc : Thread Cert.AdDown.nD Cert.AdDown.τ).loc Cert.AdDown.main_arg4)
      ∧ r.2.mem ((c.tc : Thread Cert.AdDown.nD Cert.AdDown.τ).loc Cert.AdDown.main_arg5) = m ((c.tc : Thread Cert.AdDown.nD Cert.AdDown.τ).loc Cert.AdDown.main_arg5))
      ∧ r.2.sem = fun _ => 0)

def quiescent_AdDownIdeal [hAdDownIdeal : Cert.AdDownIdeal.Facts] : Prop :=
  ∀ (m : (ℓ : Loc Cert.AdDownIdeal.nD Cert.AdDownIdeal.τ Cert.AdDownIdeal.sig) → Buf (Elt Ideal) ℓ) (g : Dev Cert.AdDownIdeal.nD → PrngReg), Pre_AdDownIdeal m →
    θ_run (Cert.AdDownIdeal.defs (F := Ideal)) (onTc (τ := Cert.AdDownIdeal.τ) (Cert.AdDownIdeal.main (F := Ideal))) ⟨m, fun _ => 0, g⟩ (fun r => (∀ c : Dev Cert.AdDownIdeal.nD,
      r.2.mem ((c.tc : Thread Cert.AdDownIdeal.nD Cert.AdDownIdeal.τ).loc Cert.AdDownIdeal.main_arg0) = m ((c.tc : Thread Cert.AdDownIdeal.nD Cert.AdDownIdeal.τ).loc Cert.AdDownIdeal.main_arg0)
      ∧ r.2.mem ((c.tc : Thread Cert.AdDownIdeal.nD Cert.AdDownIdeal.τ).loc Cert.AdDownIdeal.main_arg1) = m ((c.tc : Thread Cert.AdDownIdeal.nD Cert.AdDownIdeal.τ).loc Cert.AdDownIdeal.main_arg1)
      ∧ r.2.mem ((c.tc : Thread Cert.AdDownIdeal.nD Cert.AdDownIdeal.τ).loc Cert.AdDownIdeal.main_arg2) = m ((c.tc : Thread Cert.AdDownIdeal.nD Cert.AdDownIdeal.τ).loc Cert.AdDownIdeal.main_arg2)
      ∧ r.2.mem ((c.tc : Thread Cert.AdDownIdeal.nD Cert.AdDownIdeal.τ).loc Cert.AdDownIdeal.main_arg3) = m ((c.tc : Thread Cert.AdDownIdeal.nD Cert.AdDownIdeal.τ).loc Cert.AdDownIdeal.main_arg3)
      ∧ r.2.mem ((c.tc : Thread Cert.AdDownIdeal.nD Cert.AdDownIdeal.τ).loc Cert.AdDownIdeal.main_arg4) = m ((c.tc : Thread Cert.AdDownIdeal.nD Cert.AdDownIdeal.τ).loc Cert.AdDownIdeal.main_arg4)
      ∧ r.2.mem ((c.tc : Thread Cert.AdDownIdeal.nD Cert.AdDownIdeal.τ).loc Cert.AdDownIdeal.main_arg5) = m ((c.tc : Thread Cert.AdDownIdeal.nD Cert.AdDownIdeal.τ).loc Cert.AdDownIdeal.main_arg5))
      ∧ r.2.sem = fun _ => 0)

def quiescent_AdDownReferenceIdeal [hAdDownReferenceIdeal : Cert.AdDownReferenceIdeal.Facts] : Prop :=
  ∀ (m : (ℓ : Loc Cert.AdDownReferenceIdeal.nD Cert.AdDownReferenceIdeal.τ Cert.AdDownReferenceIdeal.sig) → Buf (Elt Ideal) ℓ) (g : Dev Cert.AdDownReferenceIdeal.nD → PrngReg), Pre_AdDownReferenceIdeal m →
    θ_run (Cert.AdDownReferenceIdeal.defs (F := Ideal)) (onTc (τ := Cert.AdDownReferenceIdeal.τ) (Cert.AdDownReferenceIdeal.main (F := Ideal))) ⟨m, fun _ => 0, g⟩ (fun r => (∀ c : Dev Cert.AdDownReferenceIdeal.nD,
      r.2.mem ((c.tc : Thread Cert.AdDownReferenceIdeal.nD Cert.AdDownReferenceIdeal.τ).loc Cert.AdDownReferenceIdeal.main_arg0) = m ((c.tc : Thread Cert.AdDownReferenceIdeal.nD Cert.AdDownReferenceIdeal.τ).loc Cert.AdDownReferenceIdeal.main_arg0)
      ∧ r.2.mem ((c.tc : Thread Cert.AdDownReferenceIdeal.nD Cert.AdDownReferenceIdeal.τ).loc Cert.AdDownReferenceIdeal.main_arg1) = m ((c.tc : Thread Cert.AdDownReferenceIdeal.nD Cert.AdDownReferenceIdeal.τ).loc Cert.AdDownReferenceIdeal.main_arg1)
      ∧ r.2.mem ((c.tc : Thread Cert.AdDownReferenceIdeal.nD Cert.AdDownReferenceIdeal.τ).loc Cert.AdDownReferenceIdeal.main_arg2) = m ((c.tc : Thread Cert.AdDownReferenceIdeal.nD Cert.AdDownReferenceIdeal.τ).loc Cert.AdDownReferenceIdeal.main_arg2)
      ∧ r.2.mem ((c.tc : Thread Cert.AdDownReferenceIdeal.nD Cert.AdDownReferenceIdeal.τ).loc Cert.AdDownReferenceIdeal.main_arg3) = m ((c.tc : Thread Cert.AdDownReferenceIdeal.nD Cert.AdDownReferenceIdeal.τ).loc Cert.AdDownReferenceIdeal.main_arg3)
      ∧ r.2.mem ((c.tc : Thread Cert.AdDownReferenceIdeal.nD Cert.AdDownReferenceIdeal.τ).loc Cert.AdDownReferenceIdeal.main_arg4) = m ((c.tc : Thread Cert.AdDownReferenceIdeal.nD Cert.AdDownReferenceIdeal.τ).loc Cert.AdDownReferenceIdeal.main_arg4)
      ∧ r.2.mem ((c.tc : Thread Cert.AdDownReferenceIdeal.nD Cert.AdDownReferenceIdeal.τ).loc Cert.AdDownReferenceIdeal.main_arg5) = m ((c.tc : Thread Cert.AdDownReferenceIdeal.nD Cert.AdDownReferenceIdeal.τ).loc Cert.AdDownReferenceIdeal.main_arg5))
      ∧ r.2.sem = fun _ => 0)

def quiescent_AdSmall [hAdSmall : Cert.AdSmall.Facts] : Prop :=
  ∀ (m : (ℓ : Loc Cert.AdSmall.nD Cert.AdSmall.τ Cert.AdSmall.sig) → Buf (Elt Bits) ℓ) (g : Dev Cert.AdSmall.nD → PrngReg), Pre_AdSmall m →
    θ_run (Cert.AdSmall.defs (F := Bits)) (onTc (τ := Cert.AdSmall.τ) (Cert.AdSmall.main (F := Bits))) ⟨m, fun _ => 0, g⟩ (fun r => (∀ c : Dev Cert.AdSmall.nD,
      r.2.mem ((c.tc : Thread Cert.AdSmall.nD Cert.AdSmall.τ).loc Cert.AdSmall.main_arg0) = m ((c.tc : Thread Cert.AdSmall.nD Cert.AdSmall.τ).loc Cert.AdSmall.main_arg0)
      ∧ r.2.mem ((c.tc : Thread Cert.AdSmall.nD Cert.AdSmall.τ).loc Cert.AdSmall.main_arg1) = m ((c.tc : Thread Cert.AdSmall.nD Cert.AdSmall.τ).loc Cert.AdSmall.main_arg1)
      ∧ r.2.mem ((c.tc : Thread Cert.AdSmall.nD Cert.AdSmall.τ).loc Cert.AdSmall.main_arg2) = m ((c.tc : Thread Cert.AdSmall.nD Cert.AdSmall.τ).loc Cert.AdSmall.main_arg2)
      ∧ r.2.mem ((c.tc : Thread Cert.AdSmall.nD Cert.AdSmall.τ).loc Cert.AdSmall.main_arg3) = m ((c.tc : Thread Cert.AdSmall.nD Cert.AdSmall.τ).loc Cert.AdSmall.main_arg3))
      ∧ r.2.sem = fun _ => 0)

def quiescent_AdSmallIdeal [hAdSmallIdeal : Cert.AdSmallIdeal.Facts] : Prop :=
  ∀ (m : (ℓ : Loc Cert.AdSmallIdeal.nD Cert.AdSmallIdeal.τ Cert.AdSmallIdeal.sig) → Buf (Elt Ideal) ℓ) (g : Dev Cert.AdSmallIdeal.nD → PrngReg), Pre_AdSmallIdeal m →
    θ_run (Cert.AdSmallIdeal.defs (F := Ideal)) (onTc (τ := Cert.AdSmallIdeal.τ) (Cert.AdSmallIdeal.main (F := Ideal))) ⟨m, fun _ => 0, g⟩ (fun r => (∀ c : Dev Cert.AdSmallIdeal.nD,
      r.2.mem ((c.tc : Thread Cert.AdSmallIdeal.nD Cert.AdSmallIdeal.τ).loc Cert.AdSmallIdeal.main_arg0) = m ((c.tc : Thread Cert.AdSmallIdeal.nD Cert.AdSmallIdeal.τ).loc Cert.AdSmallIdeal.main_arg0)
      ∧ r.2.mem ((c.tc : Thread Cert.AdSmallIdeal.nD Cert.AdSmallIdeal.τ).loc Cert.AdSmallIdeal.main_arg1) = m ((c.tc : Thread Cert.AdSmallIdeal.nD Cert.AdSmallIdeal.τ).loc Cert.AdSmallIdeal.main_arg1)
      ∧ r.2.mem ((c.tc : Thread Cert.AdSmallIdeal.nD Cert.AdSmallIdeal.τ).loc Cert.AdSmallIdeal.main_arg2) = m ((c.tc : Thread Cert.AdSmallIdeal.nD Cert.AdSmallIdeal.τ).loc Cert.AdSmallIdeal.main_arg2)
      ∧ r.2.mem ((c.tc : Thread Cert.AdSmallIdeal.nD Cert.AdSmallIdeal.τ).loc Cert.AdSmallIdeal.main_arg3) = m ((c.tc : Thread Cert.AdSmallIdeal.nD Cert.AdSmallIdeal.τ).loc Cert.AdSmallIdeal.main_arg3))
      ∧ r.2.sem = fun _ => 0)

def quiescent_AdSmallReferenceIdeal [hAdSmallReferenceIdeal : Cert.AdSmallReferenceIdeal.Facts] : Prop :=
  ∀ (m : (ℓ : Loc Cert.AdSmallReferenceIdeal.nD Cert.AdSmallReferenceIdeal.τ Cert.AdSmallReferenceIdeal.sig) → Buf (Elt Ideal) ℓ) (g : Dev Cert.AdSmallReferenceIdeal.nD → PrngReg), Pre_AdSmallReferenceIdeal m →
    θ_run (Cert.AdSmallReferenceIdeal.defs (F := Ideal)) (onTc (τ := Cert.AdSmallReferenceIdeal.τ) (Cert.AdSmallReferenceIdeal.main (F := Ideal))) ⟨m, fun _ => 0, g⟩ (fun r => (∀ c : Dev Cert.AdSmallReferenceIdeal.nD,
      r.2.mem ((c.tc : Thread Cert.AdSmallReferenceIdeal.nD Cert.AdSmallReferenceIdeal.τ).loc Cert.AdSmallReferenceIdeal.main_arg0) = m ((c.tc : Thread Cert.AdSmallReferenceIdeal.nD Cert.AdSmallReferenceIdeal.τ).loc Cert.AdSmallReferenceIdeal.main_arg0)
      ∧ r.2.mem ((c.tc : Thread Cert.AdSmallReferenceIdeal.nD Cert.AdSmallReferenceIdeal.τ).loc Cert.AdSmallReferenceIdeal.main_arg1) = m ((c.tc : Thread Cert.AdSmallReferenceIdeal.nD Cert.AdSmallReferenceIdeal.τ).loc Cert.AdSmallReferenceIdeal.main_arg1)
      ∧ r.2.mem ((c.tc : Thread Cert.AdSmallReferenceIdeal.nD Cert.AdSmallReferenceIdeal.τ).loc Cert.AdSmallReferenceIdeal.main_arg2) = m ((c.tc : Thread Cert.AdSmallReferenceIdeal.nD Cert.AdSmallReferenceIdeal.τ).loc Cert.AdSmallReferenceIdeal.main_arg2)
      ∧ r.2.mem ((c.tc : Thread Cert.AdSmallReferenceIdeal.nD Cert.AdSmallReferenceIdeal.τ).loc Cert.AdSmallReferenceIdeal.main_arg3) = m ((c.tc : Thread Cert.AdSmallReferenceIdeal.nD Cert.AdSmallReferenceIdeal.τ).loc Cert.AdSmallReferenceIdeal.main_arg3))
      ∧ r.2.sem = fun _ => 0)

def quiescent_Rpre [hRpre : Cert.Rpre.Facts] : Prop :=
  ∀ (m : (ℓ : Loc Cert.Rpre.nD Cert.Rpre.τ Cert.Rpre.sig) → Buf (Elt Bits) ℓ) (g : Dev Cert.Rpre.nD → PrngReg), Pre_Rpre m →
    θ_run (Cert.Rpre.defs (F := Bits)) (onTc (τ := Cert.Rpre.τ) (Cert.Rpre.main (F := Bits))) ⟨m, fun _ => 0, g⟩ (fun r => (∀ c : Dev Cert.Rpre.nD,
      r.2.mem ((c.tc : Thread Cert.Rpre.nD Cert.Rpre.τ).loc Cert.Rpre.main_arg0) = m ((c.tc : Thread Cert.Rpre.nD Cert.Rpre.τ).loc Cert.Rpre.main_arg0)
      ∧ r.2.mem ((c.tc : Thread Cert.Rpre.nD Cert.Rpre.τ).loc Cert.Rpre.main_arg1) = m ((c.tc : Thread Cert.Rpre.nD Cert.Rpre.τ).loc Cert.Rpre.main_arg1))
      ∧ r.2.sem = fun _ => 0)

def quiescent_RpreIdeal [hRpreIdeal : Cert.RpreIdeal.Facts] : Prop :=
  ∀ (m : (ℓ : Loc Cert.RpreIdeal.nD Cert.RpreIdeal.τ Cert.RpreIdeal.sig) → Buf (Elt Ideal) ℓ) (g : Dev Cert.RpreIdeal.nD → PrngReg), Pre_RpreIdeal m →
    θ_run (Cert.RpreIdeal.defs (F := Ideal)) (onTc (τ := Cert.RpreIdeal.τ) (Cert.RpreIdeal.main (F := Ideal))) ⟨m, fun _ => 0, g⟩ (fun r => (∀ c : Dev Cert.RpreIdeal.nD,
      r.2.mem ((c.tc : Thread Cert.RpreIdeal.nD Cert.RpreIdeal.τ).loc Cert.RpreIdeal.main_arg0) = m ((c.tc : Thread Cert.RpreIdeal.nD Cert.RpreIdeal.τ).loc Cert.RpreIdeal.main_arg0)
      ∧ r.2.mem ((c.tc : Thread Cert.RpreIdeal.nD Cert.RpreIdeal.τ).loc Cert.RpreIdeal.main_arg1) = m ((c.tc : Thread Cert.RpreIdeal.nD Cert.RpreIdeal.τ).loc Cert.RpreIdeal.main_arg1))
      ∧ r.2.sem = fun _ => 0)

def quiescent_RpreReferenceIdeal [hRpreReferenceIdeal : Cert.RpreReferenceIdeal.Facts] : Prop :=
  ∀ (m : (ℓ : Loc Cert.RpreReferenceIdeal.nD Cert.RpreReferenceIdeal.τ Cert.RpreReferenceIdeal.sig) → Buf (Elt Ideal) ℓ) (g : Dev Cert.RpreReferenceIdeal.nD → PrngReg), Pre_RpreReferenceIdeal m →
    θ_run (Cert.RpreReferenceIdeal.defs (F := Ideal)) (onTc (τ := Cert.RpreReferenceIdeal.τ) (Cert.RpreReferenceIdeal.main (F := Ideal))) ⟨m, fun _ => 0, g⟩ (fun r => (∀ c : Dev Cert.RpreReferenceIdeal.nD,
      r.2.mem ((c.tc : Thread Cert.RpreReferenceIdeal.nD Cert.RpreReferenceIdeal.τ).loc Cert.RpreReferenceIdeal.main_arg0) = m ((c.tc : Thread Cert.RpreReferenceIdeal.nD Cert.RpreReferenceIdeal.τ).loc Cert.RpreReferenceIdeal.main_arg0)
      ∧ r.2.mem ((c.tc : Thread Cert.RpreReferenceIdeal.nD Cert.RpreReferenceIdeal.τ).loc Cert.RpreReferenceIdeal.main_arg1) = m ((c.tc : Thread Cert.RpreReferenceIdeal.nD Cert.RpreReferenceIdeal.τ).loc Cert.RpreReferenceIdeal.main_arg1))
      ∧ r.2.sem = fun _ => 0)

def quiescent_Rpost [hRpost : Cert.Rpost.Facts] : Prop :=
  ∀ (m : (ℓ : Loc Cert.Rpost.nD Cert.Rpost.τ Cert.Rpost.sig) → Buf (Elt Bits) ℓ) (g : Dev Cert.Rpost.nD → PrngReg), Pre_Rpost m →
    θ_run (Cert.Rpost.defs (F := Bits)) (onTc (τ := Cert.Rpost.τ) (Cert.Rpost.main (F := Bits))) ⟨m, fun _ => 0, g⟩ (fun r => (∀ c : Dev Cert.Rpost.nD,
      r.2.mem ((c.tc : Thread Cert.Rpost.nD Cert.Rpost.τ).loc Cert.Rpost.main_arg0) = m ((c.tc : Thread Cert.Rpost.nD Cert.Rpost.τ).loc Cert.Rpost.main_arg0)
      ∧ r.2.mem ((c.tc : Thread Cert.Rpost.nD Cert.Rpost.τ).loc Cert.Rpost.main_arg1) = m ((c.tc : Thread Cert.Rpost.nD Cert.Rpost.τ).loc Cert.Rpost.main_arg1)
      ∧ r.2.mem ((c.tc : Thread Cert.Rpost.nD Cert.Rpost.τ).loc Cert.Rpost.main_arg2) = m ((c.tc : Thread Cert.Rpost.nD Cert.Rpost.τ).loc Cert.Rpost.main_arg2))
      ∧ r.2.sem = fun _ => 0)

def quiescent_RpostIdeal [hRpostIdeal : Cert.RpostIdeal.Facts] : Prop :=
  ∀ (m : (ℓ : Loc Cert.RpostIdeal.nD Cert.RpostIdeal.τ Cert.RpostIdeal.sig) → Buf (Elt Ideal) ℓ) (g : Dev Cert.RpostIdeal.nD → PrngReg), Pre_RpostIdeal m →
    θ_run (Cert.RpostIdeal.defs (F := Ideal)) (onTc (τ := Cert.RpostIdeal.τ) (Cert.RpostIdeal.main (F := Ideal))) ⟨m, fun _ => 0, g⟩ (fun r => (∀ c : Dev Cert.RpostIdeal.nD,
      r.2.mem ((c.tc : Thread Cert.RpostIdeal.nD Cert.RpostIdeal.τ).loc Cert.RpostIdeal.main_arg0) = m ((c.tc : Thread Cert.RpostIdeal.nD Cert.RpostIdeal.τ).loc Cert.RpostIdeal.main_arg0)
      ∧ r.2.mem ((c.tc : Thread Cert.RpostIdeal.nD Cert.RpostIdeal.τ).loc Cert.RpostIdeal.main_arg1) = m ((c.tc : Thread Cert.RpostIdeal.nD Cert.RpostIdeal.τ).loc Cert.RpostIdeal.main_arg1)
      ∧ r.2.mem ((c.tc : Thread Cert.RpostIdeal.nD Cert.RpostIdeal.τ).loc Cert.RpostIdeal.main_arg2) = m ((c.tc : Thread Cert.RpostIdeal.nD Cert.RpostIdeal.τ).loc Cert.RpostIdeal.main_arg2))
      ∧ r.2.sem = fun _ => 0)

def quiescent_RpostReferenceIdeal [hRpostReferenceIdeal : Cert.RpostReferenceIdeal.Facts] : Prop :=
  ∀ (m : (ℓ : Loc Cert.RpostReferenceIdeal.nD Cert.RpostReferenceIdeal.τ Cert.RpostReferenceIdeal.sig) → Buf (Elt Ideal) ℓ) (g : Dev Cert.RpostReferenceIdeal.nD → PrngReg), Pre_RpostReferenceIdeal m →
    θ_run (Cert.RpostReferenceIdeal.defs (F := Ideal)) (onTc (τ := Cert.RpostReferenceIdeal.τ) (Cert.RpostReferenceIdeal.main (F := Ideal))) ⟨m, fun _ => 0, g⟩ (fun r => (∀ c : Dev Cert.RpostReferenceIdeal.nD,
      r.2.mem ((c.tc : Thread Cert.RpostReferenceIdeal.nD Cert.RpostReferenceIdeal.τ).loc Cert.RpostReferenceIdeal.main_arg0) = m ((c.tc : Thread Cert.RpostReferenceIdeal.nD Cert.RpostReferenceIdeal.τ).loc Cert.RpostReferenceIdeal.main_arg0)
      ∧ r.2.mem ((c.tc : Thread Cert.RpostReferenceIdeal.nD Cert.RpostReferenceIdeal.τ).loc Cert.RpostReferenceIdeal.main_arg1) = m ((c.tc : Thread Cert.RpostReferenceIdeal.nD Cert.RpostReferenceIdeal.τ).loc Cert.RpostReferenceIdeal.main_arg1)
      ∧ r.2.mem ((c.tc : Thread Cert.RpostReferenceIdeal.nD Cert.RpostReferenceIdeal.τ).loc Cert.RpostReferenceIdeal.main_arg2) = m ((c.tc : Thread Cert.RpostReferenceIdeal.nD Cert.RpostReferenceIdeal.τ).loc Cert.RpostReferenceIdeal.main_arg2))
      ∧ r.2.sem = fun _ => 0)

def quiescent_Bpre [hBpre : Cert.Bpre.Facts] : Prop :=
  ∀ (m : (ℓ : Loc Cert.Bpre.nD Cert.Bpre.τ Cert.Bpre.sig) → Buf (Elt Bits) ℓ) (g : Dev Cert.Bpre.nD → PrngReg), Pre_Bpre m →
    θ_run (Cert.Bpre.defs (F := Bits)) (onTc (τ := Cert.Bpre.τ) (Cert.Bpre.main (F := Bits))) ⟨m, fun _ => 0, g⟩ (fun r => (∀ c : Dev Cert.Bpre.nD,
      r.2.mem ((c.tc : Thread Cert.Bpre.nD Cert.Bpre.τ).loc Cert.Bpre.main_arg0) = m ((c.tc : Thread Cert.Bpre.nD Cert.Bpre.τ).loc Cert.Bpre.main_arg0)
      ∧ r.2.mem ((c.tc : Thread Cert.Bpre.nD Cert.Bpre.τ).loc Cert.Bpre.main_arg1) = m ((c.tc : Thread Cert.Bpre.nD Cert.Bpre.τ).loc Cert.Bpre.main_arg1)
      ∧ r.2.mem ((c.tc : Thread Cert.Bpre.nD Cert.Bpre.τ).loc Cert.Bpre.main_arg2) = m ((c.tc : Thread Cert.Bpre.nD Cert.Bpre.τ).loc Cert.Bpre.main_arg2)
      ∧ r.2.mem ((c.tc : Thread Cert.Bpre.nD Cert.Bpre.τ).loc Cert.Bpre.main_arg3) = m ((c.tc : Thread Cert.Bpre.nD Cert.Bpre.τ).loc Cert.Bpre.main_arg3))
      ∧ r.2.sem = fun _ => 0)

def quiescent_BpreIdeal [hBpreIdeal : Cert.BpreIdeal.Facts] : Prop :=
  ∀ (m : (ℓ : Loc Cert.BpreIdeal.nD Cert.BpreIdeal.τ Cert.BpreIdeal.sig) → Buf (Elt Ideal) ℓ) (g : Dev Cert.BpreIdeal.nD → PrngReg), Pre_BpreIdeal m →
    θ_run (Cert.BpreIdeal.defs (F := Ideal)) (onTc (τ := Cert.BpreIdeal.τ) (Cert.BpreIdeal.main (F := Ideal))) ⟨m, fun _ => 0, g⟩ (fun r => (∀ c : Dev Cert.BpreIdeal.nD,
      r.2.mem ((c.tc : Thread Cert.BpreIdeal.nD Cert.BpreIdeal.τ).loc Cert.BpreIdeal.main_arg0) = m ((c.tc : Thread Cert.BpreIdeal.nD Cert.BpreIdeal.τ).loc Cert.BpreIdeal.main_arg0)
      ∧ r.2.mem ((c.tc : Thread Cert.BpreIdeal.nD Cert.BpreIdeal.τ).loc Cert.BpreIdeal.main_arg1) = m ((c.tc : Thread Cert.BpreIdeal.nD Cert.BpreIdeal.τ).loc Cert.BpreIdeal.main_arg1)
      ∧ r.2.mem ((c.tc : Thread Cert.BpreIdeal.nD Cert.BpreIdeal.τ).loc Cert.BpreIdeal.main_arg2) = m ((c.tc : Thread Cert.BpreIdeal.nD Cert.BpreIdeal.τ).loc Cert.BpreIdeal.main_arg2)
      ∧ r.2.mem ((c.tc : Thread Cert.BpreIdeal.nD Cert.BpreIdeal.τ).loc Cert.BpreIdeal.main_arg3) = m ((c.tc : Thread Cert.BpreIdeal.nD Cert.BpreIdeal.τ).loc Cert.BpreIdeal.main_arg3))
      ∧ r.2.sem = fun _ => 0)

def quiescent_BpreReferenceIdeal [hBpreReferenceIdeal : Cert.BpreReferenceIdeal.Facts] : Prop :=
  ∀ (m : (ℓ : Loc Cert.BpreReferenceIdeal.nD Cert.BpreReferenceIdeal.τ Cert.BpreReferenceIdeal.sig) → Buf (Elt Ideal) ℓ) (g : Dev Cert.BpreReferenceIdeal.nD → PrngReg), Pre_BpreReferenceIdeal m →
    θ_run (Cert.BpreReferenceIdeal.defs (F := Ideal)) (onTc (τ := Cert.BpreReferenceIdeal.τ) (Cert.BpreReferenceIdeal.main (F := Ideal))) ⟨m, fun _ => 0, g⟩ (fun r => (∀ c : Dev Cert.BpreReferenceIdeal.nD,
      r.2.mem ((c.tc : Thread Cert.BpreReferenceIdeal.nD Cert.BpreReferenceIdeal.τ).loc Cert.BpreReferenceIdeal.main_arg0) = m ((c.tc : Thread Cert.BpreReferenceIdeal.nD Cert.BpreReferenceIdeal.τ).loc Cert.BpreReferenceIdeal.main_arg0)
      ∧ r.2.mem ((c.tc : Thread Cert.BpreReferenceIdeal.nD Cert.BpreReferenceIdeal.τ).loc Cert.BpreReferenceIdeal.main_arg1) = m ((c.tc : Thread Cert.BpreReferenceIdeal.nD Cert.BpreReferenceIdeal.τ).loc Cert.BpreReferenceIdeal.main_arg1)
      ∧ r.2.mem ((c.tc : Thread Cert.BpreReferenceIdeal.nD Cert.BpreReferenceIdeal.τ).loc Cert.BpreReferenceIdeal.main_arg2) = m ((c.tc : Thread Cert.BpreReferenceIdeal.nD Cert.BpreReferenceIdeal.τ).loc Cert.BpreReferenceIdeal.main_arg2)
      ∧ r.2.mem ((c.tc : Thread Cert.BpreReferenceIdeal.nD Cert.BpreReferenceIdeal.τ).loc Cert.BpreReferenceIdeal.main_arg3) = m ((c.tc : Thread Cert.BpreReferenceIdeal.nD Cert.BpreReferenceIdeal.τ).loc Cert.BpreReferenceIdeal.main_arg3))
      ∧ r.2.sem = fun _ => 0)

def quiescent_Bpost [hBpost : Cert.Bpost.Facts] : Prop :=
  ∀ (m : (ℓ : Loc Cert.Bpost.nD Cert.Bpost.τ Cert.Bpost.sig) → Buf (Elt Bits) ℓ) (g : Dev Cert.Bpost.nD → PrngReg), Pre_Bpost m →
    θ_run (Cert.Bpost.defs (F := Bits)) (onTc (τ := Cert.Bpost.τ) (Cert.Bpost.main (F := Bits))) ⟨m, fun _ => 0, g⟩ (fun r => (∀ c : Dev Cert.Bpost.nD,
      r.2.mem ((c.tc : Thread Cert.Bpost.nD Cert.Bpost.τ).loc Cert.Bpost.main_arg0) = m ((c.tc : Thread Cert.Bpost.nD Cert.Bpost.τ).loc Cert.Bpost.main_arg0)
      ∧ r.2.mem ((c.tc : Thread Cert.Bpost.nD Cert.Bpost.τ).loc Cert.Bpost.main_arg1) = m ((c.tc : Thread Cert.Bpost.nD Cert.Bpost.τ).loc Cert.Bpost.main_arg1)
      ∧ r.2.mem ((c.tc : Thread Cert.Bpost.nD Cert.Bpost.τ).loc Cert.Bpost.main_arg2) = m ((c.tc : Thread Cert.Bpost.nD Cert.Bpost.τ).loc Cert.Bpost.main_arg2))
      ∧ r.2.sem = fun _ => 0)

def quiescent_BpostIdeal [hBpostIdeal : Cert.BpostIdeal.Facts] : Prop :=
  ∀ (m : (ℓ : Loc Cert.BpostIdeal.nD Cert.BpostIdeal.τ Cert.BpostIdeal.sig) → Buf (Elt Ideal) ℓ) (g : Dev Cert.BpostIdeal.nD → PrngReg), Pre_BpostIdeal m →
    θ_run (Cert.BpostIdeal.defs (F := Ideal)) (onTc (τ := Cert.BpostIdeal.τ) (Cert.BpostIdeal.main (F := Ideal))) ⟨m, fun _ => 0, g⟩ (fun r => (∀ c : Dev Cert.BpostIdeal.nD,
      r.2.mem ((c.tc : Thread Cert.BpostIdeal.nD Cert.BpostIdeal.τ).loc Cert.BpostIdeal.main_arg0) = m ((c.tc : Thread Cert.BpostIdeal.nD Cert.BpostIdeal.τ).loc Cert.BpostIdeal.main_arg0)
      ∧ r.2.mem ((c.tc : Thread Cert.BpostIdeal.nD Cert.BpostIdeal.τ).loc Cert.BpostIdeal.main_arg1) = m ((c.tc : Thread Cert.BpostIdeal.nD Cert.BpostIdeal.τ).loc Cert.BpostIdeal.main_arg1)
      ∧ r.2.mem ((c.tc : Thread Cert.BpostIdeal.nD Cert.BpostIdeal.τ).loc Cert.BpostIdeal.main_arg2) = m ((c.tc : Thread Cert.BpostIdeal.nD Cert.BpostIdeal.τ).loc Cert.BpostIdeal.main_arg2))
      ∧ r.2.sem = fun _ => 0)

def quiescent_BpostReferenceIdeal [hBpostReferenceIdeal : Cert.BpostReferenceIdeal.Facts] : Prop :=
  ∀ (m : (ℓ : Loc Cert.BpostReferenceIdeal.nD Cert.BpostReferenceIdeal.τ Cert.BpostReferenceIdeal.sig) → Buf (Elt Ideal) ℓ) (g : Dev Cert.BpostReferenceIdeal.nD → PrngReg), Pre_BpostReferenceIdeal m →
    θ_run (Cert.BpostReferenceIdeal.defs (F := Ideal)) (onTc (τ := Cert.BpostReferenceIdeal.τ) (Cert.BpostReferenceIdeal.main (F := Ideal))) ⟨m, fun _ => 0, g⟩ (fun r => (∀ c : Dev Cert.BpostReferenceIdeal.nD,
      r.2.mem ((c.tc : Thread Cert.BpostReferenceIdeal.nD Cert.BpostReferenceIdeal.τ).loc Cert.BpostReferenceIdeal.main_arg0) = m ((c.tc : Thread Cert.BpostReferenceIdeal.nD Cert.BpostReferenceIdeal.τ).loc Cert.BpostReferenceIdeal.main_arg0)
      ∧ r.2.mem ((c.tc : Thread Cert.BpostReferenceIdeal.nD Cert.BpostReferenceIdeal.τ).loc Cert.BpostReferenceIdeal.main_arg1) = m ((c.tc : Thread Cert.BpostReferenceIdeal.nD Cert.BpostReferenceIdeal.τ).loc Cert.BpostReferenceIdeal.main_arg1)
      ∧ r.2.mem ((c.tc : Thread Cert.BpostReferenceIdeal.nD Cert.BpostReferenceIdeal.τ).loc Cert.BpostReferenceIdeal.main_arg2) = m ((c.tc : Thread Cert.BpostReferenceIdeal.nD Cert.BpostReferenceIdeal.τ).loc Cert.BpostReferenceIdeal.main_arg2))
      ∧ r.2.sem = fun _ => 0)

def quiescent_Lhead [hLhead : Cert.Lhead.Facts] : Prop :=
  ∀ (m : (ℓ : Loc Cert.Lhead.nD Cert.Lhead.τ Cert.Lhead.sig) → Buf (Elt Bits) ℓ) (g : Dev Cert.Lhead.nD → PrngReg), Pre_Lhead m →
    θ_run (Cert.Lhead.defs (F := Bits)) (onTc (τ := Cert.Lhead.τ) (Cert.Lhead.main (F := Bits))) ⟨m, fun _ => 0, g⟩ (fun r => (∀ c : Dev Cert.Lhead.nD,
      r.2.mem ((c.tc : Thread Cert.Lhead.nD Cert.Lhead.τ).loc Cert.Lhead.main_arg0) = m ((c.tc : Thread Cert.Lhead.nD Cert.Lhead.τ).loc Cert.Lhead.main_arg0)
      ∧ r.2.mem ((c.tc : Thread Cert.Lhead.nD Cert.Lhead.τ).loc Cert.Lhead.main_arg1) = m ((c.tc : Thread Cert.Lhead.nD Cert.Lhead.τ).loc Cert.Lhead.main_arg1)
      ∧ r.2.mem ((c.tc : Thread Cert.Lhead.nD Cert.Lhead.τ).loc Cert.Lhead.main_arg2) = m ((c.tc : Thread Cert.Lhead.nD Cert.Lhead.τ).loc Cert.Lhead.main_arg2)
      ∧ r.2.mem ((c.tc : Thread Cert.Lhead.nD Cert.Lhead.τ).loc Cert.Lhead.main_arg3) = m ((c.tc : Thread Cert.Lhead.nD Cert.Lhead.τ).loc Cert.Lhead.main_arg3))
      ∧ r.2.sem = fun _ => 0)

def quiescent_LheadIdeal [hLheadIdeal : Cert.LheadIdeal.Facts] : Prop :=
  ∀ (m : (ℓ : Loc Cert.LheadIdeal.nD Cert.LheadIdeal.τ Cert.LheadIdeal.sig) → Buf (Elt Ideal) ℓ) (g : Dev Cert.LheadIdeal.nD → PrngReg), Pre_LheadIdeal m →
    θ_run (Cert.LheadIdeal.defs (F := Ideal)) (onTc (τ := Cert.LheadIdeal.τ) (Cert.LheadIdeal.main (F := Ideal))) ⟨m, fun _ => 0, g⟩ (fun r => (∀ c : Dev Cert.LheadIdeal.nD,
      r.2.mem ((c.tc : Thread Cert.LheadIdeal.nD Cert.LheadIdeal.τ).loc Cert.LheadIdeal.main_arg0) = m ((c.tc : Thread Cert.LheadIdeal.nD Cert.LheadIdeal.τ).loc Cert.LheadIdeal.main_arg0)
      ∧ r.2.mem ((c.tc : Thread Cert.LheadIdeal.nD Cert.LheadIdeal.τ).loc Cert.LheadIdeal.main_arg1) = m ((c.tc : Thread Cert.LheadIdeal.nD Cert.LheadIdeal.τ).loc Cert.LheadIdeal.main_arg1)
      ∧ r.2.mem ((c.tc : Thread Cert.LheadIdeal.nD Cert.LheadIdeal.τ).loc Cert.LheadIdeal.main_arg2) = m ((c.tc : Thread Cert.LheadIdeal.nD Cert.LheadIdeal.τ).loc Cert.LheadIdeal.main_arg2)
      ∧ r.2.mem ((c.tc : Thread Cert.LheadIdeal.nD Cert.LheadIdeal.τ).loc Cert.LheadIdeal.main_arg3) = m ((c.tc : Thread Cert.LheadIdeal.nD Cert.LheadIdeal.τ).loc Cert.LheadIdeal.main_arg3))
      ∧ r.2.sem = fun _ => 0)

def quiescent_LheadReferenceIdeal [hLheadReferenceIdeal : Cert.LheadReferenceIdeal.Facts] : Prop :=
  ∀ (m : (ℓ : Loc Cert.LheadReferenceIdeal.nD Cert.LheadReferenceIdeal.τ Cert.LheadReferenceIdeal.sig) → Buf (Elt Ideal) ℓ) (g : Dev Cert.LheadReferenceIdeal.nD → PrngReg), Pre_LheadReferenceIdeal m →
    θ_run (Cert.LheadReferenceIdeal.defs (F := Ideal)) (onTc (τ := Cert.LheadReferenceIdeal.τ) (Cert.LheadReferenceIdeal.main (F := Ideal))) ⟨m, fun _ => 0, g⟩ (fun r => (∀ c : Dev Cert.LheadReferenceIdeal.nD,
      r.2.mem ((c.tc : Thread Cert.LheadReferenceIdeal.nD Cert.LheadReferenceIdeal.τ).loc Cert.LheadReferenceIdeal.main_arg0) = m ((c.tc : Thread Cert.LheadReferenceIdeal.nD Cert.LheadReferenceIdeal.τ).loc Cert.LheadReferenceIdeal.main_arg0)
      ∧ r.2.mem ((c.tc : Thread Cert.LheadReferenceIdeal.nD Cert.LheadReferenceIdeal.τ).loc Cert.LheadReferenceIdeal.main_arg1) = m ((c.tc : Thread Cert.LheadReferenceIdeal.nD Cert.LheadReferenceIdeal.τ).loc Cert.LheadReferenceIdeal.main_arg1)
      ∧ r.2.mem ((c.tc : Thread Cert.LheadReferenceIdeal.nD Cert.LheadReferenceIdeal.τ).loc Cert.LheadReferenceIdeal.main_arg2) = m ((c.tc : Thread Cert.LheadReferenceIdeal.nD Cert.LheadReferenceIdeal.τ).loc Cert.LheadReferenceIdeal.main_arg2)
      ∧ r.2.mem ((c.tc : Thread Cert.LheadReferenceIdeal.nD Cert.LheadReferenceIdeal.τ).loc Cert.LheadReferenceIdeal.main_arg3) = m ((c.tc : Thread Cert.LheadReferenceIdeal.nD Cert.LheadReferenceIdeal.τ).loc Cert.LheadReferenceIdeal.main_arg3))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v28_0)) (v1 : (c : Dev Cert.KernelIdeal.nD) → Buf (Elt Ideal) ((c.tc : Thread Cert.KernelIdeal.nD Cert.KernelIdeal.τ).loc Cert.KernelIdeal.main_v28_1)) (v2 : (c : Dev Cert.KernelIdeal.nD) → Buf (Elt Ideal) ((c.tc : Thread Cert.KernelIdeal.nD Cert.KernelIdeal.τ).loc Cert.KernelIdeal.main_v28_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28_0) = v0 c
          ∧ r.2.mem ((c.tc : Thread Cert.KernelIdeal.nD Cert.KernelIdeal.τ).loc Cert.KernelIdeal.main_v28_1) = v1 c
          ∧ r.2.mem ((c.tc : Thread Cert.KernelIdeal.nD Cert.KernelIdeal.τ).loc Cert.KernelIdeal.main_v28_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_v55) = v1 c
          ∧ r.2.mem ((c.tc : Thread Cert.ReferenceIdeal.nD Cert.ReferenceIdeal.τ).loc Cert.ReferenceIdeal.main_v52) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Dact_DactIdeal : Prop :=
  True

def algebraic_DactIdeal_DactReferenceIdeal [hDactIdeal : Cert.DactIdeal.Facts] [hDactReferenceIdeal : Cert.DactReferenceIdeal.Facts] : Prop :=
  ∀ (m : (ℓ : Loc Cert.DactIdeal.nD Cert.DactIdeal.τ Cert.DactIdeal.sig) → Buf (Elt Ideal) ℓ) (g : Dev Cert.DactIdeal.nD → PrngReg)
    (m' : (ℓ : Loc Cert.DactReferenceIdeal.nD Cert.DactReferenceIdeal.τ Cert.DactReferenceIdeal.sig) → Buf (Elt Ideal) ℓ) (g' : Dev Cert.DactReferenceIdeal.nD → PrngReg), Pre_DactIdeal m →
    (∀ c : Dev Cert.DactIdeal.nD,
      m' ((c.tc : Thread Cert.DactReferenceIdeal.nD Cert.DactReferenceIdeal.τ).loc Cert.DactReferenceIdeal.main_arg0) = m ((c.tc : Thread Cert.DactIdeal.nD Cert.DactIdeal.τ).loc Cert.DactIdeal.main_arg0)
      ∧ m' ((c.tc : Thread Cert.DactReferenceIdeal.nD Cert.DactReferenceIdeal.τ).loc Cert.DactReferenceIdeal.main_arg1) = m ((c.tc : Thread Cert.DactIdeal.nD Cert.DactIdeal.τ).loc Cert.DactIdeal.main_arg1)
      ∧ m' ((c.tc : Thread Cert.DactReferenceIdeal.nD Cert.DactReferenceIdeal.τ).loc Cert.DactReferenceIdeal.main_arg2) = m ((c.tc : Thread Cert.DactIdeal.nD Cert.DactIdeal.τ).loc Cert.DactIdeal.main_arg2)) →
    ∃ (v0 : (c : Dev Cert.DactIdeal.nD) → Buf (Elt Ideal) ((c.tc : Thread Cert.DactIdeal.nD Cert.DactIdeal.τ).loc Cert.DactIdeal.main_v0)),
      θ_run (Cert.DactIdeal.defs (F := Ideal)) (onTc (τ := Cert.DactIdeal.τ) (Cert.DactIdeal.main (F := Ideal))) ⟨m, fun _ => 0, g⟩ (fun r => ∀ c : Dev Cert.DactIdeal.nD,
          r.2.mem ((c.tc : Thread Cert.DactIdeal.nD Cert.DactIdeal.τ).loc Cert.DactIdeal.main_v0) = v0 c
          ∧ r.2.mem ((c.tc : Thread Cert.DactIdeal.nD Cert.DactIdeal.τ).loc Cert.DactIdeal.main_arg0) = m ((c.tc : Thread Cert.DactIdeal.nD Cert.DactIdeal.τ).loc Cert.DactIdeal.main_arg0)
          ∧ r.2.mem ((c.tc : Thread Cert.DactIdeal.nD Cert.DactIdeal.τ).loc Cert.DactIdeal.main_arg1) = m ((c.tc : Thread Cert.DactIdeal.nD Cert.DactIdeal.τ).loc Cert.DactIdeal.main_arg1)
          ∧ r.2.mem ((c.tc : Thread Cert.DactIdeal.nD Cert.DactIdeal.τ).loc Cert.DactIdeal.main_arg2) = m ((c.tc : Thread Cert.DactIdeal.nD Cert.DactIdeal.τ).loc Cert.DactIdeal.main_arg2))
      ∧ θ_run (Cert.DactReferenceIdeal.defs (F := Ideal)) (onTc (τ := Cert.DactReferenceIdeal.τ) (Cert.DactReferenceIdeal.main (F := Ideal))) ⟨m', fun _ => 0, g'⟩ (fun r => ∀ c : Dev Cert.DactReferenceIdeal.nD,
          r.2.mem ((c.tc : Thread Cert.DactReferenceIdeal.nD Cert.DactReferenceIdeal.τ).loc Cert.DactReferenceIdeal.main_v6) = v0 c
          ∧ r.2.mem ((c.tc : Thread Cert.DactReferenceIdeal.nD Cert.DactReferenceIdeal.τ).loc Cert.DactReferenceIdeal.main_arg0) = m' ((c.tc : Thread Cert.DactReferenceIdeal.nD Cert.DactReferenceIdeal.τ).loc Cert.DactReferenceIdeal.main_arg0)
          ∧ r.2.mem ((c.tc : Thread Cert.DactReferenceIdeal.nD Cert.DactReferenceIdeal.τ).loc Cert.DactReferenceIdeal.main_arg1) = m' ((c.tc : Thread Cert.DactReferenceIdeal.nD Cert.DactReferenceIdeal.τ).loc Cert.DactReferenceIdeal.main_arg1)
          ∧ r.2.mem ((c.tc : Thread Cert.DactReferenceIdeal.nD Cert.DactReferenceIdeal.τ).loc Cert.DactReferenceIdeal.main_arg2) = m' ((c.tc : Thread Cert.DactReferenceIdeal.nD Cert.DactReferenceIdeal.τ).loc Cert.DactReferenceIdeal.main_arg2))

def preserves_Gdown_GdownIdeal : Prop :=
  True

def algebraic_GdownIdeal_GdownReferenceIdeal [hGdownIdeal : Cert.GdownIdeal.Facts] [hGdownReferenceIdeal : Cert.GdownReferenceIdeal.Facts] : Prop :=
  ∀ (m : (ℓ : Loc Cert.GdownIdeal.nD Cert.GdownIdeal.τ Cert.GdownIdeal.sig) → Buf (Elt Ideal) ℓ) (g : Dev Cert.GdownIdeal.nD → PrngReg)
    (m' : (ℓ : Loc Cert.GdownReferenceIdeal.nD Cert.GdownReferenceIdeal.τ Cert.GdownReferenceIdeal.sig) → Buf (Elt Ideal) ℓ) (g' : Dev Cert.GdownReferenceIdeal.nD → PrngReg), Pre_GdownIdeal m →
    (∀ c : Dev Cert.GdownIdeal.nD,
      m' ((c.tc : Thread Cert.GdownReferenceIdeal.nD Cert.GdownReferenceIdeal.τ).loc Cert.GdownReferenceIdeal.main_arg0) = m ((c.tc : Thread Cert.GdownIdeal.nD Cert.GdownIdeal.τ).loc Cert.GdownIdeal.main_arg0)
      ∧ m' ((c.tc : Thread Cert.GdownReferenceIdeal.nD Cert.GdownReferenceIdeal.τ).loc Cert.GdownReferenceIdeal.main_arg1) = m ((c.tc : Thread Cert.GdownIdeal.nD Cert.GdownIdeal.τ).loc Cert.GdownIdeal.main_arg1)
      ∧ m' ((c.tc : Thread Cert.GdownReferenceIdeal.nD Cert.GdownReferenceIdeal.τ).loc Cert.GdownReferenceIdeal.main_arg2) = m ((c.tc : Thread Cert.GdownIdeal.nD Cert.GdownIdeal.τ).loc Cert.GdownIdeal.main_arg2)) →
    ∃ (v0 : (c : Dev Cert.GdownIdeal.nD) → Buf (Elt Ideal) ((c.tc : Thread Cert.GdownIdeal.nD Cert.GdownIdeal.τ).loc Cert.GdownIdeal.main_v0)),
      θ_run (Cert.GdownIdeal.defs (F := Ideal)) (onTc (τ := Cert.GdownIdeal.τ) (Cert.GdownIdeal.main (F := Ideal))) ⟨m, fun _ => 0, g⟩ (fun r => ∀ c : Dev Cert.GdownIdeal.nD,
          r.2.mem ((c.tc : Thread Cert.GdownIdeal.nD Cert.GdownIdeal.τ).loc Cert.GdownIdeal.main_v0) = v0 c
          ∧ r.2.mem ((c.tc : Thread Cert.GdownIdeal.nD Cert.GdownIdeal.τ).loc Cert.GdownIdeal.main_arg0) = m ((c.tc : Thread Cert.GdownIdeal.nD Cert.GdownIdeal.τ).loc Cert.GdownIdeal.main_arg0)
          ∧ r.2.mem ((c.tc : Thread Cert.GdownIdeal.nD Cert.GdownIdeal.τ).loc Cert.GdownIdeal.main_arg1) = m ((c.tc : Thread Cert.GdownIdeal.nD Cert.GdownIdeal.τ).loc Cert.GdownIdeal.main_arg1)
          ∧ r.2.mem ((c.tc : Thread Cert.GdownIdeal.nD Cert.GdownIdeal.τ).loc Cert.GdownIdeal.main_arg2) = m ((c.tc : Thread Cert.GdownIdeal.nD Cert.GdownIdeal.τ).loc Cert.GdownIdeal.main_arg2))
      ∧ θ_run (Cert.GdownReferenceIdeal.defs (F := Ideal)) (onTc (τ := Cert.GdownReferenceIdeal.τ) (Cert.GdownReferenceIdeal.main (F := Ideal))) ⟨m', fun _ => 0, g'⟩ (fun r => ∀ c : Dev Cert.GdownReferenceIdeal.nD,
          r.2.mem ((c.tc : Thread Cert.GdownReferenceIdeal.nD Cert.GdownReferenceIdeal.τ).loc Cert.GdownReferenceIdeal.main_v5) = v0 c
          ∧ r.2.mem ((c.tc : Thread Cert.GdownReferenceIdeal.nD Cert.GdownReferenceIdeal.τ).loc Cert.GdownReferenceIdeal.main_arg0) = m' ((c.tc : Thread Cert.GdownReferenceIdeal.nD Cert.GdownReferenceIdeal.τ).loc Cert.GdownReferenceIdeal.main_arg0)
          ∧ r.2.mem ((c.tc : Thread Cert.GdownReferenceIdeal.nD Cert.GdownReferenceIdeal.τ).loc Cert.GdownReferenceIdeal.main_arg1) = m' ((c.tc : Thread Cert.GdownReferenceIdeal.nD Cert.GdownReferenceIdeal.τ).loc Cert.GdownReferenceIdeal.main_arg1)
          ∧ r.2.mem ((c.tc : Thread Cert.GdownReferenceIdeal.nD Cert.GdownReferenceIdeal.τ).loc Cert.GdownReferenceIdeal.main_arg2) = m' ((c.tc : Thread Cert.GdownReferenceIdeal.nD Cert.GdownReferenceIdeal.τ).loc Cert.GdownReferenceIdeal.main_arg2))

def preserves_Ggate_GgateIdeal : Prop :=
  True

def algebraic_GgateIdeal_GgateReferenceIdeal [hGgateIdeal : Cert.GgateIdeal.Facts] [hGgateReferenceIdeal : Cert.GgateReferenceIdeal.Facts] : Prop :=
  ∀ (m : (ℓ : Loc Cert.GgateIdeal.nD Cert.GgateIdeal.τ Cert.GgateIdeal.sig) → Buf (Elt Ideal) ℓ) (g : Dev Cert.GgateIdeal.nD → PrngReg)
    (m' : (ℓ : Loc Cert.GgateReferenceIdeal.nD Cert.GgateReferenceIdeal.τ Cert.GgateReferenceIdeal.sig) → Buf (Elt Ideal) ℓ) (g' : Dev Cert.GgateReferenceIdeal.nD → PrngReg), Pre_GgateIdeal m →
    (∀ c : Dev Cert.GgateIdeal.nD,
      m' ((c.tc : Thread Cert.GgateReferenceIdeal.nD Cert.GgateReferenceIdeal.τ).loc Cert.GgateReferenceIdeal.main_arg0) = m ((c.tc : Thread Cert.GgateIdeal.nD Cert.GgateIdeal.τ).loc Cert.GgateIdeal.main_arg0)
      ∧ m' ((c.tc : Thread Cert.GgateReferenceIdeal.nD Cert.GgateReferenceIdeal.τ).loc Cert.GgateReferenceIdeal.main_arg1) = m ((c.tc : Thread Cert.GgateIdeal.nD Cert.GgateIdeal.τ).loc Cert.GgateIdeal.main_arg1)
      ∧ m' ((c.tc : Thread Cert.GgateReferenceIdeal.nD Cert.GgateReferenceIdeal.τ).loc Cert.GgateReferenceIdeal.main_arg2) = m ((c.tc : Thread Cert.GgateIdeal.nD Cert.GgateIdeal.τ).loc Cert.GgateIdeal.main_arg2)) →
    ∃ (v0 : (c : Dev Cert.GgateIdeal.nD) → Buf (Elt Ideal) ((c.tc : Thread Cert.GgateIdeal.nD Cert.GgateIdeal.τ).loc Cert.GgateIdeal.main_v0)),
      θ_run (Cert.GgateIdeal.defs (F := Ideal)) (onTc (τ := Cert.GgateIdeal.τ) (Cert.GgateIdeal.main (F := Ideal))) ⟨m, fun _ => 0, g⟩ (fun r => ∀ c : Dev Cert.GgateIdeal.nD,
          r.2.mem ((c.tc : Thread Cert.GgateIdeal.nD Cert.GgateIdeal.τ).loc Cert.GgateIdeal.main_v0) = v0 c
          ∧ r.2.mem ((c.tc : Thread Cert.GgateIdeal.nD Cert.GgateIdeal.τ).loc Cert.GgateIdeal.main_arg0) = m ((c.tc : Thread Cert.GgateIdeal.nD Cert.GgateIdeal.τ).loc Cert.GgateIdeal.main_arg0)
          ∧ r.2.mem ((c.tc : Thread Cert.GgateIdeal.nD Cert.GgateIdeal.τ).loc Cert.GgateIdeal.main_arg1) = m ((c.tc : Thread Cert.GgateIdeal.nD Cert.GgateIdeal.τ).loc Cert.GgateIdeal.main_arg1)
          ∧ r.2.mem ((c.tc : Thread Cert.GgateIdeal.nD Cert.GgateIdeal.τ).loc Cert.GgateIdeal.main_arg2) = m ((c.tc : Thread Cert.GgateIdeal.nD Cert.GgateIdeal.τ).loc Cert.GgateIdeal.main_arg2))
      ∧ θ_run (Cert.GgateReferenceIdeal.defs (F := Ideal)) (onTc (τ := Cert.GgateReferenceIdeal.τ) (Cert.GgateReferenceIdeal.main (F := Ideal))) ⟨m', fun _ => 0, g'⟩ (fun r => ∀ c : Dev Cert.GgateReferenceIdeal.nD,
          r.2.mem ((c.tc : Thread Cert.GgateReferenceIdeal.nD Cert.GgateReferenceIdeal.τ).loc Cert.GgateReferenceIdeal.main_v10) = v0 c
          ∧ r.2.mem ((c.tc : Thread Cert.GgateReferenceIdeal.nD Cert.GgateReferenceIdeal.τ).loc Cert.GgateReferenceIdeal.main_arg0) = m' ((c.tc : Thread Cert.GgateReferenceIdeal.nD Cert.GgateReferenceIdeal.τ).loc Cert.GgateReferenceIdeal.main_arg0)
          ∧ r.2.mem ((c.tc : Thread Cert.GgateReferenceIdeal.nD Cert.GgateReferenceIdeal.τ).loc Cert.GgateReferenceIdeal.main_arg1) = m' ((c.tc : Thread Cert.GgateReferenceIdeal.nD Cert.GgateReferenceIdeal.τ).loc Cert.GgateReferenceIdeal.main_arg1)
          ∧ r.2.mem ((c.tc : Thread Cert.GgateReferenceIdeal.nD Cert.GgateReferenceIdeal.τ).loc Cert.GgateReferenceIdeal.main_arg2) = m' ((c.tc : Thread Cert.GgateReferenceIdeal.nD Cert.GgateReferenceIdeal.τ).loc Cert.GgateReferenceIdeal.main_arg2))

def preserves_Gval_GvalIdeal : Prop :=
  True

def algebraic_GvalIdeal_GvalReferenceIdeal [hGvalIdeal : Cert.GvalIdeal.Facts] [hGvalReferenceIdeal : Cert.GvalReferenceIdeal.Facts] : Prop :=
  ∀ (m : (ℓ : Loc Cert.GvalIdeal.nD Cert.GvalIdeal.τ Cert.GvalIdeal.sig) → Buf (Elt Ideal) ℓ) (g : Dev Cert.GvalIdeal.nD → PrngReg)
    (m' : (ℓ : Loc Cert.GvalReferenceIdeal.nD Cert.GvalReferenceIdeal.τ Cert.GvalReferenceIdeal.sig) → Buf (Elt Ideal) ℓ) (g' : Dev Cert.GvalReferenceIdeal.nD → PrngReg), Pre_GvalIdeal m →
    (∀ c : Dev Cert.GvalIdeal.nD,
      m' ((c.tc : Thread Cert.GvalReferenceIdeal.nD Cert.GvalReferenceIdeal.τ).loc Cert.GvalReferenceIdeal.main_arg0) = m ((c.tc : Thread Cert.GvalIdeal.nD Cert.GvalIdeal.τ).loc Cert.GvalIdeal.main_arg0)
      ∧ m' ((c.tc : Thread Cert.GvalReferenceIdeal.nD Cert.GvalReferenceIdeal.τ).loc Cert.GvalReferenceIdeal.main_arg1) = m ((c.tc : Thread Cert.GvalIdeal.nD Cert.GvalIdeal.τ).loc Cert.GvalIdeal.main_arg1)
      ∧ m' ((c.tc : Thread Cert.GvalReferenceIdeal.nD Cert.GvalReferenceIdeal.τ).loc Cert.GvalReferenceIdeal.main_arg2) = m ((c.tc : Thread Cert.GvalIdeal.nD Cert.GvalIdeal.τ).loc Cert.GvalIdeal.main_arg2)) →
    ∃ (v0 : (c : Dev Cert.GvalIdeal.nD) → Buf (Elt Ideal) ((c.tc : Thread Cert.GvalIdeal.nD Cert.GvalIdeal.τ).loc Cert.GvalIdeal.main_v0)),
      θ_run (Cert.GvalIdeal.defs (F := Ideal)) (onTc (τ := Cert.GvalIdeal.τ) (Cert.GvalIdeal.main (F := Ideal))) ⟨m, fun _ => 0, g⟩ (fun r => ∀ c : Dev Cert.GvalIdeal.nD,
          r.2.mem ((c.tc : Thread Cert.GvalIdeal.nD Cert.GvalIdeal.τ).loc Cert.GvalIdeal.main_v0) = v0 c
          ∧ r.2.mem ((c.tc : Thread Cert.GvalIdeal.nD Cert.GvalIdeal.τ).loc Cert.GvalIdeal.main_arg0) = m ((c.tc : Thread Cert.GvalIdeal.nD Cert.GvalIdeal.τ).loc Cert.GvalIdeal.main_arg0)
          ∧ r.2.mem ((c.tc : Thread Cert.GvalIdeal.nD Cert.GvalIdeal.τ).loc Cert.GvalIdeal.main_arg1) = m ((c.tc : Thread Cert.GvalIdeal.nD Cert.GvalIdeal.τ).loc Cert.GvalIdeal.main_arg1)
          ∧ r.2.mem ((c.tc : Thread Cert.GvalIdeal.nD Cert.GvalIdeal.τ).loc Cert.GvalIdeal.main_arg2) = m ((c.tc : Thread Cert.GvalIdeal.nD Cert.GvalIdeal.τ).loc Cert.GvalIdeal.main_arg2))
      ∧ θ_run (Cert.GvalReferenceIdeal.defs (F := Ideal)) (onTc (τ := Cert.GvalReferenceIdeal.τ) (Cert.GvalReferenceIdeal.main (F := Ideal))) ⟨m', fun _ => 0, g'⟩ (fun r => ∀ c : Dev Cert.GvalReferenceIdeal.nD,
          r.2.mem ((c.tc : Thread Cert.GvalReferenceIdeal.nD Cert.GvalReferenceIdeal.τ).loc Cert.GvalReferenceIdeal.main_v10) = v0 c
          ∧ r.2.mem ((c.tc : Thread Cert.GvalReferenceIdeal.nD Cert.GvalReferenceIdeal.τ).loc Cert.GvalReferenceIdeal.main_arg0) = m' ((c.tc : Thread Cert.GvalReferenceIdeal.nD Cert.GvalReferenceIdeal.τ).loc Cert.GvalReferenceIdeal.main_arg0)
          ∧ r.2.mem ((c.tc : Thread Cert.GvalReferenceIdeal.nD Cert.GvalReferenceIdeal.τ).loc Cert.GvalReferenceIdeal.main_arg1) = m' ((c.tc : Thread Cert.GvalReferenceIdeal.nD Cert.GvalReferenceIdeal.τ).loc Cert.GvalReferenceIdeal.main_arg1)
          ∧ r.2.mem ((c.tc : Thread Cert.GvalReferenceIdeal.nD Cert.GvalReferenceIdeal.τ).loc Cert.GvalReferenceIdeal.main_arg2) = m' ((c.tc : Thread Cert.GvalReferenceIdeal.nD Cert.GvalReferenceIdeal.τ).loc Cert.GvalReferenceIdeal.main_arg2))

def preserves_Dhn_DhnIdeal : Prop :=
  True

def algebraic_DhnIdeal_DhnReferenceIdeal [hDhnIdeal : Cert.DhnIdeal.Facts] [hDhnReferenceIdeal : Cert.DhnReferenceIdeal.Facts] : Prop :=
  ∀ (m : (ℓ : Loc Cert.DhnIdeal.nD Cert.DhnIdeal.τ Cert.DhnIdeal.sig) → Buf (Elt Ideal) ℓ) (g : Dev Cert.DhnIdeal.nD → PrngReg)
    (m' : (ℓ : Loc Cert.DhnReferenceIdeal.nD Cert.DhnReferenceIdeal.τ Cert.DhnReferenceIdeal.sig) → Buf (Elt Ideal) ℓ) (g' : Dev Cert.DhnReferenceIdeal.nD → PrngReg), Pre_DhnIdeal m →
    (∀ c : Dev Cert.DhnIdeal.nD,
      m' ((c.tc : Thread Cert.DhnReferenceIdeal.nD Cert.DhnReferenceIdeal.τ).loc Cert.DhnReferenceIdeal.main_arg0) = m ((c.tc : Thread Cert.DhnIdeal.nD Cert.DhnIdeal.τ).loc Cert.DhnIdeal.main_arg0)
      ∧ m' ((c.tc : Thread Cert.DhnReferenceIdeal.nD Cert.DhnReferenceIdeal.τ).loc Cert.DhnReferenceIdeal.main_arg1) = m ((c.tc : Thread Cert.DhnIdeal.nD Cert.DhnIdeal.τ).loc Cert.DhnIdeal.main_arg1)
      ∧ m' ((c.tc : Thread Cert.DhnReferenceIdeal.nD Cert.DhnReferenceIdeal.τ).loc Cert.DhnReferenceIdeal.main_arg2) = m ((c.tc : Thread Cert.DhnIdeal.nD Cert.DhnIdeal.τ).loc Cert.DhnIdeal.main_arg2)) →
    ∃ (v0 : (c : Dev Cert.DhnIdeal.nD) → Buf (Elt Ideal) ((c.tc : Thread Cert.DhnIdeal.nD Cert.DhnIdeal.τ).loc Cert.DhnIdeal.main_v0)),
      θ_run (Cert.DhnIdeal.defs (F := Ideal)) (onTc (τ := Cert.DhnIdeal.τ) (Cert.DhnIdeal.main (F := Ideal))) ⟨m, fun _ => 0, g⟩ (fun r => ∀ c : Dev Cert.DhnIdeal.nD,
          r.2.mem ((c.tc : Thread Cert.DhnIdeal.nD Cert.DhnIdeal.τ).loc Cert.DhnIdeal.main_v0) = v0 c
          ∧ r.2.mem ((c.tc : Thread Cert.DhnIdeal.nD Cert.DhnIdeal.τ).loc Cert.DhnIdeal.main_arg0) = m ((c.tc : Thread Cert.DhnIdeal.nD Cert.DhnIdeal.τ).loc Cert.DhnIdeal.main_arg0)
          ∧ r.2.mem ((c.tc : Thread Cert.DhnIdeal.nD Cert.DhnIdeal.τ).loc Cert.DhnIdeal.main_arg1) = m ((c.tc : Thread Cert.DhnIdeal.nD Cert.DhnIdeal.τ).loc Cert.DhnIdeal.main_arg1)
          ∧ r.2.mem ((c.tc : Thread Cert.DhnIdeal.nD Cert.DhnIdeal.τ).loc Cert.DhnIdeal.main_arg2) = m ((c.tc : Thread Cert.DhnIdeal.nD Cert.DhnIdeal.τ).loc Cert.DhnIdeal.main_arg2))
      ∧ θ_run (Cert.DhnReferenceIdeal.defs (F := Ideal)) (onTc (τ := Cert.DhnReferenceIdeal.τ) (Cert.DhnReferenceIdeal.main (F := Ideal))) ⟨m', fun _ => 0, g'⟩ (fun r => ∀ c : Dev Cert.DhnReferenceIdeal.nD,
          r.2.mem ((c.tc : Thread Cert.DhnReferenceIdeal.nD Cert.DhnReferenceIdeal.τ).loc Cert.DhnReferenceIdeal.main_v9) = v0 c
          ∧ r.2.mem ((c.tc : Thread Cert.DhnReferenceIdeal.nD Cert.DhnReferenceIdeal.τ).loc Cert.DhnReferenceIdeal.main_arg0) = m' ((c.tc : Thread Cert.DhnReferenceIdeal.nD Cert.DhnReferenceIdeal.τ).loc Cert.DhnReferenceIdeal.main_arg0)
          ∧ r.2.mem ((c.tc : Thread Cert.DhnReferenceIdeal.nD Cert.DhnReferenceIdeal.τ).loc Cert.DhnReferenceIdeal.main_arg1) = m' ((c.tc : Thread Cert.DhnReferenceIdeal.nD Cert.DhnReferenceIdeal.τ).loc Cert.DhnReferenceIdeal.main_arg1)
          ∧ r.2.mem ((c.tc : Thread Cert.DhnReferenceIdeal.nD Cert.DhnReferenceIdeal.τ).loc Cert.DhnReferenceIdeal.main_arg2) = m' ((c.tc : Thread Cert.DhnReferenceIdeal.nD Cert.DhnReferenceIdeal.τ).loc Cert.DhnReferenceIdeal.main_arg2))

def preserves_Dmix_DmixIdeal : Prop :=
  True

def algebraic_DmixIdeal_DmixReferenceIdeal [hDmixIdeal : Cert.DmixIdeal.Facts] [hDmixReferenceIdeal : Cert.DmixReferenceIdeal.Facts] : Prop :=
  ∀ (m : (ℓ : Loc Cert.DmixIdeal.nD Cert.DmixIdeal.τ Cert.DmixIdeal.sig) → Buf (Elt Ideal) ℓ) (g : Dev Cert.DmixIdeal.nD → PrngReg)
    (m' : (ℓ : Loc Cert.DmixReferenceIdeal.nD Cert.DmixReferenceIdeal.τ Cert.DmixReferenceIdeal.sig) → Buf (Elt Ideal) ℓ) (g' : Dev Cert.DmixReferenceIdeal.nD → PrngReg), Pre_DmixIdeal m →
    (∀ c : Dev Cert.DmixIdeal.nD,
      m' ((c.tc : Thread Cert.DmixReferenceIdeal.nD Cert.DmixReferenceIdeal.τ).loc Cert.DmixReferenceIdeal.main_arg0) = m ((c.tc : Thread Cert.DmixIdeal.nD Cert.DmixIdeal.τ).loc Cert.DmixIdeal.main_arg0)
      ∧ m' ((c.tc : Thread Cert.DmixReferenceIdeal.nD Cert.DmixReferenceIdeal.τ).loc Cert.DmixReferenceIdeal.main_arg1) = m ((c.tc : Thread Cert.DmixIdeal.nD Cert.DmixIdeal.τ).loc Cert.DmixIdeal.main_arg1)) →
    ∃ (v0 : (c : Dev Cert.DmixIdeal.nD) → Buf (Elt Ideal) ((c.tc : Thread Cert.DmixIdeal.nD Cert.DmixIdeal.τ).loc Cert.DmixIdeal.main_v0)),
      θ_run (Cert.DmixIdeal.defs (F := Ideal)) (onTc (τ := Cert.DmixIdeal.τ) (Cert.DmixIdeal.main (F := Ideal))) ⟨m, fun _ => 0, g⟩ (fun r => ∀ c : Dev Cert.DmixIdeal.nD,
          r.2.mem ((c.tc : Thread Cert.DmixIdeal.nD Cert.DmixIdeal.τ).loc Cert.DmixIdeal.main_v0) = v0 c
          ∧ r.2.mem ((c.tc : Thread Cert.DmixIdeal.nD Cert.DmixIdeal.τ).loc Cert.DmixIdeal.main_arg0) = m ((c.tc : Thread Cert.DmixIdeal.nD Cert.DmixIdeal.τ).loc Cert.DmixIdeal.main_arg0)
          ∧ r.2.mem ((c.tc : Thread Cert.DmixIdeal.nD Cert.DmixIdeal.τ).loc Cert.DmixIdeal.main_arg1) = m ((c.tc : Thread Cert.DmixIdeal.nD Cert.DmixIdeal.τ).loc Cert.DmixIdeal.main_arg1))
      ∧ θ_run (Cert.DmixReferenceIdeal.defs (F := Ideal)) (onTc (τ := Cert.DmixReferenceIdeal.τ) (Cert.DmixReferenceIdeal.main (F := Ideal))) ⟨m', fun _ => 0, g'⟩ (fun r => ∀ c : Dev Cert.DmixReferenceIdeal.nD,
          r.2.mem ((c.tc : Thread Cert.DmixReferenceIdeal.nD Cert.DmixReferenceIdeal.τ).loc Cert.DmixReferenceIdeal.main_v6) = v0 c
          ∧ r.2.mem ((c.tc : Thread Cert.DmixReferenceIdeal.nD Cert.DmixReferenceIdeal.τ).loc Cert.DmixReferenceIdeal.main_arg0) = m' ((c.tc : Thread Cert.DmixReferenceIdeal.nD Cert.DmixReferenceIdeal.τ).loc Cert.DmixReferenceIdeal.main_arg0)
          ∧ r.2.mem ((c.tc : Thread Cert.DmixReferenceIdeal.nD Cert.DmixReferenceIdeal.τ).loc Cert.DmixReferenceIdeal.main_arg1) = m' ((c.tc : Thread Cert.DmixReferenceIdeal.nD Cert.DmixReferenceIdeal.τ).loc Cert.DmixReferenceIdeal.main_arg1))

def preserves_Gout_GoutIdeal : Prop :=
  True

def algebraic_GoutIdeal_GoutReferenceIdeal [hGoutIdeal : Cert.GoutIdeal.Facts] [hGoutReferenceIdeal : Cert.GoutReferenceIdeal.Facts] : Prop :=
  ∀ (m : (ℓ : Loc Cert.GoutIdeal.nD Cert.GoutIdeal.τ Cert.GoutIdeal.sig) → Buf (Elt Ideal) ℓ) (g : Dev Cert.GoutIdeal.nD → PrngReg)
    (m' : (ℓ : Loc Cert.GoutReferenceIdeal.nD Cert.GoutReferenceIdeal.τ Cert.GoutReferenceIdeal.sig) → Buf (Elt Ideal) ℓ) (g' : Dev Cert.GoutReferenceIdeal.nD → PrngReg), Pre_GoutIdeal m →
    (∀ c : Dev Cert.GoutIdeal.nD,
      m' ((c.tc : Thread Cert.GoutReferenceIdeal.nD Cert.GoutReferenceIdeal.τ).loc Cert.GoutReferenceIdeal.main_arg0) = m ((c.tc : Thread Cert.GoutIdeal.nD Cert.GoutIdeal.τ).loc Cert.GoutIdeal.main_arg0)
      ∧ m' ((c.tc : Thread Cert.GoutReferenceIdeal.nD Cert.GoutReferenceIdeal.τ).loc Cert.GoutReferenceIdeal.main_arg1) = m ((c.tc : Thread Cert.GoutIdeal.nD Cert.GoutIdeal.τ).loc Cert.GoutIdeal.main_arg1)) →
    ∃ (v0 : (c : Dev Cert.GoutIdeal.nD) → Buf (Elt Ideal) ((c.tc : Thread Cert.GoutIdeal.nD Cert.GoutIdeal.τ).loc Cert.GoutIdeal.main_v0)),
      θ_run (Cert.GoutIdeal.defs (F := Ideal)) (onTc (τ := Cert.GoutIdeal.τ) (Cert.GoutIdeal.main (F := Ideal))) ⟨m, fun _ => 0, g⟩ (fun r => ∀ c : Dev Cert.GoutIdeal.nD,
          r.2.mem ((c.tc : Thread Cert.GoutIdeal.nD Cert.GoutIdeal.τ).loc Cert.GoutIdeal.main_v0) = v0 c
          ∧ r.2.mem ((c.tc : Thread Cert.GoutIdeal.nD Cert.GoutIdeal.τ).loc Cert.GoutIdeal.main_arg0) = m ((c.tc : Thread Cert.GoutIdeal.nD Cert.GoutIdeal.τ).loc Cert.GoutIdeal.main_arg0)
          ∧ r.2.mem ((c.tc : Thread Cert.GoutIdeal.nD Cert.GoutIdeal.τ).loc Cert.GoutIdeal.main_arg1) = m ((c.tc : Thread Cert.GoutIdeal.nD Cert.GoutIdeal.τ).loc Cert.GoutIdeal.main_arg1))
      ∧ θ_run (Cert.GoutReferenceIdeal.defs (F := Ideal)) (onTc (τ := Cert.GoutReferenceIdeal.τ) (Cert.GoutReferenceIdeal.main (F := Ideal))) ⟨m', fun _ => 0, g'⟩ (fun r => ∀ c : Dev Cert.GoutReferenceIdeal.nD,
          r.2.mem ((c.tc : Thread Cert.GoutReferenceIdeal.nD Cert.GoutReferenceIdeal.τ).loc Cert.GoutReferenceIdeal.main_v5) = v0 c
          ∧ r.2.mem ((c.tc : Thread Cert.GoutReferenceIdeal.nD Cert.GoutReferenceIdeal.τ).loc Cert.GoutReferenceIdeal.main_arg0) = m' ((c.tc : Thread Cert.GoutReferenceIdeal.nD Cert.GoutReferenceIdeal.τ).loc Cert.GoutReferenceIdeal.main_arg0)
          ∧ r.2.mem ((c.tc : Thread Cert.GoutReferenceIdeal.nD Cert.GoutReferenceIdeal.τ).loc Cert.GoutReferenceIdeal.main_arg1) = m' ((c.tc : Thread Cert.GoutReferenceIdeal.nD Cert.GoutReferenceIdeal.τ).loc Cert.GoutReferenceIdeal.main_arg1))

def preserves_Gin_GinIdeal : Prop :=
  True

def algebraic_GinIdeal_GinReferenceIdeal [hGinIdeal : Cert.GinIdeal.Facts] [hGinReferenceIdeal : Cert.GinReferenceIdeal.Facts] : Prop :=
  ∀ (m : (ℓ : Loc Cert.GinIdeal.nD Cert.GinIdeal.τ Cert.GinIdeal.sig) → Buf (Elt Ideal) ℓ) (g : Dev Cert.GinIdeal.nD → PrngReg)
    (m' : (ℓ : Loc Cert.GinReferenceIdeal.nD Cert.GinReferenceIdeal.τ Cert.GinReferenceIdeal.sig) → Buf (Elt Ideal) ℓ) (g' : Dev Cert.GinReferenceIdeal.nD → PrngReg), Pre_GinIdeal m →
    (∀ c : Dev Cert.GinIdeal.nD,
      m' ((c.tc : Thread Cert.GinReferenceIdeal.nD Cert.GinReferenceIdeal.τ).loc Cert.GinReferenceIdeal.main_arg0) = m ((c.tc : Thread Cert.GinIdeal.nD Cert.GinIdeal.τ).loc Cert.GinIdeal.main_arg0)
      ∧ m' ((c.tc : Thread Cert.GinReferenceIdeal.nD Cert.GinReferenceIdeal.τ).loc Cert.GinReferenceIdeal.main_arg1) = m ((c.tc : Thread Cert.GinIdeal.nD Cert.GinIdeal.τ).loc Cert.GinIdeal.main_arg1)) →
    ∃ (v0 : (c : Dev Cert.GinIdeal.nD) → Buf (Elt Ideal) ((c.tc : Thread Cert.GinIdeal.nD Cert.GinIdeal.τ).loc Cert.GinIdeal.main_v0)),
      θ_run (Cert.GinIdeal.defs (F := Ideal)) (onTc (τ := Cert.GinIdeal.τ) (Cert.GinIdeal.main (F := Ideal))) ⟨m, fun _ => 0, g⟩ (fun r => ∀ c : Dev Cert.GinIdeal.nD,
          r.2.mem ((c.tc : Thread Cert.GinIdeal.nD Cert.GinIdeal.τ).loc Cert.GinIdeal.main_v0) = v0 c
          ∧ r.2.mem ((c.tc : Thread Cert.GinIdeal.nD Cert.GinIdeal.τ).loc Cert.GinIdeal.main_arg0) = m ((c.tc : Thread Cert.GinIdeal.nD Cert.GinIdeal.τ).loc Cert.GinIdeal.main_arg0)
          ∧ r.2.mem ((c.tc : Thread Cert.GinIdeal.nD Cert.GinIdeal.τ).loc Cert.GinIdeal.main_arg1) = m ((c.tc : Thread Cert.GinIdeal.nD Cert.GinIdeal.τ).loc Cert.GinIdeal.main_arg1))
      ∧ θ_run (Cert.GinReferenceIdeal.defs (F := Ideal)) (onTc (τ := Cert.GinReferenceIdeal.τ) (Cert.GinReferenceIdeal.main (F := Ideal))) ⟨m', fun _ => 0, g'⟩ (fun r => ∀ c : Dev Cert.GinReferenceIdeal.nD,
          r.2.mem ((c.tc : Thread Cert.GinReferenceIdeal.nD Cert.GinReferenceIdeal.τ).loc Cert.GinReferenceIdeal.main_v5) = v0 c
          ∧ r.2.mem ((c.tc : Thread Cert.GinReferenceIdeal.nD Cert.GinReferenceIdeal.τ).loc Cert.GinReferenceIdeal.main_arg0) = m' ((c.tc : Thread Cert.GinReferenceIdeal.nD Cert.GinReferenceIdeal.τ).loc Cert.GinReferenceIdeal.main_arg0)
          ∧ r.2.mem ((c.tc : Thread Cert.GinReferenceIdeal.nD Cert.GinReferenceIdeal.τ).loc Cert.GinReferenceIdeal.main_arg1) = m' ((c.tc : Thread Cert.GinReferenceIdeal.nD Cert.GinReferenceIdeal.τ).loc Cert.GinReferenceIdeal.main_arg1))

def preserves_Gconv_GconvIdeal : Prop :=
  True

def algebraic_GconvIdeal_GconvReferenceIdeal [hGconvIdeal : Cert.GconvIdeal.Facts] [hGconvReferenceIdeal : Cert.GconvReferenceIdeal.Facts] : Prop :=
  ∀ (m : (ℓ : Loc Cert.GconvIdeal.nD Cert.GconvIdeal.τ Cert.GconvIdeal.sig) → Buf (Elt Ideal) ℓ) (g : Dev Cert.GconvIdeal.nD → PrngReg)
    (m' : (ℓ : Loc Cert.GconvReferenceIdeal.nD Cert.GconvReferenceIdeal.τ Cert.GconvReferenceIdeal.sig) → Buf (Elt Ideal) ℓ) (g' : Dev Cert.GconvReferenceIdeal.nD → PrngReg), Pre_GconvIdeal m →
    (∀ c : Dev Cert.GconvIdeal.nD,
      m' ((c.tc : Thread Cert.GconvReferenceIdeal.nD Cert.GconvReferenceIdeal.τ).loc Cert.GconvReferenceIdeal.main_arg0) = m ((c.tc : Thread Cert.GconvIdeal.nD Cert.GconvIdeal.τ).loc Cert.GconvIdeal.main_arg0)
      ∧ m' ((c.tc : Thread Cert.GconvReferenceIdeal.nD Cert.GconvReferenceIdeal.τ).loc Cert.GconvReferenceIdeal.main_arg1) = m ((c.tc : Thread Cert.GconvIdeal.nD Cert.GconvIdeal.τ).loc Cert.GconvIdeal.main_arg1)) →
    ∃ (v0 : (c : Dev Cert.GconvIdeal.nD) → Buf (Elt Ideal) ((c.tc : Thread Cert.GconvIdeal.nD Cert.GconvIdeal.τ).loc Cert.GconvIdeal.main_v0)),
      θ_run (Cert.GconvIdeal.defs (F := Ideal)) (onTc (τ := Cert.GconvIdeal.τ) (Cert.GconvIdeal.main (F := Ideal))) ⟨m, fun _ => 0, g⟩ (fun r => ∀ c : Dev Cert.GconvIdeal.nD,
          r.2.mem ((c.tc : Thread Cert.GconvIdeal.nD Cert.GconvIdeal.τ).loc Cert.GconvIdeal.main_v0) = v0 c
          ∧ r.2.mem ((c.tc : Thread Cert.GconvIdeal.nD Cert.GconvIdeal.τ).loc Cert.GconvIdeal.main_arg0) = m ((c.tc : Thread Cert.GconvIdeal.nD Cert.GconvIdeal.τ).loc Cert.GconvIdeal.main_arg0)
          ∧ r.2.mem ((c.tc : Thread Cert.GconvIdeal.nD Cert.GconvIdeal.τ).loc Cert.GconvIdeal.main_arg1) = m ((c.tc : Thread Cert.GconvIdeal.nD Cert.GconvIdeal.τ).loc Cert.GconvIdeal.main_arg1))
      ∧ θ_run (Cert.GconvReferenceIdeal.defs (F := Ideal)) (onTc (τ := Cert.GconvReferenceIdeal.τ) (Cert.GconvReferenceIdeal.main (F := Ideal))) ⟨m', fun _ => 0, g'⟩ (fun r => ∀ c : Dev Cert.GconvReferenceIdeal.nD,
          r.2.mem ((c.tc : Thread Cert.GconvReferenceIdeal.nD Cert.GconvReferenceIdeal.τ).loc Cert.GconvReferenceIdeal.main_v5) = v0 c
          ∧ r.2.mem ((c.tc : Thread Cert.GconvReferenceIdeal.nD Cert.GconvReferenceIdeal.τ).loc Cert.GconvReferenceIdeal.main_arg0) = m' ((c.tc : Thread Cert.GconvReferenceIdeal.nD Cert.GconvReferenceIdeal.τ).loc Cert.GconvReferenceIdeal.main_arg0)
          ∧ r.2.mem ((c.tc : Thread Cert.GconvReferenceIdeal.nD Cert.GconvReferenceIdeal.τ).loc Cert.GconvReferenceIdeal.main_arg1) = m' ((c.tc : Thread Cert.GconvReferenceIdeal.nD Cert.GconvReferenceIdeal.τ).loc Cert.GconvReferenceIdeal.main_arg1))

def preserves_Fup_FupIdeal : Prop :=
  True

def algebraic_FupIdeal_FupReferenceIdeal [hFupIdeal : Cert.FupIdeal.Facts] [hFupReferenceIdeal : Cert.FupReferenceIdeal.Facts] : Prop :=
  ∀ (m : (ℓ : Loc Cert.FupIdeal.nD Cert.FupIdeal.τ Cert.FupIdeal.sig) → Buf (Elt Ideal) ℓ) (g : Dev Cert.FupIdeal.nD → PrngReg)
    (m' : (ℓ : Loc Cert.FupReferenceIdeal.nD Cert.FupReferenceIdeal.τ Cert.FupReferenceIdeal.sig) → Buf (Elt Ideal) ℓ) (g' : Dev Cert.FupReferenceIdeal.nD → PrngReg), Pre_FupIdeal m →
    (∀ c : Dev Cert.FupIdeal.nD,
      m' ((c.tc : Thread Cert.FupReferenceIdeal.nD Cert.FupReferenceIdeal.τ).loc Cert.FupReferenceIdeal.main_arg0) = m ((c.tc : Thread Cert.FupIdeal.nD Cert.FupIdeal.τ).loc Cert.FupIdeal.main_arg0)
      ∧ m' ((c.tc : Thread Cert.FupReferenceIdeal.nD Cert.FupReferenceIdeal.τ).loc Cert.FupReferenceIdeal.main_arg1) = m ((c.tc : Thread Cert.FupIdeal.nD Cert.FupIdeal.τ).loc Cert.FupIdeal.main_arg1)) →
    ∃ (v0 : (c : Dev Cert.FupIdeal.nD) → Buf (Elt Ideal) ((c.tc : Thread Cert.FupIdeal.nD Cert.FupIdeal.τ).loc Cert.FupIdeal.main_v0)),
      θ_run (Cert.FupIdeal.defs (F := Ideal)) (onTc (τ := Cert.FupIdeal.τ) (Cert.FupIdeal.main (F := Ideal))) ⟨m, fun _ => 0, g⟩ (fun r => ∀ c : Dev Cert.FupIdeal.nD,
          r.2.mem ((c.tc : Thread Cert.FupIdeal.nD Cert.FupIdeal.τ).loc Cert.FupIdeal.main_v0) = v0 c
          ∧ r.2.mem ((c.tc : Thread Cert.FupIdeal.nD Cert.FupIdeal.τ).loc Cert.FupIdeal.main_arg0) = m ((c.tc : Thread Cert.FupIdeal.nD Cert.FupIdeal.τ).loc Cert.FupIdeal.main_arg0)
          ∧ r.2.mem ((c.tc : Thread Cert.FupIdeal.nD Cert.FupIdeal.τ).loc Cert.FupIdeal.main_arg1) = m ((c.tc : Thread Cert.FupIdeal.nD Cert.FupIdeal.τ).loc Cert.FupIdeal.main_arg1))
      ∧ θ_run (Cert.FupReferenceIdeal.defs (F := Ideal)) (onTc (τ := Cert.FupReferenceIdeal.τ) (Cert.FupReferenceIdeal.main (F := Ideal))) ⟨m', fun _ => 0, g'⟩ (fun r => ∀ c : Dev Cert.FupReferenceIdeal.nD,
          r.2.mem ((c.tc : Thread Cert.FupReferenceIdeal.nD Cert.FupReferenceIdeal.τ).loc Cert.FupReferenceIdeal.main_v2) = v0 c
          ∧ r.2.mem ((c.tc : Thread Cert.FupReferenceIdeal.nD Cert.FupReferenceIdeal.τ).loc Cert.FupReferenceIdeal.main_arg0) = m' ((c.tc : Thread Cert.FupReferenceIdeal.nD Cert.FupReferenceIdeal.τ).loc Cert.FupReferenceIdeal.main_arg0)
          ∧ r.2.mem ((c.tc : Thread Cert.FupReferenceIdeal.nD Cert.FupReferenceIdeal.τ).loc Cert.FupReferenceIdeal.main_arg1) = m' ((c.tc : Thread Cert.FupReferenceIdeal.nD Cert.FupReferenceIdeal.τ).loc Cert.FupReferenceIdeal.main_arg1))

def preserves_Fdown_FdownIdeal : Prop :=
  True

def algebraic_FdownIdeal_FdownReferenceIdeal [hFdownIdeal : Cert.FdownIdeal.Facts] [hFdownReferenceIdeal : Cert.FdownReferenceIdeal.Facts] : Prop :=
  ∀ (m : (ℓ : Loc Cert.FdownIdeal.nD Cert.FdownIdeal.τ Cert.FdownIdeal.sig) → Buf (Elt Ideal) ℓ) (g : Dev Cert.FdownIdeal.nD → PrngReg)
    (m' : (ℓ : Loc Cert.FdownReferenceIdeal.nD Cert.FdownReferenceIdeal.τ Cert.FdownReferenceIdeal.sig) → Buf (Elt Ideal) ℓ) (g' : Dev Cert.FdownReferenceIdeal.nD → PrngReg), Pre_FdownIdeal m →
    (∀ c : Dev Cert.FdownIdeal.nD,
      m' ((c.tc : Thread Cert.FdownReferenceIdeal.nD Cert.FdownReferenceIdeal.τ).loc Cert.FdownReferenceIdeal.main_arg0) = m ((c.tc : Thread Cert.FdownIdeal.nD Cert.FdownIdeal.τ).loc Cert.FdownIdeal.main_arg0)
      ∧ m' ((c.tc : Thread Cert.FdownReferenceIdeal.nD Cert.FdownReferenceIdeal.τ).loc Cert.FdownReferenceIdeal.main_arg1) = m ((c.tc : Thread Cert.FdownIdeal.nD Cert.FdownIdeal.τ).loc Cert.FdownIdeal.main_arg1)) →
    ∃ (v0 : (c : Dev Cert.FdownIdeal.nD) → Buf (Elt Ideal) ((c.tc : Thread Cert.FdownIdeal.nD Cert.FdownIdeal.τ).loc Cert.FdownIdeal.main_v0)),
      θ_run (Cert.FdownIdeal.defs (F := Ideal)) (onTc (τ := Cert.FdownIdeal.τ) (Cert.FdownIdeal.main (F := Ideal))) ⟨m, fun _ => 0, g⟩ (fun r => ∀ c : Dev Cert.FdownIdeal.nD,
          r.2.mem ((c.tc : Thread Cert.FdownIdeal.nD Cert.FdownIdeal.τ).loc Cert.FdownIdeal.main_v0) = v0 c
          ∧ r.2.mem ((c.tc : Thread Cert.FdownIdeal.nD Cert.FdownIdeal.τ).loc Cert.FdownIdeal.main_arg0) = m ((c.tc : Thread Cert.FdownIdeal.nD Cert.FdownIdeal.τ).loc Cert.FdownIdeal.main_arg0)
          ∧ r.2.mem ((c.tc : Thread Cert.FdownIdeal.nD Cert.FdownIdeal.τ).loc Cert.FdownIdeal.main_arg1) = m ((c.tc : Thread Cert.FdownIdeal.nD Cert.FdownIdeal.τ).loc Cert.FdownIdeal.main_arg1))
      ∧ θ_run (Cert.FdownReferenceIdeal.defs (F := Ideal)) (onTc (τ := Cert.FdownReferenceIdeal.τ) (Cert.FdownReferenceIdeal.main (F := Ideal))) ⟨m', fun _ => 0, g'⟩ (fun r => ∀ c : Dev Cert.FdownReferenceIdeal.nD,
          r.2.mem ((c.tc : Thread Cert.FdownReferenceIdeal.nD Cert.FdownReferenceIdeal.τ).loc Cert.FdownReferenceIdeal.main_v0) = v0 c
          ∧ r.2.mem ((c.tc : Thread Cert.FdownReferenceIdeal.nD Cert.FdownReferenceIdeal.τ).loc Cert.FdownReferenceIdeal.main_arg0) = m' ((c.tc : Thread Cert.FdownReferenceIdeal.nD Cert.FdownReferenceIdeal.τ).loc Cert.FdownReferenceIdeal.main_arg0)
          ∧ r.2.mem ((c.tc : Thread Cert.FdownReferenceIdeal.nD Cert.FdownReferenceIdeal.τ).loc Cert.FdownReferenceIdeal.main_arg1) = m' ((c.tc : Thread Cert.FdownReferenceIdeal.nD Cert.FdownReferenceIdeal.τ).loc Cert.FdownReferenceIdeal.main_arg1))

def preserves_Oproj_OprojIdeal : Prop :=
  True

def algebraic_OprojIdeal_OprojReferenceIdeal [hOprojIdeal : Cert.OprojIdeal.Facts] [hOprojReferenceIdeal : Cert.OprojReferenceIdeal.Facts] : Prop :=
  ∀ (m : (ℓ : Loc Cert.OprojIdeal.nD Cert.OprojIdeal.τ Cert.OprojIdeal.sig) → Buf (Elt Ideal) ℓ) (g : Dev Cert.OprojIdeal.nD → PrngReg)
    (m' : (ℓ : Loc Cert.OprojReferenceIdeal.nD Cert.OprojReferenceIdeal.τ Cert.OprojReferenceIdeal.sig) → Buf (Elt Ideal) ℓ) (g' : Dev Cert.OprojReferenceIdeal.nD → PrngReg), Pre_OprojIdeal m →
    (∀ c : Dev Cert.OprojIdeal.nD,
      m' ((c.tc : Thread Cert.OprojReferenceIdeal.nD Cert.OprojReferenceIdeal.τ).loc Cert.OprojReferenceIdeal.main_arg0) = m ((c.tc : Thread Cert.OprojIdeal.nD Cert.OprojIdeal.τ).loc Cert.OprojIdeal.main_arg0)
      ∧ m' ((c.tc : Thread Cert.OprojReferenceIdeal.nD Cert.OprojReferenceIdeal.τ).loc Cert.OprojReferenceIdeal.main_arg1) = m ((c.tc : Thread Cert.OprojIdeal.nD Cert.OprojIdeal.τ).loc Cert.OprojIdeal.main_arg1)
      ∧ m' ((c.tc : Thread Cert.OprojReferenceIdeal.nD Cert.OprojReferenceIdeal.τ).loc Cert.OprojReferenceIdeal.main_arg2) = m ((c.tc : Thread Cert.OprojIdeal.nD Cert.OprojIdeal.τ).loc Cert.OprojIdeal.main_arg2)) →
    ∃ (v0 : (c : Dev Cert.OprojIdeal.nD) → Buf (Elt Ideal) ((c.tc : Thread Cert.OprojIdeal.nD Cert.OprojIdeal.τ).loc Cert.OprojIdeal.main_v0)),
      θ_run (Cert.OprojIdeal.defs (F := Ideal)) (onTc (τ := Cert.OprojIdeal.τ) (Cert.OprojIdeal.main (F := Ideal))) ⟨m, fun _ => 0, g⟩ (fun r => ∀ c : Dev Cert.OprojIdeal.nD,
          r.2.mem ((c.tc : Thread Cert.OprojIdeal.nD Cert.OprojIdeal.τ).loc Cert.OprojIdeal.main_v0) = v0 c
          ∧ r.2.mem ((c.tc : Thread Cert.OprojIdeal.nD Cert.OprojIdeal.τ).loc Cert.OprojIdeal.main_arg0) = m ((c.tc : Thread Cert.OprojIdeal.nD Cert.OprojIdeal.τ).loc Cert.OprojIdeal.main_arg0)
          ∧ r.2.mem ((c.tc : Thread Cert.OprojIdeal.nD Cert.OprojIdeal.τ).loc Cert.OprojIdeal.main_arg1) = m ((c.tc : Thread Cert.OprojIdeal.nD Cert.OprojIdeal.τ).loc Cert.OprojIdeal.main_arg1)
          ∧ r.2.mem ((c.tc : Thread Cert.OprojIdeal.nD Cert.OprojIdeal.τ).loc Cert.OprojIdeal.main_arg2) = m ((c.tc : Thread Cert.OprojIdeal.nD Cert.OprojIdeal.τ).loc Cert.OprojIdeal.main_arg2))
      ∧ θ_run (Cert.OprojReferenceIdeal.defs (F := Ideal)) (onTc (τ := Cert.OprojReferenceIdeal.τ) (Cert.OprojReferenceIdeal.main (F := Ideal))) ⟨m', fun _ => 0, g'⟩ (fun r => ∀ c : Dev Cert.OprojReferenceIdeal.nD,
          r.2.mem ((c.tc : Thread Cert.OprojReferenceIdeal.nD Cert.OprojReferenceIdeal.τ).loc Cert.OprojReferenceIdeal.main_v1) = v0 c
          ∧ r.2.mem ((c.tc : Thread Cert.OprojReferenceIdeal.nD Cert.OprojReferenceIdeal.τ).loc Cert.OprojReferenceIdeal.main_arg0) = m' ((c.tc : Thread Cert.OprojReferenceIdeal.nD Cert.OprojReferenceIdeal.τ).loc Cert.OprojReferenceIdeal.main_arg0)
          ∧ r.2.mem ((c.tc : Thread Cert.OprojReferenceIdeal.nD Cert.OprojReferenceIdeal.τ).loc Cert.OprojReferenceIdeal.main_arg1) = m' ((c.tc : Thread Cert.OprojReferenceIdeal.nD Cert.OprojReferenceIdeal.τ).loc Cert.OprojReferenceIdeal.main_arg1)
          ∧ r.2.mem ((c.tc : Thread Cert.OprojReferenceIdeal.nD Cert.OprojReferenceIdeal.τ).loc Cert.OprojReferenceIdeal.main_arg2) = m' ((c.tc : Thread Cert.OprojReferenceIdeal.nD Cert.OprojReferenceIdeal.τ).loc Cert.OprojReferenceIdeal.main_arg2))

def preserves_Psb_PsbIdeal : Prop :=
  True

def algebraic_PsbIdeal_PsbReferenceIdeal [hPsbIdeal : Cert.PsbIdeal.Facts] [hPsbReferenceIdeal : Cert.PsbReferenceIdeal.Facts] : Prop :=
  ∀ (m : (ℓ : Loc Cert.PsbIdeal.nD Cert.PsbIdeal.τ Cert.PsbIdeal.sig) → Buf (Elt Ideal) ℓ) (g : Dev Cert.PsbIdeal.nD → PrngReg)
    (m' : (ℓ : Loc Cert.PsbReferenceIdeal.nD Cert.PsbReferenceIdeal.τ Cert.PsbReferenceIdeal.sig) → Buf (Elt Ideal) ℓ) (g' : Dev Cert.PsbReferenceIdeal.nD → PrngReg), Pre_PsbIdeal m →
    (∀ c : Dev Cert.PsbIdeal.nD,
      m' ((c.tc : Thread Cert.PsbReferenceIdeal.nD Cert.PsbReferenceIdeal.τ).loc Cert.PsbReferenceIdeal.main_arg0) = m ((c.tc : Thread Cert.PsbIdeal.nD Cert.PsbIdeal.τ).loc Cert.PsbIdeal.main_arg0)
      ∧ m' ((c.tc : Thread Cert.PsbReferenceIdeal.nD Cert.PsbReferenceIdeal.τ).loc Cert.PsbReferenceIdeal.main_arg1) = m ((c.tc : Thread Cert.PsbIdeal.nD Cert.PsbIdeal.τ).loc Cert.PsbIdeal.main_arg1)) →
    ∃ (v0 : (c : Dev Cert.PsbIdeal.nD) → Buf (Elt Ideal) ((c.tc : Thread Cert.PsbIdeal.nD Cert.PsbIdeal.τ).loc Cert.PsbIdeal.main_v1)),
      θ_run (Cert.PsbIdeal.defs (F := Ideal)) (onTc (τ := Cert.PsbIdeal.τ) (Cert.PsbIdeal.main (F := Ideal))) ⟨m, fun _ => 0, g⟩ (fun r => ∀ c : Dev Cert.PsbIdeal.nD,
          r.2.mem ((c.tc : Thread Cert.PsbIdeal.nD Cert.PsbIdeal.τ).loc Cert.PsbIdeal.main_v1) = v0 c
          ∧ r.2.mem ((c.tc : Thread Cert.PsbIdeal.nD Cert.PsbIdeal.τ).loc Cert.PsbIdeal.main_arg0) = m ((c.tc : Thread Cert.PsbIdeal.nD Cert.PsbIdeal.τ).loc Cert.PsbIdeal.main_arg0)
          ∧ r.2.mem ((c.tc : Thread Cert.PsbIdeal.nD Cert.PsbIdeal.τ).loc Cert.PsbIdeal.main_arg1) = m ((c.tc : Thread Cert.PsbIdeal.nD Cert.PsbIdeal.τ).loc Cert.PsbIdeal.main_arg1))
      ∧ θ_run (Cert.PsbReferenceIdeal.defs (F := Ideal)) (onTc (τ := Cert.PsbReferenceIdeal.τ) (Cert.PsbReferenceIdeal.main (F := Ideal))) ⟨m', fun _ => 0, g'⟩ (fun r => ∀ c : Dev Cert.PsbReferenceIdeal.nD,
          r.2.mem ((c.tc : Thread Cert.PsbReferenceIdeal.nD Cert.PsbReferenceIdeal.τ).loc Cert.PsbReferenceIdeal.main_v2) = v0 c
          ∧ r.2.mem ((c.tc : Thread Cert.PsbReferenceIdeal.nD Cert.PsbReferenceIdeal.τ).loc Cert.PsbReferenceIdeal.main_arg0) = m' ((c.tc : Thread Cert.PsbReferenceIdeal.nD Cert.PsbReferenceIdeal.τ).loc Cert.PsbReferenceIdeal.main_arg0)
          ∧ r.2.mem ((c.tc : Thread Cert.PsbReferenceIdeal.nD Cert.PsbReferenceIdeal.τ).loc Cert.PsbReferenceIdeal.main_arg1) = m' ((c.tc : Thread Cert.PsbReferenceIdeal.nD Cert.PsbReferenceIdeal.τ).loc Cert.PsbReferenceIdeal.main_arg1))

def preserves_Pdn_PdnIdeal : Prop :=
  True

def algebraic_PdnIdeal_PdnReferenceIdeal [hPdnIdeal : Cert.PdnIdeal.Facts] [hPdnReferenceIdeal : Cert.PdnReferenceIdeal.Facts] : Prop :=
  ∀ (m : (ℓ : Loc Cert.PdnIdeal.nD Cert.PdnIdeal.τ Cert.PdnIdeal.sig) → Buf (Elt Ideal) ℓ) (g : Dev Cert.PdnIdeal.nD → PrngReg)
    (m' : (ℓ : Loc Cert.PdnReferenceIdeal.nD Cert.PdnReferenceIdeal.τ Cert.PdnReferenceIdeal.sig) → Buf (Elt Ideal) ℓ) (g' : Dev Cert.PdnReferenceIdeal.nD → PrngReg), Pre_PdnIdeal m →
    (∀ c : Dev Cert.PdnIdeal.nD,
      m' ((c.tc : Thread Cert.PdnReferenceIdeal.nD Cert.PdnReferenceIdeal.τ).loc Cert.PdnReferenceIdeal.main_arg0) = m ((c.tc : Thread Cert.PdnIdeal.nD Cert.PdnIdeal.τ).loc Cert.PdnIdeal.main_arg0)
      ∧ m' ((c.tc : Thread Cert.PdnReferenceIdeal.nD Cert.PdnReferenceIdeal.τ).loc Cert.PdnReferenceIdeal.main_arg1) = m ((c.tc : Thread Cert.PdnIdeal.nD Cert.PdnIdeal.τ).loc Cert.PdnIdeal.main_arg1)) →
    ∃ (v0 : (c : Dev Cert.PdnIdeal.nD) → Buf (Elt Ideal) ((c.tc : Thread Cert.PdnIdeal.nD Cert.PdnIdeal.τ).loc Cert.PdnIdeal.main_v1)),
      θ_run (Cert.PdnIdeal.defs (F := Ideal)) (onTc (τ := Cert.PdnIdeal.τ) (Cert.PdnIdeal.main (F := Ideal))) ⟨m, fun _ => 0, g⟩ (fun r => ∀ c : Dev Cert.PdnIdeal.nD,
          r.2.mem ((c.tc : Thread Cert.PdnIdeal.nD Cert.PdnIdeal.τ).loc Cert.PdnIdeal.main_v1) = v0 c
          ∧ r.2.mem ((c.tc : Thread Cert.PdnIdeal.nD Cert.PdnIdeal.τ).loc Cert.PdnIdeal.main_arg0) = m ((c.tc : Thread Cert.PdnIdeal.nD Cert.PdnIdeal.τ).loc Cert.PdnIdeal.main_arg0)
          ∧ r.2.mem ((c.tc : Thread Cert.PdnIdeal.nD Cert.PdnIdeal.τ).loc Cert.PdnIdeal.main_arg1) = m ((c.tc : Thread Cert.PdnIdeal.nD Cert.PdnIdeal.τ).loc Cert.PdnIdeal.main_arg1))
      ∧ θ_run (Cert.PdnReferenceIdeal.defs (F := Ideal)) (onTc (τ := Cert.PdnReferenceIdeal.τ) (Cert.PdnReferenceIdeal.main (F := Ideal))) ⟨m', fun _ => 0, g'⟩ (fun r => ∀ c : Dev Cert.PdnReferenceIdeal.nD,
          r.2.mem ((c.tc : Thread Cert.PdnReferenceIdeal.nD Cert.PdnReferenceIdeal.τ).loc Cert.PdnReferenceIdeal.main_v1) = v0 c
          ∧ r.2.mem ((c.tc : Thread Cert.PdnReferenceIdeal.nD Cert.PdnReferenceIdeal.τ).loc Cert.PdnReferenceIdeal.main_arg0) = m' ((c.tc : Thread Cert.PdnReferenceIdeal.nD Cert.PdnReferenceIdeal.τ).loc Cert.PdnReferenceIdeal.main_arg0)
          ∧ r.2.mem ((c.tc : Thread Cert.PdnReferenceIdeal.nD Cert.PdnReferenceIdeal.τ).loc Cert.PdnReferenceIdeal.main_arg1) = m' ((c.tc : Thread Cert.PdnReferenceIdeal.nD Cert.PdnReferenceIdeal.τ).loc Cert.PdnReferenceIdeal.main_arg1))

def preserves_Pba_PbaIdeal : Prop :=
  True

def algebraic_PbaIdeal_PbaReferenceIdeal [hPbaIdeal : Cert.PbaIdeal.Facts] [hPbaReferenceIdeal : Cert.PbaReferenceIdeal.Facts] : Prop :=
  ∀ (m : (ℓ : Loc Cert.PbaIdeal.nD Cert.PbaIdeal.τ Cert.PbaIdeal.sig) → Buf (Elt Ideal) ℓ) (g : Dev Cert.PbaIdeal.nD → PrngReg)
    (m' : (ℓ : Loc Cert.PbaReferenceIdeal.nD Cert.PbaReferenceIdeal.τ Cert.PbaReferenceIdeal.sig) → Buf (Elt Ideal) ℓ) (g' : Dev Cert.PbaReferenceIdeal.nD → PrngReg), Pre_PbaIdeal m →
    (∀ c : Dev Cert.PbaIdeal.nD,
      m' ((c.tc : Thread Cert.PbaReferenceIdeal.nD Cert.PbaReferenceIdeal.τ).loc Cert.PbaReferenceIdeal.main_arg0) = m ((c.tc : Thread Cert.PbaIdeal.nD Cert.PbaIdeal.τ).loc Cert.PbaIdeal.main_arg0)
      ∧ m' ((c.tc : Thread Cert.PbaReferenceIdeal.nD Cert.PbaReferenceIdeal.τ).loc Cert.PbaReferenceIdeal.main_arg1) = m ((c.tc : Thread Cert.PbaIdeal.nD Cert.PbaIdeal.τ).loc Cert.PbaIdeal.main_arg1)) →
    ∃ (v0 : (c : Dev Cert.PbaIdeal.nD) → Buf (Elt Ideal) ((c.tc : Thread Cert.PbaIdeal.nD Cert.PbaIdeal.τ).loc Cert.PbaIdeal.main_v1)),
      θ_run (Cert.PbaIdeal.defs (F := Ideal)) (onTc (τ := Cert.PbaIdeal.τ) (Cert.PbaIdeal.main (F := Ideal))) ⟨m, fun _ => 0, g⟩ (fun r => ∀ c : Dev Cert.PbaIdeal.nD,
          r.2.mem ((c.tc : Thread Cert.PbaIdeal.nD Cert.PbaIdeal.τ).loc Cert.PbaIdeal.main_v1) = v0 c
          ∧ r.2.mem ((c.tc : Thread Cert.PbaIdeal.nD Cert.PbaIdeal.τ).loc Cert.PbaIdeal.main_arg0) = m ((c.tc : Thread Cert.PbaIdeal.nD Cert.PbaIdeal.τ).loc Cert.PbaIdeal.main_arg0)
          ∧ r.2.mem ((c.tc : Thread Cert.PbaIdeal.nD Cert.PbaIdeal.τ).loc Cert.PbaIdeal.main_arg1) = m ((c.tc : Thread Cert.PbaIdeal.nD Cert.PbaIdeal.τ).loc Cert.PbaIdeal.main_arg1))
      ∧ θ_run (Cert.PbaReferenceIdeal.defs (F := Ideal)) (onTc (τ := Cert.PbaReferenceIdeal.τ) (Cert.PbaReferenceIdeal.main (F := Ideal))) ⟨m', fun _ => 0, g'⟩ (fun r => ∀ c : Dev Cert.PbaReferenceIdeal.nD,
          r.2.mem ((c.tc : Thread Cert.PbaReferenceIdeal.nD Cert.PbaReferenceIdeal.τ).loc Cert.PbaReferenceIdeal.main_v2) = v0 c
          ∧ r.2.mem ((c.tc : Thread Cert.PbaReferenceIdeal.nD Cert.PbaReferenceIdeal.τ).loc Cert.PbaReferenceIdeal.main_arg0) = m' ((c.tc : Thread Cert.PbaReferenceIdeal.nD Cert.PbaReferenceIdeal.τ).loc Cert.PbaReferenceIdeal.main_arg0)
          ∧ r.2.mem ((c.tc : Thread Cert.PbaReferenceIdeal.nD Cert.PbaReferenceIdeal.τ).loc Cert.PbaReferenceIdeal.main_arg1) = m' ((c.tc : Thread Cert.PbaReferenceIdeal.nD Cert.PbaReferenceIdeal.τ).loc Cert.PbaReferenceIdeal.main_arg1))

def preserves_Gba_GbaIdeal : Prop :=
  True

def algebraic_GbaIdeal_GbaReferenceIdeal [hGbaIdeal : Cert.GbaIdeal.Facts] [hGbaReferenceIdeal : Cert.GbaReferenceIdeal.Facts] : Prop :=
  ∀ (m : (ℓ : Loc Cert.GbaIdeal.nD Cert.GbaIdeal.τ Cert.GbaIdeal.sig) → Buf (Elt Ideal) ℓ) (g : Dev Cert.GbaIdeal.nD → PrngReg)
    (m' : (ℓ : Loc Cert.GbaReferenceIdeal.nD Cert.GbaReferenceIdeal.τ Cert.GbaReferenceIdeal.sig) → Buf (Elt Ideal) ℓ) (g' : Dev Cert.GbaReferenceIdeal.nD → PrngReg), Pre_GbaIdeal m →
    (∀ c : Dev Cert.GbaIdeal.nD,
      m' ((c.tc : Thread Cert.GbaReferenceIdeal.nD Cert.GbaReferenceIdeal.τ).loc Cert.GbaReferenceIdeal.main_arg0) = m ((c.tc : Thread Cert.GbaIdeal.nD Cert.GbaIdeal.τ).loc Cert.GbaIdeal.main_arg0)
      ∧ m' ((c.tc : Thread Cert.GbaReferenceIdeal.nD Cert.GbaReferenceIdeal.τ).loc Cert.GbaReferenceIdeal.main_arg1) = m ((c.tc : Thread Cert.GbaIdeal.nD Cert.GbaIdeal.τ).loc Cert.GbaIdeal.main_arg1)) →
    ∃ (v0 : (c : Dev Cert.GbaIdeal.nD) → Buf (Elt Ideal) ((c.tc : Thread Cert.GbaIdeal.nD Cert.GbaIdeal.τ).loc Cert.GbaIdeal.main_v0)),
      θ_run (Cert.GbaIdeal.defs (F := Ideal)) (onTc (τ := Cert.GbaIdeal.τ) (Cert.GbaIdeal.main (F := Ideal))) ⟨m, fun _ => 0, g⟩ (fun r => ∀ c : Dev Cert.GbaIdeal.nD,
          r.2.mem ((c.tc : Thread Cert.GbaIdeal.nD Cert.GbaIdeal.τ).loc Cert.GbaIdeal.main_v0) = v0 c
          ∧ r.2.mem ((c.tc : Thread Cert.GbaIdeal.nD Cert.GbaIdeal.τ).loc Cert.GbaIdeal.main_arg0) = m ((c.tc : Thread Cert.GbaIdeal.nD Cert.GbaIdeal.τ).loc Cert.GbaIdeal.main_arg0)
          ∧ r.2.mem ((c.tc : Thread Cert.GbaIdeal.nD Cert.GbaIdeal.τ).loc Cert.GbaIdeal.main_arg1) = m ((c.tc : Thread Cert.GbaIdeal.nD Cert.GbaIdeal.τ).loc Cert.GbaIdeal.main_arg1))
      ∧ θ_run (Cert.GbaReferenceIdeal.defs (F := Ideal)) (onTc (τ := Cert.GbaReferenceIdeal.τ) (Cert.GbaReferenceIdeal.main (F := Ideal))) ⟨m', fun _ => 0, g'⟩ (fun r => ∀ c : Dev Cert.GbaReferenceIdeal.nD,
          r.2.mem ((c.tc : Thread Cert.GbaReferenceIdeal.nD Cert.GbaReferenceIdeal.τ).loc Cert.GbaReferenceIdeal.main_v5) = v0 c
          ∧ r.2.mem ((c.tc : Thread Cert.GbaReferenceIdeal.nD Cert.GbaReferenceIdeal.τ).loc Cert.GbaReferenceIdeal.main_arg0) = m' ((c.tc : Thread Cert.GbaReferenceIdeal.nD Cert.GbaReferenceIdeal.τ).loc Cert.GbaReferenceIdeal.main_arg0)
          ∧ r.2.mem ((c.tc : Thread Cert.GbaReferenceIdeal.nD Cert.GbaReferenceIdeal.τ).loc Cert.GbaReferenceIdeal.main_arg1) = m' ((c.tc : Thread Cert.GbaReferenceIdeal.nD Cert.GbaReferenceIdeal.τ).loc Cert.GbaReferenceIdeal.main_arg1))

def preserves_AdIn_AdInIdeal : Prop :=
  True

def algebraic_AdInIdeal_AdInReferenceIdeal [hAdInIdeal : Cert.AdInIdeal.Facts] [hAdInReferenceIdeal : Cert.AdInReferenceIdeal.Facts] : Prop :=
  ∀ (m : (ℓ : Loc Cert.AdInIdeal.nD Cert.AdInIdeal.τ Cert.AdInIdeal.sig) → Buf (Elt Ideal) ℓ) (g : Dev Cert.AdInIdeal.nD → PrngReg)
    (m' : (ℓ : Loc Cert.AdInReferenceIdeal.nD Cert.AdInReferenceIdeal.τ Cert.AdInReferenceIdeal.sig) → Buf (Elt Ideal) ℓ) (g' : Dev Cert.AdInReferenceIdeal.nD → PrngReg), Pre_AdInIdeal m →
    (∀ c : Dev Cert.AdInIdeal.nD,
      m' ((c.tc : Thread Cert.AdInReferenceIdeal.nD Cert.AdInReferenceIdeal.τ).loc Cert.AdInReferenceIdeal.main_arg0) = m ((c.tc : Thread Cert.AdInIdeal.nD Cert.AdInIdeal.τ).loc Cert.AdInIdeal.main_arg0)
      ∧ m' ((c.tc : Thread Cert.AdInReferenceIdeal.nD Cert.AdInReferenceIdeal.τ).loc Cert.AdInReferenceIdeal.main_arg1) = m ((c.tc : Thread Cert.AdInIdeal.nD Cert.AdInIdeal.τ).loc Cert.AdInIdeal.main_arg1)
      ∧ m' ((c.tc : Thread Cert.AdInReferenceIdeal.nD Cert.AdInReferenceIdeal.τ).loc Cert.AdInReferenceIdeal.main_arg2) = m ((c.tc : Thread Cert.AdInIdeal.nD Cert.AdInIdeal.τ).loc Cert.AdInIdeal.main_arg2)
      ∧ m' ((c.tc : Thread Cert.AdInReferenceIdeal.nD Cert.AdInReferenceIdeal.τ).loc Cert.AdInReferenceIdeal.main_arg3) = m ((c.tc : Thread Cert.AdInIdeal.nD Cert.AdInIdeal.τ).loc Cert.AdInIdeal.main_arg3)
      ∧ m' ((c.tc : Thread Cert.AdInReferenceIdeal.nD Cert.AdInReferenceIdeal.τ).loc Cert.AdInReferenceIdeal.main_arg4) = m ((c.tc : Thread Cert.AdInIdeal.nD Cert.AdInIdeal.τ).loc Cert.AdInIdeal.main_arg4)
      ∧ m' ((c.tc : Thread Cert.AdInReferenceIdeal.nD Cert.AdInReferenceIdeal.τ).loc Cert.AdInReferenceIdeal.main_arg5) = m ((c.tc : Thread Cert.AdInIdeal.nD Cert.AdInIdeal.τ).loc Cert.AdInIdeal.main_arg5)) →
    ∃ (v0 : (c : Dev Cert.AdInIdeal.nD) → Buf (Elt Ideal) ((c.tc : Thread Cert.AdInIdeal.nD Cert.AdInIdeal.τ).loc Cert.AdInIdeal.main_v0_0)) (v1 : (c : Dev Cert.AdInIdeal.nD) → Buf (Elt Ideal) ((c.tc : Thread Cert.AdInIdeal.nD Cert.AdInIdeal.τ).loc Cert.AdInIdeal.main_v0_1)) (v2 : (c : Dev Cert.AdInIdeal.nD) → Buf (Elt Ideal) ((c.tc : Thread Cert.AdInIdeal.nD Cert.AdInIdeal.τ).loc Cert.AdInIdeal.main_v0_2)) (v3 : (c : Dev Cert.AdInIdeal.nD) → Buf (Elt Ideal) ((c.tc : Thread Cert.AdInIdeal.nD Cert.AdInIdeal.τ).loc Cert.AdInIdeal.main_v0_3)),
      θ_run (Cert.AdInIdeal.defs (F := Ideal)) (onTc (τ := Cert.AdInIdeal.τ) (Cert.AdInIdeal.main (F := Ideal))) ⟨m, fun _ => 0, g⟩ (fun r => ∀ c : Dev Cert.AdInIdeal.nD,
          r.2.mem ((c.tc : Thread Cert.AdInIdeal.nD Cert.AdInIdeal.τ).loc Cert.AdInIdeal.main_v0_0) = v0 c
          ∧ r.2.mem ((c.tc : Thread Cert.AdInIdeal.nD Cert.AdInIdeal.τ).loc Cert.AdInIdeal.main_v0_1) = v1 c
          ∧ r.2.mem ((c.tc : Thread Cert.AdInIdeal.nD Cert.AdInIdeal.τ).loc Cert.AdInIdeal.main_v0_2) = v2 c
          ∧ r.2.mem ((c.tc : Thread Cert.AdInIdeal.nD Cert.AdInIdeal.τ).loc Cert.AdInIdeal.main_v0_3) = v3 c
          ∧ r.2.mem ((c.tc : Thread Cert.AdInIdeal.nD Cert.AdInIdeal.τ).loc Cert.AdInIdeal.main_arg0) = m ((c.tc : Thread Cert.AdInIdeal.nD Cert.AdInIdeal.τ).loc Cert.AdInIdeal.main_arg0)
          ∧ r.2.mem ((c.tc : Thread Cert.AdInIdeal.nD Cert.AdInIdeal.τ).loc Cert.AdInIdeal.main_arg1) = m ((c.tc : Thread Cert.AdInIdeal.nD Cert.AdInIdeal.τ).loc Cert.AdInIdeal.main_arg1)
          ∧ r.2.mem ((c.tc : Thread Cert.AdInIdeal.nD Cert.AdInIdeal.τ).loc Cert.AdInIdeal.main_arg2) = m ((c.tc : Thread Cert.AdInIdeal.nD Cert.AdInIdeal.τ).loc Cert.AdInIdeal.main_arg2)
          ∧ r.2.mem ((c.tc : Thread Cert.AdInIdeal.nD Cert.AdInIdeal.τ).loc Cert.AdInIdeal.main_arg3) = m ((c.tc : Thread Cert.AdInIdeal.nD Cert.AdInIdeal.τ).loc Cert.AdInIdeal.main_arg3)
          ∧ r.2.mem ((c.tc : Thread Cert.AdInIdeal.nD Cert.AdInIdeal.τ).loc Cert.AdInIdeal.main_arg4) = m ((c.tc : Thread Cert.AdInIdeal.nD Cert.AdInIdeal.τ).loc Cert.AdInIdeal.main_arg4)
          ∧ r.2.mem ((c.tc : Thread Cert.AdInIdeal.nD Cert.AdInIdeal.τ).loc Cert.AdInIdeal.main_arg5) = m ((c.tc : Thread Cert.AdInIdeal.nD Cert.AdInIdeal.τ).loc Cert.AdInIdeal.main_arg5))
      ∧ θ_run (Cert.AdInReferenceIdeal.defs (F := Ideal)) (onTc (τ := Cert.AdInReferenceIdeal.τ) (Cert.AdInReferenceIdeal.main (F := Ideal))) ⟨m', fun _ => 0, g'⟩ (fun r => ∀ c : Dev Cert.AdInReferenceIdeal.nD,
          r.2.mem ((c.tc : Thread Cert.AdInReferenceIdeal.nD Cert.AdInReferenceIdeal.τ).loc Cert.AdInReferenceIdeal.main_v5) = v0 c
          ∧ r.2.mem ((c.tc : Thread Cert.AdInReferenceIdeal.nD Cert.AdInReferenceIdeal.τ).loc Cert.AdInReferenceIdeal.main_v29) = v1 c
          ∧ r.2.mem ((c.tc : Thread Cert.AdInReferenceIdeal.nD Cert.AdInReferenceIdeal.τ).loc Cert.AdInReferenceIdeal.main_v10) = v2 c
          ∧ r.2.mem ((c.tc : Thread Cert.AdInReferenceIdeal.nD Cert.AdInReferenceIdeal.τ).loc Cert.AdInReferenceIdeal.main_v16) = v3 c
          ∧ r.2.mem ((c.tc : Thread Cert.AdInReferenceIdeal.nD Cert.AdInReferenceIdeal.τ).loc Cert.AdInReferenceIdeal.main_arg0) = m' ((c.tc : Thread Cert.AdInReferenceIdeal.nD Cert.AdInReferenceIdeal.τ).loc Cert.AdInReferenceIdeal.main_arg0)
          ∧ r.2.mem ((c.tc : Thread Cert.AdInReferenceIdeal.nD Cert.AdInReferenceIdeal.τ).loc Cert.AdInReferenceIdeal.main_arg1) = m' ((c.tc : Thread Cert.AdInReferenceIdeal.nD Cert.AdInReferenceIdeal.τ).loc Cert.AdInReferenceIdeal.main_arg1)
          ∧ r.2.mem ((c.tc : Thread Cert.AdInReferenceIdeal.nD Cert.AdInReferenceIdeal.τ).loc Cert.AdInReferenceIdeal.main_arg2) = m' ((c.tc : Thread Cert.AdInReferenceIdeal.nD Cert.AdInReferenceIdeal.τ).loc Cert.AdInReferenceIdeal.main_arg2)
          ∧ r.2.mem ((c.tc : Thread Cert.AdInReferenceIdeal.nD Cert.AdInReferenceIdeal.τ).loc Cert.AdInReferenceIdeal.main_arg3) = m' ((c.tc : Thread Cert.AdInReferenceIdeal.nD Cert.AdInReferenceIdeal.τ).loc Cert.AdInReferenceIdeal.main_arg3)
          ∧ r.2.mem ((c.tc : Thread Cert.AdInReferenceIdeal.nD Cert.AdInReferenceIdeal.τ).loc Cert.AdInReferenceIdeal.main_arg4) = m' ((c.tc : Thread Cert.AdInReferenceIdeal.nD Cert.AdInReferenceIdeal.τ).loc Cert.AdInReferenceIdeal.main_arg4)
          ∧ r.2.mem ((c.tc : Thread Cert.AdInReferenceIdeal.nD Cert.AdInReferenceIdeal.τ).loc Cert.AdInReferenceIdeal.main_arg5) = m' ((c.tc : Thread Cert.AdInReferenceIdeal.nD Cert.AdInReferenceIdeal.τ).loc Cert.AdInReferenceIdeal.main_arg5))

def preserves_AdOut_AdOutIdeal : Prop :=
  True

def algebraic_AdOutIdeal_AdOutReferenceIdeal [hAdOutIdeal : Cert.AdOutIdeal.Facts] [hAdOutReferenceIdeal : Cert.AdOutReferenceIdeal.Facts] : Prop :=
  ∀ (m : (ℓ : Loc Cert.AdOutIdeal.nD Cert.AdOutIdeal.τ Cert.AdOutIdeal.sig) → Buf (Elt Ideal) ℓ) (g : Dev Cert.AdOutIdeal.nD → PrngReg)
    (m' : (ℓ : Loc Cert.AdOutReferenceIdeal.nD Cert.AdOutReferenceIdeal.τ Cert.AdOutReferenceIdeal.sig) → Buf (Elt Ideal) ℓ) (g' : Dev Cert.AdOutReferenceIdeal.nD → PrngReg), Pre_AdOutIdeal m →
    (∀ c : Dev Cert.AdOutIdeal.nD,
      m' ((c.tc : Thread Cert.AdOutReferenceIdeal.nD Cert.AdOutReferenceIdeal.τ).loc Cert.AdOutReferenceIdeal.main_arg0) = m ((c.tc : Thread Cert.AdOutIdeal.nD Cert.AdOutIdeal.τ).loc Cert.AdOutIdeal.main_arg0)
      ∧ m' ((c.tc : Thread Cert.AdOutReferenceIdeal.nD Cert.AdOutReferenceIdeal.τ).loc Cert.AdOutReferenceIdeal.main_arg1) = m ((c.tc : Thread Cert.AdOutIdeal.nD Cert.AdOutIdeal.τ).loc Cert.AdOutIdeal.main_arg1)
      ∧ m' ((c.tc : Thread Cert.AdOutReferenceIdeal.nD Cert.AdOutReferenceIdeal.τ).loc Cert.AdOutReferenceIdeal.main_arg2) = m ((c.tc : Thread Cert.AdOutIdeal.nD Cert.AdOutIdeal.τ).loc Cert.AdOutIdeal.main_arg2)
      ∧ m' ((c.tc : Thread Cert.AdOutReferenceIdeal.nD Cert.AdOutReferenceIdeal.τ).loc Cert.AdOutReferenceIdeal.main_arg3) = m ((c.tc : Thread Cert.AdOutIdeal.nD Cert.AdOutIdeal.τ).loc Cert.AdOutIdeal.main_arg3)
      ∧ m' ((c.tc : Thread Cert.AdOutReferenceIdeal.nD Cert.AdOutReferenceIdeal.τ).loc Cert.AdOutReferenceIdeal.main_arg4) = m ((c.tc : Thread Cert.AdOutIdeal.nD Cert.AdOutIdeal.τ).loc Cert.AdOutIdeal.main_arg4)
      ∧ m' ((c.tc : Thread Cert.AdOutReferenceIdeal.nD Cert.AdOutReferenceIdeal.τ).loc Cert.AdOutReferenceIdeal.main_arg5) = m ((c.tc : Thread Cert.AdOutIdeal.nD Cert.AdOutIdeal.τ).loc Cert.AdOutIdeal.main_arg5)) →
    ∃ (v0 : (c : Dev Cert.AdOutIdeal.nD) → Buf (Elt Ideal) ((c.tc : Thread Cert.AdOutIdeal.nD Cert.AdOutIdeal.τ).loc Cert.AdOutIdeal.main_v0_0)) (v1 : (c : Dev Cert.AdOutIdeal.nD) → Buf (Elt Ideal) ((c.tc : Thread Cert.AdOutIdeal.nD Cert.AdOutIdeal.τ).loc Cert.AdOutIdeal.main_v0_1)) (v2 : (c : Dev Cert.AdOutIdeal.nD) → Buf (Elt Ideal) ((c.tc : Thread Cert.AdOutIdeal.nD Cert.AdOutIdeal.τ).loc Cert.AdOutIdeal.main_v0_2)) (v3 : (c : Dev Cert.AdOutIdeal.nD) → Buf (Elt Ideal) ((c.tc : Thread Cert.AdOutIdeal.nD Cert.AdOutIdeal.τ).loc Cert.AdOutIdeal.main_v0_3)),
      θ_run (Cert.AdOutIdeal.defs (F := Ideal)) (onTc (τ := Cert.AdOutIdeal.τ) (Cert.AdOutIdeal.main (F := Ideal))) ⟨m, fun _ => 0, g⟩ (fun r => ∀ c : Dev Cert.AdOutIdeal.nD,
          r.2.mem ((c.tc : Thread Cert.AdOutIdeal.nD Cert.AdOutIdeal.τ).loc Cert.AdOutIdeal.main_v0_0) = v0 c
          ∧ r.2.mem ((c.tc : Thread Cert.AdOutIdeal.nD Cert.AdOutIdeal.τ).loc Cert.AdOutIdeal.main_v0_1) = v1 c
          ∧ r.2.mem ((c.tc : Thread Cert.AdOutIdeal.nD Cert.AdOutIdeal.τ).loc Cert.AdOutIdeal.main_v0_2) = v2 c
          ∧ r.2.mem ((c.tc : Thread Cert.AdOutIdeal.nD Cert.AdOutIdeal.τ).loc Cert.AdOutIdeal.main_v0_3) = v3 c
          ∧ r.2.mem ((c.tc : Thread Cert.AdOutIdeal.nD Cert.AdOutIdeal.τ).loc Cert.AdOutIdeal.main_arg0) = m ((c.tc : Thread Cert.AdOutIdeal.nD Cert.AdOutIdeal.τ).loc Cert.AdOutIdeal.main_arg0)
          ∧ r.2.mem ((c.tc : Thread Cert.AdOutIdeal.nD Cert.AdOutIdeal.τ).loc Cert.AdOutIdeal.main_arg1) = m ((c.tc : Thread Cert.AdOutIdeal.nD Cert.AdOutIdeal.τ).loc Cert.AdOutIdeal.main_arg1)
          ∧ r.2.mem ((c.tc : Thread Cert.AdOutIdeal.nD Cert.AdOutIdeal.τ).loc Cert.AdOutIdeal.main_arg2) = m ((c.tc : Thread Cert.AdOutIdeal.nD Cert.AdOutIdeal.τ).loc Cert.AdOutIdeal.main_arg2)
          ∧ r.2.mem ((c.tc : Thread Cert.AdOutIdeal.nD Cert.AdOutIdeal.τ).loc Cert.AdOutIdeal.main_arg3) = m ((c.tc : Thread Cert.AdOutIdeal.nD Cert.AdOutIdeal.τ).loc Cert.AdOutIdeal.main_arg3)
          ∧ r.2.mem ((c.tc : Thread Cert.AdOutIdeal.nD Cert.AdOutIdeal.τ).loc Cert.AdOutIdeal.main_arg4) = m ((c.tc : Thread Cert.AdOutIdeal.nD Cert.AdOutIdeal.τ).loc Cert.AdOutIdeal.main_arg4)
          ∧ r.2.mem ((c.tc : Thread Cert.AdOutIdeal.nD Cert.AdOutIdeal.τ).loc Cert.AdOutIdeal.main_arg5) = m ((c.tc : Thread Cert.AdOutIdeal.nD Cert.AdOutIdeal.τ).loc Cert.AdOutIdeal.main_arg5))
      ∧ θ_run (Cert.AdOutReferenceIdeal.defs (F := Ideal)) (onTc (τ := Cert.AdOutReferenceIdeal.τ) (Cert.AdOutReferenceIdeal.main (F := Ideal))) ⟨m', fun _ => 0, g'⟩ (fun r => ∀ c : Dev Cert.AdOutReferenceIdeal.nD,
          r.2.mem ((c.tc : Thread Cert.AdOutReferenceIdeal.nD Cert.AdOutReferenceIdeal.τ).loc Cert.AdOutReferenceIdeal.main_v5) = v0 c
          ∧ r.2.mem ((c.tc : Thread Cert.AdOutReferenceIdeal.nD Cert.AdOutReferenceIdeal.τ).loc Cert.AdOutReferenceIdeal.main_v29) = v1 c
          ∧ r.2.mem ((c.tc : Thread Cert.AdOutReferenceIdeal.nD Cert.AdOutReferenceIdeal.τ).loc Cert.AdOutReferenceIdeal.main_v10) = v2 c
          ∧ r.2.mem ((c.tc : Thread Cert.AdOutReferenceIdeal.nD Cert.AdOutReferenceIdeal.τ).loc Cert.AdOutReferenceIdeal.main_v16) = v3 c
          ∧ r.2.mem ((c.tc : Thread Cert.AdOutReferenceIdeal.nD Cert.AdOutReferenceIdeal.τ).loc Cert.AdOutReferenceIdeal.main_arg0) = m' ((c.tc : Thread Cert.AdOutReferenceIdeal.nD Cert.AdOutReferenceIdeal.τ).loc Cert.AdOutReferenceIdeal.main_arg0)
          ∧ r.2.mem ((c.tc : Thread Cert.AdOutReferenceIdeal.nD Cert.AdOutReferenceIdeal.τ).loc Cert.AdOutReferenceIdeal.main_arg1) = m' ((c.tc : Thread Cert.AdOutReferenceIdeal.nD Cert.AdOutReferenceIdeal.τ).loc Cert.AdOutReferenceIdeal.main_arg1)
          ∧ r.2.mem ((c.tc : Thread Cert.AdOutReferenceIdeal.nD Cert.AdOutReferenceIdeal.τ).loc Cert.AdOutReferenceIdeal.main_arg2) = m' ((c.tc : Thread Cert.AdOutReferenceIdeal.nD Cert.AdOutReferenceIdeal.τ).loc Cert.AdOutReferenceIdeal.main_arg2)
          ∧ r.2.mem ((c.tc : Thread Cert.AdOutReferenceIdeal.nD Cert.AdOutReferenceIdeal.τ).loc Cert.AdOutReferenceIdeal.main_arg3) = m' ((c.tc : Thread Cert.AdOutReferenceIdeal.nD Cert.AdOutReferenceIdeal.τ).loc Cert.AdOutReferenceIdeal.main_arg3)
          ∧ r.2.mem ((c.tc : Thread Cert.AdOutReferenceIdeal.nD Cert.AdOutReferenceIdeal.τ).loc Cert.AdOutReferenceIdeal.main_arg4) = m' ((c.tc : Thread Cert.AdOutReferenceIdeal.nD Cert.AdOutReferenceIdeal.τ).loc Cert.AdOutReferenceIdeal.main_arg4)
          ∧ r.2.mem ((c.tc : Thread Cert.AdOutReferenceIdeal.nD Cert.AdOutReferenceIdeal.τ).loc Cert.AdOutReferenceIdeal.main_arg5) = m' ((c.tc : Thread Cert.AdOutReferenceIdeal.nD Cert.AdOutReferenceIdeal.τ).loc Cert.AdOutReferenceIdeal.main_arg5))

def preserves_AdUp_AdUpIdeal : Prop :=
  True

def algebraic_AdUpIdeal_AdUpReferenceIdeal [hAdUpIdeal : Cert.AdUpIdeal.Facts] [hAdUpReferenceIdeal : Cert.AdUpReferenceIdeal.Facts] : Prop :=
  ∀ (m : (ℓ : Loc Cert.AdUpIdeal.nD Cert.AdUpIdeal.τ Cert.AdUpIdeal.sig) → Buf (Elt Ideal) ℓ) (g : Dev Cert.AdUpIdeal.nD → PrngReg)
    (m' : (ℓ : Loc Cert.AdUpReferenceIdeal.nD Cert.AdUpReferenceIdeal.τ Cert.AdUpReferenceIdeal.sig) → Buf (Elt Ideal) ℓ) (g' : Dev Cert.AdUpReferenceIdeal.nD → PrngReg), Pre_AdUpIdeal m →
    (∀ c : Dev Cert.AdUpIdeal.nD,
      m' ((c.tc : Thread Cert.AdUpReferenceIdeal.nD Cert.AdUpReferenceIdeal.τ).loc Cert.AdUpReferenceIdeal.main_arg0) = m ((c.tc : Thread Cert.AdUpIdeal.nD Cert.AdUpIdeal.τ).loc Cert.AdUpIdeal.main_arg0)
      ∧ m' ((c.tc : Thread Cert.AdUpReferenceIdeal.nD Cert.AdUpReferenceIdeal.τ).loc Cert.AdUpReferenceIdeal.main_arg1) = m ((c.tc : Thread Cert.AdUpIdeal.nD Cert.AdUpIdeal.τ).loc Cert.AdUpIdeal.main_arg1)
      ∧ m' ((c.tc : Thread Cert.AdUpReferenceIdeal.nD Cert.AdUpReferenceIdeal.τ).loc Cert.AdUpReferenceIdeal.main_arg2) = m ((c.tc : Thread Cert.AdUpIdeal.nD Cert.AdUpIdeal.τ).loc Cert.AdUpIdeal.main_arg2)
      ∧ m' ((c.tc : Thread Cert.AdUpReferenceIdeal.nD Cert.AdUpReferenceIdeal.τ).loc Cert.AdUpReferenceIdeal.main_arg3) = m ((c.tc : Thread Cert.AdUpIdeal.nD Cert.AdUpIdeal.τ).loc Cert.AdUpIdeal.main_arg3)
      ∧ m' ((c.tc : Thread Cert.AdUpReferenceIdeal.nD Cert.AdUpReferenceIdeal.τ).loc Cert.AdUpReferenceIdeal.main_arg4) = m ((c.tc : Thread Cert.AdUpIdeal.nD Cert.AdUpIdeal.τ).loc Cert.AdUpIdeal.main_arg4)
      ∧ m' ((c.tc : Thread Cert.AdUpReferenceIdeal.nD Cert.AdUpReferenceIdeal.τ).loc Cert.AdUpReferenceIdeal.main_arg5) = m ((c.tc : Thread Cert.AdUpIdeal.nD Cert.AdUpIdeal.τ).loc Cert.AdUpIdeal.main_arg5)) →
    ∃ (v0 : (c : Dev Cert.AdUpIdeal.nD) → Buf (Elt Ideal) ((c.tc : Thread Cert.AdUpIdeal.nD Cert.AdUpIdeal.τ).loc Cert.AdUpIdeal.main_v0_0)) (v1 : (c : Dev Cert.AdUpIdeal.nD) → Buf (Elt Ideal) ((c.tc : Thread Cert.AdUpIdeal.nD Cert.AdUpIdeal.τ).loc Cert.AdUpIdeal.main_v0_1)) (v2 : (c : Dev Cert.AdUpIdeal.nD) → Buf (Elt Ideal) ((c.tc : Thread Cert.AdUpIdeal.nD Cert.AdUpIdeal.τ).loc Cert.AdUpIdeal.main_v0_2)) (v3 : (c : Dev Cert.AdUpIdeal.nD) → Buf (Elt Ideal) ((c.tc : Thread Cert.AdUpIdeal.nD Cert.AdUpIdeal.τ).loc Cert.AdUpIdeal.main_v0_3)),
      θ_run (Cert.AdUpIdeal.defs (F := Ideal)) (onTc (τ := Cert.AdUpIdeal.τ) (Cert.AdUpIdeal.main (F := Ideal))) ⟨m, fun _ => 0, g⟩ (fun r => ∀ c : Dev Cert.AdUpIdeal.nD,
          r.2.mem ((c.tc : Thread Cert.AdUpIdeal.nD Cert.AdUpIdeal.τ).loc Cert.AdUpIdeal.main_v0_0) = v0 c
          ∧ r.2.mem ((c.tc : Thread Cert.AdUpIdeal.nD Cert.AdUpIdeal.τ).loc Cert.AdUpIdeal.main_v0_1) = v1 c
          ∧ r.2.mem ((c.tc : Thread Cert.AdUpIdeal.nD Cert.AdUpIdeal.τ).loc Cert.AdUpIdeal.main_v0_2) = v2 c
          ∧ r.2.mem ((c.tc : Thread Cert.AdUpIdeal.nD Cert.AdUpIdeal.τ).loc Cert.AdUpIdeal.main_v0_3) = v3 c
          ∧ r.2.mem ((c.tc : Thread Cert.AdUpIdeal.nD Cert.AdUpIdeal.τ).loc Cert.AdUpIdeal.main_arg0) = m ((c.tc : Thread Cert.AdUpIdeal.nD Cert.AdUpIdeal.τ).loc Cert.AdUpIdeal.main_arg0)
          ∧ r.2.mem ((c.tc : Thread Cert.AdUpIdeal.nD Cert.AdUpIdeal.τ).loc Cert.AdUpIdeal.main_arg1) = m ((c.tc : Thread Cert.AdUpIdeal.nD Cert.AdUpIdeal.τ).loc Cert.AdUpIdeal.main_arg1)
          ∧ r.2.mem ((c.tc : Thread Cert.AdUpIdeal.nD Cert.AdUpIdeal.τ).loc Cert.AdUpIdeal.main_arg2) = m ((c.tc : Thread Cert.AdUpIdeal.nD Cert.AdUpIdeal.τ).loc Cert.AdUpIdeal.main_arg2)
          ∧ r.2.mem ((c.tc : Thread Cert.AdUpIdeal.nD Cert.AdUpIdeal.τ).loc Cert.AdUpIdeal.main_arg3) = m ((c.tc : Thread Cert.AdUpIdeal.nD Cert.AdUpIdeal.τ).loc Cert.AdUpIdeal.main_arg3)
          ∧ r.2.mem ((c.tc : Thread Cert.AdUpIdeal.nD Cert.AdUpIdeal.τ).loc Cert.AdUpIdeal.main_arg4) = m ((c.tc : Thread Cert.AdUpIdeal.nD Cert.AdUpIdeal.τ).loc Cert.AdUpIdeal.main_arg4)
          ∧ r.2.mem ((c.tc : Thread Cert.AdUpIdeal.nD Cert.AdUpIdeal.τ).loc Cert.AdUpIdeal.main_arg5) = m ((c.tc : Thread Cert.AdUpIdeal.nD Cert.AdUpIdeal.τ).loc Cert.AdUpIdeal.main_arg5))
      ∧ θ_run (Cert.AdUpReferenceIdeal.defs (F := Ideal)) (onTc (τ := Cert.AdUpReferenceIdeal.τ) (Cert.AdUpReferenceIdeal.main (F := Ideal))) ⟨m', fun _ => 0, g'⟩ (fun r => ∀ c : Dev Cert.AdUpReferenceIdeal.nD,
          r.2.mem ((c.tc : Thread Cert.AdUpReferenceIdeal.nD Cert.AdUpReferenceIdeal.τ).loc Cert.AdUpReferenceIdeal.main_v5) = v0 c
          ∧ r.2.mem ((c.tc : Thread Cert.AdUpReferenceIdeal.nD Cert.AdUpReferenceIdeal.τ).loc Cert.AdUpReferenceIdeal.main_v29) = v1 c
          ∧ r.2.mem ((c.tc : Thread Cert.AdUpReferenceIdeal.nD Cert.AdUpReferenceIdeal.τ).loc Cert.AdUpReferenceIdeal.main_v10) = v2 c
          ∧ r.2.mem ((c.tc : Thread Cert.AdUpReferenceIdeal.nD Cert.AdUpReferenceIdeal.τ).loc Cert.AdUpReferenceIdeal.main_v16) = v3 c
          ∧ r.2.mem ((c.tc : Thread Cert.AdUpReferenceIdeal.nD Cert.AdUpReferenceIdeal.τ).loc Cert.AdUpReferenceIdeal.main_arg0) = m' ((c.tc : Thread Cert.AdUpReferenceIdeal.nD Cert.AdUpReferenceIdeal.τ).loc Cert.AdUpReferenceIdeal.main_arg0)
          ∧ r.2.mem ((c.tc : Thread Cert.AdUpReferenceIdeal.nD Cert.AdUpReferenceIdeal.τ).loc Cert.AdUpReferenceIdeal.main_arg1) = m' ((c.tc : Thread Cert.AdUpReferenceIdeal.nD Cert.AdUpReferenceIdeal.τ).loc Cert.AdUpReferenceIdeal.main_arg1)
          ∧ r.2.mem ((c.tc : Thread Cert.AdUpReferenceIdeal.nD Cert.AdUpReferenceIdeal.τ).loc Cert.AdUpReferenceIdeal.main_arg2) = m' ((c.tc : Thread Cert.AdUpReferenceIdeal.nD Cert.AdUpReferenceIdeal.τ).loc Cert.AdUpReferenceIdeal.main_arg2)
          ∧ r.2.mem ((c.tc : Thread Cert.AdUpReferenceIdeal.nD Cert.AdUpReferenceIdeal.τ).loc Cert.AdUpReferenceIdeal.main_arg3) = m' ((c.tc : Thread Cert.AdUpReferenceIdeal.nD Cert.AdUpReferenceIdeal.τ).loc Cert.AdUpReferenceIdeal.main_arg3)
          ∧ r.2.mem ((c.tc : Thread Cert.AdUpReferenceIdeal.nD Cert.AdUpReferenceIdeal.τ).loc Cert.AdUpReferenceIdeal.main_arg4) = m' ((c.tc : Thread Cert.AdUpReferenceIdeal.nD Cert.AdUpReferenceIdeal.τ).loc Cert.AdUpReferenceIdeal.main_arg4)
          ∧ r.2.mem ((c.tc : Thread Cert.AdUpReferenceIdeal.nD Cert.AdUpReferenceIdeal.τ).loc Cert.AdUpReferenceIdeal.main_arg5) = m' ((c.tc : Thread Cert.AdUpReferenceIdeal.nD Cert.AdUpReferenceIdeal.τ).loc Cert.AdUpReferenceIdeal.main_arg5))

def preserves_AdDown_AdDownIdeal : Prop :=
  True

def algebraic_AdDownIdeal_AdDownReferenceIdeal [hAdDownIdeal : Cert.AdDownIdeal.Facts] [hAdDownReferenceIdeal : Cert.AdDownReferenceIdeal.Facts] : Prop :=
  ∀ (m : (ℓ : Loc Cert.AdDownIdeal.nD Cert.AdDownIdeal.τ Cert.AdDownIdeal.sig) → Buf (Elt Ideal) ℓ) (g : Dev Cert.AdDownIdeal.nD → PrngReg)
    (m' : (ℓ : Loc Cert.AdDownReferenceIdeal.nD Cert.AdDownReferenceIdeal.τ Cert.AdDownReferenceIdeal.sig) → Buf (Elt Ideal) ℓ) (g' : Dev Cert.AdDownReferenceIdeal.nD → PrngReg), Pre_AdDownIdeal m →
    (∀ c : Dev Cert.AdDownIdeal.nD,
      m' ((c.tc : Thread Cert.AdDownReferenceIdeal.nD Cert.AdDownReferenceIdeal.τ).loc Cert.AdDownReferenceIdeal.main_arg0) = m ((c.tc : Thread Cert.AdDownIdeal.nD Cert.AdDownIdeal.τ).loc Cert.AdDownIdeal.main_arg0)
      ∧ m' ((c.tc : Thread Cert.AdDownReferenceIdeal.nD Cert.AdDownReferenceIdeal.τ).loc Cert.AdDownReferenceIdeal.main_arg1) = m ((c.tc : Thread Cert.AdDownIdeal.nD Cert.AdDownIdeal.τ).loc Cert.AdDownIdeal.main_arg1)
      ∧ m' ((c.tc : Thread Cert.AdDownReferenceIdeal.nD Cert.AdDownReferenceIdeal.τ).loc Cert.AdDownReferenceIdeal.main_arg2) = m ((c.tc : Thread Cert.AdDownIdeal.nD Cert.AdDownIdeal.τ).loc Cert.AdDownIdeal.main_arg2)
      ∧ m' ((c.tc : Thread Cert.AdDownReferenceIdeal.nD Cert.AdDownReferenceIdeal.τ).loc Cert.AdDownReferenceIdeal.main_arg3) = m ((c.tc : Thread Cert.AdDownIdeal.nD Cert.AdDownIdeal.τ).loc Cert.AdDownIdeal.main_arg3)
      ∧ m' ((c.tc : Thread Cert.AdDownReferenceIdeal.nD Cert.AdDownReferenceIdeal.τ).loc Cert.AdDownReferenceIdeal.main_arg4) = m ((c.tc : Thread Cert.AdDownIdeal.nD Cert.AdDownIdeal.τ).loc Cert.AdDownIdeal.main_arg4)
      ∧ m' ((c.tc : Thread Cert.AdDownReferenceIdeal.nD Cert.AdDownReferenceIdeal.τ).loc Cert.AdDownReferenceIdeal.main_arg5) = m ((c.tc : Thread Cert.AdDownIdeal.nD Cert.AdDownIdeal.τ).loc Cert.AdDownIdeal.main_arg5)) →
    ∃ (v0 : (c : Dev Cert.AdDownIdeal.nD) → Buf (Elt Ideal) ((c.tc : Thread Cert.AdDownIdeal.nD Cert.AdDownIdeal.τ).loc Cert.AdDownIdeal.main_v0_0)) (v1 : (c : Dev Cert.AdDownIdeal.nD) → Buf (Elt Ideal) ((c.tc : Thread Cert.AdDownIdeal.nD Cert.AdDownIdeal.τ).loc Cert.AdDownIdeal.main_v0_1)) (v2 : (c : Dev Cert.AdDownIdeal.nD) → Buf (Elt Ideal) ((c.tc : Thread Cert.AdDownIdeal.nD Cert.AdDownIdeal.τ).loc Cert.AdDownIdeal.main_v0_2)) (v3 : (c : Dev Cert.AdDownIdeal.nD) → Buf (Elt Ideal) ((c.tc : Thread Cert.AdDownIdeal.nD Cert.AdDownIdeal.τ).loc Cert.AdDownIdeal.main_v0_3)),
      θ_run (Cert.AdDownIdeal.defs (F := Ideal)) (onTc (τ := Cert.AdDownIdeal.τ) (Cert.AdDownIdeal.main (F := Ideal))) ⟨m, fun _ => 0, g⟩ (fun r => ∀ c : Dev Cert.AdDownIdeal.nD,
          r.2.mem ((c.tc : Thread Cert.AdDownIdeal.nD Cert.AdDownIdeal.τ).loc Cert.AdDownIdeal.main_v0_0) = v0 c
          ∧ r.2.mem ((c.tc : Thread Cert.AdDownIdeal.nD Cert.AdDownIdeal.τ).loc Cert.AdDownIdeal.main_v0_1) = v1 c
          ∧ r.2.mem ((c.tc : Thread Cert.AdDownIdeal.nD Cert.AdDownIdeal.τ).loc Cert.AdDownIdeal.main_v0_2) = v2 c
          ∧ r.2.mem ((c.tc : Thread Cert.AdDownIdeal.nD Cert.AdDownIdeal.τ).loc Cert.AdDownIdeal.main_v0_3) = v3 c
          ∧ r.2.mem ((c.tc : Thread Cert.AdDownIdeal.nD Cert.AdDownIdeal.τ).loc Cert.AdDownIdeal.main_arg0) = m ((c.tc : Thread Cert.AdDownIdeal.nD Cert.AdDownIdeal.τ).loc Cert.AdDownIdeal.main_arg0)
          ∧ r.2.mem ((c.tc : Thread Cert.AdDownIdeal.nD Cert.AdDownIdeal.τ).loc Cert.AdDownIdeal.main_arg1) = m ((c.tc : Thread Cert.AdDownIdeal.nD Cert.AdDownIdeal.τ).loc Cert.AdDownIdeal.main_arg1)
          ∧ r.2.mem ((c.tc : Thread Cert.AdDownIdeal.nD Cert.AdDownIdeal.τ).loc Cert.AdDownIdeal.main_arg2) = m ((c.tc : Thread Cert.AdDownIdeal.nD Cert.AdDownIdeal.τ).loc Cert.AdDownIdeal.main_arg2)
          ∧ r.2.mem ((c.tc : Thread Cert.AdDownIdeal.nD Cert.AdDownIdeal.τ).loc Cert.AdDownIdeal.main_arg3) = m ((c.tc : Thread Cert.AdDownIdeal.nD Cert.AdDownIdeal.τ).loc Cert.AdDownIdeal.main_arg3)
          ∧ r.2.mem ((c.tc : Thread Cert.AdDownIdeal.nD Cert.AdDownIdeal.τ).loc Cert.AdDownIdeal.main_arg4) = m ((c.tc : Thread Cert.AdDownIdeal.nD Cert.AdDownIdeal.τ).loc Cert.AdDownIdeal.main_arg4)
          ∧ r.2.mem ((c.tc : Thread Cert.AdDownIdeal.nD Cert.AdDownIdeal.τ).loc Cert.AdDownIdeal.main_arg5) = m ((c.tc : Thread Cert.AdDownIdeal.nD Cert.AdDownIdeal.τ).loc Cert.AdDownIdeal.main_arg5))
      ∧ θ_run (Cert.AdDownReferenceIdeal.defs (F := Ideal)) (onTc (τ := Cert.AdDownReferenceIdeal.τ) (Cert.AdDownReferenceIdeal.main (F := Ideal))) ⟨m', fun _ => 0, g'⟩ (fun r => ∀ c : Dev Cert.AdDownReferenceIdeal.nD,
          r.2.mem ((c.tc : Thread Cert.AdDownReferenceIdeal.nD Cert.AdDownReferenceIdeal.τ).loc Cert.AdDownReferenceIdeal.main_v5) = v0 c
          ∧ r.2.mem ((c.tc : Thread Cert.AdDownReferenceIdeal.nD Cert.AdDownReferenceIdeal.τ).loc Cert.AdDownReferenceIdeal.main_v29) = v1 c
          ∧ r.2.mem ((c.tc : Thread Cert.AdDownReferenceIdeal.nD Cert.AdDownReferenceIdeal.τ).loc Cert.AdDownReferenceIdeal.main_v10) = v2 c
          ∧ r.2.mem ((c.tc : Thread Cert.AdDownReferenceIdeal.nD Cert.AdDownReferenceIdeal.τ).loc Cert.AdDownReferenceIdeal.main_v16) = v3 c
          ∧ r.2.mem ((c.tc : Thread Cert.AdDownReferenceIdeal.nD Cert.AdDownReferenceIdeal.τ).loc Cert.AdDownReferenceIdeal.main_arg0) = m' ((c.tc : Thread Cert.AdDownReferenceIdeal.nD Cert.AdDownReferenceIdeal.τ).loc Cert.AdDownReferenceIdeal.main_arg0)
          ∧ r.2.mem ((c.tc : Thread Cert.AdDownReferenceIdeal.nD Cert.AdDownReferenceIdeal.τ).loc Cert.AdDownReferenceIdeal.main_arg1) = m' ((c.tc : Thread Cert.AdDownReferenceIdeal.nD Cert.AdDownReferenceIdeal.τ).loc Cert.AdDownReferenceIdeal.main_arg1)
          ∧ r.2.mem ((c.tc : Thread Cert.AdDownReferenceIdeal.nD Cert.AdDownReferenceIdeal.τ).loc Cert.AdDownReferenceIdeal.main_arg2) = m' ((c.tc : Thread Cert.AdDownReferenceIdeal.nD Cert.AdDownReferenceIdeal.τ).loc Cert.AdDownReferenceIdeal.main_arg2)
          ∧ r.2.mem ((c.tc : Thread Cert.AdDownReferenceIdeal.nD Cert.AdDownReferenceIdeal.τ).loc Cert.AdDownReferenceIdeal.main_arg3) = m' ((c.tc : Thread Cert.AdDownReferenceIdeal.nD Cert.AdDownReferenceIdeal.τ).loc Cert.AdDownReferenceIdeal.main_arg3)
          ∧ r.2.mem ((c.tc : Thread Cert.AdDownReferenceIdeal.nD Cert.AdDownReferenceIdeal.τ).loc Cert.AdDownReferenceIdeal.main_arg4) = m' ((c.tc : Thread Cert.AdDownReferenceIdeal.nD Cert.AdDownReferenceIdeal.τ).loc Cert.AdDownReferenceIdeal.main_arg4)
          ∧ r.2.mem ((c.tc : Thread Cert.AdDownReferenceIdeal.nD Cert.AdDownReferenceIdeal.τ).loc Cert.AdDownReferenceIdeal.main_arg5) = m' ((c.tc : Thread Cert.AdDownReferenceIdeal.nD Cert.AdDownReferenceIdeal.τ).loc Cert.AdDownReferenceIdeal.main_arg5))

def preserves_AdSmall_AdSmallIdeal : Prop :=
  True

def algebraic_AdSmallIdeal_AdSmallReferenceIdeal [hAdSmallIdeal : Cert.AdSmallIdeal.Facts] [hAdSmallReferenceIdeal : Cert.AdSmallReferenceIdeal.Facts] : Prop :=
  ∀ (m : (ℓ : Loc Cert.AdSmallIdeal.nD Cert.AdSmallIdeal.τ Cert.AdSmallIdeal.sig) → Buf (Elt Ideal) ℓ) (g : Dev Cert.AdSmallIdeal.nD → PrngReg)
    (m' : (ℓ : Loc Cert.AdSmallReferenceIdeal.nD Cert.AdSmallReferenceIdeal.τ Cert.AdSmallReferenceIdeal.sig) → Buf (Elt Ideal) ℓ) (g' : Dev Cert.AdSmallReferenceIdeal.nD → PrngReg), Pre_AdSmallIdeal m →
    (∀ c : Dev Cert.AdSmallIdeal.nD,
      m' ((c.tc : Thread Cert.AdSmallReferenceIdeal.nD Cert.AdSmallReferenceIdeal.τ).loc Cert.AdSmallReferenceIdeal.main_arg0) = m ((c.tc : Thread Cert.AdSmallIdeal.nD Cert.AdSmallIdeal.τ).loc Cert.AdSmallIdeal.main_arg0)
      ∧ m' ((c.tc : Thread Cert.AdSmallReferenceIdeal.nD Cert.AdSmallReferenceIdeal.τ).loc Cert.AdSmallReferenceIdeal.main_arg1) = m ((c.tc : Thread Cert.AdSmallIdeal.nD Cert.AdSmallIdeal.τ).loc Cert.AdSmallIdeal.main_arg1)
      ∧ m' ((c.tc : Thread Cert.AdSmallReferenceIdeal.nD Cert.AdSmallReferenceIdeal.τ).loc Cert.AdSmallReferenceIdeal.main_arg2) = m ((c.tc : Thread Cert.AdSmallIdeal.nD Cert.AdSmallIdeal.τ).loc Cert.AdSmallIdeal.main_arg2)
      ∧ m' ((c.tc : Thread Cert.AdSmallReferenceIdeal.nD Cert.AdSmallReferenceIdeal.τ).loc Cert.AdSmallReferenceIdeal.main_arg3) = m ((c.tc : Thread Cert.AdSmallIdeal.nD Cert.AdSmallIdeal.τ).loc Cert.AdSmallIdeal.main_arg3)) →
    ∃ (v0 : (c : Dev Cert.AdSmallIdeal.nD) → Buf (Elt Ideal) ((c.tc : Thread Cert.AdSmallIdeal.nD Cert.AdSmallIdeal.τ).loc Cert.AdSmallIdeal.main_v0_0)) (v1 : (c : Dev Cert.AdSmallIdeal.nD) → Buf (Elt Ideal) ((c.tc : Thread Cert.AdSmallIdeal.nD Cert.AdSmallIdeal.τ).loc Cert.AdSmallIdeal.main_v0_1)) (v2 : (c : Dev Cert.AdSmallIdeal.nD) → Buf (Elt Ideal) ((c.tc : Thread Cert.AdSmallIdeal.nD Cert.AdSmallIdeal.τ).loc Cert.AdSmallIdeal.main_v0_2)),
      θ_run (Cert.AdSmallIdeal.defs (F := Ideal)) (onTc (τ := Cert.AdSmallIdeal.τ) (Cert.AdSmallIdeal.main (F := Ideal))) ⟨m, fun _ => 0, g⟩ (fun r => ∀ c : Dev Cert.AdSmallIdeal.nD,
          r.2.mem ((c.tc : Thread Cert.AdSmallIdeal.nD Cert.AdSmallIdeal.τ).loc Cert.AdSmallIdeal.main_v0_0) = v0 c
          ∧ r.2.mem ((c.tc : Thread Cert.AdSmallIdeal.nD Cert.AdSmallIdeal.τ).loc Cert.AdSmallIdeal.main_v0_1) = v1 c
          ∧ r.2.mem ((c.tc : Thread Cert.AdSmallIdeal.nD Cert.AdSmallIdeal.τ).loc Cert.AdSmallIdeal.main_v0_2) = v2 c
          ∧ r.2.mem ((c.tc : Thread Cert.AdSmallIdeal.nD Cert.AdSmallIdeal.τ).loc Cert.AdSmallIdeal.main_arg0) = m ((c.tc : Thread Cert.AdSmallIdeal.nD Cert.AdSmallIdeal.τ).loc Cert.AdSmallIdeal.main_arg0)
          ∧ r.2.mem ((c.tc : Thread Cert.AdSmallIdeal.nD Cert.AdSmallIdeal.τ).loc Cert.AdSmallIdeal.main_arg1) = m ((c.tc : Thread Cert.AdSmallIdeal.nD Cert.AdSmallIdeal.τ).loc Cert.AdSmallIdeal.main_arg1)
          ∧ r.2.mem ((c.tc : Thread Cert.AdSmallIdeal.nD Cert.AdSmallIdeal.τ).loc Cert.AdSmallIdeal.main_arg2) = m ((c.tc : Thread Cert.AdSmallIdeal.nD Cert.AdSmallIdeal.τ).loc Cert.AdSmallIdeal.main_arg2)
          ∧ r.2.mem ((c.tc : Thread Cert.AdSmallIdeal.nD Cert.AdSmallIdeal.τ).loc Cert.AdSmallIdeal.main_arg3) = m ((c.tc : Thread Cert.AdSmallIdeal.nD Cert.AdSmallIdeal.τ).loc Cert.AdSmallIdeal.main_arg3))
      ∧ θ_run (Cert.AdSmallReferenceIdeal.defs (F := Ideal)) (onTc (τ := Cert.AdSmallReferenceIdeal.τ) (Cert.AdSmallReferenceIdeal.main (F := Ideal))) ⟨m', fun _ => 0, g'⟩ (fun r => ∀ c : Dev Cert.AdSmallReferenceIdeal.nD,
          r.2.mem ((c.tc : Thread Cert.AdSmallReferenceIdeal.nD Cert.AdSmallReferenceIdeal.τ).loc Cert.AdSmallReferenceIdeal.main_v23) = v0 c
          ∧ r.2.mem ((c.tc : Thread Cert.AdSmallReferenceIdeal.nD Cert.AdSmallReferenceIdeal.τ).loc Cert.AdSmallReferenceIdeal.main_v4) = v1 c
          ∧ r.2.mem ((c.tc : Thread Cert.AdSmallReferenceIdeal.nD Cert.AdSmallReferenceIdeal.τ).loc Cert.AdSmallReferenceIdeal.main_v10) = v2 c
          ∧ r.2.mem ((c.tc : Thread Cert.AdSmallReferenceIdeal.nD Cert.AdSmallReferenceIdeal.τ).loc Cert.AdSmallReferenceIdeal.main_arg0) = m' ((c.tc : Thread Cert.AdSmallReferenceIdeal.nD Cert.AdSmallReferenceIdeal.τ).loc Cert.AdSmallReferenceIdeal.main_arg0)
          ∧ r.2.mem ((c.tc : Thread Cert.AdSmallReferenceIdeal.nD Cert.AdSmallReferenceIdeal.τ).loc Cert.AdSmallReferenceIdeal.main_arg1) = m' ((c.tc : Thread Cert.AdSmallReferenceIdeal.nD Cert.AdSmallReferenceIdeal.τ).loc Cert.AdSmallReferenceIdeal.main_arg1)
          ∧ r.2.mem ((c.tc : Thread Cert.AdSmallReferenceIdeal.nD Cert.AdSmallReferenceIdeal.τ).loc Cert.AdSmallReferenceIdeal.main_arg2) = m' ((c.tc : Thread Cert.AdSmallReferenceIdeal.nD Cert.AdSmallReferenceIdeal.τ).loc Cert.AdSmallReferenceIdeal.main_arg2)
          ∧ r.2.mem ((c.tc : Thread Cert.AdSmallReferenceIdeal.nD Cert.AdSmallReferenceIdeal.τ).loc Cert.AdSmallReferenceIdeal.main_arg3) = m' ((c.tc : Thread Cert.AdSmallReferenceIdeal.nD Cert.AdSmallReferenceIdeal.τ).loc Cert.AdSmallReferenceIdeal.main_arg3))

def preserves_Rpre_RpreIdeal : Prop :=
  True

def algebraic_RpreIdeal_RpreReferenceIdeal [hRpreIdeal : Cert.RpreIdeal.Facts] [hRpreReferenceIdeal : Cert.RpreReferenceIdeal.Facts] : Prop :=
  ∀ (m : (ℓ : Loc Cert.RpreIdeal.nD Cert.RpreIdeal.τ Cert.RpreIdeal.sig) → Buf (Elt Ideal) ℓ) (g : Dev Cert.RpreIdeal.nD → PrngReg)
    (m' : (ℓ : Loc Cert.RpreReferenceIdeal.nD Cert.RpreReferenceIdeal.τ Cert.RpreReferenceIdeal.sig) → Buf (Elt Ideal) ℓ) (g' : Dev Cert.RpreReferenceIdeal.nD → PrngReg), Pre_RpreIdeal m →
    (∀ c : Dev Cert.RpreIdeal.nD,
      m' ((c.tc : Thread Cert.RpreReferenceIdeal.nD Cert.RpreReferenceIdeal.τ).loc Cert.RpreReferenceIdeal.main_arg0) = m ((c.tc : Thread Cert.RpreIdeal.nD Cert.RpreIdeal.τ).loc Cert.RpreIdeal.main_arg0)
      ∧ m' ((c.tc : Thread Cert.RpreReferenceIdeal.nD Cert.RpreReferenceIdeal.τ).loc Cert.RpreReferenceIdeal.main_arg1) = m ((c.tc : Thread Cert.RpreIdeal.nD Cert.RpreIdeal.τ).loc Cert.RpreIdeal.main_arg1)) →
    ∃ (v0 : (c : Dev Cert.RpreIdeal.nD) → Buf (Elt Ideal) ((c.tc : Thread Cert.RpreIdeal.nD Cert.RpreIdeal.τ).loc Cert.RpreIdeal.main_v0)),
      θ_run (Cert.RpreIdeal.defs (F := Ideal)) (onTc (τ := Cert.RpreIdeal.τ) (Cert.RpreIdeal.main (F := Ideal))) ⟨m, fun _ => 0, g⟩ (fun r => ∀ c : Dev Cert.RpreIdeal.nD,
          r.2.mem ((c.tc : Thread Cert.RpreIdeal.nD Cert.RpreIdeal.τ).loc Cert.RpreIdeal.main_v0) = v0 c
          ∧ r.2.mem ((c.tc : Thread Cert.RpreIdeal.nD Cert.RpreIdeal.τ).loc Cert.RpreIdeal.main_arg0) = m ((c.tc : Thread Cert.RpreIdeal.nD Cert.RpreIdeal.τ).loc Cert.RpreIdeal.main_arg0)
          ∧ r.2.mem ((c.tc : Thread Cert.RpreIdeal.nD Cert.RpreIdeal.τ).loc Cert.RpreIdeal.main_arg1) = m ((c.tc : Thread Cert.RpreIdeal.nD Cert.RpreIdeal.τ).loc Cert.RpreIdeal.main_arg1))
      ∧ θ_run (Cert.RpreReferenceIdeal.defs (F := Ideal)) (onTc (τ := Cert.RpreReferenceIdeal.τ) (Cert.RpreReferenceIdeal.main (F := Ideal))) ⟨m', fun _ => 0, g'⟩ (fun r => ∀ c : Dev Cert.RpreReferenceIdeal.nD,
          r.2.mem ((c.tc : Thread Cert.RpreReferenceIdeal.nD Cert.RpreReferenceIdeal.τ).loc Cert.RpreReferenceIdeal.main_v12) = v0 c
          ∧ r.2.mem ((c.tc : Thread Cert.RpreReferenceIdeal.nD Cert.RpreReferenceIdeal.τ).loc Cert.RpreReferenceIdeal.main_arg0) = m' ((c.tc : Thread Cert.RpreReferenceIdeal.nD Cert.RpreReferenceIdeal.τ).loc Cert.RpreReferenceIdeal.main_arg0)
          ∧ r.2.mem ((c.tc : Thread Cert.RpreReferenceIdeal.nD Cert.RpreReferenceIdeal.τ).loc Cert.RpreReferenceIdeal.main_arg1) = m' ((c.tc : Thread Cert.RpreReferenceIdeal.nD Cert.RpreReferenceIdeal.τ).loc Cert.RpreReferenceIdeal.main_arg1))

def preserves_Rpost_RpostIdeal : Prop :=
  True

def algebraic_RpostIdeal_RpostReferenceIdeal [hRpostIdeal : Cert.RpostIdeal.Facts] [hRpostReferenceIdeal : Cert.RpostReferenceIdeal.Facts] : Prop :=
  ∀ (m : (ℓ : Loc Cert.RpostIdeal.nD Cert.RpostIdeal.τ Cert.RpostIdeal.sig) → Buf (Elt Ideal) ℓ) (g : Dev Cert.RpostIdeal.nD → PrngReg)
    (m' : (ℓ : Loc Cert.RpostReferenceIdeal.nD Cert.RpostReferenceIdeal.τ Cert.RpostReferenceIdeal.sig) → Buf (Elt Ideal) ℓ) (g' : Dev Cert.RpostReferenceIdeal.nD → PrngReg), Pre_RpostIdeal m →
    (∀ c : Dev Cert.RpostIdeal.nD,
      m' ((c.tc : Thread Cert.RpostReferenceIdeal.nD Cert.RpostReferenceIdeal.τ).loc Cert.RpostReferenceIdeal.main_arg0) = m ((c.tc : Thread Cert.RpostIdeal.nD Cert.RpostIdeal.τ).loc Cert.RpostIdeal.main_arg0)
      ∧ m' ((c.tc : Thread Cert.RpostReferenceIdeal.nD Cert.RpostReferenceIdeal.τ).loc Cert.RpostReferenceIdeal.main_arg1) = m ((c.tc : Thread Cert.RpostIdeal.nD Cert.RpostIdeal.τ).loc Cert.RpostIdeal.main_arg1)
      ∧ m' ((c.tc : Thread Cert.RpostReferenceIdeal.nD Cert.RpostReferenceIdeal.τ).loc Cert.RpostReferenceIdeal.main_arg2) = m ((c.tc : Thread Cert.RpostIdeal.nD Cert.RpostIdeal.τ).loc Cert.RpostIdeal.main_arg2)) →
    ∃ (v0 : (c : Dev Cert.RpostIdeal.nD) → Buf (Elt Ideal) ((c.tc : Thread Cert.RpostIdeal.nD Cert.RpostIdeal.τ).loc Cert.RpostIdeal.main_v0)),
      θ_run (Cert.RpostIdeal.defs (F := Ideal)) (onTc (τ := Cert.RpostIdeal.τ) (Cert.RpostIdeal.main (F := Ideal))) ⟨m, fun _ => 0, g⟩ (fun r => ∀ c : Dev Cert.RpostIdeal.nD,
          r.2.mem ((c.tc : Thread Cert.RpostIdeal.nD Cert.RpostIdeal.τ).loc Cert.RpostIdeal.main_v0) = v0 c
          ∧ r.2.mem ((c.tc : Thread Cert.RpostIdeal.nD Cert.RpostIdeal.τ).loc Cert.RpostIdeal.main_arg0) = m ((c.tc : Thread Cert.RpostIdeal.nD Cert.RpostIdeal.τ).loc Cert.RpostIdeal.main_arg0)
          ∧ r.2.mem ((c.tc : Thread Cert.RpostIdeal.nD Cert.RpostIdeal.τ).loc Cert.RpostIdeal.main_arg1) = m ((c.tc : Thread Cert.RpostIdeal.nD Cert.RpostIdeal.τ).loc Cert.RpostIdeal.main_arg1)
          ∧ r.2.mem ((c.tc : Thread Cert.RpostIdeal.nD Cert.RpostIdeal.τ).loc Cert.RpostIdeal.main_arg2) = m ((c.tc : Thread Cert.RpostIdeal.nD Cert.RpostIdeal.τ).loc Cert.RpostIdeal.main_arg2))
      ∧ θ_run (Cert.RpostReferenceIdeal.defs (F := Ideal)) (onTc (τ := Cert.RpostReferenceIdeal.τ) (Cert.RpostReferenceIdeal.main (F := Ideal))) ⟨m', fun _ => 0, g'⟩ (fun r => ∀ c : Dev Cert.RpostReferenceIdeal.nD,
          r.2.mem ((c.tc : Thread Cert.RpostReferenceIdeal.nD Cert.RpostReferenceIdeal.τ).loc Cert.RpostReferenceIdeal.main_v12) = v0 c
          ∧ r.2.mem ((c.tc : Thread Cert.RpostReferenceIdeal.nD Cert.RpostReferenceIdeal.τ).loc Cert.RpostReferenceIdeal.main_arg0) = m' ((c.tc : Thread Cert.RpostReferenceIdeal.nD Cert.RpostReferenceIdeal.τ).loc Cert.RpostReferenceIdeal.main_arg0)
          ∧ r.2.mem ((c.tc : Thread Cert.RpostReferenceIdeal.nD Cert.RpostReferenceIdeal.τ).loc Cert.RpostReferenceIdeal.main_arg1) = m' ((c.tc : Thread Cert.RpostReferenceIdeal.nD Cert.RpostReferenceIdeal.τ).loc Cert.RpostReferenceIdeal.main_arg1)
          ∧ r.2.mem ((c.tc : Thread Cert.RpostReferenceIdeal.nD Cert.RpostReferenceIdeal.τ).loc Cert.RpostReferenceIdeal.main_arg2) = m' ((c.tc : Thread Cert.RpostReferenceIdeal.nD Cert.RpostReferenceIdeal.τ).loc Cert.RpostReferenceIdeal.main_arg2))

def preserves_Bpre_BpreIdeal : Prop :=
  True

def algebraic_BpreIdeal_BpreReferenceIdeal [hBpreIdeal : Cert.BpreIdeal.Facts] [hBpreReferenceIdeal : Cert.BpreReferenceIdeal.Facts] : Prop :=
  ∀ (m : (ℓ : Loc Cert.BpreIdeal.nD Cert.BpreIdeal.τ Cert.BpreIdeal.sig) → Buf (Elt Ideal) ℓ) (g : Dev Cert.BpreIdeal.nD → PrngReg)
    (m' : (ℓ : Loc Cert.BpreReferenceIdeal.nD Cert.BpreReferenceIdeal.τ Cert.BpreReferenceIdeal.sig) → Buf (Elt Ideal) ℓ) (g' : Dev Cert.BpreReferenceIdeal.nD → PrngReg), Pre_BpreIdeal m →
    (∀ c : Dev Cert.BpreIdeal.nD,
      m' ((c.tc : Thread Cert.BpreReferenceIdeal.nD Cert.BpreReferenceIdeal.τ).loc Cert.BpreReferenceIdeal.main_arg0) = m ((c.tc : Thread Cert.BpreIdeal.nD Cert.BpreIdeal.τ).loc Cert.BpreIdeal.main_arg0)
      ∧ m' ((c.tc : Thread Cert.BpreReferenceIdeal.nD Cert.BpreReferenceIdeal.τ).loc Cert.BpreReferenceIdeal.main_arg1) = m ((c.tc : Thread Cert.BpreIdeal.nD Cert.BpreIdeal.τ).loc Cert.BpreIdeal.main_arg1)
      ∧ m' ((c.tc : Thread Cert.BpreReferenceIdeal.nD Cert.BpreReferenceIdeal.τ).loc Cert.BpreReferenceIdeal.main_arg2) = m ((c.tc : Thread Cert.BpreIdeal.nD Cert.BpreIdeal.τ).loc Cert.BpreIdeal.main_arg2)
      ∧ m' ((c.tc : Thread Cert.BpreReferenceIdeal.nD Cert.BpreReferenceIdeal.τ).loc Cert.BpreReferenceIdeal.main_arg3) = m ((c.tc : Thread Cert.BpreIdeal.nD Cert.BpreIdeal.τ).loc Cert.BpreIdeal.main_arg3)) →
    ∃ (v0 : (c : Dev Cert.BpreIdeal.nD) → Buf (Elt Ideal) ((c.tc : Thread Cert.BpreIdeal.nD Cert.BpreIdeal.τ).loc Cert.BpreIdeal.main_v0_0)) (v1 : (c : Dev Cert.BpreIdeal.nD) → Buf (Elt Ideal) ((c.tc : Thread Cert.BpreIdeal.nD Cert.BpreIdeal.τ).loc Cert.BpreIdeal.main_v0_1)),
      θ_run (Cert.BpreIdeal.defs (F := Ideal)) (onTc (τ := Cert.BpreIdeal.τ) (Cert.BpreIdeal.main (F := Ideal))) ⟨m, fun _ => 0, g⟩ (fun r => ∀ c : Dev Cert.BpreIdeal.nD,
          r.2.mem ((c.tc : Thread Cert.BpreIdeal.nD Cert.BpreIdeal.τ).loc Cert.BpreIdeal.main_v0_0) = v0 c
          ∧ r.2.mem ((c.tc : Thread Cert.BpreIdeal.nD Cert.BpreIdeal.τ).loc Cert.BpreIdeal.main_v0_1) = v1 c
          ∧ r.2.mem ((c.tc : Thread Cert.BpreIdeal.nD Cert.BpreIdeal.τ).loc Cert.BpreIdeal.main_arg0) = m ((c.tc : Thread Cert.BpreIdeal.nD Cert.BpreIdeal.τ).loc Cert.BpreIdeal.main_arg0)
          ∧ r.2.mem ((c.tc : Thread Cert.BpreIdeal.nD Cert.BpreIdeal.τ).loc Cert.BpreIdeal.main_arg1) = m ((c.tc : Thread Cert.BpreIdeal.nD Cert.BpreIdeal.τ).loc Cert.BpreIdeal.main_arg1)
          ∧ r.2.mem ((c.tc : Thread Cert.BpreIdeal.nD Cert.BpreIdeal.τ).loc Cert.BpreIdeal.main_arg2) = m ((c.tc : Thread Cert.BpreIdeal.nD Cert.BpreIdeal.τ).loc Cert.BpreIdeal.main_arg2)
          ∧ r.2.mem ((c.tc : Thread Cert.BpreIdeal.nD Cert.BpreIdeal.τ).loc Cert.BpreIdeal.main_arg3) = m ((c.tc : Thread Cert.BpreIdeal.nD Cert.BpreIdeal.τ).loc Cert.BpreIdeal.main_arg3))
      ∧ θ_run (Cert.BpreReferenceIdeal.defs (F := Ideal)) (onTc (τ := Cert.BpreReferenceIdeal.τ) (Cert.BpreReferenceIdeal.main (F := Ideal))) ⟨m', fun _ => 0, g'⟩ (fun r => ∀ c : Dev Cert.BpreReferenceIdeal.nD,
          r.2.mem ((c.tc : Thread Cert.BpreReferenceIdeal.nD Cert.BpreReferenceIdeal.τ).loc Cert.BpreReferenceIdeal.main_v34) = v0 c
          ∧ r.2.mem ((c.tc : Thread Cert.BpreReferenceIdeal.nD Cert.BpreReferenceIdeal.τ).loc Cert.BpreReferenceIdeal.main_v17) = v1 c
          ∧ r.2.mem ((c.tc : Thread Cert.BpreReferenceIdeal.nD Cert.BpreReferenceIdeal.τ).loc Cert.BpreReferenceIdeal.main_arg0) = m' ((c.tc : Thread Cert.BpreReferenceIdeal.nD Cert.BpreReferenceIdeal.τ).loc Cert.BpreReferenceIdeal.main_arg0)
          ∧ r.2.mem ((c.tc : Thread Cert.BpreReferenceIdeal.nD Cert.BpreReferenceIdeal.τ).loc Cert.BpreReferenceIdeal.main_arg1) = m' ((c.tc : Thread Cert.BpreReferenceIdeal.nD Cert.BpreReferenceIdeal.τ).loc Cert.BpreReferenceIdeal.main_arg1)
          ∧ r.2.mem ((c.tc : Thread Cert.BpreReferenceIdeal.nD Cert.BpreReferenceIdeal.τ).loc Cert.BpreReferenceIdeal.main_arg2) = m' ((c.tc : Thread Cert.BpreReferenceIdeal.nD Cert.BpreReferenceIdeal.τ).loc Cert.BpreReferenceIdeal.main_arg2)
          ∧ r.2.mem ((c.tc : Thread Cert.BpreReferenceIdeal.nD Cert.BpreReferenceIdeal.τ).loc Cert.BpreReferenceIdeal.main_arg3) = m' ((c.tc : Thread Cert.BpreReferenceIdeal.nD Cert.BpreReferenceIdeal.τ).loc Cert.BpreReferenceIdeal.main_arg3))

def preserves_Bpost_BpostIdeal : Prop :=
  True

def algebraic_BpostIdeal_BpostReferenceIdeal [hBpostIdeal : Cert.BpostIdeal.Facts] [hBpostReferenceIdeal : Cert.BpostReferenceIdeal.Facts] : Prop :=
  ∀ (m : (ℓ : Loc Cert.BpostIdeal.nD Cert.BpostIdeal.τ Cert.BpostIdeal.sig) → Buf (Elt Ideal) ℓ) (g : Dev Cert.BpostIdeal.nD → PrngReg)
    (m' : (ℓ : Loc Cert.BpostReferenceIdeal.nD Cert.BpostReferenceIdeal.τ Cert.BpostReferenceIdeal.sig) → Buf (Elt Ideal) ℓ) (g' : Dev Cert.BpostReferenceIdeal.nD → PrngReg), Pre_BpostIdeal m →
    (∀ c : Dev Cert.BpostIdeal.nD,
      m' ((c.tc : Thread Cert.BpostReferenceIdeal.nD Cert.BpostReferenceIdeal.τ).loc Cert.BpostReferenceIdeal.main_arg0) = m ((c.tc : Thread Cert.BpostIdeal.nD Cert.BpostIdeal.τ).loc Cert.BpostIdeal.main_arg0)
      ∧ m' ((c.tc : Thread Cert.BpostReferenceIdeal.nD Cert.BpostReferenceIdeal.τ).loc Cert.BpostReferenceIdeal.main_arg1) = m ((c.tc : Thread Cert.BpostIdeal.nD Cert.BpostIdeal.τ).loc Cert.BpostIdeal.main_arg1)
      ∧ m' ((c.tc : Thread Cert.BpostReferenceIdeal.nD Cert.BpostReferenceIdeal.τ).loc Cert.BpostReferenceIdeal.main_arg2) = m ((c.tc : Thread Cert.BpostIdeal.nD Cert.BpostIdeal.τ).loc Cert.BpostIdeal.main_arg2)) →
    ∃ (v0 : (c : Dev Cert.BpostIdeal.nD) → Buf (Elt Ideal) ((c.tc : Thread Cert.BpostIdeal.nD Cert.BpostIdeal.τ).loc Cert.BpostIdeal.main_v0_0)) (v1 : (c : Dev Cert.BpostIdeal.nD) → Buf (Elt Ideal) ((c.tc : Thread Cert.BpostIdeal.nD Cert.BpostIdeal.τ).loc Cert.BpostIdeal.main_v0_1)),
      θ_run (Cert.BpostIdeal.defs (F := Ideal)) (onTc (τ := Cert.BpostIdeal.τ) (Cert.BpostIdeal.main (F := Ideal))) ⟨m, fun _ => 0, g⟩ (fun r => ∀ c : Dev Cert.BpostIdeal.nD,
          r.2.mem ((c.tc : Thread Cert.BpostIdeal.nD Cert.BpostIdeal.τ).loc Cert.BpostIdeal.main_v0_0) = v0 c
          ∧ r.2.mem ((c.tc : Thread Cert.BpostIdeal.nD Cert.BpostIdeal.τ).loc Cert.BpostIdeal.main_v0_1) = v1 c
          ∧ r.2.mem ((c.tc : Thread Cert.BpostIdeal.nD Cert.BpostIdeal.τ).loc Cert.BpostIdeal.main_arg0) = m ((c.tc : Thread Cert.BpostIdeal.nD Cert.BpostIdeal.τ).loc Cert.BpostIdeal.main_arg0)
          ∧ r.2.mem ((c.tc : Thread Cert.BpostIdeal.nD Cert.BpostIdeal.τ).loc Cert.BpostIdeal.main_arg1) = m ((c.tc : Thread Cert.BpostIdeal.nD Cert.BpostIdeal.τ).loc Cert.BpostIdeal.main_arg1)
          ∧ r.2.mem ((c.tc : Thread Cert.BpostIdeal.nD Cert.BpostIdeal.τ).loc Cert.BpostIdeal.main_arg2) = m ((c.tc : Thread Cert.BpostIdeal.nD Cert.BpostIdeal.τ).loc Cert.BpostIdeal.main_arg2))
      ∧ θ_run (Cert.BpostReferenceIdeal.defs (F := Ideal)) (onTc (τ := Cert.BpostReferenceIdeal.τ) (Cert.BpostReferenceIdeal.main (F := Ideal))) ⟨m', fun _ => 0, g'⟩ (fun r => ∀ c : Dev Cert.BpostReferenceIdeal.nD,
          r.2.mem ((c.tc : Thread Cert.BpostReferenceIdeal.nD Cert.BpostReferenceIdeal.τ).loc Cert.BpostReferenceIdeal.main_v34) = v0 c
          ∧ r.2.mem ((c.tc : Thread Cert.BpostReferenceIdeal.nD Cert.BpostReferenceIdeal.τ).loc Cert.BpostReferenceIdeal.main_v17) = v1 c
          ∧ r.2.mem ((c.tc : Thread Cert.BpostReferenceIdeal.nD Cert.BpostReferenceIdeal.τ).loc Cert.BpostReferenceIdeal.main_arg0) = m' ((c.tc : Thread Cert.BpostReferenceIdeal.nD Cert.BpostReferenceIdeal.τ).loc Cert.BpostReferenceIdeal.main_arg0)
          ∧ r.2.mem ((c.tc : Thread Cert.BpostReferenceIdeal.nD Cert.BpostReferenceIdeal.τ).loc Cert.BpostReferenceIdeal.main_arg1) = m' ((c.tc : Thread Cert.BpostReferenceIdeal.nD Cert.BpostReferenceIdeal.τ).loc Cert.BpostReferenceIdeal.main_arg1)
          ∧ r.2.mem ((c.tc : Thread Cert.BpostReferenceIdeal.nD Cert.BpostReferenceIdeal.τ).loc Cert.BpostReferenceIdeal.main_arg2) = m' ((c.tc : Thread Cert.BpostReferenceIdeal.nD Cert.BpostReferenceIdeal.τ).loc Cert.BpostReferenceIdeal.main_arg2))

def preserves_Lhead_LheadIdeal : Prop :=
  True

def algebraic_LheadIdeal_LheadReferenceIdeal [hLheadIdeal : Cert.LheadIdeal.Facts] [hLheadReferenceIdeal : Cert.LheadReferenceIdeal.Facts] : Prop :=
  ∀ (m : (ℓ : Loc Cert.LheadIdeal.nD Cert.LheadIdeal.τ Cert.LheadIdeal.sig) → Buf (Elt Ideal) ℓ) (g : Dev Cert.LheadIdeal.nD → PrngReg)
    (m' : (ℓ : Loc Cert.LheadReferenceIdeal.nD Cert.LheadReferenceIdeal.τ Cert.LheadReferenceIdeal.sig) → Buf (Elt Ideal) ℓ) (g' : Dev Cert.LheadReferenceIdeal.nD → PrngReg), Pre_LheadIdeal m →
    (∀ c : Dev Cert.LheadIdeal.nD,
      m' ((c.tc : Thread Cert.LheadReferenceIdeal.nD Cert.LheadReferenceIdeal.τ).loc Cert.LheadReferenceIdeal.main_arg0) = m ((c.tc : Thread Cert.LheadIdeal.nD Cert.LheadIdeal.τ).loc Cert.LheadIdeal.main_arg0)
      ∧ m' ((c.tc : Thread Cert.LheadReferenceIdeal.nD Cert.LheadReferenceIdeal.τ).loc Cert.LheadReferenceIdeal.main_arg1) = m ((c.tc : Thread Cert.LheadIdeal.nD Cert.LheadIdeal.τ).loc Cert.LheadIdeal.main_arg1)
      ∧ m' ((c.tc : Thread Cert.LheadReferenceIdeal.nD Cert.LheadReferenceIdeal.τ).loc Cert.LheadReferenceIdeal.main_arg2) = m ((c.tc : Thread Cert.LheadIdeal.nD Cert.LheadIdeal.τ).loc Cert.LheadIdeal.main_arg2)
      ∧ m' ((c.tc : Thread Cert.LheadReferenceIdeal.nD Cert.LheadReferenceIdeal.τ).loc Cert.LheadReferenceIdeal.main_arg3) = m ((c.tc : Thread Cert.LheadIdeal.nD Cert.LheadIdeal.τ).loc Cert.LheadIdeal.main_arg3)) →
    ∃ (v0 : (c : Dev Cert.LheadIdeal.nD) → Buf (Elt Ideal) ((c.tc : Thread Cert.LheadIdeal.nD Cert.LheadIdeal.τ).loc Cert.LheadIdeal.main_v0_0)) (v1 : (c : Dev Cert.LheadIdeal.nD) → Buf (Elt Ideal) ((c.tc : Thread Cert.LheadIdeal.nD Cert.LheadIdeal.τ).loc Cert.LheadIdeal.main_v0_1)) (v2 : (c : Dev Cert.LheadIdeal.nD) → Buf (Elt Ideal) ((c.tc : Thread Cert.LheadIdeal.nD Cert.LheadIdeal.τ).loc Cert.LheadIdeal.main_v0_2)) (v3 : (c : Dev Cert.LheadIdeal.nD) → Buf (Elt Ideal) ((c.tc : Thread Cert.LheadIdeal.nD Cert.LheadIdeal.τ).loc Cert.LheadIdeal.main_v0_3)),
      θ_run (Cert.LheadIdeal.defs (F := Ideal)) (onTc (τ := Cert.LheadIdeal.τ) (Cert.LheadIdeal.main (F := Ideal))) ⟨m, fun _ => 0, g⟩ (fun r => ∀ c : Dev Cert.LheadIdeal.nD,
          r.2.mem ((c.tc : Thread Cert.LheadIdeal.nD Cert.LheadIdeal.τ).loc Cert.LheadIdeal.main_v0_0) = v0 c
          ∧ r.2.mem ((c.tc : Thread Cert.LheadIdeal.nD Cert.LheadIdeal.τ).loc Cert.LheadIdeal.main_v0_1) = v1 c
          ∧ r.2.mem ((c.tc : Thread Cert.LheadIdeal.nD Cert.LheadIdeal.τ).loc Cert.LheadIdeal.main_v0_2) = v2 c
          ∧ r.2.mem ((c.tc : Thread Cert.LheadIdeal.nD Cert.LheadIdeal.τ).loc Cert.LheadIdeal.main_v0_3) = v3 c
          ∧ r.2.mem ((c.tc : Thread Cert.LheadIdeal.nD Cert.LheadIdeal.τ).loc Cert.LheadIdeal.main_arg0) = m ((c.tc : Thread Cert.LheadIdeal.nD Cert.LheadIdeal.τ).loc Cert.LheadIdeal.main_arg0)
          ∧ r.2.mem ((c.tc : Thread Cert.LheadIdeal.nD Cert.LheadIdeal.τ).loc Cert.LheadIdeal.main_arg1) = m ((c.tc : Thread Cert.LheadIdeal.nD Cert.LheadIdeal.τ).loc Cert.LheadIdeal.main_arg1)
          ∧ r.2.mem ((c.tc : Thread Cert.LheadIdeal.nD Cert.LheadIdeal.τ).loc Cert.LheadIdeal.main_arg2) = m ((c.tc : Thread Cert.LheadIdeal.nD Cert.LheadIdeal.τ).loc Cert.LheadIdeal.main_arg2)
          ∧ r.2.mem ((c.tc : Thread Cert.LheadIdeal.nD Cert.LheadIdeal.τ).loc Cert.LheadIdeal.main_arg3) = m ((c.tc : Thread Cert.LheadIdeal.nD Cert.LheadIdeal.τ).loc Cert.LheadIdeal.main_arg3))
      ∧ θ_run (Cert.LheadReferenceIdeal.defs (F := Ideal)) (onTc (τ := Cert.LheadReferenceIdeal.τ) (Cert.LheadReferenceIdeal.main (F := Ideal))) ⟨m', fun _ => 0, g'⟩ (fun r => ∀ c : Dev Cert.LheadReferenceIdeal.nD,
          r.2.mem ((c.tc : Thread Cert.LheadReferenceIdeal.nD Cert.LheadReferenceIdeal.τ).loc Cert.LheadReferenceIdeal.main_v30) = v0 c
          ∧ r.2.mem ((c.tc : Thread Cert.LheadReferenceIdeal.nD Cert.LheadReferenceIdeal.τ).loc Cert.LheadReferenceIdeal.main_v50) = v1 c
          ∧ r.2.mem ((c.tc : Thread Cert.LheadReferenceIdeal.nD Cert.LheadReferenceIdeal.τ).loc Cert.LheadReferenceIdeal.main_v33) = v2 c
          ∧ r.2.mem ((c.tc : Thread Cert.LheadReferenceIdeal.nD Cert.LheadReferenceIdeal.τ).loc Cert.LheadReferenceIdeal.main_v67) = v3 c
          ∧ r.2.mem ((c.tc : Thread Cert.LheadReferenceIdeal.nD Cert.LheadReferenceIdeal.τ).loc Cert.LheadReferenceIdeal.main_arg0) = m' ((c.tc : Thread Cert.LheadReferenceIdeal.nD Cert.LheadReferenceIdeal.τ).loc Cert.LheadReferenceIdeal.main_arg0)
          ∧ r.2.mem ((c.tc : Thread Cert.LheadReferenceIdeal.nD Cert.LheadReferenceIdeal.τ).loc Cert.LheadReferenceIdeal.main_arg1) = m' ((c.tc : Thread Cert.LheadReferenceIdeal.nD Cert.LheadReferenceIdeal.τ).loc Cert.LheadReferenceIdeal.main_arg1)
          ∧ r.2.mem ((c.tc : Thread Cert.LheadReferenceIdeal.nD Cert.LheadReferenceIdeal.τ).loc Cert.LheadReferenceIdeal.main_arg2) = m' ((c.tc : Thread Cert.LheadReferenceIdeal.nD Cert.LheadReferenceIdeal.τ).loc Cert.LheadReferenceIdeal.main_arg2)
          ∧ r.2.mem ((c.tc : Thread Cert.LheadReferenceIdeal.nD Cert.LheadReferenceIdeal.τ).loc Cert.LheadReferenceIdeal.main_arg3) = m' ((c.tc : Thread Cert.LheadReferenceIdeal.nD Cert.LheadReferenceIdeal.τ).loc Cert.LheadReferenceIdeal.main_arg3))

def Claim : Prop :=
  ∃ (hKernel : Cert.Kernel.Facts) (hKernelIdeal : Cert.KernelIdeal.Facts) (hReferenceIdeal : Cert.ReferenceIdeal.Facts) (hDact : Cert.Dact.Facts) (hDactIdeal : Cert.DactIdeal.Facts) (hDactReferenceIdeal : Cert.DactReferenceIdeal.Facts) (hGdown : Cert.Gdown.Facts) (hGdownIdeal : Cert.GdownIdeal.Facts) (hGdownReferenceIdeal : Cert.GdownReferenceIdeal.Facts) (hGgate : Cert.Ggate.Facts) (hGgateIdeal : Cert.GgateIdeal.Facts) (hGgateReferenceIdeal : Cert.GgateReferenceIdeal.Facts) (hGval : Cert.Gval.Facts) (hGvalIdeal : Cert.GvalIdeal.Facts) (hGvalReferenceIdeal : Cert.GvalReferenceIdeal.Facts) (hDhn : Cert.Dhn.Facts) (hDhnIdeal : Cert.DhnIdeal.Facts) (hDhnReferenceIdeal : Cert.DhnReferenceIdeal.Facts) (hDmix : Cert.Dmix.Facts) (hDmixIdeal : Cert.DmixIdeal.Facts) (hDmixReferenceIdeal : Cert.DmixReferenceIdeal.Facts) (hGout : Cert.Gout.Facts) (hGoutIdeal : Cert.GoutIdeal.Facts) (hGoutReferenceIdeal : Cert.GoutReferenceIdeal.Facts) (hGin : Cert.Gin.Facts) (hGinIdeal : Cert.GinIdeal.Facts) (hGinReferenceIdeal : Cert.GinReferenceIdeal.Facts) (hGconv : Cert.Gconv.Facts) (hGconvIdeal : Cert.GconvIdeal.Facts) (hGconvReferenceIdeal : Cert.GconvReferenceIdeal.Facts) (hFup : Cert.Fup.Facts) (hFupIdeal : Cert.FupIdeal.Facts) (hFupReferenceIdeal : Cert.FupReferenceIdeal.Facts) (hFdown : Cert.Fdown.Facts) (hFdownIdeal : Cert.FdownIdeal.Facts) (hFdownReferenceIdeal : Cert.FdownReferenceIdeal.Facts) (hOproj : Cert.Oproj.Facts) (hOprojIdeal : Cert.OprojIdeal.Facts) (hOprojReferenceIdeal : Cert.OprojReferenceIdeal.Facts) (hPsb : Cert.Psb.Facts) (hPsbIdeal : Cert.PsbIdeal.Facts) (hPsbReferenceIdeal : Cert.PsbReferenceIdeal.Facts) (hPdn : Cert.Pdn.Facts) (hPdnIdeal : Cert.PdnIdeal.Facts) (hPdnReferenceIdeal : Cert.PdnReferenceIdeal.Facts) (hPba : Cert.Pba.Facts) (hPbaIdeal : Cert.PbaIdeal.Facts) (hPbaReferenceIdeal : Cert.PbaReferenceIdeal.Facts) (hGba : Cert.Gba.Facts) (hGbaIdeal : Cert.GbaIdeal.Facts) (hGbaReferenceIdeal : Cert.GbaReferenceIdeal.Facts) (hAdIn : Cert.AdIn.Facts) (hAdInIdeal : Cert.AdInIdeal.Facts) (hAdInReferenceIdeal : Cert.AdInReferenceIdeal.Facts) (hAdOut : Cert.AdOut.Facts) (hAdOutIdeal : Cert.AdOutIdeal.Facts) (hAdOutReferenceIdeal : Cert.AdOutReferenceIdeal.Facts) (hAdUp : Cert.AdUp.Facts) (hAdUpIdeal : Cert.AdUpIdeal.Facts) (hAdUpReferenceIdeal : Cert.AdUpReferenceIdeal.Facts) (hAdDown : Cert.AdDown.Facts) (hAdDownIdeal : Cert.AdDownIdeal.Facts) (hAdDownReferenceIdeal : Cert.AdDownReferenceIdeal.Facts) (hAdSmall : Cert.AdSmall.Facts) (hAdSmallIdeal : Cert.AdSmallIdeal.Facts) (hAdSmallReferenceIdeal : Cert.AdSmallReferenceIdeal.Facts) (hRpre : Cert.Rpre.Facts) (hRpreIdeal : Cert.RpreIdeal.Facts) (hRpreReferenceIdeal : Cert.RpreReferenceIdeal.Facts) (hRpost : Cert.Rpost.Facts) (hRpostIdeal : Cert.RpostIdeal.Facts) (hRpostReferenceIdeal : Cert.RpostReferenceIdeal.Facts) (hBpre : Cert.Bpre.Facts) (hBpreIdeal : Cert.BpreIdeal.Facts) (hBpreReferenceIdeal : Cert.BpreReferenceIdeal.Facts) (hBpost : Cert.Bpost.Facts) (hBpostIdeal : Cert.BpostIdeal.Facts) (hBpostReferenceIdeal : Cert.BpostReferenceIdeal.Facts) (hLhead : Cert.Lhead.Facts) (hLheadIdeal : Cert.LheadIdeal.Facts) (hLheadReferenceIdeal : Cert.LheadReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Dact (hDact := hDact)
    ∧ quiescent_DactIdeal (hDactIdeal := hDactIdeal)
    ∧ quiescent_DactReferenceIdeal (hDactReferenceIdeal := hDactReferenceIdeal)
    ∧ quiescent_Gdown (hGdown := hGdown)
    ∧ quiescent_GdownIdeal (hGdownIdeal := hGdownIdeal)
    ∧ quiescent_GdownReferenceIdeal (hGdownReferenceIdeal := hGdownReferenceIdeal)
    ∧ quiescent_Ggate (hGgate := hGgate)
    ∧ quiescent_GgateIdeal (hGgateIdeal := hGgateIdeal)
    ∧ quiescent_GgateReferenceIdeal (hGgateReferenceIdeal := hGgateReferenceIdeal)
    ∧ quiescent_Gval (hGval := hGval)
    ∧ quiescent_GvalIdeal (hGvalIdeal := hGvalIdeal)
    ∧ quiescent_GvalReferenceIdeal (hGvalReferenceIdeal := hGvalReferenceIdeal)
    ∧ quiescent_Dhn (hDhn := hDhn)
    ∧ quiescent_DhnIdeal (hDhnIdeal := hDhnIdeal)
    ∧ quiescent_DhnReferenceIdeal (hDhnReferenceIdeal := hDhnReferenceIdeal)
    ∧ quiescent_Dmix (hDmix := hDmix)
    ∧ quiescent_DmixIdeal (hDmixIdeal := hDmixIdeal)
    ∧ quiescent_DmixReferenceIdeal (hDmixReferenceIdeal := hDmixReferenceIdeal)
    ∧ quiescent_Gout (hGout := hGout)
    ∧ quiescent_GoutIdeal (hGoutIdeal := hGoutIdeal)
    ∧ quiescent_GoutReferenceIdeal (hGoutReferenceIdeal := hGoutReferenceIdeal)
    ∧ quiescent_Gin (hGin := hGin)
    ∧ quiescent_GinIdeal (hGinIdeal := hGinIdeal)
    ∧ quiescent_GinReferenceIdeal (hGinReferenceIdeal := hGinReferenceIdeal)
    ∧ quiescent_Gconv (hGconv := hGconv)
    ∧ quiescent_GconvIdeal (hGconvIdeal := hGconvIdeal)
    ∧ quiescent_GconvReferenceIdeal (hGconvReferenceIdeal := hGconvReferenceIdeal)
    ∧ quiescent_Fup (hFup := hFup)
    ∧ quiescent_FupIdeal (hFupIdeal := hFupIdeal)
    ∧ quiescent_FupReferenceIdeal (hFupReferenceIdeal := hFupReferenceIdeal)
    ∧ quiescent_Fdown (hFdown := hFdown)
    ∧ quiescent_FdownIdeal (hFdownIdeal := hFdownIdeal)
    ∧ quiescent_FdownReferenceIdeal (hFdownReferenceIdeal := hFdownReferenceIdeal)
    ∧ quiescent_Oproj (hOproj := hOproj)
    ∧ quiescent_OprojIdeal (hOprojIdeal := hOprojIdeal)
    ∧ quiescent_OprojReferenceIdeal (hOprojReferenceIdeal := hOprojReferenceIdeal)
    ∧ quiescent_Psb (hPsb := hPsb)
    ∧ quiescent_PsbIdeal (hPsbIdeal := hPsbIdeal)
    ∧ quiescent_PsbReferenceIdeal (hPsbReferenceIdeal := hPsbReferenceIdeal)
    ∧ quiescent_Pdn (hPdn := hPdn)
    ∧ quiescent_PdnIdeal (hPdnIdeal := hPdnIdeal)
    ∧ quiescent_PdnReferenceIdeal (hPdnReferenceIdeal := hPdnReferenceIdeal)
    ∧ quiescent_Pba (hPba := hPba)
    ∧ quiescent_PbaIdeal (hPbaIdeal := hPbaIdeal)
    ∧ quiescent_PbaReferenceIdeal (hPbaReferenceIdeal := hPbaReferenceIdeal)
    ∧ quiescent_Gba (hGba := hGba)
    ∧ quiescent_GbaIdeal (hGbaIdeal := hGbaIdeal)
    ∧ quiescent_GbaReferenceIdeal (hGbaReferenceIdeal := hGbaReferenceIdeal)
    ∧ quiescent_AdIn (hAdIn := hAdIn)
    ∧ quiescent_AdInIdeal (hAdInIdeal := hAdInIdeal)
    ∧ quiescent_AdInReferenceIdeal (hAdInReferenceIdeal := hAdInReferenceIdeal)
    ∧ quiescent_AdOut (hAdOut := hAdOut)
    ∧ quiescent_AdOutIdeal (hAdOutIdeal := hAdOutIdeal)
    ∧ quiescent_AdOutReferenceIdeal (hAdOutReferenceIdeal := hAdOutReferenceIdeal)
    ∧ quiescent_AdUp (hAdUp := hAdUp)
    ∧ quiescent_AdUpIdeal (hAdUpIdeal := hAdUpIdeal)
    ∧ quiescent_AdUpReferenceIdeal (hAdUpReferenceIdeal := hAdUpReferenceIdeal)
    ∧ quiescent_AdDown (hAdDown := hAdDown)
    ∧ quiescent_AdDownIdeal (hAdDownIdeal := hAdDownIdeal)
    ∧ quiescent_AdDownReferenceIdeal (hAdDownReferenceIdeal := hAdDownReferenceIdeal)
    ∧ quiescent_AdSmall (hAdSmall := hAdSmall)
    ∧ quiescent_AdSmallIdeal (hAdSmallIdeal := hAdSmallIdeal)
    ∧ quiescent_AdSmallReferenceIdeal (hAdSmallReferenceIdeal := hAdSmallReferenceIdeal)
    ∧ quiescent_Rpre (hRpre := hRpre)
    ∧ quiescent_RpreIdeal (hRpreIdeal := hRpreIdeal)
    ∧ quiescent_RpreReferenceIdeal (hRpreReferenceIdeal := hRpreReferenceIdeal)
    ∧ quiescent_Rpost (hRpost := hRpost)
    ∧ quiescent_RpostIdeal (hRpostIdeal := hRpostIdeal)
    ∧ quiescent_RpostReferenceIdeal (hRpostReferenceIdeal := hRpostReferenceIdeal)
    ∧ quiescent_Bpre (hBpre := hBpre)
    ∧ quiescent_BpreIdeal (hBpreIdeal := hBpreIdeal)
    ∧ quiescent_BpreReferenceIdeal (hBpreReferenceIdeal := hBpreReferenceIdeal)
    ∧ quiescent_Bpost (hBpost := hBpost)
    ∧ quiescent_BpostIdeal (hBpostIdeal := hBpostIdeal)
    ∧ quiescent_BpostReferenceIdeal (hBpostReferenceIdeal := hBpostReferenceIdeal)
    ∧ quiescent_Lhead (hLhead := hLhead)
    ∧ quiescent_LheadIdeal (hLheadIdeal := hLheadIdeal)
    ∧ quiescent_LheadReferenceIdeal (hLheadReferenceIdeal := hLheadReferenceIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Dact_DactIdeal
    ∧ algebraic_DactIdeal_DactReferenceIdeal (hDactIdeal := hDactIdeal) (hDactReferenceIdeal := hDactReferenceIdeal)
    ∧ preserves_Gdown_GdownIdeal
    ∧ algebraic_GdownIdeal_GdownReferenceIdeal (hGdownIdeal := hGdownIdeal) (hGdownReferenceIdeal := hGdownReferenceIdeal)
    ∧ preserves_Ggate_GgateIdeal
    ∧ algebraic_GgateIdeal_GgateReferenceIdeal (hGgateIdeal := hGgateIdeal) (hGgateReferenceIdeal := hGgateReferenceIdeal)
    ∧ preserves_Gval_GvalIdeal
    ∧ algebraic_GvalIdeal_GvalReferenceIdeal (hGvalIdeal := hGvalIdeal) (hGvalReferenceIdeal := hGvalReferenceIdeal)
    ∧ preserves_Dhn_DhnIdeal
    ∧ algebraic_DhnIdeal_DhnReferenceIdeal (hDhnIdeal := hDhnIdeal) (hDhnReferenceIdeal := hDhnReferenceIdeal)
    ∧ preserves_Dmix_DmixIdeal
    ∧ algebraic_DmixIdeal_DmixReferenceIdeal (hDmixIdeal := hDmixIdeal) (hDmixReferenceIdeal := hDmixReferenceIdeal)
    ∧ preserves_Gout_GoutIdeal
    ∧ algebraic_GoutIdeal_GoutReferenceIdeal (hGoutIdeal := hGoutIdeal) (hGoutReferenceIdeal := hGoutReferenceIdeal)
    ∧ preserves_Gin_GinIdeal
    ∧ algebraic_GinIdeal_GinReferenceIdeal (hGinIdeal := hGinIdeal) (hGinReferenceIdeal := hGinReferenceIdeal)
    ∧ preserves_Gconv_GconvIdeal
    ∧ algebraic_GconvIdeal_GconvReferenceIdeal (hGconvIdeal := hGconvIdeal) (hGconvReferenceIdeal := hGconvReferenceIdeal)
    ∧ preserves_Fup_FupIdeal
    ∧ algebraic_FupIdeal_FupReferenceIdeal (hFupIdeal := hFupIdeal) (hFupReferenceIdeal := hFupReferenceIdeal)
    ∧ preserves_Fdown_FdownIdeal
    ∧ algebraic_FdownIdeal_FdownReferenceIdeal (hFdownIdeal := hFdownIdeal) (hFdownReferenceIdeal := hFdownReferenceIdeal)
    ∧ preserves_Oproj_OprojIdeal
    ∧ algebraic_OprojIdeal_OprojReferenceIdeal (hOprojIdeal := hOprojIdeal) (hOprojReferenceIdeal := hOprojReferenceIdeal)
    ∧ preserves_Psb_PsbIdeal
    ∧ algebraic_PsbIdeal_PsbReferenceIdeal (hPsbIdeal := hPsbIdeal) (hPsbReferenceIdeal := hPsbReferenceIdeal)
    ∧ preserves_Pdn_PdnIdeal
    ∧ algebraic_PdnIdeal_PdnReferenceIdeal (hPdnIdeal := hPdnIdeal) (hPdnReferenceIdeal := hPdnReferenceIdeal)
    ∧ preserves_Pba_PbaIdeal
    ∧ algebraic_PbaIdeal_PbaReferenceIdeal (hPbaIdeal := hPbaIdeal) (hPbaReferenceIdeal := hPbaReferenceIdeal)
    ∧ preserves_Gba_GbaIdeal
    ∧ algebraic_GbaIdeal_GbaReferenceIdeal (hGbaIdeal := hGbaIdeal) (hGbaReferenceIdeal := hGbaReferenceIdeal)
    ∧ preserves_AdIn_AdInIdeal
    ∧ algebraic_AdInIdeal_AdInReferenceIdeal (hAdInIdeal := hAdInIdeal) (hAdInReferenceIdeal := hAdInReferenceIdeal)
    ∧ preserves_AdOut_AdOutIdeal
    ∧ algebraic_AdOutIdeal_AdOutReferenceIdeal (hAdOutIdeal := hAdOutIdeal) (hAdOutReferenceIdeal := hAdOutReferenceIdeal)
    ∧ preserves_AdUp_AdUpIdeal
    ∧ algebraic_AdUpIdeal_AdUpReferenceIdeal (hAdUpIdeal := hAdUpIdeal) (hAdUpReferenceIdeal := hAdUpReferenceIdeal)
    ∧ preserves_AdDown_AdDownIdeal
    ∧ algebraic_AdDownIdeal_AdDownReferenceIdeal (hAdDownIdeal := hAdDownIdeal) (hAdDownReferenceIdeal := hAdDownReferenceIdeal)
    ∧ preserves_AdSmall_AdSmallIdeal
    ∧ algebraic_AdSmallIdeal_AdSmallReferenceIdeal (hAdSmallIdeal := hAdSmallIdeal) (hAdSmallReferenceIdeal := hAdSmallReferenceIdeal)
    ∧ preserves_Rpre_RpreIdeal
    ∧ algebraic_RpreIdeal_RpreReferenceIdeal (hRpreIdeal := hRpreIdeal) (hRpreReferenceIdeal := hRpreReferenceIdeal)
    ∧ preserves_Rpost_RpostIdeal
    ∧ algebraic_RpostIdeal_RpostReferenceIdeal (hRpostIdeal := hRpostIdeal) (hRpostReferenceIdeal := hRpostReferenceIdeal)
    ∧ preserves_Bpre_BpreIdeal
    ∧ algebraic_BpreIdeal_BpreReferenceIdeal (hBpreIdeal := hBpreIdeal) (hBpreReferenceIdeal := hBpreReferenceIdeal)
    ∧ preserves_Bpost_BpostIdeal
    ∧ algebraic_BpostIdeal_BpostReferenceIdeal (hBpostIdeal := hBpostIdeal) (hBpostReferenceIdeal := hBpostReferenceIdeal)
    ∧ preserves_Lhead_LheadIdeal
    ∧ algebraic_LheadIdeal_LheadReferenceIdeal (hLheadIdeal := hLheadIdeal) (hLheadReferenceIdeal := hLheadReferenceIdeal)
-- ==== Pre_finite.lean ====
abbrev S4096x1024 : Shape := ⟨2, ![4096, 1024]⟩
abbrev S_ : Shape := ⟨0, ![]⟩

class Facts : Prop where
  bitsLt_bf16_f32 : FTy.bits .bf16 < FTy.bits .f32
  bcast_S_S4096x1024 : S_.BroadcastsInDim S4096x1024 (![] : Fin 0 → Fin S4096x1024.rank)

variable [Facts]

def fn {F : FTy → Type} [FloatOps F] (main_arg0 : FVec F S4096x1024 .bf16) (main_arg1 : FVec F S4096x1024 .bf16) (main_arg2 : FVec F S4096x1024 .bf16) (main_arg3 : FVec F S4096x1024 .f32) : IVec S4096x1024 1 :=
  let main_v0 : FVec F S4096x1024 .f32 := (extf .f32 · bitsLt_bf16_f32) main_arg0
  let main_v1 : FVec F S4096x1024 .f32 := Host.absf main_v0
  let main_cst : FVec F S_ .f32 := constant S_ .f32 0x7F800000#32
  let main_v2 : FVec F S4096x1024 .f32 := broadcastInDim S4096x1024 ![] bcast_S_S4096x1024 main_cst
  let main_v3 : IVec S4096x1024 1 := cmpf .olt main_v1 main_v2
  let main_v4 : FVec F S4096x1024 .f32 := (extf .f32 · bitsLt_bf16_f32) main_arg1
  let main_v5 : FVec F S4096x1024 .f32 := Host.absf main_v4
  let main_cst_0 : FVec F S_ .f32 := constant S_ .f32 0x7F800000#32
  let main_v6 : FVec F S4096x1024 .f32 := broadcastInDim S4096x1024 ![] bcast_S_S4096x1024 main_cst_0
  let main_v7 : IVec S4096x1024 1 := cmpf .olt main_v5 main_v6
  let main_v8 : IVec S4096x1024 1 := andi main_v3 main_v7
  let main_v9 : FVec F S4096x1024 .f32 := (extf .f32 · bitsLt_bf16_f32) main_arg2
  let main_v10 : FVec F S4096x1024 .f32 := Host.absf main_v9
  let main_cst_1 : FVec F S_ .f32 := constant S_ .f32 0x7F800000#32
  let main_v11 : FVec F S4096x1024 .f32 := broadcastInDim S4096x1024 ![] bcast_S_S4096x1024 main_cst_1
  let main_v12 : IVec S4096x1024 1 := cmpf .olt main_v10 main_v11
  let main_v13 : IVec S4096x1024 1 := andi main_v8 main_v12
  let main_v14 : FVec F S4096x1024 .f32 := Host.absf main_arg3
  let main_cst_2 : FVec F S_ .f32 := constant S_ .f32 0x7F800000#32
  let main_v15 : FVec F S4096x1024 .f32 := broadcastInDim S4096x1024 ![] bcast_S_S4096x1024 main_cst_2
  let main_v16 : IVec S4096x1024 1 := cmpf .olt main_v14 main_v15
  let main_v17 : IVec S4096x1024 1 := andi main_v13 main_v16
  main_v17
-- ==== Kernel.lean ====
abbrev S4096x1024 : Shape := ⟨2, ![4096, 1024]⟩
abbrev S4096x8x128 : Shape := ⟨3, ![4096, 8, 128]⟩
abbrev S8x4096x128 : Shape := ⟨3, ![8, 4096, 128]⟩
abbrev S8x4096x4096 : Shape := ⟨3, ![8, 4096, 4096]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S8x4096 : Shape := ⟨2, ![8, 4096]⟩
abbrev S4096x8 : Shape := ⟨2, ![4096, 8]⟩
abbrev S4096x8x1 : Shape := ⟨3, ![4096, 8, 1]⟩
abbrev S16 : Shape := ⟨1, ![16]⟩
abbrev S1x16 : Shape := ⟨2, ![1, 16]⟩
abbrev S4x16 : Shape := ⟨2, ![4, 16]⟩
abbrev S4096x3072 : Shape := ⟨2, ![4096, 3072]⟩
abbrev S256x256 : Shape := ⟨2, ![256, 256]⟩
abbrev S4096x256 : Shape := ⟨2, ![4096, 256]⟩
abbrev S256x128 : Shape := ⟨2, ![256, 128]⟩
abbrev S256x1 : Shape := ⟨2, ![256, 1]⟩
abbrev S1x1 : Shape := ⟨2, ![1, 1]⟩
abbrev S256 : Shape := ⟨1, ![256]⟩

abbrev nBuf : Space → Nat
  | .hbm => 56
  | .vmem => 18
  | .smem => 1
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x1024, .bf16⟩
  | .hbm, ⟨3, _⟩ => ⟨S4096x1024, .f32⟩
  | .hbm, ⟨4, _⟩ => ⟨S4096x8x128, .bf16⟩
  | .hbm, ⟨5, _⟩ => ⟨S8x4096x128, .bf16⟩
  | .hbm, ⟨6, _⟩ => ⟨S8x4096x128, .f32⟩
  | .hbm, ⟨7, _⟩ => ⟨S4096x8x128, .bf16⟩
  | .hbm, ⟨8, _⟩ => ⟨S8x4096x128, .bf16⟩
  | .hbm, ⟨9, _⟩ => ⟨S8x4096x128, .f32⟩
  | .hbm, ⟨10, _⟩ => ⟨S8x4096x4096, .f32⟩
  | .hbm, ⟨11, _⟩ => ⟨S_, .f32⟩
  | .hbm, ⟨12, _⟩ => ⟨S8x4096x4096, .f32⟩
  | .hbm, ⟨13, _⟩ => ⟨S8x4096x4096, .f32⟩
  | .hbm, ⟨14, _⟩ => ⟨S4096, .i32⟩
  | .hbm, ⟨15, _⟩ => ⟨S1x4096, .i32⟩
  | .hbm, ⟨16, _⟩ => ⟨S4096, .i32⟩
  | .hbm, ⟨17, _⟩ => ⟨S4096x1, .i32⟩
  | .hbm, ⟨18, _⟩ => ⟨S4096x4096, .i32⟩
  | .hbm, ⟨19, _⟩ => ⟨S4096x4096, .i32⟩
  | .hbm, ⟨20, _⟩ => ⟨S4096x4096, .i1⟩
  | .hbm, ⟨21, _⟩ => ⟨S8x4096x4096, .f32⟩
  | .hbm, ⟨22, _⟩ => ⟨S8x4096x4096, .f32⟩
  | .hbm, ⟨23, _⟩ => ⟨S_, .f32⟩
  | .hbm, ⟨24, _⟩ => ⟨S8x4096x4096, .f32⟩
  | .hbm, ⟨25, _⟩ => ⟨S8x4096x4096, .f32⟩
  | .hbm, ⟨26, _⟩ => ⟨S8x4096x4096, .f32⟩
  | .hbm, ⟨27, _⟩ => ⟨S8x4096x4096, .f32⟩
  | .hbm, ⟨28, _⟩ => ⟨S8x4096x4096, .i1⟩
  | .hbm, ⟨29, _⟩ => ⟨S8x4096x4096, .f32⟩
  | .hbm, ⟨30, _⟩ => ⟨S8x4096x4096, .f32⟩
  | .hbm, ⟨31, _⟩ => ⟨S8x4096x4096, .f32⟩
  | .hbm, ⟨32, _⟩ => ⟨S8x4096x4096, .f32⟩
  | .hbm, ⟨33, _⟩ => ⟨S8x4096x4096, .f32⟩
  | .hbm, ⟨34, _⟩ => ⟨S8x4096x4096, .f32⟩
  | .hbm, ⟨35, _⟩ => ⟨S8x4096x4096, .f32⟩
  | .hbm, ⟨36, _⟩ => ⟨S8x4096x4096, .f32⟩
  | .hbm, ⟨37, _⟩ => ⟨S8x4096x4096, .f32⟩
  | .hbm, ⟨38, _⟩ => ⟨S_, .f32⟩
  | .hbm, ⟨39, _⟩ => ⟨S_, .f32⟩
  | .hbm, ⟨40, _⟩ => ⟨S8x4096x4096, .i1⟩
  | .hbm, ⟨41, _⟩ => ⟨S8x4096x4096, .f32⟩
  | .hbm, ⟨42, _⟩ => ⟨S8x4096x4096, .f32⟩
  | .hbm, ⟨43, _⟩ => ⟨S_, .f32⟩
  | .hbm, ⟨44, _⟩ => ⟨S8x4096, .f32⟩
  | .hbm, ⟨45, _⟩ => ⟨S4096x8, .f32⟩
  | .hbm, ⟨46, _⟩ => ⟨S4096x8x1, .f32⟩
  | .hbm, ⟨47, _⟩ => ⟨S4096x8x128, .f32⟩
  | .hbm, ⟨48, _⟩ => ⟨S4096x1024, .f32⟩
  | .hbm, ⟨49, _⟩ => ⟨S16, .i32⟩
  | .hbm, ⟨50, _⟩ => ⟨S1x16, .i32⟩
  | .hbm, ⟨51, _⟩ => ⟨S4x16, .i32⟩
  | .hbm, ⟨52, _⟩ => ⟨S4096x3072, .bf16⟩
  | .hbm, ⟨53, _⟩ => ⟨S4096x1024, .bf16⟩
  | .hbm, ⟨54, _⟩ => ⟨S4096x1024, .bf16⟩
  | .hbm, ⟨55, _⟩ => ⟨S4096x1024, .bf16⟩
  | .local _ .vmem, ⟨0, _⟩ => ⟨S256x256, .bf16⟩
  | .local _ .vmem, ⟨1, _⟩ => ⟨S256x256, .bf16⟩
  | .local _ .vmem, ⟨2, _⟩ => ⟨S4096x256, .bf16⟩
  | .local _ .vmem, ⟨3, _⟩ => ⟨S4096x256, .bf16⟩
  | .local _ .vmem, ⟨4, _⟩ => ⟨S4096x256, .bf16⟩
  | .local _ .vmem, ⟨5, _⟩ => ⟨S4096x256, .bf16⟩
  | .local _ .vmem, ⟨6, _⟩ => ⟨S256x256, .f32⟩
  | .local _ .vmem, ⟨7, _⟩ => ⟨S256x256, .f32⟩
  | .local _ .vmem, ⟨8, _⟩ => ⟨S256x256, .f32⟩
  | .local _ .vmem, ⟨9, _⟩ => ⟨S256x256, .f32⟩
  | .local _ .vmem, ⟨10, _⟩ => ⟨S256x256, .bf16⟩
  | .local _ .vmem, ⟨11, _⟩ => ⟨S256x256, .bf16⟩
  | .local _ .vmem, ⟨12, _⟩ => ⟨S4096x256, .bf16⟩
  | .local _ .vmem, ⟨13, _⟩ => ⟨S4096x256, .bf16⟩
  | .local _ .vmem, ⟨14, _⟩ => ⟨S4096x256, .bf16⟩
  | .local _ .vmem, ⟨15, _⟩ => ⟨S4096x256, .bf16⟩
  | .local _ .vmem, ⟨16, _⟩ => ⟨S4096x256, .f32⟩
  | .local _ .vmem, ⟨17, _⟩ => ⟨S4096x256, .f32⟩
  | .local _ .smem, ⟨0, _⟩ => ⟨S4x16, .i32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .smem, ⟨0, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_call0_v0 : Ref sig .tc := ⟨.hbm, 22, rfl⟩
abbrev main_call0_call0_cst : Ref sig .tc := ⟨.hbm, 23, rfl⟩
abbrev main_call0_call0_v0 : Ref sig .tc := ⟨.hbm, 24, rfl⟩
abbrev main_call0_call0_v1 : Ref sig .tc := ⟨.hbm, 25, rfl⟩
abbrev main_call0_call0_v2 : Ref sig .tc := ⟨.hbm, 26, rfl⟩
abbrev main_call0_call0_v3 : Ref sig .tc := ⟨.hbm, 27, rfl⟩
abbrev main_call0_call0_v4 : Ref sig .tc := ⟨.hbm, 28, rfl⟩
abbrev main_call0_call0_v5 : Ref sig .tc := ⟨.hbm, 29, rfl⟩
abbrev main_call0_call0_v6 : Ref sig .tc := ⟨.hbm, 30, rfl⟩
abbrev main_call0_call0_v7 : Ref sig .tc := ⟨.hbm, 31, rfl⟩
abbrev main_call0_call0_v8 : Ref sig .tc := ⟨.hbm, 32, rfl⟩
abbrev main_call0_call0_v9 : Ref sig .tc := ⟨.hbm, 33, rfl⟩
abbrev main_call0_call0_v10 : Ref sig .tc := ⟨.hbm, 34, rfl⟩
abbrev main_call0_call0_v11 : Ref sig .tc := ⟨.hbm, 35, rfl⟩
abbrev main_call0_v1 : Ref sig .tc := ⟨.hbm, 36, rfl⟩
abbrev main_v17 : Ref sig .tc := ⟨.hbm, 37, rfl⟩
abbrev main_cst_0 : Ref sig .tc := ⟨.hbm, 38, rfl⟩
abbrev main_call1_v0 : Ref sig .tc := ⟨.hbm, 39, rfl⟩
abbrev main_call1_v1 : Ref sig .tc := ⟨.hbm, 40, rfl⟩
abbrev main_call1_v2 : Ref sig .tc := ⟨.hbm, 41, rfl⟩
abbrev main_v18 : Ref sig .tc := ⟨.hbm, 42, rfl⟩
abbrev main_cst_1 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28_0 : Ref sig .tc := ⟨.hbm, 53, rfl⟩
abbrev main_v28_1 : Ref sig .tc := ⟨.hbm, 54, rfl⟩
abbrev main_v28_2 : Ref sig .tc := ⟨.hbm, 55, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_scratch0 : Ref sig .tc := ⟨.vmem, 16, rfl⟩
abbrev cc0_scratch1 : Ref sig .tc := ⟨.vmem, 17, rfl⟩
abbrev cc0_stg5_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨2, ![4, 16], ![false, false]⟩

def k0_off1 (i : grid0.Coords) : Fin 2 → Nat :=
  let arg0 : BitVec 32 := BitVec.ofNat 32 (i 0).val
  let v29 : Index := Scalar.indexCast arg0
  let arg1 : BitVec 32 := BitVec.ofNat 32 (i 1).val
  let v30 : Index := Scalar.indexCast arg1
  ![v29.toNat, v30.toNat]
@[reducible] def k0_t1_loop (i : grid0.Coords) (v31 : BitVec 32) : Scf.Loop 32 :=
  let arg1 : BitVec 32 := BitVec.ofNat 32 (i 1).val
  let v32 : BitVec 32 := Scalar.subi arg1 v31
  let v33 : BitVec 32 := Scalar.subi arg1 v32
  let c1_i32 : BitVec 32 := 1#32
  let v35 : BitVec 32 := Scalar.divsi v33 c1_i32
  let v36 : BitVec 32 := Scalar.muli v35 c1_i32
  let v37 : BitVec 32 := Scalar.addi v32 v36
  let c1_i32_12 : BitVec 32 := 1#32
  ⟨v32, v37, c1_i32_12⟩

def k0_mult1 (i : grid0.Coords) (v31 : BitVec 32) (k0_t1 : Fin (k0_t1_loop i v31).trips) : BitVec 32 :=
  let arg1 : BitVec 32 := BitVec.ofNat 32 (i 1).val
  let v32 : BitVec 32 := Scalar.subi arg1 v31
  let c1_i32_12 : BitVec 32 := 1#32
  let arg13 : BitVec 32 := Scf.iv v32 c1_i32_12 k0_t1
  let c256_i32_71 : BitVec 32 := 256#32
  let v212 : BitVec 32 := Scalar.muli arg13 c256_i32_71
  v212
def k0_off2 (i : grid0.Coords) (v31 : BitVec 32) (k0_t1 : Fin (k0_t1_loop i v31).trips) : Fin 2 → Nat :=
  let arg1 : BitVec 32 := BitVec.ofNat 32 (i 1).val
  let v32 : BitVec 32 := Scalar.subi arg1 v31
  let c1_i32_12 : BitVec 32 := 1#32
  let arg13 : BitVec 32 := Scf.iv v32 c1_i32_12 k0_t1
  let c256_i32_71 : BitVec 32 := 256#32
  let v212 : BitVec 32 := Scalar.muli arg13 c256_i32_71
  let v213 : BitVec 32 := v212
  let v214 : Index := Scalar.indexCast v213
  let c0_72 : Index := 0#32
  ![v214.toNat, 0]
def k0_off3 (i : grid0.Coords) (v31 : BitVec 32) (k0_t1 : Fin (k0_t1_loop i v31).trips) : Fin 2 → Nat :=
  let arg1 : BitVec 32 := BitVec.ofNat 32 (i 1).val
  let v32 : BitVec 32 := Scalar.subi arg1 v31
  let c1_i32_12 : BitVec 32 := 1#32
  let arg13 : BitVec 32 := Scf.iv v32 c1_i32_12 k0_t1
  let c256_i32_71 : BitVec 32 := 256#32
  let v212 : BitVec 32 := Scalar.muli arg13 c256_i32_71
  let v213 : BitVec 32 := v212
  let v295 : Index := Scalar.indexCast v213
  let c128_97 : Index := 128#32
  ![v295.toNat, 128]
@[reducible] def k0_t2_loop (i : grid0.Coords) (v31 : BitVec 32) : Scf.Loop 32 :=
  let arg1 : BitVec 32 := BitVec.ofNat 32 (i 1).val
  let v32 : BitVec 32 := Scalar.subi arg1 v31
  let v33 : BitVec 32 := Scalar.subi arg1 v32
  let c1_i32 : BitVec 32 := 1#32
  let v35 : BitVec 32 := Scalar.divsi v33 c1_i32
  let v36 : BitVec 32 := Scalar.muli v35 c1_i32
  let v37 : BitVec 32 := Scalar.addi v32 v36
  let v34 : BitVec 32 := Scalar.addi v32 v33
  let c1_i32_13 : BitVec 32 := 1#32
  ⟨v37, v34, c1_i32_13⟩
def k0_mult2 (i : grid0.Coords) (v31 : BitVec 32) (k0_t2 : Fin (k0_t2_loop i v31).trips) : BitVec 32 :=
  let arg1 : BitVec 32 := BitVec.ofNat 32 (i 1).val
  let v32 : BitVec 32 := Scalar.subi arg1 v31
  let v33 : BitVec 32 := Scalar.subi arg1 v32
  let c1_i32 : BitVec 32 := 1#32
  let v35 : BitVec 32 := Scalar.divsi v33 c1_i32
  let v36 : BitVec 32 := Scalar.muli v35 c1_i32
  let v37 : BitVec 32 := Scalar.addi v32 v36
  let c1_i32_13 : BitVec 32 := 1#32
  let arg13 : BitVec 32 := Scf.iv v37 c1_i32_13 k0_t2
  let c256_i32_71 : BitVec 32 := 256#32
  let v212 : BitVec 32 := Scalar.muli arg13 c256_i32_71
  v212
def k0_off4 (i : grid0.Coords) (v31 : BitVec 32) (k0_t2 : Fin (k0_t2_loop i v31).trips) : Fin 2 → Nat :=
  let arg1 : BitVec 32 := BitVec.ofNat 32 (i 1).val
  let v32 : BitVec 32 := Scalar.subi arg1 v31
  let v33 : BitVec 32 := Scalar.subi arg1 v32
  let c1_i32 : BitVec 32 := 1#32
  let v35 : BitVec 32 := Scalar.divsi v33 c1_i32
  let v36 : BitVec 32 := Scalar.muli v35 c1_i32
  let v37 : BitVec 32 := Scalar.addi v32 v36
  let c1_i32_13 : BitVec 32 := 1#32
  let arg13 : BitVec 32 := Scf.iv v37 c1_i32_13 k0_t2
  let c256_i32_71 : BitVec 32 := 256#32
  let v212 : BitVec 32 := Scalar.muli arg13 c256_i32_71
  let v213 : BitVec 32 := v212
  let v214 : Index := Scalar.indexCast v213
  let c0_72 : Index := 0#32
  ![v214.toNat, 0]
def k0_off5 (i : grid0.Coords) (v31 : BitVec 32) (k0_t2 : Fin (k0_t2_loop i v31).trips) : Fin 2 → Nat :=
  let arg1 : BitVec 32 := BitVec.ofNat 32 (i 1).val
  let v32 : BitVec 32 := Scalar.subi arg1 v31
  let v33 : BitVec 32 := Scalar.subi arg1 v32
  let c1_i32 : BitVec 32 := 1#32
  let v35 : BitVec 32 := Scalar.divsi v33 c1_i32
  let v36 : BitVec 32 := Scalar.muli v35 c1_i32
  let v37 : BitVec 32 := Scalar.addi v32 v36
  let c1_i32_13 : BitVec 32 := 1#32
  let arg13 : BitVec 32 := Scf.iv v37 c1_i32_13 k0_t2
  let c256_i32_71 : BitVec 32 := 256#32
  let v212 : BitVec 32 := Scalar.muli arg13 c256_i32_71
  let v213 : BitVec 32 := v212
  let v295 : Index := Scalar.indexCast v213
  let c128_97 : Index := 128#32
  ![v295.toNat, 128]

def k0_chk1 (i : grid0.Coords) (v31 : BitVec 32) : Prop :=
  ((k0_t1_loop i v31).OK) ∧
  (∀ k0_t1 : Fin (k0_t1_loop i v31).trips, 256 ∣ (k0_mult1 i v31 k0_t1).toNat) ∧
  (∀ k0_t1 : Fin (k0_t1_loop i v31).trips, ∀ a, (k0_off2 i v31 k0_t1) a + S256x128.size a ≤ S4096x256.size a) ∧
  (∀ k0_t1 : Fin (k0_t1_loop i v31).trips, ∀ a, (k0_off3 i v31 k0_t1) a + S256x128.size a ≤ S4096x256.size a) ∧
  ((k0_t2_loop i v31).OK) ∧
  (∀ k0_t2 : Fin (k0_t2_loop i v31).trips, 256 ∣ (k0_mult2 i v31 k0_t2).toNat) ∧
  (∀ k0_t2 : Fin (k0_t2_loop i v31).trips, ∀ a, (k0_off4 i v31 k0_t2) a + S256x128.size a ≤ S4096x256.size a) ∧
  (∀ k0_t2 : Fin (k0_t2_loop i v31).trips, ∀ a, (k0_off5 i v31 k0_t2) a + S256x128.size a ≤ S4096x256.size a)
theorem k0_t1_ok : ∀ (i : grid0.Coords) (v31 : BitVec 32) (k0_hw1 : k0_chk1 i v31), (k0_t1_loop i v31).OK := fun i v31 k0_hw1 => k0_hw1.1
theorem k0_mult1_dvd : ∀ (i : grid0.Coords) (v31 : BitVec 32) (k0_hw1 : k0_chk1 i v31) (k0_t1 : Fin (k0_t1_loop i v31).trips), 256 ∣ (k0_mult1 i v31 k0_t1).toNat := fun i v31 k0_hw1 k0_t1 => k0_hw1.2.1 k0_t1
theorem k0_off2_inb : ∀ (i : grid0.Coords) (v31 : BitVec 32) (k0_hw1 : k0_chk1 i v31) (k0_t1 : Fin (k0_t1_loop i v31).trips), ∀ a, (k0_off2 i v31 k0_t1) a + S256x128.size a ≤ S4096x256.size a := fun i v31 k0_hw1 k0_t1 => k0_hw1.2.2.1 k0_t1
theorem k0_off3_inb : ∀ (i : grid0.Coords) (v31 : BitVec 32) (k0_hw1 : k0_chk1 i v31) (k0_t1 : Fin (k0_t1_loop i v31).trips), ∀ a, (k0_off3 i v31 k0_t1) a + S256x128.size a ≤ S4096x256.size a := fun i v31 k0_hw1 k0_t1 => k0_hw1.2.2.2.1 k0_t1
theorem k0_t2_ok : ∀ (i : grid0.Coords) (v31 : BitVec 32) (k0_hw1 : k0_chk1 i v31), (k0_t2_loop i v31).OK := fun i v31 k0_hw1 => k0_hw1.2.2.2.2.1
theorem k0_mult2_dvd : ∀ (i : grid0.Coords) (v31 : BitVec 32) (k0_hw1 : k0_chk1 i v31) (k0_t2 : Fin (k0_t2_loop i v31).trips), 256 ∣ (k0_mult2 i v31 k0_t2).toNat := fun i v31 k0_hw1 k0_t2 => k0_hw1.2.2.2.2.2.1 k0_t2
theorem k0_off4_inb : ∀ (i : grid0.Coords) (v31 : BitVec 32) (k0_hw1 : k0_chk1 i v31) (k0_t2 : Fin (k0_t2_loop i v31).trips), ∀ a, (k0_off4 i v31 k0_t2) a + S256x128.size a ≤ S4096x256.size a := fun i v31 k0_hw1 k0_t2 => k0_hw1.2.2.2.2.2.2.1 k0_t2
theorem k0_off5_inb : ∀ (i : grid0.Coords) (v31 : BitVec 32) (k0_hw1 : k0_chk1 i v31) (k0_t2 : Fin (k0_t2_loop i v31).trips), ∀ a, (k0_off5 i v31 k0_t2) a + S256x128.size a ≤ S4096x256.size a := fun i v31 k0_hw1 k0_t2 => k0_hw1.2.2.2.2.2.2.2 k0_t2

def k0_mult3 (i : grid0.Coords) : BitVec 32 :=
  let arg1 : BitVec 32 := BitVec.ofNat 32 (i 1).val
  let c256_i32 : BitVec 32 := 256#32
  let v41 : BitVec 32 := Scalar.muli arg1 c256_i32
  v41
def k0_off6 (i : grid0.Coords) : Fin 2 → Nat :=
  let arg1 : BitVec 32 := BitVec.ofNat 32 (i 1).val
  let c256_i32 : BitVec 32 := 256#32
  let v41 : BitVec 32 := Scalar.muli arg1 c256_i32
  let v42 : BitVec 32 := v41
  let v43 : Index := Scalar.indexCast v42
  let c0_14 : Index := 0#32
  ![v43.toNat, 0]
def k0_off7 (i : grid0.Coords) : Fin 2 → Nat :=
  let arg1 : BitVec 32 := BitVec.ofNat 32 (i 1).val
  let c256_i32 : BitVec 32 := 256#32
  let v41 : BitVec 32 := Scalar.muli arg1 c256_i32
  let v42 : BitVec 32 := v41
  let v124 : Index := Scalar.indexCast v42
  let c128_40 : Index := 128#32
  ![v124.toNat, 128]
def k0_cond2 (i : grid0.Coords) : BitVec 1 :=
  let arg1 : BitVec 32 := BitVec.ofNat 32 (i 1).val
  let c15_i32 : BitVec 32 := 15#32
  let v209 : BitVec 1 := Scalar.cmpi .eq arg1 c15_i32
  let v210 : BitVec 32 := Scalar.extui v209
  let c0_i32_70 : BitVec 32 := 0#32
  let v211 : BitVec 1 := Scalar.cmpi .ne v210 c0_i32_70
  v211

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4096x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .smem S4x16 .i32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S256x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S4096x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S4096x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== ReferenceIdeal.lean ====
abbrev S4096x1024 : Shape := ⟨2, ![4096, 1024]⟩
abbrev S4096x8x128 : Shape := ⟨3, ![4096, 8, 128]⟩
abbrev S8x4096x128 : Shape := ⟨3, ![8, 4096, 128]⟩
abbrev S8x4096x4096 : Shape := ⟨3, ![8, 4096, 4096]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S8x128x4096 : Shape := ⟨3, ![8, 128, 4096]⟩

abbrev nBuf : Space → Nat
  | .hbm => 183
  | .vmem => 0
  | .smem => 0
  | _ => 0

abbrev hbmTy0_0 (i : Nat) : BufTy := match i % 128 with
  | 0 => ⟨S4096x1024, .bf16⟩
  | 1 => ⟨S4096x1024, .bf16⟩
  | 2 => ⟨S4096x1024, .bf16⟩
  | 3 => ⟨S4096x1024, .f32⟩
  | 4 => ⟨S4096x1024, .f32⟩
  | 5 => ⟨S4096x8x128, .f32⟩
  | 6 => ⟨S8x4096x128, .f32⟩
  | 7 => ⟨S4096x1024, .f32⟩
  | 8 => ⟨S4096x8x128, .f32⟩
  | 9 => ⟨S8x4096x128, .f32⟩
  | 10 => ⟨S4096x1024, .f32⟩
  | 11 => ⟨S4096x8x128, .f32⟩
  | 12 => ⟨S8x4096x128, .f32⟩
  | 13 => ⟨S8x4096x4096, .f32⟩
  | 14 => ⟨S_, .f32⟩
  | 15 => ⟨S8x4096x4096, .f32⟩
  | 16 => ⟨S8x4096x4096, .f32⟩
  | 17 => ⟨S4096, .i32⟩
  | 18 => ⟨S1x4096, .i32⟩
  | 19 => ⟨S4096, .i32⟩
  | 20 => ⟨S4096x1, .i32⟩
  | 21 => ⟨S4096x4096, .i32⟩
  | 22 => ⟨S4096x4096, .i32⟩
  | 23 => ⟨S4096x4096, .i1⟩
  | 24 => ⟨S8x4096x4096, .f32⟩
  | 25 => ⟨S_, .f32⟩
  | 26 => ⟨S8x4096x4096, .f32⟩
  | 27 => ⟨S8x4096x4096, .f32⟩
  | 28 => ⟨S8x4096x4096, .f32⟩
  | 29 => ⟨S8x4096x4096, .f32⟩
  | 30 => ⟨S8x4096x4096, .i1⟩
  | 31 => ⟨S8x4096x4096, .f32⟩
  | 32 => ⟨S8x4096x4096, .f32⟩
  | 33 => ⟨S8x4096x4096, .f32⟩
  | 34 => ⟨S8x4096x4096, .f32⟩
  | 35 => ⟨S8x4096x4096, .f32⟩
  | 36 => ⟨S8x4096x4096, .f32⟩
  | 37 => ⟨S8x4096x4096, .f32⟩
  | 38 => ⟨S8x4096x4096, .f32⟩
  | 39 => ⟨S_, .f32⟩
  | 40 => ⟨S8x4096x4096, .f32⟩
  | 41 => ⟨S8x4096x4096, .i1⟩
  | 42 => ⟨S_, .f32⟩
  | 43 => ⟨S8x4096x4096, .f32⟩
  | 44 => ⟨S8x4096x4096, .f32⟩
  | 45 => ⟨S_, .f32⟩
  | 46 => ⟨S8x4096x4096, .f32⟩
  | 47 => ⟨S8x4096x4096, .i1⟩
  | 48 => ⟨S_, .f32⟩
  | 49 => ⟨S8x4096x4096, .f32⟩
  | 50 => ⟨S8x4096x4096, .f32⟩
  | 51 => ⟨S8x4096x4096, .f32⟩
  | 52 => ⟨S8x4096x4096, .f32⟩
  | 53 => ⟨S_, .f32⟩
  | 54 => ⟨S_, .f32⟩
  | 55 => ⟨S_, .i1⟩
  | 56 => ⟨S_, .f32⟩
  | 57 => ⟨S_, .f32⟩
  | 58 => ⟨S_, .f32⟩
  | 59 => ⟨S_, .f32⟩
  | 60 => ⟨S8x4096x4096, .f32⟩
  | 61 => ⟨S8x4096x4096, .i1⟩
  | 62 => ⟨S_, .f32⟩
  | 63 => ⟨S8x4096x4096, .f32⟩
  | 64 => ⟨S8x4096x4096, .f32⟩
  | 65 => ⟨S8x4096x4096, .f32⟩
  | 66 => ⟨S8x4096x4096, .f32⟩
  | 67 => ⟨S8x4096x4096, .f32⟩
  | 68 => ⟨S_, .f32⟩
  | 69 => ⟨S8x4096x4096, .f32⟩
  | 70 => ⟨S8x4096x4096, .f32⟩
  | 71 => ⟨S8x4096x4096, .f32⟩
  | 72 => ⟨S8x4096x4096, .f32⟩
  | 73 => ⟨S8x4096x4096, .f32⟩
  | 74 => ⟨S_, .f32⟩
  | 75 => ⟨S8x4096x4096, .f32⟩
  | 76 => ⟨S8x4096x4096, .f32⟩
  | 77 => ⟨S8x4096x4096, .f32⟩
  | 78 => ⟨S8x4096x4096, .f32⟩
  | 79 => ⟨S8x4096x4096, .i1⟩
  | 80 => ⟨S8x4096x4096, .f32⟩
  | 81 => ⟨S8x4096x4096, .f32⟩
  | 82 => ⟨S8x4096x4096, .f32⟩
  | 83 => ⟨S8x4096x4096, .f32⟩
  | 84 => ⟨S8x4096x4096, .f32⟩
  | 85 => ⟨S8x4096x4096, .f32⟩
  | 86 => ⟨S8x4096x4096, .f32⟩
  | 87 => ⟨S8x4096x4096, .f32⟩
  | 88 => ⟨S_, .f32⟩
  | 89 => ⟨S8x4096x4096, .f32⟩
  | 90 => ⟨S8x4096x4096, .i1⟩
  | 91 => ⟨S_, .f32⟩
  | 92 => ⟨S8x4096x4096, .f32⟩
  | 93 => ⟨S8x4096x4096, .f32⟩
  | 94 => ⟨S_, .f32⟩
  | 95 => ⟨S8x4096x4096, .f32⟩
  | 96 => ⟨S8x4096x4096, .i1⟩
  | 97 => ⟨S_, .f32⟩
  | 98 => ⟨S8x4096x4096, .f32⟩
  | 99 => ⟨S8x4096x4096, .f32⟩
  | 100 => ⟨S8x4096x4096, .f32⟩
  | 101 => ⟨S8x4096x4096, .f32⟩
  | 102 => ⟨S_, .f32⟩
  | 103 => ⟨S_, .f32⟩
  | 104 => ⟨S_, .i1⟩
  | 105 => ⟨S_, .f32⟩
  | 106 => ⟨S_, .f32⟩
  | 107 => ⟨S_, .f32⟩
  | 108 => ⟨S_, .f32⟩
  | 109 => ⟨S8x4096x4096, .f32⟩
  | 110 => ⟨S8x4096x4096, .i1⟩
  | 111 => ⟨S_, .f32⟩
  | 112 => ⟨S8x4096x4096, .f32⟩
  | 113 => ⟨S8x4096x4096, .f32⟩
  | 114 => ⟨S8x4096x4096, .f32⟩
  | 115 => ⟨S8x4096x4096, .f32⟩
  | 116 => ⟨S8x4096x4096, .f32⟩
  | 117 => ⟨S_, .f32⟩
  | 118 => ⟨S8x4096x4096, .f32⟩
  | 119 => ⟨S8x4096x4096, .f32⟩
  | 120 => ⟨S8x4096x4096, .f32⟩
  | 121 => ⟨S_, .f32⟩
  | 122 => ⟨S_, .f32⟩
  | 123 => ⟨S8x4096x4096, .i1⟩
  | 124 => ⟨S8x4096x4096, .f32⟩
  | 125 => ⟨S8x4096x4096, .f32⟩
  | 126 => ⟨S_, .f32⟩
  | 127 => ⟨S8x4096x4096, .f32⟩
  | _ => ⟨S4096x1024, .bf16⟩

abbrev hbmTy0_1 (i : Nat) : BufTy := match i % 128 with
  | 0 => ⟨S_, .f32⟩
  | 1 => ⟨S_, .f32⟩
  | 2 => ⟨S8x4096x4096, .f32⟩
  | 3 => ⟨S8x4096x4096, .f32⟩
  | 4 => ⟨S8x4096x4096, .f32⟩
  | 5 => ⟨S8x4096x4096, .f32⟩
  | 6 => ⟨S_, .f32⟩
  | 7 => ⟨S_, .f32⟩
  | 8 => ⟨S8x4096x4096, .i1⟩
  | 9 => ⟨S8x4096x4096, .f32⟩
  | 10 => ⟨S8x4096x4096, .f32⟩
  | 11 => ⟨S_, .f32⟩
  | 12 => ⟨S8x4096x4096, .f32⟩
  | 13 => ⟨S8x4096x128, .f32⟩
  | 14 => ⟨S4096x8x128, .f32⟩
  | 15 => ⟨S4096x1024, .f32⟩
  | 16 => ⟨S4096x8x128, .f32⟩
  | 17 => ⟨S8x4096x128, .f32⟩
  | 18 => ⟨S8x128x4096, .f32⟩
  | 19 => ⟨S8x4096x128, .f32⟩
  | 20 => ⟨S8x4096x4096, .f32⟩
  | 21 => ⟨S_, .f32⟩
  | 22 => ⟨S8x4096x4096, .f32⟩
  | 23 => ⟨S8x4096x4096, .f32⟩
  | 24 => ⟨S8x4096x4096, .f32⟩
  | 25 => ⟨S8x4096x4096, .f32⟩
  | 26 => ⟨S_, .f32⟩
  | 27 => ⟨S_, .f32⟩
  | 28 => ⟨S8x4096x4096, .f32⟩
  | 29 => ⟨S8x4096x4096, .f32⟩
  | 30 => ⟨S_, .f32⟩
  | 31 => ⟨S8x4096x4096, .f32⟩
  | 32 => ⟨S8x4096x4096, .f32⟩
  | 33 => ⟨S8x4096x4096, .f32⟩
  | 34 => ⟨S8x4096x4096, .f32⟩
  | 35 => ⟨S8x4096x4096, .f32⟩
  | 36 => ⟨S8x4096x4096, .f32⟩
  | 37 => ⟨S8x4096x4096, .f32⟩
  | 38 => ⟨S8x4096x4096, .f32⟩
  | 39 => ⟨S8x4096x4096, .f32⟩
  | 40 => ⟨S8x4096x4096, .f32⟩
  | 41 => ⟨S_, .f32⟩
  | 42 => ⟨S8x4096x4096, .f32⟩
  | 43 => ⟨S8x4096x4096, .f32⟩
  | 44 => ⟨S8x4096x128, .f32⟩
  | 45 => ⟨S8x4096x128, .f32⟩
  | 46 => ⟨S4096x8x128, .f32⟩
  | 47 => ⟨S4096x1024, .f32⟩
  | 48 => ⟨S4096x1024, .bf16⟩
  | 49 => ⟨S4096x8x128, .f32⟩
  | 50 => ⟨S4096x1024, .f32⟩
  | 51 => ⟨S4096x1024, .bf16⟩
  | 52 => ⟨S4096x8x128, .f32⟩
  | 53 => ⟨S4096x1024, .f32⟩
  | 54 => ⟨S4096x1024, .bf16⟩
  | _ => ⟨S4096x1024, .bf16⟩

abbrev hbmTy (i : Nat) : BufTy := match i / 128 with
  | 0 => hbmTy0_0 i
  | 1 => hbmTy0_1 i
  | _ => ⟨S4096x1024, .bf16⟩

abbrev bufTy : (tb : Table) → Fin (tcTables nBuf tb) → BufTy
  | .hbm, ⟨i, _⟩ => hbmTy i
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_call0_v0 : Ref sig .tc := ⟨.hbm, 24, rfl⟩
abbrev main_call0_call0_cst : Ref sig .tc := ⟨.hbm, 25, rfl⟩
abbrev main_call0_call0_v0 : Ref sig .tc := ⟨.hbm, 26, rfl⟩
abbrev main_call0_call0_v1 : Ref sig .tc := ⟨.hbm, 27, rfl⟩
abbrev main_call0_call0_v2 : Ref sig .tc := ⟨.hbm, 28, rfl⟩
abbrev main_call0_call0_v3 : Ref sig .tc := ⟨.hbm, 29, rfl⟩
abbrev main_call0_call0_v4 : Ref sig .tc := ⟨.hbm, 30, rfl⟩
abbrev main_call0_call0_v5 : Ref sig .tc := ⟨.hbm, 31, rfl⟩
abbrev main_call0_call0_v6 : Ref sig .tc := ⟨.hbm, 32, rfl⟩
abbrev main_call0_call0_v7 : Ref sig .tc := ⟨.hbm, 33, rfl⟩
abbrev main_call0_call0_v8 : Ref sig .tc := ⟨.hbm, 34, rfl⟩
abbrev main_call0_call0_v9 : Ref sig .tc := ⟨.hbm, 35, rfl⟩
abbrev main_call0_call0_v10 : Ref sig .tc := ⟨.hbm, 36, rfl⟩
abbrev main_call0_call0_v11 : Ref sig .tc := ⟨.hbm, 37, rfl⟩
abbrev main_call0_v1_0 : Ref sig .tc := ⟨.hbm, 38, rfl⟩
abbrev main_call0_call0_cst_0 : Ref sig .tc := ⟨.hbm, 39, rfl⟩
abbrev main_call0_call0_v13 : Ref sig .tc := ⟨.hbm, 40, rfl⟩
abbrev main_call0_call0_v14 : Ref sig .tc := ⟨.hbm, 41, rfl⟩
abbrev main_call0_call0_cst_1 : Ref sig .tc := ⟨.hbm, 42, rfl⟩
abbrev main_call0_call0_v15 : Ref sig .tc := ⟨.hbm, 43, rfl⟩
abbrev main_call0_call0_v16 : Ref sig .tc := ⟨.hbm, 44, rfl⟩
abbrev main_call0_call0_cst_2 : Ref sig .tc := ⟨.hbm, 45, rfl⟩
abbrev main_call0_call0_v17 : Ref sig .tc := ⟨.hbm, 46, rfl⟩
abbrev main_call0_call0_v18 : Ref sig .tc := ⟨.hbm, 47, rfl⟩
abbrev main_call0_call0_cst_3 : Ref sig .tc := ⟨.hbm, 48, rfl⟩
abbrev main_call0_call0_v19 : Ref sig .tc := ⟨.hbm, 49, rfl⟩
abbrev main_call0_call0_v20 : Ref sig .tc := ⟨.hbm, 50, rfl⟩
abbrev main_call0_call0_v21 : Ref sig .tc := ⟨.hbm, 51, rfl⟩
abbrev main_v19_1 : Ref sig .tc := ⟨.hbm, 52, rfl⟩
abbrev main_call0_call0_cst_4 : Ref sig .tc := ⟨.hbm, 53, rfl⟩
abbrev main_call0_call0_cst_5 : Ref sig .tc := ⟨.hbm, 54, rfl⟩
abbrev main_call0_call0_v23 : Ref sig .tc := ⟨.hbm, 55, rfl⟩
abbrev main_call0_call0_cst_6 : Ref sig .tc := ⟨.hbm, 56, rfl⟩
abbrev main_call0_call0_cst_7 : Ref sig .tc := ⟨.hbm, 57, rfl⟩
abbrev main_call0_call0_v24 : Ref sig .tc := ⟨.hbm, 58, rfl⟩
abbrev main_call0_call0_cst_8 : Ref sig .tc := ⟨.hbm, 59, rfl⟩
abbrev main_call0_call0_v25 : Ref sig .tc := ⟨.hbm, 60, rfl⟩
abbrev main_call0_call0_v26 : Ref sig .tc := ⟨.hbm, 61, rfl⟩
abbrev main_call0_call0_cst_9 : Ref sig .tc := ⟨.hbm, 62, rfl⟩
abbrev main_call0_call0_v27 : Ref sig .tc := ⟨.hbm, 63, rfl⟩
abbrev main_call0_call0_v28 : Ref sig .tc := ⟨.hbm, 64, rfl⟩
abbrev main_call0_call0_v29 : Ref sig .tc := ⟨.hbm, 65, rfl⟩
abbrev main_call0_call0_v30 : Ref sig .tc := ⟨.hbm, 66, rfl⟩
abbrev main_call0_call0_v31 : Ref sig .tc := ⟨.hbm, 67, rfl⟩
abbrev main_call0_call0_cst_10 : Ref sig .tc := ⟨.hbm, 68, rfl⟩
abbrev main_call0_call0_v32 : Ref sig .tc := ⟨.hbm, 69, rfl⟩
abbrev main_v19_2 : Ref sig .tc := ⟨.hbm, 70, rfl⟩
abbrev main_v19_0 : Ref sig .tc := ⟨.hbm, 71, rfl⟩
abbrev main_v20 : Ref sig .tc := ⟨.hbm, 72, rfl⟩
abbrev main_call1_v0 : Ref sig .tc := ⟨.hbm, 73, rfl⟩
abbrev main_call1_call0_cst : Ref sig .tc := ⟨.hbm, 74, rfl⟩
abbrev main_call1_call0_v0 : Ref sig .tc := ⟨.hbm, 75, rfl⟩
abbrev main_call1_call0_v1 : Ref sig .tc := ⟨.hbm, 76, rfl⟩
abbrev main_call1_call0_v2 : Ref sig .tc := ⟨.hbm, 77, rfl⟩
abbrev main_call1_call0_v3 : Ref sig .tc := ⟨.hbm, 78, rfl⟩
abbrev main_call1_call0_v4 : Ref sig .tc := ⟨.hbm, 79, rfl⟩
abbrev main_call1_call0_v5 : Ref sig .tc := ⟨.hbm, 80, rfl⟩
abbrev main_call1_call0_v6 : Ref sig .tc := ⟨.hbm, 81, rfl⟩
abbrev main_call1_call0_v7 : Ref sig .tc := ⟨.hbm, 82, rfl⟩
abbrev main_call1_call0_v8 : Ref sig .tc := ⟨.hbm, 83, rfl⟩
abbrev main_call1_call0_v9 : Ref sig .tc := ⟨.hbm, 84, rfl⟩
abbrev main_call1_call0_v10 : Ref sig .tc := ⟨.hbm, 85, rfl⟩
abbrev main_call1_call0_v11 : Ref sig .tc := ⟨.hbm, 86, rfl⟩
abbrev main_call1_v1_0 : Ref sig .tc := ⟨.hbm, 87, rfl⟩
abbrev main_call1_call0_cst_0 : Ref sig .tc := ⟨.hbm, 88, rfl⟩
abbrev main_call1_call0_v13 : Ref sig .tc := ⟨.hbm, 89, rfl⟩
abbrev main_call1_call0_v14 : Ref sig .tc := ⟨.hbm, 90, rfl⟩
abbrev main_call1_call0_cst_1 : Ref sig .tc := ⟨.hbm, 91, rfl⟩
abbrev main_call1_call0_v15 : Ref sig .tc := ⟨.hbm, 92, rfl⟩
abbrev main_call1_call0_v16 : Ref sig .tc := ⟨.hbm, 93, rfl⟩
abbrev main_call1_call0_cst_2 : Ref sig .tc := ⟨.hbm, 94, rfl⟩
abbrev main_call1_call0_v17 : Ref sig .tc := ⟨.hbm, 95, rfl⟩
abbrev main_call1_call0_v18 : Ref sig .tc := ⟨.hbm, 96, rfl⟩
abbrev main_call1_call0_cst_3 : Ref sig .tc := ⟨.hbm, 97, rfl⟩
abbrev main_call1_call0_v19 : Ref sig .tc := ⟨.hbm, 98, rfl⟩
abbrev main_call1_call0_v20 : Ref sig .tc := ⟨.hbm, 99, rfl⟩
abbrev main_call1_call0_v21 : Ref sig .tc := ⟨.hbm, 100, rfl⟩
abbrev main_v21_1 : Ref sig .tc := ⟨.hbm, 101, rfl⟩
abbrev main_call1_call0_cst_4 : Ref sig .tc := ⟨.hbm, 102, rfl⟩
abbrev main_call1_call0_cst_5 : Ref sig .tc := ⟨.hbm, 103, rfl⟩
abbrev main_call1_call0_v23 : Ref sig .tc := ⟨.hbm, 104, rfl⟩
abbrev main_call1_call0_cst_6 : Ref sig .tc := ⟨.hbm, 105, rfl⟩
abbrev main_call1_call0_cst_7 : Ref sig .tc := ⟨.hbm, 106, rfl⟩
abbrev main_call1_call0_v24 : Ref sig .tc := ⟨.hbm, 107, rfl⟩
abbrev main_call1_call0_cst_8 : Ref sig .tc := ⟨.hbm, 108, rfl⟩
abbrev main_call1_call0_v25 : Ref sig .tc := ⟨.hbm, 109, rfl⟩
abbrev main_call1_call0_v26 : Ref sig .tc := ⟨.hbm, 110, rfl⟩
abbrev main_call1_call0_cst_9 : Ref sig .tc := ⟨.hbm, 111, rfl⟩
abbrev main_call1_call0_v27 : Ref sig .tc := ⟨.hbm, 112, rfl⟩
abbrev main_call1_call0_v28 : Ref sig .tc := ⟨.hbm, 113, rfl⟩
abbrev main_call1_call0_v29 : Ref sig .tc := ⟨.hbm, 114, rfl⟩
abbrev main_call1_call0_v30 : Ref sig .tc := ⟨.hbm, 115, rfl⟩
abbrev main_call1_call0_v31 : Ref sig .tc := ⟨.hbm, 116, rfl⟩
abbrev main_call1_call0_cst_10 : Ref sig .tc := ⟨.hbm, 117, rfl⟩
abbrev main_call1_call0_v32 : Ref sig .tc := ⟨.hbm, 118, rfl⟩
abbrev main_v21_2 : Ref sig .tc := ⟨.hbm, 119, rfl⟩
abbrev main_v21_0 : Ref sig .tc := ⟨.hbm, 120, rfl⟩
abbrev main_cst_0 : Ref sig .tc := ⟨.hbm, 121, rfl⟩
abbrev main_call2_v0 : Ref sig .tc := ⟨.hbm, 122, rfl⟩
abbrev main_v22_1 : Ref sig .tc := ⟨.hbm, 123, rfl⟩
abbrev main_call2_v2 : Ref sig .tc := ⟨.hbm, 124, rfl⟩
abbrev main_v22_0 : Ref sig .tc := ⟨.hbm, 125, rfl⟩
abbrev main_call2_cst : Ref sig .tc := ⟨.hbm, 126, rfl⟩
abbrev main_v22_2 : Ref sig .tc := ⟨.hbm, 127, rfl⟩
abbrev main_call3_cst : Ref sig .tc := ⟨.hbm, 128, rfl⟩
abbrev main_call3_v0 : Ref sig .tc := ⟨.hbm, 129, rfl⟩
abbrev main_v23 : Ref sig .tc := ⟨.hbm, 130, rfl⟩
abbrev main_v24 : Ref sig .tc := ⟨.hbm, 131, rfl⟩
abbrev main_v25 : Ref sig .tc := ⟨.hbm, 132, rfl⟩
abbrev main_v26 : Ref sig .tc := ⟨.hbm, 133, rfl⟩
abbrev main_cst_1 : Ref sig .tc := ⟨.hbm, 134, rfl⟩
abbrev main_call4_v0 : Ref sig .tc := ⟨.hbm, 135, rfl⟩
abbrev main_v27_1 : Ref sig .tc := ⟨.hbm, 136, rfl⟩
abbrev main_call4_v2 : Ref sig .tc := ⟨.hbm, 137, rfl⟩
abbrev main_v27_0 : Ref sig .tc := ⟨.hbm, 138, rfl⟩
abbrev main_call4_cst : Ref sig .tc := ⟨.hbm, 139, rfl⟩
abbrev main_v27_2 : Ref sig .tc := ⟨.hbm, 140, rfl⟩
abbrev main_v28 : Ref sig .tc := ⟨.hbm, 141, rfl⟩
abbrev main_v29 : Ref sig .tc := ⟨.hbm, 142, rfl⟩
abbrev main_v30 : Ref sig .tc := ⟨.hbm, 143, rfl⟩
abbrev main_v31 : Ref sig .tc := ⟨.hbm, 144, rfl⟩
abbrev main_v32 : Ref sig .tc := ⟨.hbm, 145, rfl⟩
abbrev main_v33 : Ref sig .tc := ⟨.hbm, 146, rfl⟩
abbrev main_v34 : Ref sig .tc := ⟨.hbm, 147, rfl⟩
abbrev main_v35 : Ref sig .tc := ⟨.hbm, 148, rfl⟩
abbrev main_call5_cst : Ref sig .tc := ⟨.hbm, 149, rfl⟩
abbrev main_call5_v0 : Ref sig .tc := ⟨.hbm, 150, rfl⟩
abbrev main_v36 : Ref sig .tc := ⟨.hbm, 151, rfl⟩
abbrev main_v37 : Ref sig .tc := ⟨.hbm, 152, rfl⟩
abbrev main_v38 : Ref sig .tc := ⟨.hbm, 153, rfl⟩
abbrev main_call6_cst : Ref sig .tc := ⟨.hbm, 154, rfl⟩
abbrev main_call6_v0 : Ref sig .tc := ⟨.hbm, 155, rfl⟩
abbrev main_v39 : Ref sig .tc := ⟨.hbm, 156, rfl⟩
abbrev main_v40 : Ref sig .tc := ⟨.hbm, 157, rfl⟩
abbrev main_call7_cst : Ref sig .tc := ⟨.hbm, 158, rfl⟩
abbrev main_call7_v0 : Ref sig .tc := ⟨.hbm, 159, rfl⟩
abbrev main_v41 : Ref sig .tc := ⟨.hbm, 160, rfl⟩
abbrev main_call8_v0 : Ref sig .tc := ⟨.hbm, 161, rfl⟩
abbrev main_call8_v1 : Ref sig .tc := ⟨.hbm, 162, rfl⟩
abbrev main_v42 : Ref sig .tc := ⟨.hbm, 163, rfl⟩
abbrev main_v43 : Ref sig .tc := ⟨.hbm, 164, rfl⟩
abbrev main_call9_v0 : Ref sig .tc := ⟨.hbm, 165, rfl⟩
abbrev main_call9_v1 : Ref sig .tc := ⟨.hbm, 166, rfl⟩
abbrev main_v44 : Ref sig .tc := ⟨.hbm, 167, rfl⟩
abbrev main_v45 : Ref sig .tc := ⟨.hbm, 168, rfl⟩
abbrev main_cst_2 : Ref sig .tc := ⟨.hbm, 169, rfl⟩
abbrev main_v46 : Ref sig .tc := ⟨.hbm, 170, rfl⟩
abbrev main_v47 : Ref sig .tc := ⟨.hbm, 171, rfl⟩
abbrev main_v48 : Ref sig .tc := ⟨.hbm, 172, rfl⟩
abbrev main_v49 : Ref sig .tc := ⟨.hbm, 173, rfl⟩
abbrev main_v50 : Ref sig .tc := ⟨.hbm, 174, rfl⟩
abbrev main_v51 : Ref sig .tc := ⟨.hbm, 175, rfl⟩
abbrev main_v52 : Ref sig .tc := ⟨.hbm, 176, rfl⟩
abbrev main_v53 : Ref sig .tc := ⟨.hbm, 177, rfl⟩
abbrev main_v54 : Ref sig .tc := ⟨.hbm, 178, rfl⟩
abbrev main_v55 : Ref sig .tc := ⟨.hbm, 179, rfl⟩
abbrev main_v56 : Ref sig .tc := ⟨.hbm, 180, rfl⟩
abbrev main_v57 : Ref sig .tc := ⟨.hbm, 181, rfl⟩
abbrev main_v58 : Ref sig .tc := ⟨.hbm, 182, rfl⟩

abbrev nD : Nat := 1
abbrev τ : Topo := Topo.v7x

variable {F : FTy → Type} [FloatOps F]
-- ==== Dact.lean ====
abbrev S4096x5632 : Shape := ⟨2, ![4096, 5632]⟩
abbrev S5632x2048 : Shape := ⟨2, ![5632, 2048]⟩
abbrev S4096x2048 : Shape := ⟨2, ![4096, 2048]⟩
abbrev S1024x2048 : Shape := ⟨2, ![1024, 2048]⟩
abbrev S512x2048 : Shape := ⟨2, ![512, 2048]⟩
abbrev S1024x512 : Shape := ⟨2, ![1024, 512]⟩

abbrev nBuf : Space → Nat
  | .hbm => 4
  | .vmem => 6
  | .smem => 0
  | _ => 0

abbrev bufTy : (tb : Table) → Fin (tcTables nBuf tb) → BufTy
  | .hbm, ⟨0, _⟩ => ⟨S4096x5632, .bf16⟩
  | .hbm, ⟨1, _⟩ => ⟨S5632x2048, .bf16⟩
  | .hbm, ⟨2, _⟩ => ⟨S4096x2048, .bf16⟩
  | .hbm, ⟨3, _⟩ => ⟨S4096x5632, .f32⟩
  | .local _ .vmem, ⟨0, _⟩ => ⟨S1024x2048, .bf16⟩
  | .local _ .vmem, ⟨1, _⟩ => ⟨S1024x2048, .bf16⟩
  | .local _ .vmem, ⟨2, _⟩ => ⟨S512x2048, .bf16⟩
  | .local _ .vmem, ⟨3, _⟩ => ⟨S512x2048, .bf16⟩
  | .local _ .vmem, ⟨4, _⟩ => ⟨S1024x512, .f32⟩
  | .local _ .vmem, ⟨5, _⟩ => ⟨S1024x512, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 11, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  let v3 : BitVec 32 := Scalar.addi v2 c0_i32_2
  let c0_i32_3 : BitVec 32 := 0#32
  ![arg0.toNat, v3.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  let v3 : BitVec 32 := Scalar.addi v2 c0_i32_2
  let c0_i32_3 : BitVec 32 := 0#32
  ![arg1.toNat, v3.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg0.toNat, v0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DactReferenceIdeal.lean ====
abbrev S4096x5632 : Shape := ⟨2, ![4096, 5632]⟩
abbrev S5632x2048 : Shape := ⟨2, ![5632, 2048]⟩
abbrev S4096x2048 : Shape := ⟨2, ![4096, 2048]⟩
abbrev S2048x5632 : Shape := ⟨2, ![2048, 5632]⟩

abbrev nBuf : Space → Nat
  | .hbm => 10
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S5632x2048, .bf16⟩
  | .hbm, ⟨2, _⟩ => ⟨S4096x2048, .bf16⟩
  | .hbm, ⟨3, _⟩ => ⟨S4096x5632, .f32⟩
  | .hbm, ⟨4, _⟩ => ⟨S5632x2048, .f32⟩
  | .hbm, ⟨5, _⟩ => ⟨S4096x2048, .f32⟩
  | .hbm, ⟨6, _⟩ => ⟨S4096x2048, .f32⟩
  | .hbm, ⟨7, _⟩ => ⟨S2048x5632, .f32⟩
  | .hbm, ⟨8, _⟩ => ⟨S5632x2048, .f32⟩
  | .hbm, ⟨9, _⟩ => ⟨S4096x5632, .f32⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Gdown.lean ====
abbrev S4096x5632 : Shape := ⟨2, ![4096, 5632]⟩
abbrev S5632x2048 : Shape := ⟨2, ![5632, 2048]⟩
abbrev S4096x2048 : Shape := ⟨2, ![4096, 2048]⟩
abbrev S1024x1408 : Shape := ⟨2, ![1024, 1408]⟩
abbrev S1024x1024 : Shape := ⟨2, ![1024, 1024]⟩
abbrev S1408x1024 : Shape := ⟨2, ![1408, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x5632, .bf16⟩
  | .hbm, ⟨1, _⟩ => ⟨S5632x2048, .bf16⟩
  | .hbm, ⟨2, _⟩ => ⟨S4096x2048, .bf16⟩
  | .hbm, ⟨3, _⟩ => ⟨S5632x2048, .f32⟩
  | .local _ .vmem, ⟨0, _⟩ => ⟨S1024x1408, .bf16⟩
  | .local _ .vmem, ⟨1, _⟩ => ⟨S1024x1408, .bf16⟩
  | .local _ .vmem, ⟨2, _⟩ => ⟨S1024x1024, .bf16⟩
  | .local _ .vmem, ⟨3, _⟩ => ⟨S1024x1024, .bf16⟩
  | .local _ .vmem, ⟨4, _⟩ => ⟨S1408x1024, .f32⟩
  | .local _ .vmem, ⟨5, _⟩ => ⟨S1408x1024, .f32⟩
  | .local _ .vmem, ⟨6, _⟩ => ⟨S1408x1024, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 4], ![false, false, false]⟩

def k0_cond3 (i : grid0.Coords) : BitVec 1 :=
  let arg2 : BitVec 32 := BitVec.ofNat 32 (i 2).val
  let c3_i32 : BitVec 32 := 3#32
  let v8 : BitVec 1 := Scalar.cmpi .eq arg2 c3_i32
  let v9 : BitVec 32 := Scalar.extui v8
  let c0_i32_3 : BitVec 32 := 0#32
  let v10 : BitVec 1 := Scalar.cmpi .ne v9 c0_i32_3
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c3_i32 : BitVec 32 := 3#32
  let v1 : BitVec 32 := Scalar.maxsi c0_i32_0 v0
  let v2 : BitVec 32 := Scalar.minsi c3_i32 v1
  let c0_i32_1 : BitVec 32 := 0#32
  let v3 : BitVec 32 := Scalar.addi v2 c0_i32_1
  let c0_i32_2 : BitVec 32 := 0#32
  ![v3.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c3_i32 : BitVec 32 := 3#32
  let v1 : BitVec 32 := Scalar.maxsi c0_i32_0 v0
  let v2 : BitVec 32 := Scalar.minsi c3_i32 v1
  let c0_i32_1 : BitVec 32 := 0#32
  let v3 : BitVec 32 := Scalar.addi v2 c0_i32_1
  let c0_i32_2 : BitVec 32 := 0#32
  let v4 : BitVec 32 := Scalar.addi arg1 c0_i32_2
  let c0_i32_3 : BitVec 32 := 0#32
  ![v3.toNat, v4.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg0.toNat, v0.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GdownReferenceIdeal.lean ====
abbrev S4096x5632 : Shape := ⟨2, ![4096, 5632]⟩
abbrev S5632x2048 : Shape := ⟨2, ![5632, 2048]⟩
abbrev S4096x2048 : Shape := ⟨2, ![4096, 2048]⟩
abbrev S2048x5632 : Shape := ⟨2, ![2048, 5632]⟩

abbrev nBuf : Space → Nat
  | .hbm => 10
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S5632x2048, .bf16⟩
  | .hbm, ⟨2, _⟩ => ⟨S4096x2048, .bf16⟩
  | .hbm, ⟨3, _⟩ => ⟨S4096x5632, .f32⟩
  | .hbm, ⟨4, _⟩ => ⟨S5632x2048, .f32⟩
  | .hbm, ⟨5, _⟩ => ⟨S4096x2048, .f32⟩
  | .hbm, ⟨6, _⟩ => ⟨S4096x2048, .f32⟩
  | .hbm, ⟨7, _⟩ => ⟨S2048x5632, .f32⟩
  | .hbm, ⟨8, _⟩ => ⟨S5632x2048, .f32⟩
  | .hbm, ⟨9, _⟩ => ⟨S4096x5632, .f32⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Ggate.lean ====
abbrev S4096x2048 : Shape := ⟨2, ![4096, 2048]⟩
abbrev S4096x5632 : Shape := ⟨2, ![4096, 5632]⟩
abbrev S4x2048x2816 : Shape := ⟨3, ![4, 2048, 2816]⟩
abbrev S1024x1024 : Shape := ⟨2, ![1024, 1024]⟩
abbrev S1024x1408 : Shape := ⟨2, ![1024, 1408]⟩
abbrev S1x1024x1408 : Shape := ⟨3, ![1, 1024, 1408]⟩

abbrev nBuf : Space → Nat
  | .hbm => 4
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x5632, .bf16⟩
  | .hbm, ⟨2, _⟩ => ⟨S4x2048x2816, .f32⟩
  | .hbm, ⟨3, _⟩ => ⟨S4x2048x2816, .f32⟩
  | .local _ .vmem, ⟨0, _⟩ => ⟨S1024x1024, .bf16⟩
  | .local _ .vmem, ⟨1, _⟩ => ⟨S1024x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1x1024x1408, .f32⟩
  | .local _ .vmem, ⟨5, _⟩ => ⟨S1x1024x1408, .f32⟩
  | .local _ .vmem, ⟨6, _⟩ => ⟨S1024x1408, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 4], ![false, false, false]⟩

def k0_cond3 (i : grid0.Coords) : BitVec 1 :=
  let arg2 : BitVec 32 := BitVec.ofNat 32 (i 2).val
  let c3_i32 : BitVec 32 := 3#32
  let v8 : BitVec 1 := Scalar.cmpi .eq arg2 c3_i32
  let v9 : BitVec 32 := Scalar.extui v8
  let c0_i32_3 : BitVec 32 := 0#32
  let v10 : BitVec 1 := Scalar.cmpi .ne v9 c0_i32_3
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c3_i32 : BitVec 32 := 3#32
  let v1 : BitVec 32 := Scalar.maxsi c0_i32_0 v0
  let v2 : BitVec 32 := Scalar.minsi c3_i32 v1
  let c0_i32_1 : BitVec 32 := 0#32
  let v3 : BitVec 32 := Scalar.addi v2 c0_i32_1
  let c0_i32_2 : BitVec 32 := 0#32
  ![v3.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c3_i32 : BitVec 32 := 3#32
  let v1 : BitVec 32 := Scalar.maxsi c0_i32_0 v0
  let v2 : BitVec 32 := Scalar.minsi c3_i32 v1
  let c0_i32_1 : BitVec 32 := 0#32
  let v3 : BitVec 32 := Scalar.addi v2 c0_i32_1
  let c0_i32_2 : BitVec 32 := 0#32
  let v4 : BitVec 32 := Scalar.addi arg1 c0_i32_2
  let c0_i32_3 : BitVec 32 := 0#32
  ![v3.toNat, v4.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c2_i32 : BitVec 32 := 2#32
  let v1 : BitVec 32 := Scalar.divsi v0 c2_i32
  let c0_i32_0 : BitVec 32 := 0#32
  let v2 : BitVec 1 := Scalar.cmpi .sgt v0 c0_i32_0
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c0_i32_2 : BitVec 32 := 0#32
  let v7 : BitVec 1 := Scalar.cmpi .sgt c2_i32 c0_i32_2
  let v8 : BitVec 32 := Scalar.extui v7
  let c0_i32_3 : BitVec 32 := 0#32
  let v9 : BitVec 1 := Scalar.cmpi .slt c2_i32 c0_i32_3
  let v10 : BitVec 32 := Scalar.extui v9
  let v11 : BitVec 32 := Scalar.subi v8 v10
  let v12 : BitVec 1 := Scalar.cmpi .ne v6 v11
  let v13 : BitVec 32 := Scalar.remsi v0 c2_i32
  let c0_i32_4 : BitVec 32 := 0#32
  let v14 : BitVec 1 := Scalar.cmpi .ne v13 c0_i32_4
  let v15 : BitVec 1 := Scalar.andi v12 v14
  let c1_i32 : BitVec 32 := 1#32
  let v16 : BitVec 32 := Scalar.subi v1 c1_i32
  let v17 : BitVec 32 := Scalar.select v15 v16 v1
  let c0_i32_5 : BitVec 32 := 0#32
  let v18 : BitVec 32 := Scalar.addi arg1 c0_i32_5
  let c2_i32_6 : BitVec 32 := 2#32
  let c0_i32_7 : BitVec 32 := 0#32
  let v19 : BitVec 1 := Scalar.cmpi .eq c2_i32_6 c0_i32_7
  let c1_i32_8 : BitVec 32 := 1#32
  let v20 : BitVec 32 := Scalar.select v19 c1_i32_8 c2_i32_6
  let v21 : BitVec 32 := Scalar.remsi v18 v20
  let c0_i32_9 : BitVec 32 := 0#32
  let v22 : BitVec 1 := Scalar.cmpi .ne v21 c0_i32_9
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let v26 : BitVec 1 := Scalar.andi v25 v22
  let v27 : BitVec 32 := Scalar.addi v21 v20
  let v28 : BitVec 32 := Scalar.select v26 v27 v21
  let c0_i32_12 : BitVec 32 := 0#32
  ![v17.toNat, arg0.toNat, v28.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GgateReferenceIdeal.lean ====
abbrev S4096x2048 : Shape := ⟨2, ![4096, 2048]⟩
abbrev S4096x5632 : Shape := ⟨2, ![4096, 5632]⟩
abbrev S4x2048x2816 : Shape := ⟨3, ![4, 2048, 2816]⟩
abbrev S_ : Shape := ⟨0, ![]⟩
abbrev S2048x5632 : Shape := ⟨2, ![2048, 5632]⟩
abbrev S5632x2048 : Shape := ⟨2, ![5632, 2048]⟩
abbrev S2048x2x2816 : Shape := ⟨3, ![2048, 2, 2816]⟩
abbrev S2x2048x2816 : Shape := ⟨3, ![2, 2048, 2816]⟩

abbrev nBuf : Space → Nat
  | .hbm => 15
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x5632, .bf16⟩
  | .hbm, ⟨2, _⟩ => ⟨S4x2048x2816, .f32⟩
  | .hbm, ⟨3, _⟩ => ⟨S_, .f32⟩
  | .hbm, ⟨4, _⟩ => ⟨S2048x5632, .f32⟩
  | .hbm, ⟨5, _⟩ => ⟨S4096x2048, .f32⟩
  | .hbm, ⟨6, _⟩ => ⟨S4096x5632, .f32⟩
  | .hbm, ⟨7, _⟩ => ⟨S4096x5632, .f32⟩
  | .hbm, ⟨8, _⟩ => ⟨S5632x2048, .f32⟩
  | .hbm, ⟨9, _⟩ => ⟨S2048x5632, .f32⟩
  | .hbm, ⟨10, _⟩ => ⟨S4096x2048, .f32⟩
  | .hbm, ⟨11, _⟩ => ⟨S2048x2x2816, .f32⟩
  | .hbm, ⟨12, _⟩ => ⟨S2x2048x2816, .f32⟩
  | .hbm, ⟨13, _⟩ => ⟨S2x2048x2816, .f32⟩
  | .hbm, ⟨14, _⟩ => ⟨S4x2048x2816, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩

abbrev nD : Nat := 1
abbrev τ : Topo := Topo.v7x

variable {F : FTy → Type} [FloatOps F]
-- ==== Gval.lean ====
abbrev S4096x2048 : Shape := ⟨2, ![4096, 2048]⟩
abbrev S4096x5632 : Shape := ⟨2, ![4096, 5632]⟩
abbrev S4x2048x2816 : Shape := ⟨3, ![4, 2048, 2816]⟩
abbrev S1024x1024 : Shape := ⟨2, ![1024, 1024]⟩
abbrev S1024x1408 : Shape := ⟨2, ![1024, 1408]⟩
abbrev S1x1024x1408 : Shape := ⟨3, ![1, 1024, 1408]⟩

abbrev nBuf : Space → Nat
  | .hbm => 4
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x5632, .bf16⟩
  | .hbm, ⟨2, _⟩ => ⟨S4x2048x2816, .f32⟩
  | .hbm, ⟨3, _⟩ => ⟨S4x2048x2816, .f32⟩
  | .local _ .vmem, ⟨0, _⟩ => ⟨S1024x1024, .bf16⟩
  | .local _ .vmem, ⟨1, _⟩ => ⟨S1024x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1x1024x1408, .f32⟩
  | .local _ .vmem, ⟨5, _⟩ => ⟨S1x1024x1408, .f32⟩
  | .local _ .vmem, ⟨6, _⟩ => ⟨S1024x1408, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 4], ![false, false, false]⟩

def k0_cond3 (i : grid0.Coords) : BitVec 1 :=
  let arg2 : BitVec 32 := BitVec.ofNat 32 (i 2).val
  let c3_i32 : BitVec 32 := 3#32
  let v8 : BitVec 1 := Scalar.cmpi .eq arg2 c3_i32
  let v9 : BitVec 32 := Scalar.extui v8
  let c0_i32_3 : BitVec 32 := 0#32
  let v10 : BitVec 1 := Scalar.cmpi .ne v9 c0_i32_3
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c3_i32 : BitVec 32 := 3#32
  let v1 : BitVec 32 := Scalar.maxsi c0_i32_0 v0
  let v2 : BitVec 32 := Scalar.minsi c3_i32 v1
  let c0_i32_1 : BitVec 32 := 0#32
  let v3 : BitVec 32 := Scalar.addi v2 c0_i32_1
  let c0_i32_2 : BitVec 32 := 0#32
  ![v3.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c3_i32 : BitVec 32 := 3#32
  let v1 : BitVec 32 := Scalar.maxsi c0_i32_0 v0
  let v2 : BitVec 32 := Scalar.minsi c3_i32 v1
  let c0_i32_1 : BitVec 32 := 0#32
  let v3 : BitVec 32 := Scalar.addi v2 c0_i32_1
  let c0_i32_2 : BitVec 32 := 0#32
  let v4 : BitVec 32 := Scalar.addi arg1 c0_i32_2
  let c0_i32_3 : BitVec 32 := 0#32
  ![v3.toNat, v4.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi arg1 c4_i32
  let c2_i32 : BitVec 32 := 2#32
  let v1 : BitVec 32 := Scalar.divsi v0 c2_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi v0 c2_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c4_i32_4 : BitVec 32 := 4#32
  let v18 : BitVec 32 := Scalar.addi arg1 c4_i32_4
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v18 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c0_i32_11 : BitVec 32 := 0#32
  ![v17.toNat, arg0.toNat, v28.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GvalReferenceIdeal.lean ====
abbrev S4096x2048 : Shape := ⟨2, ![4096, 2048]⟩
abbrev S4096x5632 : Shape := ⟨2, ![4096, 5632]⟩
abbrev S4x2048x2816 : Shape := ⟨3, ![4, 2048, 2816]⟩
abbrev S2x2048x2816 : Shape := ⟨3, ![2, 2048, 2816]⟩
abbrev S_ : Shape := ⟨0, ![]⟩
abbrev S2048x5632 : Shape := ⟨2, ![2048, 5632]⟩
abbrev S5632x2048 : Shape := ⟨2, ![5632, 2048]⟩
abbrev S2048x2x2816 : Shape := ⟨3, ![2048, 2, 2816]⟩

abbrev nBuf : Space → Nat
  | .hbm => 15
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x5632, .bf16⟩
  | .hbm, ⟨2, _⟩ => ⟨S4x2048x2816, .f32⟩
  | .hbm, ⟨3, _⟩ => ⟨S2x2048x2816, .f32⟩
  | .hbm, ⟨4, _⟩ => ⟨S_, .f32⟩
  | .hbm, ⟨5, _⟩ => ⟨S2048x5632, .f32⟩
  | .hbm, ⟨6, _⟩ => ⟨S4096x2048, .f32⟩
  | .hbm, ⟨7, _⟩ => ⟨S4096x5632, .f32⟩
  | .hbm, ⟨8, _⟩ => ⟨S4096x5632, .f32⟩
  | .hbm, ⟨9, _⟩ => ⟨S5632x2048, .f32⟩
  | .hbm, ⟨10, _⟩ => ⟨S2048x5632, .f32⟩
  | .hbm, ⟨11, _⟩ => ⟨S4096x2048, .f32⟩
  | .hbm, ⟨12, _⟩ => ⟨S2048x2x2816, .f32⟩
  | .hbm, ⟨13, _⟩ => ⟨S2x2048x2816, .f32⟩
  | .hbm, ⟨14, _⟩ => ⟨S4x2048x2816, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩

abbrev nD : Nat := 1
abbrev τ : Topo := Topo.v7x

variable {F : FTy → Type} [FloatOps F]
-- ==== Dhn.lean ====
abbrev S4x2048x2816 : Shape := ⟨3, ![4, 2048, 2816]⟩
abbrev S4096x5632 : Shape := ⟨2, ![4096, 5632]⟩
abbrev S4096x2048 : Shape := ⟨2, ![4096, 2048]⟩
abbrev S1024x1408 : Shape := ⟨2, ![1024, 1408]⟩
abbrev S1x1024x1408 : Shape := ⟨3, ![1, 1024, 1408]⟩
abbrev S1024x1024 : Shape := ⟨2, ![1024, 1024]⟩

abbrev nBuf : Space → Nat
  | .hbm => 4
  | .vmem => 11
  | .smem => 0
  | _ => 0

abbrev bufTy : (tb : Table) → Fin (tcTables nBuf tb) → BufTy
  | .hbm, ⟨0, _⟩ => ⟨S4x2048x2816, .bf16⟩
  | .hbm, ⟨1, _⟩ => ⟨S4096x5632, .bf16⟩
  | .hbm, ⟨2, _⟩ => ⟨S4096x5632, .bf16⟩
  | .hbm, ⟨3, _⟩ => ⟨S4096x2048, .f32⟩
  | .local _ .vmem, ⟨0, _⟩ => ⟨S1024x1408, .bf16⟩
  | .local _ .vmem, ⟨1, _⟩ => ⟨S1024x1408, .bf16⟩
  | .local _ .vmem, ⟨2, _⟩ => ⟨S1024x1408, .bf16⟩
  | .local _ .vmem, ⟨3, _⟩ => ⟨S1024x1408, .bf16⟩
  | .local _ .vmem, ⟨4, _⟩ => ⟨S1x1024x1408, .bf16⟩
  | .local _ .vmem, ⟨5, _⟩ => ⟨S1x1024x1408, .bf16⟩
  | .local _ .vmem, ⟨6, _⟩ => ⟨S1x1024x1408, .bf16⟩
  | .local _ .vmem, ⟨7, _⟩ => ⟨S1x1024x1408, .bf16⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | _, _ => ⟨S4x2048x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![4, 2, 8], ![false, false, false]⟩

def k0_cond4 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_5 : BitVec 32 := 0#32
  let v15 : BitVec 1 := Scalar.cmpi .ne v14 c0_i32_5
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c3_i32 : BitVec 32 := 3#32
  let v1 : BitVec 32 := Scalar.maxsi c0_i32_0 v0
  let v2 : BitVec 32 := Scalar.minsi c3_i32 v1
  let c0_i32_1 : BitVec 32 := 0#32
  let v3 : BitVec 32 := Scalar.addi v2 c0_i32_1
  let c0_i32_2 : BitVec 32 := 0#32
  ![arg0.toNat, v3.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.subi arg2 c4_i32
  let c0_i32 : BitVec 32 := 0#32
  let c3_i32 : BitVec 32 := 3#32
  let v1 : BitVec 32 := Scalar.maxsi c0_i32 v0
  let v2 : BitVec 32 := Scalar.minsi c3_i32 v1
  let c0_i32_0 : BitVec 32 := 0#32
  let v3 : BitVec 32 := Scalar.addi v2 c0_i32_0
  let c0_i32_1 : BitVec 32 := 0#32
  ![arg0.toNat, v3.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c3_i32 : BitVec 32 := 3#32
  let v1 : BitVec 32 := Scalar.maxsi c0_i32_0 v0
  let v2 : BitVec 32 := Scalar.minsi c3_i32 v1
  let c0_i32_1 : BitVec 32 := 0#32
  let v3 : BitVec 32 := Scalar.addi v2 c0_i32_1
  let c2_i32 : BitVec 32 := 2#32
  let v4 : BitVec 32 := Scalar.divsi v3 c2_i32
  let c0_i32_2 : BitVec 32 := 0#32
  let v5 : BitVec 1 := Scalar.cmpi .sgt v3 c0_i32_2
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c0_i32_4 : BitVec 32 := 0#32
  let v10 : BitVec 1 := Scalar.cmpi .sgt c2_i32 c0_i32_4
  let v11 : BitVec 32 := Scalar.extui v10
  let c0_i32_5 : BitVec 32 := 0#32
  let v12 : BitVec 1 := Scalar.cmpi .slt c2_i32 c0_i32_5
  let v13 : BitVec 32 := Scalar.extui v12
  let v14 : BitVec 32 := Scalar.subi v11 v13
  let v15 : BitVec 1 := Scalar.cmpi .ne v9 v14
  let v16 : BitVec 32 := Scalar.remsi v3 c2_i32
  let c0_i32_6 : BitVec 32 := 0#32
  let v17 : BitVec 1 := Scalar.cmpi .ne v16 c0_i32_6
  let v18 : BitVec 1 := Scalar.andi v15 v17
  let c1_i32 : BitVec 32 := 1#32
  let v19 : BitVec 32 := Scalar.subi v4 c1_i32
  let v20 : BitVec 32 := Scalar.select v18 v19 v4
  let c0_i32_7 : BitVec 32 := 0#32
  let v21 : BitVec 32 := Scalar.subi arg2 c0_i32_7
  let c0_i32_8 : BitVec 32 := 0#32
  let c3_i32_9 : BitVec 32 := 3#32
  let v22 : BitVec 32 := Scalar.maxsi c0_i32_8 v21
  let v23 : BitVec 32 := Scalar.minsi c3_i32_9 v22
  let c0_i32_10 : BitVec 32 := 0#32
  let v24 : BitVec 32 := Scalar.addi v23 c0_i32_10
  let c2_i32_11 : BitVec 32 := 2#32
  let c0_i32_12 : BitVec 32 := 0#32
  let v25 : BitVec 1 := Scalar.cmpi .eq c2_i32_11 c0_i32_12
  let c1_i32_13 : BitVec 32 := 1#32
  let v26 : BitVec 32 := Scalar.select v25 c1_i32_13 c2_i32_11
  let v27 : BitVec 32 := Scalar.remsi v24 v26
  let c0_i32_14 : BitVec 32 := 0#32
  let v28 : BitVec 1 := Scalar.cmpi .ne v27 c0_i32_14
  let c0_i32_15 : BitVec 32 := 0#32
  let v29 : BitVec 1 := Scalar.cmpi .slt v27 c0_i32_15
  let c0_i32_16 : BitVec 32 := 0#32
  let v30 : BitVec 1 := Scalar.cmpi .slt v26 c0_i32_16
  let v31 : BitVec 1 := Scalar.xori v29 v30
  let v32 : BitVec 1 := Scalar.andi v31 v28
  let v33 : BitVec 32 := Scalar.addi v27 v26
  let v34 : BitVec 32 := Scalar.select v32 v33 v27
  let c0_i32_17 : BitVec 32 := 0#32
  ![v20.toNat, arg1.toNat, v34.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.subi arg2 c4_i32
  let c0_i32 : BitVec 32 := 0#32
  let c3_i32 : BitVec 32 := 3#32
  let v1 : BitVec 32 := Scalar.maxsi c0_i32 v0
  let v2 : BitVec 32 := Scalar.minsi c3_i32 v1
  let c4_i32_0 : BitVec 32 := 4#32
  let v3 : BitVec 32 := Scalar.addi v2 c4_i32_0
  let c2_i32 : BitVec 32 := 2#32
  let v4 : BitVec 32 := Scalar.divsi v3 c2_i32
  let c0_i32_1 : BitVec 32 := 0#32
  let v5 : BitVec 1 := Scalar.cmpi .sgt v3 c0_i32_1
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c0_i32_3 : BitVec 32 := 0#32
  let v10 : BitVec 1 := Scalar.cmpi .sgt c2_i32 c0_i32_3
  let v11 : BitVec 32 := Scalar.extui v10
  let c0_i32_4 : BitVec 32 := 0#32
  let v12 : BitVec 1 := Scalar.cmpi .slt c2_i32 c0_i32_4
  let v13 : BitVec 32 := Scalar.extui v12
  let v14 : BitVec 32 := Scalar.subi v11 v13
  let v15 : BitVec 1 := Scalar.cmpi .ne v9 v14
  let v16 : BitVec 32 := Scalar.remsi v3 c2_i32
  let c0_i32_5 : BitVec 32 := 0#32
  let v17 : BitVec 1 := Scalar.cmpi .ne v16 c0_i32_5
  let v18 : BitVec 1 := Scalar.andi v15 v17
  let c1_i32 : BitVec 32 := 1#32
  let v19 : BitVec 32 := Scalar.subi v4 c1_i32
  let v20 : BitVec 32 := Scalar.select v18 v19 v4
  let c4_i32_6 : BitVec 32 := 4#32
  let v21 : BitVec 32 := Scalar.subi arg2 c4_i32_6
  let c0_i32_7 : BitVec 32 := 0#32
  let c3_i32_8 : BitVec 32 := 3#32
  let v22 : BitVec 32 := Scalar.maxsi c0_i32_7 v21
  let v23 : BitVec 32 := Scalar.minsi c3_i32_8 v22
  let c4_i32_9 : BitVec 32 := 4#32
  let v24 : BitVec 32 := Scalar.addi v23 c4_i32_9
  let c2_i32_10 : BitVec 32 := 2#32
  let c0_i32_11 : BitVec 32 := 0#32
  let v25 : BitVec 1 := Scalar.cmpi .eq c2_i32_10 c0_i32_11
  let c1_i32_12 : BitVec 32 := 1#32
  let v26 : BitVec 32 := Scalar.select v25 c1_i32_12 c2_i32_10
  let v27 : BitVec 32 := Scalar.remsi v24 v26
  let c0_i32_13 : BitVec 32 := 0#32
  let v28 : BitVec 1 := Scalar.cmpi .ne v27 c0_i32_13
  let c0_i32_14 : BitVec 32 := 0#32
  let v29 : BitVec 1 := Scalar.cmpi .slt v27 c0_i32_14
  let c0_i32_15 : BitVec 32 := 0#32
  let v30 : BitVec 1 := Scalar.cmpi .slt v26 c0_i32_15
  let v31 : BitVec 1 := Scalar.xori v29 v30
  let v32 : BitVec 1 := Scalar.andi v31 v28
  let v33 : BitVec 32 := Scalar.addi v27 v26
  let v34 : BitVec 32 := Scalar.select v32 v33 v27
  let c0_i32_16 : BitVec 32 := 0#32
  ![v20.toNat, arg1.toNat, v34.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg0.toNat, v0.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1x1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== DhnReferenceIdeal.lean ====
abbrev S4x2048x2816 : Shape := ⟨3, ![4, 2048, 2816]⟩
abbrev S4096x5632 : Shape := ⟨2, ![4096, 5632]⟩
abbrev S2048x4x2816 : Shape := ⟨3, ![2048, 4, 2816]⟩
abbrev S2048x11264 : Shape := ⟨2, ![2048, 11264]⟩
abbrev S4096x11264 : Shape := ⟨2, ![4096, 11264]⟩
abbrev S_ : Shape := ⟨0, ![]⟩
abbrev S4096x2048 : Shape := ⟨2, ![4096, 2048]⟩
abbrev S11264x2048 : Shape := ⟨2, ![11264, 2048]⟩

abbrev nBuf : Space → Nat
  | .hbm => 14
  | .vmem => 0
  | .smem => 0
  | _ => 0

abbrev bufTy : (tb : Table) → Fin (tcTables nBuf tb) → BufTy
  | .hbm, ⟨0, _⟩ => ⟨S4x2048x2816, .bf16⟩
  | .hbm, ⟨1, _⟩ => ⟨S4096x5632, .bf16⟩
  | .hbm, ⟨2, _⟩ => ⟨S4096x5632, .bf16⟩
  | .hbm, ⟨3, _⟩ => ⟨S2048x4x2816, .bf16⟩
  | .hbm, ⟨4, _⟩ => ⟨S2048x11264, .bf16⟩
  | .hbm, ⟨5, _⟩ => ⟨S4096x11264, .bf16⟩
  | .hbm, ⟨6, _⟩ => ⟨S_, .f32⟩
  | .hbm, ⟨7, _⟩ => ⟨S4096x2048, .f32⟩
  | .hbm, ⟨8, _⟩ => ⟨S2048x11264, .f32⟩
  | .hbm, ⟨9, _⟩ => ⟨S4096x11264, .f32⟩
  | .hbm, ⟨10, _⟩ => ⟨S4096x11264, .f32⟩
  | .hbm, ⟨11, _⟩ => ⟨S11264x2048, .f32⟩
  | .hbm, ⟨12, _⟩ => ⟨S2048x11264, .f32⟩
  | .hbm, ⟨13, _⟩ => ⟨S4096x2048, .f32⟩
  | _, _ => ⟨S4x2048x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== Dmix.lean ====
abbrev S2048x2048 : Shape := ⟨2, ![2048, 2048]⟩
abbrev S4096x2048 : Shape := ⟨2, ![4096, 2048]⟩
abbrev S1024x2048 : Shape := ⟨2, ![1024, 2048]⟩
abbrev S512x2048 : Shape := ⟨2, ![512, 2048]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S4096x2048, .bf16⟩
  | .hbm, ⟨2, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S512x2048, .bf16⟩
  | .local _ .vmem, ⟨3, _⟩ => ⟨S512x2048, .bf16⟩
  | .local _ .vmem, ⟨4, _⟩ => ⟨S1024x512, .f32⟩
  | .local _ .vmem, ⟨5, _⟩ => ⟨S1024x512, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  let v3 : BitVec 32 := Scalar.addi v2 c0_i32_2
  let c0_i32_3 : BitVec 32 := 0#32
  ![arg0.toNat, v3.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  let v3 : BitVec 32 := Scalar.addi v2 c0_i32_2
  let c0_i32_3 : BitVec 32 := 0#32
  ![arg1.toNat, v3.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg0.toNat, v0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DmixReferenceIdeal.lean ====
abbrev S2048x2048 : Shape := ⟨2, ![2048, 2048]⟩
abbrev S4096x2048 : Shape := ⟨2, ![4096, 2048]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S4096x2048, .bf16⟩
  | .hbm, ⟨2, _⟩ => ⟨S_, .f32⟩
  | .hbm, ⟨3, _⟩ => ⟨S4096x2048, .f32⟩
  | .hbm, ⟨4, _⟩ => ⟨S2048x2048, .f32⟩
  | .hbm, ⟨5, _⟩ => ⟨S4096x2048, .f32⟩
  | .hbm, ⟨6, _⟩ => ⟨S4096x2048, .f32⟩
  | .hbm, ⟨7, _⟩ => ⟨S2048x2048, .f32⟩
  | .hbm, ⟨8, _⟩ => ⟨S2048x2048, .f32⟩
  | .hbm, ⟨9, _⟩ => ⟨S4096x2048, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Gout.lean ====
abbrev S4096x1024 : Shape := ⟨2, ![4096, 1024]⟩
abbrev S4096x2048 : Shape := ⟨2, ![4096, 2048]⟩
abbrev S1024x2048 : Shape := ⟨2, ![1024, 2048]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x2048, .bf16⟩
  | .hbm, ⟨2, _⟩ => ⟨S1024x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 4], ![false, false, false]⟩

def k0_cond3 (i : grid0.Coords) : BitVec 1 :=
  let arg2 : BitVec 32 := BitVec.ofNat 32 (i 2).val
  let c3_i32 : BitVec 32 := 3#32
  let v8 : BitVec 1 := Scalar.cmpi .eq arg2 c3_i32
  let v9 : BitVec 32 := Scalar.extui v8
  let c0_i32_3 : BitVec 32 := 0#32
  let v10 : BitVec 1 := Scalar.cmpi .ne v9 c0_i32_3
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c3_i32 : BitVec 32 := 3#32
  let v1 : BitVec 32 := Scalar.maxsi c0_i32_0 v0
  let v2 : BitVec 32 := Scalar.minsi c3_i32 v1
  let c0_i32_1 : BitVec 32 := 0#32
  let v3 : BitVec 32 := Scalar.addi v2 c0_i32_1
  let c0_i32_2 : BitVec 32 := 0#32
  ![v3.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c3_i32 : BitVec 32 := 3#32
  let v1 : BitVec 32 := Scalar.maxsi c0_i32_0 v0
  let v2 : BitVec 32 := Scalar.minsi c3_i32 v1
  let c0_i32_1 : BitVec 32 := 0#32
  let v3 : BitVec 32 := Scalar.addi v2 c0_i32_1
  let c0_i32_2 : BitVec 32 := 0#32
  let v4 : BitVec 32 := Scalar.addi arg1 c0_i32_2
  let c0_i32_3 : BitVec 32 := 0#32
  ![v3.toNat, v4.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg0.toNat, v0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GoutReferenceIdeal.lean ====
abbrev S4096x1024 : Shape := ⟨2, ![4096, 1024]⟩
abbrev S4096x2048 : Shape := ⟨2, ![4096, 2048]⟩
abbrev S_ : Shape := ⟨0, ![]⟩
abbrev S1024x2048 : Shape := ⟨2, ![1024, 2048]⟩
abbrev S2048x1024 : Shape := ⟨2, ![2048, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x2048, .bf16⟩
  | .hbm, ⟨2, _⟩ => ⟨S_, .f32⟩
  | .hbm, ⟨3, _⟩ => ⟨S1024x2048, .f32⟩
  | .hbm, ⟨4, _⟩ => ⟨S4096x1024, .f32⟩
  | .hbm, ⟨5, _⟩ => ⟨S4096x2048, .f32⟩
  | .hbm, ⟨6, _⟩ => ⟨S4096x2048, .f32⟩
  | .hbm, ⟨7, _⟩ => ⟨S2048x1024, .f32⟩
  | .hbm, ⟨8, _⟩ => ⟨S1024x2048, .f32⟩
  | .hbm, ⟨9, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Gin.lean ====
abbrev S4096x2048 : Shape := ⟨2, ![4096, 2048]⟩
abbrev S4096x1024 : Shape := ⟨2, ![4096, 1024]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x1024, .bf16⟩
  | .hbm, ⟨2, _⟩ => ⟨S2048x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond3 (i : grid0.Coords) : BitVec 1 :=
  let arg2 : BitVec 32 := BitVec.ofNat 32 (i 2).val
  let c3_i32 : BitVec 32 := 3#32
  let v8 : BitVec 1 := Scalar.cmpi .eq arg2 c3_i32
  let v9 : BitVec 32 := Scalar.extui v8
  let c0_i32_3 : BitVec 32 := 0#32
  let v10 : BitVec 1 := Scalar.cmpi .ne v9 c0_i32_3
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c3_i32 : BitVec 32 := 3#32
  let v1 : BitVec 32 := Scalar.maxsi c0_i32_0 v0
  let v2 : BitVec 32 := Scalar.minsi c3_i32 v1
  let c0_i32_1 : BitVec 32 := 0#32
  let v3 : BitVec 32 := Scalar.addi v2 c0_i32_1
  let c0_i32_2 : BitVec 32 := 0#32
  ![v3.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c3_i32 : BitVec 32 := 3#32
  let v1 : BitVec 32 := Scalar.maxsi c0_i32_0 v0
  let v2 : BitVec 32 := Scalar.minsi c3_i32 v1
  let c0_i32_1 : BitVec 32 := 0#32
  let v3 : BitVec 32 := Scalar.addi v2 c0_i32_1
  let c0_i32_2 : BitVec 32 := 0#32
  let v4 : BitVec 32 := Scalar.addi arg1 c0_i32_2
  let c0_i32_3 : BitVec 32 := 0#32
  ![v3.toNat, v4.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg0.toNat, v0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GinReferenceIdeal.lean ====
abbrev S4096x2048 : Shape := ⟨2, ![4096, 2048]⟩
abbrev S4096x1024 : Shape := ⟨2, ![4096, 1024]⟩
abbrev S_ : Shape := ⟨0, ![]⟩
abbrev S2048x1024 : Shape := ⟨2, ![2048, 1024]⟩
abbrev S1024x2048 : Shape := ⟨2, ![1024, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x1024, .bf16⟩
  | .hbm, ⟨2, _⟩ => ⟨S_, .f32⟩
  | .hbm, ⟨3, _⟩ => ⟨S2048x1024, .f32⟩
  | .hbm, ⟨4, _⟩ => ⟨S4096x2048, .f32⟩
  | .hbm, ⟨5, _⟩ => ⟨S4096x1024, .f32⟩
  | .hbm, ⟨6, _⟩ => ⟨S4096x1024, .f32⟩
  | .hbm, ⟨7, _⟩ => ⟨S1024x2048, .f32⟩
  | .hbm, ⟨8, _⟩ => ⟨S2048x1024, .f32⟩
  | .hbm, ⟨9, _⟩ => ⟨S4096x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Gconv.lean ====
abbrev S4096x2048 : Shape := ⟨2, ![4096, 2048]⟩
abbrev S4096x3072 : Shape := ⟨2, ![4096, 3072]⟩
abbrev S2048x3072 : Shape := ⟨2, ![2048, 3072]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x3072, .bf16⟩
  | .hbm, ⟨2, _⟩ => ⟨S2048x3072, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 3, 4], ![false, false, false]⟩

def k0_cond3 (i : grid0.Coords) : BitVec 1 :=
  let arg2 : BitVec 32 := BitVec.ofNat 32 (i 2).val
  let c3_i32 : BitVec 32 := 3#32
  let v8 : BitVec 1 := Scalar.cmpi .eq arg2 c3_i32
  let v9 : BitVec 32 := Scalar.extui v8
  let c0_i32_3 : BitVec 32 := 0#32
  let v10 : BitVec 1 := Scalar.cmpi .ne v9 c0_i32_3
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c3_i32 : BitVec 32 := 3#32
  let v1 : BitVec 32 := Scalar.maxsi c0_i32_0 v0
  let v2 : BitVec 32 := Scalar.minsi c3_i32 v1
  let c0_i32_1 : BitVec 32 := 0#32
  let v3 : BitVec 32 := Scalar.addi v2 c0_i32_1
  let c0_i32_2 : BitVec 32 := 0#32
  ![v3.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c3_i32 : BitVec 32 := 3#32
  let v1 : BitVec 32 := Scalar.maxsi c0_i32_0 v0
  let v2 : BitVec 32 := Scalar.minsi c3_i32 v1
  let c0_i32_1 : BitVec 32 := 0#32
  let v3 : BitVec 32 := Scalar.addi v2 c0_i32_1
  let c0_i32_2 : BitVec 32 := 0#32
  let v4 : BitVec 32 := Scalar.addi arg1 c0_i32_2
  let c0_i32_3 : BitVec 32 := 0#32
  ![v3.toNat, v4.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg0.toNat, v0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GconvReferenceIdeal.lean ====
abbrev S4096x2048 : Shape := ⟨2, ![4096, 2048]⟩
abbrev S4096x3072 : Shape := ⟨2, ![4096, 3072]⟩
abbrev S_ : Shape := ⟨0, ![]⟩
abbrev S2048x3072 : Shape := ⟨2, ![2048, 3072]⟩
abbrev S3072x2048 : Shape := ⟨2, ![3072, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x3072, .bf16⟩
  | .hbm, ⟨2, _⟩ => ⟨S_, .f32⟩
  | .hbm, ⟨3, _⟩ => ⟨S2048x3072, .f32⟩
  | .hbm, ⟨4, _⟩ => ⟨S4096x2048, .f32⟩
  | .hbm, ⟨5, _⟩ => ⟨S4096x3072, .f32⟩
  | .hbm, ⟨6, _⟩ => ⟨S4096x3072, .f32⟩
  | .hbm, ⟨7, _⟩ => ⟨S3072x2048, .f32⟩
  | .hbm, ⟨8, _⟩ => ⟨S2048x3072, .f32⟩
  | .hbm, ⟨9, _⟩ => ⟨S4096x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Fup.lean ====
abbrev S4096x2048 : Shape := ⟨2, ![4096, 2048]⟩
abbrev S4x2048x2816 : Shape := ⟨3, ![4, 2048, 2816]⟩
abbrev S4096x11264 : Shape := ⟨2, ![4096, 11264]⟩
abbrev S1024x2048 : Shape := ⟨2, ![1024, 2048]⟩
abbrev S1x2048x1408 : Shape := ⟨3, ![1, 2048, 1408]⟩
abbrev S1024x1408 : Shape := ⟨2, ![1024, 1408]⟩
abbrev S2048x1408 : Shape := ⟨2, ![2048, 1408]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S4x2048x2816, .bf16⟩
  | .hbm, ⟨2, _⟩ => ⟨S4096x11264, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x1408, .bf16⟩
  | .local _ .vmem, ⟨3, _⟩ => ⟨S1x2048x1408, .bf16⟩
  | .local _ .vmem, ⟨4, _⟩ => ⟨S1024x1408, .f32⟩
  | .local _ .vmem, ⟨5, _⟩ => ⟨S1024x1408, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  let v3 : BitVec 32 := Scalar.addi v2 c0_i32_2
  let c0_i32_3 : BitVec 32 := 0#32
  ![arg0.toNat, v3.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c2_i32 : BitVec 32 := 2#32
  let v1 : BitVec 32 := Scalar.divsi v0 c2_i32
  let c0_i32_0 : BitVec 32 := 0#32
  let v2 : BitVec 1 := Scalar.cmpi .sgt v0 c0_i32_0
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c0_i32_2 : BitVec 32 := 0#32
  let v7 : BitVec 1 := Scalar.cmpi .sgt c2_i32 c0_i32_2
  let v8 : BitVec 32 := Scalar.extui v7
  let c0_i32_3 : BitVec 32 := 0#32
  let v9 : BitVec 1 := Scalar.cmpi .slt c2_i32 c0_i32_3
  let v10 : BitVec 32 := Scalar.extui v9
  let v11 : BitVec 32 := Scalar.subi v8 v10
  let v12 : BitVec 1 := Scalar.cmpi .ne v6 v11
  let v13 : BitVec 32 := Scalar.remsi v0 c2_i32
  let c0_i32_4 : BitVec 32 := 0#32
  let v14 : BitVec 1 := Scalar.cmpi .ne v13 c0_i32_4
  let v15 : BitVec 1 := Scalar.andi v12 v14
  let c1_i32 : BitVec 32 := 1#32
  let v16 : BitVec 32 := Scalar.subi v1 c1_i32
  let v17 : BitVec 32 := Scalar.select v15 v16 v1
  let c0_i32_5 : BitVec 32 := 0#32
  let v18 : BitVec 32 := Scalar.subi arg2 c0_i32_5
  let c0_i32_6 : BitVec 32 := 0#32
  let c0_i32_7 : BitVec 32 := 0#32
  let v19 : BitVec 32 := Scalar.maxsi c0_i32_6 v18
  let v20 : BitVec 32 := Scalar.minsi c0_i32_7 v19
  let c0_i32_8 : BitVec 32 := 0#32
  let v21 : BitVec 32 := Scalar.addi v20 c0_i32_8
  let c0_i32_9 : BitVec 32 := 0#32
  let v22 : BitVec 32 := Scalar.addi arg1 c0_i32_9
  let c2_i32_10 : BitVec 32 := 2#32
  let c0_i32_11 : BitVec 32 := 0#32
  let v23 : BitVec 1 := Scalar.cmpi .eq c2_i32_10 c0_i32_11
  let c1_i32_12 : BitVec 32 := 1#32
  let v24 : BitVec 32 := Scalar.select v23 c1_i32_12 c2_i32_10
  let v25 : BitVec 32 := Scalar.remsi v22 v24
  let c0_i32_13 : BitVec 32 := 0#32
  let v26 : BitVec 1 := Scalar.cmpi .ne v25 c0_i32_13
  let c0_i32_14 : BitVec 32 := 0#32
  let v27 : BitVec 1 := Scalar.cmpi .slt v25 c0_i32_14
  let c0_i32_15 : BitVec 32 := 0#32
  let v28 : BitVec 1 := Scalar.cmpi .slt v24 c0_i32_15
  let v29 : BitVec 1 := Scalar.xori v27 v28
  let v30 : BitVec 1 := Scalar.andi v29 v26
  let v31 : BitVec 32 := Scalar.addi v25 v24
  let v32 : BitVec 32 := Scalar.select v30 v31 v25
  let c0_i32_16 : BitVec 32 := 0#32
  ![v17.toNat, v21.toNat, v32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg0.toNat, v0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FupReferenceIdeal.lean ====
abbrev S4096x2048 : Shape := ⟨2, ![4096, 2048]⟩
abbrev S4x2048x2816 : Shape := ⟨3, ![4, 2048, 2816]⟩
abbrev S2048x4x2816 : Shape := ⟨3, ![2048, 4, 2816]⟩
abbrev S2048x11264 : Shape := ⟨2, ![2048, 11264]⟩
abbrev S4096x11264 : Shape := ⟨2, ![4096, 11264]⟩

abbrev nBuf : Space → Nat
  | .hbm => 5
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4x2048x2816, .bf16⟩
  | .hbm, ⟨2, _⟩ => ⟨S2048x4x2816, .bf16⟩
  | .hbm, ⟨3, _⟩ => ⟨S2048x11264, .bf16⟩
  | .hbm, ⟨4, _⟩ => ⟨S4096x11264, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Fdown.lean ====
abbrev S4096x5632 : Shape := ⟨2, ![4096, 5632]⟩
abbrev S5632x2048 : Shape := ⟨2, ![5632, 2048]⟩
abbrev S4096x2048 : Shape := ⟨2, ![4096, 2048]⟩
abbrev S1024x1408 : Shape := ⟨2, ![1024, 1408]⟩
abbrev S1408x512 : Shape := ⟨2, ![1408, 512]⟩
abbrev S1024x512 : Shape := ⟨2, ![1024, 512]⟩

abbrev nBuf : Space → Nat
  | .hbm => 3
  | .vmem => 7
  | .smem => 0
  | _ => 0

abbrev bufTy : (tb : Table) → Fin (tcTables nBuf tb) → BufTy
  | .hbm, ⟨0, _⟩ => ⟨S4096x5632, .bf16⟩
  | .hbm, ⟨1, _⟩ => ⟨S5632x2048, .bf16⟩
  | .hbm, ⟨2, _⟩ => ⟨S4096x2048, .f32⟩
  | .local _ .vmem, ⟨0, _⟩ => ⟨S1024x1408, .bf16⟩
  | .local _ .vmem, ⟨1, _⟩ => ⟨S1024x1408, .bf16⟩
  | .local _ .vmem, ⟨2, _⟩ => ⟨S1408x512, .bf16⟩
  | .local _ .vmem, ⟨3, _⟩ => ⟨S1408x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 4], ![false, false, false]⟩

def k0_cond3 (i : grid0.Coords) : BitVec 1 :=
  let arg2 : BitVec 32 := BitVec.ofNat 32 (i 2).val
  let c3_i32 : BitVec 32 := 3#32
  let v8 : BitVec 1 := Scalar.cmpi .eq arg2 c3_i32
  let v9 : BitVec 32 := Scalar.extui v8
  let c0_i32_3 : BitVec 32 := 0#32
  let v10 : BitVec 1 := Scalar.cmpi .ne v9 c0_i32_3
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c3_i32 : BitVec 32 := 3#32
  let v1 : BitVec 32 := Scalar.maxsi c0_i32_0 v0
  let v2 : BitVec 32 := Scalar.minsi c3_i32 v1
  let c0_i32_1 : BitVec 32 := 0#32
  let v3 : BitVec 32 := Scalar.addi v2 c0_i32_1
  let c0_i32_2 : BitVec 32 := 0#32
  ![arg0.toNat, v3.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c3_i32 : BitVec 32 := 3#32
  let v1 : BitVec 32 := Scalar.maxsi c0_i32_0 v0
  let v2 : BitVec 32 := Scalar.minsi c3_i32 v1
  let c0_i32_1 : BitVec 32 := 0#32
  let v3 : BitVec 32 := Scalar.addi v2 c0_i32_1
  let c0_i32_2 : BitVec 32 := 0#32
  let v4 : BitVec 32 := Scalar.addi arg1 c0_i32_2
  let c0_i32_3 : BitVec 32 := 0#32
  ![v3.toNat, v4.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg0.toNat, v0.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FdownReferenceIdeal.lean ====
abbrev S4096x5632 : Shape := ⟨2, ![4096, 5632]⟩
abbrev S5632x2048 : Shape := ⟨2, ![5632, 2048]⟩
abbrev S4096x2048 : Shape := ⟨2, ![4096, 2048]⟩

abbrev nBuf : Space → Nat
  | .hbm => 3
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S5632x2048, .bf16⟩
  | .hbm, ⟨2, _⟩ => ⟨S4096x2048, .f32⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Oproj.lean ====
abbrev S4096x1024 : Shape := ⟨2, ![4096, 1024]⟩
abbrev S2048x2048 : Shape := ⟨2, ![2048, 2048]⟩
abbrev S4096x2048 : Shape := ⟨2, ![4096, 2048]⟩
abbrev S1024x1024 : Shape := ⟨2, ![1024, 1024]⟩

abbrev nBuf : Space → Nat
  | .hbm => 4
  | .vmem => 11
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S2048x2048, .bf16⟩
  | .hbm, ⟨3, _⟩ => ⟨S4096x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![4, 2, 2], ![false, false, false]⟩

def k0_cond4 (i : grid0.Coords) : BitVec 1 :=
  let arg2 : BitVec 32 := BitVec.ofNat 32 (i 2).val
  let c1_i32_5 : BitVec 32 := 1#32
  let v13 : BitVec 1 := Scalar.cmpi .eq arg2 c1_i32_5
  let v14 : BitVec 32 := Scalar.extui v13
  let c0_i32_6 : BitVec 32 := 0#32
  let v15 : BitVec 1 := Scalar.cmpi .ne v14 c0_i32_6
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  let v3 : BitVec 32 := Scalar.addi v2 c0_i32_2
  let c0_i32_3 : BitVec 32 := 0#32
  ![arg0.toNat, v3.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.subi arg2 c1_i32
  let c0_i32 : BitVec 32 := 0#32
  let c0_i32_0 : BitVec 32 := 0#32
  let v1 : BitVec 32 := Scalar.maxsi c0_i32 v0
  let v2 : BitVec 32 := Scalar.minsi c0_i32_0 v1
  let c0_i32_1 : BitVec 32 := 0#32
  let v3 : BitVec 32 := Scalar.addi v2 c0_i32_1
  let c0_i32_2 : BitVec 32 := 0#32
  ![arg0.toNat, v3.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  let v3 : BitVec 32 := Scalar.addi v2 c0_i32_2
  let c0_i32_3 : BitVec 32 := 0#32
  let v4 : BitVec 32 := Scalar.addi arg1 c0_i32_3
  let c0_i32_4 : BitVec 32 := 0#32
  ![v3.toNat, v4.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.subi arg2 c1_i32
  let c0_i32 : BitVec 32 := 0#32
  let c0_i32_0 : BitVec 32 := 0#32
  let v1 : BitVec 32 := Scalar.maxsi c0_i32 v0
  let v2 : BitVec 32 := Scalar.minsi c0_i32_0 v1
  let c1_i32_1 : BitVec 32 := 1#32
  let v3 : BitVec 32 := Scalar.addi v2 c1_i32_1
  let c0_i32_2 : BitVec 32 := 0#32
  let v4 : BitVec 32 := Scalar.addi arg1 c0_i32_2
  let c0_i32_3 : BitVec 32 := 0#32
  ![v3.toNat, v4.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg0.toNat, v0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== OprojReferenceIdeal.lean ====
abbrev S4096x1024 : Shape := ⟨2, ![4096, 1024]⟩
abbrev S2048x2048 : Shape := ⟨2, ![2048, 2048]⟩
abbrev S4096x2048 : Shape := ⟨2, ![4096, 2048]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S2048x2048, .bf16⟩
  | .hbm, ⟨3, _⟩ => ⟨S4096x2048, .bf16⟩
  | .hbm, ⟨4, _⟩ => ⟨S4096x2048, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Psb.lean ====
abbrev S4096x2048 : Shape := ⟨2, ![4096, 2048]⟩
abbrev S2048x7184 : Shape := ⟨2, ![2048, 7184]⟩
abbrev S_ : Shape := ⟨0, ![]⟩
abbrev S2048x7296 : Shape := ⟨2, ![2048, 7296]⟩
abbrev S4096x3072 : Shape := ⟨2, ![4096, 3072]⟩
abbrev S1024x2048 : Shape := ⟨2, ![1024, 2048]⟩
abbrev S2048x512 : Shape := ⟨2, ![2048, 512]⟩
abbrev S1024x512 : Shape := ⟨2, ![1024, 512]⟩

abbrev nBuf : Space → Nat
  | .hbm => 6
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x7184, .bf16⟩
  | .hbm, ⟨2, _⟩ => ⟨S_, .i32⟩
  | .hbm, ⟨3, _⟩ => ⟨S_, .bf16⟩
  | .hbm, ⟨4, _⟩ => ⟨S2048x7296, .bf16⟩
  | .hbm, ⟨5, _⟩ => ⟨S4096x3072, .bf16⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S2048x512, .bf16⟩
  | .local _ .vmem, ⟨4, _⟩ => ⟨S1024x512, .bf16⟩
  | .local _ .vmem, ⟨5, _⟩ => ⟨S1024x512, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 6, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  let v3 : BitVec 32 := Scalar.addi v2 c0_i32_2
  let c0_i32_3 : BitVec 32 := 0#32
  ![arg0.toNat, v3.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  let v3 : BitVec 32 := Scalar.addi v2 c0_i32_2
  let c0_i32_3 : BitVec 32 := 0#32
  let v4 : BitVec 32 := Scalar.addi arg1 c0_i32_3
  let c0_i32_4 : BitVec 32 := 0#32
  ![v3.toNat, v4.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg0.toNat, v0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== PsbReferenceIdeal.lean ====
abbrev S4096x2048 : Shape := ⟨2, ![4096, 2048]⟩
abbrev S2048x7184 : Shape := ⟨2, ![2048, 7184]⟩
abbrev S4096x7184 : Shape := ⟨2, ![4096, 7184]⟩
abbrev S4096x3072 : Shape := ⟨2, ![4096, 3072]⟩

abbrev nBuf : Space → Nat
  | .hbm => 5
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x7184, .bf16⟩
  | .hbm, ⟨2, _⟩ => ⟨S4096x7184, .f32⟩
  | .hbm, ⟨3, _⟩ => ⟨S4096x3072, .f32⟩
  | .hbm, ⟨4, _⟩ => ⟨S4096x3072, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Pdn.lean ====
abbrev S4096x2048 : Shape := ⟨2, ![4096, 2048]⟩
abbrev S2048x7184 : Shape := ⟨2, ![2048, 7184]⟩
abbrev S_ : Shape := ⟨0, ![]⟩
abbrev S2048x7296 : Shape := ⟨2, ![2048, 7296]⟩
abbrev S4096x4096 : Shape := ⟨2, ![4096, 4096]⟩
abbrev S1024x2048 : Shape := ⟨2, ![1024, 2048]⟩
abbrev S2048x512 : Shape := ⟨2, ![2048, 512]⟩
abbrev S1024x512 : Shape := ⟨2, ![1024, 512]⟩

abbrev nBuf : Space → Nat
  | .hbm => 6
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x7184, .bf16⟩
  | .hbm, ⟨2, _⟩ => ⟨S_, .i32⟩
  | .hbm, ⟨3, _⟩ => ⟨S_, .bf16⟩
  | .hbm, ⟨4, _⟩ => ⟨S2048x7296, .bf16⟩
  | .hbm, ⟨5, _⟩ => ⟨S4096x4096, .f32⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S2048x512, .bf16⟩
  | .local _ .vmem, ⟨4, _⟩ => ⟨S1024x512, .f32⟩
  | .local _ .vmem, ⟨5, _⟩ => ⟨S1024x512, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  let v3 : BitVec 32 := Scalar.addi v2 c0_i32_2
  let c0_i32_3 : BitVec 32 := 0#32
  ![arg0.toNat, v3.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  let v3 : BitVec 32 := Scalar.addi v2 c0_i32_2
  let c6_i32 : BitVec 32 := 6#32
  let v4 : BitVec 32 := Scalar.addi arg1 c6_i32
  let c0_i32_3 : BitVec 32 := 0#32
  ![v3.toNat, v4.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg0.toNat, v0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== PdnReferenceIdeal.lean ====
abbrev S4096x2048 : Shape := ⟨2, ![4096, 2048]⟩
abbrev S2048x7184 : Shape := ⟨2, ![2048, 7184]⟩
abbrev S4096x7184 : Shape := ⟨2, ![4096, 7184]⟩
abbrev S4096x4096 : Shape := ⟨2, ![4096, 4096]⟩

abbrev nBuf : Space → Nat
  | .hbm => 4
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x7184, .bf16⟩
  | .hbm, ⟨2, _⟩ => ⟨S4096x7184, .f32⟩
  | .hbm, ⟨3, _⟩ => ⟨S4096x4096, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Pba.lean ====
abbrev S4096x2048 : Shape := ⟨2, ![4096, 2048]⟩
abbrev S2048x7184 : Shape := ⟨2, ![2048, 7184]⟩
abbrev S_ : Shape := ⟨0, ![]⟩
abbrev S2048x7296 : Shape := ⟨2, ![2048, 7296]⟩
abbrev S4096x128 : Shape := ⟨2, ![4096, 128]⟩
abbrev S1024x2048 : Shape := ⟨2, ![1024, 2048]⟩
abbrev S2048x128 : Shape := ⟨2, ![2048, 128]⟩
abbrev S1024x128 : Shape := ⟨2, ![1024, 128]⟩

abbrev nBuf : Space → Nat
  | .hbm => 6
  | .vmem => 5
  | .smem => 0
  | _ => 0

abbrev bufTy : (tb : Table) → Fin (tcTables nBuf tb) → BufTy
  | .hbm, ⟨0, _⟩ => ⟨S4096x2048, .bf16⟩
  | .hbm, ⟨1, _⟩ => ⟨S2048x7184, .bf16⟩
  | .hbm, ⟨2, _⟩ => ⟨S_, .i32⟩
  | .hbm, ⟨3, _⟩ => ⟨S_, .bf16⟩
  | .hbm, ⟨4, _⟩ => ⟨S2048x7296, .bf16⟩
  | .hbm, ⟨5, _⟩ => ⟨S4096x128, .f32⟩
  | .local _ .vmem, ⟨0, _⟩ => ⟨S1024x2048, .bf16⟩
  | .local _ .vmem, ⟨1, _⟩ => ⟨S1024x2048, .bf16⟩
  | .local _ .vmem, ⟨2, _⟩ => ⟨S2048x128, .bf16⟩
  | .local _ .vmem, ⟨3, _⟩ => ⟨S1024x128, .f32⟩
  | .local _ .vmem, ⟨4, _⟩ => ⟨S1024x128, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  let v3 : BitVec 32 := Scalar.addi v2 c0_i32_2
  let c0_i32_3 : BitVec 32 := 0#32
  ![arg0.toNat, v3.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  let v3 : BitVec 32 := Scalar.addi v2 c0_i32_2
  let c56_i32 : BitVec 32 := 56#32
  let v4 : BitVec 32 := Scalar.addi arg1 c56_i32
  let c0_i32_3 : BitVec 32 := 0#32
  ![v3.toNat, v4.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg0.toNat, v0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== PbaReferenceIdeal.lean ====
abbrev S4096x2048 : Shape := ⟨2, ![4096, 2048]⟩
abbrev S2048x7184 : Shape := ⟨2, ![2048, 7184]⟩
abbrev S4096x7184 : Shape := ⟨2, ![4096, 7184]⟩
abbrev S4096x16 : Shape := ⟨2, ![4096, 16]⟩
abbrev S_ : Shape := ⟨0, ![]⟩
abbrev S4096x128 : Shape := ⟨2, ![4096, 128]⟩

abbrev nBuf : Space → Nat
  | .hbm => 7
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x7184, .bf16⟩
  | .hbm, ⟨2, _⟩ => ⟨S4096x7184, .f32⟩
  | .hbm, ⟨3, _⟩ => ⟨S4096x16, .f32⟩
  | .hbm, ⟨4, _⟩ => ⟨S_, .i32⟩
  | .hbm, ⟨5, _⟩ => ⟨S_, .f32⟩
  | .hbm, ⟨6, _⟩ => ⟨S4096x128, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_call0_v0 : Ref sig .tc := ⟨.hbm, 5, rfl⟩
abbrev main_v2 : Ref sig .tc := ⟨.hbm, 6, rfl⟩

abbrev nD : Nat := 1
abbrev τ : Topo := Topo.v7x

variable {F : FTy → Type} [FloatOps F]
-- ==== Gba.lean ====
abbrev S4096x2048 : Shape := ⟨2, ![4096, 2048]⟩
abbrev S4096x128 : Shape := ⟨2, ![4096, 128]⟩
abbrev S2048x128 : Shape := ⟨2, ![2048, 128]⟩
abbrev S1024x1024 : Shape := ⟨2, ![1024, 1024]⟩
abbrev S1024x128 : Shape := ⟨2, ![1024, 128]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x128, .bf16⟩
  | .hbm, ⟨2, _⟩ => ⟨S2048x128, .f32⟩
  | .local _ .vmem, ⟨0, _⟩ => ⟨S1024x1024, .bf16⟩
  | .local _ .vmem, ⟨1, _⟩ => ⟨S1024x1024, .bf16⟩
  | .local _ .vmem, ⟨2, _⟩ => ⟨S1024x128, .bf16⟩
  | .local _ .vmem, ⟨3, _⟩ => ⟨S1024x128, .bf16⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond3 (i : grid0.Coords) : BitVec 1 :=
  let arg2 : BitVec 32 := BitVec.ofNat 32 (i 2).val
  let c3_i32 : BitVec 32 := 3#32
  let v8 : BitVec 1 := Scalar.cmpi .eq arg2 c3_i32
  let v9 : BitVec 32 := Scalar.extui v8
  let c0_i32_3 : BitVec 32 := 0#32
  let v10 : BitVec 1 := Scalar.cmpi .ne v9 c0_i32_3
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c3_i32 : BitVec 32 := 3#32
  let v1 : BitVec 32 := Scalar.maxsi c0_i32_0 v0
  let v2 : BitVec 32 := Scalar.minsi c3_i32 v1
  let c0_i32_1 : BitVec 32 := 0#32
  let v3 : BitVec 32 := Scalar.addi v2 c0_i32_1
  let c0_i32_2 : BitVec 32 := 0#32
  ![v3.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c3_i32 : BitVec 32 := 3#32
  let v1 : BitVec 32 := Scalar.maxsi c0_i32_0 v0
  let v2 : BitVec 32 := Scalar.minsi c3_i32 v1
  let c0_i32_1 : BitVec 32 := 0#32
  let v3 : BitVec 32 := Scalar.addi v2 c0_i32_1
  let c0_i32_2 : BitVec 32 := 0#32
  let v4 : BitVec 32 := Scalar.addi arg1 c0_i32_2
  let c0_i32_3 : BitVec 32 := 0#32
  ![v3.toNat, v4.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg0.toNat, v0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GbaReferenceIdeal.lean ====
abbrev S4096x2048 : Shape := ⟨2, ![4096, 2048]⟩
abbrev S4096x128 : Shape := ⟨2, ![4096, 128]⟩
abbrev S_ : Shape := ⟨0, ![]⟩
abbrev S2048x128 : Shape := ⟨2, ![2048, 128]⟩
abbrev S128x2048 : Shape := ⟨2, ![128, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x128, .bf16⟩
  | .hbm, ⟨2, _⟩ => ⟨S_, .f32⟩
  | .hbm, ⟨3, _⟩ => ⟨S2048x128, .f32⟩
  | .hbm, ⟨4, _⟩ => ⟨S4096x2048, .f32⟩
  | .hbm, ⟨5, _⟩ => ⟨S4096x128, .f32⟩
  | .hbm, ⟨6, _⟩ => ⟨S4096x128, .f32⟩
  | .hbm, ⟨7, _⟩ => ⟨S128x2048, .f32⟩
  | .hbm, ⟨8, _⟩ => ⟨S2048x128, .f32⟩
  | .hbm, ⟨9, _⟩ => ⟨S4096x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== AdIn.lean ====
abbrev S2048x1796 : Shape := ⟨2, ![2048, 1796]⟩
abbrev S1024x1796 : Shape := ⟨2, ![1024, 1796]⟩
abbrev S2 : Shape := ⟨1, ![2]⟩
abbrev S128x1796 : Shape := ⟨2, ![128, 1796]⟩
abbrev S1 : Shape := ⟨1, ![1]⟩

abbrev nBuf : Space → Nat
  | .hbm => 9
  | .vmem => 18
  | .smem => 1
  | _ => 0

abbrev bufTy : (tb : Table) → Fin (tcTables nBuf tb) → BufTy
  | .hbm, ⟨0, _⟩ => ⟨S2048x1796, .f32⟩
  | .hbm, ⟨1, _⟩ => ⟨S1024x1796, .f32⟩
  | .hbm, ⟨2, _⟩ => ⟨S1024x1796, .f32⟩
  | .hbm, ⟨3, _⟩ => ⟨S2048x1796, .f32⟩
  | .hbm, ⟨4, _⟩ => ⟨S2048x1796, .f32⟩
  | .hbm, ⟨5, _⟩ => ⟨S2048x1796, .f32⟩
  | .hbm, ⟨6, _⟩ => ⟨S2048x1796, .f32⟩
  | .hbm, ⟨7, _⟩ => ⟨S2048x1796, .f32⟩
  | .hbm, ⟨8, _⟩ => ⟨S2048x1796, .f32⟩
  | .local _ .vmem, ⟨0, _⟩ => ⟨S128x1796, .f32⟩
  | .local _ .vmem, ⟨1, _⟩ => ⟨S128x1796, .f32⟩
  | .local _ .vmem, ⟨2, _⟩ => ⟨S128x1796, .f32⟩
  | .local _ .vmem, ⟨3, _⟩ => ⟨S128x1796, .f32⟩
  | .local _ .vmem, ⟨4, _⟩ => ⟨S128x1796, .f32⟩
  | .local _ .vmem, ⟨5, _⟩ => ⟨S128x1796, .f32⟩
  | .local _ .vmem, ⟨6, _⟩ => ⟨S128x1796, .f32⟩
  | .local _ .vmem, ⟨7, _⟩ => ⟨S128x1796, .f32⟩
  | .local _ .vmem, ⟨8, _⟩ => ⟨S128x1796, .f32⟩
  | .local _ .vmem, ⟨9, _⟩ => ⟨S128x1796, .f32⟩
  | .local _ .vmem, ⟨10, _⟩ => ⟨S128x1796, .f32⟩
  | .local _ .vmem, ⟨11, _⟩ => ⟨S128x1796, .f32⟩
  | .local _ .vmem, ⟨12, _⟩ => ⟨S128x1796, .f32⟩
  | .local _ .vmem, ⟨13, _⟩ => ⟨S128x1796, .f32⟩
  | .local _ .vmem, ⟨14, _⟩ => ⟨S128x1796, .f32⟩
  | .local _ .vmem, ⟨15, _⟩ => ⟨S128x1796, .f32⟩
  | .local _ .vmem, ⟨16, _⟩ => ⟨S128x1796, .f32⟩
  | .local _ .vmem, ⟨17, _⟩ => ⟨S128x1796, .f32⟩
  | .local _ .smem, ⟨0, _⟩ => ⟨S2, .i32⟩
  | _, _ => ⟨S2048x1796, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg4 : Ref sig .tc := ⟨.hbm, 3, rfl⟩
abbrev main_arg5 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg3 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![16], ![false]⟩

abbrev pre0 : Pipeline.Prefetch sig := ⟨1, ![main_arg3.idx], fun | 0 => main_arg3.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_2 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1796 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1796 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1796 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1796 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1796 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1796 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1796 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1796 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x1796 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AdInIdeal.lean ====
abbrev S2048x1796 : Shape := ⟨2, ![2048, 1796]⟩
abbrev S1024x1796 : Shape := ⟨2, ![1024, 1796]⟩
abbrev S2 : Shape := ⟨1, ![2]⟩
abbrev S128x1796 : Shape := ⟨2, ![128, 1796]⟩
abbrev S1 : Shape := ⟨1, ![1]⟩

abbrev nBuf : Space → Nat
  | .hbm => 9
  | .vmem => 18
  | .smem => 1
  | _ => 0

abbrev bufTy : (tb : Table) → Fin (tcTables nBuf tb) → BufTy
  | .hbm, ⟨0, _⟩ => ⟨S2048x1796, .f32⟩
  | .hbm, ⟨1, _⟩ => ⟨S1024x1796, .f32⟩
  | .hbm, ⟨2, _⟩ => ⟨S1024x1796, .f32⟩
  | .hbm, ⟨3, _⟩ => ⟨S2048x1796, .f32⟩
  | .hbm, ⟨4, _⟩ => ⟨S2048x1796, .f32⟩
  | .hbm, ⟨5, _⟩ => ⟨S2048x1796, .f32⟩
  | .hbm, ⟨6, _⟩ => ⟨S2048x1796, .f32⟩
  | .hbm, ⟨7, _⟩ => ⟨S2048x1796, .f32⟩
  | .hbm, ⟨8, _⟩ => ⟨S2048x1796, .f32⟩
  | .local _ .vmem, ⟨0, _⟩ => ⟨S128x1796, .f32⟩
  | .local _ .vmem, ⟨1, _⟩ => ⟨S128x1796, .f32⟩
  | .local _ .vmem, ⟨2, _⟩ => ⟨S128x1796, .f32⟩
  | .local _ .vmem, ⟨3, _⟩ => ⟨S128x1796, .f32⟩
  | .local _ .vmem, ⟨4, _⟩ => ⟨S128x1796, .f32⟩
  | .local _ .vmem, ⟨5, _⟩ => ⟨S128x1796, .f32⟩
  | .local _ .vmem, ⟨6, _⟩ => ⟨S128x1796, .f32⟩
  | .local _ .vmem, ⟨7, _⟩ => ⟨S128x1796, .f32⟩
  | .local _ .vmem, ⟨8, _⟩ => ⟨S128x1796, .f32⟩
  | .local _ .vmem, ⟨9, _⟩ => ⟨S128x1796, .f32⟩
  | .local _ .vmem, ⟨10, _⟩ => ⟨S128x1796, .f32⟩
  | .local _ .vmem, ⟨11, _⟩ => ⟨S128x1796, .f32⟩
  | .local _ .vmem, ⟨12, _⟩ => ⟨S128x1796, .f32⟩
  | .local _ .vmem, ⟨13, _⟩ => ⟨S128x1796, .f32⟩
  | .local _ .vmem, ⟨14, _⟩ => ⟨S128x1796, .f32⟩
  | .local _ .vmem, ⟨15, _⟩ => ⟨S128x1796, .f32⟩
  | .local _ .vmem, ⟨16, _⟩ => ⟨S128x1796, .f32⟩
  | .local _ .vmem, ⟨17, _⟩ => ⟨S128x1796, .f32⟩
  | .local _ .smem, ⟨0, _⟩ => ⟨S2, .i32⟩
  | _, _ => ⟨S2048x1796, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg4 : Ref sig .tc := ⟨.hbm, 3, rfl⟩
abbrev main_arg5 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg3 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![16], ![false]⟩

abbrev pre0 : Pipeline.Prefetch sig := ⟨1, ![main_arg3.idx], fun | 0 => main_arg3.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_2 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1796 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1796 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1796 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1796 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1796 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1796 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1796 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1796 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x1796 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AdInReferenceIdeal.lean ====
abbrev S2048x1796 : Shape := ⟨2, ![2048, 1796]⟩
abbrev S1024x1796 : Shape := ⟨2, ![1024, 1796]⟩
abbrev S2 : Shape := ⟨1, ![2]⟩
abbrev S1 : Shape := ⟨1, ![1]⟩
abbrev S_ : Shape := ⟨0, ![]⟩

abbrev nBuf : Space → Nat
  | .hbm => 46
  | .vmem => 0
  | .smem => 0
  | _ => 0

abbrev bufTy : (tb : Table) → Fin (tcTables nBuf tb) → BufTy
  | .hbm, ⟨0, _⟩ => ⟨S2048x1796, .f32⟩
  | .hbm, ⟨1, _⟩ => ⟨S1024x1796, .f32⟩
  | .hbm, ⟨2, _⟩ => ⟨S1024x1796, .f32⟩
  | .hbm, ⟨3, _⟩ => ⟨S2, .i32⟩
  | .hbm, ⟨4, _⟩ => ⟨S2048x1796, .f32⟩
  | .hbm, ⟨5, _⟩ => ⟨S2048x1796, .f32⟩
  | .hbm, ⟨6, _⟩ => ⟨S1, .i32⟩
  | .hbm, ⟨7, _⟩ => ⟨S_, .i32⟩
  | .hbm, ⟨8, _⟩ => ⟨S_, .i32⟩
  | .hbm, ⟨9, _⟩ => ⟨S_, .i1⟩
  | .hbm, ⟨10, _⟩ => ⟨S2048x1796, .f32⟩
  | .hbm, ⟨11, _⟩ => ⟨S2048x1796, .f32⟩
  | .hbm, ⟨12, _⟩ => ⟨S2048x1796, .f32⟩
  | .hbm, ⟨13, _⟩ => ⟨S_, .f32⟩
  | .hbm, ⟨14, _⟩ => ⟨S2048x1796, .f32⟩
  | .hbm, ⟨15, _⟩ => ⟨S2048x1796, .f32⟩
  | .hbm, ⟨16, _⟩ => ⟨S_, .f32⟩
  | .hbm, ⟨17, _⟩ => ⟨S2048x1796, .f32⟩
  | .hbm, ⟨18, _⟩ => ⟨S2048x1796, .f32⟩
  | .hbm, ⟨19, _⟩ => ⟨S2048x1796, .f32⟩
  | .hbm, ⟨20, _⟩ => ⟨S_, .f32⟩
  | .hbm, ⟨21, _⟩ => ⟨S2048x1796, .f32⟩
  | .hbm, ⟨22, _⟩ => ⟨S2048x1796, .f32⟩
  | .hbm, ⟨23, _⟩ => ⟨S2048x1796, .f32⟩
  | .hbm, ⟨24, _⟩ => ⟨S_, .f32⟩
  | .hbm, ⟨25, _⟩ => ⟨S2048x1796, .f32⟩
  | .hbm, ⟨26, _⟩ => ⟨S2048x1796, .f32⟩
  | .hbm, ⟨27, _⟩ => ⟨S2048x1796, .f32⟩
  | .hbm, ⟨28, _⟩ => ⟨S_, .f32⟩
  | .hbm, ⟨29, _⟩ => ⟨S2048x1796, .f32⟩
  | .hbm, ⟨30, _⟩ => ⟨S2048x1796, .f32⟩
  | .hbm, ⟨31, _⟩ => ⟨S_, .f32⟩
  | .hbm, ⟨32, _⟩ => ⟨S2048x1796, .f32⟩
  | .hbm, ⟨33, _⟩ => ⟨S2048x1796, .f32⟩
  | .hbm, ⟨34, _⟩ => ⟨S2048x1796, .f32⟩
  | .hbm, ⟨35, _⟩ => ⟨S_, .f32⟩
  | .hbm, ⟨36, _⟩ => ⟨S2048x1796, .f32⟩
  | .hbm, ⟨37, _⟩ => ⟨S2048x1796, .f32⟩
  | .hbm, ⟨38, _⟩ => ⟨S2048x1796, .f32⟩
  | .hbm, ⟨39, _⟩ => ⟨S_, .f32⟩
  | .hbm, ⟨40, _⟩ => ⟨S2048x1796, .f32⟩
  | .hbm, ⟨41, _⟩ => ⟨S2048x1796, .f32⟩
  | .hbm, ⟨42, _⟩ => ⟨S2048x1796, .f32⟩
  | .hbm, ⟨43, _⟩ => ⟨S_, .f32⟩
  | .hbm, ⟨44, _⟩ => ⟨S2048x1796, .f32⟩
  | .hbm, ⟨45, _⟩ => ⟨S2048x1796, .f32⟩
  | _, _ => ⟨S2048x1796, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_3 : Ref sig .tc := ⟨.hbm, 28, rfl⟩
abbrev main_v17 : Ref sig .tc := ⟨.hbm, 29, rfl⟩
abbrev main_v18 : Ref sig .tc := ⟨.hbm, 30, rfl⟩
abbrev main_cst_4 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_5 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_6 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_7 : Ref sig .tc := ⟨.hbm, 43, rfl⟩
abbrev main_v28 : Ref sig .tc := ⟨.hbm, 44, rfl⟩
abbrev main_v29 : Ref sig .tc := ⟨.hbm, 45, rfl⟩

abbrev nD : Nat := 1
abbrev τ : Topo := Topo.v7x

variable {F : FTy → Type} [FloatOps F]
-- ==== AdOut.lean ====
abbrev S512x2048 : Shape := ⟨2, ![512, 2048]⟩
abbrev S256x2048 : Shape := ⟨2, ![256, 2048]⟩
abbrev S2 : Shape := ⟨1, ![2]⟩
abbrev S128x2048 : Shape := ⟨2, ![128, 2048]⟩
abbrev S1 : Shape := ⟨1, ![1]⟩

abbrev nBuf : Space → Nat
  | .hbm => 9
  | .vmem => 18
  | .smem => 1
  | _ => 0

abbrev bufTy : (tb : Table) → Fin (tcTables nBuf tb) → BufTy
  | .hbm, ⟨0, _⟩ => ⟨S512x2048, .f32⟩
  | .hbm, ⟨1, _⟩ => ⟨S256x2048, .f32⟩
  | .hbm, ⟨2, _⟩ => ⟨S256x2048, .f32⟩
  | .hbm, ⟨3, _⟩ => ⟨S512x2048, .f32⟩
  | .hbm, ⟨4, _⟩ => ⟨S512x2048, .f32⟩
  | .hbm, ⟨5, _⟩ => ⟨S512x2048, .f32⟩
  | .hbm, ⟨6, _⟩ => ⟨S512x2048, .f32⟩
  | .hbm, ⟨7, _⟩ => ⟨S512x2048, .f32⟩
  | .hbm, ⟨8, _⟩ => ⟨S512x2048, .f32⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S128x2048, .f32⟩
  | .local _ .vmem, ⟨7, _⟩ => ⟨S128x2048, .f32⟩
  | .local _ .vmem, ⟨8, _⟩ => ⟨S128x2048, .f32⟩
  | .local _ .vmem, ⟨9, _⟩ => ⟨S128x2048, .f32⟩
  | .local _ .vmem, ⟨10, _⟩ => ⟨S128x2048, .f32⟩
  | .local _ .vmem, ⟨11, _⟩ => ⟨S128x2048, .f32⟩
  | .local _ .vmem, ⟨12, _⟩ => ⟨S128x2048, .f32⟩
  | .local _ .vmem, ⟨13, _⟩ => ⟨S128x2048, .f32⟩
  | .local _ .vmem, ⟨14, _⟩ => ⟨S128x2048, .f32⟩
  | .local _ .vmem, ⟨15, _⟩ => ⟨S128x2048, .f32⟩
  | .local _ .vmem, ⟨16, _⟩ => ⟨S128x2048, .f32⟩
  | .local _ .vmem, ⟨17, _⟩ => ⟨S128x2048, .f32⟩
  | .local _ .smem, ⟨0, _⟩ => ⟨S2, .i32⟩
  | _, _ => ⟨S512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg4 : Ref sig .tc := ⟨.hbm, 3, rfl⟩
abbrev main_arg5 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg3 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![4], ![false]⟩

abbrev pre0 : Pipeline.Prefetch sig := ⟨1, ![main_arg3.idx], fun | 0 => main_arg3.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_2 (i : grid0.Coords) : Fin 2 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AdOutIdeal.lean ====
abbrev S512x2048 : Shape := ⟨2, ![512, 2048]⟩
abbrev S256x2048 : Shape := ⟨2, ![256, 2048]⟩
abbrev S2 : Shape := ⟨1, ![2]⟩
abbrev S128x2048 : Shape := ⟨2, ![128, 2048]⟩
abbrev S1 : Shape := ⟨1, ![1]⟩

abbrev nBuf : Space → Nat
  | .hbm => 9
  | .vmem => 18
  | .smem => 1
  | _ => 0

abbrev bufTy : (tb : Table) → Fin (tcTables nBuf tb) → BufTy
  | .hbm, ⟨0, _⟩ => ⟨S512x2048, .f32⟩
  | .hbm, ⟨1, _⟩ => ⟨S256x2048, .f32⟩
  | .hbm, ⟨2, _⟩ => ⟨S256x2048, .f32⟩
  | .hbm, ⟨3, _⟩ => ⟨S512x2048, .f32⟩
  | .hbm, ⟨4, _⟩ => ⟨S512x2048, .f32⟩
  | .hbm, ⟨5, _⟩ => ⟨S512x2048, .f32⟩
  | .hbm, ⟨6, _⟩ => ⟨S512x2048, .f32⟩
  | .hbm, ⟨7, _⟩ => ⟨S512x2048, .f32⟩
  | .hbm, ⟨8, _⟩ => ⟨S512x2048, .f32⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S128x2048, .f32⟩
  | .local _ .vmem, ⟨7, _⟩ => ⟨S128x2048, .f32⟩
  | .local _ .vmem, ⟨8, _⟩ => ⟨S128x2048, .f32⟩
  | .local _ .vmem, ⟨9, _⟩ => ⟨S128x2048, .f32⟩
  | .local _ .vmem, ⟨10, _⟩ => ⟨S128x2048, .f32⟩
  | .local _ .vmem, ⟨11, _⟩ => ⟨S128x2048, .f32⟩
  | .local _ .vmem, ⟨12, _⟩ => ⟨S128x2048, .f32⟩
  | .local _ .vmem, ⟨13, _⟩ => ⟨S128x2048, .f32⟩
  | .local _ .vmem, ⟨14, _⟩ => ⟨S128x2048, .f32⟩
  | .local _ .vmem, ⟨15, _⟩ => ⟨S128x2048, .f32⟩
  | .local _ .vmem, ⟨16, _⟩ => ⟨S128x2048, .f32⟩
  | .local _ .vmem, ⟨17, _⟩ => ⟨S128x2048, .f32⟩
  | .local _ .smem, ⟨0, _⟩ => ⟨S2, .i32⟩
  | _, _ => ⟨S512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg4 : Ref sig .tc := ⟨.hbm, 3, rfl⟩
abbrev main_arg5 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg3 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![4], ![false]⟩

abbrev pre0 : Pipeline.Prefetch sig := ⟨1, ![main_arg3.idx], fun | 0 => main_arg3.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_2 (i : grid0.Coords) : Fin 2 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AdOutReferenceIdeal.lean ====
abbrev S512x2048 : Shape := ⟨2, ![512, 2048]⟩
abbrev S256x2048 : Shape := ⟨2, ![256, 2048]⟩
abbrev S2 : Shape := ⟨1, ![2]⟩
abbrev S1 : Shape := ⟨1, ![1]⟩
abbrev S_ : Shape := ⟨0, ![]⟩

abbrev nBuf : Space → Nat
  | .hbm => 46
  | .vmem => 0
  | .smem => 0
  | _ => 0

abbrev bufTy : (tb : Table) → Fin (tcTables nBuf tb) → BufTy
  | .hbm, ⟨0, _⟩ => ⟨S512x2048, .f32⟩
  | .hbm, ⟨1, _⟩ => ⟨S256x2048, .f32⟩
  | .hbm, ⟨2, _⟩ => ⟨S256x2048, .f32⟩
  | .hbm, ⟨3, _⟩ => ⟨S2, .i32⟩
  | .hbm, ⟨4, _⟩ => ⟨S512x2048, .f32⟩
  | .hbm, ⟨5, _⟩ => ⟨S512x2048, .f32⟩
  | .hbm, ⟨6, _⟩ => ⟨S1, .i32⟩
  | .hbm, ⟨7, _⟩ => ⟨S_, .i32⟩
  | .hbm, ⟨8, _⟩ => ⟨S_, .i32⟩
  | .hbm, ⟨9, _⟩ => ⟨S_, .i1⟩
  | .hbm, ⟨10, _⟩ => ⟨S512x2048, .f32⟩
  | .hbm, ⟨11, _⟩ => ⟨S512x2048, .f32⟩
  | .hbm, ⟨12, _⟩ => ⟨S512x2048, .f32⟩
  | .hbm, ⟨13, _⟩ => ⟨S_, .f32⟩
  | .hbm, ⟨14, _⟩ => ⟨S512x2048, .f32⟩
  | .hbm, ⟨15, _⟩ => ⟨S512x2048, .f32⟩
  | .hbm, ⟨16, _⟩ => ⟨S_, .f32⟩
  | .hbm, ⟨17, _⟩ => ⟨S512x2048, .f32⟩
  | .hbm, ⟨18, _⟩ => ⟨S512x2048, .f32⟩
  | .hbm, ⟨19, _⟩ => ⟨S512x2048, .f32⟩
  | .hbm, ⟨20, _⟩ => ⟨S_, .f32⟩
  | .hbm, ⟨21, _⟩ => ⟨S512x2048, .f32⟩
  | .hbm, ⟨22, _⟩ => ⟨S512x2048, .f32⟩
  | .hbm, ⟨23, _⟩ => ⟨S512x2048, .f32⟩
  | .hbm, ⟨24, _⟩ => ⟨S_, .f32⟩
  | .hbm, ⟨25, _⟩ => ⟨S512x2048, .f32⟩
  | .hbm, ⟨26, _⟩ => ⟨S512x2048, .f32⟩
  | .hbm, ⟨27, _⟩ => ⟨S512x2048, .f32⟩
  | .hbm, ⟨28, _⟩ => ⟨S_, .f32⟩
  | .hbm, ⟨29, _⟩ => ⟨S512x2048, .f32⟩
  | .hbm, ⟨30, _⟩ => ⟨S512x2048, .f32⟩
  | .hbm, ⟨31, _⟩ => ⟨S_, .f32⟩
  | .hbm, ⟨32, _⟩ => ⟨S512x2048, .f32⟩
  | .hbm, ⟨33, _⟩ => ⟨S512x2048, .f32⟩
  | .hbm, ⟨34, _⟩ => ⟨S512x2048, .f32⟩
  | .hbm, ⟨35, _⟩ => ⟨S_, .f32⟩
  | .hbm, ⟨36, _⟩ => ⟨S512x2048, .f32⟩
  | .hbm, ⟨37, _⟩ => ⟨S512x2048, .f32⟩
  | .hbm, ⟨38, _⟩ => ⟨S512x2048, .f32⟩
  | .hbm, ⟨39, _⟩ => ⟨S_, .f32⟩
  | .hbm, ⟨40, _⟩ => ⟨S512x2048, .f32⟩
  | .hbm, ⟨41, _⟩ => ⟨S512x2048, .f32⟩
  | .hbm, ⟨42, _⟩ => ⟨S512x2048, .f32⟩
  | .hbm, ⟨43, _⟩ => ⟨S_, .f32⟩
  | .hbm, ⟨44, _⟩ => ⟨S512x2048, .f32⟩
  | .hbm, ⟨45, _⟩ => ⟨S512x2048, .f32⟩
  | _, _ => ⟨S512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_3 : Ref sig .tc := ⟨.hbm, 28, rfl⟩
abbrev main_v17 : Ref sig .tc := ⟨.hbm, 29, rfl⟩
abbrev main_v18 : Ref sig .tc := ⟨.hbm, 30, rfl⟩
abbrev main_cst_4 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_5 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_6 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_7 : Ref sig .tc := ⟨.hbm, 43, rfl⟩
abbrev main_v28 : Ref sig .tc := ⟨.hbm, 44, rfl⟩
abbrev main_v29 : Ref sig .tc := ⟨.hbm, 45, rfl⟩

abbrev nD : Nat := 1
abbrev τ : Topo := Topo.v7x

variable {F : FTy → Type} [FloatOps F]
-- ==== AdUp.lean ====
abbrev S2048x2816 : Shape := ⟨2, ![2048, 2816]⟩
abbrev S1024x2816 : Shape := ⟨2, ![1024, 2816]⟩
abbrev S2 : Shape := ⟨1, ![2]⟩
abbrev S128x2816 : Shape := ⟨2, ![128, 2816]⟩
abbrev S1 : Shape := ⟨1, ![1]⟩

abbrev nBuf : Space → Nat
  | .hbm => 9
  | .vmem => 18
  | .smem => 1
  | _ => 0

abbrev bufTy : (tb : Table) → Fin (tcTables nBuf tb) → BufTy
  | .hbm, ⟨0, _⟩ => ⟨S2048x2816, .f32⟩
  | .hbm, ⟨1, _⟩ => ⟨S1024x2816, .f32⟩
  | .hbm, ⟨2, _⟩ => ⟨S1024x2816, .f32⟩
  | .hbm, ⟨3, _⟩ => ⟨S2048x2816, .f32⟩
  | .hbm, ⟨4, _⟩ => ⟨S2048x2816, .f32⟩
  | .hbm, ⟨5, _⟩ => ⟨S2048x2816, .f32⟩
  | .hbm, ⟨6, _⟩ => ⟨S2048x2816, .f32⟩
  | .hbm, ⟨7, _⟩ => ⟨S2048x2816, .f32⟩
  | .hbm, ⟨8, _⟩ => ⟨S2048x2816, .f32⟩
  | .local _ .vmem, ⟨0, _⟩ => ⟨S128x2816, .f32⟩
  | .local _ .vmem, ⟨1, _⟩ => ⟨S128x2816, .f32⟩
  | .local _ .vmem, ⟨2, _⟩ => ⟨S128x2816, .f32⟩
  | .local _ .vmem, ⟨3, _⟩ => ⟨S128x2816, .f32⟩
  | .local _ .vmem, ⟨4, _⟩ => ⟨S128x2816, .f32⟩
  | .local _ .vmem, ⟨5, _⟩ => ⟨S128x2816, .f32⟩
  | .local _ .vmem, ⟨6, _⟩ => ⟨S128x2816, .f32⟩
  | .local _ .vmem, ⟨7, _⟩ => ⟨S128x2816, .f32⟩
  | .local _ .vmem, ⟨8, _⟩ => ⟨S128x2816, .f32⟩
  | .local _ .vmem, ⟨9, _⟩ => ⟨S128x2816, .f32⟩
  | .local _ .vmem, ⟨10, _⟩ => ⟨S128x2816, .f32⟩
  | .local _ .vmem, ⟨11, _⟩ => ⟨S128x2816, .f32⟩
  | .local _ .vmem, ⟨12, _⟩ => ⟨S128x2816, .f32⟩
  | .local _ .vmem, ⟨13, _⟩ => ⟨S128x2816, .f32⟩
  | .local _ .vmem, ⟨14, _⟩ => ⟨S128x2816, .f32⟩
  | .local _ .vmem, ⟨15, _⟩ => ⟨S128x2816, .f32⟩
  | .local _ .vmem, ⟨16, _⟩ => ⟨S128x2816, .f32⟩
  | .local _ .vmem, ⟨17, _⟩ => ⟨S128x2816, .f32⟩
  | .local _ .smem, ⟨0, _⟩ => ⟨S2, .i32⟩
  | _, _ => ⟨S2048x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg4 : Ref sig .tc := ⟨.hbm, 3, rfl⟩
abbrev main_arg5 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg3 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![16], ![false]⟩

abbrev pre0 : Pipeline.Prefetch sig := ⟨1, ![main_arg3.idx], fun | 0 => main_arg3.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_2 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2816 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2816 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2816 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2816 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2816 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2816 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2816 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x2816 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x2816 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AdUpIdeal.lean ====
abbrev S2048x2816 : Shape := ⟨2, ![2048, 2816]⟩
abbrev S1024x2816 : Shape := ⟨2, ![1024, 2816]⟩
abbrev S2 : Shape := ⟨1, ![2]⟩
abbrev S128x2816 : Shape := ⟨2, ![128, 2816]⟩
abbrev S1 : Shape := ⟨1, ![1]⟩

abbrev nBuf : Space → Nat
  | .hbm => 9
  | .vmem => 18
  | .smem => 1
  | _ => 0

abbrev bufTy : (tb : Table) → Fin (tcTables nBuf tb) → BufTy
  | .hbm, ⟨0, _⟩ => ⟨S2048x2816, .f32⟩
  | .hbm, ⟨1, _⟩ => ⟨S1024x2816, .f32⟩
  | .hbm, ⟨2, _⟩ => ⟨S1024x2816, .f32⟩
  | .hbm, ⟨3, _⟩ => ⟨S2048x2816, .f32⟩
  | .hbm, ⟨4, _⟩ => ⟨S2048x2816, .f32⟩
  | .hbm, ⟨5, _⟩ => ⟨S2048x2816, .f32⟩
  | .hbm, ⟨6, _⟩ => ⟨S2048x2816, .f32⟩
  | .hbm, ⟨7, _⟩ => ⟨S2048x2816, .f32⟩
  | .hbm, ⟨8, _⟩ => ⟨S2048x2816, .f32⟩
  | .local _ .vmem, ⟨0, _⟩ => ⟨S128x2816, .f32⟩
  | .local _ .vmem, ⟨1, _⟩ => ⟨S128x2816, .f32⟩
  | .local _ .vmem, ⟨2, _⟩ => ⟨S128x2816, .f32⟩
  | .local _ .vmem, ⟨3, _⟩ => ⟨S128x2816, .f32⟩
  | .local _ .vmem, ⟨4, _⟩ => ⟨S128x2816, .f32⟩
  | .local _ .vmem, ⟨5, _⟩ => ⟨S128x2816, .f32⟩
  | .local _ .vmem, ⟨6, _⟩ => ⟨S128x2816, .f32⟩
  | .local _ .vmem, ⟨7, _⟩ => ⟨S128x2816, .f32⟩
  | .local _ .vmem, ⟨8, _⟩ => ⟨S128x2816, .f32⟩
  | .local _ .vmem, ⟨9, _⟩ => ⟨S128x2816, .f32⟩
  | .local _ .vmem, ⟨10, _⟩ => ⟨S128x2816, .f32⟩
  | .local _ .vmem, ⟨11, _⟩ => ⟨S128x2816, .f32⟩
  | .local _ .vmem, ⟨12, _⟩ => ⟨S128x2816, .f32⟩
  | .local _ .vmem, ⟨13, _⟩ => ⟨S128x2816, .f32⟩
  | .local _ .vmem, ⟨14, _⟩ => ⟨S128x2816, .f32⟩
  | .local _ .vmem, ⟨15, _⟩ => ⟨S128x2816, .f32⟩
  | .local _ .vmem, ⟨16, _⟩ => ⟨S128x2816, .f32⟩
  | .local _ .vmem, ⟨17, _⟩ => ⟨S128x2816, .f32⟩
  | .local _ .smem, ⟨0, _⟩ => ⟨S2, .i32⟩
  | _, _ => ⟨S2048x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg4 : Ref sig .tc := ⟨.hbm, 3, rfl⟩
abbrev main_arg5 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg3 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![16], ![false]⟩

abbrev pre0 : Pipeline.Prefetch sig := ⟨1, ![main_arg3.idx], fun | 0 => main_arg3.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_2 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2816 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2816 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2816 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2816 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2816 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2816 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2816 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x2816 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x2816 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AdUpReferenceIdeal.lean ====
abbrev S2048x2816 : Shape := ⟨2, ![2048, 2816]⟩
abbrev S1024x2816 : Shape := ⟨2, ![1024, 2816]⟩
abbrev S2 : Shape := ⟨1, ![2]⟩
abbrev S1 : Shape := ⟨1, ![1]⟩
abbrev S_ : Shape := ⟨0, ![]⟩

abbrev nBuf : Space → Nat
  | .hbm => 46
  | .vmem => 0
  | .smem => 0
  | _ => 0

abbrev bufTy : (tb : Table) → Fin (tcTables nBuf tb) → BufTy
  | .hbm, ⟨0, _⟩ => ⟨S2048x2816, .f32⟩
  | .hbm, ⟨1, _⟩ => ⟨S1024x2816, .f32⟩
  | .hbm, ⟨2, _⟩ => ⟨S1024x2816, .f32⟩
  | .hbm, ⟨3, _⟩ => ⟨S2, .i32⟩
  | .hbm, ⟨4, _⟩ => ⟨S2048x2816, .f32⟩
  | .hbm, ⟨5, _⟩ => ⟨S2048x2816, .f32⟩
  | .hbm, ⟨6, _⟩ => ⟨S1, .i32⟩
  | .hbm, ⟨7, _⟩ => ⟨S_, .i32⟩
  | .hbm, ⟨8, _⟩ => ⟨S_, .i32⟩
  | .hbm, ⟨9, _⟩ => ⟨S_, .i1⟩
  | .hbm, ⟨10, _⟩ => ⟨S2048x2816, .f32⟩
  | .hbm, ⟨11, _⟩ => ⟨S2048x2816, .f32⟩
  | .hbm, ⟨12, _⟩ => ⟨S2048x2816, .f32⟩
  | .hbm, ⟨13, _⟩ => ⟨S_, .f32⟩
  | .hbm, ⟨14, _⟩ => ⟨S2048x2816, .f32⟩
  | .hbm, ⟨15, _⟩ => ⟨S2048x2816, .f32⟩
  | .hbm, ⟨16, _⟩ => ⟨S_, .f32⟩
  | .hbm, ⟨17, _⟩ => ⟨S2048x2816, .f32⟩
  | .hbm, ⟨18, _⟩ => ⟨S2048x2816, .f32⟩
  | .hbm, ⟨19, _⟩ => ⟨S2048x2816, .f32⟩
  | .hbm, ⟨20, _⟩ => ⟨S_, .f32⟩
  | .hbm, ⟨21, _⟩ => ⟨S2048x2816, .f32⟩
  | .hbm, ⟨22, _⟩ => ⟨S2048x2816, .f32⟩
  | .hbm, ⟨23, _⟩ => ⟨S2048x2816, .f32⟩
  | .hbm, ⟨24, _⟩ => ⟨S_, .f32⟩
  | .hbm, ⟨25, _⟩ => ⟨S2048x2816, .f32⟩
  | .hbm, ⟨26, _⟩ => ⟨S2048x2816, .f32⟩
  | .hbm, ⟨27, _⟩ => ⟨S2048x2816, .f32⟩
  | .hbm, ⟨28, _⟩ => ⟨S_, .f32⟩
  | .hbm, ⟨29, _⟩ => ⟨S2048x2816, .f32⟩
  | .hbm, ⟨30, _⟩ => ⟨S2048x2816, .f32⟩
  | .hbm, ⟨31, _⟩ => ⟨S_, .f32⟩
  | .hbm, ⟨32, _⟩ => ⟨S2048x2816, .f32⟩
  | .hbm, ⟨33, _⟩ => ⟨S2048x2816, .f32⟩
  | .hbm, ⟨34, _⟩ => ⟨S2048x2816, .f32⟩
  | .hbm, ⟨35, _⟩ => ⟨S_, .f32⟩
  | .hbm, ⟨36, _⟩ => ⟨S2048x2816, .f32⟩
  | .hbm, ⟨37, _⟩ => ⟨S2048x2816, .f32⟩
  | .hbm, ⟨38, _⟩ => ⟨S2048x2816, .f32⟩
  | .hbm, ⟨39, _⟩ => ⟨S_, .f32⟩
  | .hbm, ⟨40, _⟩ => ⟨S2048x2816, .f32⟩
  | .hbm, ⟨41, _⟩ => ⟨S2048x2816, .f32⟩
  | .hbm, ⟨42, _⟩ => ⟨S2048x2816, .f32⟩
  | .hbm, ⟨43, _⟩ => ⟨S_, .f32⟩
  | .hbm, ⟨44, _⟩ => ⟨S2048x2816, .f32⟩
  | .hbm, ⟨45, _⟩ => ⟨S2048x2816, .f32⟩
  | _, _ => ⟨S2048x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_3 : Ref sig .tc := ⟨.hbm, 28, rfl⟩
abbrev main_v17 : Ref sig .tc := ⟨.hbm, 29, rfl⟩
abbrev main_v18 : Ref sig .tc := ⟨.hbm, 30, rfl⟩
abbrev main_cst_4 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_5 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_6 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_7 : Ref sig .tc := ⟨.hbm, 43, rfl⟩
abbrev main_v28 : Ref sig .tc := ⟨.hbm, 44, rfl⟩
abbrev main_v29 : Ref sig .tc := ⟨.hbm, 45, rfl⟩

abbrev nD : Nat := 1
abbrev τ : Topo := Topo.v7x

variable {F : FTy → Type} [FloatOps F]
-- ==== AdDown.lean ====
abbrev S1408x2048 : Shape := ⟨2, ![1408, 2048]⟩
abbrev S704x2048 : Shape := ⟨2, ![704, 2048]⟩
abbrev S2 : Shape := ⟨1, ![2]⟩
abbrev S64x2048 : Shape := ⟨2, ![64, 2048]⟩
abbrev S1 : Shape := ⟨1, ![1]⟩

abbrev nBuf : Space → Nat
  | .hbm => 9
  | .vmem => 18
  | .smem => 1
  | _ => 0

abbrev bufTy : (tb : Table) → Fin (tcTables nBuf tb) → BufTy
  | .hbm, ⟨0, _⟩ => ⟨S1408x2048, .f32⟩
  | .hbm, ⟨1, _⟩ => ⟨S704x2048, .f32⟩
  | .hbm, ⟨2, _⟩ => ⟨S704x2048, .f32⟩
  | .hbm, ⟨3, _⟩ => ⟨S1408x2048, .f32⟩
  | .hbm, ⟨4, _⟩ => ⟨S1408x2048, .f32⟩
  | .hbm, ⟨5, _⟩ => ⟨S1408x2048, .f32⟩
  | .hbm, ⟨6, _⟩ => ⟨S1408x2048, .f32⟩
  | .hbm, ⟨7, _⟩ => ⟨S1408x2048, .f32⟩
  | .hbm, ⟨8, _⟩ => ⟨S1408x2048, .f32⟩
  | .local _ .vmem, ⟨0, _⟩ => ⟨S64x2048, .f32⟩
  | .local _ .vmem, ⟨1, _⟩ => ⟨S64x2048, .f32⟩
  | .local _ .vmem, ⟨2, _⟩ => ⟨S64x2048, .f32⟩
  | .local _ .vmem, ⟨3, _⟩ => ⟨S64x2048, .f32⟩
  | .local _ .vmem, ⟨4, _⟩ => ⟨S64x2048, .f32⟩
  | .local _ .vmem, ⟨5, _⟩ => ⟨S64x2048, .f32⟩
  | .local _ .vmem, ⟨6, _⟩ => ⟨S64x2048, .f32⟩
  | .local _ .vmem, ⟨7, _⟩ => ⟨S64x2048, .f32⟩
  | .local _ .vmem, ⟨8, _⟩ => ⟨S64x2048, .f32⟩
  | .local _ .vmem, ⟨9, _⟩ => ⟨S64x2048, .f32⟩
  | .local _ .vmem, ⟨10, _⟩ => ⟨S64x2048, .f32⟩
  | .local _ .vmem, ⟨11, _⟩ => ⟨S64x2048, .f32⟩
  | .local _ .vmem, ⟨12, _⟩ => ⟨S64x2048, .f32⟩
  | .local _ .vmem, ⟨13, _⟩ => ⟨S64x2048, .f32⟩
  | .local _ .vmem, ⟨14, _⟩ => ⟨S64x2048, .f32⟩
  | .local _ .vmem, ⟨15, _⟩ => ⟨S64x2048, .f32⟩
  | .local _ .vmem, ⟨16, _⟩ => ⟨S64x2048, .f32⟩
  | .local _ .vmem, ⟨17, _⟩ => ⟨S64x2048, .f32⟩
  | .local _ .smem, ⟨0, _⟩ => ⟨S2, .i32⟩
  | _, _ => ⟨S1408x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg4 : Ref sig .tc := ⟨.hbm, 3, rfl⟩
abbrev main_arg5 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg3 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![22], ![false]⟩

abbrev pre0 : Pipeline.Prefetch sig := ⟨1, ![main_arg3.idx], fun | 0 => main_arg3.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c11_i32 : BitVec 32 := 11#32
  let c0_i32 : BitVec 32 := 0#32
  let v0 : BitVec 1 := Scalar.cmpi .eq c11_i32 c0_i32
  let c1_i32 : BitVec 32 := 1#32
  let v1 : BitVec 32 := Scalar.select v0 c1_i32 c11_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_2 (i : grid0.Coords) : Fin 2 → Nat :=
  let arg0 : BitVec 32 := BitVec.ofNat 32 (i 0).val
  let c11_i32 : BitVec 32 := 11#32
  let c0_i32 : BitVec 32 := 0#32
  let v0 : BitVec 1 := Scalar.cmpi .eq c11_i32 c0_i32
  let c1_i32 : BitVec 32 := 1#32
  let v1 : BitVec 32 := Scalar.select v0 c1_i32 c11_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S64x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AdDownReferenceIdeal.lean ====
abbrev S1408x2048 : Shape := ⟨2, ![1408, 2048]⟩
abbrev S704x2048 : Shape := ⟨2, ![704, 2048]⟩
abbrev S2 : Shape := ⟨1, ![2]⟩
abbrev S1 : Shape := ⟨1, ![1]⟩
abbrev S_ : Shape := ⟨0, ![]⟩

abbrev nBuf : Space → Nat
  | .hbm => 46
  | .vmem => 0
  | .smem => 0
  | _ => 0

abbrev bufTy : (tb : Table) → Fin (tcTables nBuf tb) → BufTy
  | .hbm, ⟨0, _⟩ => ⟨S1408x2048, .f32⟩
  | .hbm, ⟨1, _⟩ => ⟨S704x2048, .f32⟩
  | .hbm, ⟨2, _⟩ => ⟨S704x2048, .f32⟩
  | .hbm, ⟨3, _⟩ => ⟨S2, .i32⟩
  | .hbm, ⟨4, _⟩ => ⟨S1408x2048, .f32⟩
  | .hbm, ⟨5, _⟩ => ⟨S1408x2048, .f32⟩
  | .hbm, ⟨6, _⟩ => ⟨S1, .i32⟩
  | .hbm, ⟨7, _⟩ => ⟨S_, .i32⟩
  | .hbm, ⟨8, _⟩ => ⟨S_, .i32⟩
  | .hbm, ⟨9, _⟩ => ⟨S_, .i1⟩
  | .hbm, ⟨10, _⟩ => ⟨S1408x2048, .f32⟩
  | .hbm, ⟨11, _⟩ => ⟨S1408x2048, .f32⟩
  | .hbm, ⟨12, _⟩ => ⟨S1408x2048, .f32⟩
  | .hbm, ⟨13, _⟩ => ⟨S_, .f32⟩
  | .hbm, ⟨14, _⟩ => ⟨S1408x2048, .f32⟩
  | .hbm, ⟨15, _⟩ => ⟨S1408x2048, .f32⟩
  | .hbm, ⟨16, _⟩ => ⟨S_, .f32⟩
  | .hbm, ⟨17, _⟩ => ⟨S1408x2048, .f32⟩
  | .hbm, ⟨18, _⟩ => ⟨S1408x2048, .f32⟩
  | .hbm, ⟨19, _⟩ => ⟨S1408x2048, .f32⟩
  | .hbm, ⟨20, _⟩ => ⟨S_, .f32⟩
  | .hbm, ⟨21, _⟩ => ⟨S1408x2048, .f32⟩
  | .hbm, ⟨22, _⟩ => ⟨S1408x2048, .f32⟩
  | .hbm, ⟨23, _⟩ => ⟨S1408x2048, .f32⟩
  | .hbm, ⟨24, _⟩ => ⟨S_, .f32⟩
  | .hbm, ⟨25, _⟩ => ⟨S1408x2048, .f32⟩
  | .hbm, ⟨26, _⟩ => ⟨S1408x2048, .f32⟩
  | .hbm, ⟨27, _⟩ => ⟨S1408x2048, .f32⟩
  | .hbm, ⟨28, _⟩ => ⟨S_, .f32⟩
  | .hbm, ⟨29, _⟩ => ⟨S1408x2048, .f32⟩
  | .hbm, ⟨30, _⟩ => ⟨S1408x2048, .f32⟩
  | .hbm, ⟨31, _⟩ => ⟨S_, .f32⟩
  | .hbm, ⟨32, _⟩ => ⟨S1408x2048, .f32⟩
  | .hbm, ⟨33, _⟩ => ⟨S1408x2048, .f32⟩
  | .hbm, ⟨34, _⟩ => ⟨S1408x2048, .f32⟩
  | .hbm, ⟨35, _⟩ => ⟨S_, .f32⟩
  | .hbm, ⟨36, _⟩ => ⟨S1408x2048, .f32⟩
  | .hbm, ⟨37, _⟩ => ⟨S1408x2048, .f32⟩
  | .hbm, ⟨38, _⟩ => ⟨S1408x2048, .f32⟩
  | .hbm, ⟨39, _⟩ => ⟨S_, .f32⟩
  | .hbm, ⟨40, _⟩ => ⟨S1408x2048, .f32⟩
  | .hbm, ⟨41, _⟩ => ⟨S1408x2048, .f32⟩
  | .hbm, ⟨42, _⟩ => ⟨S1408x2048, .f32⟩
  | .hbm, ⟨43, _⟩ => ⟨S_, .f32⟩
  | .hbm, ⟨44, _⟩ => ⟨S1408x2048, .f32⟩
  | .hbm, ⟨45, _⟩ => ⟨S1408x2048, .f32⟩
  | _, _ => ⟨S1408x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_3 : Ref sig .tc := ⟨.hbm, 28, rfl⟩
abbrev main_v17 : Ref sig .tc := ⟨.hbm, 29, rfl⟩
abbrev main_v18 : Ref sig .tc := ⟨.hbm, 30, rfl⟩
abbrev main_cst_4 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_5 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_6 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_7 : Ref sig .tc := ⟨.hbm, 43, rfl⟩
abbrev main_v28 : Ref sig .tc := ⟨.hbm, 44, rfl⟩
abbrev main_v29 : Ref sig .tc := ⟨.hbm, 45, rfl⟩

abbrev nD : Nat := 1
abbrev τ : Topo := Topo.v7x

variable {F : FTy → Type} [FloatOps F]
-- ==== AdSmall.lean ====
abbrev S280x128 : Shape := ⟨2, ![280, 128]⟩
abbrev S56x128 : Shape := ⟨2, ![56, 128]⟩

abbrev nBuf : Space → Nat
  | .hbm => 7
  | .vmem => 14
  | .smem => 0
  | _ => 0

abbrev bufTy : (tb : Table) → Fin (tcTables nBuf tb) → BufTy
  | .hbm, ⟨0, _⟩ => ⟨S280x128, .f32⟩
  | .hbm, ⟨1, _⟩ => ⟨S280x128, .f32⟩
  | .hbm, ⟨2, _⟩ => ⟨S280x128, .f32⟩
  | .hbm, ⟨3, _⟩ => ⟨S280x128, .f32⟩
  | .hbm, ⟨4, _⟩ => ⟨S280x128, .f32⟩
  | .hbm, ⟨5, _⟩ => ⟨S280x128, .f32⟩
  | .hbm, ⟨6, _⟩ => ⟨S280x128, .f32⟩
  | .local _ .vmem, ⟨0, _⟩ => ⟨S56x128, .f32⟩
  | .local _ .vmem, ⟨1, _⟩ => ⟨S56x128, .f32⟩
  | .local _ .vmem, ⟨2, _⟩ => ⟨S56x128, .f32⟩
  | .local _ .vmem, ⟨3, _⟩ => ⟨S56x128, .f32⟩
  | .local _ .vmem, ⟨4, _⟩ => ⟨S56x128, .f32⟩
  | .local _ .vmem, ⟨5, _⟩ => ⟨S56x128, .f32⟩
  | .local _ .vmem, ⟨6, _⟩ => ⟨S56x128, .f32⟩
  | .local _ .vmem, ⟨7, _⟩ => ⟨S56x128, .f32⟩
  | .local _ .vmem, ⟨8, _⟩ => ⟨S56x128, .f32⟩
  | .local _ .vmem, ⟨9, _⟩ => ⟨S56x128, .f32⟩
  | .local _ .vmem, ⟨10, _⟩ => ⟨S56x128, .f32⟩
  | .local _ .vmem, ⟨11, _⟩ => ⟨S56x128, .f32⟩
  | .local _ .vmem, ⟨12, _⟩ => ⟨S56x128, .f32⟩
  | .local _ .vmem, ⟨13, _⟩ => ⟨S56x128, .f32⟩
  | _, _ => ⟨S280x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S56x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S56x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S56x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S56x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S56x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S56x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S56x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdSmallReferenceIdeal.lean ====
abbrev S280x128 : Shape := ⟨2, ![280, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S280x128, .f32⟩
  | .hbm, ⟨1, _⟩ => ⟨S280x128, .f32⟩
  | .hbm, ⟨2, _⟩ => ⟨S280x128, .f32⟩
  | .hbm, ⟨3, _⟩ => ⟨S280x128, .f32⟩
  | .hbm, ⟨4, _⟩ => ⟨S_, .f32⟩
  | .hbm, ⟨5, _⟩ => ⟨S280x128, .f32⟩
  | .hbm, ⟨6, _⟩ => ⟨S280x128, .f32⟩
  | .hbm, ⟨7, _⟩ => ⟨S_, .f32⟩
  | .hbm, ⟨8, _⟩ => ⟨S280x128, .f32⟩
  | .hbm, ⟨9, _⟩ => ⟨S280x128, .f32⟩
  | .hbm, ⟨10, _⟩ => ⟨S280x128, .f32⟩
  | .hbm, ⟨11, _⟩ => ⟨S_, .f32⟩
  | .hbm, ⟨12, _⟩ => ⟨S280x128, .f32⟩
  | .hbm, ⟨13, _⟩ => ⟨S280x128, .f32⟩
  | .hbm, ⟨14, _⟩ => ⟨S280x128, .f32⟩
  | .hbm, ⟨15, _⟩ => ⟨S_, .f32⟩
  | .hbm, ⟨16, _⟩ => ⟨S280x128, .f32⟩
  | .hbm, ⟨17, _⟩ => ⟨S280x128, .f32⟩
  | .hbm, ⟨18, _⟩ => ⟨S280x128, .f32⟩
  | .hbm, ⟨19, _⟩ => ⟨S_, .f32⟩
  | .hbm, ⟨20, _⟩ => ⟨S280x128, .f32⟩
  | .hbm, ⟨21, _⟩ => ⟨S280x128, .f32⟩
  | .hbm, ⟨22, _⟩ => ⟨S_, .f32⟩
  | .hbm, ⟨23, _⟩ => ⟨S280x128, .f32⟩
  | .hbm, ⟨24, _⟩ => ⟨S280x128, .f32⟩
  | .hbm, ⟨25, _⟩ => ⟨S280x128, .f32⟩
  | .hbm, ⟨26, _⟩ => ⟨S_, .f32⟩
  | .hbm, ⟨27, _⟩ => ⟨S280x128, .f32⟩
  | .hbm, ⟨28, _⟩ => ⟨S280x128, .f32⟩
  | .hbm, ⟨29, _⟩ => ⟨S280x128, .f32⟩
  | .hbm, ⟨30, _⟩ => ⟨S_, .f32⟩
  | .hbm, ⟨31, _⟩ => ⟨S280x128, .f32⟩
  | .hbm, ⟨32, _⟩ => ⟨S280x128, .f32⟩
  | .hbm, ⟨33, _⟩ => ⟨S280x128, .f32⟩
  | .hbm, ⟨34, _⟩ => ⟨S_, .f32⟩
  | .hbm, ⟨35, _⟩ => ⟨S280x128, .f32⟩
  | .hbm, ⟨36, _⟩ => ⟨S280x128, .f32⟩
  | _, _ => ⟨S280x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Rpre.lean ====
abbrev S4096x2048 : Shape := ⟨2, ![4096, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 3
  | .vmem => 5
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S4096x2048, .bf16⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .bf16⟩
  | .local _ .vmem, ⟨4, _⟩ => ⟨S256x2048, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== RpreReferenceIdeal.lean ====
abbrev S4096x2048 : Shape := ⟨2, ![4096, 2048]⟩
abbrev S1x2048 : Shape := ⟨2, ![1, 2048]⟩
abbrev S_ : Shape := ⟨0, ![]⟩
abbrev S4096 : Shape := ⟨1, ![4096]⟩
abbrev S4096x1 : Shape := ⟨2, ![4096, 1]⟩

abbrev nBuf : Space → Nat
  | .hbm => 18
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S4096x2048, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S_, .f32⟩
  | .hbm, ⟨7, _⟩ => ⟨S4096x1, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S4096x1, .f32⟩
  | .hbm, ⟨13, _⟩ => ⟨S4096x2048, .f32⟩
  | .hbm, ⟨14, _⟩ => ⟨S4096x2048, .f32⟩
  | .hbm, ⟨15, _⟩ => ⟨S4096x2048, .f32⟩
  | .hbm, ⟨16, _⟩ => ⟨S4096x2048, .f32⟩
  | .hbm, ⟨17, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Rpost.lean ====
abbrev S4096x2048 : Shape := ⟨2, ![4096, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 4
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S4096x2048, .f32⟩
  | .hbm, ⟨3, _⟩ => ⟨S4096x2048, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== RpostReferenceIdeal.lean ====
abbrev S4096x2048 : Shape := ⟨2, ![4096, 2048]⟩
abbrev S1x2048 : Shape := ⟨2, ![1, 2048]⟩
abbrev S_ : Shape := ⟨0, ![]⟩
abbrev S4096 : Shape := ⟨1, ![4096]⟩
abbrev S4096x1 : Shape := ⟨2, ![4096, 1]⟩

abbrev nBuf : Space → Nat
  | .hbm => 19
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S4096x2048, .f32⟩
  | .hbm, ⟨3, _⟩ => ⟨S4096x2048, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x2048, .f32⟩
  | .hbm, ⟨15, _⟩ => ⟨S4096x2048, .f32⟩
  | .hbm, ⟨16, _⟩ => ⟨S4096x2048, .f32⟩
  | .hbm, ⟨17, _⟩ => ⟨S4096x2048, .f32⟩
  | .hbm, ⟨18, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩

abbrev nD : Nat := 1
abbrev τ : Topo := Topo.v7x

variable {F : FTy → Type} [FloatOps F]
-- ==== Bpre.lean ====
abbrev S4096x2048 : Shape := ⟨2, ![4096, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩
abbrev S2048 : Shape := ⟨1, ![2048]⟩

abbrev nBuf : Space → Nat
  | .hbm => 6
  | .vmem => 10
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S4096x2048, .f32⟩
  | .hbm, ⟨3, _⟩ => ⟨S4096x2048, .f32⟩
  | .hbm, ⟨4, _⟩ => ⟨S4096x2048, .f32⟩
  | .hbm, ⟨5, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S1x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== BpreReferenceIdeal.lean ====
abbrev S4096x2048 : Shape := ⟨2, ![4096, 2048]⟩
abbrev S1x2048 : Shape := ⟨2, ![1, 2048]⟩
abbrev S_ : Shape := ⟨0, ![]⟩
abbrev S4096 : Shape := ⟨1, ![4096]⟩
abbrev S4096x1 : Shape := ⟨2, ![4096, 1]⟩
abbrev S2048 : Shape := ⟨1, ![2048]⟩

abbrev nBuf : Space → Nat
  | .hbm => 47
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S4096x2048, .f32⟩
  | .hbm, ⟨3, _⟩ => ⟨S4096x2048, .f32⟩
  | .hbm, ⟨4, _⟩ => ⟨S4096x2048, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x2048, .f32⟩
  | .hbm, ⟨20, _⟩ => ⟨S4096x2048, .f32⟩
  | .hbm, ⟨21, _⟩ => ⟨S4096x2048, .f32⟩
  | .hbm, ⟨22, _⟩ => ⟨S4096x2048, .f32⟩
  | .hbm, ⟨23, _⟩ => ⟨S4096x2048, .f32⟩
  | .hbm, ⟨24, _⟩ => ⟨S_, .f32⟩
  | .hbm, ⟨25, _⟩ => ⟨S2048, .f32⟩
  | .hbm, ⟨26, _⟩ => ⟨S1x2048, .f32⟩
  | .hbm, ⟨27, _⟩ => ⟨S4096x2048, .f32⟩
  | .hbm, ⟨28, _⟩ => ⟨S4096x2048, .f32⟩
  | .hbm, ⟨29, _⟩ => ⟨S4096x2048, .f32⟩
  | .hbm, ⟨30, _⟩ => ⟨S_, .f32⟩
  | .hbm, ⟨31, _⟩ => ⟨S4096, .f32⟩
  | .hbm, ⟨32, _⟩ => ⟨S4096x1, .f32⟩
  | .hbm, ⟨33, _⟩ => ⟨S4096x2048, .f32⟩
  | .hbm, ⟨34, _⟩ => ⟨S4096x2048, .f32⟩
  | .hbm, ⟨35, _⟩ => ⟨S4096x2048, .f32⟩
  | .hbm, ⟨36, _⟩ => ⟨S4096x1, .f32⟩
  | .hbm, ⟨37, _⟩ => ⟨S_, .f32⟩
  | .hbm, ⟨38, _⟩ => ⟨S4096x1, .f32⟩
  | .hbm, ⟨39, _⟩ => ⟨S4096x1, .f32⟩
  | .hbm, ⟨40, _⟩ => ⟨S_, .f32⟩
  | .hbm, ⟨41, _⟩ => ⟨S4096, .f32⟩
  | .hbm, ⟨42, _⟩ => ⟨S4096x2048, .f32⟩
  | .hbm, ⟨43, _⟩ => ⟨S4096x2048, .f32⟩
  | .hbm, ⟨44, _⟩ => ⟨S4096x2048, .f32⟩
  | .hbm, ⟨45, _⟩ => ⟨S4096x2048, .f32⟩
  | .hbm, ⟨46, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_5 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩

abbrev nD : Nat := 1
abbrev τ : Topo := Topo.v7x

variable {F : FTy → Type} [FloatOps F]
-- ==== Bpost.lean ====
abbrev S4096x2048 : Shape := ⟨2, ![4096, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩
abbrev S2048 : Shape := ⟨1, ![2048]⟩

abbrev nBuf : Space → Nat
  | .hbm => 5
  | .vmem => 8
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S4096x2048, .f32⟩
  | .hbm, ⟨3, _⟩ => ⟨S4096x2048, .bf16⟩
  | .hbm, ⟨4, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .bf16⟩
  | .local _ .vmem, ⟨6, _⟩ => ⟨S256x2048, .bf16⟩
  | .local _ .vmem, ⟨7, _⟩ => ⟨S1x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== BpostReferenceIdeal.lean ====
abbrev S4096x2048 : Shape := ⟨2, ![4096, 2048]⟩
abbrev S1x2048 : Shape := ⟨2, ![1, 2048]⟩
abbrev S_ : Shape := ⟨0, ![]⟩
abbrev S4096 : Shape := ⟨1, ![4096]⟩
abbrev S4096x1 : Shape := ⟨2, ![4096, 1]⟩
abbrev S2048 : Shape := ⟨1, ![2048]⟩

abbrev nBuf : Space → Nat
  | .hbm => 46
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S4096x2048, .f32⟩
  | .hbm, ⟨3, _⟩ => ⟨S4096x2048, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x2048, .f32⟩
  | .hbm, ⟨19, _⟩ => ⟨S4096x2048, .f32⟩
  | .hbm, ⟨20, _⟩ => ⟨S4096x2048, .f32⟩
  | .hbm, ⟨21, _⟩ => ⟨S4096x2048, .f32⟩
  | .hbm, ⟨22, _⟩ => ⟨S4096x2048, .f32⟩
  | .hbm, ⟨23, _⟩ => ⟨S_, .f32⟩
  | .hbm, ⟨24, _⟩ => ⟨S2048, .f32⟩
  | .hbm, ⟨25, _⟩ => ⟨S1x2048, .f32⟩
  | .hbm, ⟨26, _⟩ => ⟨S4096x2048, .f32⟩
  | .hbm, ⟨27, _⟩ => ⟨S4096x2048, .f32⟩
  | .hbm, ⟨28, _⟩ => ⟨S4096x2048, .f32⟩
  | .hbm, ⟨29, _⟩ => ⟨S_, .f32⟩
  | .hbm, ⟨30, _⟩ => ⟨S4096, .f32⟩
  | .hbm, ⟨31, _⟩ => ⟨S4096x1, .f32⟩
  | .hbm, ⟨32, _⟩ => ⟨S4096x2048, .f32⟩
  | .hbm, ⟨33, _⟩ => ⟨S4096x2048, .f32⟩
  | .hbm, ⟨34, _⟩ => ⟨S4096x1, .f32⟩
  | .hbm, ⟨35, _⟩ => ⟨S_, .f32⟩
  | .hbm, ⟨36, _⟩ => ⟨S4096x1, .f32⟩
  | .hbm, ⟨37, _⟩ => ⟨S4096x1, .f32⟩
  | .hbm, ⟨38, _⟩ => ⟨S_, .f32⟩
  | .hbm, ⟨39, _⟩ => ⟨S4096, .f32⟩
  | .hbm, ⟨40, _⟩ => ⟨S4096x2048, .f32⟩
  | .hbm, ⟨41, _⟩ => ⟨S4096x2048, .f32⟩
  | .hbm, ⟨42, _⟩ => ⟨S4096x2048, .f32⟩
  | .hbm, ⟨43, _⟩ => ⟨S4096x2048, .f32⟩
  | .hbm, ⟨44, _⟩ => ⟨S4096x2048, .f32⟩
  | .hbm, ⟨45, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_3 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_5 : Ref sig .tc := ⟨.hbm, 35, rfl⟩
abbrev main_v26 : Ref sig .tc := ⟨.hbm, 36, rfl⟩
abbrev main_v27 : Ref sig .tc := ⟨.hbm, 37, rfl⟩
abbrev main_cst_6 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩

abbrev nD : Nat := 1
abbrev τ : Topo := Topo.v7x

variable {F : FTy → Type} [FloatOps F]
-- ==== Lhead.lean ====
abbrev S4096x2048 : Shape := ⟨2, ![4096, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩
abbrev S2048 : Shape := ⟨1, ![2048]⟩

abbrev nBuf : Space → Nat
  | .hbm => 8
  | .vmem => 13
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S4096x2048, .f32⟩
  | .hbm, ⟨3, _⟩ => ⟨S4096x2048, .f32⟩
  | .hbm, ⟨4, _⟩ => ⟨S4096x2048, .f32⟩
  | .hbm, ⟨5, _⟩ => ⟨S4096x2048, .bf16⟩
  | .hbm, ⟨6, _⟩ => ⟨S1x2048, .f32⟩
  | .hbm, ⟨7, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .bf16⟩
  | .local _ .vmem, ⟨10, _⟩ => ⟨S256x2048, .bf16⟩
  | .local _ .vmem, ⟨11, _⟩ => ⟨S1x2048, .f32⟩
  | .local _ .vmem, ⟨12, _⟩ => ⟨S1x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== LheadReferenceIdeal.lean ====
abbrev S4096x2048 : Shape := ⟨2, ![4096, 2048]⟩
abbrev S1x2048 : Shape := ⟨2, ![1, 2048]⟩
abbrev S_ : Shape := ⟨0, ![]⟩
abbrev S4096 : Shape := ⟨1, ![4096]⟩
abbrev S4096x1 : Shape := ⟨2, ![4096, 1]⟩
abbrev S2048 : Shape := ⟨1, ![2048]⟩

abbrev nBuf : Space → Nat
  | .hbm => 92
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S4096x2048, .f32⟩
  | .hbm, ⟨3, _⟩ => ⟨S4096x2048, .f32⟩
  | .hbm, ⟨4, _⟩ => ⟨S4096x2048, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x2048, .f32⟩
  | .hbm, ⟨20, _⟩ => ⟨S4096x2048, .f32⟩
  | .hbm, ⟨21, _⟩ => ⟨S4096x2048, .f32⟩
  | .hbm, ⟨22, _⟩ => ⟨S4096x2048, .f32⟩
  | .hbm, ⟨23, _⟩ => ⟨S4096x2048, .f32⟩
  | .hbm, ⟨24, _⟩ => ⟨S4096x2048, .f32⟩
  | .hbm, ⟨25, _⟩ => ⟨S4096x2048, .f32⟩
  | .hbm, ⟨26, _⟩ => ⟨S_, .f32⟩
  | .hbm, ⟨27, _⟩ => ⟨S4096x2048, .f32⟩
  | .hbm, ⟨28, _⟩ => ⟨S4096x2048, .f32⟩
  | .hbm, ⟨29, _⟩ => ⟨S_, .f32⟩
  | .hbm, ⟨30, _⟩ => ⟨S4096, .f32⟩
  | .hbm, ⟨31, _⟩ => ⟨S_, .f32⟩
  | .hbm, ⟨32, _⟩ => ⟨S4096, .f32⟩
  | .hbm, ⟨33, _⟩ => ⟨S4096, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S4096, .f32⟩
  | .hbm, ⟨42, _⟩ => ⟨S_, .f32⟩
  | .hbm, ⟨43, _⟩ => ⟨S4096, .f32⟩
  | .hbm, ⟨44, _⟩ => ⟨S4096, .f32⟩
  | .hbm, ⟨45, _⟩ => ⟨S4096x2048, .f32⟩
  | .hbm, ⟨46, _⟩ => ⟨S4096x2048, .f32⟩
  | .hbm, ⟨47, _⟩ => ⟨S4096x2048, .f32⟩
  | .hbm, ⟨48, _⟩ => ⟨S_, .f32⟩
  | .hbm, ⟨49, _⟩ => ⟨S2048, .f32⟩
  | .hbm, ⟨50, _⟩ => ⟨S1x2048, .f32⟩
  | .hbm, ⟨51, _⟩ => ⟨S4096x2048, .f32⟩
  | .hbm, ⟨52, _⟩ => ⟨S4096x2048, .f32⟩
  | .hbm, ⟨53, _⟩ => ⟨S4096x2048, .f32⟩
  | .hbm, ⟨54, _⟩ => ⟨S_, .f32⟩
  | .hbm, ⟨55, _⟩ => ⟨S4096, .f32⟩
  | .hbm, ⟨56, _⟩ => ⟨S4096x1, .f32⟩
  | .hbm, ⟨57, _⟩ => ⟨S4096x2048, .f32⟩
  | .hbm, ⟨58, _⟩ => ⟨S4096x2048, .f32⟩
  | .hbm, ⟨59, _⟩ => ⟨S4096x1, .f32⟩
  | .hbm, ⟨60, _⟩ => ⟨S_, .f32⟩
  | .hbm, ⟨61, _⟩ => ⟨S4096x1, .f32⟩
  | .hbm, ⟨62, _⟩ => ⟨S4096x1, .f32⟩
  | .hbm, ⟨63, _⟩ => ⟨S_, .f32⟩
  | .hbm, ⟨64, _⟩ => ⟨S4096, .f32⟩
  | .hbm, ⟨65, _⟩ => ⟨S4096x2048, .f32⟩
  | .hbm, ⟨66, _⟩ => ⟨S4096x2048, .f32⟩
  | .hbm, ⟨67, _⟩ => ⟨S4096x2048, .f32⟩
  | .hbm, ⟨68, _⟩ => ⟨S4096x2048, .f32⟩
  | .hbm, ⟨69, _⟩ => ⟨S4096x2048, .f32⟩
  | .hbm, ⟨70, _⟩ => ⟨S4096x2048, .bf16⟩
  | .hbm, ⟨71, _⟩ => ⟨S4096x2048, .f32⟩
  | .hbm, ⟨72, _⟩ => ⟨S_, .f32⟩
  | .hbm, ⟨73, _⟩ => ⟨S4096, .f32⟩
  | .hbm, ⟨74, _⟩ => ⟨S4096x1, .f32⟩
  | .hbm, ⟨75, _⟩ => ⟨S_, .f32⟩
  | .hbm, ⟨76, _⟩ => ⟨S4096x1, .f32⟩
  | .hbm, ⟨77, _⟩ => ⟨S4096x1, .f32⟩
  | .hbm, ⟨78, _⟩ => ⟨S_, .f32⟩
  | .hbm, ⟨79, _⟩ => ⟨S4096x1, .f32⟩
  | .hbm, ⟨80, _⟩ => ⟨S4096x1, .f32⟩
  | .hbm, ⟨81, _⟩ => ⟨S4096x1, .f32⟩
  | .hbm, ⟨82, _⟩ => ⟨S4096x2048, .f32⟩
  | .hbm, ⟨83, _⟩ => ⟨S4096x2048, .f32⟩
  | .hbm, ⟨84, _⟩ => ⟨S4096x2048, .f32⟩
  | .hbm, ⟨85, _⟩ => ⟨S4096x2048, .f32⟩
  | .hbm, ⟨86, _⟩ => ⟨S4096x2048, .f32⟩
  | .hbm, ⟨87, _⟩ => ⟨S4096x2048, .f32⟩
  | .hbm, ⟨88, _⟩ => ⟨S4096x2048, .f32⟩
  | .hbm, ⟨89, _⟩ => ⟨S_, .f32⟩
  | .hbm, ⟨90, _⟩ => ⟨S2048, .f32⟩
  | .hbm, ⟨91, _⟩ => ⟨S1x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_cst_4 : Ref sig .tc := ⟨.hbm, 29, rfl⟩
abbrev main_v20 : Ref sig .tc := ⟨.hbm, 30, rfl⟩
abbrev main_cst_5 : Ref sig .tc := ⟨.hbm, 31, rfl⟩
abbrev main_v21 : Ref sig .tc := ⟨.hbm, 32, rfl⟩
abbrev main_v22 : Ref sig .tc := ⟨.hbm, 33, rfl⟩
abbrev main_cst_6 : Ref sig .tc := ⟨.hbm, 34, rfl⟩
abbrev main_v23 : Ref sig .tc := ⟨.hbm, 35, rfl⟩
abbrev main_cst_7 : Ref sig .tc := ⟨.hbm, 36, rfl⟩
abbrev main_v24 : Ref sig .tc := ⟨.hbm, 37, rfl⟩
abbrev main_cst_8 : Ref sig .tc := ⟨.hbm, 38, rfl⟩
abbrev main_cst_9 : Ref sig .tc := ⟨.hbm, 39, rfl⟩
abbrev main_v25 : Ref sig .tc := ⟨.hbm, 40, rfl⟩
abbrev main_v26 : Ref sig .tc := ⟨.hbm, 41, rfl⟩
abbrev main_cst_10 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_11 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_12 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_13 : Ref sig .tc := ⟨.hbm, 60, rfl⟩
abbrev main_v42 : Ref sig .tc := ⟨.hbm, 61, rfl⟩
abbrev main_v43 : Ref sig .tc := ⟨.hbm, 62, rfl⟩
abbrev main_cst_14 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_cst_15 : Ref sig .tc := ⟨.hbm, 72, rfl⟩
abbrev main_v52 : Ref sig .tc := ⟨.hbm, 73, rfl⟩
abbrev main_v53 : Ref sig .tc := ⟨.hbm, 74, rfl⟩
abbrev main_cst_16 : Ref sig .tc := ⟨.hbm, 75, rfl⟩
abbrev main_v54 : Ref sig .tc := ⟨.hbm, 76, rfl⟩
abbrev main_v55 : Ref sig .tc := ⟨.hbm, 77, rfl⟩
abbrev main_cst_17 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_cst_18 : Ref sig .tc := ⟨.hbm, 89, rfl⟩
abbrev main_v66 : Ref sig .tc := ⟨.hbm, 90, rfl⟩
abbrev main_v67 : Ref sig .tc := ⟨.hbm, 91, rfl⟩

abbrev nD : Nat := 1
abbrev τ : Topo := Topo.v7x

variable {F : FTy → Type} [FloatOps F]
-- ==== Proof.Runs.lean ====
/- The conditions of the body, the points at which an output is idle, and the memrefs of a point. -/
module

public import proofs.«01_k».proof.Proof.Gen.KernelIdeal.Frame
public import proofs.«01_k».proof.Proof.Gen.KernelIdeal.Loops

@[expose] public section

set_option maxRecDepth 16384

noncomputable section

namespace Cert.KernelIdeal.Sb

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 1).val) 0#32)) 0#32) = 1#1
/-- It holds at the points ≡ 0 (mod 16) — by arithmetic of the point. -/
theorem hcond0_0 : ∀ t : Fin cfg0.N, cond0_0 (grid0.coords t) ↔ t.val % 16 = 0 :=
  (fun t => by
    have ht : t.val < 64 := Nat.lt_of_lt_of_eq t.isLt N_0
    have e0 : (grid0.coords t 0).val = t.val / 16 % 4 := Pipeline.Grid.coords_val t 0 (by decide) rfl
    have e1 : (grid0.coords t 1).val = t.val / 1 % 16 := Pipeline.Grid.coords_val t 1 (by decide) rfl
    simp only [cond0_0, e0, e1]
    word_cmp
   : ∀ t : Fin grid0.N, cond0_0 (grid0.coords t) ↔ t.val % 16 = 0)

/-- The condition of the body's `scf.if` 1 (`k0_h2`), from the grid coordinates (the skeleton's scalar
    chain substituted). -/
abbrev cond0_1 (i : grid0.Coords) : Prop := k0_cond2 i = 1#1
/-- It holds at the points ≡ 15 (mod 16) — by arithmetic of the point. -/
theorem hcond0_1 : ∀ t : Fin cfg0.N, cond0_1 (grid0.coords t) ↔ t.val % 16 = 15 :=
  (fun t => by
    have ht : t.val < 64 := Nat.lt_of_lt_of_eq t.isLt N_0
    have e0 : (grid0.coords t 0).val = t.val / 16 % 4 := Pipeline.Grid.coords_val t 0 (by decide) rfl
    have e1 : (grid0.coords t 1).val = t.val / 1 % 16 := Pipeline.Grid.coords_val t 1 (by decide) rfl
    simp only [cond0_1, k0_cond2, e0, e1]
    word_cmp
   : ∀ t : Fin grid0.N, cond0_1 (grid0.coords t) ↔ t.val % 16 = 15)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an output stored at every point, under no condition). -/
theorem liveAt0_6 : ∀ t : Fin cfg0.N, cfg0.idle 6 (grid0.coords t) = false := fun _ => rfl
/-- At the points of case A the printed configuration (`Cfg.idle`) calls output 7 idle: the case stores nothing into it. -/
theorem idleAt0_7_A : ∀ t : Fin cfg0.N, cond0_0 (grid0.coords t) → ¬cond0_1 (grid0.coords t) → cfg0.idle 7 (grid0.coords t) = true := by decide +kernel
/-- At the points of case A the pipeline does not write output 7's block back. -/
theorem noFlush0_7_A : ∀ t : Fin cfg0.N, cond0_0 (grid0.coords t) → ¬cond0_1 (grid0.coords t) → (cfg0.win 7).flush t = false := by decide +kernel
/-- At the points of case B the printed configuration (`Cfg.idle`) calls output 7 idle: the case stores nothing into it. -/
theorem idleAt0_7_B : ∀ t : Fin cfg0.N, ¬cond0_0 (grid0.coords t) → ¬cond0_1 (grid0.coords t) → cfg0.idle 7 (grid0.coords t) = true := by decide +kernel
/-- At the points of case B the pipeline does not write output 7's block back. -/
theorem noFlush0_7_B : ∀ t : Fin cfg0.N, ¬cond0_0 (grid0.coords t) → ¬cond0_1 (grid0.coords t) → (cfg0.win 7).flush t = false := by decide +kernel
/-- At the points of case C the printed configuration (`Cfg.idle`) calls output 7 live: the case stores into it. -/
theorem liveAt0_7_C : ∀ t : Fin cfg0.N, ¬cond0_0 (grid0.coords t) → cond0_1 (grid0.coords t) → cfg0.idle 7 (grid0.coords t) = false := by decide +kernel
/-- At the points of case A the printed configuration (`Cfg.idle`) calls output 8 idle: the case stores nothing into it. -/
theorem idleAt0_8_A : ∀ t : Fin cfg0.N, cond0_0 (grid0.coords t) → ¬cond0_1 (grid0.coords t) → cfg0.idle 8 (grid0.coords t) = true := by decide +kernel
/-- At the points of case A the pipeline does not write output 8's block back. -/
theorem noFlush0_8_A : ∀ t : Fin cfg0.N, cond0_0 (grid0.coords t) → ¬cond0_1 (grid0.coords t) → (cfg0.win 8).flush t = false := by decide +kernel
/-- At the points of case B the printed configuration (`Cfg.idle`) calls output 8 idle: the case stores nothing into it. -/
theorem idleAt0_8_B : ∀ t : Fin cfg0.N, ¬cond0_0 (grid0.coords t) → ¬cond0_1 (grid0.coords t) → cfg0.idle 8 (grid0.coords t) = true := by decide +kernel
/-- At the points of case B the pipeline does not write output 8's block back. -/
theorem noFlush0_8_B : ∀ t : Fin cfg0.N, ¬cond0_0 (grid0.coords t) → ¬cond0_1 (grid0.coords t) → (cfg0.win 8).flush t = false := by decide +kernel
/-- At the points of case C the printed configuration (`Cfg.idle`) calls output 8 live: the case stores into it. -/
theorem liveAt0_8_C : ∀ t : Fin cfg0.N, ¬cond0_0 (grid0.coords t) → cond0_1 (grid0.coords t) → cfg0.idle 8 (grid0.coords t) = false := by decide +kernel

/-! ## The kernel body on any staging memrefs: a subtype the run finds -/

/-- One staging buffer of output window 6, through which its contents are stated (`View.read_writes_of_cover`: the
    choice does not matter). -/
abbrev VO0_6 : View sig .tc .vmem S256x256 .bf16 := (Memref.whole cc0_stg6_0 : Memref sig .tc .vmem S256x256 .bf16).view
/-- One staging buffer of output window 7, through which its contents are stated (`View.read_writes_of_cover`: the
    choice does not matter). -/
abbrev VO0_7 : View sig .tc .vmem S4096x256 .bf16 := (Memref.whole cc0_stg7_0 : Memref sig .tc .vmem S4096x256 .bf16).view
/-- One staging buffer of output window 8, through which its contents are stated (`View.read_writes_of_cover`: the
    choice does not matter). -/
abbrev VO0_8 : View sig .tc .vmem S4096x256 .bf16 := (Memref.whole cc0_stg8_0 : Memref sig .tc .vmem S4096x256 .bf16).view
/-- Each window's current staging memref at point `t`, spelled as the pipeline passes it (`bodyAt0`), and its wholeness. -/
abbrev ms0_0 (t : Fin cfg0.N) : Memref sig .tc .vmem S256x256 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S4096x256 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S4096x256 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S256x256 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S256x256 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .smem S4x16 .i32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S256x256 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S4096x256 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S4096x256 .bf16 := win0_8.stage (cfg0.slots t 8)
abbrev hs0_8 (t : Fin cfg0.N) : (ms0_8 t).IsWhole := hstage0_8 ((cfg0.slots t 8).cast nbuf0_8)
/-- The scratch operands: whole scoped buffers of the kernel's own, passed beside the windows. -/
abbrev scM0_0 : Memref sig .tc .vmem S4096x256 .f32 := Memref.whole cc0_scratch0
abbrev scM0_1 : Memref sig .tc .vmem S4096x256 .f32 := Memref.whole cc0_scratch1
/-- The scratch `arg11` the kernel carries between points, as a view: what it holds is stated through it. -/
abbrev VS0_0 : View sig .tc .vmem S4096x256 .f32 := scM0_0.view
/-- The scratch `arg12` the kernel carries between points, as a view: what it holds is stated through it. -/
abbrev VS0_1 : View sig .tc .vmem S4096x256 .f32 := scM0_1.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

/-- The side condition of the body at the word it reads: the trips of its loops and the rows of their tiles. -/
abbrev Chk (i : grid0.Coords) (arg7 : Memref sig .tc .smem S4x16 .i32) (harg7 : arg7.IsWhole) (x5 : Vec F S4x16 .i32) : Prop :=
  ∀ x, k0_chk1 i ((arg7.access (Rect.unit (s := S4x16) (k0_off1 i) S1x1.size (k0_off1_inb i))).read (Elt F) (harg7.unread x5) x)

end Cert.KernelIdeal.Sb

end
-- ==== Proof.Word.lean ====
/- The word the body reads from its table, and its side condition there. -/
module

public import proofs.«01_k».proof.Proof.Runs
public import Idealize.ShloMosaic.Lib.Pipeline.ValueKit
public import Idealize.ShloMosaic.Lib.StableHlo.Run
public import Idealize.ShloMosaic.Lib.StableHlo.RunRead

@[expose] public section

set_option maxRecDepth 16384

noncomputable section

namespace Cert.KernelIdeal.Sb

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

variable (m : (ℓ : Loc nD τ sig) → Buf (Elt F) ℓ)

/-- The side condition holds at the word that names the query block itself: the loop sweeps every key block before it. -/
theorem chk_all : ∀ i : grid0.Coords, k0_chk1 i (BitVec.ofNat 32 (i 1).val) := by decide +kernel

/-- The table of swept blocks, as the host leaves it: the number of each query block. -/
theorem V_main_v26 (c : Dev nD) (j : S4x16.Idx) :
    V m c main_v26 j = BitVec.ofNat 32 (j 1).val := by
  show StableHlo.after _ _ _ _ = _
  simp only [hostOps0, hostOps0_1, hostOps0_2, hostOps0_3, hostOps0_4, List.flatten_cons, List.flatten_nil, List.append_nil, List.cons_append, List.nil_append]
  after_reads_simp
  rfl

/-- A word of the table's block at a point is that word of the table. -/
theorem iblk5 (c : Dev nD) (t : Fin cfg0.N) (j : S4x16.Idx) : iblk m c 5 t j = BitVec.ofNat 32 (j 1).val := by
  unfold iblk
  rw [View.read_apply, cast_eq]
  refine (V_main_v26 m c _).trans (congrArg (BitVec.ofNat 32) ?_)
  have e : ∀ t : Fin cfg0.N, win0_5.index t = ![0, 0] := (by decide +kernel : ∀ t : Fin grid0.N, _)
  blk_simp [e]

theorem off1_val (t : Fin cfg0.N) : k0_off1 (grid0.coords t) 1 = ((grid0.coords t) 1).val :=
  (by decide +kernel : ∀ i : grid0.Coords, k0_off1 i 1 = (i 1).val) _

/-- The word a point reads names its query block. -/
theorem word_eq (c : Dev nD) (t : Fin cfg0.N) (x) :
    ((ms0_5 t).access (Rect.unit (s := S4x16) (k0_off1 (grid0.coords t)) S1x1.size (k0_off1_inb (grid0.coords t)))).read (Elt F) ((hs0_5 t).unread (iblk m c 5 t)) x
      = BitVec.ofNat 32 ((grid0.coords t) 1).val := by
  refine (congrFun ((hs0_5 t).read_unread (iblk m c 5 t)) ((Rect.unit (s := S4x16) (k0_off1 (grid0.coords t)) S1x1.size (k0_off1_inb (grid0.coords t))).emb x)).trans ?_
  refine (iblk5 m c t _).trans (congrArg (BitVec.ofNat 32) ?_)
  rw [ValueKit.rect_emb_unit_val, off1_val]
  have : (x 1).val < 1 := (x 1).isLt
  omega

/-- So the side condition holds at every point. -/
theorem chkAt (c : Dev nD) (t : Fin cfg0.N) : Chk (grid0.coords t) (ms0_5 t) (hs0_5 t) (iblk m c 5 t) := fun x => by
  rw [word_eq]; exact chk_all _

end Cert.KernelIdeal.Sb

end
-- ==== Proof.RunA.lean ====
/- The run of the body in case A. -/
module

public import proofs.«01_k».proof.Proof.Runs

@[expose] public section

set_option maxRecDepth 16384

noncomputable section

namespace Cert.KernelIdeal.Sb

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

-- (the proof is long)
set_option maxHeartbeats 1000000 in
noncomputable def bodyRunA (c : Dev nD) (i : grid0.Coords) (arg2 : Memref sig .tc .vmem S256x256 .bf16) (harg2 : arg2.IsWhole) (arg3 : Memref sig .tc .vmem S4096x256 .bf16) (harg3 : arg3.IsWhole) (arg4 : Memref sig .tc .vmem S4096x256 .bf16) (harg4 : arg4.IsWhole) (arg5 : Memref sig .tc .vmem S256x256 .f32) (harg5 : arg5.IsWhole) (arg6 : Memref sig .tc .vmem S256x256 .f32) (harg6 : arg6.IsWhole) (arg7 : Memref sig .tc .smem S4x16 .i32) (harg7 : arg7.IsWhole) (arg8 : Memref sig .tc .vmem S256x256 .bf16) (harg8 : arg8.IsWhole) (arg9 : Memref sig .tc .vmem S4096x256 .bf16) (harg9 : arg9.IsWhole) (arg10 : Memref sig .tc .vmem S4096x256 .bf16) (harg10 : arg10.IsWhole) (arg11 : Memref sig .tc .vmem S4096x256 .f32) (harg11 : arg11.IsWhole) (arg12 : Memref sig .tc .vmem S4096x256 .f32) (harg12 : arg12.IsWhole) (hc0 : cond0_0 i) (hc1 : ¬cond0_1 i)
    (x0 : Vec F S256x256 .bf16) (x1 : Vec F S4096x256 .bf16) (x2 : Vec F S4096x256 .bf16) (x3 : Vec F S256x256 .f32) (x4 : Vec F S256x256 .f32) (x5 : Vec F S4x16 .i32) (hk : ∀ x, k0_chk1 i ((arg7.access (Rect.unit (s := S4x16) (k0_off1 i) S1x1.size (k0_off1_inb i))).read (Elt F) (harg7.unread x5) x)) :
    Σ' (L6 : List (View.Piece (Elt F) S256x256 .bf16)), Σ' (L7 : List (View.Piece (Elt F) S4096x256 .bf16)), Σ' (L8 : List (View.Piece (Elt F) S4096x256 .bf16)), Σ' (LS0 : List (View.Piece (Elt F) S4096x256 .f32)), { LS1 : List (View.Piece (Elt F) S4096x256 .f32) //
      ∀ (xi7 : Vec F S4096x256 .bf16) (xi8 : Vec F S4096x256 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xi7 ∗ owns (c : Thread nD τ) arg10 fullShare xi8 ∗ (∃ d, owns (c : Thread nD τ) arg11 fullShare d) ∗ (∃ d, owns (c : Thread nD τ) arg12 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ owns (c : Thread nD τ) arg9 fullShare xi7 ∗ owns (c : Thread nD τ) arg10 fullShare xi8 ∗ (∃ f, arg11.view.loc (c : Thread nD τ) ↦[arg11.view.set]{fullShare} arg11.view.writes (Elt F) f LS0) ∗ (∃ f, arg12.view.loc (c : Thread nD τ) ↦[arg12.view.set]{fullShare} arg12.view.writes (Elt F) f LS1)) -∗ K ⟨⟩))
          ⊢ wp frame (wpE (defs₀ (F := F)) Variants.none c none) E (cc0_sb_bwd i arg2 harg2 arg3 harg3 arg4 harg4 arg5 harg5 arg6 harg6 arg7 harg7 arg8 harg8 arg9 harg9 arg10 harg10 arg11 harg11 arg12 harg12) K } := by
  refine ⟨?_, [], [], ?_, ?_, fun xi7 xi8 E K => ?run⟩
  case run =>
    simp only [cc0_sb_bwd_eq_skeleton]; unfold cc0_sb_bwd_skel
    simp only [k0_part11_eq_skeleton, k0_part7_eq_skeleton, k0_part8_eq_skeleton, k0_part9_eq_skeleton, k0_part10_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hf7; obtain rfl := harg10.eq_unread hf8
    sl_exec (disch := first | sl_exact hc0 | sl_exact hc1 | sl_exact (hk _))
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [H7]
    · iexists _; isplitr; · ipureintro; exact harg9.read_unread _
      iexact H7
    isplitl [H8]
    · iexists _; isplitr; · ipureintro; exact harg10.read_unread _
      iexact H8
    isplitl [HS0]; · iexists _; iexact HS0
    iexists _; iexact HS1

end Cert.KernelIdeal.Sb

end
-- ==== Proof.RunB.lean ====
/- The run of the body in case B. -/
module

public import proofs.«01_k».proof.Proof.RunA

@[expose] public section

set_option maxRecDepth 16384

noncomputable section

namespace Cert.KernelIdeal.Sb

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

-- (the proof is long)
set_option maxHeartbeats 1000000 in
noncomputable def bodyRunB (c : Dev nD) (i : grid0.Coords) (arg2 : Memref sig .tc .vmem S256x256 .bf16) (harg2 : arg2.IsWhole) (arg3 : Memref sig .tc .vmem S4096x256 .bf16) (harg3 : arg3.IsWhole) (arg4 : Memref sig .tc .vmem S4096x256 .bf16) (harg4 : arg4.IsWhole) (arg5 : Memref sig .tc .vmem S256x256 .f32) (harg5 : arg5.IsWhole) (arg6 : Memref sig .tc .vmem S256x256 .f32) (harg6 : arg6.IsWhole) (arg7 : Memref sig .tc .smem S4x16 .i32) (harg7 : arg7.IsWhole) (arg8 : Memref sig .tc .vmem S256x256 .bf16) (harg8 : arg8.IsWhole) (arg9 : Memref sig .tc .vmem S4096x256 .bf16) (harg9 : arg9.IsWhole) (arg10 : Memref sig .tc .vmem S4096x256 .bf16) (harg10 : arg10.IsWhole) (arg11 : Memref sig .tc .vmem S4096x256 .f32) (harg11 : arg11.IsWhole) (arg12 : Memref sig .tc .vmem S4096x256 .f32) (harg12 : arg12.IsWhole) (hc0 : ¬cond0_0 i) (hc1 : ¬cond0_1 i)
    (x0 : Vec F S256x256 .bf16) (x1 : Vec F S4096x256 .bf16) (x2 : Vec F S4096x256 .bf16) (x3 : Vec F S256x256 .f32) (x4 : Vec F S256x256 .f32) (x5 : Vec F S4x16 .i32) (hk : ∀ x, k0_chk1 i ((arg7.access (Rect.unit (s := S4x16) (k0_off1 i) S1x1.size (k0_off1_inb i))).read (Elt F) (harg7.unread x5) x)) (xs0 : Vec F S4096x256 .f32) (xs1 : Vec F S4096x256 .f32) :
    Σ' (L6 : List (View.Piece (Elt F) S256x256 .bf16)), Σ' (L7 : List (View.Piece (Elt F) S4096x256 .bf16)), Σ' (L8 : List (View.Piece (Elt F) S4096x256 .bf16)), Σ' (LS0 : List (View.Piece (Elt F) S4096x256 .f32)), { LS1 : List (View.Piece (Elt F) S4096x256 .f32) //
      ∀ (xi7 : Vec F S4096x256 .bf16) (xi8 : Vec F S4096x256 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xi7 ∗ owns (c : Thread nD τ) arg10 fullShare xi8 ∗ owns (c : Thread nD τ) arg11 fullShare xs0 ∗ owns (c : Thread nD τ) arg12 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ owns (c : Thread nD τ) arg9 fullShare xi7 ∗ owns (c : Thread nD τ) arg10 fullShare xi8 ∗ (arg11.view.loc (c : Thread nD τ) ↦[arg11.view.set]{fullShare} arg11.view.writes (Elt F) (harg11.unread xs0) LS0) ∗ (arg12.view.loc (c : Thread nD τ) ↦[arg12.view.set]{fullShare} arg12.view.writes (Elt F) (harg12.unread xs1) LS1)) -∗ K ⟨⟩))
          ⊢ wp frame (wpE (defs₀ (F := F)) Variants.none c none) E (cc0_sb_bwd i arg2 harg2 arg3 harg3 arg4 harg4 arg5 harg5 arg6 harg6 arg7 harg7 arg8 harg8 arg9 harg9 arg10 harg10 arg11 harg11 arg12 harg12) K } := by
  refine ⟨?_, [], [], ?_, ?_, fun xi7 xi8 E K => ?run⟩
  case run =>
    simp only [cc0_sb_bwd_eq_skeleton]; unfold cc0_sb_bwd_skel
    simp only [k0_part11_eq_skeleton, k0_part7_eq_skeleton, k0_part8_eq_skeleton, k0_part9_eq_skeleton, k0_part10_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hf7; obtain rfl := harg10.eq_unread hf8; obtain rfl := harg11.eq_unread hfs0; obtain rfl := harg12.eq_unread hfs1
    sl_exec (disch := first | sl_exact hc0 | sl_exact hc1 | sl_exact (hk _))
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [H7]
    · iexists _; isplitr; · ipureintro; exact harg9.read_unread _
      iexact H7
    isplitl [H8]
    · iexists _; isplitr; · ipureintro; exact harg10.read_unread _
      iexact H8
    isplitl [HS0]; · iexact HS0
    iexact HS1

end Cert.KernelIdeal.Sb

end
-- ==== Proof.RunC.lean ====
/- The run of the body in case C. -/
module

public import proofs.«01_k».proof.Proof.RunB

@[expose] public section

set_option maxRecDepth 16384

noncomputable section

namespace Cert.KernelIdeal.Sb

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

-- (the proof is long)
set_option maxHeartbeats 1000000 in
noncomputable def bodyRunC (c : Dev nD) (i : grid0.Coords) (arg2 : Memref sig .tc .vmem S256x256 .bf16) (harg2 : arg2.IsWhole) (arg3 : Memref sig .tc .vmem S4096x256 .bf16) (harg3 : arg3.IsWhole) (arg4 : Memref sig .tc .vmem S4096x256 .bf16) (harg4 : arg4.IsWhole) (arg5 : Memref sig .tc .vmem S256x256 .f32) (harg5 : arg5.IsWhole) (arg6 : Memref sig .tc .vmem S256x256 .f32) (harg6 : arg6.IsWhole) (arg7 : Memref sig .tc .smem S4x16 .i32) (harg7 : arg7.IsWhole) (arg8 : Memref sig .tc .vmem S256x256 .bf16) (harg8 : arg8.IsWhole) (arg9 : Memref sig .tc .vmem S4096x256 .bf16) (harg9 : arg9.IsWhole) (arg10 : Memref sig .tc .vmem S4096x256 .bf16) (harg10 : arg10.IsWhole) (arg11 : Memref sig .tc .vmem S4096x256 .f32) (harg11 : arg11.IsWhole) (arg12 : Memref sig .tc .vmem S4096x256 .f32) (harg12 : arg12.IsWhole) (hc0 : ¬cond0_0 i) (hc1 : cond0_1 i)
    (x0 : Vec F S256x256 .bf16) (x1 : Vec F S4096x256 .bf16) (x2 : Vec F S4096x256 .bf16) (x3 : Vec F S256x256 .f32) (x4 : Vec F S256x256 .f32) (x5 : Vec F S4x16 .i32) (hk : ∀ x, k0_chk1 i ((arg7.access (Rect.unit (s := S4x16) (k0_off1 i) S1x1.size (k0_off1_inb i))).read (Elt F) (harg7.unread x5) x)) (xs0 : Vec F S4096x256 .f32) (xs1 : Vec F S4096x256 .f32) :
    Σ' (L6 : List (View.Piece (Elt F) S256x256 .bf16)), Σ' (L7 : List (View.Piece (Elt F) S4096x256 .bf16)), Σ' (L8 : List (View.Piece (Elt F) S4096x256 .bf16)), Σ' (LS0 : List (View.Piece (Elt F) S4096x256 .f32)), { LS1 : List (View.Piece (Elt F) S4096x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ owns (c : Thread nD τ) arg11 fullShare xs0 ∗ owns (c : Thread nD τ) arg12 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f L8) ∗ (arg11.view.loc (c : Thread nD τ) ↦[arg11.view.set]{fullShare} arg11.view.writes (Elt F) (harg11.unread xs0) LS0) ∗ (arg12.view.loc (c : Thread nD τ) ↦[arg12.view.set]{fullShare} arg12.view.writes (Elt F) (harg12.unread xs1) LS1)) -∗ K ⟨⟩))
          ⊢ wp frame (wpE (defs₀ (F := F)) Variants.none c none) E (cc0_sb_bwd i arg2 harg2 arg3 harg3 arg4 harg4 arg5 harg5 arg6 harg6 arg7 harg7 arg8 harg8 arg9 harg9 arg10 harg10 arg11 harg11 arg12 harg12) K } := by
  refine ⟨?_, ?_, ?_, ?_, ?_, fun E K => ?run⟩
  case run =>
    simp only [cc0_sb_bwd_eq_skeleton]; unfold cc0_sb_bwd_skel
    simp only [k0_part11_eq_skeleton, k0_part7_eq_skeleton, k0_part8_eq_skeleton, k0_part9_eq_skeleton, k0_part10_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg11.eq_unread hfs0; obtain rfl := harg12.eq_unread hfs1
    sl_exec (disch := first | sl_exact hc0 | sl_exact hc1 | sl_exact (hk _))
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [H7]; · iexists _; iexact H7
    isplitl [H8]; · iexists _; iexact H8
    isplitl [HS0]; · iexact HS0
    iexact HS1

end Cert.KernelIdeal.Sb

end
-- ==== Proof.Body.lean ====
/- What each point leaves, the proof data of the pipeline, the body at every point, and the run of the program. -/
module

public import proofs.«01_k».proof.Proof.Word
public import proofs.«01_k».proof.Proof.RunC

@[expose] public section

set_option maxRecDepth 16384

noncomputable section

namespace Cert.KernelIdeal.Sb

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

section Stores

variable (c : Dev nD) (i : grid0.Coords) (arg2 : Memref sig .tc .vmem S256x256 .bf16) (harg2 : arg2.IsWhole) (arg3 : Memref sig .tc .vmem S4096x256 .bf16) (harg3 : arg3.IsWhole) (arg4 : Memref sig .tc .vmem S4096x256 .bf16) (harg4 : arg4.IsWhole) (arg5 : Memref sig .tc .vmem S256x256 .f32) (harg5 : arg5.IsWhole) (arg6 : Memref sig .tc .vmem S256x256 .f32) (harg6 : arg6.IsWhole) (arg7 : Memref sig .tc .smem S4x16 .i32) (harg7 : arg7.IsWhole) (arg8 : Memref sig .tc .vmem S256x256 .bf16) (harg8 : arg8.IsWhole) (arg9 : Memref sig .tc .vmem S4096x256 .bf16) (harg9 : arg9.IsWhole) (arg10 : Memref sig .tc .vmem S4096x256 .bf16) (harg10 : arg10.IsWhole) (arg11 : Memref sig .tc .vmem S4096x256 .f32) (harg11 : arg11.IsWhole) (arg12 : Memref sig .tc .vmem S4096x256 .f32) (harg12 : arg12.IsWhole)

/-- Case A's pieces for output 6 tile its block (2 stores of `S256x128`), so they cover it. -/
theorem cover0_A_6 (hc0 : cond0_0 i) (hc1 : ¬cond0_1 i)
    (x0 : Vec F S256x256 .bf16) (x1 : Vec F S4096x256 .bf16) (x2 : Vec F S4096x256 .bf16) (x3 : Vec F S256x256 .f32) (x4 : Vec F S256x256 .f32) (x5 : Vec F S4x16 .i32) (hk : Chk i arg7 harg7 x5) (y : S256x256.Idx) :
    ∃ pc ∈ (bodyRunA c i arg2 harg2 arg3 harg3 arg4 harg4 arg5 harg5 arg6 harg6 arg7 harg7 arg8 harg8 arg9 harg9 arg10 harg10 arg11 harg11 arg12 harg12 hc0 hc1 x0 x1 x2 x3 x4 x5 hk).1, y ∈ pc.1.set :=
  View.cover_of_tiledL (bodyRunA c i arg2 harg2 arg3 harg3 arg4 harg4 arg5 harg5 arg6 harg6 arg7 harg7 arg8 harg8 arg9 harg9 arg10 harg10 arg11 harg11 arg12 harg12 hc0 hc1 x0 x1 x2 x3 x4 x5 hk).1 S256x128.size (by sl_kernel_rfl) y

/-- What case A leaves in output 6's staging buffer: its pieces read back over junk. -/
def out0_A_6 (hc0 : cond0_0 i) (hc1 : ¬cond0_1 i)
    (x0 : Vec F S256x256 .bf16) (x1 : Vec F S4096x256 .bf16) (x2 : Vec F S4096x256 .bf16) (x3 : Vec F S256x256 .f32) (x4 : Vec F S256x256 .f32) (x5 : Vec F S4x16 .i32) (hk : Chk i arg7 harg7 x5) : Vec F S256x256 .bf16 :=
  VO0_6.read (Elt F) (VO0_6.writes (Elt F) VO0_6.junk (bodyRunA c i arg2 harg2 arg3 harg3 arg4 harg4 arg5 harg5 arg6 harg6 arg7 harg7 arg8 harg8 arg9 harg9 arg10 harg10 arg11 harg11 arg12 harg12 hc0 hc1 x0 x1 x2 x3 x4 x5 hk).1)

/-- Case A stores nothing into output 7 (the window is idle at its points and not written back there):
    no pieces — a placeholder (junk read back) that nothing consults, since at these points the window is neither
    written back nor read at the next point. -/
def out0_A_7 (hc0 : cond0_0 i) (hc1 : ¬cond0_1 i)
    (x0 : Vec F S256x256 .bf16) (x1 : Vec F S4096x256 .bf16) (x2 : Vec F S4096x256 .bf16) (x3 : Vec F S256x256 .f32) (x4 : Vec F S256x256 .f32) (x5 : Vec F S4x16 .i32) (hk : Chk i arg7 harg7 x5) : Vec F S4096x256 .bf16 :=
  VO0_7.read (Elt F) (VO0_7.writes (Elt F) VO0_7.junk (bodyRunA c i arg2 harg2 arg3 harg3 arg4 harg4 arg5 harg5 arg6 harg6 arg7 harg7 arg8 harg8 arg9 harg9 arg10 harg10 arg11 harg11 arg12 harg12 hc0 hc1 x0 x1 x2 x3 x4 x5 hk).2.1)

/-- Case A stores nothing into output 8 (the window is idle at its points and not written back there):
    no pieces — a placeholder (junk read back) that nothing consults, since at these points the window is neither
    written back nor read at the next point. -/
def out0_A_8 (hc0 : cond0_0 i) (hc1 : ¬cond0_1 i)
    (x0 : Vec F S256x256 .bf16) (x1 : Vec F S4096x256 .bf16) (x2 : Vec F S4096x256 .bf16) (x3 : Vec F S256x256 .f32) (x4 : Vec F S256x256 .f32) (x5 : Vec F S4x16 .i32) (hk : Chk i arg7 harg7 x5) : Vec F S4096x256 .bf16 :=
  VO0_8.read (Elt F) (VO0_8.writes (Elt F) VO0_8.junk (bodyRunA c i arg2 harg2 arg3 harg3 arg4 harg4 arg5 harg5 arg6 harg6 arg7 harg7 arg8 harg8 arg9 harg9 arg10 harg10 arg11 harg11 arg12 harg12 hc0 hc1 x0 x1 x2 x3 x4 x5 hk).2.2.1)

/-- Case A's pieces for scratch `arg11`, which the kernel carries between points, cover it: one of them a store of the WHOLE buffer. -/
theorem scover0_A_0 (hc0 : cond0_0 i) (hc1 : ¬cond0_1 i)
    (x0 : Vec F S256x256 .bf16) (x1 : Vec F S4096x256 .bf16) (x2 : Vec F S4096x256 .bf16) (x3 : Vec F S256x256 .f32) (x4 : Vec F S256x256 .f32) (x5 : Vec F S4x16 .i32) (hk : Chk i arg7 harg7 x5) (y : S4096x256.Idx) :
    ∃ pc ∈ (bodyRunA c i arg2 harg2 arg3 harg3 arg4 harg4 arg5 harg5 arg6 harg6 arg7 harg7 arg8 harg8 arg9 harg9 arg10 harg10 arg11 harg11 arg12 harg12 hc0 hc1 x0 x1 x2 x3 x4 x5 hk).2.2.2.1, y ∈ pc.1.set :=
  View.cover_of_wholeMem (bodyRunA c i arg2 harg2 arg3 harg3 arg4 harg4 arg5 harg5 arg6 harg6 arg7 harg7 arg8 harg8 arg9 harg9 arg10 harg10 arg11 harg11 arg12 harg12 hc0 hc1 x0 x1 x2 x3 x4 x5 hk).2.2.2.1 (by sl_whole_mem) y

/-- What case A leaves in scratch `arg11`: its pieces read back over junk. -/
def sout0_A_0 (hc0 : cond0_0 i) (hc1 : ¬cond0_1 i)
    (x0 : Vec F S256x256 .bf16) (x1 : Vec F S4096x256 .bf16) (x2 : Vec F S4096x256 .bf16) (x3 : Vec F S256x256 .f32) (x4 : Vec F S256x256 .f32) (x5 : Vec F S4x16 .i32) (hk : Chk i arg7 harg7 x5) : Vec F S4096x256 .f32 :=
  VS0_0.read (Elt F) (VS0_0.writes (Elt F) VS0_0.junk (bodyRunA c i arg2 harg2 arg3 harg3 arg4 harg4 arg5 harg5 arg6 harg6 arg7 harg7 arg8 harg8 arg9 harg9 arg10 harg10 arg11 harg11 arg12 harg12 hc0 hc1 x0 x1 x2 x3 x4 x5 hk).2.2.2.1)

/-- Case A's pieces for scratch `arg12`, which the kernel carries between points, cover it: one of them a store of the WHOLE buffer. -/
theorem scover0_A_1 (hc0 : cond0_0 i) (hc1 : ¬cond0_1 i)
    (x0 : Vec F S256x256 .bf16) (x1 : Vec F S4096x256 .bf16) (x2 : Vec F S4096x256 .bf16) (x3 : Vec F S256x256 .f32) (x4 : Vec F S256x256 .f32) (x5 : Vec F S4x16 .i32) (hk : Chk i arg7 harg7 x5) (y : S4096x256.Idx) :
    ∃ pc ∈ (bodyRunA c i arg2 harg2 arg3 harg3 arg4 harg4 arg5 harg5 arg6 harg6 arg7 harg7 arg8 harg8 arg9 harg9 arg10 harg10 arg11 harg11 arg12 harg12 hc0 hc1 x0 x1 x2 x3 x4 x5 hk).2.2.2.2.1, y ∈ pc.1.set :=
  View.cover_of_wholeMem (bodyRunA c i arg2 harg2 arg3 harg3 arg4 harg4 arg5 harg5 arg6 harg6 arg7 harg7 arg8 harg8 arg9 harg9 arg10 harg10 arg11 harg11 arg12 harg12 hc0 hc1 x0 x1 x2 x3 x4 x5 hk).2.2.2.2.1 (by sl_whole_mem) y

/-- What case A leaves in scratch `arg12`: its pieces read back over junk. -/
def sout0_A_1 (hc0 : cond0_0 i) (hc1 : ¬cond0_1 i)
    (x0 : Vec F S256x256 .bf16) (x1 : Vec F S4096x256 .bf16) (x2 : Vec F S4096x256 .bf16) (x3 : Vec F S256x256 .f32) (x4 : Vec F S256x256 .f32) (x5 : Vec F S4x16 .i32) (hk : Chk i arg7 harg7 x5) : Vec F S4096x256 .f32 :=
  VS0_1.read (Elt F) (VS0_1.writes (Elt F) VS0_1.junk (bodyRunA c i arg2 harg2 arg3 harg3 arg4 harg4 arg5 harg5 arg6 harg6 arg7 harg7 arg8 harg8 arg9 harg9 arg10 harg10 arg11 harg11 arg12 harg12 hc0 hc1 x0 x1 x2 x3 x4 x5 hk).2.2.2.2.1)

/-- Case B's pieces for output 6 tile its block (2 stores of `S256x128`), so they cover it. -/
theorem cover0_B_6 (hc0 : ¬cond0_0 i) (hc1 : ¬cond0_1 i)
    (x0 : Vec F S256x256 .bf16) (x1 : Vec F S4096x256 .bf16) (x2 : Vec F S4096x256 .bf16) (x3 : Vec F S256x256 .f32) (x4 : Vec F S256x256 .f32) (x5 : Vec F S4x16 .i32) (hk : Chk i arg7 harg7 x5) (xs0 : Vec F S4096x256 .f32) (xs1 : Vec F S4096x256 .f32) (y : S256x256.Idx) :
    ∃ pc ∈ (bodyRunB c i arg2 harg2 arg3 harg3 arg4 harg4 arg5 harg5 arg6 harg6 arg7 harg7 arg8 harg8 arg9 harg9 arg10 harg10 arg11 harg11 arg12 harg12 hc0 hc1 x0 x1 x2 x3 x4 x5 hk xs0 xs1).1, y ∈ pc.1.set :=
  View.cover_of_tiledL (bodyRunB c i arg2 harg2 arg3 harg3 arg4 harg4 arg5 harg5 arg6 harg6 arg7 harg7 arg8 harg8 arg9 harg9 arg10 harg10 arg11 harg11 arg12 harg12 hc0 hc1 x0 x1 x2 x3 x4 x5 hk xs0 xs1).1 S256x128.size (by sl_kernel_rfl) y

/-- What case B leaves in output 6's staging buffer: its pieces read back over junk. -/
def out0_B_6 (hc0 : ¬cond0_0 i) (hc1 : ¬cond0_1 i)
    (x0 : Vec F S256x256 .bf16) (x1 : Vec F S4096x256 .bf16) (x2 : Vec F S4096x256 .bf16) (x3 : Vec F S256x256 .f32) (x4 : Vec F S256x256 .f32) (x5 : Vec F S4x16 .i32) (hk : Chk i arg7 harg7 x5) (xs0 : Vec F S4096x256 .f32) (xs1 : Vec F S4096x256 .f32) : Vec F S256x256 .bf16 :=
  VO0_6.read (Elt F) (VO0_6.writes (Elt F) VO0_6.junk (bodyRunB c i arg2 harg2 arg3 harg3 arg4 harg4 arg5 harg5 arg6 harg6 arg7 harg7 arg8 harg8 arg9 harg9 arg10 harg10 arg11 harg11 arg12 harg12 hc0 hc1 x0 x1 x2 x3 x4 x5 hk xs0 xs1).1)

/-- Case B stores nothing into output 7 (the window is idle at its points and not written back there):
    no pieces — a placeholder (junk read back) that nothing consults, since at these points the window is neither
    written back nor read at the next point. -/
def out0_B_7 (hc0 : ¬cond0_0 i) (hc1 : ¬cond0_1 i)
    (x0 : Vec F S256x256 .bf16) (x1 : Vec F S4096x256 .bf16) (x2 : Vec F S4096x256 .bf16) (x3 : Vec F S256x256 .f32) (x4 : Vec F S256x256 .f32) (x5 : Vec F S4x16 .i32) (hk : Chk i arg7 harg7 x5) (xs0 : Vec F S4096x256 .f32) (xs1 : Vec F S4096x256 .f32) : Vec F S4096x256 .bf16 :=
  VO0_7.read (Elt F) (VO0_7.writes (Elt F) VO0_7.junk (bodyRunB c i arg2 harg2 arg3 harg3 arg4 harg4 arg5 harg5 arg6 harg6 arg7 harg7 arg8 harg8 arg9 harg9 arg10 harg10 arg11 harg11 arg12 harg12 hc0 hc1 x0 x1 x2 x3 x4 x5 hk xs0 xs1).2.1)

/-- Case B stores nothing into output 8 (the window is idle at its points and not written back there):
    no pieces — a placeholder (junk read back) that nothing consults, since at these points the window is neither
    written back nor read at the next point. -/
def out0_B_8 (hc0 : ¬cond0_0 i) (hc1 : ¬cond0_1 i)
    (x0 : Vec F S256x256 .bf16) (x1 : Vec F S4096x256 .bf16) (x2 : Vec F S4096x256 .bf16) (x3 : Vec F S256x256 .f32) (x4 : Vec F S256x256 .f32) (x5 : Vec F S4x16 .i32) (hk : Chk i arg7 harg7 x5) (xs0 : Vec F S4096x256 .f32) (xs1 : Vec F S4096x256 .f32) : Vec F S4096x256 .bf16 :=
  VO0_8.read (Elt F) (VO0_8.writes (Elt F) VO0_8.junk (bodyRunB c i arg2 harg2 arg3 harg3 arg4 harg4 arg5 harg5 arg6 harg6 arg7 harg7 arg8 harg8 arg9 harg9 arg10 harg10 arg11 harg11 arg12 harg12 hc0 hc1 x0 x1 x2 x3 x4 x5 hk xs0 xs1).2.2.1)

/-- What case B leaves in scratch `arg11`: its pieces (stores, a counted loop's segment) read back over what the point before left there, which it read first. -/
def sout0_B_0 (hc0 : ¬cond0_0 i) (hc1 : ¬cond0_1 i)
    (x0 : Vec F S256x256 .bf16) (x1 : Vec F S4096x256 .bf16) (x2 : Vec F S4096x256 .bf16) (x3 : Vec F S256x256 .f32) (x4 : Vec F S256x256 .f32) (x5 : Vec F S4x16 .i32) (hk : Chk i arg7 harg7 x5) (xs0 : Vec F S4096x256 .f32) (xs1 : Vec F S4096x256 .f32) : Vec F S4096x256 .f32 :=
  arg11.view.read (Elt F) (arg11.view.writes (Elt F) (harg11.unread xs0) (bodyRunB c i arg2 harg2 arg3 harg3 arg4 harg4 arg5 harg5 arg6 harg6 arg7 harg7 arg8 harg8 arg9 harg9 arg10 harg10 arg11 harg11 arg12 harg12 hc0 hc1 x0 x1 x2 x3 x4 x5 hk xs0 xs1).2.2.2.1)

/-- What case B leaves in scratch `arg12`: its pieces (stores, a counted loop's segment) read back over what the point before left there, which it read first. -/
def sout0_B_1 (hc0 : ¬cond0_0 i) (hc1 : ¬cond0_1 i)
    (x0 : Vec F S256x256 .bf16) (x1 : Vec F S4096x256 .bf16) (x2 : Vec F S4096x256 .bf16) (x3 : Vec F S256x256 .f32) (x4 : Vec F S256x256 .f32) (x5 : Vec F S4x16 .i32) (hk : Chk i arg7 harg7 x5) (xs0 : Vec F S4096x256 .f32) (xs1 : Vec F S4096x256 .f32) : Vec F S4096x256 .f32 :=
  arg12.view.read (Elt F) (arg12.view.writes (Elt F) (harg12.unread xs1) (bodyRunB c i arg2 harg2 arg3 harg3 arg4 harg4 arg5 harg5 arg6 harg6 arg7 harg7 arg8 harg8 arg9 harg9 arg10 harg10 arg11 harg11 arg12 harg12 hc0 hc1 x0 x1 x2 x3 x4 x5 hk xs0 xs1).2.2.2.2.1)

/-- Case C's pieces for output 6 tile its block (2 stores of `S256x128`), so they cover it. -/
theorem cover0_C_6 (hc0 : ¬cond0_0 i) (hc1 : cond0_1 i)
    (x0 : Vec F S256x256 .bf16) (x1 : Vec F S4096x256 .bf16) (x2 : Vec F S4096x256 .bf16) (x3 : Vec F S256x256 .f32) (x4 : Vec F S256x256 .f32) (x5 : Vec F S4x16 .i32) (hk : Chk i arg7 harg7 x5) (xs0 : Vec F S4096x256 .f32) (xs1 : Vec F S4096x256 .f32) (y : S256x256.Idx) :
    ∃ pc ∈ (bodyRunC c i arg2 harg2 arg3 harg3 arg4 harg4 arg5 harg5 arg6 harg6 arg7 harg7 arg8 harg8 arg9 harg9 arg10 harg10 arg11 harg11 arg12 harg12 hc0 hc1 x0 x1 x2 x3 x4 x5 hk xs0 xs1).1, y ∈ pc.1.set :=
  View.cover_of_tiledL (bodyRunC c i arg2 harg2 arg3 harg3 arg4 harg4 arg5 harg5 arg6 harg6 arg7 harg7 arg8 harg8 arg9 harg9 arg10 harg10 arg11 harg11 arg12 harg12 hc0 hc1 x0 x1 x2 x3 x4 x5 hk xs0 xs1).1 S256x128.size (by sl_kernel_rfl) y

/-- What case C leaves in output 6's staging buffer: its pieces read back over junk. -/
def out0_C_6 (hc0 : ¬cond0_0 i) (hc1 : cond0_1 i)
    (x0 : Vec F S256x256 .bf16) (x1 : Vec F S4096x256 .bf16) (x2 : Vec F S4096x256 .bf16) (x3 : Vec F S256x256 .f32) (x4 : Vec F S256x256 .f32) (x5 : Vec F S4x16 .i32) (hk : Chk i arg7 harg7 x5) (xs0 : Vec F S4096x256 .f32) (xs1 : Vec F S4096x256 .f32) : Vec F S256x256 .bf16 :=
  VO0_6.read (Elt F) (VO0_6.writes (Elt F) VO0_6.junk (bodyRunC c i arg2 harg2 arg3 harg3 arg4 harg4 arg5 harg5 arg6 harg6 arg7 harg7 arg8 harg8 arg9 harg9 arg10 harg10 arg11 harg11 arg12 harg12 hc0 hc1 x0 x1 x2 x3 x4 x5 hk xs0 xs1).1)

/-- Case C's pieces for output 7 tile its block (1 store of `S4096x256`), so they cover it. -/
theorem cover0_C_7 (hc0 : ¬cond0_0 i) (hc1 : cond0_1 i)
    (x0 : Vec F S256x256 .bf16) (x1 : Vec F S4096x256 .bf16) (x2 : Vec F S4096x256 .bf16) (x3 : Vec F S256x256 .f32) (x4 : Vec F S256x256 .f32) (x5 : Vec F S4x16 .i32) (hk : Chk i arg7 harg7 x5) (xs0 : Vec F S4096x256 .f32) (xs1 : Vec F S4096x256 .f32) (y : S4096x256.Idx) :
    ∃ pc ∈ (bodyRunC c i arg2 harg2 arg3 harg3 arg4 harg4 arg5 harg5 arg6 harg6 arg7 harg7 arg8 harg8 arg9 harg9 arg10 harg10 arg11 harg11 arg12 harg12 hc0 hc1 x0 x1 x2 x3 x4 x5 hk xs0 xs1).2.1, y ∈ pc.1.set :=
  View.cover_of_tiledL (bodyRunC c i arg2 harg2 arg3 harg3 arg4 harg4 arg5 harg5 arg6 harg6 arg7 harg7 arg8 harg8 arg9 harg9 arg10 harg10 arg11 harg11 arg12 harg12 hc0 hc1 x0 x1 x2 x3 x4 x5 hk xs0 xs1).2.1 S4096x256.size (by sl_kernel_rfl) y

/-- What case C leaves in output 7's staging buffer: its pieces read back over junk. -/
def out0_C_7 (hc0 : ¬cond0_0 i) (hc1 : cond0_1 i)
    (x0 : Vec F S256x256 .bf16) (x1 : Vec F S4096x256 .bf16) (x2 : Vec F S4096x256 .bf16) (x3 : Vec F S256x256 .f32) (x4 : Vec F S256x256 .f32) (x5 : Vec F S4x16 .i32) (hk : Chk i arg7 harg7 x5) (xs0 : Vec F S4096x256 .f32) (xs1 : Vec F S4096x256 .f32) : Vec F S4096x256 .bf16 :=
  VO0_7.read (Elt F) (VO0_7.writes (Elt F) VO0_7.junk (bodyRunC c i arg2 harg2 arg3 harg3 arg4 harg4 arg5 harg5 arg6 harg6 arg7 harg7 arg8 harg8 arg9 harg9 arg10 harg10 arg11 harg11 arg12 harg12 hc0 hc1 x0 x1 x2 x3 x4 x5 hk xs0 xs1).2.1)

/-- Case C's pieces for output 8 tile its block (1 store of `S4096x256`), so they cover it. -/
theorem cover0_C_8 (hc0 : ¬cond0_0 i) (hc1 : cond0_1 i)
    (x0 : Vec F S256x256 .bf16) (x1 : Vec F S4096x256 .bf16) (x2 : Vec F S4096x256 .bf16) (x3 : Vec F S256x256 .f32) (x4 : Vec F S256x256 .f32) (x5 : Vec F S4x16 .i32) (hk : Chk i arg7 harg7 x5) (xs0 : Vec F S4096x256 .f32) (xs1 : Vec F S4096x256 .f32) (y : S4096x256.Idx) :
    ∃ pc ∈ (bodyRunC c i arg2 harg2 arg3 harg3 arg4 harg4 arg5 harg5 arg6 harg6 arg7 harg7 arg8 harg8 arg9 harg9 arg10 harg10 arg11 harg11 arg12 harg12 hc0 hc1 x0 x1 x2 x3 x4 x5 hk xs0 xs1).2.2.1, y ∈ pc.1.set :=
  View.cover_of_tiledL (bodyRunC c i arg2 harg2 arg3 harg3 arg4 harg4 arg5 harg5 arg6 harg6 arg7 harg7 arg8 harg8 arg9 harg9 arg10 harg10 arg11 harg11 arg12 harg12 hc0 hc1 x0 x1 x2 x3 x4 x5 hk xs0 xs1).2.2.1 S4096x256.size (by sl_kernel_rfl) y

/-- What case C leaves in output 8's staging buffer: its pieces read back over junk. -/
def out0_C_8 (hc0 : ¬cond0_0 i) (hc1 : cond0_1 i)
    (x0 : Vec F S256x256 .bf16) (x1 : Vec F S4096x256 .bf16) (x2 : Vec F S4096x256 .bf16) (x3 : Vec F S256x256 .f32) (x4 : Vec F S256x256 .f32) (x5 : Vec F S4x16 .i32) (hk : Chk i arg7 harg7 x5) (xs0 : Vec F S4096x256 .f32) (xs1 : Vec F S4096x256 .f32) : Vec F S4096x256 .bf16 :=
  VO0_8.read (Elt F) (VO0_8.writes (Elt F) VO0_8.junk (bodyRunC c i arg2 harg2 arg3 harg3 arg4 harg4 arg5 harg5 arg6 harg6 arg7 harg7 arg8 harg8 arg9 harg9 arg10 harg10 arg11 harg11 arg12 harg12 hc0 hc1 x0 x1 x2 x3 x4 x5 hk xs0 xs1).2.2.1)

/-- What case C leaves in scratch `arg11`: its pieces (stores, a counted loop's segment) read back over what the point before left there, which it read first. -/
def sout0_C_0 (hc0 : ¬cond0_0 i) (hc1 : cond0_1 i)
    (x0 : Vec F S256x256 .bf16) (x1 : Vec F S4096x256 .bf16) (x2 : Vec F S4096x256 .bf16) (x3 : Vec F S256x256 .f32) (x4 : Vec F S256x256 .f32) (x5 : Vec F S4x16 .i32) (hk : Chk i arg7 harg7 x5) (xs0 : Vec F S4096x256 .f32) (xs1 : Vec F S4096x256 .f32) : Vec F S4096x256 .f32 :=
  arg11.view.read (Elt F) (arg11.view.writes (Elt F) (harg11.unread xs0) (bodyRunC c i arg2 harg2 arg3 harg3 arg4 harg4 arg5 harg5 arg6 harg6 arg7 harg7 arg8 harg8 arg9 harg9 arg10 harg10 arg11 harg11 arg12 harg12 hc0 hc1 x0 x1 x2 x3 x4 x5 hk xs0 xs1).2.2.2.1)

/-- What case C leaves in scratch `arg12`: its pieces (stores, a counted loop's segment) read back over what the point before left there, which it read first. -/
def sout0_C_1 (hc0 : ¬cond0_0 i) (hc1 : cond0_1 i)
    (x0 : Vec F S256x256 .bf16) (x1 : Vec F S4096x256 .bf16) (x2 : Vec F S4096x256 .bf16) (x3 : Vec F S256x256 .f32) (x4 : Vec F S256x256 .f32) (x5 : Vec F S4x16 .i32) (hk : Chk i arg7 harg7 x5) (xs0 : Vec F S4096x256 .f32) (xs1 : Vec F S4096x256 .f32) : Vec F S4096x256 .f32 :=
  arg12.view.read (Elt F) (arg12.view.writes (Elt F) (harg12.unread xs1) (bodyRunC c i arg2 harg2 arg3 harg3 arg4 harg4 arg5 harg5 arg6 harg6 arg7 harg7 arg8 harg8 arg9 harg9 arg10 harg10 arg11 harg11 arg12 harg12 hc0 hc1 x0 x1 x2 x3 x4 x5 hk xs0 xs1).2.2.2.2.1)

end Stores

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S256x256 .bf16 × Vec F S4096x256 .bf16 × Vec F S4096x256 .bf16 × Vec F S4096x256 .f32 × Vec F S4096x256 .f32
  | 0, hn => (out0_A_6 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (chkAt m c ⟨0, hn⟩), out0_A_7 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (chkAt m c ⟨0, hn⟩), out0_A_8 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (chkAt m c ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (chkAt m c ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (chkAt m c ⟨0, hn⟩))
  | n + 1, hn =>
    if h0 : (n + 1) % 16 = 0 then
      if h1 : (n + 1) % 16 = 15 then
        False.elim (by have hN : n + 1 < 64 := lt_of_lt_of_eq hn (show cfg0.N = 64 from N_0); omega)
      else
        (out0_A_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (chkAt m c ⟨n + 1, hn⟩), out0_A_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (chkAt m c ⟨n + 1, hn⟩), out0_A_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (chkAt m c ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (chkAt m c ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (chkAt m c ⟨n + 1, hn⟩))
    else
      if h1 : (n + 1) % 16 = 15 then
        (out0_C_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (chkAt m c ⟨n + 1, hn⟩) (outsAt0 c n (Nat.lt_of_succ_lt hn)).2.2.2.1 (outsAt0 c n (Nat.lt_of_succ_lt hn)).2.2.2.2, out0_C_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (chkAt m c ⟨n + 1, hn⟩) (outsAt0 c n (Nat.lt_of_succ_lt hn)).2.2.2.1 (outsAt0 c n (Nat.lt_of_succ_lt hn)).2.2.2.2, out0_C_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (chkAt m c ⟨n + 1, hn⟩) (outsAt0 c n (Nat.lt_of_succ_lt hn)).2.2.2.1 (outsAt0 c n (Nat.lt_of_succ_lt hn)).2.2.2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (chkAt m c ⟨n + 1, hn⟩) (outsAt0 c n (Nat.lt_of_succ_lt hn)).2.2.2.1 (outsAt0 c n (Nat.lt_of_succ_lt hn)).2.2.2.2, sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (chkAt m c ⟨n + 1, hn⟩) (outsAt0 c n (Nat.lt_of_succ_lt hn)).2.2.2.1 (outsAt0 c n (Nat.lt_of_succ_lt hn)).2.2.2.2)
      else
        (out0_B_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (chkAt m c ⟨n + 1, hn⟩) (outsAt0 c n (Nat.lt_of_succ_lt hn)).2.2.2.1 (outsAt0 c n (Nat.lt_of_succ_lt hn)).2.2.2.2, out0_B_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (chkAt m c ⟨n + 1, hn⟩) (outsAt0 c n (Nat.lt_of_succ_lt hn)).2.2.2.1 (outsAt0 c n (Nat.lt_of_succ_lt hn)).2.2.2.2, out0_B_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (chkAt m c ⟨n + 1, hn⟩) (outsAt0 c n (Nat.lt_of_succ_lt hn)).2.2.2.1 (outsAt0 c n (Nat.lt_of_succ_lt hn)).2.2.2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (chkAt m c ⟨n + 1, hn⟩) (outsAt0 c n (Nat.lt_of_succ_lt hn)).2.2.2.1 (outsAt0 c n (Nat.lt_of_succ_lt hn)).2.2.2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (chkAt m c ⟨n + 1, hn⟩) (outsAt0 c n (Nat.lt_of_succ_lt hn)).2.2.2.1 (outsAt0 c n (Nat.lt_of_succ_lt hn)).2.2.2.2)

/-- `outsAt0` at a point of case A: that case's contents. -/
theorem outsAt0_A (c : Dev nD) (t : Fin cfg0.N) (h0 : t.val % 16 = 0) (h1 : ¬t.val % 16 = 15) :
    outsAt0 m c t.val t.isLt = (out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t) (iblk m c 5 t) (chkAt m c t), out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t) (iblk m c 5 t) (chkAt m c t), out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t) (iblk m c 5 t) (chkAt m c t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t) (iblk m c 5 t) (chkAt m c t), sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t) (iblk m c 5 t) (chkAt m c t)) := by
  obtain ⟨n, hn⟩ := t
  cases n with
  | zero => exact rfl
  | succ n => exact (dif_pos h0).trans ((dif_neg h1).trans rfl)

/-- `outsAt0` at a point of case B: that case's contents, over what the point before left. -/
theorem outsAt0_B (c : Dev nD) (t : Fin cfg0.N) (h0 : ¬t.val % 16 = 0) (h1 : ¬t.val % 16 = 15) :
    outsAt0 m c t.val t.isLt = (out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (chkAt m c t) (outsAt0 m c (t.val - 1) (Nat.lt_of_le_of_lt (Nat.sub_le _ _) t.isLt)).2.2.2.1 (outsAt0 m c (t.val - 1) (Nat.lt_of_le_of_lt (Nat.sub_le _ _) t.isLt)).2.2.2.2, out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (chkAt m c t) (outsAt0 m c (t.val - 1) (Nat.lt_of_le_of_lt (Nat.sub_le _ _) t.isLt)).2.2.2.1 (outsAt0 m c (t.val - 1) (Nat.lt_of_le_of_lt (Nat.sub_le _ _) t.isLt)).2.2.2.2, out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (chkAt m c t) (outsAt0 m c (t.val - 1) (Nat.lt_of_le_of_lt (Nat.sub_le _ _) t.isLt)).2.2.2.1 (outsAt0 m c (t.val - 1) (Nat.lt_of_le_of_lt (Nat.sub_le _ _) t.isLt)).2.2.2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (chkAt m c t) (outsAt0 m c (t.val - 1) (Nat.lt_of_le_of_lt (Nat.sub_le _ _) t.isLt)).2.2.2.1 (outsAt0 m c (t.val - 1) (Nat.lt_of_le_of_lt (Nat.sub_le _ _) t.isLt)).2.2.2.2, sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (chkAt m c t) (outsAt0 m c (t.val - 1) (Nat.lt_of_le_of_lt (Nat.sub_le _ _) t.isLt)).2.2.2.1 (outsAt0 m c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_neg h0).trans ((dif_neg h1).trans rfl)

/-- `outsAt0` at a point of case C: that case's contents, over what the point before left. -/
theorem outsAt0_C (c : Dev nD) (t : Fin cfg0.N) (h0 : ¬t.val % 16 = 0) (h1 : t.val % 16 = 15) :
    outsAt0 m c t.val t.isLt = (out0_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (chkAt m c t) (outsAt0 m c (t.val - 1) (Nat.lt_of_le_of_lt (Nat.sub_le _ _) t.isLt)).2.2.2.1 (outsAt0 m c (t.val - 1) (Nat.lt_of_le_of_lt (Nat.sub_le _ _) t.isLt)).2.2.2.2, out0_C_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (chkAt m c t) (outsAt0 m c (t.val - 1) (Nat.lt_of_le_of_lt (Nat.sub_le _ _) t.isLt)).2.2.2.1 (outsAt0 m c (t.val - 1) (Nat.lt_of_le_of_lt (Nat.sub_le _ _) t.isLt)).2.2.2.2, out0_C_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (chkAt m c t) (outsAt0 m c (t.val - 1) (Nat.lt_of_le_of_lt (Nat.sub_le _ _) t.isLt)).2.2.2.1 (outsAt0 m c (t.val - 1) (Nat.lt_of_le_of_lt (Nat.sub_le _ _) t.isLt)).2.2.2.2, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (chkAt m c t) (outsAt0 m c (t.val - 1) (Nat.lt_of_le_of_lt (Nat.sub_le _ _) t.isLt)).2.2.2.1 (outsAt0 m c (t.val - 1) (Nat.lt_of_le_of_lt (Nat.sub_le _ _) t.isLt)).2.2.2.2, sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (chkAt m c t) (outsAt0 m c (t.val - 1) (Nat.lt_of_le_of_lt (Nat.sub_le _ _) t.isLt)).2.2.2.1 (outsAt0 m c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_neg h0).trans ((dif_pos h1).trans rfl)

/-- The region invariant before position `n` with a scratch the kernel CARRIES between points: before the first point the
    class's (every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2.2.1) ∗ owns (c : Thread nD τ) scM0_1 fullShare ((outsAt0 m c n hn).2.2.2.2)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).2.2.2.1) ∗ owns (c : Thread nD τ) scM0_1 fullShare ((outsAt0 m c n hn).2.2.2.2)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.2.2.1) ∗ owns (c : Thread nD τ) scM0_1 fullShare ((outsAt0 m c (n - 1) (by omega)).2.2.2.2)) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (`PhiS`: the class's `ΦA` before the first point, then the scoped rest with the carried scratch at `outsAt0`'s component);
    nothing owed; each input's share of its array
    (`Pipeline.shareOf`: the full share of an array several windows stage, dealt among them). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (outsAt0 m c t.val t.isLt).1
    | ⟨7, _⟩ => (outsAt0 m c t.val t.isLt).2.1
    | ⟨8, _⟩ => (outsAt0 m c t.val t.isLt).2.2.1
  Φ t := PhiS m c t.val (Nat.le_of_lt_succ t.isLt)
  q w := Pipeline.shareOf spec0 w
  owed _ := 0

/-- The proof data's arrays are the region-entry contents. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = (outsAt0 m c t.val t.isLt).1 := by dsimp only [dats]
theorem after0_7 (c : Dev nD) (t : Fin cfg0.N) : (dats m 0 c).after 7 t = (outsAt0 m c t.val t.isLt).2.1 := by dsimp only [dats]
theorem after0_8 (c : Dev nD) (t : Fin cfg0.N) : (dats m 0 c).after 8 t = (outsAt0 m c t.val t.isLt).2.2.1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation, at a generic point -/

/-- What the body is called with at point `t` (the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t)

set_option maxHeartbeats 9600000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl]
  rw [show (dats m 0 c).Φ t.succ = PhiS m c (t.val + 1) t.isLt from rfl, PhiS_succ]
  have hN : t.val < 64 := lt_of_lt_of_eq t.isLt (show cfg0.N = 64 from N_0)
  by_cases h0 : t.val % 16 = 0
  · by_cases h1 : t.val % 16 = 15
    · exfalso; omega
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      rw [show (dats m 0 c).leavesExact 6 t = owns (c : Thread nD τ) (ms0_6 t) fullShare ((dats m 0 c).after 6 t) from by
      unfold Dat.leavesExact; rw [liveAt0_6 t], after0_6]
      rw [Dat.leavesExact_idle (dats m 0 c) 7 t (idleAt0_7_A t ((hcond0_0 t).mpr h0) (fun h => h1 ((hcond0_1 t).mp h))) (noFlush0_7_A t ((hcond0_0 t).mpr h0) (fun h => h1 ((hcond0_1 t).mp h)))]
      rw [Dat.leavesExact_idle (dats m 0 c) 8 t (idleAt0_8_A t ((hcond0_0 t).mpr h0) (fun h => h1 ((hcond0_1 t).mp h))) (noFlush0_8_A t ((hcond0_0 t).mpr h0) (fun h => h1 ((hcond0_1 t).mp h)))]
      by_cases hz : t.val = 0
      · rw [PhiS_castSucc m c t, PhiS_zero m c _ _ hz, PhiA0_eq]
        rw [outsAt0_A m c t h0 h1]
        unfold out0_A_6 sout0_A_0 sout0_A_1; (try dsimp only)
        iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        iapply ((bodyRunA c (grid0.coords t) _ _ _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t) (chkAt m c t)).2.2.2.2.2 _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [H7]; · iexact H7
        isplitl [H8]; · iexact H8
        isplitl [HS0]; · iexact HS0
        isplitl [HS1]; · iexact HS1
        iintro ⟨H0, H1, H2, H3, H4, H5, ⟨%e6, H6⟩, H7, H8, ⟨%es0, HS0⟩, ⟨%es1, HS1⟩⟩
        isplitl [HS0 HS1 Hg]
        · isplitl [HS0 HS1]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _ _ _ _ _ _ _ _)
            unfold owns; iexists _; isplitr
            swap; · iexact HS1
            ipureintro; exact View.read_writes_of_cover _ _ _ _ _ (scover0_A_1 c _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]
        · unfold owns; iexists _; isplitr
          swap; · iexact H6
          ipureintro; exact View.read_writes_of_cover _ _ _ _ _ (cover0_A_6 c _ _ _ _ _ _ _ _ _ _ _ _ _ _ _ _ _ _ _ _ _ _ _ _ _ _ _ _ _ _ _ _)
        isplitl [H7]; · iexists _; iexact H7
        iexists _; iexact H8
      · rw [PhiS_castSucc m c t, PhiS_pos m c _ _ hz]
        rw [outsAt0_A m c t h0 h1]
        unfold out0_A_6 sout0_A_0 sout0_A_1; (try dsimp only)
        iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        iapply ((bodyRunA c (grid0.coords t) _ _ _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t) (chkAt m c t)).2.2.2.2.2 _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [H7]; · iexact H7
        isplitl [H8]; · iexact H8
        isplitl [HS0]; · iexists _; iexact HS0
        isplitl [HS1]; · iexists _; iexact HS1
        iintro ⟨H0, H1, H2, H3, H4, H5, ⟨%e6, H6⟩, H7, H8, ⟨%es0, HS0⟩, ⟨%es1, HS1⟩⟩
        isplitl [HS0 HS1 Hg]
        · isplitl [HS0 HS1]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _ _ _ _ _ _ _ _)
            unfold owns; iexists _; isplitr
            swap; · iexact HS1
            ipureintro; exact View.read_writes_of_cover _ _ _ _ _ (scover0_A_1 c _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]
        · unfold owns; iexists _; isplitr
          swap; · iexact H6
          ipureintro; exact View.read_writes_of_cover _ _ _ _ _ (cover0_A_6 c _ _ _ _ _ _ _ _ _ _ _ _ _ _ _ _ _ _ _ _ _ _ _ _ _ _ _ _ _ _ _ _)
        isplitl [H7]; · iexists _; iexact H7
        iexists _; iexact H8
  · by_cases h1 : t.val % 16 = 15
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      rw [show (dats m 0 c).leavesExact 6 t = owns (c : Thread nD τ) (ms0_6 t) fullShare ((dats m 0 c).after 6 t) from by
      unfold Dat.leavesExact; rw [liveAt0_6 t], after0_6]
      rw [show (dats m 0 c).leavesExact 7 t = owns (c : Thread nD τ) (ms0_7 t) fullShare ((dats m 0 c).after 7 t) from by
      unfold Dat.leavesExact; rw [liveAt0_7_C t (fun h => h0 ((hcond0_0 t).mp h)) ((hcond0_1 t).mpr h1)], after0_7]
      rw [show (dats m 0 c).leavesExact 8 t = owns (c : Thread nD τ) (ms0_8 t) fullShare ((dats m 0 c).after 8 t) from by
      unfold Dat.leavesExact; rw [liveAt0_8_C t (fun h => h0 ((hcond0_0 t).mp h)) ((hcond0_1 t).mpr h1)], after0_8]
      by_cases hz : t.val = 0
      · exfalso; have hN : t.val < 64 := lt_of_lt_of_eq t.isLt (show cfg0.N = 64 from N_0); omega
      · rw [PhiS_castSucc m c t, PhiS_pos m c _ _ hz]
        rw [outsAt0_C m c t h0 h1]
        unfold out0_C_6 out0_C_7 out0_C_8 sout0_C_0 sout0_C_1; (try dsimp only)
        iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        iapply ((bodyRunC c (grid0.coords t) _ _ _ _ _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) (iblk m c 5 t) (chkAt m c t) _ _).2.2.2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [H7]; · iexists _; iexact H7
        isplitl [H8]; · iexists _; iexact H8
        isplitl [HS0]; · iexact HS0
        isplitl [HS1]; · iexact HS1
        iintro ⟨H0, H1, H2, H3, H4, H5, ⟨%e6, H6⟩, ⟨%e7, H7⟩, ⟨%e8, H8⟩, HS0, HS1⟩
        isplitl [HS0 HS1 Hg]
        · isplitl [HS0 HS1]
          · isplitl [HS0]
            · unfold owns; iexists _; isplitr
              swap; · iexact HS0
              ipureintro; rfl
            unfold owns; iexists _; isplitr
            swap; · iexact HS1
            ipureintro; rfl
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]
        · unfold owns; iexists _; isplitr
          swap; · iexact H6
          ipureintro; exact View.read_writes_of_cover _ _ _ _ _ (cover0_C_6 c _ _ _ _ _ _ _ _ _ _ _ _ _ _ _ _ _ _ _ _ _ _ _ _ _ _ _ _ _ _ _ _ _ _)
        isplitl [H7]
        · unfold owns; iexists _; isplitr
          swap; · iexact H7
          ipureintro; exact View.read_writes_of_cover _ _ _ _ _ (cover0_C_7 c _ _ _ _ _ _ _ _ _ _ _ _ _ _ _ _ _ _ _ _ _ _ _ _ _ _ _ _ _ _ _ _ _ _)
        unfold owns; iexists _; isplitr
        swap; · iexact H8
        ipureintro; exact View.read_writes_of_cover _ _ _ _ _ (cover0_C_8 c _ _ _ _ _ _ _ _ _ _ _ _ _ _ _ _ _ _ _ _ _ _ _ _ _ _ _ _ _ _ _ _ _ _)
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      rw [show (dats m 0 c).leavesExact 6 t = owns (c : Thread nD τ) (ms0_6 t) fullShare ((dats m 0 c).after 6 t) from by
      unfold Dat.leavesExact; rw [liveAt0_6 t], after0_6]
      rw [Dat.leavesExact_idle (dats m 0 c) 7 t (idleAt0_7_B t (fun h => h0 ((hcond0_0 t).mp h)) (fun h => h1 ((hcond0_1 t).mp h))) (noFlush0_7_B t (fun h => h0 ((hcond0_0 t).mp h)) (fun h => h1 ((hcond0_1 t).mp h)))]
      rw [Dat.leavesExact_idle (dats m 0 c) 8 t (idleAt0_8_B t (fun h => h0 ((hcond0_0 t).mp h)) (fun h => h1 ((hcond0_1 t).mp h))) (noFlush0_8_B t (fun h => h0 ((hcond0_0 t).mp h)) (fun h => h1 ((hcond0_1 t).mp h)))]
      by_cases hz : t.val = 0
      · exfalso; have hN : t.val < 64 := lt_of_lt_of_eq t.isLt (show cfg0.N = 64 from N_0); omega
      · rw [PhiS_castSucc m c t, PhiS_pos m c _ _ hz]
        rw [outsAt0_B m c t h0 h1]
        unfold out0_B_6 sout0_B_0 sout0_B_1; (try dsimp only)
        iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        iapply ((bodyRunB c (grid0.coords t) _ _ _ _ _ _ _ _ _ _ _ _ _ _ _ _ _ _ _ _ _ _ (fun h => h0 ((hcond0_0 t).mp h)) (fun h => h1 ((hcond0_1 t).mp h)) (iblk m c 0 t) (iblk m c 1 t) (iblk m c 2 t) (iblk m c 3 t) (iblk m c 4 t) (iblk m c 5 t) (chkAt m c t) _ _).2.2.2.2.2 _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [H7]; · iexact H7
        isplitl [H8]; · iexact H8
        isplitl [HS0]; · iexact HS0
        isplitl [HS1]; · iexact HS1
        iintro ⟨H0, H1, H2, H3, H4, H5, ⟨%e6, H6⟩, H7, H8, HS0, HS1⟩
        isplitl [HS0 HS1 Hg]
        · isplitl [HS0 HS1]
          · isplitl [HS0]
            · unfold owns; iexists _; isplitr
              swap; · iexact HS0
              ipureintro; rfl
            unfold owns; iexists _; isplitr
            swap; · iexact HS1
            ipureintro; rfl
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]
        · unfold owns; iexists _; isplitr
          swap; · iexact H6
          ipureintro; exact View.read_writes_of_cover _ _ _ _ _ (cover0_B_6 c _ _ _ _ _ _ _ _ _ _ _ _ _ _ _ _ _ _ _ _ _ _ _ _ _ _ _ _ _ _ _ _ _ _)
        isplitl [H7]; · iexists _; iexact H7
        iexists _; iexact H8

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1⟩, Hg⟩
  isplitl [HS0 HS1]
  · isplitl [HS0]
    · iexists _; iexact HS0
    iexists _; iexact HS1
  iexact Hg

/-- The same after the last point. -/
theorem hout (c : Dev nD) : (dats m 0 c).Φ (Fin.last cfg0.N) ⊢ Pipeline.ΦA spec0 c :=
  Phi_out m c _ (by rw [Fin.val_last]; have : cfg0.N = 64 := N_0; omega)

/-! ## The run and the frame -/

set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it. -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

/-- THE FRAME: `Cert.quiescent_KernelIdeal`'s statement (Defs.lean) at any `F` — Proof.lean cites it at `Bits`:
    `theorem Cert.Proof.claim : Cert.Claim := ⟨Cert.KernelIdeal.Gen.facts, fun m ρ _ => Cert.KernelIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.KernelIdeal.Sb

end
-- ==== Proof.Same.lean ====
/- The kernel's program and its idealization are one text: the same programs, table for table and line for line. -/
module

public import proofs.«01_k».proof.Defs
public import proofs.«01_k».proof.Proof.Gen.Kernel
public import proofs.«01_k».proof.Proof.Gen.KernelIdeal

@[expose] public section

set_option maxRecDepth 65536

noncomputable section

namespace Cert.Proof.Same

open Idealize.ShloMosaic Idealize.SL.Sem

set_option maxHeartbeats 4000000 in
/-- The body tables. -/
theorem defs₀_eq : Cert.Kernel.defs₀ (F := Bits) = Cert.KernelIdeal.defs₀ (F := Bits) := by
  unfold Cert.Kernel.defs₀ Cert.KernelIdeal.defs₀
  refine congrArg Defs.onTc ?_
  funext l a
  match l, a with
  | ⟨0, _⟩, (t, s) =>
    rfl

/-- The body tables at the pipeline's labels. -/
theorem defs_eq : Cert.Kernel.defs (F := Bits) = Cert.KernelIdeal.defs (F := Bits) :=
  congrArg (Pipeline.defs Cert.KernelIdeal.pcfgs) defs₀_eq

set_option maxHeartbeats 4000000 in
/-- The programs. -/
theorem main_eq : Cert.Kernel.main (F := Bits) = Cert.KernelIdeal.main (F := Bits) := by rfl

/-- A run of equal programs under equal tables ends in the same states. -/
theorem transport {nD : Nat} {τ : Topo} {sig : RefSig} {Val : EltTy → Type} {Λ : Labels} {d d' : Defs nD τ sig Val Λ} (hd : d = d')
    {p p' : Dev nD → Prog (TpuEff nD τ sig Val Λ .tc) PUnit} (hp : p = p') {s : MemSt nD τ sig Val} {Q : PUnit × MemSt nD τ sig Val → Prop}
    (h : θ_run d' (onTc (τ := τ) p') s Q) : θ_run d (onTc (τ := τ) p) s Q := by
  subst hd hp; exact h

end Cert.Proof.Same

end
-- ==== Proof.Real.lean ====
/- The attention's gradient over the real numbers. -/
module

public import Idealize.ShloMosaic.Lib.Pointwise

@[expose] public section

/-! # The attention's gradient over the real numbers

One head's arrays as functions of row and column, and everything both programs compute of them: the logits, the
weights, what the weights' gradients are, and the three results. -/

namespace Cert.Sb

open Idealize.ShloMosaic

/-- The scale of the logits: the real number the word `0x3DB504F3` names. -/
noncomputable def scale : ℝ := 11863283 * (2 ^ 27)⁻¹

theorem ofBits_scale : Ideal.ofBits .f32 0x3DB504F3#32 = (scale : EReal) := by
  simp [Ideal.ofBits, Ideal.ieee, scale, EReal.coe_mul]

/-- `log (1 + exp (-|x|))`. -/
noncomputable def sp (x : ℝ) : ℝ := Real.log (1 + Real.exp (0 - |x|))
/-- The logarithm of the logistic function of `x`. -/
noncomputable def lbv (x : ℝ) : ℝ := min x 0 - sp x
/-- The logarithm of the logistic function of `-x`. -/
noncomputable def l1v (x : ℝ) : ℝ := 0 - (max x 0 + sp x)

/-- One head's arrays, by row and column. -/
structure Head where
  Q : ℕ → ℕ → ℝ
  K : ℕ → ℕ → ℝ
  V : ℕ → ℕ → ℝ
  D : ℕ → ℕ → ℝ

namespace Head

variable (H : Head)

/-- The logit of query `r` at key `j`. -/
noncomputable def z (r j : ℕ) : ℝ := (∑ d : Fin 128, H.Q r d * H.K j d) * scale
/-- What key `j` leaves to the keys before it, for query `r`; nothing at a key that is not before the query. -/
noncomputable def l1 (r j : ℕ) : ℝ := if j < r then l1v (H.z r j) else 0
/-- The sum of `l1` over the keys after `j`. -/
noncomputable def later (r j : ℕ) : ℝ :=
  ∑ j' ∈ Finset.range 4096, H.l1 r j' - ∑ j' ∈ Finset.range (j + 1), H.l1 r j'
/-- The weight of key `j` for query `r`. -/
noncomputable def att (r j : ℕ) : ℝ := if j < r then Real.exp (lbv (H.z r j) + H.later r j) else 0
/-- The weight times its gradient. -/
noncomputable def p (r j : ℕ) : ℝ := H.att r j * ∑ d : Fin 128, H.D r d * H.V j d
/-- The gradient of the logit, scaled. -/
noncomputable def dz (r j : ℕ) : ℝ :=
  if j < r then (H.p r j * (1 - Real.exp (lbv (H.z r j)))
    - (∑ j' ∈ Finset.range j, H.p r j') * Real.exp (lbv (H.z r j))) * scale else 0
noncomputable def dq (r d : ℕ) : ℝ := ∑ j ∈ Finset.range 4096, H.dz r j * H.K j d
noncomputable def dk (j d : ℕ) : ℝ := ∑ r ∈ Finset.range 4096, H.dz r j * H.Q r d
noncomputable def dv (j d : ℕ) : ℝ := ∑ r ∈ Finset.range 4096, H.att r j * H.D r d

end Head

theorem coe_sum {ι : Type*} (s : Finset ι) (f : ι → ℝ) : ∑ i ∈ s, (f i : EReal) = ((∑ i ∈ s, f i : ℝ) : EReal) := by
  classical
  induction s using Finset.induction_on with
  | empty => simp
  | insert a s h ih => rw [Finset.sum_insert h, Finset.sum_insert h, ih, EReal.coe_add]

theorem exp_real (x : ℝ) : Ideal.exp (x : EReal) = ((Real.exp x : ℝ) : EReal) := Ideal.exp_coe x

theorem log_real (x : ℝ) (h : 0 < x) : Ideal.log (x : EReal) = ((Real.log x : ℝ) : EReal) := by
  rw [Ideal.log_coe, if_neg (not_le.mpr h)]

theorem max_real (x y : ℝ) : max (x : EReal) (y : EReal) = ((max x y : ℝ) : EReal) := by
  rcases le_total x y with h | h
  · rw [max_eq_right h, max_eq_right (EReal.coe_le_coe_iff.mpr h)]
  · rw [max_eq_left h, max_eq_left (EReal.coe_le_coe_iff.mpr h)]

theorem min_real (x y : ℝ) : min (x : EReal) (y : EReal) = ((min x y : ℝ) : EReal) := by
  rcases le_total x y with h | h
  · rw [min_eq_left h, min_eq_left (EReal.coe_le_coe_iff.mpr h)]
  · rw [min_eq_right h, min_eq_right (EReal.coe_le_coe_iff.mpr h)]

theorem abs_real (x : ℝ) : max (x : EReal) (-(x : EReal)) = ((|x| : ℝ) : EReal) := by
  rw [← EReal.coe_neg, max_real]
  rfl

theorem one_add_exp_pos (x : ℝ) : 0 < 1 + Real.exp x := by positivity

/-! ## Sums over a block of keys -/

theorem sum_block (f : ℕ → ℝ) (b : ℕ) :
    ∑ j ∈ Finset.range b, f j + ∑ j : Fin 256, f (b + j.val) = ∑ j ∈ Finset.range (b + 256), f j := by
  rw [Finset.sum_range_add, Finset.sum_range (n := 256)]

theorem sum_upto (f : ℕ → ℝ) (b : ℕ) (j : Fin 256) :
    ∑ j' : Fin 256, f (b + j'.val) * (if j'.val ≤ j.val then 1 else 0)
      = ∑ j' ∈ Finset.range (b + j.val + 1), f j' - ∑ j' ∈ Finset.range b, f j' := by
  have h := Finset.sum_range (n := 256) (fun x => f (b + x) * (if x ≤ j.val then (1 : ℝ) else 0))
  rw [← h, add_assoc, Finset.sum_range_add, add_sub_cancel_left]
  simp only [mul_ite, mul_one, mul_zero]
  rw [← Finset.sum_filter]
  apply Finset.sum_congr _ fun _ _ => rfl
  ext x
  have := j.isLt
  simp only [Finset.mem_filter, Finset.mem_range]
  omega

theorem sum_before (f : ℕ → ℝ) (b : ℕ) (j : Fin 256) :
    ∑ j' : Fin 256, f (b + j'.val) * (if j'.val < j.val then 1 else 0)
      = ∑ j' ∈ Finset.range (b + j.val), f j' - ∑ j' ∈ Finset.range b, f j' := by
  have h := Finset.sum_range (n := 256) (fun x => f (b + x) * (if x < j.val then (1 : ℝ) else 0))
  rw [← h, Finset.sum_range_add, add_sub_cancel_left]
  simp only [mul_ite, mul_one, mul_zero]
  rw [← Finset.sum_filter]
  apply Finset.sum_congr _ fun _ _ => rfl
  ext x
  have := j.isLt
  simp only [Finset.mem_filter, Finset.mem_range]
  omega

/-- Two heads side by side: the first in the first 128 columns, the second in the next. -/
noncomputable def pair (f g : ℕ → ℕ → ℝ) (j d : ℕ) : ℝ := if d < 128 then f j d else g j (d - 128)

/-- What a block of queries adds to the keys' gradient, and to the values'. -/
noncomputable def Head.addK (H : Head) (i j d : ℕ) : ℝ := ∑ r : Fin 256, H.dz (256 * i + r.val) j * H.Q (256 * i + r.val) d
noncomputable def Head.addV (H : Head) (i j d : ℕ) : ℝ := ∑ r : Fin 256, H.att (256 * i + r.val) j * H.D (256 * i + r.val) d

end Cert.Sb
-- ==== Proof.Heads.lean ====
/- The heads of the arguments, and sums over a window of keys. -/
module

public import proofs.«01_k».proof.Proof.Real

@[expose] public section

set_option maxRecDepth 16384

noncomputable section

namespace Cert.Sb

open Idealize.ShloMosaic

/-- An array of 4096 rows and 1024 columns. -/
abbrev Arr : Type := (⟨2, ![4096, 1024]⟩ : Shape).Idx → EReal

/-- Every entry of the array is a real number. -/
def Finite (x : Arr) : Prop := ∀ j, x j ≠ ⊤ ∧ x j ≠ ⊥

/-- The array's entry as a real number, by row and column. -/
def entry (x : Arr) (r c : ℕ) : ℝ := if h : r < 4096 ∧ c < 1024 then (x (ix2 ⟨r, h.1⟩ ⟨c, h.2⟩)).toReal else 0

theorem entry_val {x : Arr} (hx : Finite x) (r : Fin 4096) (c : Fin 1024) : x (ix2 r c) = ((entry x r.val c.val : ℝ) : EReal) := by
  unfold entry
  rw [dif_pos ⟨r.isLt, c.isLt⟩]
  exact (EReal.coe_toReal (hx _).1 (hx _).2).symm

/-- The head of number `h` of the four arguments. -/
def headOf (q k v o : Arr) (h : ℕ) : Head where
  Q r d := entry q r (128 * h + d)
  K r d := entry k r (128 * h + d)
  V r d := entry v r (128 * h + d)
  D r d := entry o r (128 * h + d)

/-- Two heads side by side are 256 columns of the array. -/
theorem pair_entry (x : Arr) (h r d : ℕ) :
    pair (fun r d => entry x r (128 * (2 * h) + d)) (fun r d => entry x r (128 * (2 * h + 1) + d)) r d = entry x r (256 * h + d) := by
  unfold pair
  split
  · exact congrArg (entry x r) (by omega)
  · exact congrArg (entry x r) (by omega)

theorem foldl_add {ι : Type*} (g : ι → EReal) (l : List ι) (v : EReal) : l.foldl (fun r n => r + g n) v = v + (l.map g).sum := by
  induction l generalizing v with
  | nil => simp
  | cons a l ih => rw [List.foldl_cons, ih, List.map_cons, List.sum_cons, add_assoc]

/-- The sum over a window of 4096 keys beginning `lo` before each key. -/
theorem window_sum (lo hi : ℕ) (x : (⟨3, ![8, 4096, 4096]⟩ : Shape).Idx → EReal) (init : (⟨0, ![]⟩ : Shape).Idx → EReal)
    (h0 : ∀ i, init i = 0) (f : Fin 8 → ℕ → ℕ → ℝ) (hx : ∀ h (r j : Fin 4096), x (ix3 h r j) = ((f h r.val j.val : ℝ) : EReal))
    (hw : (⟨3, ![8, 4096, 4096]⟩ : Shape).ReduceWindows ![1, 1, 4096] ![1, 1, 1] ![0, 0, lo] ![0, 0, hi] ⟨3, ![8, 4096, 4096]⟩)
    (hu : 0 < (⟨0, ![]⟩ : Shape).numel) (h : Fin 8) (r j : Fin 4096) :
    Host.reduceWindowAdd (F := Ideal) (φ := .f32) ![1, 1, 4096] ![1, 1, 1] ![0, 0, lo] ![0, 0, hi] x init hw hu (ix3 h r j)
      = ((∑ k ∈ Finset.range 4096, if lo ≤ j.val + k ∧ j.val + k - lo < 4096 then f h r.val (j.val + k - lo) else 0 : ℝ) : EReal) := by
  unfold Host.reduceWindowAdd
  rw [Ideal.hostReduceWindowAdd_def]
  unfold Ideal.hostReduceWindowAdd Host.reduceWindow
  simp only
  rw [foldl_add, h0, zero_add, ← Fin.sum_univ_def]
  rw [Equiv.sum_comp (⟨3, ![1, 1, 4096]⟩ : Shape).rowMajor.symm (fun w : (⟨3, ![1, 1, 4096]⟩ : Shape).Idx =>
    if hin : ∀ a : Fin 3, (![0, 0, lo] : Fin 3 → ℕ) a ≤ (ix3 h r j (a.cast hw.1.symm)).val * (![1, 1, 1] : Fin 3 → ℕ) a + (w a).val
      ∧ (ix3 h r j (a.cast hw.1.symm)).val * (![1, 1, 1] : Fin 3 → ℕ) a + (w a).val - (![0, 0, lo] : Fin 3 → ℕ) a < (⟨3, ![8, 4096, 4096]⟩ : Shape).size a
    then x (fun a => ⟨(ix3 h r j (a.cast hw.1.symm)).val * (![1, 1, 1] : Fin 3 → ℕ) a + (w a).val - (![0, 0, lo] : Fin 3 → ℕ) a, (hin a).2⟩) else 0)]
  rw [sum_idx3, Fin.sum_univ_one, Fin.sum_univ_one, Finset.sum_range, ← coe_sum]
  refine Finset.sum_congr rfl fun k _ => ?_
  by_cases hk : lo ≤ j.val + k.val ∧ j.val + k.val - lo < 4096
  · rw [if_pos hk, dif_pos, ← hx h r ⟨j.val + k.val - lo, hk.2⟩]
    · refine congrArg x (funext fun a => Fin.ext ?_)
      match a with
      | ⟨0, _⟩ => show h.val * 1 + 0 - 0 = h.val; omega
      | ⟨1, _⟩ => show r.val * 1 + 0 - 0 = r.val; omega
      | ⟨2, _⟩ => show j.val * 1 + k.val - lo = j.val + k.val - lo; omega
    · intro a
      match a with
      | ⟨0, _⟩ => exact ⟨Nat.zero_le _, by show h.val * 1 + 0 - 0 < 8; omega⟩
      | ⟨1, _⟩ => exact ⟨Nat.zero_le _, by show r.val * 1 + 0 - 0 < 4096; omega⟩
      | ⟨2, _⟩ => exact ⟨by show lo ≤ j.val * 1 + k.val; omega, by show j.val * 1 + k.val - lo < 4096; omega⟩
  · rw [if_neg hk, dif_neg]
    · rfl
    · intro hin
      obtain ⟨h1, h2⟩ := hin 2
      have h1' : lo ≤ j.val * 1 + k.val := h1
      have h2' : j.val * 1 + k.val - lo < 4096 := h2
      exact hk (by omega)

/-- The window beginning at the key itself holds the keys from it on. -/
theorem window_from (f : ℕ → ℝ) (j : ℕ) (hj : j < 4096) :
    (∑ k ∈ Finset.range 4096, if 0 ≤ j + k ∧ j + k - 0 < 4096 then f (j + k - 0) else 0)
      = ∑ k ∈ Finset.range 4096, f k - ∑ k ∈ Finset.range j, f k := by
  obtain ⟨n, hn⟩ : ∃ n, 4096 = j + n := ⟨4096 - j, by omega⟩
  have e : ∑ k ∈ Finset.range 4096, f k - ∑ k ∈ Finset.range j, f k = ∑ k ∈ Finset.range n, f (j + k) := by
    rw [hn, Finset.sum_range_add, add_sub_cancel_left]
  rw [e, ← Finset.sum_subset (Finset.range_mono (show n ≤ 4096 by omega))]
  · refine Finset.sum_congr rfl fun k hk => ?_
    have := Finset.mem_range.mp hk
    rw [if_pos ⟨by omega, by omega⟩, Nat.sub_zero]
  · intro k _ hk
    have : ¬ k < n := fun h => hk (Finset.mem_range.mpr h)
    rw [if_neg (by omega)]

/-- The window ending at the key itself holds the keys up to it. -/
theorem window_to (f : ℕ → ℝ) (j : ℕ) (hj : j < 4096) :
    (∑ k ∈ Finset.range 4096, if 4095 ≤ j + k ∧ j + k - 4095 < 4096 then f (j + k - 4095) else 0)
      = ∑ k ∈ Finset.range (j + 1), f k := by
  obtain ⟨n, hn⟩ : ∃ n, 4096 = n + (j + 1) := ⟨4095 - j, by omega⟩
  conv_lhs => rw [hn]
  rw [Finset.sum_range_add, Finset.sum_eq_zero, zero_add]
  · refine Finset.sum_congr rfl fun k hk => ?_
    have := Finset.mem_range.mp hk
    rw [if_pos ⟨by omega, by omega⟩]
    exact congrArg f (by omega)
  · intro k hk
    have := Finset.mem_range.mp hk
    rw [if_neg (by omega)]

/-- What is left of one by the logistic function. -/
theorem exp_rest (z : ℝ) : Real.exp (-z + lbv z) = 1 - Real.exp (lbv z) := by
  have hp : 0 < 1 + Real.exp (0 - |z|) := by positivity
  unfold lbv sp
  rw [show -z + (min z 0 - Real.log (1 + Real.exp (0 - |z|))) = (-z + min z 0) - Real.log (1 + Real.exp (0 - |z|)) by ring,
    Real.exp_sub (-z + min z 0), Real.exp_sub (min z 0), Real.exp_log hp, eq_sub_iff_add_eq, ← add_div, div_eq_one_iff_eq hp.ne']
  rcases le_total z 0 with h | h
  · rw [min_eq_left h, abs_of_nonpos h, neg_add_cancel, Real.exp_zero, zero_sub, neg_neg]
  · rw [min_eq_right h, abs_of_nonneg h, add_zero, Real.exp_zero, zero_sub, add_comm]

end Cert.Sb
-- ==== Proof.RefVal.lean ====
/- The reference's results, as the gradient over the real numbers. -/
module

public import proofs.«01_k».proof.Proof.Heads
public import proofs.«01_k».proof.Proof.Gen.ReferenceIdeal.Read

@[expose] public section

set_option maxRecDepth 16384

noncomputable section

namespace Cert.ReferenceIdeal.Sb

open Cert.ReferenceIdeal Cert.ReferenceIdeal.Gen Cert.ReferenceIdeal.Read Cert.Sb
open Idealize.ShloMosaic Idealize.ShloMosaic.TcCoe

/-- Two indices of rank three with equal entries. -/
theorem ext3 {n : Fin 3 → ℕ} {a b : (⟨3, n⟩ : Shape).Idx} (h0 : (a 0).val = (b 0).val) (h1 : (a 1).val = (b 1).val) (h2 : (a 2).val = (b 2).val) : a = b :=
  funext fun d => Fin.ext (match d with | ⟨0, _⟩ => h0 | ⟨1, _⟩ => h1 | ⟨2, _⟩ => h2)

/-- Two indices of rank two with equal entries. -/
theorem ext2 {n : Fin 2 → ℕ} {a b : (⟨2, n⟩ : Shape).Idx} (h0 : (a 0).val = (b 0).val) (h1 : (a 1).val = (b 1).val) : a = b :=
  funext fun d => Fin.ext (match d with | ⟨0, _⟩ => h0 | ⟨1, _⟩ => h1)

theorem max_neg_abs (y : ℝ) : max y (-y) = |y| := rfl

theorem cmp_une_self (x : EReal) : Ideal.cmp .une x x = 0#1 := by simp [Ideal.cmp]

theorem inf_top : Ideal.ofBits .f32 0x7F800000#32 = ⊤ := by simp [Ideal.ofBits, Ideal.ieee]

theorem cmp_oeq_inf (x : ℝ) : Ideal.cmp .oeq (x : EReal) ⊤ = 0#1 := by simp [Ideal.cmp]

theorem sel_zero (x y : EReal) : Scalar.select 0#1 x y = y := rfl

theorem sel_ite (c : Prop) [Decidable c] (x y : EReal) : Scalar.select (if c then 1#1 else 0#1) x y = if c then x else y := by
  split <;> rfl

theorem ite_coe (c : Prop) [Decidable c] (x y : ℝ) : (if c then (x : EReal) else (y : EReal)) = ((if c then x else y : ℝ) : EReal) := by
  split <;> rfl

theorem log1p_exp (x : ℝ) : Ideal.log1p ((Real.exp x : ℝ) : EReal) = ((Real.log (1 + Real.exp x) : ℝ) : EReal) := by
  show Ideal.log (1 + ((Real.exp x : ℝ) : EReal)) = _
  rw [← EReal.coe_one, ← EReal.coe_add, log_real _ (one_add_exp_pos x)]

theorem toInt_small (r : Fin 4096) : (BitVec.ofNat 32 r.val).toInt = r.val := by
  have := r.isLt
  rw [BitVec.toInt_ofNat']
  norm_num [Int.bmod]
  omega

theorem cmp_slt (r j : Fin 4096) : IntOp.cmpi CmpIPredicate.slt (BitVec.ofNat 32 r.val) (BitVec.ofNat 32 j.val)
    = if r.val < j.val then 1#1 else 0#1 := by
  by_cases h : r.val < j.val
  · rw [if_pos h]; simp [IntOp.cmpi, BitVec.slt, toInt_small, h]
  · rw [if_neg h]; simp [IntOp.cmpi, BitVec.slt, toInt_small, h]

section

variable (x0 x1 x2 : (⟨S4096x1024, .bf16⟩ : BufTy).Contents (Elt Ideal)) (x3 : (⟨S4096x1024, .f32⟩ : BufTy).Contents (Elt Ideal))
  (f0 : Finite x0) (f1 : Finite x1) (f2 : Finite x2) (f3 : Finite x3)

include f0 in
theorem heads_q (h : Fin 8) (r : Fin 4096) (d : Fin 128) :
    val_main_v2 (F := Ideal) x0 (ix3 h r d) = ((entry x0 r.val (128 * h.val + d.val) : ℝ) : EReal) := by
  rw [val_main_v2_apply, val_main_v1_apply, val_main_v0_apply, Ideal.extf_def]
  refine (congrArg x0 (ext2 (b := ix2 r ⟨128 * h.val + d.val, by omega⟩) ?_ ?_)).trans (entry_val f0 r ⟨128 * h.val + d.val, by omega⟩)
  · show ((r.val * 8 + h.val) * 128 + d.val) / 1024 = r.val
    omega
  · show ((r.val * 8 + h.val) * 128 + d.val) % 1024 = 128 * h.val + d.val
    omega

include f1 in
theorem heads_k (h : Fin 8) (r : Fin 4096) (d : Fin 128) :
    val_main_v5 (F := Ideal) x1 (ix3 h r d) = ((entry x1 r.val (128 * h.val + d.val) : ℝ) : EReal) := by
  rw [val_main_v5_apply, val_main_v4_apply, val_main_v3_apply, Ideal.extf_def]
  refine (congrArg x1 (ext2 (b := ix2 r ⟨128 * h.val + d.val, by omega⟩) ?_ ?_)).trans (entry_val f1 r ⟨128 * h.val + d.val, by omega⟩)
  · show ((r.val * 8 + h.val) * 128 + d.val) / 1024 = r.val
    omega
  · show ((r.val * 8 + h.val) * 128 + d.val) % 1024 = 128 * h.val + d.val
    omega

include f2 in
theorem heads_v (h : Fin 8) (r : Fin 4096) (d : Fin 128) :
    val_main_v8 (F := Ideal) x2 (ix3 h r d) = ((entry x2 r.val (128 * h.val + d.val) : ℝ) : EReal) := by
  rw [val_main_v8_apply, val_main_v7_apply, val_main_v6_apply, Ideal.extf_def]
  refine (congrArg x2 (ext2 (b := ix2 r ⟨128 * h.val + d.val, by omega⟩) ?_ ?_)).trans (entry_val f2 r ⟨128 * h.val + d.val, by omega⟩)
  · show ((r.val * 8 + h.val) * 128 + d.val) / 1024 = r.val
    omega
  · show ((r.val * 8 + h.val) * 128 + d.val) % 1024 = 128 * h.val + d.val
    omega

include f3 in
theorem heads_o (h : Fin 8) (r : Fin 4096) (d : Fin 128) :
    val_main_v32 (F := Ideal) x3 (ix3 h r d) = ((entry x3 r.val (128 * h.val + d.val) : ℝ) : EReal) := by
  rw [val_main_v32_apply, val_main_v31_apply]
  refine (congrArg x3 (ext2 (b := ix2 r ⟨128 * h.val + d.val, by omega⟩) ?_ ?_)).trans (entry_val f3 r ⟨128 * h.val + d.val, by omega⟩)
  · show ((r.val * 8 + h.val) * 128 + d.val) / 1024 = r.val
    omega
  · show ((r.val * 8 + h.val) * 128 + d.val) % 1024 = 128 * h.val + d.val
    omega

include f0 f1 in
theorem z_val (h : Fin 8) (r j : Fin 4096) :
    val_main_v11 (F := Ideal) x0 x1 (ix3 h r j) = (((headOf x0 x1 x2 x3 h.val).z r.val j.val : ℝ) : EReal) := by
  have hs : ∀ k : Fin 128, val_main_v2 (F := Ideal) x0 (lidx_main_v9 (ix3 h r j) k) * val_main_v5 (F := Ideal) x1 (ridx_main_v9 (ix3 h r j) k)
      = ((entry x0 r.val (128 * h.val + k.val) * entry x1 j.val (128 * h.val + k.val) : ℝ) : EReal) := fun k => by
    rw [EReal.coe_mul, ← heads_q x0 f0 h r k, ← heads_k x1 f1 h j k]
    exact congrArg₂ (fun a b => val_main_v2 (F := Ideal) x0 a * val_main_v5 (F := Ideal) x1 b) (ext3 rfl rfl rfl) (ext3 rfl rfl rfl)
  rw [val_main_v11_apply, val_main_v9_apply, Finset.sum_congr rfl fun k _ => hs k, coe_sum, val_main_v10_apply, val_main_cst_apply,
    Ideal.mulf_def, Ideal.ofBits_def, ofBits_scale, ← EReal.coe_mul]
  rfl

theorem mask_val (r j : Fin 4096) : val_main_v18 (F := Ideal) (ix2 r j) = if j.val < r.val then 1#1 else 0#1 := by
  rw [val_main_v18_apply, val_main_v16_apply, val_main_v17_apply, val_main_v13_apply, val_main_v15_apply, val_main_v12_apply, val_main_v14_apply]
  exact cmp_slt j r

theorem mask_v22 (h : Fin 8) (r j : Fin 4096) : val_main_v22_1 (F := Ideal) (ix3 h r j) = if j.val < r.val then 1#1 else 0#1 := by
  rw [val_main_v22_1_apply, ← mask_val r j]
  exact congrArg _ (ext2 rfl rfl)

theorem mask_v27 (h : Fin 8) (r j : Fin 4096) : val_main_v27_1 (F := Ideal) (ix3 h r j) = if j.val < r.val then 1#1 else 0#1 := by
  rw [val_main_v27_1_apply, ← mask_val r j]
  exact congrArg _ (ext2 rfl rfl)

section Logits

variable (z : ℝ) (i : S8x4096x4096.Idx) (hz : val_main_v11 (F := Ideal) x0 x1 i = (z : EReal))

include hz in
theorem soft0 : val_main_call0_v1_0 (F := Ideal) x0 x1 i = ((max (-z) 0 + sp z : ℝ) : EReal) := by
  simp only [val_main_call0_v1_0_apply, val_main_call0_call0_v4_apply, val_main_call0_call0_v11_apply, val_main_call0_call0_v10_apply,
    val_main_call0_call0_v9_apply, val_main_call0_call0_v8_apply, val_main_call0_call0_v7_apply, val_main_call0_call0_v3_apply,
    val_main_call0_call0_v2_apply, val_main_call0_call0_v1_apply, val_main_call0_call0_v0_apply, val_main_call0_call0_cst_apply,
    val_main_call0_v0_apply, hz, Ideal.hostNegf_def, Ideal.negf_def, Ideal.hostAbsf_def, Ideal.absf_def, Ideal.hostUnary_exp_def, Ideal.hostUnary_log1p_def, Ideal.subf_def,
    Ideal.addf_def, Ideal.maximumf_def, Ideal.ofBits_def, Ideal.ofBits_zero_f32, Ideal.cmpf_def, cmp_une_self, sel_zero, sub_zero]
  simp only [← EReal.coe_neg, ← EReal.coe_zero, max_real, exp_real, log1p_exp, ← EReal.coe_add, max_neg_abs, abs_neg, zero_sub, sp]

include hz in
theorem soft1 : val_main_call1_v1_0 (F := Ideal) x0 x1 i = ((max z 0 + sp z : ℝ) : EReal) := by
  simp only [val_main_call1_v1_0_apply, val_main_call1_call0_v4_apply, val_main_call1_call0_v11_apply, val_main_call1_call0_v10_apply,
    val_main_call1_call0_v9_apply, val_main_call1_call0_v8_apply, val_main_call1_call0_v7_apply, val_main_call1_call0_v3_apply,
    val_main_call1_call0_v2_apply, val_main_call1_call0_v1_apply, val_main_call1_call0_v0_apply, val_main_call1_call0_cst_apply,
    val_main_call1_v0_apply, val_main_v20_apply, hz, Ideal.hostNegf_def, Ideal.negf_def, Ideal.hostAbsf_def, Ideal.absf_def, Ideal.hostUnary_exp_def, Ideal.hostUnary_log1p_def, Ideal.subf_def,
    Ideal.addf_def, Ideal.maximumf_def, Ideal.ofBits_def, Ideal.ofBits_zero_f32, Ideal.cmpf_def, cmp_une_self, sel_zero, sub_zero]
  simp only [← EReal.coe_neg, ← EReal.coe_zero, max_real, exp_real, log1p_exp, ← EReal.coe_add, max_neg_abs, abs_neg, zero_sub, neg_neg, sp]

include hz in
theorem lb_val : val_main_v19_0 (F := Ideal) x0 x1 i = ((lbv z : ℝ) : EReal) := by
  rw [val_main_v19_0_apply, soft0 x0 x1 z i hz, Ideal.hostNegf_def, Ideal.negf_def, ← EReal.coe_neg]
  refine congrArg _ ?_
  unfold lbv
  rw [neg_add, ← min_neg_neg, neg_neg, neg_zero, sub_eq_add_neg]

include hz in
theorem l1v_val : val_main_v21_0 (F := Ideal) x0 x1 i = ((l1v z : ℝ) : EReal) := by
  rw [val_main_v21_0_apply, soft1 x0 x1 z i hz, Ideal.hostNegf_def, Ideal.negf_def, ← EReal.coe_neg]
  refine congrArg _ ?_
  unfold l1v
  rw [zero_sub]

include hz in
theorem rest_val : val_main_v19_1 (F := Ideal) x0 x1 i = ((1 - Real.exp (lbv z) : ℝ) : EReal) := by
  simp only [val_main_v19_1_apply, val_main_call0_call0_v21_apply, val_main_call0_call0_v16_apply, val_main_call0_call0_v14_apply,
    val_main_call0_call0_v20_apply, val_main_call0_call0_v18_apply, val_main_call0_call0_v13_apply, val_main_call0_call0_v17_apply,
    val_main_call0_call0_cst_0_apply, val_main_call0_call0_cst_2_apply, soft0 x0 x1 z i hz, val_main_call0_v0_apply, hz,
    Ideal.hostNegf_def, Ideal.negf_def, Ideal.hostUnary_exp_def, Ideal.subf_def, Ideal.ofBits_def, inf_top, Ideal.cmpf_def, ← EReal.coe_neg, cmp_oeq_inf,
    sel_zero, ← EReal.coe_sub, exp_real]
  refine congrArg _ ?_
  rw [← exp_rest]
  refine congrArg _ ?_
  unfold lbv
  have : min z 0 = -max (-z) 0 := by rw [← min_neg_neg, neg_neg, neg_zero]
  rw [this]
  ring

include hz in
theorem expit_val : val_main_v21_1 (F := Ideal) x0 x1 i = ((Real.exp (lbv z) : ℝ) : EReal) := by
  simp only [val_main_v21_1_apply, val_main_call1_call0_v21_apply, val_main_call1_call0_v16_apply, val_main_call1_call0_v14_apply,
    val_main_call1_call0_v20_apply, val_main_call1_call0_v18_apply, val_main_call1_call0_v13_apply, val_main_call1_call0_v17_apply,
    val_main_call1_call0_cst_0_apply, val_main_call1_call0_cst_2_apply, soft1 x0 x1 z i hz, val_main_call1_v0_apply, val_main_v20_apply, hz,
    Ideal.hostNegf_def, Ideal.negf_def, Ideal.hostUnary_exp_def, Ideal.subf_def, Ideal.ofBits_def, inf_top, Ideal.cmpf_def, ← EReal.coe_neg, cmp_oeq_inf,
    sel_zero, ← EReal.coe_sub, exp_real, neg_neg]
  refine congrArg _ (congrArg _ ?_)
  unfold lbv
  have := min_add_max z 0
  linarith

end Logits

section Stages

variable (h : Fin 8) (r j : Fin 4096)

include f0 f1 in
theorem l1_val : val_main_v22_0 (F := Ideal) x0 x1 (ix3 h r j) = (((headOf x0 x1 x2 x3 h.val).l1 r.val j.val : ℝ) : EReal) := by
  rw [val_main_v22_0_apply, mask_v22, l1v_val x0 x1 _ _ (z_val x0 x1 x2 x3 f0 f1 h r j), val_main_call2_v2_apply, val_main_call2_v0_apply,
    val_main_cst_0_apply, sel_ite]
  simp only [Ideal.ofBits_def, Ideal.ofBits_zero_f32, Ideal.hostConvertf_def, ← EReal.coe_zero, ite_coe]
  rfl

include f0 f1 in
theorem suffix_val : val_main_v23 (F := Ideal) x0 x1 (ix3 h r j)
    = ((∑ k ∈ Finset.range 4096, (headOf x0 x1 x2 x3 h.val).l1 r.val k - ∑ k ∈ Finset.range j.val, (headOf x0 x1 x2 x3 h.val).l1 r.val k : ℝ) : EReal) := by
  rw [← window_from _ _ j.isLt]
  exact window_sum 0 4095 _ _ (fun i => by rw [val_main_call3_v0_apply, val_main_call3_cst_apply, Ideal.ofBits_def, Ideal.ofBits_zero_f32])
    (fun h r j => (headOf x0 x1 x2 x3 h.val).l1 r j) (fun h r j => l1_val x0 x1 x2 x3 f0 f1 h r j) _ _ h r j

include f0 f1 in
theorem att_exp : val_main_v26 (F := Ideal) x0 x1 (ix3 h r j)
    = ((Real.exp (lbv ((headOf x0 x1 x2 x3 h.val).z r.val j.val) + (headOf x0 x1 x2 x3 h.val).later r.val j.val) : ℝ) : EReal) := by
  rw [val_main_v26_apply, val_main_v25_apply, val_main_v24_apply, suffix_val x0 x1 x2 x3 f0 f1, l1_val x0 x1 x2 x3 f0 f1,
    lb_val x0 x1 _ _ (z_val x0 x1 x2 x3 f0 f1 h r j), Ideal.hostUnary_exp_def, Ideal.addf_def, Ideal.subf_def, ← EReal.coe_sub, ← EReal.coe_add, exp_real]
  refine congrArg _ (congrArg _ (congrArg _ ?_))
  unfold Head.later
  rw [Finset.sum_range_succ _ j.val, sub_add_eq_sub_sub]

include f0 f1 in
theorem att_val : val_main_v27_0 (F := Ideal) x0 x1 (ix3 h r j) = (((headOf x0 x1 x2 x3 h.val).att r.val j.val : ℝ) : EReal) := by
  rw [val_main_v27_0_apply, mask_v27, att_exp x0 x1 x2 x3 f0 f1, val_main_call4_v2_apply, val_main_call4_v0_apply, val_main_cst_1_apply, sel_ite]
  simp only [Ideal.ofBits_def, Ideal.ofBits_zero_f32, Ideal.hostConvertf_def, ← EReal.coe_zero, ite_coe]
  rfl

include f2 f3 in
theorem da_val : val_main_v35 (F := Ideal) x2 x3 (ix3 h r j)
    = ((∑ d : Fin 128, (headOf x0 x1 x2 x3 h.val).D r.val d.val * (headOf x0 x1 x2 x3 h.val).V j.val d.val : ℝ) : EReal) := by
  have hs : ∀ k : Fin 128, val_main_v32 (F := Ideal) x3 (lidx_main_v35 (ix3 h r j) k) * val_main_v8 (F := Ideal) x2 (ridx_main_v35 (ix3 h r j) k)
      = ((entry x3 r.val (128 * h.val + k.val) * entry x2 j.val (128 * h.val + k.val) : ℝ) : EReal) := fun k => by
    rw [EReal.coe_mul, ← heads_o x3 f3 h r k, ← heads_v x2 f2 h j k]
    exact congrArg₂ (fun a b => val_main_v32 (F := Ideal) x3 a * val_main_v8 (F := Ideal) x2 b) (ext3 rfl rfl rfl) (ext3 rfl rfl rfl)
  rw [val_main_v35_apply, Finset.sum_congr rfl fun k _ => hs k, coe_sum]
  rfl

include f0 f1 f2 f3 in
theorem p_val : val_main_v37 (F := Ideal) x0 x1 x2 x3 (ix3 h r j) = (((headOf x0 x1 x2 x3 h.val).p r.val j.val : ℝ) : EReal) := by
  rw [val_main_v37_apply, val_main_v36_apply, mask_v27, att_exp x0 x1 x2 x3 f0 f1, da_val x0 x1 x2 x3 f2 f3, val_main_call5_v0_apply, val_main_call5_cst_apply,
    sel_ite, Ideal.mulf_def, Ideal.ofBits_def, Ideal.ofBits_zero_f32, ← EReal.coe_zero, ite_coe, ← EReal.coe_mul]
  refine congrArg _ ?_
  unfold Head.p Head.att
  split
  · rw [mul_comm]
  · rw [zero_mul, zero_mul]

include f0 f1 f2 f3 in
theorem prefix_val : val_main_v39 (F := Ideal) x0 x1 x2 x3 (ix3 h r j)
    = ((∑ k ∈ Finset.range (j.val + 1), (headOf x0 x1 x2 x3 h.val).p r.val k : ℝ) : EReal) := by
  rw [← window_to _ _ j.isLt]
  exact window_sum 4095 0 _ _ (fun i => by rw [val_main_call6_v0_apply, val_main_call6_cst_apply, Ideal.ofBits_def, Ideal.ofBits_zero_f32])
    (fun h r j => (headOf x0 x1 x2 x3 h.val).p r j) (fun h r j => p_val x0 x1 x2 x3 f0 f1 f2 f3 h r j) _ _ h r j

include f0 f1 f2 f3 in
theorem dz_val : val_main_v47 (F := Ideal) x0 x1 x2 x3 (ix3 h r j) = (((headOf x0 x1 x2 x3 h.val).dz r.val j.val : ℝ) : EReal) := by
  rw [val_main_v47_apply, val_main_v45_apply, val_main_v43_apply, val_main_v42_apply, val_main_call8_v1_apply, val_main_call8_v0_apply, val_main_v41_apply,
    val_main_v40_apply, val_main_v38_apply, val_main_v44_apply, val_main_call9_v1_apply, val_main_call9_v0_apply, prefix_val x0 x1 x2 x3 f0 f1 f2 f3,
    p_val x0 x1 x2 x3 f0 f1 f2 f3, mask_v22, expit_val x0 x1 _ _ (z_val x0 x1 x2 x3 f0 f1 h r j), rest_val x0 x1 _ _ (z_val x0 x1 x2 x3 f0 f1 h r j),
    val_main_call7_v0_apply, val_main_call7_cst_apply, val_main_v46_apply, val_main_cst_2_apply, sel_ite]
  simp only [Ideal.hostNegf_def, Ideal.negf_def, Ideal.mulf_def, Ideal.addf_def, Ideal.ofBits_def, Ideal.ofBits_zero_f32, ofBits_scale, ← EReal.coe_zero,
    ← EReal.coe_neg, ← EReal.coe_add, ite_coe, ← EReal.coe_mul]
  refine congrArg _ ?_
  rw [Finset.sum_range_succ]
  unfold Head.dz
  by_cases hj : j.val < r.val
  · rw [if_pos hj, if_pos hj]
    ring
  · have hp : (headOf x0 x1 x2 x3 h.val).p r.val j.val = 0 := by
      unfold Head.p Head.att
      rw [if_neg hj, zero_mul]
    rw [if_neg hj, if_neg hj, hp]
    ring

end Stages

section Results

variable (h : Fin 8) (r : Fin 4096) (d : Fin 128)

include f0 f1 f2 f3 in
theorem dq_val : val_main_v49 (F := Ideal) x0 x1 x2 x3 (ix3 h r d) = (((headOf x0 x1 x2 x3 h.val).dq r.val d.val : ℝ) : EReal) := by
  have hs : ∀ k : Fin 4096, val_main_v47 (F := Ideal) x0 x1 x2 x3 (lidx_main_v49 (ix3 h r d) k) * val_main_v5 (F := Ideal) x1 (ridx_main_v49 (ix3 h r d) k)
      = (((headOf x0 x1 x2 x3 h.val).dz r.val k.val * entry x1 k.val (128 * h.val + d.val) : ℝ) : EReal) := fun k => by
    rw [EReal.coe_mul, ← dz_val x0 x1 x2 x3 f0 f1 f2 f3 h r k, ← heads_k x1 f1 h k d]
    exact congrArg₂ (fun a b => val_main_v47 (F := Ideal) x0 x1 x2 x3 a * val_main_v5 (F := Ideal) x1 b) (ext3 rfl rfl rfl) (ext3 rfl rfl rfl)
  rw [val_main_v49_apply, Finset.sum_congr rfl fun k _ => hs k, coe_sum, Head.dq, Finset.sum_range]
  rfl

include f0 f1 f2 f3 in
theorem dk_val : val_main_v48 (F := Ideal) x0 x1 x2 x3 (ix3 h r d) = (((headOf x0 x1 x2 x3 h.val).dk r.val d.val : ℝ) : EReal) := by
  have hs : ∀ k : Fin 4096, val_main_v47 (F := Ideal) x0 x1 x2 x3 (lidx_main_v48 (ix3 h r d) k) * val_main_v2 (F := Ideal) x0 (ridx_main_v48 (ix3 h r d) k)
      = (((headOf x0 x1 x2 x3 h.val).dz k.val r.val * entry x0 k.val (128 * h.val + d.val) : ℝ) : EReal) := fun k => by
    rw [EReal.coe_mul, ← dz_val x0 x1 x2 x3 f0 f1 f2 f3 h k r, ← heads_q x0 f0 h k d]
    exact congrArg₂ (fun a b => val_main_v47 (F := Ideal) x0 x1 x2 x3 a * val_main_v2 (F := Ideal) x0 b) (ext3 rfl rfl rfl) (ext3 rfl rfl rfl)
  rw [val_main_v48_apply, Finset.sum_congr rfl fun k _ => hs k, coe_sum, Head.dk, Finset.sum_range]
  rfl

include f0 f1 f3 in
theorem dv_val : val_main_v34 (F := Ideal) x0 x1 x3 (ix3 h r d) = (((headOf x0 x1 x2 x3 h.val).dv r.val d.val : ℝ) : EReal) := by
  have hs : ∀ k : Fin 4096, val_main_v32 (F := Ideal) x3 (lidx_main_v33 (idx_main_v34 (ix3 h r d)) k) * val_main_v27_0 (F := Ideal) x0 x1 (ridx_main_v33 (idx_main_v34 (ix3 h r d)) k)
      = (((headOf x0 x1 x2 x3 h.val).att k.val r.val * entry x3 k.val (128 * h.val + d.val) : ℝ) : EReal) := fun k => by
    rw [EReal.coe_mul, ← att_val x0 x1 x2 x3 f0 f1 h k r, ← heads_o x3 f3 h k d, mul_comm]
    exact congrArg₂ (fun a b => val_main_v27_0 (F := Ideal) x0 x1 a * val_main_v32 (F := Ideal) x3 b) (ext3 rfl rfl rfl) (ext3 rfl rfl rfl)
  rw [val_main_v34_apply, val_main_v33_apply, Finset.sum_congr rfl fun k _ => hs k, coe_sum, Head.dv, Finset.sum_range]
  rfl

end Results

section Final

variable (r : Fin 4096) (C : Fin 1024)

include f0 f1 f2 f3 in
theorem res_dq : val_main_v58 (F := Ideal) x0 x1 x2 x3 (ix2 r C)
    = (((headOf x0 x1 x2 x3 (C.val / 128)).dq r.val (C.val % 128) : ℝ) : EReal) := by
  rw [val_main_v58_apply, Ideal.truncf_def, val_main_v57_apply, val_main_v56_apply,
    ← dq_val x0 x1 x2 x3 f0 f1 f2 f3 ⟨C.val / 128, by omega⟩ r ⟨C.val % 128, by omega⟩]
  refine congrArg _ (ext3 ?_ ?_ ?_)
  · show ((r.val * 1024 + C.val) / 128) % 8 = C.val / 128
    omega
  · show (r.val * 1024 + C.val) / 1024 = r.val
    omega
  · show (r.val * 1024 + C.val) % 128 = C.val % 128
    omega

include f0 f1 f2 f3 in
theorem res_dk : val_main_v55 (F := Ideal) x0 x1 x2 x3 (ix2 r C)
    = (((headOf x0 x1 x2 x3 (C.val / 128)).dk r.val (C.val % 128) : ℝ) : EReal) := by
  rw [val_main_v55_apply, Ideal.truncf_def, val_main_v54_apply, val_main_v53_apply,
    ← dk_val x0 x1 x2 x3 f0 f1 f2 f3 ⟨C.val / 128, by omega⟩ r ⟨C.val % 128, by omega⟩]
  refine congrArg _ (ext3 ?_ ?_ ?_)
  · show ((r.val * 1024 + C.val) / 128) % 8 = C.val / 128
    omega
  · show (r.val * 1024 + C.val) / 1024 = r.val
    omega
  · show (r.val * 1024 + C.val) % 128 = C.val % 128
    omega

include f0 f1 f3 in
theorem res_dv : val_main_v52 (F := Ideal) x0 x1 x3 (ix2 r C)
    = (((headOf x0 x1 x2 x3 (C.val / 128)).dv r.val (C.val % 128) : ℝ) : EReal) := by
  rw [val_main_v52_apply, Ideal.truncf_def, val_main_v51_apply, val_main_v50_apply,
    ← dv_val x0 x1 x2 x3 f0 f1 f3 ⟨C.val / 128, by omega⟩ r ⟨C.val % 128, by omega⟩]
  refine congrArg _ (ext3 ?_ ?_ ?_)
  · show ((r.val * 1024 + C.val) / 128) % 8 = C.val / 128
    omega
  · show (r.val * 1024 + C.val) / 1024 = r.val
    omega
  · show (r.val * 1024 + C.val) % 128 = C.val % 128
    omega

end Final

end

end Cert.ReferenceIdeal.Sb
-- ==== Proof.Host.lean ====
/- What the host hands the call. -/
module

public import proofs.«01_k».proof.Proof.Word
public import proofs.«01_k».proof.Proof.RefVal

@[expose] public section

set_option maxRecDepth 16384

noncomputable section

namespace Cert.KernelIdeal.Sb

open Idealize.ShloMosaic Idealize.ShloMosaic.TcCoe
open Idealize.ShloMosaic.Tactic
open Cert.KernelIdeal.Gen Cert.Sb

/-- The sum over the keys, per query and head, repeated over the head's columns. -/
def spread (w : FVec Ideal S8x4096x4096 .f32) : FVec Ideal S4096x1024 .f32 :=
  shapeCast S4096x1024 (broadcastInDim S4096x8x128 ![0, 1, 2] bcast_S4096x8x1_S4096x8x128_0_1_2
    (broadcastInDim S4096x8x1 ![0, 1] bcast_S4096x8_S4096x8x1_0_1
      (transpose S4096x8 [1, 0] (Host.reduceAdd w (constant S_ .f32 0#32) reducesTo_S8x4096x4096_S8x4096_d2 h_S_) transposes_S8x4096_S4096x8_1_0)))
    shapeCasts_S4096x8x128_S4096x1024

theorem spread_val (w : FVec Ideal S8x4096x4096 .f32) (r : Fin 4096) (C : Fin 1024) :
    spread w (ix2 r C) = ∑ k : Fin 4096, w (ix3 ⟨C.val / 128, by omega⟩ r k) := by
  pointwise [spread]

variable (m : (ℓ : Loc nD τ sig) → Buf (Elt Ideal) ℓ)

/-- The arguments. -/
abbrev argQ (c : Dev nD) : Arr := m ((c.tc : Thread nD τ).loc main_arg0)
abbrev argK (c : Dev nD) : Arr := m ((c.tc : Thread nD τ).loc main_arg1)
abbrev argV (c : Dev nD) : Arr := m ((c.tc : Thread nD τ).loc main_arg2)
abbrev argD (c : Dev nD) : Arr := m ((c.tc : Thread nD τ).loc main_arg3)

theorem V_main_v27 (c : Dev nD) : V m c main_v27 = concatenate S4096x3072 1
    [⟨S4096x1024, argQ m c⟩, ⟨S4096x1024, argK m c⟩, ⟨S4096x1024, argV m c⟩] concatenates_S4096x1024_S4096x1024_S4096x1024_S4096x3072_d1 := by
  unfold V
  simp only [hostOps0, hostOps0_1, hostOps0_2, hostOps0_3, hostOps0_4, List.flatten_cons, List.flatten_nil, List.append_nil, List.cons_append, List.nil_append]
  after_reads_simp
  rfl

theorem V_main_arg3 (c : Dev nD) : V m c main_arg3 = argD m c := by
  unfold V
  simp only [hostOps0, hostOps0_1, hostOps0_2, hostOps0_3, hostOps0_4, List.flatten_cons, List.flatten_nil, List.append_nil, List.cons_append, List.nil_append]
  after_reads_simp

theorem V_main_v23 (c : Dev nD) : V m c main_v23 = spread (Cert.ReferenceIdeal.Read.val_main_v22_0 (F := Ideal) (argQ m c) (argK m c)) := by
  unfold V
  simp only [hostOps0, hostOps0_1, hostOps0_2, hostOps0_3, hostOps0_4, List.flatten_cons, List.flatten_nil, List.append_nil, List.cons_append, List.nil_append]
  after_reads_simp
  sl_kernel_rfl

/-- The three arguments side by side. -/
def cat (q k v : Arr) (r C : ℕ) : ℝ :=
  if C < 1024 then entry q r C else if C < 2048 then entry k r (C - 1024) else entry v r (C - 2048)

theorem cat_val (q k v : Arr) (f0 : Finite q) (f1 : Finite k) (f2 : Finite v) (r : Fin 4096) (C : Fin 3072) :
    concatenate S4096x3072 1 [⟨S4096x1024, q⟩, ⟨S4096x1024, k⟩, ⟨S4096x1024, v⟩] concatenates_S4096x1024_S4096x1024_S4096x1024_S4096x3072_d1 (ix2 r C)
      = ((cat q k v r.val C.val : ℝ) : EReal) := by
  unfold cat
  pointwise
  split
  · exact entry_val f0 r ⟨C.val, by omega⟩
  · split
    · rw [if_pos (show C.val < 2048 by omega)]
      exact entry_val f1 r ⟨C.val - 1024, by omega⟩
    · rw [if_neg (show ¬ C.val < 2048 by omega)]
      exact (entry_val f2 r ⟨C.val - 1024 - 1024, by omega⟩).trans (congrArg _ (congrArg (entry v r.val) (by show C.val - 1024 - 1024 = C.val - 2048; omega)))

theorem V27_val (c : Dev nD) (f0 : Finite (argQ m c)) (f1 : Finite (argK m c)) (f2 : Finite (argV m c)) (j : S4096x3072.Idx) :
    V m c main_v27 j = ((cat (argQ m c) (argK m c) (argV m c) (j 0).val (j 1).val : ℝ) : EReal) := by
  rw [V_main_v27]
  exact (congrArg _ (eq_ix2 j)).trans (cat_val _ _ _ f0 f1 f2 (j 0) (j 1))

theorem V23_val (c : Dev nD) (f0 : Finite (argQ m c)) (f1 : Finite (argK m c)) (j : S4096x1024.Idx) :
    V m c main_v23 j
      = ((∑ k ∈ Finset.range 4096, (headOf (argQ m c) (argK m c) (argV m c) (argD m c) ((j 1).val / 128)).l1 (j 0).val k : ℝ) : EReal) := by
  rw [V_main_v23]
  refine (congrArg _ (eq_ix2 j)).trans ((spread_val _ (j 0) (j 1)).trans ?_)
  rw [Finset.sum_range, ← coe_sum]
  exact Finset.sum_congr rfl fun k _ =>
    Cert.ReferenceIdeal.Sb.l1_val (argQ m c) (argK m c) (argV m c) (argD m c) f0 f1 ⟨(j 1).val / 128, by have : (j 1).val < 1024 := (j 1).isLt; omega⟩ (j 0) k

end Cert.KernelIdeal.Sb
-- ==== Proof.Blocks.lean ====
/- What the windows read at each point. -/
module

public import proofs.«01_k».proof.Proof.Host

@[expose] public section

set_option maxRecDepth 16384

noncomputable section

namespace Cert.KernelIdeal.Sb

open Idealize.ShloMosaic Idealize.ShloMosaic.TcCoe Idealize.ShloMosaic.ValueKit
open Idealize.ShloMosaic.Tactic
open Cert.KernelIdeal.Gen Cert.Sb

variable (m : (ℓ : Loc nD τ sig) → Buf (Elt Ideal) ℓ) (c : Dev nD) (t : Fin cfg0.N)
  (f0 : Finite (argQ m c)) (f1 : Finite (argK m c)) (f2 : Finite (argV m c)) (f3 : Finite (argD m c))

theorem index0 : ∀ t : Fin cfg0.N, win0_0.index t = ![((grid0.coords t) 1).val, ((grid0.coords t) 0).val] := (by decide +kernel : ∀ t : Fin grid0.N, _)
theorem index1 : ∀ t : Fin cfg0.N, win0_1.index t = ![0, 4 + ((grid0.coords t) 0).val] := (by decide +kernel : ∀ t : Fin grid0.N, _)
theorem index2 : ∀ t : Fin cfg0.N, win0_2.index t = ![0, 8 + ((grid0.coords t) 0).val] := (by decide +kernel : ∀ t : Fin grid0.N, _)
theorem index3 : ∀ t : Fin cfg0.N, win0_3.index t = ![((grid0.coords t) 1).val, ((grid0.coords t) 0).val] := (by decide +kernel : ∀ t : Fin grid0.N, _)
theorem index4 : ∀ t : Fin cfg0.N, win0_4.index t = ![((grid0.coords t) 1).val, ((grid0.coords t) 0).val] := (by decide +kernel : ∀ t : Fin grid0.N, _)

include f0 f1 f2 in
theorem iblk0 (r d : Fin 256) : iblk m c 0 t (ix2 r d : S256x256.Idx) = ((entry (argQ m c) (256 * ((grid0.coords t) 1).val + r.val) (256 * ((grid0.coords t) 0).val + d.val) : ℝ) : EReal) := by
  have hlt : ((grid0.coords t) 0).val < 4 := ((grid0.coords t) 0).isLt
  have hd := d.isLt
  unfold iblk
  rw [View.read_apply, cast_eq]
  refine (V27_val m c f0 f1 f2 _).trans (congrArg _ ?_)
  refine (congrArg₂ (cat (argQ m c) (argK m c) (argV m c)) (x' := 256 * ((grid0.coords t) 1).val + r.val) (y' := 256 * ((grid0.coords t) 0).val + d.val) ?_ ?_).trans ?_
  · blk_simp [index0]
    try omega
  · blk_simp [index0]
    try omega
  · unfold cat
    rw [if_pos (by omega)]

include f0 f1 f2 in
theorem iblk1 (r : Fin 4096) (d : Fin 256) : iblk m c 1 t (ix2 r d : S4096x256.Idx) = ((entry (argK m c) (r.val) (256 * ((grid0.coords t) 0).val + d.val) : ℝ) : EReal) := by
  have hlt : ((grid0.coords t) 0).val < 4 := ((grid0.coords t) 0).isLt
  have hd := d.isLt
  unfold iblk
  rw [View.read_apply, cast_eq]
  refine (V27_val m c f0 f1 f2 _).trans (congrArg _ ?_)
  refine (congrArg₂ (cat (argQ m c) (argK m c) (argV m c)) (x' := r.val) (y' := 1024 + (256 * ((grid0.coords t) 0).val + d.val)) ?_ ?_).trans ?_
  · blk_simp [index1]
    try omega
  · blk_simp [index1]
    try omega
  · unfold cat
    rw [if_neg (by omega), if_pos (by omega)]
    exact congrArg _ (by omega)

include f0 f1 f2 in
theorem iblk2 (r : Fin 4096) (d : Fin 256) : iblk m c 2 t (ix2 r d : S4096x256.Idx) = ((entry (argV m c) (r.val) (256 * ((grid0.coords t) 0).val + d.val) : ℝ) : EReal) := by
  have hlt : ((grid0.coords t) 0).val < 4 := ((grid0.coords t) 0).isLt
  have hd := d.isLt
  unfold iblk
  rw [View.read_apply, cast_eq]
  refine (V27_val m c f0 f1 f2 _).trans (congrArg _ ?_)
  refine (congrArg₂ (cat (argQ m c) (argK m c) (argV m c)) (x' := r.val) (y' := 2048 + (256 * ((grid0.coords t) 0).val + d.val)) ?_ ?_).trans ?_
  · blk_simp [index2]
    try omega
  · blk_simp [index2]
    try omega
  · unfold cat
    rw [if_neg (by omega), if_neg (by omega)]
    exact congrArg _ (by omega)

include f3 in
theorem iblk3 (r d : Fin 256) : iblk m c 3 t (ix2 r d : S256x256.Idx) = ((entry (argD m c) (256 * ((grid0.coords t) 1).val + r.val) (256 * ((grid0.coords t) 0).val + d.val) : ℝ) : EReal) := by
  have hlt : ((grid0.coords t) 0).val < 4 := ((grid0.coords t) 0).isLt
  have ilt : ((grid0.coords t) 1).val < 16 := ((grid0.coords t) 1).isLt
  unfold iblk
  rw [View.read_apply, cast_eq]
  refine (congrFun (V_main_arg3 m c) _).trans ?_
  rw [← entry_val f3 ⟨256 * ((grid0.coords t) 1).val + r.val, by omega⟩ ⟨256 * ((grid0.coords t) 0).val + d.val, by omega⟩]
  refine congrArg _ (Cert.ReferenceIdeal.Sb.ext2 ?_ ?_)
  · show _ = 256 * ((grid0.coords t) 1).val + r.val
    blk_simp [index3]
    try omega
  · show _ = 256 * ((grid0.coords t) 0).val + d.val
    blk_simp [index3]
    try omega

include f0 f1 in
theorem iblk4 (r d : Fin 256) : iblk m c 4 t (ix2 r d : S256x256.Idx)
    = ((∑ k ∈ Finset.range 4096, (headOf (argQ m c) (argK m c) (argV m c) (argD m c) ((256 * ((grid0.coords t) 0).val + d.val) / 128)).l1 (256 * ((grid0.coords t) 1).val + r.val) k : ℝ) : EReal) := by
  unfold iblk
  rw [View.read_apply, cast_eq]
  refine (V23_val m c f0 f1 _).trans (congrArg _ ?_)
  refine congrArg₂ (fun R C => ∑ k ∈ Finset.range 4096, (headOf (argQ m c) (argK m c) (argV m c) (argD m c) (C / 128)).l1 R k) ?_ ?_
  · blk_simp [index4]
    try omega
  · blk_simp [index4]
    try omega

end Cert.KernelIdeal.Sb
-- ==== Proof.Pay.lean ====
/- What the body's expressions hold over the reals, entry by entry. -/
module

public import proofs.«01_k».proof.Proof.Gen.KernelIdeal.Skeleton
public import proofs.«01_k».proof.Proof.Real

@[expose] public section

namespace Cert.KernelIdeal.Sb

open Idealize.ShloMosaic Idealize.ShloMosaic.TcCoe Cert.KernelIdeal.Gen Cert.Sb

set_option maxRecDepth 16384

theorem toInt_small (r : Fin 256) : (BitVec.ofNat 32 r.val).toInt = (r.val : ℤ) := by
  have := r.isLt
  rw [BitVec.toInt_ofNat', Int.bmod_eq_of_le (by omega) (by omega)]

theorem cmp_sle (r j : Fin 256) : IntOp.cmpi CmpIPredicate.sle (BitVec.ofNat 32 r.val) (BitVec.ofNat 32 j.val)
    = if r.val ≤ j.val then 1#1 else 0#1 := by
  by_cases h : r.val ≤ j.val
  · rw [if_pos h]; simp [IntOp.cmpi, BitVec.sle, toInt_small, h]
  · rw [if_neg h]; simp [IntOp.cmpi, BitVec.sle, toInt_small, h]

theorem cmp_slt (r j : Fin 256) : IntOp.cmpi CmpIPredicate.slt (BitVec.ofNat 32 r.val) (BitVec.ofNat 32 j.val)
    = if r.val < j.val then 1#1 else 0#1 := by
  by_cases h : r.val < j.val
  · rw [if_pos h]; simp [IntOp.cmpi, BitVec.slt, toInt_small, h]
  · rw [if_neg h]; simp [IntOp.cmpi, BitVec.slt, toInt_small, h]

/-- One where the row is no later than the column. -/
theorem upto_val (r j : Fin 256) : k0_pay61 (F := Ideal) (ix2 r j) = (((if r.val ≤ j.val then 1 else 0 : ℝ)) : EReal) := by
  pointwise [k0_pay61]
  have h : ∀ r j : Fin 256, IntOp.cmpi CmpIPredicate.sle (BitVec.ofNat 32 r.val) (BitVec.ofNat 32 j.val)
      = if r.val ≤ j.val then 1#1 else 0#1 := cmp_sle
  rw [h]
  split <;> simp [FloatOps.sitofp]

/-- One where the row is before the column. -/
theorem before_val (r j : Fin 256) : k0_pay62 (F := Ideal) (ix2 r j) = (((if r.val < j.val then 1 else 0 : ℝ)) : EReal) := by
  pointwise [k0_pay62]
  rw [cmp_slt]
  split <;> simp [FloatOps.sitofp]

theorem zeros_val (r : Fin 256) : k0_pay63 (F := Ideal) (ix2 r 0) = ((0 : ℝ) : EReal) := by
  pointwise [k0_pay63]
  rfl

theorem zeros2_val (r : Fin 256) (d : Fin 128) : k0_pay64 (F := Ideal) (ix2 r d) = ((0 : ℝ) : EReal) := by
  pointwise [k0_pay64]
  rfl

section Steps

variable (H : Head) (i n : ℕ) (hn : n < i)
  (v4 vk v8 vv : Vec Ideal S256x128 .bf16)
  (hq : ∀ (r : Fin 256) (d : Fin 128), v4 (ix2 r d) = ((H.Q (256 * i + r.val) d.val : ℝ) : EReal))
  (hk : ∀ (j : Fin 256) (d : Fin 128), vk (ix2 j d) = ((H.K (256 * n + j.val) d.val : ℝ) : EReal))
  (ho : ∀ (r : Fin 256) (d : Fin 128), v8 (ix2 r d) = ((H.D (256 * i + r.val) d.val : ℝ) : EReal))
  (hv : ∀ (j : Fin 256) (d : Fin 128), vv (ix2 j d) = ((H.V (256 * n + j.val) d.val : ℝ) : EReal))
  (v13 seen psum : Vec Ideal S256x1 .f32)
  (ht : ∀ r : Fin 256, v13 (ix2 r 0) = ((∑ j ∈ Finset.range 4096, H.l1 (256 * i + r.val) j : ℝ) : EReal))
  (hs : ∀ r : Fin 256, seen (ix2 r 0) = ((∑ j ∈ Finset.range (256 * n), H.l1 (256 * i + r.val) j : ℝ) : EReal))
  (hp : ∀ r : Fin 256, psum (ix2 r 0) = ((∑ j ∈ Finset.range (256 * n), H.p (256 * i + r.val) j : ℝ) : EReal))

include hn in
theorem lt_of_block (r j : Fin 256) : 256 * n + j.val < 256 * i + r.val := by have := r.isLt; have := j.isLt; omega

include hq hk in
theorem pay4_val (r j : Fin 256) : k0_pay4 (F := Ideal) v4 vk (ix2 r j) = ((H.z (256 * i + r.val) (256 * n + j.val) : ℝ) : EReal) := by
  pointwise [k0_pay4, k0_pay3]
  simp only [hq, hk, ofBits_scale, ← EReal.coe_mul, coe_sum, Head.z]

include hq hk in
theorem pay5_val (r j : Fin 256) :
    k0_pay5 (F := Ideal) v4 vk (ix2 r j) = ((sp (H.z (256 * i + r.val) (256 * n + j.val)) : ℝ) : EReal) := by
  pointwise [k0_pay5]
  rw [pay4_val H i n v4 vk hq hk, Ideal.absf_def, abs_real, ← EReal.coe_zero, ← EReal.coe_sub, exp_real, ← EReal.coe_one, ← EReal.coe_add,
    log_real _ (one_add_exp_pos _)]
  rfl

include hq hk in
theorem pay6_val (r j : Fin 256) :
    k0_pay6 (F := Ideal) v4 vk (ix2 r j) = ((lbv (H.z (256 * i + r.val) (256 * n + j.val)) : ℝ) : EReal) := by
  pointwise [k0_pay6]
  rw [pay4_val H i n v4 vk hq hk, pay5_val H i n v4 vk hq hk, ← EReal.coe_zero, min_real, ← EReal.coe_sub]
  rfl

include hq hk hn in
theorem pay7_val (r j : Fin 256) :
    k0_pay7 (F := Ideal) v4 vk (ix2 r j) = ((H.l1 (256 * i + r.val) (256 * n + j.val) : ℝ) : EReal) := by
  pointwise [k0_pay7]
  rw [pay4_val H i n v4 vk hq hk, pay5_val H i n v4 vk hq hk, ← EReal.coe_zero, max_real, ← EReal.coe_add, ← EReal.coe_sub,
    Head.l1, if_pos (lt_of_block i n hn r j)]
  rfl

include hq hk hn ht hs in
theorem pay8_val (r j : Fin 256) :
    k0_pay8 (F := Ideal) v4 v13 k0_pay61 seen vk (ix2 r j) = ((H.att (256 * i + r.val) (256 * n + j.val) : ℝ) : EReal) := by
  pointwise [k0_pay8]
  simp only [pay6_val H i n v4 vk hq hk, pay7_val H i n hn v4 vk hq hk, upto_val, ht, hs, ← EReal.coe_sub, ← EReal.coe_mul, coe_sum,
    sub_self, zero_mul, Finset.sum_const_zero, ← EReal.coe_add, add_zero, exp_real]
  rw [sum_upto (H.l1 (256 * i + r.val)), Head.att, if_pos (lt_of_block i n hn r j), Head.later, sub_sub_sub_cancel_right]

include hq hk ho hv hn ht hs in
theorem pay9_val (r j : Fin 256) :
    k0_pay9 (F := Ideal) v4 v8 v13 k0_pay61 seen vk vv (ix2 r j) = ((H.p (256 * i + r.val) (256 * n + j.val) : ℝ) : EReal) := by
  pointwise [k0_pay9]
  simp only [pay8_val H i n hn v4 vk hq hk v13 seen ht hs, ho, hv, ← EReal.coe_mul, coe_sum]
  rfl

include hq hk ho hv hn ht hs hp in
theorem pay13_val (r j : Fin 256) :
    k0_pay13 (F := Ideal) k0_pay62 psum (k0_pay6 v4 vk) (k0_pay9 v4 v8 v13 k0_pay61 seen vk vv)
        (k0_pay11 v4 v8 v13 k0_pay61 seen vk vv) (k0_pay12 v4 v8 v13 k0_pay61 k0_pay62 seen vk vv) (ix2 r j)
      = ((H.dz (256 * i + r.val) (256 * n + j.val) : ℝ) : EReal) := by
  pointwise [k0_pay13, k0_pay12, k0_pay11, k0_pay10]
  simp only [pay9_val H i n hn v4 vk v8 vv hq hk ho hv v13 seen ht hs, pay6_val H i n v4 vk hq hk, before_val, hp, ofBits_scale,
    ← EReal.coe_sub, ← EReal.coe_mul, coe_sum, ← EReal.coe_one,
    sub_self, zero_mul, Finset.sum_const_zero, ← EReal.coe_add, add_zero, exp_real]
  rw [sum_before (H.p (256 * i + r.val)), Head.dz, if_pos (lt_of_block i n hn r j), add_sub_cancel]

include hq hk ho hv hn ht hs hp in
theorem pay14_val (dq : Vec Ideal S256x128 .f32)
    (hd : ∀ (r : Fin 256) (d : Fin 128), dq (ix2 r d)
      = ((∑ j ∈ Finset.range (256 * n), H.dz (256 * i + r.val) j * H.K j d.val : ℝ) : EReal)) (r : Fin 256) (d : Fin 128) :
    k0_pay14 (F := Ideal) k0_pay62 psum dq (k0_pay3 vk) (k0_pay6 v4 vk) (k0_pay9 v4 v8 v13 k0_pay61 seen vk vv)
        (k0_pay11 v4 v8 v13 k0_pay61 seen vk vv) (k0_pay12 v4 v8 v13 k0_pay61 k0_pay62 seen vk vv) (ix2 r d)
      = ((∑ j ∈ Finset.range (256 * n + 256), H.dz (256 * i + r.val) j * H.K j d.val : ℝ) : EReal) := by
  pointwise [k0_pay14, k0_pay3]
  simp only [pay13_val H i n hn v4 vk v8 vv hq hk ho hv v13 seen psum ht hs hp, hd, hk, ← EReal.coe_mul, coe_sum, ← EReal.coe_add]
  rw [← sum_block]

include hq hk ho hv hn ht hs hp in
theorem pay15_val (w : Vec Ideal S256x128 .f32) (x : Fin 256 → Fin 128 → ℝ)
    (hw : ∀ (j : Fin 256) (d : Fin 128), w (ix2 j d) = ((x j d : ℝ) : EReal)) (j : Fin 256) (d : Fin 128) :
    k0_pay15 (F := Ideal) v4 k0_pay62 psum (k0_pay6 v4 vk) (k0_pay9 v4 v8 v13 k0_pay61 seen vk vv)
        (k0_pay11 v4 v8 v13 k0_pay61 seen vk vv) (k0_pay12 v4 v8 v13 k0_pay61 k0_pay62 seen vk vv) w (ix2 j d)
      = ((x j d + ∑ r : Fin 256, H.dz (256 * i + r.val) (256 * n + j.val) * H.Q (256 * i + r.val) d.val : ℝ) : EReal) := by
  pointwise [k0_pay15]
  simp only [pay13_val H i n hn v4 vk v8 vv hq hk ho hv v13 seen psum ht hs hp, hw, hq, ← EReal.coe_mul, coe_sum, ← EReal.coe_add]

include hq hk ho hn ht hs in
theorem pay16_val (w : Vec Ideal S256x128 .f32) (x : Fin 256 → Fin 128 → ℝ)
    (hw : ∀ (j : Fin 256) (d : Fin 128), w (ix2 j d) = ((x j d : ℝ) : EReal)) (j : Fin 256) (d : Fin 128) :
    k0_pay16 (F := Ideal) v8 (k0_pay8 v4 v13 k0_pay61 seen vk) w (ix2 j d)
      = ((x j d + ∑ r : Fin 256, H.att (256 * i + r.val) (256 * n + j.val) * H.D (256 * i + r.val) d.val : ℝ) : EReal) := by
  pointwise [k0_pay16]
  simp only [pay8_val H i n hn v4 vk hq hk v13 seen ht hs, hw, ho, ← EReal.coe_mul, coe_sum, ← EReal.coe_add]

include hq hk hn hs in
theorem pay17_val (r : Fin 256) : k0_pay17 (F := Ideal) seen (k0_pay7 v4 vk) (ix2 r 0)
      = ((∑ j ∈ Finset.range (256 * n + 256), H.l1 (256 * i + r.val) j : ℝ) : EReal) := by
  pointwise [k0_pay17]
  simp only [pay7_val H i n hn v4 vk hq hk, hs, coe_sum, ← EReal.coe_add]
  rw [← sum_block]

include hq hk ho hv hn ht hs hp in
theorem pay18_val (r : Fin 256) : k0_pay18 (F := Ideal) psum (k0_pay9 v4 v8 v13 k0_pay61 seen vk vv) (ix2 r 0)
      = ((∑ j ∈ Finset.range (256 * n + 256), H.p (256 * i + r.val) j : ℝ) : EReal) := by
  pointwise [k0_pay18]
  simp only [pay9_val H i n hn v4 vk v8 vv hq hk ho hv v13 seen ht hs, hp, coe_sum, ← EReal.coe_add]
  rw [← sum_block]

end Steps

/-! ## The second head's expressions are the first head's -/

theorem second_dq (psum v13 seen : Vec Ideal S256x1 .f32) (dq : Vec Ideal S256x128 .f32) (v4 vk v8 vv : Vec Ideal S256x128 .bf16) :
    k0_pay66 (F := Ideal) dq (k0_pay19 vk) (k0_pay27 v4 v8 v13 k0_pay61 k0_pay62 seen psum (k0_pay19 vk) (k0_pay20 vv))
      = k0_pay14 k0_pay62 psum dq (k0_pay3 vk) (k0_pay6 v4 vk) (k0_pay9 v4 v8 v13 k0_pay61 seen vk vv)
        (k0_pay11 v4 v8 v13 k0_pay61 seen vk vv) (k0_pay12 v4 v8 v13 k0_pay61 k0_pay62 seen vk vv) := rfl

theorem second_dk (psum v13 seen : Vec Ideal S256x1 .f32) (w : Vec Ideal S256x128 .f32) (v4 vk v8 vv : Vec Ideal S256x128 .bf16) :
    k0_pay67 (F := Ideal) v4 (k0_pay27 v4 v8 v13 k0_pay61 k0_pay62 seen psum (k0_pay19 vk) (k0_pay20 vv)) w
      = k0_pay15 v4 k0_pay62 psum (k0_pay6 v4 vk) (k0_pay9 v4 v8 v13 k0_pay61 seen vk vv)
        (k0_pay11 v4 v8 v13 k0_pay61 seen vk vv) (k0_pay12 v4 v8 v13 k0_pay61 k0_pay62 seen vk vv) w := rfl

theorem second_dv (v13 seen : Vec Ideal S256x1 .f32) (w : Vec Ideal S256x128 .f32) (v4 vk v8 : Vec Ideal S256x128 .bf16) :
    k0_pay68 (F := Ideal) v8 (k0_pay25 v4 v13 k0_pay61 seen (k0_pay19 vk)) w
      = k0_pay16 v8 (k0_pay8 v4 v13 k0_pay61 seen vk) w := rfl

theorem second_seen (seen : Vec Ideal S256x1 .f32) (v4 vk : Vec Ideal S256x128 .bf16) :
    k0_pay69 (F := Ideal) seen (k0_pay24 v4 (k0_pay19 vk)) = k0_pay17 seen (k0_pay7 v4 vk) := rfl

theorem second_psum (psum v13 seen : Vec Ideal S256x1 .f32) (v4 vk v8 vv : Vec Ideal S256x128 .bf16) :
    k0_pay70 (F := Ideal) psum (k0_pay26 v4 v8 v13 k0_pay61 seen (k0_pay19 vk) (k0_pay20 vv))
      = k0_pay18 psum (k0_pay9 v4 v8 v13 k0_pay61 seen vk vv) := rfl

/-! ## The block of the queries' own keys -/

/-- The rows' and the columns' numbers. -/
abbrev rowNo : IVec S256x256 32 := iota .tc S256x256 32 [0] iota_S256x256_d0_w32
abbrev colNo : IVec S256x256 32 := iota .tc S256x256 32 [1] iota_S256x256_d1_w32

theorem mask_val (r j : Fin 256) : k0_pay77 rowNo colNo (ix2 r j) = if j.val < r.val then 1#1 else 0#1 := by
  pointwise [k0_pay77]
  rw [cmp_slt]

section Diag

variable (H : Head) (i : ℕ)
  (v4 vk v8 vv : Vec Ideal S256x128 .bf16)
  (hq : ∀ (r : Fin 256) (d : Fin 128), v4 (ix2 r d) = ((H.Q (256 * i + r.val) d.val : ℝ) : EReal))
  (hk : ∀ (j : Fin 256) (d : Fin 128), vk (ix2 j d) = ((H.K (256 * i + j.val) d.val : ℝ) : EReal))
  (ho : ∀ (r : Fin 256) (d : Fin 128), v8 (ix2 r d) = ((H.D (256 * i + r.val) d.val : ℝ) : EReal))
  (hv : ∀ (j : Fin 256) (d : Fin 128), vv (ix2 j d) = ((H.V (256 * i + j.val) d.val : ℝ) : EReal))
  (v13 seen psum : Vec Ideal S256x1 .f32)
  (ht : ∀ r : Fin 256, v13 (ix2 r 0) = ((∑ j ∈ Finset.range 4096, H.l1 (256 * i + r.val) j : ℝ) : EReal))
  (hs : ∀ r : Fin 256, seen (ix2 r 0) = ((∑ j ∈ Finset.range (256 * i), H.l1 (256 * i + r.val) j : ℝ) : EReal))
  (hp : ∀ r : Fin 256, psum (ix2 r 0) = ((∑ j ∈ Finset.range (256 * i), H.p (256 * i + r.val) j : ℝ) : EReal))

theorem sel_ite (c : Prop) [Decidable c] (x y : EReal) : Scalar.select (if c then 1#1 else 0#1) x y = if c then x else y := by
  split <;> rfl

theorem pay82_eq : k0_pay82 (F := Ideal) v4 vk = k0_pay6 v4 vk := rfl
theorem pay80_eq : k0_pay80 (F := Ideal) v4 vk = k0_pay4 v4 vk := rfl
theorem pay81_eq : k0_pay81 (F := Ideal) v4 vk = k0_pay5 v4 vk := rfl

theorem ite_coe (c : Prop) [Decidable c] (x y : ℝ) : (if c then (x : EReal) else (y : EReal)) = ((if c then x else y : ℝ) : EReal) := by
  split <;> rfl

include hq hk ht hs in
theorem pay83_val (r j : Fin 256) :
    k0_pay83 (F := Ideal) v4 v13 rowNo colNo k0_pay61 seen vk (ix2 r j) = ((H.att (256 * i + r.val) (256 * i + j.val) : ℝ) : EReal) := by
  have hl : ∀ r j : Fin 256, H.l1 (256 * i + r.val) (256 * i + j.val)
      = if j.val < r.val then 0 - (max (H.z (256 * i + r.val) (256 * i + j.val)) 0 + sp (H.z (256 * i + r.val) (256 * i + j.val))) else 0 := by
    intro r j
    rw [Head.l1, l1v]
    simp only [add_lt_add_iff_left]
  have hU : ∀ x : Fin 256, (if x.val < r.val
        then (0 - (max (H.z (256 * i + r.val) (256 * i + x.val)) 0 + sp (H.z (256 * i + r.val) (256 * i + x.val))))
          * (if x.val ≤ j.val then (1 : ℝ) else 0) else 0)
      = H.l1 (256 * i + r.val) (256 * i + x.val) * (if x.val ≤ j.val then 1 else 0) := by
    intro x
    rw [hl r x, ite_mul, zero_mul]
  pointwise [k0_pay83]
  simp only [mask_val, sel_ite, pay82_eq, pay80_eq, pay81_eq, pay6_val H i i v4 vk hq hk, pay4_val H i i v4 vk hq hk,
    pay5_val H i i v4 vk hq hk, upto_val, ht, hs, ← EReal.coe_zero, max_real, ← EReal.coe_sub, ← EReal.coe_mul, ← EReal.coe_add, ite_coe, coe_sum,
    sub_self, zero_mul, Finset.sum_const_zero, exp_real, add_zero]
  rw [Finset.sum_congr rfl fun x _ => hU x, sum_upto (H.l1 (256 * i + r.val)), Head.att, Head.later, sub_sub_sub_cancel_right]
  simp only [add_lt_add_iff_left]

include hq hk ho hv ht hs hp in
theorem pay84_val (r j : Fin 256) :
    k0_pay84 (F := Ideal) v8 k0_pay62 psum (k0_pay77 rowNo colNo) (k0_pay79 vv) (k0_pay82 v4 vk)
        (k0_pay83 v4 v13 rowNo colNo k0_pay61 seen vk) (ix2 r j)
      = ((H.dz (256 * i + r.val) (256 * i + j.val) : ℝ) : EReal) := by
  have hP : ∀ x : Fin 256, H.att (256 * i + r.val) (256 * i + x.val) * ∑ d : Fin 128, H.D (256 * i + r.val) d.val * H.V (256 * i + x.val) d.val
      = H.p (256 * i + r.val) (256 * i + x.val) := fun x => rfl
  pointwise [k0_pay84, k0_pay79]
  simp only [mask_val, sel_ite, pay82_eq, pay6_val H i i v4 vk hq hk, pay83_val H i v4 vk hq hk v13 seen ht hs, before_val, ho, hv, hp,
    ofBits_scale, ← EReal.coe_one, ← EReal.coe_zero, ← EReal.coe_sub, ← EReal.coe_mul, coe_sum, ← EReal.coe_add, ite_coe,
    sub_self, zero_mul, Finset.sum_const_zero, exp_real, add_zero]
  simp only [hP]
  rw [sum_before (H.p (256 * i + r.val)), Head.dz, add_sub_cancel]
  simp only [add_lt_add_iff_left]

include hq hk ho hv ht hs hp in
theorem pay85_val (dq : Vec Ideal S256x128 .f32)
    (hd : ∀ (r : Fin 256) (d : Fin 128), dq (ix2 r d)
      = ((∑ j ∈ Finset.range (256 * i), H.dz (256 * i + r.val) j * H.K j d.val : ℝ) : EReal)) (r : Fin 256) (d : Fin 128) :
    k0_pay85 (F := Ideal) v8 k0_pay62 psum dq (k0_pay77 rowNo colNo) (k0_pay78 vk) (k0_pay79 vv) (k0_pay82 v4 vk)
        (k0_pay83 v4 v13 rowNo colNo k0_pay61 seen vk) (ix2 r d)
      = ((∑ j ∈ Finset.range (256 * i + 256), H.dz (256 * i + r.val) j * H.K j d.val : ℝ) : EReal) := by
  pointwise [k0_pay85, k0_pay78]
  simp only [pay84_val H i v4 vk v8 vv hq hk ho hv v13 seen psum ht hs hp, hd, hk, ← EReal.coe_mul, coe_sum, ← EReal.coe_add]
  rw [← sum_block]

include hq hk ho hv ht hs hp in
theorem pay86_val (w : Vec Ideal S256x128 .f32) (x : Fin 256 → Fin 128 → ℝ)
    (hw : ∀ (j : Fin 256) (d : Fin 128), w (ix2 j d) = ((x j d : ℝ) : EReal)) (j : Fin 256) (d : Fin 128) :
    k0_pay86 (F := Ideal) v4 v8 k0_pay62 psum (k0_pay77 rowNo colNo) (k0_pay79 vv) (k0_pay82 v4 vk)
        (k0_pay83 v4 v13 rowNo colNo k0_pay61 seen vk) w (ix2 j d)
      = ((x j d + ∑ r : Fin 256, H.dz (256 * i + r.val) (256 * i + j.val) * H.Q (256 * i + r.val) d.val : ℝ) : EReal) := by
  pointwise [k0_pay86]
  simp only [pay84_val H i v4 vk v8 vv hq hk ho hv v13 seen psum ht hs hp, hw, hq, ← EReal.coe_mul, coe_sum, ← EReal.coe_add]

include hq hk ho ht hs in
theorem pay87_val (w : Vec Ideal S256x128 .f32) (x : Fin 256 → Fin 128 → ℝ)
    (hw : ∀ (j : Fin 256) (d : Fin 128), w (ix2 j d) = ((x j d : ℝ) : EReal)) (j : Fin 256) (d : Fin 128) :
    k0_pay87 (F := Ideal) v8 (k0_pay83 v4 v13 rowNo colNo k0_pay61 seen vk) w (ix2 j d)
      = ((x j d + ∑ r : Fin 256, H.att (256 * i + r.val) (256 * i + j.val) * H.D (256 * i + r.val) d.val : ℝ) : EReal) := by
  pointwise [k0_pay87]
  simp only [pay83_val H i v4 vk hq hk v13 seen ht hs, hw, ho, ← EReal.coe_mul, coe_sum, ← EReal.coe_add]

end Diag

/-! ## The second head's, and the two stores of the queries' gradient -/

theorem second_diag_dk (psum v13 seen : Vec Ideal S256x1 .f32) (w : Vec Ideal S256x128 .f32) (v4 vk v8 vv : Vec Ideal S256x128 .bf16) :
    k0_pay98 (F := Ideal) v4 psum (k0_pay77 rowNo colNo) (k0_pay91 v4 (k0_pay88 vk))
        (k0_pay93 v4 v8 v13 k0_pay61 seen (k0_pay77 rowNo colNo) (k0_pay88 vk) vv)
        (k0_pay95 v4 v8 v13 k0_pay61 k0_pay62 seen (k0_pay77 rowNo colNo) (k0_pay88 vk) vv)
        (k0_pay96 v4 v8 v13 k0_pay61 k0_pay62 seen (k0_pay77 rowNo colNo) (k0_pay88 vk) vv) w
      = k0_pay86 v4 v8 k0_pay62 psum (k0_pay77 rowNo colNo) (k0_pay79 vv) (k0_pay82 v4 vk)
        (k0_pay83 v4 v13 rowNo colNo k0_pay61 seen vk) w := rfl

theorem second_diag_dv (v13 seen : Vec Ideal S256x1 .f32) (w : Vec Ideal S256x128 .f32) (v4 vk v8 : Vec Ideal S256x128 .bf16) :
    k0_pay99 (F := Ideal) v8 (k0_pay92 v4 v13 k0_pay61 seen (k0_pay77 rowNo colNo) (k0_pay88 vk)) w
      = k0_pay87 v8 (k0_pay83 v4 v13 rowNo colNo k0_pay61 seen vk) w := rfl

theorem second_diag_dq (psum v13 seen : Vec Ideal S256x1 .f32) (dq : Vec Ideal S256x128 .f32) (v4 vk v8 vv : Vec Ideal S256x128 .bf16) :
    k0_pay101 (F := Ideal) psum dq (k0_pay77 rowNo colNo) (k0_pay88 vk) (k0_pay91 v4 (k0_pay88 vk))
        (k0_pay93 v4 v8 v13 k0_pay61 seen (k0_pay77 rowNo colNo) (k0_pay88 vk) vv)
        (k0_pay95 v4 v8 v13 k0_pay61 k0_pay62 seen (k0_pay77 rowNo colNo) (k0_pay88 vk) vv)
        (k0_pay96 v4 v8 v13 k0_pay61 k0_pay62 seen (k0_pay77 rowNo colNo) (k0_pay88 vk) vv)
      = k0_pay85 v8 k0_pay62 psum dq (k0_pay77 rowNo colNo) (k0_pay78 vk) (k0_pay79 vv) (k0_pay82 v4 vk)
        (k0_pay83 v4 v13 rowNo colNo k0_pay61 seen vk) := rfl

theorem pay100_eq (x : Vec Ideal S256x128 .f32) : k0_pay100 (F := Ideal) x = x := rfl
theorem pay1_eq (x : Vec Ideal S4096x256 .f32) : k0_pay1 (F := Ideal) x = x := rfl
theorem pay2_eq (x : Vec Ideal S4096x256 .f32) : k0_pay2 (F := Ideal) x = x := rfl
theorem pay57_eq (x : Vec Ideal S256x128 .f32) : k0_pay57 (F := Ideal) x = x := rfl
theorem pay58_eq (x : Vec Ideal S256x128 .f32) : k0_pay58 (F := Ideal) x = x := rfl

theorem pay55_val (x : Vec Ideal S256x128 .bf16) (r : Fin 256) (d : Fin 128) : k0_pay55 (F := Ideal) x (ix2 r d) = x (ix2 r d) := by
  pointwise [k0_pay55]
theorem pay56_val (x : Vec Ideal S256x128 .bf16) (r : Fin 256) (d : Fin 128) : k0_pay56 (F := Ideal) x (ix2 r d) = x (ix2 r d) := by
  pointwise [k0_pay56]
theorem pay59_val (x : Vec Ideal S256x128 .f32) (r : Fin 256) : k0_pay59 (F := Ideal) x (ix2 r 0) = x (ix2 r 0) := by
  pointwise [k0_pay59]
theorem pay60_val (x : Vec Ideal S256x128 .f32) (r : Fin 256) : k0_pay60 (F := Ideal) x (ix2 r 0) = x (ix2 r 0) := by
  pointwise [k0_pay60]
theorem pay53_val (j : Fin 4096) (d : Fin 256) : k0_pay53 (F := Ideal) (ix2 j d) = ((0 : ℝ) : EReal) := by
  pointwise [k0_pay53]
  rfl
theorem pay54_val (j : Fin 4096) (d : Fin 256) : k0_pay54 (F := Ideal) (ix2 j d) = ((0 : ℝ) : EReal) := by
  pointwise [k0_pay54]
  rfl

end Cert.KernelIdeal.Sb
-- ==== Proof.Loop.lean ====
/- The loop over the key blocks: what a trip does, and what the carried sums hold before each. -/
module

public import proofs.«01_k».proof.Proof.Pay
public import proofs.«01_k».proof.Proof.Runs
public import Idealize.ShloMosaic.Lib.WritesUnit

@[expose] public section

set_option maxRecDepth 16384

noncomputable section

namespace Cert.KernelIdeal.Sb

open Idealize.ShloMosaic Idealize.ShloMosaic.TcCoe
open Cert.KernelIdeal.Gen Cert.Sb

/-- The half of a buffer's rows from a row and a column on. -/
abbrev blkOf {e : EltTy} (m : Memref sig .tc .vmem S4096x256 e) (X : BufTy.Contents (Elt Ideal) m.view.ty)
    (off : Fin 2 → ℕ) (inb : ∀ a, off a + S256x128.size a ≤ S4096x256.size a) : Vec Ideal S256x128 e :=
  View.readAt (Elt Ideal) m.view (Rect.unit (s := S4096x256) off S256x128.size inb).toLoadRect X

abbrev Carry := Vec Ideal S256x1 .f32 × Vec Ideal S256x1 .f32 × Vec Ideal S256x128 .f32 × Vec Ideal S256x1 .f32 × Vec Ideal S256x1 .f32 × Vec Ideal S256x128 .f32

/-- A half block reads the buffer at the block's row and column. -/
theorem blkOf_val {e : EltTy} (m : Memref sig .tc .vmem S4096x256 e) (X : BufTy.Contents (Elt Ideal) m.view.ty)
    (off : Fin 2 → ℕ) (inb : ∀ a, off a + S256x128.size a ≤ S4096x256.size a) {o l : ℕ} (h : off = ![o, l])
    (j : Fin 256) (d : Fin 128) (J : Fin 4096) (D : Fin 256) (hJ : J.val = o + j.val) (hD : D.val = l + d.val) :
    blkOf m X off inb (ix2 j d) = m.view.read (Elt Ideal) X (ix2 J D) := by
  subst h
  refine congrArg (m.view.read (Elt Ideal) X) ?_
  refine funext fun a => Fin.ext ?_
  fin_cases a
  · show o + 1 * j.val = J.val
    omega
  · show l + 1 * d.val = D.val
    omega

theorem row_lt {off : Fin 2 → ℕ} (inb : ∀ a, off a + S256x128.size a ≤ S4096x256.size a) {o l : ℕ} (h : off = ![o, l]) :
    o + 256 ≤ 4096 ∧ l + 128 ≤ 256 := by
  subst h
  exact ⟨inb 0, inb 1⟩

/-- What a buffer reads under the newest store of a half block, and outside it. -/
theorem read_cons (m : Memref sig .tc .vmem S4096x256 .f32) (f : BufTy.Contents (Elt Ideal) m.view.ty)
    (L : List (View.Piece (Elt Ideal) S4096x256 .f32)) (off : Fin 2 → ℕ) (inb : ∀ a, off a + S256x128.size a ≤ S4096x256.size a)
    {o l : ℕ} (h : off = ![o, l]) (w : Vec Ideal S256x128 .f32) (J : Fin 4096) (D : Fin 256) :
    (∀ (j : Fin 256) (d : Fin 128), J.val = o + j.val → D.val = l + d.val →
      m.view.read (Elt Ideal) (m.view.writes (Elt Ideal) f ((⟨Rect.unit (s := S4096x256) off S256x128.size inb, w⟩ : View.Piece (Elt Ideal) S4096x256 .f32) :: L)) (ix2 J D)
        = w (ix2 j d))
    ∧ (¬(o ≤ J.val ∧ J.val < o + 256 ∧ l ≤ D.val ∧ D.val < l + 128) →
      m.view.read (Elt Ideal) (m.view.writes (Elt Ideal) f ((⟨Rect.unit (s := S4096x256) off S256x128.size inb, w⟩ : View.Piece (Elt Ideal) S4096x256 .f32) :: L)) (ix2 J D)
        = m.view.read (Elt Ideal) (m.view.writes (Elt Ideal) f L) (ix2 J D)) := by
  constructor
  · intro j d hJ hD
    exact View.read_writes_cons_unit_of_mem m.view f inb w L (ix2 J D) (ix2 j d) h (Fin.forall_fin_two.mpr ⟨hJ, hD⟩)
  · intro hn
    by_cases h0 : o ≤ J.val ∧ J.val < o + 256
    · exact View.read_writes_cons_unit_of_not_mem m.view f inb w L (ix2 J D) h 1 (by
        show D.val < l ∨ l + 128 ≤ D.val
        omega)
    · exact View.read_writes_cons_unit_of_not_mem m.view f inb w L (ix2 J D) h 0 (by
        show J.val < o ∨ o + 256 ≤ J.val
        omega)

/-- A pass over a block of keys: the first head's half is rewritten with `a` added to it, then the second's with `b` added. -/
theorem read_two (m : Memref sig .tc .vmem S4096x256 .f32) (f : BufTy.Contents (Elt Ideal) m.view.ty)
    (L : List (View.Piece (Elt Ideal) S4096x256 .f32)) (off2 off3 : Fin 2 → ℕ)
    (inb2 : ∀ a, off2 a + S256x128.size a ≤ S4096x256.size a) (inb3 : ∀ a, off3 a + S256x128.size a ≤ S4096x256.size a)
    {o : ℕ} (h2 : off2 = ![o, 0]) (h3 : off3 = ![o, 128]) (W2 W3 : Vec Ideal S256x128 .f32 → Vec Ideal S256x128 .f32) (x a b : ℕ → ℕ → ℝ)
    (hf : ∀ (J : Fin 4096) (D : Fin 256), m.view.read (Elt Ideal) (m.view.writes (Elt Ideal) f L) (ix2 J D) = ((x J.val D.val : ℝ) : EReal))
    (hw2 : ∀ (w : Vec Ideal S256x128 .f32) (y : Fin 256 → Fin 128 → ℝ), (∀ j d, w (ix2 j d) = ((y j d : ℝ) : EReal)) →
      ∀ j d, W2 w (ix2 j d) = ((y j d + a (o + j.val) d.val : ℝ) : EReal))
    (hw3 : ∀ (w : Vec Ideal S256x128 .f32) (y : Fin 256 → Fin 128 → ℝ), (∀ j d, w (ix2 j d) = ((y j d : ℝ) : EReal)) →
      ∀ j d, W3 w (ix2 j d) = ((y j d + b (o + j.val) d.val : ℝ) : EReal))
    (J : Fin 4096) (D : Fin 256) :
    m.view.read (Elt Ideal) (m.view.writes (Elt Ideal) f
      ((⟨Rect.unit (s := S4096x256) off3 S256x128.size inb3, W3 (blkOf m (m.view.writes (Elt Ideal) f
          ((⟨Rect.unit (s := S4096x256) off2 S256x128.size inb2, W2 (blkOf m (m.view.writes (Elt Ideal) f L) off2 inb2)⟩ : View.Piece (Elt Ideal) S4096x256 .f32) :: L)) off3 inb3)⟩ : View.Piece (Elt Ideal) S4096x256 .f32)
        :: (⟨Rect.unit (s := S4096x256) off2 S256x128.size inb2, W2 (blkOf m (m.view.writes (Elt Ideal) f L) off2 inb2)⟩ : View.Piece (Elt Ideal) S4096x256 .f32) :: L)) (ix2 J D)
      = ((x J.val D.val + (if o ≤ J.val ∧ J.val < o + 256 then pair a b J.val D.val else 0) : ℝ) : EReal) := by
  have ho := (row_lt inb2 h2).1
  have e2 : ∀ (j : Fin 256) (d : Fin 128), W2 (blkOf m (m.view.writes (Elt Ideal) f L) off2 inb2) (ix2 j d)
      = ((x (o + j.val) d.val + a (o + j.val) d.val : ℝ) : EReal) := by
    refine hw2 _ (fun j d => x (o + j.val) d.val) fun j d => ?_
    rw [blkOf_val m _ off2 inb2 h2 j d ⟨o + j.val, by have := j.isLt; omega⟩ ⟨d.val, by have := d.isLt; omega⟩ rfl (by simp)]
    exact hf _ _
  have e3 : ∀ (j : Fin 256) (d : Fin 128), W3 (blkOf m (m.view.writes (Elt Ideal) f
          ((⟨Rect.unit (s := S4096x256) off2 S256x128.size inb2, W2 (blkOf m (m.view.writes (Elt Ideal) f L) off2 inb2)⟩ : View.Piece (Elt Ideal) S4096x256 .f32) :: L)) off3 inb3) (ix2 j d)
      = ((x (o + j.val) (128 + d.val) + b (o + j.val) d.val : ℝ) : EReal) := by
    refine hw3 _ (fun j d => x (o + j.val) (128 + d.val)) fun j d => ?_
    rw [blkOf_val m _ off3 inb3 h3 j d ⟨o + j.val, by have := j.isLt; omega⟩ ⟨128 + d.val, by have := d.isLt; omega⟩ rfl rfl]
    rw [(read_cons m f L off2 inb2 h2 _ _ _).2 (by show ¬(_ ∧ _ ∧ _ ∧ 128 + d.val < 0 + 128); omega)]
    exact hf _ _
  by_cases hr : o ≤ J.val ∧ J.val < o + 256
  · rw [if_pos hr]
    by_cases hd : D.val < 128
    · rw [(read_cons m f _ off3 inb3 h3 _ J D).2 (by omega),
        (read_cons m f L off2 inb2 h2 _ J D).1 ⟨J.val - o, by omega⟩ ⟨D.val, hd⟩ (by simp; omega) (by simp), e2, pair, if_pos hd]
      simp only [Nat.add_sub_cancel' hr.1]
    · have := D.isLt
      rw [(read_cons m f _ off3 inb3 h3 _ J D).1 ⟨J.val - o, by omega⟩ ⟨D.val - 128, by omega⟩ (by simp; omega) (by simp; omega), e3, pair, if_neg hd]
      simp only [Nat.add_sub_cancel' hr.1, Nat.add_sub_cancel' (Nat.le_of_not_lt hd)]
  · rw [if_neg hr, (read_cons m f _ off3 inb3 h3 _ J D).2 (by omega), (read_cons m f L off2 inb2 h2 _ J D).2 (by omega), add_zero]
    exact hf _ _

section Trip

variable (c : Dev nD) (i : grid0.Coords) (arg2 : Memref sig .tc .vmem S256x256 .bf16) (harg2 : arg2.IsWhole) (arg3 : Memref sig .tc .vmem S4096x256 .bf16) (harg3 : arg3.IsWhole) (arg4 : Memref sig .tc .vmem S4096x256 .bf16) (harg4 : arg4.IsWhole) (arg5 : Memref sig .tc .vmem S256x256 .f32) (harg5 : arg5.IsWhole) (arg6 : Memref sig .tc .vmem S256x256 .f32) (harg6 : arg6.IsWhole) (arg7 : Memref sig .tc .smem S4x16 .i32) (harg7 : arg7.IsWhole) (arg8 : Memref sig .tc .vmem S256x256 .bf16) (harg8 : arg8.IsWhole) (arg9 : Memref sig .tc .vmem S4096x256 .bf16) (harg9 : arg9.IsWhole) (arg10 : Memref sig .tc .vmem S4096x256 .bf16) (harg10 : arg10.IsWhole) (arg11 : Memref sig .tc .vmem S4096x256 .f32) (harg11 : arg11.IsWhole) (arg12 : Memref sig .tc .vmem S4096x256 .f32) (harg12 : arg12.IsWhole) (arg1 : BitVec 32) (v4 v6 v8 v10 : Vec Ideal S256x128 .bf16) (v13 v16 : Vec Ideal S256x1 .f32) (v17 v18 : IVec S256x256 32) (v27 : Vec Ideal S256x1 .f32) (v28 : Vec Ideal S256x128 .f32) (v31 : BitVec 32) (k0_hw1 : k0_chk1 i v31) (v32 v37 c1 : BitVec 32) (X3 : BufTy.Contents (Elt Ideal) arg3.view.ty) (X4 : BufTy.Contents (Elt Ideal) arg4.view.ty) (k : Fin (k0_t1_loop i v31).trips)
  (acc : Carry) (f11 : BufTy.Contents (Elt Ideal) arg11.view.ty) (f12 : BufTy.Contents (Elt Ideal) arg12.view.ty)

theorem tripR_eq : tripR_k0_t1 (F := Ideal) Variants.none c none i arg2 harg2 arg3 harg3 arg4 harg4 arg5 harg5 arg6 harg6 arg7 harg7 arg8 harg8 arg9 harg9 arg10 harg10 arg11 harg11 arg12 harg12 arg1 v4 v6 v8 v10 v13 v16 v17 v18 k0_pay61 k0_pay62 v27 v28 v31 k0_hw1 v32 v37 c1 X3 X4 k acc f11 f12 = (k0_pay17 acc.1 (k0_pay7 v4 (blkOf arg3 X3 (k0_off2 i v31 k) (k0_off2_inb i v31 k0_hw1 k))), k0_pay18 acc.2.1 (k0_pay9 v4 v8 v13 k0_pay61 acc.1 (blkOf arg3 X3 (k0_off2 i v31 k) (k0_off2_inb i v31 k0_hw1 k)) (blkOf arg4 X4 (k0_off2 i v31 k) (k0_off2_inb i v31 k0_hw1 k))), k0_pay14 k0_pay62 acc.2.1 acc.2.2.1 (k0_pay3 (blkOf arg3 X3 (k0_off2 i v31 k) (k0_off2_inb i v31 k0_hw1 k))) (k0_pay6 v4 (blkOf arg3 X3 (k0_off2 i v31 k) (k0_off2_inb i v31 k0_hw1 k))) (k0_pay9 v4 v8 v13 k0_pay61 acc.1 (blkOf arg3 X3 (k0_off2 i v31 k) (k0_off2_inb i v31 k0_hw1 k)) (blkOf arg4 X4 (k0_off2 i v31 k) (k0_off2_inb i v31 k0_hw1 k))) (k0_pay11 v4 v8 v13 k0_pay61 acc.1 (blkOf arg3 X3 (k0_off2 i v31 k) (k0_off2_inb i v31 k0_hw1 k)) (blkOf arg4 X4 (k0_off2 i v31 k) (k0_off2_inb i v31 k0_hw1 k))) (k0_pay12 v4 v8 v13 k0_pay61 k0_pay62 acc.1 (blkOf arg3 X3 (k0_off2 i v31 k) (k0_off2_inb i v31 k0_hw1 k)) (blkOf arg4 X4 (k0_off2 i v31 k) (k0_off2_inb i v31 k0_hw1 k))), k0_pay17 acc.2.2.2.1 (k0_pay7 v6 (blkOf arg3 X3 (k0_off3 i v31 k) (k0_off3_inb i v31 k0_hw1 k))), k0_pay18 acc.2.2.2.2.1 (k0_pay9 v6 v10 v16 k0_pay61 acc.2.2.2.1 (blkOf arg3 X3 (k0_off3 i v31 k) (k0_off3_inb i v31 k0_hw1 k)) (blkOf arg4 X4 (k0_off3 i v31 k) (k0_off3_inb i v31 k0_hw1 k))), k0_pay14 k0_pay62 acc.2.2.2.2.1 acc.2.2.2.2.2 (k0_pay3 (blkOf arg3 X3 (k0_off3 i v31 k) (k0_off3_inb i v31 k0_hw1 k))) (k0_pay6 v6 (blkOf arg3 X3 (k0_off3 i v31 k) (k0_off3_inb i v31 k0_hw1 k))) (k0_pay9 v6 v10 v16 k0_pay61 acc.2.2.2.1 (blkOf arg3 X3 (k0_off3 i v31 k) (k0_off3_inb i v31 k0_hw1 k)) (blkOf arg4 X4 (k0_off3 i v31 k) (k0_off3_inb i v31 k0_hw1 k))) (k0_pay11 v6 v10 v16 k0_pay61 acc.2.2.2.1 (blkOf arg3 X3 (k0_off3 i v31 k) (k0_off3_inb i v31 k0_hw1 k)) (blkOf arg4 X4 (k0_off3 i v31 k) (k0_off3_inb i v31 k0_hw1 k))) (k0_pay12 v6 v10 v16 k0_pay61 k0_pay62 acc.2.2.2.1 (blkOf arg3 X3 (k0_off3 i v31 k) (k0_off3_inb i v31 k0_hw1 k)) (blkOf arg4 X4 (k0_off3 i v31 k) (k0_off3_inb i v31 k0_hw1 k)))) := by
  unfold tripR_k0_t1 trip_k0_t1
  rfl

theorem tripL11_eq : (tripL_k0_t1 (F := Ideal) Variants.none c none i arg2 harg2 arg3 harg3 arg4 harg4 arg5 harg5 arg6 harg6 arg7 harg7 arg8 harg8 arg9 harg9 arg10 harg10 arg11 harg11 arg12 harg12 arg1 v4 v6 v8 v10 v13 v16 v17 v18 k0_pay61 k0_pay62 v27 v28 v31 k0_hw1 v32 v37 c1 X3 X4 k acc f11 f12).1 = [⟨Rect.unit (s := S4096x256) (k0_off3 i v31 k) S256x128.size (k0_off3_inb i v31 k0_hw1 k), k0_pay15 v6 k0_pay62 acc.2.2.2.2.1 (k0_pay6 v6 (blkOf arg3 X3 (k0_off3 i v31 k) (k0_off3_inb i v31 k0_hw1 k))) (k0_pay9 v6 v10 v16 k0_pay61 acc.2.2.2.1 (blkOf arg3 X3 (k0_off3 i v31 k) (k0_off3_inb i v31 k0_hw1 k)) (blkOf arg4 X4 (k0_off3 i v31 k) (k0_off3_inb i v31 k0_hw1 k))) (k0_pay11 v6 v10 v16 k0_pay61 acc.2.2.2.1 (blkOf arg3 X3 (k0_off3 i v31 k) (k0_off3_inb i v31 k0_hw1 k)) (blkOf arg4 X4 (k0_off3 i v31 k) (k0_off3_inb i v31 k0_hw1 k))) (k0_pay12 v6 v10 v16 k0_pay61 k0_pay62 acc.2.2.2.1 (blkOf arg3 X3 (k0_off3 i v31 k) (k0_off3_inb i v31 k0_hw1 k)) (blkOf arg4 X4 (k0_off3 i v31 k) (k0_off3_inb i v31 k0_hw1 k))) (blkOf arg11 (arg11.view.writes (Elt Ideal) f11 [(⟨Rect.unit (s := S4096x256) (k0_off2 i v31 k) S256x128.size (k0_off2_inb i v31 k0_hw1 k), k0_pay15 v4 k0_pay62 acc.2.1 (k0_pay6 v4 (blkOf arg3 X3 (k0_off2 i v31 k) (k0_off2_inb i v31 k0_hw1 k))) (k0_pay9 v4 v8 v13 k0_pay61 acc.1 (blkOf arg3 X3 (k0_off2 i v31 k) (k0_off2_inb i v31 k0_hw1 k)) (blkOf arg4 X4 (k0_off2 i v31 k) (k0_off2_inb i v31 k0_hw1 k))) (k0_pay11 v4 v8 v13 k0_pay61 acc.1 (blkOf arg3 X3 (k0_off2 i v31 k) (k0_off2_inb i v31 k0_hw1 k)) (blkOf arg4 X4 (k0_off2 i v31 k) (k0_off2_inb i v31 k0_hw1 k))) (k0_pay12 v4 v8 v13 k0_pay61 k0_pay62 acc.1 (blkOf arg3 X3 (k0_off2 i v31 k) (k0_off2_inb i v31 k0_hw1 k)) (blkOf arg4 X4 (k0_off2 i v31 k) (k0_off2_inb i v31 k0_hw1 k))) (blkOf arg11 f11 (k0_off2 i v31 k) (k0_off2_inb i v31 k0_hw1 k))⟩ : View.Piece (Elt Ideal) S4096x256 .f32)]) (k0_off3 i v31 k) (k0_off3_inb i v31 k0_hw1 k))⟩, (⟨Rect.unit (s := S4096x256) (k0_off2 i v31 k) S256x128.size (k0_off2_inb i v31 k0_hw1 k), k0_pay15 v4 k0_pay62 acc.2.1 (k0_pay6 v4 (blkOf arg3 X3 (k0_off2 i v31 k) (k0_off2_inb i v31 k0_hw1 k))) (k0_pay9 v4 v8 v13 k0_pay61 acc.1 (blkOf arg3 X3 (k0_off2 i v31 k) (k0_off2_inb i v31 k0_hw1 k)) (blkOf arg4 X4 (k0_off2 i v31 k) (k0_off2_inb i v31 k0_hw1 k))) (k0_pay11 v4 v8 v13 k0_pay61 acc.1 (blkOf arg3 X3 (k0_off2 i v31 k) (k0_off2_inb i v31 k0_hw1 k)) (blkOf arg4 X4 (k0_off2 i v31 k) (k0_off2_inb i v31 k0_hw1 k))) (k0_pay12 v4 v8 v13 k0_pay61 k0_pay62 acc.1 (blkOf arg3 X3 (k0_off2 i v31 k) (k0_off2_inb i v31 k0_hw1 k)) (blkOf arg4 X4 (k0_off2 i v31 k) (k0_off2_inb i v31 k0_hw1 k))) (blkOf arg11 f11 (k0_off2 i v31 k) (k0_off2_inb i v31 k0_hw1 k))⟩ : View.Piece (Elt Ideal) S4096x256 .f32)] := by
  unfold tripL_k0_t1 trip_k0_t1
  rfl

theorem tripL12_eq : (tripL_k0_t1 (F := Ideal) Variants.none c none i arg2 harg2 arg3 harg3 arg4 harg4 arg5 harg5 arg6 harg6 arg7 harg7 arg8 harg8 arg9 harg9 arg10 harg10 arg11 harg11 arg12 harg12 arg1 v4 v6 v8 v10 v13 v16 v17 v18 k0_pay61 k0_pay62 v27 v28 v31 k0_hw1 v32 v37 c1 X3 X4 k acc f11 f12).2 = [⟨Rect.unit (s := S4096x256) (k0_off3 i v31 k) S256x128.size (k0_off3_inb i v31 k0_hw1 k), k0_pay16 v10 (k0_pay8 v6 v16 k0_pay61 acc.2.2.2.1 (blkOf arg3 X3 (k0_off3 i v31 k) (k0_off3_inb i v31 k0_hw1 k))) (blkOf arg12 (arg12.view.writes (Elt Ideal) f12 [(⟨Rect.unit (s := S4096x256) (k0_off2 i v31 k) S256x128.size (k0_off2_inb i v31 k0_hw1 k), k0_pay16 v8 (k0_pay8 v4 v13 k0_pay61 acc.1 (blkOf arg3 X3 (k0_off2 i v31 k) (k0_off2_inb i v31 k0_hw1 k))) (blkOf arg12 f12 (k0_off2 i v31 k) (k0_off2_inb i v31 k0_hw1 k))⟩ : View.Piece (Elt Ideal) S4096x256 .f32)]) (k0_off3 i v31 k) (k0_off3_inb i v31 k0_hw1 k))⟩, (⟨Rect.unit (s := S4096x256) (k0_off2 i v31 k) S256x128.size (k0_off2_inb i v31 k0_hw1 k), k0_pay16 v8 (k0_pay8 v4 v13 k0_pay61 acc.1 (blkOf arg3 X3 (k0_off2 i v31 k) (k0_off2_inb i v31 k0_hw1 k))) (blkOf arg12 f12 (k0_off2 i v31 k) (k0_off2_inb i v31 k0_hw1 k))⟩ : View.Piece (Elt Ideal) S4096x256 .f32)] := by
  unfold tripL_k0_t1 trip_k0_t1
  rfl

end Trip

end Cert.KernelIdeal.Sb
-- ==== Proof.Inv.lean ====
/- What the carried sums and the two accumulators hold before each trip. -/
module

public import proofs.«01_k».proof.Proof.Loop
public import proofs.«01_k».proof.Proof.Runs

@[expose] public section

set_option maxRecDepth 16384

noncomputable section

namespace Cert.KernelIdeal.Sb

open Idealize.ShloMosaic Idealize.ShloMosaic.TcCoe
open Cert.KernelIdeal.Gen Cert.Sb

/-- What one head's carried sums hold after the key blocks before `n`. -/
structure Sums (H : Head) (I n : ℕ) (seen psum : Vec Ideal S256x1 .f32) (dq : Vec Ideal S256x128 .f32) : Prop where
  seen : ∀ r : Fin 256, seen (ix2 r 0) = ((∑ j ∈ Finset.range (256 * n), H.l1 (256 * I + r.val) j : ℝ) : EReal)
  psum : ∀ r : Fin 256, psum (ix2 r 0) = ((∑ j ∈ Finset.range (256 * n), H.p (256 * I + r.val) j : ℝ) : EReal)
  dq : ∀ (r : Fin 256) (d : Fin 128), dq (ix2 r d)
    = ((∑ j ∈ Finset.range (256 * n), H.dz (256 * I + r.val) j * H.K j d.val : ℝ) : EReal)

/-- What one head's query block holds: its rows of the queries, of the incoming gradient and of the totals. -/
structure Rows (H : Head) (I : ℕ) (v4 v8 : Vec Ideal S256x128 .bf16) (v13 : Vec Ideal S256x1 .f32) : Prop where
  q : ∀ (r : Fin 256) (d : Fin 128), v4 (ix2 r d) = ((H.Q (256 * I + r.val) d.val : ℝ) : EReal)
  o : ∀ (r : Fin 256) (d : Fin 128), v8 (ix2 r d) = ((H.D (256 * I + r.val) d.val : ℝ) : EReal)
  t : ∀ r : Fin 256, v13 (ix2 r 0) = ((∑ j ∈ Finset.range 4096, H.l1 (256 * I + r.val) j : ℝ) : EReal)

/-- What one head's key block holds: its rows of the keys and of the values. -/
structure Keys (H : Head) (n : ℕ) (vk vv : Vec Ideal S256x128 .bf16) : Prop where
  k : ∀ (j : Fin 256) (d : Fin 128), vk (ix2 j d) = ((H.K (256 * n + j.val) d.val : ℝ) : EReal)
  v : ∀ (j : Fin 256) (d : Fin 128), vv (ix2 j d) = ((H.V (256 * n + j.val) d.val : ℝ) : EReal)

theorem Sums.next {H : Head} {I n : ℕ} (hn : n < I) {seen psum : Vec Ideal S256x1 .f32} {dq : Vec Ideal S256x128 .f32}
    {v4 v8 vk vv : Vec Ideal S256x128 .bf16} {v13 : Vec Ideal S256x1 .f32} (h : Sums H I n seen psum dq) (hr : Rows H I v4 v8 v13) (hk : Keys H n vk vv) :
    Sums H I (n + 1) (k0_pay17 seen (k0_pay7 v4 vk)) (k0_pay18 psum (k0_pay9 v4 v8 v13 k0_pay61 seen vk vv)) (k0_pay14 k0_pay62 psum dq (k0_pay3 vk) (k0_pay6 v4 vk) (k0_pay9 v4 v8 v13 k0_pay61 seen vk vv) (k0_pay11 v4 v8 v13 k0_pay61 seen vk vv) (k0_pay12 v4 v8 v13 k0_pay61 k0_pay62 seen vk vv)) where
  seen := pay17_val H I n hn v4 vk hr.q hk.k seen h.seen
  psum := pay18_val H I n hn v4 vk v8 vv hr.q hk.k hr.o hk.v v13 seen psum hr.t h.seen h.psum
  dq := pay14_val H I n hn v4 vk v8 vv hr.q hk.k hr.o hk.v v13 seen psum hr.t h.seen h.psum dq h.dq

theorem sums_zero (H : Head) (I : ℕ) : Sums H I 0 (k0_pay63 (F := Ideal)) (k0_pay63 (F := Ideal)) (k0_pay64 (F := Ideal)) where
  seen r := by rw [zeros_val]; simp
  psum r := by rw [zeros_val]; simp
  dq r d := by rw [zeros2_val]; simp

/-- The keys and the values read from their buffers. -/
theorem keys_of (H0 H1 : Head) (m3 m4 : Memref sig .tc .vmem S4096x256 .bf16) (X3 : BufTy.Contents (Elt Ideal) m3.view.ty) (X4 : BufTy.Contents (Elt Ideal) m4.view.ty)
    (h3 : ∀ (j : Fin 4096) (d : Fin 256), m3.view.read (Elt Ideal) X3 (ix2 j d) = ((pair H0.K H1.K j.val d.val : ℝ) : EReal))
    (h4 : ∀ (j : Fin 4096) (d : Fin 256), m4.view.read (Elt Ideal) X4 (ix2 j d) = ((pair H0.V H1.V j.val d.val : ℝ) : EReal)) (n : ℕ)
    (off2 off3 : Fin 2 → ℕ) (inb2 : ∀ a, off2 a + S256x128.size a ≤ S4096x256.size a) (inb3 : ∀ a, off3 a + S256x128.size a ≤ S4096x256.size a)
    (e2 : off2 = ![256 * n, 0]) (e3 : off3 = ![256 * n, 128]) :
    Keys H0 n (blkOf m3 X3 off2 inb2) (blkOf m4 X4 off2 inb2) ∧ Keys H1 n (blkOf m3 X3 off3 inb3) (blkOf m4 X4 off3 inb3) := by
  have ho := (row_lt inb2 e2).1
  refine ⟨⟨fun j d => ?_, fun j d => ?_⟩, ⟨fun j d => ?_, fun j d => ?_⟩⟩
  · rw [blkOf_val m3 X3 off2 inb2 e2 j d ⟨256 * n + j.val, by have := j.isLt; omega⟩ ⟨d.val, by have := d.isLt; omega⟩ rfl (by simp), h3, pair, if_pos d.isLt]
  · rw [blkOf_val m4 X4 off2 inb2 e2 j d ⟨256 * n + j.val, by have := j.isLt; omega⟩ ⟨d.val, by have := d.isLt; omega⟩ rfl (by simp), h4, pair, if_pos d.isLt]
  · rw [blkOf_val m3 X3 off3 inb3 e3 j d ⟨256 * n + j.val, by have := j.isLt; omega⟩ ⟨128 + d.val, by have := d.isLt; omega⟩ rfl rfl, h3, pair,
      if_neg (by simp), Nat.add_sub_cancel_left]
  · rw [blkOf_val m4 X4 off3 inb3 e3 j d ⟨256 * n + j.val, by have := j.isLt; omega⟩ ⟨128 + d.val, by have := d.isLt; omega⟩ rfl rfl, h4, pair,
      if_neg (by simp), Nat.add_sub_cancel_left]

theorem trips1 : ∀ i : grid0.Coords, (k0_t1_loop i (BitVec.ofNat 32 (i 1).val)).trips = (i 1).val := by decide +kernel
theorem trips2 : ∀ i : grid0.Coords, (k0_t2_loop i (BitVec.ofNat 32 (i 1).val)).trips = 0 := by decide +kernel
theorem off2_val : ∀ (i : grid0.Coords) (k : Fin (k0_t1_loop i (BitVec.ofNat 32 (i 1).val)).trips), k0_off2 i (BitVec.ofNat 32 (i 1).val) k = ![256 * k.val, 0] := by decide +kernel
theorem off3_val : ∀ (i : grid0.Coords) (k : Fin (k0_t1_loop i (BitVec.ofNat 32 (i 1).val)).trips), k0_off3 i (BitVec.ofNat 32 (i 1).val) k = ![256 * k.val, 128] := by decide +kernel
theorem off6_val : ∀ i : grid0.Coords, k0_off6 i = ![256 * (i 1).val, 0] := by decide +kernel
theorem off7_val : ∀ i : grid0.Coords, k0_off7 i = ![256 * (i 1).val, 128] := by decide +kernel

/-- The accumulators with this query block's share added in the key blocks before `n`. -/
abbrev accK (H0 H1 : Head) (I n : ℕ) (b : ℕ → ℕ → ℝ) (j d : ℕ) : ℝ := b j d + (if j < 256 * n then pair (H0.addK I) (H1.addK I) j d else 0)
abbrev accV (H0 H1 : Head) (I n : ℕ) (b : ℕ → ℕ → ℝ) (j d : ℕ) : ℝ := b j d + (if j < 256 * n then pair (H0.addV I) (H1.addV I) j d else 0)

theorem acc_next (b a : ℕ → ℕ → ℝ) (n j d : ℕ) :
    b j d + (if j < 256 * n then a j d else 0) + (if 256 * n ≤ j ∧ j < 256 * n + 256 then a j d else 0)
      = b j d + (if j < 256 * (n + 1) then a j d else 0) := by
  by_cases h1 : j < 256 * n
  · rw [if_pos h1, if_neg (by omega), if_pos (by omega), add_zero]
  · by_cases h2 : j < 256 * n + 256
    · rw [if_neg h1, if_pos ⟨by omega, h2⟩, if_pos (by omega), add_zero]
    · rw [if_neg h1, if_neg (by omega), if_neg (by omega), add_zero]

/-- What is known of the state before trip `n`. -/
structure Inv (H0 H1 : Head) (I n : ℕ) (m11 m12 : Memref sig .tc .vmem S4096x256 .f32) (G11 : BufTy.Contents (Elt Ideal) m11.view.ty)
    (G12 : BufTy.Contents (Elt Ideal) m12.view.ty) (b11 b12 : ℕ → ℕ → ℝ)
    (S : Carry × List (View.Piece (Elt Ideal) S4096x256 .f32) × List (View.Piece (Elt Ideal) S4096x256 .f32)) : Prop where
  s0 : Sums H0 I n S.1.1 S.1.2.1 S.1.2.2.1
  s1 : Sums H1 I n S.1.2.2.2.1 S.1.2.2.2.2.1 S.1.2.2.2.2.2
  r11 : ∀ (j : Fin 4096) (d : Fin 256), m11.view.read (Elt Ideal) (m11.view.writes (Elt Ideal) G11 S.2.1) (ix2 j d) = ((accK H0 H1 I n b11 j.val d.val : ℝ) : EReal)
  r12 : ∀ (j : Fin 4096) (d : Fin 256), m12.view.read (Elt Ideal) (m12.view.writes (Elt Ideal) G12 S.2.2) (ix2 j d) = ((accV H0 H1 I n b12 j.val d.val : ℝ) : EReal)

theorem read_pair (m : Memref sig .tc .vmem S4096x256 .f32) (f : BufTy.Contents (Elt Ideal) m.view.ty) (off2 off3 : Fin 2 → ℕ)
    (inb2 : ∀ a, off2 a + S256x128.size a ≤ S4096x256.size a) (inb3 : ∀ a, off3 a + S256x128.size a ≤ S4096x256.size a)
    {o : ℕ} (h2 : off2 = ![o, 0]) (h3 : off3 = ![o, 128]) (p2 p3 : Vec Ideal S256x128 .f32) (W2 W3 : Vec Ideal S256x128 .f32 → Vec Ideal S256x128 .f32)
    (e2 : p2 = W2 (blkOf m f off2 inb2))
    (e3 : p3 = W3 (blkOf m (m.view.writes (Elt Ideal) f [(⟨Rect.unit (s := S4096x256) off2 S256x128.size inb2, p2⟩ : View.Piece (Elt Ideal) S4096x256 .f32)]) off3 inb3))
    (x a b : ℕ → ℕ → ℝ)
    (hf : ∀ (J : Fin 4096) (D : Fin 256), m.view.read (Elt Ideal) f (ix2 J D) = ((x J.val D.val : ℝ) : EReal))
    (hw2 : ∀ (w : Vec Ideal S256x128 .f32) (y : Fin 256 → Fin 128 → ℝ), (∀ j d, w (ix2 j d) = ((y j d : ℝ) : EReal)) →
      ∀ j d, W2 w (ix2 j d) = ((y j d + a (o + j.val) d.val : ℝ) : EReal))
    (hw3 : ∀ (w : Vec Ideal S256x128 .f32) (y : Fin 256 → Fin 128 → ℝ), (∀ j d, w (ix2 j d) = ((y j d : ℝ) : EReal)) →
      ∀ j d, W3 w (ix2 j d) = ((y j d + b (o + j.val) d.val : ℝ) : EReal))
    (J : Fin 4096) (D : Fin 256) :
    m.view.read (Elt Ideal) (m.view.writes (Elt Ideal) f
      [(⟨Rect.unit (s := S4096x256) off3 S256x128.size inb3, p3⟩ : View.Piece (Elt Ideal) S4096x256 .f32),
        (⟨Rect.unit (s := S4096x256) off2 S256x128.size inb2, p2⟩ : View.Piece (Elt Ideal) S4096x256 .f32)]) (ix2 J D)
      = ((x J.val D.val + (if o ≤ J.val ∧ J.val < o + 256 then pair a b J.val D.val else 0) : ℝ) : EReal) := by
  subst e2; subst e3
  exact read_two m f [] off2 off3 inb2 inb3 h2 h3 W2 W3 x a b hf hw2 hw3 J D

theorem read_next11 (H0 H1 : Head) (I n : ℕ) (hlt : n < I) (arg11 : Memref sig .tc .vmem S4096x256 .f32) (f : BufTy.Contents (Elt Ideal) arg11.view.ty)
    (v4 v8 v6 v10 k0 v0 k1 v1 : Vec Ideal S256x128 .bf16) (v13 v16 sn0 ps0 sn1 ps1 : Vec Ideal S256x1 .f32) (d0 d1 : Vec Ideal S256x128 .f32)
    (hr0 : Rows H0 I v4 v8 v13) (hr1 : Rows H1 I v6 v10 v16) (hk0 : Keys H0 n k0 v0) (hk1 : Keys H1 n k1 v1)
    (s0 : Sums H0 I n sn0 ps0 d0) (s1 : Sums H1 I n sn1 ps1 d1) (off2 off3 : Fin 2 → ℕ)
    (inb2 : ∀ a, off2 a + S256x128.size a ≤ S4096x256.size a) (inb3 : ∀ a, off3 a + S256x128.size a ≤ S4096x256.size a)
    (e2 : off2 = ![256 * n, 0]) (e3 : off3 = ![256 * n, 128]) (b : ℕ → ℕ → ℝ)
    (hf : ∀ (j : Fin 4096) (d : Fin 256), arg11.view.read (Elt Ideal) f (ix2 j d) = ((accK H0 H1 I n b j.val d.val : ℝ) : EReal)) (j : Fin 4096) (d : Fin 256) :
    arg11.view.read (Elt Ideal) (arg11.view.writes (Elt Ideal) f
      [(⟨Rect.unit (s := S4096x256) off3 S256x128.size inb3, k0_pay15 v6 k0_pay62 ps1 (k0_pay6 v6 k1) (k0_pay9 v6 v10 v16 k0_pay61 sn1 k1 v1) (k0_pay11 v6 v10 v16 k0_pay61 sn1 k1 v1) (k0_pay12 v6 v10 v16 k0_pay61 k0_pay62 sn1 k1 v1) (blkOf arg11 (arg11.view.writes (Elt Ideal) f [(⟨Rect.unit (s := S4096x256) off2 S256x128.size inb2, k0_pay15 v4 k0_pay62 ps0 (k0_pay6 v4 k0) (k0_pay9 v4 v8 v13 k0_pay61 sn0 k0 v0) (k0_pay11 v4 v8 v13 k0_pay61 sn0 k0 v0) (k0_pay12 v4 v8 v13 k0_pay61 k0_pay62 sn0 k0 v0) (blkOf arg11 f off2 inb2)⟩ : View.Piece (Elt Ideal) S4096x256 .f32)]) off3 inb3)⟩ : View.Piece (Elt Ideal) S4096x256 .f32),
       (⟨Rect.unit (s := S4096x256) off2 S256x128.size inb2, k0_pay15 v4 k0_pay62 ps0 (k0_pay6 v4 k0) (k0_pay9 v4 v8 v13 k0_pay61 sn0 k0 v0) (k0_pay11 v4 v8 v13 k0_pay61 sn0 k0 v0) (k0_pay12 v4 v8 v13 k0_pay61 k0_pay62 sn0 k0 v0) (blkOf arg11 f off2 inb2)⟩ : View.Piece (Elt Ideal) S4096x256 .f32)]) (ix2 j d)
      = ((accK H0 H1 I (n + 1) b j.val d.val : ℝ) : EReal) := by
  have hK0 : ∀ (w : Vec Ideal S256x128 .f32) (y : Fin 256 → Fin 128 → ℝ) (_ : ∀ j d, w (ix2 j d) = ((y j d : ℝ) : EReal)) (j : Fin 256) (d : Fin 128), _ = ((y j d + H0.addK I (256 * n + j.val) d.val : ℝ) : EReal) := fun w y hw j d => pay15_val H0 I n hlt v4 k0 v8 v0 hr0.q hk0.k hr0.o hk0.v v13 sn0 ps0 hr0.t s0.seen s0.psum w y hw j d
  have hK1 : ∀ (w : Vec Ideal S256x128 .f32) (y : Fin 256 → Fin 128 → ℝ) (_ : ∀ j d, w (ix2 j d) = ((y j d : ℝ) : EReal)) (j : Fin 256) (d : Fin 128), _ = ((y j d + H1.addK I (256 * n + j.val) d.val : ℝ) : EReal) := fun w y hw j d => pay15_val H1 I n hlt v6 k1 v10 v1 hr1.q hk1.k hr1.o hk1.v v16 sn1 ps1 hr1.t s1.seen s1.psum w y hw j d
  obtain ⟨W2, hW2⟩ : ∃ W : Vec Ideal S256x128 .f32 → Vec Ideal S256x128 .f32, W = (fun w => k0_pay15 v4 k0_pay62 ps0 (k0_pay6 v4 k0) (k0_pay9 v4 v8 v13 k0_pay61 sn0 k0 v0) (k0_pay11 v4 v8 v13 k0_pay61 sn0 k0 v0) (k0_pay12 v4 v8 v13 k0_pay61 k0_pay62 sn0 k0 v0) w) := ⟨_, rfl⟩
  obtain ⟨W3, hW3⟩ : ∃ W : Vec Ideal S256x128 .f32 → Vec Ideal S256x128 .f32, W = (fun w => k0_pay15 v6 k0_pay62 ps1 (k0_pay6 v6 k1) (k0_pay9 v6 v10 v16 k0_pay61 sn1 k1 v1) (k0_pay11 v6 v10 v16 k0_pay61 sn1 k1 v1) (k0_pay12 v6 v10 v16 k0_pay61 k0_pay62 sn1 k1 v1) w) := ⟨_, rfl⟩
  have qW2 : ∀ (w : Vec Ideal S256x128 .f32) (y : Fin 256 → Fin 128 → ℝ), (∀ j d, w (ix2 j d) = ((y j d : ℝ) : EReal)) →
      ∀ j d, W2 w (ix2 j d) = ((y j d + H0.addK I (256 * n + j.val) d.val : ℝ) : EReal) := by subst hW2; exact hK0
  have qW3 : ∀ (w : Vec Ideal S256x128 .f32) (y : Fin 256 → Fin 128 → ℝ), (∀ j d, w (ix2 j d) = ((y j d : ℝ) : EReal)) →
      ∀ j d, W3 w (ix2 j d) = ((y j d + H1.addK I (256 * n + j.val) d.val : ℝ) : EReal) := by subst hW3; exact hK1
  refine (read_pair arg11 f off2 off3 inb2 inb3 e2 e3 _ _ W2 W3 (by rw [hW2]) (by rw [hW3]) (accK H0 H1 I n b) (H0.addK I) (H1.addK I) hf qW2 qW3 j d).trans ?_
  rw [acc_next]

theorem read_next12 (H0 H1 : Head) (I n : ℕ) (hlt : n < I) (arg12 : Memref sig .tc .vmem S4096x256 .f32) (f : BufTy.Contents (Elt Ideal) arg12.view.ty)
    (v4 v8 v6 v10 k0 v0 k1 v1 : Vec Ideal S256x128 .bf16) (v13 v16 sn0 ps0 sn1 ps1 : Vec Ideal S256x1 .f32) (d0 d1 : Vec Ideal S256x128 .f32)
    (hr0 : Rows H0 I v4 v8 v13) (hr1 : Rows H1 I v6 v10 v16) (hk0 : Keys H0 n k0 v0) (hk1 : Keys H1 n k1 v1)
    (s0 : Sums H0 I n sn0 ps0 d0) (s1 : Sums H1 I n sn1 ps1 d1) (off2 off3 : Fin 2 → ℕ)
    (inb2 : ∀ a, off2 a + S256x128.size a ≤ S4096x256.size a) (inb3 : ∀ a, off3 a + S256x128.size a ≤ S4096x256.size a)
    (e2 : off2 = ![256 * n, 0]) (e3 : off3 = ![256 * n, 128]) (b : ℕ → ℕ → ℝ)
    (hf : ∀ (j : Fin 4096) (d : Fin 256), arg12.view.read (Elt Ideal) f (ix2 j d) = ((accV H0 H1 I n b j.val d.val : ℝ) : EReal)) (j : Fin 4096) (d : Fin 256) :
    arg12.view.read (Elt Ideal) (arg12.view.writes (Elt Ideal) f
      [(⟨Rect.unit (s := S4096x256) off3 S256x128.size inb3, k0_pay16 v10 (k0_pay8 v6 v16 k0_pay61 sn1 k1) (blkOf arg12 (arg12.view.writes (Elt Ideal) f [(⟨Rect.unit (s := S4096x256) off2 S256x128.size inb2, k0_pay16 v8 (k0_pay8 v4 v13 k0_pay61 sn0 k0) (blkOf arg12 f off2 inb2)⟩ : View.Piece (Elt Ideal) S4096x256 .f32)]) off3 inb3)⟩ : View.Piece (Elt Ideal) S4096x256 .f32),
       (⟨Rect.unit (s := S4096x256) off2 S256x128.size inb2, k0_pay16 v8 (k0_pay8 v4 v13 k0_pay61 sn0 k0) (blkOf arg12 f off2 inb2)⟩ : View.Piece (Elt Ideal) S4096x256 .f32)]) (ix2 j d)
      = ((accV H0 H1 I (n + 1) b j.val d.val : ℝ) : EReal) := by
  have hK0 : ∀ (w : Vec Ideal S256x128 .f32) (y : Fin 256 → Fin 128 → ℝ) (_ : ∀ j d, w (ix2 j d) = ((y j d : ℝ) : EReal)) (j : Fin 256) (d : Fin 128), _ = ((y j d + H0.addV I (256 * n + j.val) d.val : ℝ) : EReal) := fun w y hw j d => pay16_val H0 I n hlt v4 k0 v8 hr0.q hk0.k hr0.o v13 sn0 hr0.t s0.seen w y hw j d
  have hK1 : ∀ (w : Vec Ideal S256x128 .f32) (y : Fin 256 → Fin 128 → ℝ) (_ : ∀ j d, w (ix2 j d) = ((y j d : ℝ) : EReal)) (j : Fin 256) (d : Fin 128), _ = ((y j d + H1.addV I (256 * n + j.val) d.val : ℝ) : EReal) := fun w y hw j d => pay16_val H1 I n hlt v6 k1 v10 hr1.q hk1.k hr1.o v16 sn1 hr1.t s1.seen w y hw j d
  obtain ⟨W2, hW2⟩ : ∃ W : Vec Ideal S256x128 .f32 → Vec Ideal S256x128 .f32, W = (fun w => k0_pay16 v8 (k0_pay8 v4 v13 k0_pay61 sn0 k0) w) := ⟨_, rfl⟩
  obtain ⟨W3, hW3⟩ : ∃ W : Vec Ideal S256x128 .f32 → Vec Ideal S256x128 .f32, W = (fun w => k0_pay16 v10 (k0_pay8 v6 v16 k0_pay61 sn1 k1) w) := ⟨_, rfl⟩
  have qW2 : ∀ (w : Vec Ideal S256x128 .f32) (y : Fin 256 → Fin 128 → ℝ), (∀ j d, w (ix2 j d) = ((y j d : ℝ) : EReal)) →
      ∀ j d, W2 w (ix2 j d) = ((y j d + H0.addV I (256 * n + j.val) d.val : ℝ) : EReal) := by subst hW2; exact hK0
  have qW3 : ∀ (w : Vec Ideal S256x128 .f32) (y : Fin 256 → Fin 128 → ℝ), (∀ j d, w (ix2 j d) = ((y j d : ℝ) : EReal)) →
      ∀ j d, W3 w (ix2 j d) = ((y j d + H1.addV I (256 * n + j.val) d.val : ℝ) : EReal) := by subst hW3; exact hK1
  refine (read_pair arg12 f off2 off3 inb2 inb3 e2 e3 _ _ W2 W3 (by rw [hW2]) (by rw [hW3]) (accV H0 H1 I n b) (H0.addV I) (H1.addV I) hf qW2 qW3 j d).trans ?_
  rw [acc_next]

section Loop

variable (c : Dev nD) (i : grid0.Coords) (arg2 : Memref sig .tc .vmem S256x256 .bf16) (harg2 : arg2.IsWhole) (arg3 : Memref sig .tc .vmem S4096x256 .bf16) (harg3 : arg3.IsWhole) (arg4 : Memref sig .tc .vmem S4096x256 .bf16) (harg4 : arg4.IsWhole) (arg5 : Memref sig .tc .vmem S256x256 .f32) (harg5 : arg5.IsWhole) (arg6 : Memref sig .tc .vmem S256x256 .f32) (harg6 : arg6.IsWhole) (arg7 : Memref sig .tc .smem S4x16 .i32) (harg7 : arg7.IsWhole) (arg8 : Memref sig .tc .vmem S256x256 .bf16) (harg8 : arg8.IsWhole) (arg9 : Memref sig .tc .vmem S4096x256 .bf16) (harg9 : arg9.IsWhole) (arg10 : Memref sig .tc .vmem S4096x256 .bf16) (harg10 : arg10.IsWhole) (arg11 : Memref sig .tc .vmem S4096x256 .f32) (harg11 : arg11.IsWhole) (arg12 : Memref sig .tc .vmem S4096x256 .f32) (harg12 : arg12.IsWhole) (arg1 : BitVec 32) (v4 v6 v8 v10 : Vec Ideal S256x128 .bf16) (v13 v16 : Vec Ideal S256x1 .f32) (v17 v18 : IVec S256x256 32) (v27 : Vec Ideal S256x1 .f32) (v28 : Vec Ideal S256x128 .f32) (v31 : BitVec 32) (k0_hw1 : k0_chk1 i v31) (v32 v37 c1 : BitVec 32) (X3 : BufTy.Contents (Elt Ideal) arg3.view.ty) (X4 : BufTy.Contents (Elt Ideal) arg4.view.ty) (G11 : BufTy.Contents (Elt Ideal) arg11.view.ty) (G12 : BufTy.Contents (Elt Ideal) arg12.view.ty) (init : Carry)
  (H0 H1 : Head)
  (h3 : ∀ (j : Fin 4096) (d : Fin 256), arg3.view.read (Elt Ideal) X3 (ix2 j d) = ((pair H0.K H1.K j.val d.val : ℝ) : EReal))
  (h4 : ∀ (j : Fin 4096) (d : Fin 256), arg4.view.read (Elt Ideal) X4 (ix2 j d) = ((pair H0.V H1.V j.val d.val : ℝ) : EReal))
  (hr0 : Rows H0 (i 1).val v4 v8 v13) (hr1 : Rows H1 (i 1).val v6 v10 v16) (b11 b12 : ℕ → ℕ → ℝ)

include h3 h4 hr0 hr1 in
theorem trip_inv (k : Fin (k0_t1_loop i v31).trips) (hlt : k.val < (i 1).val)
    (e2 : k0_off2 i v31 k = ![256 * k.val, 0]) (e3 : k0_off3 i v31 k = ![256 * k.val, 128])
    (S : Carry × List (View.Piece (Elt Ideal) S4096x256 .f32) × List (View.Piece (Elt Ideal) S4096x256 .f32))
    (h : Inv H0 H1 (i 1).val k.val arg11 arg12 G11 G12 b11 b12 S) :
    Inv H0 H1 (i 1).val (k.val + 1) arg11 arg12 G11 G12 b11 b12
      (tripR_k0_t1 (F := Ideal) Variants.none c none i arg2 harg2 arg3 harg3 arg4 harg4 arg5 harg5 arg6 harg6 arg7 harg7 arg8 harg8 arg9 harg9 arg10 harg10 arg11 harg11 arg12 harg12 arg1 v4 v6 v8 v10 v13 v16 v17 v18 k0_pay61 k0_pay62 v27 v28 v31 k0_hw1 v32 v37 c1 X3 X4 k S.1 (arg11.view.writes (Elt Ideal) G11 S.2.1) (arg12.view.writes (Elt Ideal) G12 S.2.2),
       (tripL_k0_t1 (F := Ideal) Variants.none c none i arg2 harg2 arg3 harg3 arg4 harg4 arg5 harg5 arg6 harg6 arg7 harg7 arg8 harg8 arg9 harg9 arg10 harg10 arg11 harg11 arg12 harg12 arg1 v4 v6 v8 v10 v13 v16 v17 v18 k0_pay61 k0_pay62 v27 v28 v31 k0_hw1 v32 v37 c1 X3 X4 k S.1 (arg11.view.writes (Elt Ideal) G11 S.2.1) (arg12.view.writes (Elt Ideal) G12 S.2.2)).1 ++ S.2.1,
       (tripL_k0_t1 (F := Ideal) Variants.none c none i arg2 harg2 arg3 harg3 arg4 harg4 arg5 harg5 arg6 harg6 arg7 harg7 arg8 harg8 arg9 harg9 arg10 harg10 arg11 harg11 arg12 harg12 arg1 v4 v6 v8 v10 v13 v16 v17 v18 k0_pay61 k0_pay62 v27 v28 v31 k0_hw1 v32 v37 c1 X3 X4 k S.1 (arg11.view.writes (Elt Ideal) G11 S.2.1) (arg12.view.writes (Elt Ideal) G12 S.2.2)).2 ++ S.2.2) := by
  obtain ⟨s0, s1, r11, r12⟩ := h
  obtain ⟨k0, k1⟩ := keys_of H0 H1 arg3 arg4 X3 X4 h3 h4 k.val _ _ (k0_off2_inb i _ k0_hw1 k) (k0_off3_inb i _ k0_hw1 k) e2 e3
  rw [tripR_eq, tripL11_eq, tripL12_eq]
  refine ⟨s0.next hlt hr0 k0, s1.next hlt hr1 k1, fun j d => ?_, fun j d => ?_⟩
  · rw [View.writes_append]
    exact read_next11 H0 H1 (i 1).val k.val hlt arg11 _ v4 v8 v6 v10 _ _ _ _ v13 v16 _ _ _ _ _ _ hr0 hr1 k0 k1 s0 s1 _ _ _ _ e2 e3 b11 r11 j d
  · rw [View.writes_append]
    exact read_next12 H0 H1 (i 1).val k.val hlt arg12 _ v4 v8 v6 v10 _ _ _ _ v13 v16 _ _ _ _ _ _ hr0 hr1 k0 k1 s0 s1 _ _ _ _ e2 e3 b12 r12 j d

include h3 h4 hr0 hr1 in
/-- Before trip `n`: the sums over the key blocks before it, and the accumulators with this query block's share added in those blocks. -/
theorem loop_inv (hv31 : v31 = BitVec.ofNat 32 (i 1).val) (h0 : Inv H0 H1 (i 1).val 0 arg11 arg12 G11 G12 b11 b12 (init, [], [])) (n : ℕ) (hn : n ≤ (i 1).val) :
    Inv H0 H1 (i 1).val n arg11 arg12 G11 G12 b11 b12 (st_k0_t1 (F := Ideal) Variants.none c none i arg2 harg2 arg3 harg3 arg4 harg4 arg5 harg5 arg6 harg6 arg7 harg7 arg8 harg8 arg9 harg9 arg10 harg10 arg11 harg11 arg12 harg12 arg1 v4 v6 v8 v10 v13 v16 v17 v18 k0_pay61 k0_pay62 v27 v28 v31 k0_hw1 v32 v37 c1 X3 X4 G11 G12 init n) := by
  subst hv31
  induction n with
  | zero => exact h0
  | succ n ih =>
    have hk : n < (k0_t1_loop i (BitVec.ofNat 32 (i 1).val)).trips := by rw [trips1]; exact hn
    have e := st_k0_t1_succ (F := Ideal) Variants.none c none i arg2 harg2 arg3 harg3 arg4 harg4 arg5 harg5 arg6 harg6 arg7 harg7 arg8 harg8 arg9 harg9 arg10 harg10 arg11 harg11 arg12 harg12 arg1 v4 v6 v8 v10 v13 v16 v17 v18 k0_pay61 k0_pay62 v27 v28 _ k0_hw1 v32 v37 c1 X3 X4 G11 G12 init ⟨n, hk⟩
    have t := trip_inv c i arg2 harg2 arg3 harg3 arg4 harg4 arg5 harg5 arg6 harg6 arg7 harg7 arg8 harg8 arg9 harg9 arg10 harg10 arg11 harg11 arg12 harg12 arg1 v4 v6 v8 v10 v13 v16 v17 v18 v27 v28 _ k0_hw1 v32 v37 c1 X3 X4 G11 G12 H0 H1 h3 h4 hr0 hr1 b11 b12
      ⟨n, hk⟩ hn (off2_val i ⟨n, hk⟩) (off3_val i ⟨n, hk⟩) _ (ih (Nat.le_of_succ_le hn))
    exact e ▸ t

end Loop

end Cert.KernelIdeal.Sb
-- ==== Proof.Parts.lean ====
/- What one point stores, in terms of its two loops and its diagonal block. -/
module

public import proofs.«01_k».proof.Proof.Inv
public import proofs.«01_k».proof.Proof.Body

@[expose] public section

set_option maxRecDepth 16384

noncomputable section

namespace Cert.KernelIdeal.Sb

open Idealize.ShloMosaic Idealize.ShloMosaic.TcCoe
open Idealize.ShloMosaic.Tactic
open Cert.KernelIdeal.Gen Cert.Sb

/-- The word the point reads from the table of swept blocks. -/
abbrev wordOf (i : grid0.Coords) (arg7 : Memref sig .tc .smem S4x16 .i32) (harg7 : arg7.IsWhole) (x5 : Vec Ideal S4x16 .i32) : BitVec 32 :=
  (arg7.access (Rect.unit (s := S4x16) (k0_off1 i) S1x1.size (k0_off1_inb i))).read (Elt Ideal) (harg7.unread x5) (Shape.Idx.first (s := S1x1) (by decide))

/-- The state after the loop over the blocks before the diagonal. -/
abbrev loop1 (c : Dev nD) (i : grid0.Coords) (arg2 : Memref sig .tc .vmem S256x256 .bf16) (harg2 : arg2.IsWhole) (arg3 : Memref sig .tc .vmem S4096x256 .bf16) (harg3 : arg3.IsWhole) (arg4 : Memref sig .tc .vmem S4096x256 .bf16) (harg4 : arg4.IsWhole) (arg5 : Memref sig .tc .vmem S256x256 .f32) (harg5 : arg5.IsWhole) (arg6 : Memref sig .tc .vmem S256x256 .f32) (harg6 : arg6.IsWhole) (arg7 : Memref sig .tc .smem S4x16 .i32) (harg7 : arg7.IsWhole) (arg8 : Memref sig .tc .vmem S256x256 .bf16) (harg8 : arg8.IsWhole) (arg9 : Memref sig .tc .vmem S4096x256 .bf16) (harg9 : arg9.IsWhole) (arg10 : Memref sig .tc .vmem S4096x256 .bf16) (harg10 : arg10.IsWhole) (arg11 : Memref sig .tc .vmem S4096x256 .f32) (harg11 : arg11.IsWhole) (arg12 : Memref sig .tc .vmem S4096x256 .f32) (harg12 : arg12.IsWhole) (W : BitVec 32) (hw : k0_chk1 i W) (w32 w37 : BitVec 32) (v4 v6 v8 v10 : Vec Ideal S256x128 .bf16) (v13 v16 : Vec Ideal S256x1 .f32) (X3 : BufTy.Contents (Elt Ideal) arg3.view.ty) (X4 : BufTy.Contents (Elt Ideal) arg4.view.ty) (G11 : BufTy.Contents (Elt Ideal) arg11.view.ty) (G12 : BufTy.Contents (Elt Ideal) arg12.view.ty) : Carry × List (View.Piece (Elt Ideal) S4096x256 .f32) × List (View.Piece (Elt Ideal) S4096x256 .f32) :=
  st_k0_t1 (F := Ideal) Variants.none c none i arg2 harg2 arg3 harg3 arg4 harg4 arg5 harg5 arg6 harg6 arg7 harg7 arg8 harg8 arg9 harg9 arg10 harg10 arg11 harg11 arg12 harg12 (BitVec.ofNat 32 ↑(i 1)) v4 v6 v8 v10 v13 v16 rowNo colNo k0_pay61 k0_pay62 k0_pay63 k0_pay64 W hw w32 w37 1#32 X3 X4 G11 G12 (k0_pay63, k0_pay63, k0_pay64, k0_pay63, k0_pay63, k0_pay64)
    (Scf.trips (k0_t1_loop i W).lb (k0_t1_loop i W).ub (k0_t1_loop i W).st)

/-- The state after the second loop, which takes up what the first did not reach. -/
abbrev loop2 (c : Dev nD) (i : grid0.Coords) (arg2 : Memref sig .tc .vmem S256x256 .bf16) (harg2 : arg2.IsWhole) (arg3 : Memref sig .tc .vmem S4096x256 .bf16) (harg3 : arg3.IsWhole) (arg4 : Memref sig .tc .vmem S4096x256 .bf16) (harg4 : arg4.IsWhole) (arg5 : Memref sig .tc .vmem S256x256 .f32) (harg5 : arg5.IsWhole) (arg6 : Memref sig .tc .vmem S256x256 .f32) (harg6 : arg6.IsWhole) (arg7 : Memref sig .tc .smem S4x16 .i32) (harg7 : arg7.IsWhole) (arg8 : Memref sig .tc .vmem S256x256 .bf16) (harg8 : arg8.IsWhole) (arg9 : Memref sig .tc .vmem S4096x256 .bf16) (harg9 : arg9.IsWhole) (arg10 : Memref sig .tc .vmem S4096x256 .bf16) (harg10 : arg10.IsWhole) (arg11 : Memref sig .tc .vmem S4096x256 .f32) (harg11 : arg11.IsWhole) (arg12 : Memref sig .tc .vmem S4096x256 .f32) (harg12 : arg12.IsWhole) (W : BitVec 32) (hw : k0_chk1 i W) (w32 w37 : BitVec 32) (v4 v6 v8 v10 : Vec Ideal S256x128 .bf16) (v13 v16 : Vec Ideal S256x1 .f32) (X3 : BufTy.Contents (Elt Ideal) arg3.view.ty) (X4 : BufTy.Contents (Elt Ideal) arg4.view.ty) (F11 : BufTy.Contents (Elt Ideal) arg11.view.ty) (F12 : BufTy.Contents (Elt Ideal) arg12.view.ty) (C : Carry) : Carry × List (View.Piece (Elt Ideal) S4096x256 .f32) × List (View.Piece (Elt Ideal) S4096x256 .f32) :=
  st_k0_t2 (F := Ideal) Variants.none c none i arg2 harg2 arg3 harg3 arg4 harg4 arg5 harg5 arg6 harg6 arg7 harg7 arg8 harg8 arg9 harg9 arg10 harg10 arg11 harg11 arg12 harg12 (BitVec.ofNat 32 ↑(i 1)) v4 v6 v8 v10 v13 v16 rowNo colNo k0_pay61 k0_pay62 k0_pay63 k0_pay64 W hw w32 w37 1#32 X3 X4 F11 F12 C
    (Scf.trips (k0_t2_loop i W).lb (k0_t2_loop i W).ub (k0_t2_loop i W).st)

/-- The stores of the diagonal block into the keys' accumulator. -/
abbrev diag11 (i : grid0.Coords) (arg3 arg4 : Memref sig .tc .vmem S4096x256 .bf16) (arg11 : Memref sig .tc .vmem S4096x256 .f32) (v4 v6 v8 v10 : Vec Ideal S256x128 .bf16) (v13 v16 : Vec Ideal S256x1 .f32) (X3 : BufTy.Contents (Elt Ideal) arg3.view.ty) (X4 : BufTy.Contents (Elt Ideal) arg4.view.ty) (C : Carry) (g : BufTy.Contents (Elt Ideal) arg11.view.ty) (L : List (View.Piece (Elt Ideal) S4096x256 .f32)) : List (View.Piece (Elt Ideal) S4096x256 .f32) :=
  (⟨Rect.unit (s := S4096x256) (k0_off7 i) S256x128.size (k0_off7_inb i), k0_pay98 v6 C.2.2.2.2.1 (k0_pay77 rowNo colNo) (k0_pay91 v6 (k0_pay88 (blkOf arg3 X3 (k0_off7 i) (k0_off7_inb i)))) (k0_pay93 v6 v10 v16 k0_pay61 C.2.2.2.1 (k0_pay77 rowNo colNo) (k0_pay88 (blkOf arg3 X3 (k0_off7 i) (k0_off7_inb i))) (blkOf arg4 X4 (k0_off7 i) (k0_off7_inb i))) (k0_pay95 v6 v10 v16 k0_pay61 k0_pay62 C.2.2.2.1 (k0_pay77 rowNo colNo) (k0_pay88 (blkOf arg3 X3 (k0_off7 i) (k0_off7_inb i))) (blkOf arg4 X4 (k0_off7 i) (k0_off7_inb i))) (k0_pay96 v6 v10 v16 k0_pay61 k0_pay62 C.2.2.2.1 (k0_pay77 rowNo colNo) (k0_pay88 (blkOf arg3 X3 (k0_off7 i) (k0_off7_inb i))) (blkOf arg4 X4 (k0_off7 i) (k0_off7_inb i))) (blkOf arg11 (arg11.view.writes (Elt Ideal) g ((⟨Rect.unit (s := S4096x256) (k0_off6 i) S256x128.size (k0_off6_inb i), k0_pay86 v4 v8 k0_pay62 C.2.1 (k0_pay77 rowNo colNo) (k0_pay79 (blkOf arg4 X4 (k0_off6 i) (k0_off6_inb i))) (k0_pay82 v4 (blkOf arg3 X3 (k0_off6 i) (k0_off6_inb i))) (k0_pay83 v4 v13 rowNo colNo k0_pay61 C.1 (blkOf arg3 X3 (k0_off6 i) (k0_off6_inb i))) (blkOf arg11 (arg11.view.writes (Elt Ideal) g L) (k0_off6 i) (k0_off6_inb i))⟩ : View.Piece (Elt Ideal) S4096x256 .f32) :: L)) (k0_off7 i) (k0_off7_inb i))⟩ : View.Piece (Elt Ideal) S4096x256 .f32) :: (⟨Rect.unit (s := S4096x256) (k0_off6 i) S256x128.size (k0_off6_inb i), k0_pay86 v4 v8 k0_pay62 C.2.1 (k0_pay77 rowNo colNo) (k0_pay79 (blkOf arg4 X4 (k0_off6 i) (k0_off6_inb i))) (k0_pay82 v4 (blkOf arg3 X3 (k0_off6 i) (k0_off6_inb i))) (k0_pay83 v4 v13 rowNo colNo k0_pay61 C.1 (blkOf arg3 X3 (k0_off6 i) (k0_off6_inb i))) (blkOf arg11 (arg11.view.writes (Elt Ideal) g L) (k0_off6 i) (k0_off6_inb i))⟩ : View.Piece (Elt Ideal) S4096x256 .f32) :: L

/-- The stores of the diagonal block into the values' accumulator. -/
abbrev diag12 (i : grid0.Coords) (arg3 arg4 : Memref sig .tc .vmem S4096x256 .bf16) (arg12 : Memref sig .tc .vmem S4096x256 .f32) (v4 v6 v8 v10 : Vec Ideal S256x128 .bf16) (v13 v16 : Vec Ideal S256x1 .f32) (X3 : BufTy.Contents (Elt Ideal) arg3.view.ty) (X4 : BufTy.Contents (Elt Ideal) arg4.view.ty) (C : Carry) (g : BufTy.Contents (Elt Ideal) arg12.view.ty) (L : List (View.Piece (Elt Ideal) S4096x256 .f32)) : List (View.Piece (Elt Ideal) S4096x256 .f32) :=
  (⟨Rect.unit (s := S4096x256) (k0_off7 i) S256x128.size (k0_off7_inb i), k0_pay99 v10 (k0_pay92 v6 v16 k0_pay61 C.2.2.2.1 (k0_pay77 rowNo colNo) (k0_pay88 (blkOf arg3 X3 (k0_off7 i) (k0_off7_inb i)))) (blkOf arg12 (arg12.view.writes (Elt Ideal) g ((⟨Rect.unit (s := S4096x256) (k0_off6 i) S256x128.size (k0_off6_inb i), k0_pay87 v8 (k0_pay83 v4 v13 rowNo colNo k0_pay61 C.1 (blkOf arg3 X3 (k0_off6 i) (k0_off6_inb i))) (blkOf arg12 (arg12.view.writes (Elt Ideal) g L) (k0_off6 i) (k0_off6_inb i))⟩ : View.Piece (Elt Ideal) S4096x256 .f32) :: L)) (k0_off7 i) (k0_off7_inb i))⟩ : View.Piece (Elt Ideal) S4096x256 .f32) :: (⟨Rect.unit (s := S4096x256) (k0_off6 i) S256x128.size (k0_off6_inb i), k0_pay87 v8 (k0_pay83 v4 v13 rowNo colNo k0_pay61 C.1 (blkOf arg3 X3 (k0_off6 i) (k0_off6_inb i))) (blkOf arg12 (arg12.view.writes (Elt Ideal) g L) (k0_off6 i) (k0_off6_inb i))⟩ : View.Piece (Elt Ideal) S4096x256 .f32) :: L

/-- The two stores of the queries' gradient. -/
abbrev diag6 (i : grid0.Coords) (arg3 arg4 : Memref sig .tc .vmem S4096x256 .bf16) (v4 v6 v8 v10 : Vec Ideal S256x128 .bf16) (v13 v16 : Vec Ideal S256x1 .f32) (X3 : BufTy.Contents (Elt Ideal) arg3.view.ty) (X4 : BufTy.Contents (Elt Ideal) arg4.view.ty) (C : Carry) : List (View.Piece (Elt Ideal) S256x256 .bf16) :=
  [(⟨Rect.unit (s := S256x256) ![0, 128] S256x128.size inb_S256x256_S256x128_0_128, k0_pay101 C.2.2.2.2.1 C.2.2.2.2.2 (k0_pay77 rowNo colNo) (k0_pay88 (blkOf arg3 X3 (k0_off7 i) (k0_off7_inb i))) (k0_pay91 v6 (k0_pay88 (blkOf arg3 X3 (k0_off7 i) (k0_off7_inb i)))) (k0_pay93 v6 v10 v16 k0_pay61 C.2.2.2.1 (k0_pay77 rowNo colNo) (k0_pay88 (blkOf arg3 X3 (k0_off7 i) (k0_off7_inb i))) (blkOf arg4 X4 (k0_off7 i) (k0_off7_inb i))) (k0_pay95 v6 v10 v16 k0_pay61 k0_pay62 C.2.2.2.1 (k0_pay77 rowNo colNo) (k0_pay88 (blkOf arg3 X3 (k0_off7 i) (k0_off7_inb i))) (blkOf arg4 X4 (k0_off7 i) (k0_off7_inb i))) (k0_pay96 v6 v10 v16 k0_pay61 k0_pay62 C.2.2.2.1 (k0_pay77 rowNo colNo) (k0_pay88 (blkOf arg3 X3 (k0_off7 i) (k0_off7_inb i))) (blkOf arg4 X4 (k0_off7 i) (k0_off7_inb i)))⟩ : View.Piece (Elt Ideal) S256x256 .bf16), (⟨Rect.unit (s := S256x256) ![0, 0] S256x128.size inb_S256x256_S256x128_0_0, k0_pay100 (k0_pay85 v8 k0_pay62 C.2.1 C.2.2.1 (k0_pay77 rowNo colNo) (k0_pay78 (blkOf arg3 X3 (k0_off6 i) (k0_off6_inb i))) (k0_pay79 (blkOf arg4 X4 (k0_off6 i) (k0_off6_inb i))) (k0_pay82 v4 (blkOf arg3 X3 (k0_off6 i) (k0_off6_inb i))) (k0_pay83 v4 v13 rowNo colNo k0_pay61 C.1 (blkOf arg3 X3 (k0_off6 i) (k0_off6_inb i))))⟩ : View.Piece (Elt Ideal) S256x256 .bf16)]

abbrev start11 : List (View.Piece (Elt Ideal) S4096x256 .f32) := [(⟨Rect.unit (s := S4096x256) ![0, 0] S4096x256.size inb_S4096x256_S4096x256_0_0, k0_pay53 (F := Ideal)⟩ : View.Piece (Elt Ideal) S4096x256 .f32)]
abbrev start12 : List (View.Piece (Elt Ideal) S4096x256 .f32) := [(⟨Rect.unit (s := S4096x256) ![0, 0] S4096x256.size inb_S4096x256_S4096x256_0_0, k0_pay54 (F := Ideal)⟩ : View.Piece (Elt Ideal) S4096x256 .f32)]

/-- The first head's queries. -/
abbrev q0 {m : Memref sig .tc .vmem S256x256 .bf16} (h : m.IsWhole) (x : Vec Ideal S256x256 .bf16) : Vec Ideal S256x128 .bf16 :=
  k0_pay55 (View.readAt (Elt Ideal) m.view (Rect.unit (s := S256x256) ![0, 0] S256x128.size inb_S256x256_S256x128_0_0).toLoadRect (h.unread x))

/-- The second head's queries. -/
abbrev q1 {m : Memref sig .tc .vmem S256x256 .bf16} (h : m.IsWhole) (x : Vec Ideal S256x256 .bf16) : Vec Ideal S256x128 .bf16 :=
  k0_pay56 (View.readAt (Elt Ideal) m.view (Rect.unit (s := S256x256) ![0, 128] S256x128.size inb_S256x256_S256x128_0_128).toLoadRect (h.unread x))

/-- The first head's gradient of the output. -/
abbrev o0 {m : Memref sig .tc .vmem S256x256 .f32} (h : m.IsWhole) (x : Vec Ideal S256x256 .f32) : Vec Ideal S256x128 .bf16 :=
  k0_pay57 (View.readAt (Elt Ideal) m.view (Rect.unit (s := S256x256) ![0, 0] S256x128.size inb_S256x256_S256x128_0_0).toLoadRect (h.unread x))

/-- The second head's gradient of the output. -/
abbrev o1 {m : Memref sig .tc .vmem S256x256 .f32} (h : m.IsWhole) (x : Vec Ideal S256x256 .f32) : Vec Ideal S256x128 .bf16 :=
  k0_pay58 (View.readAt (Elt Ideal) m.view (Rect.unit (s := S256x256) ![0, 128] S256x128.size inb_S256x256_S256x128_0_128).toLoadRect (h.unread x))

/-- The first head's sums. -/
abbrev t0 {m : Memref sig .tc .vmem S256x256 .f32} (h : m.IsWhole) (x : Vec Ideal S256x256 .f32) : Vec Ideal S256x1 .f32 :=
  k0_pay59 (View.readAt (Elt Ideal) m.view (Rect.unit (s := S256x256) ![0, 0] S256x128.size inb_S256x256_S256x128_0_0).toLoadRect (h.unread x))

/-- The second head's sums. -/
abbrev t1 {m : Memref sig .tc .vmem S256x256 .f32} (h : m.IsWhole) (x : Vec Ideal S256x256 .f32) : Vec Ideal S256x1 .f32 :=
  k0_pay60 (View.readAt (Elt Ideal) m.view (Rect.unit (s := S256x256) ![0, 128] S256x128.size inb_S256x256_S256x128_0_128).toLoadRect (h.unread x))

/-- The first block the point's rows reach back to. -/
abbrev first (i : grid0.Coords) (W : BitVec 32) : BitVec 32 := Scalar.subi (BitVec.ofNat 32 ↑(i 1)) W

/-- Where the first loop ends. -/
abbrev upTo (i : grid0.Coords) (W : BitVec 32) : BitVec 32 :=
  Scalar.addi (first i W) (Scalar.muli (Scalar.divsi (Scalar.subi (BitVec.ofNat 32 ↑(i 1)) (first i W)) 1#32) 1#32)

section Runs

variable (c : Dev nD) (i : grid0.Coords) (arg2 : Memref sig .tc .vmem S256x256 .bf16) (harg2 : arg2.IsWhole) (arg3 : Memref sig .tc .vmem S4096x256 .bf16) (harg3 : arg3.IsWhole) (arg4 : Memref sig .tc .vmem S4096x256 .bf16) (harg4 : arg4.IsWhole) (arg5 : Memref sig .tc .vmem S256x256 .f32) (harg5 : arg5.IsWhole) (arg6 : Memref sig .tc .vmem S256x256 .f32) (harg6 : arg6.IsWhole) (arg7 : Memref sig .tc .smem S4x16 .i32) (harg7 : arg7.IsWhole) (arg8 : Memref sig .tc .vmem S256x256 .bf16) (harg8 : arg8.IsWhole) (arg9 : Memref sig .tc .vmem S4096x256 .bf16) (harg9 : arg9.IsWhole) (arg10 : Memref sig .tc .vmem S4096x256 .bf16) (harg10 : arg10.IsWhole) (arg11 : Memref sig .tc .vmem S4096x256 .f32) (harg11 : arg11.IsWhole) (arg12 : Memref sig .tc .vmem S4096x256 .f32) (harg12 : arg12.IsWhole)
  (x0 : Vec Ideal S256x256 .bf16) (x1 : Vec Ideal S4096x256 .bf16) (x2 : Vec Ideal S4096x256 .bf16) (x3 : Vec Ideal S256x256 .f32) (x4 : Vec Ideal S256x256 .f32) (x5 : Vec Ideal S4x16 .i32) (hk : Chk i arg7 harg7 x5)

/-- The first loop's state on what the point reads. -/
abbrev run1 (G11 : BufTy.Contents (Elt Ideal) arg11.view.ty) (G12 : BufTy.Contents (Elt Ideal) arg12.view.ty) : Carry × List (View.Piece (Elt Ideal) S4096x256 .f32) × List (View.Piece (Elt Ideal) S4096x256 .f32) :=
  loop1 c i arg2 harg2 arg3 harg3 arg4 harg4 arg5 harg5 arg6 harg6 arg7 harg7 arg8 harg8 arg9 harg9 arg10 harg10 arg11 harg11 arg12 harg12 (wordOf i arg7 harg7 x5) (hk _) (first i (wordOf i arg7 harg7 x5)) (upTo i (wordOf i arg7 harg7 x5)) (q0 harg2 x0) (q1 harg2 x0) (o0 harg5 x3) (o1 harg5 x3) (t0 harg6 x4) (t1 harg6 x4) (harg3.unread x1) (harg4.unread x2) G11 G12

/-- The second loop's state on what the point reads. -/
abbrev run2 (G11 : BufTy.Contents (Elt Ideal) arg11.view.ty) (G12 : BufTy.Contents (Elt Ideal) arg12.view.ty) (C : Carry) : Carry × List (View.Piece (Elt Ideal) S4096x256 .f32) × List (View.Piece (Elt Ideal) S4096x256 .f32) :=
  loop2 c i arg2 harg2 arg3 harg3 arg4 harg4 arg5 harg5 arg6 harg6 arg7 harg7 arg8 harg8 arg9 harg9 arg10 harg10 arg11 harg11 arg12 harg12 (wordOf i arg7 harg7 x5) (hk _) (first i (wordOf i arg7 harg7 x5)) (upTo i (wordOf i arg7 harg7 x5)) (q0 harg2 x0) (q1 harg2 x0) (o0 harg5 x3) (o1 harg5 x3) (t0 harg6 x4) (t1 harg6 x4) (harg3.unread x1) (harg4.unread x2) G11 G12 C

end Runs

section CaseA

variable (c : Dev nD) (i : grid0.Coords) (arg2 : Memref sig .tc .vmem S256x256 .bf16) (harg2 : arg2.IsWhole) (arg3 : Memref sig .tc .vmem S4096x256 .bf16) (harg3 : arg3.IsWhole) (arg4 : Memref sig .tc .vmem S4096x256 .bf16) (harg4 : arg4.IsWhole) (arg5 : Memref sig .tc .vmem S256x256 .f32) (harg5 : arg5.IsWhole) (arg6 : Memref sig .tc .vmem S256x256 .f32) (harg6 : arg6.IsWhole) (arg7 : Memref sig .tc .smem S4x16 .i32) (harg7 : arg7.IsWhole) (arg8 : Memref sig .tc .vmem S256x256 .bf16) (harg8 : arg8.IsWhole) (arg9 : Memref sig .tc .vmem S4096x256 .bf16) (harg9 : arg9.IsWhole) (arg10 : Memref sig .tc .vmem S4096x256 .bf16) (harg10 : arg10.IsWhole) (arg11 : Memref sig .tc .vmem S4096x256 .f32) (harg11 : arg11.IsWhole) (arg12 : Memref sig .tc .vmem S4096x256 .f32) (harg12 : arg12.IsWhole) (hc0 : cond0_0 i) (hc1 : ¬cond0_1 i) (x0 : Vec Ideal S256x256 .bf16) (x1 : Vec Ideal S4096x256 .bf16) (x2 : Vec Ideal S4096x256 .bf16) (x3 : Vec Ideal S256x256 .f32) (x4 : Vec Ideal S256x256 .f32) (x5 : Vec Ideal S4x16 .i32) (hk : Chk i arg7 harg7 x5)

theorem runA_11 : (bodyRunA (F := Ideal) c i arg2 harg2 arg3 harg3 arg4 harg4 arg5 harg5 arg6 harg6 arg7 harg7 arg8 harg8 arg9 harg9 arg10 harg10 arg11 harg11 arg12 harg12 hc0 hc1 x0 x1 x2 x3 x4 x5 hk).2.2.2.1 = diag11 i arg3 arg4 arg11 (q0 harg2 x0) (q1 harg2 x0) (o0 harg5 x3) (o1 harg5 x3) (t0 harg6 x4) (t1 harg6 x4) (harg3.unread x1) (harg4.unread x2) (run2 c i arg2 harg2 arg3 harg3 arg4 harg4 arg5 harg5 arg6 harg6 arg7 harg7 arg8 harg8 arg9 harg9 arg10 harg10 arg11 harg11 arg12 harg12 x0 x1 x2 x3 x4 x5 hk (arg11.view.writes (Elt Ideal) arg11.view.junk ((run1 c i arg2 harg2 arg3 harg3 arg4 harg4 arg5 harg5 arg6 harg6 arg7 harg7 arg8 harg8 arg9 harg9 arg10 harg10 arg11 harg11 arg12 harg12 x0 x1 x2 x3 x4 x5 hk (arg11.view.writes (Elt Ideal) arg11.view.junk start11) (arg12.view.writes (Elt Ideal) arg12.view.junk start12)).2.1 ++ start11)) (arg12.view.writes (Elt Ideal) arg12.view.junk ((run1 c i arg2 harg2 arg3 harg3 arg4 harg4 arg5 harg5 arg6 harg6 arg7 harg7 arg8 harg8 arg9 harg9 arg10 harg10 arg11 harg11 arg12 harg12 x0 x1 x2 x3 x4 x5 hk (arg11.view.writes (Elt Ideal) arg11.view.junk start11) (arg12.view.writes (Elt Ideal) arg12.view.junk start12)).2.2 ++ start12)) (run1 c i arg2 harg2 arg3 harg3 arg4 harg4 arg5 harg5 arg6 harg6 arg7 harg7 arg8 harg8 arg9 harg9 arg10 harg10 arg11 harg11 arg12 harg12 x0 x1 x2 x3 x4 x5 hk (arg11.view.writes (Elt Ideal) arg11.view.junk start11) (arg12.view.writes (Elt Ideal) arg12.view.junk start12)).1).1 arg11.view.junk ((run2 c i arg2 harg2 arg3 harg3 arg4 harg4 arg5 harg5 arg6 harg6 arg7 harg7 arg8 harg8 arg9 harg9 arg10 harg10 arg11 harg11 arg12 harg12 x0 x1 x2 x3 x4 x5 hk (arg11.view.writes (Elt Ideal) arg11.view.junk ((run1 c i arg2 harg2 arg3 harg3 arg4 harg4 arg5 harg5 arg6 harg6 arg7 harg7 arg8 harg8 arg9 harg9 arg10 harg10 arg11 harg11 arg12 harg12 x0 x1 x2 x3 x4 x5 hk (arg11.view.writes (Elt Ideal) arg11.view.junk start11) (arg12.view.writes (Elt Ideal) arg12.view.junk start12)).2.1 ++ start11)) (arg12.view.writes (Elt Ideal) arg12.view.junk ((run1 c i arg2 harg2 arg3 harg3 arg4 harg4 arg5 harg5 arg6 harg6 arg7 harg7 arg8 harg8 arg9 harg9 arg10 harg10 arg11 harg11 arg12 harg12 x0 x1 x2 x3 x4 x5 hk (arg11.view.writes (Elt Ideal) arg11.view.junk start11) (arg12.view.writes (Elt Ideal) arg12.view.junk start12)).2.2 ++ start12)) (run1 c i arg2 harg2 arg3 harg3 arg4 harg4 arg5 harg5 arg6 harg6 arg7 harg7 arg8 harg8 arg9 harg9 arg10 harg10 arg11 harg11 arg12 harg12 x0 x1 x2 x3 x4 x5 hk (arg11.view.writes (Elt Ideal) arg11.view.junk start11) (arg12.view.writes (Elt Ideal) arg12.view.junk start12)).1).2.1 ++ ((run1 c i arg2 harg2 arg3 harg3 arg4 harg4 arg5 harg5 arg6 harg6 arg7 harg7 arg8 harg8 arg9 harg9 arg10 harg10 arg11 harg11 arg12 harg12 x0 x1 x2 x3 x4 x5 hk (arg11.view.writes (Elt Ideal) arg11.view.junk start11) (arg12.view.writes (Elt Ideal) arg12.view.junk start12)).2.1 ++ start11)) := by sl_kernel_rfl

theorem runA_12 : (bodyRunA (F := Ideal) c i arg2 harg2 arg3 harg3 arg4 harg4 arg5 harg5 arg6 harg6 arg7 harg7 arg8 harg8 arg9 harg9 arg10 harg10 arg11 harg11 arg12 harg12 hc0 hc1 x0 x1 x2 x3 x4 x5 hk).2.2.2.2.1 = diag12 i arg3 arg4 arg12 (q0 harg2 x0) (q1 harg2 x0) (o0 harg5 x3) (o1 harg5 x3) (t0 harg6 x4) (t1 harg6 x4) (harg3.unread x1) (harg4.unread x2) (run2 c i arg2 harg2 arg3 harg3 arg4 harg4 arg5 harg5 arg6 harg6 arg7 harg7 arg8 harg8 arg9 harg9 arg10 harg10 arg11 harg11 arg12 harg12 x0 x1 x2 x3 x4 x5 hk (arg11.view.writes (Elt Ideal) arg11.view.junk ((run1 c i arg2 harg2 arg3 harg3 arg4 harg4 arg5 harg5 arg6 harg6 arg7 harg7 arg8 harg8 arg9 harg9 arg10 harg10 arg11 harg11 arg12 harg12 x0 x1 x2 x3 x4 x5 hk (arg11.view.writes (Elt Ideal) arg11.view.junk start11) (arg12.view.writes (Elt Ideal) arg12.view.junk start12)).2.1 ++ start11)) (arg12.view.writes (Elt Ideal) arg12.view.junk ((run1 c i arg2 harg2 arg3 harg3 arg4 harg4 arg5 harg5 arg6 harg6 arg7 harg7 arg8 harg8 arg9 harg9 arg10 harg10 arg11 harg11 arg12 harg12 x0 x1 x2 x3 x4 x5 hk (arg11.view.writes (Elt Ideal) arg11.view.junk start11) (arg12.view.writes (Elt Ideal) arg12.view.junk start12)).2.2 ++ start12)) (run1 c i arg2 harg2 arg3 harg3 arg4 harg4 arg5 harg5 arg6 harg6 arg7 harg7 arg8 harg8 arg9 harg9 arg10 harg10 arg11 harg11 arg12 harg12 x0 x1 x2 x3 x4 x5 hk (arg11.view.writes (Elt Ideal) arg11.view.junk start11) (arg12.view.writes (Elt Ideal) arg12.view.junk start12)).1).1 arg12.view.junk ((run2 c i arg2 harg2 arg3 harg3 arg4 harg4 arg5 harg5 arg6 harg6 arg7 harg7 arg8 harg8 arg9 harg9 arg10 harg10 arg11 harg11 arg12 harg12 x0 x1 x2 x3 x4 x5 hk (arg11.view.writes (Elt Ideal) arg11.view.junk ((run1 c i arg2 harg2 arg3 harg3 arg4 harg4 arg5 harg5 arg6 harg6 arg7 harg7 arg8 harg8 arg9 harg9 arg10 harg10 arg11 harg11 arg12 harg12 x0 x1 x2 x3 x4 x5 hk (arg11.view.writes (Elt Ideal) arg11.view.junk start11) (arg12.view.writes (Elt Ideal) arg12.view.junk start12)).2.1 ++ start11)) (arg12.view.writes (Elt Ideal) arg12.view.junk ((run1 c i arg2 harg2 arg3 harg3 arg4 harg4 arg5 harg5 arg6 harg6 arg7 harg7 arg8 harg8 arg9 harg9 arg10 harg10 arg11 harg11 arg12 harg12 x0 x1 x2 x3 x4 x5 hk (arg11.view.writes (Elt Ideal) arg11.view.junk start11) (arg12.view.writes (Elt Ideal) arg12.view.junk start12)).2.2 ++ start12)) (run1 c i arg2 harg2 arg3 harg3 arg4 harg4 arg5 harg5 arg6 harg6 arg7 harg7 arg8 harg8 arg9 harg9 arg10 harg10 arg11 harg11 arg12 harg12 x0 x1 x2 x3 x4 x5 hk (arg11.view.writes (Elt Ideal) arg11.view.junk start11) (arg12.view.writes (Elt Ideal) arg12.view.junk start12)).1).2.2 ++ ((run1 c i arg2 harg2 arg3 harg3 arg4 harg4 arg5 harg5 arg6 harg6 arg7 harg7 arg8 harg8 arg9 harg9 arg10 harg10 arg11 harg11 arg12 harg12 x0 x1 x2 x3 x4 x5 hk (arg11.view.writes (Elt Ideal) arg11.view.junk start11) (arg12.view.writes (Elt Ideal) arg12.view.junk start12)).2.2 ++ start12)) := by sl_kernel_rfl

theorem runA_6 : (bodyRunA (F := Ideal) c i arg2 harg2 arg3 harg3 arg4 harg4 arg5 harg5 arg6 harg6 arg7 harg7 arg8 harg8 arg9 harg9 arg10 harg10 arg11 harg11 arg12 harg12 hc0 hc1 x0 x1 x2 x3 x4 x5 hk).1 = diag6 i arg3 arg4 (q0 harg2 x0) (q1 harg2 x0) (o0 harg5 x3) (o1 harg5 x3) (t0 harg6 x4) (t1 harg6 x4) (harg3.unread x1) (harg4.unread x2) (run2 c i arg2 harg2 arg3 harg3 arg4 harg4 arg5 harg5 arg6 harg6 arg7 harg7 arg8 harg8 arg9 harg9 arg10 harg10 arg11 harg11 arg12 harg12 x0 x1 x2 x3 x4 x5 hk (arg11.view.writes (Elt Ideal) arg11.view.junk ((run1 c i arg2 harg2 arg3 harg3 arg4 harg4 arg5 harg5 arg6 harg6 arg7 harg7 arg8 harg8 arg9 harg9 arg10 harg10 arg11 harg11 arg12 harg12 x0 x1 x2 x3 x4 x5 hk (arg11.view.writes (Elt Ideal) arg11.view.junk start11) (arg12.view.writes (Elt Ideal) arg12.view.junk start12)).2.1 ++ start11)) (arg12.view.writes (Elt Ideal) arg12.view.junk ((run1 c i arg2 harg2 arg3 harg3 arg4 harg4 arg5 harg5 arg6 harg6 arg7 harg7 arg8 harg8 arg9 harg9 arg10 harg10 arg11 harg11 arg12 harg12 x0 x1 x2 x3 x4 x5 hk (arg11.view.writes (Elt Ideal) arg11.view.junk start11) (arg12.view.writes (Elt Ideal) arg12.view.junk start12)).2.2 ++ start12)) (run1 c i arg2 harg2 arg3 harg3 arg4 harg4 arg5 harg5 arg6 harg6 arg7 harg7 arg8 harg8 arg9 harg9 arg10 harg10 arg11 harg11 arg12 harg12 x0 x1 x2 x3 x4 x5 hk (arg11.view.writes (Elt Ideal) arg11.view.junk start11) (arg12.view.writes (Elt Ideal) arg12.view.junk start12)).1).1 := by sl_kernel_rfl

end CaseA

section CaseB

variable (c : Dev nD) (i : grid0.Coords) (arg2 : Memref sig .tc .vmem S256x256 .bf16) (harg2 : arg2.IsWhole) (arg3 : Memref sig .tc .vmem S4096x256 .bf16) (harg3 : arg3.IsWhole) (arg4 : Memref sig .tc .vmem S4096x256 .bf16) (harg4 : arg4.IsWhole) (arg5 : Memref sig .tc .vmem S256x256 .f32) (harg5 : arg5.IsWhole) (arg6 : Memref sig .tc .vmem S256x256 .f32) (harg6 : arg6.IsWhole) (arg7 : Memref sig .tc .smem S4x16 .i32) (harg7 : arg7.IsWhole) (arg8 : Memref sig .tc .vmem S256x256 .bf16) (harg8 : arg8.IsWhole) (arg9 : Memref sig .tc .vmem S4096x256 .bf16) (harg9 : arg9.IsWhole) (arg10 : Memref sig .tc .vmem S4096x256 .bf16) (harg10 : arg10.IsWhole) (arg11 : Memref sig .tc .vmem S4096x256 .f32) (harg11 : arg11.IsWhole) (arg12 : Memref sig .tc .vmem S4096x256 .f32) (harg12 : arg12.IsWhole) (hc0 : ¬cond0_0 i) (hc1 : ¬cond0_1 i) (x0 : Vec Ideal S256x256 .bf16) (x1 : Vec Ideal S4096x256 .bf16) (x2 : Vec Ideal S4096x256 .bf16) (x3 : Vec Ideal S256x256 .f32) (x4 : Vec Ideal S256x256 .f32) (x5 : Vec Ideal S4x16 .i32) (hk : Chk i arg7 harg7 x5) (xs0 : Vec Ideal S4096x256 .f32) (xs1 : Vec Ideal S4096x256 .f32)

theorem runB_11 : (bodyRunB (F := Ideal) c i arg2 harg2 arg3 harg3 arg4 harg4 arg5 harg5 arg6 harg6 arg7 harg7 arg8 harg8 arg9 harg9 arg10 harg10 arg11 harg11 arg12 harg12 hc0 hc1 x0 x1 x2 x3 x4 x5 hk xs0 xs1).2.2.2.1 = diag11 i arg3 arg4 arg11 (q0 harg2 x0) (q1 harg2 x0) (o0 harg5 x3) (o1 harg5 x3) (t0 harg6 x4) (t1 harg6 x4) (harg3.unread x1) (harg4.unread x2) (run2 c i arg2 harg2 arg3 harg3 arg4 harg4 arg5 harg5 arg6 harg6 arg7 harg7 arg8 harg8 arg9 harg9 arg10 harg10 arg11 harg11 arg12 harg12 x0 x1 x2 x3 x4 x5 hk (arg11.view.writes (Elt Ideal) (harg11.unread xs0) (run1 c i arg2 harg2 arg3 harg3 arg4 harg4 arg5 harg5 arg6 harg6 arg7 harg7 arg8 harg8 arg9 harg9 arg10 harg10 arg11 harg11 arg12 harg12 x0 x1 x2 x3 x4 x5 hk (harg11.unread xs0) (harg12.unread xs1)).2.1) (arg12.view.writes (Elt Ideal) (harg12.unread xs1) (run1 c i arg2 harg2 arg3 harg3 arg4 harg4 arg5 harg5 arg6 harg6 arg7 harg7 arg8 harg8 arg9 harg9 arg10 harg10 arg11 harg11 arg12 harg12 x0 x1 x2 x3 x4 x5 hk (harg11.unread xs0) (harg12.unread xs1)).2.2) (run1 c i arg2 harg2 arg3 harg3 arg4 harg4 arg5 harg5 arg6 harg6 arg7 harg7 arg8 harg8 arg9 harg9 arg10 harg10 arg11 harg11 arg12 harg12 x0 x1 x2 x3 x4 x5 hk (harg11.unread xs0) (harg12.unread xs1)).1).1 (harg11.unread xs0) ((run2 c i arg2 harg2 arg3 harg3 arg4 harg4 arg5 harg5 arg6 harg6 arg7 harg7 arg8 harg8 arg9 harg9 arg10 harg10 arg11 harg11 arg12 harg12 x0 x1 x2 x3 x4 x5 hk (arg11.view.writes (Elt Ideal) (harg11.unread xs0) (run1 c i arg2 harg2 arg3 harg3 arg4 harg4 arg5 harg5 arg6 harg6 arg7 harg7 arg8 harg8 arg9 harg9 arg10 harg10 arg11 harg11 arg12 harg12 x0 x1 x2 x3 x4 x5 hk (harg11.unread xs0) (harg12.unread xs1)).2.1) (arg12.view.writes (Elt Ideal) (harg12.unread xs1) (run1 c i arg2 harg2 arg3 harg3 arg4 harg4 arg5 harg5 arg6 harg6 arg7 harg7 arg8 harg8 arg9 harg9 arg10 harg10 arg11 harg11 arg12 harg12 x0 x1 x2 x3 x4 x5 hk (harg11.unread xs0) (harg12.unread xs1)).2.2) (run1 c i arg2 harg2 arg3 harg3 arg4 harg4 arg5 harg5 arg6 harg6 arg7 harg7 arg8 harg8 arg9 harg9 arg10 harg10 arg11 harg11 arg12 harg12 x0 x1 x2 x3 x4 x5 hk (harg11.unread xs0) (harg12.unread xs1)).1).2.1 ++ (run1 c i arg2 harg2 arg3 harg3 arg4 harg4 arg5 harg5 arg6 harg6 arg7 harg7 arg8 harg8 arg9 harg9 arg10 harg10 arg11 harg11 arg12 harg12 x0 x1 x2 x3 x4 x5 hk (harg11.unread xs0) (harg12.unread xs1)).2.1) := by sl_kernel_rfl

theorem runB_12 : (bodyRunB (F := Ideal) c i arg2 harg2 arg3 harg3 arg4 harg4 arg5 harg5 arg6 harg6 arg7 harg7 arg8 harg8 arg9 harg9 arg10 harg10 arg11 harg11 arg12 harg12 hc0 hc1 x0 x1 x2 x3 x4 x5 hk xs0 xs1).2.2.2.2.1 = diag12 i arg3 arg4 arg12 (q0 harg2 x0) (q1 harg2 x0) (o0 harg5 x3) (o1 harg5 x3) (t0 harg6 x4) (t1 harg6 x4) (harg3.unread x1) (harg4.unread x2) (run2 c i arg2 harg2 arg3 harg3 arg4 harg4 arg5 harg5 arg6 harg6 arg7 harg7 arg8 harg8 arg9 harg9 arg10 harg10 arg11 harg11 arg12 harg12 x0 x1 x2 x3 x4 x5 hk (arg11.view.writes (Elt Ideal) (harg11.unread xs0) (run1 c i arg2 harg2 arg3 harg3 arg4 harg4 arg5 harg5 arg6 harg6 arg7 harg7 arg8 harg8 arg9 harg9 arg10 harg10 arg11 harg11 arg12 harg12 x0 x1 x2 x3 x4 x5 hk (harg11.unread xs0) (harg12.unread xs1)).2.1) (arg12.view.writes (Elt Ideal) (harg12.unread xs1) (run1 c i arg2 harg2 arg3 harg3 arg4 harg4 arg5 harg5 arg6 harg6 arg7 harg7 arg8 harg8 arg9 harg9 arg10 harg10 arg11 harg11 arg12 harg12 x0 x1 x2 x3 x4 x5 hk (harg11.unread xs0) (harg12.unread xs1)).2.2) (run1 c i arg2 harg2 arg3 harg3 arg4 harg4 arg5 harg5 arg6 harg6 arg7 harg7 arg8 harg8 arg9 harg9 arg10 harg10 arg11 harg11 arg12 harg12 x0 x1 x2 x3 x4 x5 hk (harg11.unread xs0) (harg12.unread xs1)).1).1 (harg12.unread xs1) ((run2 c i arg2 harg2 arg3 harg3 arg4 harg4 arg5 harg5 arg6 harg6 arg7 harg7 arg8 harg8 arg9 harg9 arg10 harg10 arg11 harg11 arg12 harg12 x0 x1 x2 x3 x4 x5 hk (arg11.view.writes (Elt Ideal) (harg11.unread xs0) (run1 c i arg2 harg2 arg3 harg3 arg4 harg4 arg5 harg5 arg6 harg6 arg7 harg7 arg8 harg8 arg9 harg9 arg10 harg10 arg11 harg11 arg12 harg12 x0 x1 x2 x3 x4 x5 hk (harg11.unread xs0) (harg12.unread xs1)).2.1) (arg12.view.writes (Elt Ideal) (harg12.unread xs1) (run1 c i arg2 harg2 arg3 harg3 arg4 harg4 arg5 harg5 arg6 harg6 arg7 harg7 arg8 harg8 arg9 harg9 arg10 harg10 arg11 harg11 arg12 harg12 x0 x1 x2 x3 x4 x5 hk (harg11.unread xs0) (harg12.unread xs1)).2.2) (run1 c i arg2 harg2 arg3 harg3 arg4 harg4 arg5 harg5 arg6 harg6 arg7 harg7 arg8 harg8 arg9 harg9 arg10 harg10 arg11 harg11 arg12 harg12 x0 x1 x2 x3 x4 x5 hk (harg11.unread xs0) (harg12.unread xs1)).1).2.2 ++ (run1 c i arg2 harg2 arg3 harg3 arg4 harg4 arg5 harg5 arg6 harg6 arg7 harg7 arg8 harg8 arg9 harg9 arg10 harg10 arg11 harg11 arg12 harg12 x0 x1 x2 x3 x4 x5 hk (harg11.unread xs0) (harg12.unread xs1)).2.2) := by sl_kernel_rfl

theorem runB_6 : (bodyRunB (F := Ideal) c i arg2 harg2 arg3 harg3 arg4 harg4 arg5 harg5 arg6 harg6 arg7 harg7 arg8 harg8 arg9 harg9 arg10 harg10 arg11 harg11 arg12 harg12 hc0 hc1 x0 x1 x2 x3 x4 x5 hk xs0 xs1).1 = diag6 i arg3 arg4 (q0 harg2 x0) (q1 harg2 x0) (o0 harg5 x3) (o1 harg5 x3) (t0 harg6 x4) (t1 harg6 x4) (harg3.unread x1) (harg4.unread x2) (run2 c i arg2 harg2 arg3 harg3 arg4 harg4 arg5 harg5 arg6 harg6 arg7 harg7 arg8 harg8 arg9 harg9 arg10 harg10 arg11 harg11 arg12 harg12 x0 x1 x2 x3 x4 x5 hk (arg11.view.writes (Elt Ideal) (harg11.unread xs0) (run1 c i arg2 harg2 arg3 harg3 arg4 harg4 arg5 harg5 arg6 harg6 arg7 harg7 arg8 harg8 arg9 harg9 arg10 harg10 arg11 harg11 arg12 harg12 x0 x1 x2 x3 x4 x5 hk (harg11.unread xs0) (harg12.unread xs1)).2.1) (arg12.view.writes (Elt Ideal) (harg12.unread xs1) (run1 c i arg2 harg2 arg3 harg3 arg4 harg4 arg5 harg5 arg6 harg6 arg7 harg7 arg8 harg8 arg9 harg9 arg10 harg10 arg11 harg11 arg12 harg12 x0 x1 x2 x3 x4 x5 hk (harg11.unread xs0) (harg12.unread xs1)).2.2) (run1 c i arg2 harg2 arg3 harg3 arg4 harg4 arg5 harg5 arg6 harg6 arg7 harg7 arg8 harg8 arg9 harg9 arg10 harg10 arg11 harg11 arg12 harg12 x0 x1 x2 x3 x4 x5 hk (harg11.unread xs0) (harg12.unread xs1)).1).1 := by sl_kernel_rfl

end CaseB

section CaseC

variable (c : Dev nD) (i : grid0.Coords) (arg2 : Memref sig .tc .vmem S256x256 .bf16) (harg2 : arg2.IsWhole) (arg3 : Memref sig .tc .vmem S4096x256 .bf16) (harg3 : arg3.IsWhole) (arg4 : Memref sig .tc .vmem S4096x256 .bf16) (harg4 : arg4.IsWhole) (arg5 : Memref sig .tc .vmem S256x256 .f32) (harg5 : arg5.IsWhole) (arg6 : Memref sig .tc .vmem S256x256 .f32) (harg6 : arg6.IsWhole) (arg7 : Memref sig .tc .smem S4x16 .i32) (harg7 : arg7.IsWhole) (arg8 : Memref sig .tc .vmem S256x256 .bf16) (harg8 : arg8.IsWhole) (arg9 : Memref sig .tc .vmem S4096x256 .bf16) (harg9 : arg9.IsWhole) (arg10 : Memref sig .tc .vmem S4096x256 .bf16) (harg10 : arg10.IsWhole) (arg11 : Memref sig .tc .vmem S4096x256 .f32) (harg11 : arg11.IsWhole) (arg12 : Memref sig .tc .vmem S4096x256 .f32) (harg12 : arg12.IsWhole) (hc0 : ¬cond0_0 i) (hc1 : cond0_1 i) (x0 : Vec Ideal S256x256 .bf16) (x1 : Vec Ideal S4096x256 .bf16) (x2 : Vec Ideal S4096x256 .bf16) (x3 : Vec Ideal S256x256 .f32) (x4 : Vec Ideal S256x256 .f32) (x5 : Vec Ideal S4x16 .i32) (hk : Chk i arg7 harg7 x5) (xs0 : Vec Ideal S4096x256 .f32) (xs1 : Vec Ideal S4096x256 .f32)

theorem runC_11 : (bodyRunC (F := Ideal) c i arg2 harg2 arg3 harg3 arg4 harg4 arg5 harg5 arg6 harg6 arg7 harg7 arg8 harg8 arg9 harg9 arg10 harg10 arg11 harg11 arg12 harg12 hc0 hc1 x0 x1 x2 x3 x4 x5 hk xs0 xs1).2.2.2.1 = diag11 i arg3 arg4 arg11 (q0 harg2 x0) (q1 harg2 x0) (o0 harg5 x3) (o1 harg5 x3) (t0 harg6 x4) (t1 harg6 x4) (harg3.unread x1) (harg4.unread x2) (run2 c i arg2 harg2 arg3 harg3 arg4 harg4 arg5 harg5 arg6 harg6 arg7 harg7 arg8 harg8 arg9 harg9 arg10 harg10 arg11 harg11 arg12 harg12 x0 x1 x2 x3 x4 x5 hk (arg11.view.writes (Elt Ideal) (harg11.unread xs0) (run1 c i arg2 harg2 arg3 harg3 arg4 harg4 arg5 harg5 arg6 harg6 arg7 harg7 arg8 harg8 arg9 harg9 arg10 harg10 arg11 harg11 arg12 harg12 x0 x1 x2 x3 x4 x5 hk (harg11.unread xs0) (harg12.unread xs1)).2.1) (arg12.view.writes (Elt Ideal) (harg12.unread xs1) (run1 c i arg2 harg2 arg3 harg3 arg4 harg4 arg5 harg5 arg6 harg6 arg7 harg7 arg8 harg8 arg9 harg9 arg10 harg10 arg11 harg11 arg12 harg12 x0 x1 x2 x3 x4 x5 hk (harg11.unread xs0) (harg12.unread xs1)).2.2) (run1 c i arg2 harg2 arg3 harg3 arg4 harg4 arg5 harg5 arg6 harg6 arg7 harg7 arg8 harg8 arg9 harg9 arg10 harg10 arg11 harg11 arg12 harg12 x0 x1 x2 x3 x4 x5 hk (harg11.unread xs0) (harg12.unread xs1)).1).1 (harg11.unread xs0) ((run2 c i arg2 harg2 arg3 harg3 arg4 harg4 arg5 harg5 arg6 harg6 arg7 harg7 arg8 harg8 arg9 harg9 arg10 harg10 arg11 harg11 arg12 harg12 x0 x1 x2 x3 x4 x5 hk (arg11.view.writes (Elt Ideal) (harg11.unread xs0) (run1 c i arg2 harg2 arg3 harg3 arg4 harg4 arg5 harg5 arg6 harg6 arg7 harg7 arg8 harg8 arg9 harg9 arg10 harg10 arg11 harg11 arg12 harg12 x0 x1 x2 x3 x4 x5 hk (harg11.unread xs0) (harg12.unread xs1)).2.1) (arg12.view.writes (Elt Ideal) (harg12.unread xs1) (run1 c i arg2 harg2 arg3 harg3 arg4 harg4 arg5 harg5 arg6 harg6 arg7 harg7 arg8 harg8 arg9 harg9 arg10 harg10 arg11 harg11 arg12 harg12 x0 x1 x2 x3 x4 x5 hk (harg11.unread xs0) (harg12.unread xs1)).2.2) (run1 c i arg2 harg2 arg3 harg3 arg4 harg4 arg5 harg5 arg6 harg6 arg7 harg7 arg8 harg8 arg9 harg9 arg10 harg10 arg11 harg11 arg12 harg12 x0 x1 x2 x3 x4 x5 hk (harg11.unread xs0) (harg12.unread xs1)).1).2.1 ++ (run1 c i arg2 harg2 arg3 harg3 arg4 harg4 arg5 harg5 arg6 harg6 arg7 harg7 arg8 harg8 arg9 harg9 arg10 harg10 arg11 harg11 arg12 harg12 x0 x1 x2 x3 x4 x5 hk (harg11.unread xs0) (harg12.unread xs1)).2.1) := by sl_kernel_rfl

theorem runC_12 : (bodyRunC (F := Ideal) c i arg2 harg2 arg3 harg3 arg4 harg4 arg5 harg5 arg6 harg6 arg7 harg7 arg8 harg8 arg9 harg9 arg10 harg10 arg11 harg11 arg12 harg12 hc0 hc1 x0 x1 x2 x3 x4 x5 hk xs0 xs1).2.2.2.2.1 = diag12 i arg3 arg4 arg12 (q0 harg2 x0) (q1 harg2 x0) (o0 harg5 x3) (o1 harg5 x3) (t0 harg6 x4) (t1 harg6 x4) (harg3.unread x1) (harg4.unread x2) (run2 c i arg2 harg2 arg3 harg3 arg4 harg4 arg5 harg5 arg6 harg6 arg7 harg7 arg8 harg8 arg9 harg9 arg10 harg10 arg11 harg11 arg12 harg12 x0 x1 x2 x3 x4 x5 hk (arg11.view.writes (Elt Ideal) (harg11.unread xs0) (run1 c i arg2 harg2 arg3 harg3 arg4 harg4 arg5 harg5 arg6 harg6 arg7 harg7 arg8 harg8 arg9 harg9 arg10 harg10 arg11 harg11 arg12 harg12 x0 x1 x2 x3 x4 x5 hk (harg11.unread xs0) (harg12.unread xs1)).2.1) (arg12.view.writes (Elt Ideal) (harg12.unread xs1) (run1 c i arg2 harg2 arg3 harg3 arg4 harg4 arg5 harg5 arg6 harg6 arg7 harg7 arg8 harg8 arg9 harg9 arg10 harg10 arg11 harg11 arg12 harg12 x0 x1 x2 x3 x4 x5 hk (harg11.unread xs0) (harg12.unread xs1)).2.2) (run1 c i arg2 harg2 arg3 harg3 arg4 harg4 arg5 harg5 arg6 harg6 arg7 harg7 arg8 harg8 arg9 harg9 arg10 harg10 arg11 harg11 arg12 harg12 x0 x1 x2 x3 x4 x5 hk (harg11.unread xs0) (harg12.unread xs1)).1).1 (harg12.unread xs1) ((run2 c i arg2 harg2 arg3 harg3 arg4 harg4 arg5 harg5 arg6 harg6 arg7 harg7 arg8 harg8 arg9 harg9 arg10 harg10 arg11 harg11 arg12 harg12 x0 x1 x2 x3 x4 x5 hk (arg11.view.writes (Elt Ideal) (harg11.unread xs0) (run1 c i arg2 harg2 arg3 harg3 arg4 harg4 arg5 harg5 arg6 harg6 arg7 harg7 arg8 harg8 arg9 harg9 arg10 harg10 arg11 harg11 arg12 harg12 x0 x1 x2 x3 x4 x5 hk (harg11.unread xs0) (harg12.unread xs1)).2.1) (arg12.view.writes (Elt Ideal) (harg12.unread xs1) (run1 c i arg2 harg2 arg3 harg3 arg4 harg4 arg5 harg5 arg6 harg6 arg7 harg7 arg8 harg8 arg9 harg9 arg10 harg10 arg11 harg11 arg12 harg12 x0 x1 x2 x3 x4 x5 hk (harg11.unread xs0) (harg12.unread xs1)).2.2) (run1 c i arg2 harg2 arg3 harg3 arg4 harg4 arg5 harg5 arg6 harg6 arg7 harg7 arg8 harg8 arg9 harg9 arg10 harg10 arg11 harg11 arg12 harg12 x0 x1 x2 x3 x4 x5 hk (harg11.unread xs0) (harg12.unread xs1)).1).2.2 ++ (run1 c i arg2 harg2 arg3 harg3 arg4 harg4 arg5 harg5 arg6 harg6 arg7 harg7 arg8 harg8 arg9 harg9 arg10 harg10 arg11 harg11 arg12 harg12 x0 x1 x2 x3 x4 x5 hk (harg11.unread xs0) (harg12.unread xs1)).2.2) := by sl_kernel_rfl

theorem runC_6 : (bodyRunC (F := Ideal) c i arg2 harg2 arg3 harg3 arg4 harg4 arg5 harg5 arg6 harg6 arg7 harg7 arg8 harg8 arg9 harg9 arg10 harg10 arg11 harg11 arg12 harg12 hc0 hc1 x0 x1 x2 x3 x4 x5 hk xs0 xs1).1 = diag6 i arg3 arg4 (q0 harg2 x0) (q1 harg2 x0) (o0 harg5 x3) (o1 harg5 x3) (t0 harg6 x4) (t1 harg6 x4) (harg3.unread x1) (harg4.unread x2) (run2 c i arg2 harg2 arg3 harg3 arg4 harg4 arg5 harg5 arg6 harg6 arg7 harg7 arg8 harg8 arg9 harg9 arg10 harg10 arg11 harg11 arg12 harg12 x0 x1 x2 x3 x4 x5 hk (arg11.view.writes (Elt Ideal) (harg11.unread xs0) (run1 c i arg2 harg2 arg3 harg3 arg4 harg4 arg5 harg5 arg6 harg6 arg7 harg7 arg8 harg8 arg9 harg9 arg10 harg10 arg11 harg11 arg12 harg12 x0 x1 x2 x3 x4 x5 hk (harg11.unread xs0) (harg12.unread xs1)).2.1) (arg12.view.writes (Elt Ideal) (harg12.unread xs1) (run1 c i arg2 harg2 arg3 harg3 arg4 harg4 arg5 harg5 arg6 harg6 arg7 harg7 arg8 harg8 arg9 harg9 arg10 harg10 arg11 harg11 arg12 harg12 x0 x1 x2 x3 x4 x5 hk (harg11.unread xs0) (harg12.unread xs1)).2.2) (run1 c i arg2 harg2 arg3 harg3 arg4 harg4 arg5 harg5 arg6 harg6 arg7 harg7 arg8 harg8 arg9 harg9 arg10 harg10 arg11 harg11 arg12 harg12 x0 x1 x2 x3 x4 x5 hk (harg11.unread xs0) (harg12.unread xs1)).1).1 := by sl_kernel_rfl

theorem runC_7 : (bodyRunC (F := Ideal) c i arg2 harg2 arg3 harg3 arg4 harg4 arg5 harg5 arg6 harg6 arg7 harg7 arg8 harg8 arg9 harg9 arg10 harg10 arg11 harg11 arg12 harg12 hc0 hc1 x0 x1 x2 x3 x4 x5 hk xs0 xs1).2.1 = [⟨Rect.unit (s := S4096x256) ![0, 0] S4096x256.size inb_S4096x256_S4096x256_0_0, k0_pay1 (View.readAt (Elt Ideal) arg11.view (Rect.unit (s := S4096x256) ![0, 0] S4096x256.size inb_S4096x256_S4096x256_0_0).toLoadRect (arg11.view.writes (Elt Ideal) (harg11.unread xs0) (bodyRunC (F := Ideal) c i arg2 harg2 arg3 harg3 arg4 harg4 arg5 harg5 arg6 harg6 arg7 harg7 arg8 harg8 arg9 harg9 arg10 harg10 arg11 harg11 arg12 harg12 hc0 hc1 x0 x1 x2 x3 x4 x5 hk xs0 xs1).2.2.2.1))⟩] := by sl_kernel_rfl

theorem runC_8 : (bodyRunC (F := Ideal) c i arg2 harg2 arg3 harg3 arg4 harg4 arg5 harg5 arg6 harg6 arg7 harg7 arg8 harg8 arg9 harg9 arg10 harg10 arg11 harg11 arg12 harg12 hc0 hc1 x0 x1 x2 x3 x4 x5 hk xs0 xs1).2.2.1 = [⟨Rect.unit (s := S4096x256) ![0, 0] S4096x256.size inb_S4096x256_S4096x256_0_0, k0_pay2 (View.readAt (Elt Ideal) arg12.view (Rect.unit (s := S4096x256) ![0, 0] S4096x256.size inb_S4096x256_S4096x256_0_0).toLoadRect (arg12.view.writes (Elt Ideal) (harg12.unread xs1) (bodyRunC (F := Ideal) c i arg2 harg2 arg3 harg3 arg4 harg4 arg5 harg5 arg6 harg6 arg7 harg7 arg8 harg8 arg9 harg9 arg10 harg10 arg11 harg11 arg12 harg12 hc0 hc1 x0 x1 x2 x3 x4 x5 hk xs0 xs1).2.2.2.2.1))⟩] := by sl_kernel_rfl

end CaseC

end Cert.KernelIdeal.Sb
-- ==== Proof.Diag.lean ====
/- What the two accumulators and the queries' gradient read after a point. -/
module

public import proofs.«01_k».proof.Proof.Parts
public import proofs.«01_k».proof.Proof.Body

@[expose] public section

set_option maxRecDepth 16384

noncomputable section

namespace Cert.KernelIdeal.Sb

open Idealize.ShloMosaic Idealize.ShloMosaic.TcCoe
open Idealize.ShloMosaic.Tactic
open Cert.KernelIdeal.Gen Cert.Sb

theorem addK_zero (H : Head) (I j d : ℕ) (h : 256 * (I + 1) ≤ j) : H.addK I j d = 0 := by
  rw [Head.addK]
  refine Finset.sum_eq_zero fun r _ => ?_
  rw [Head.dz, if_neg (by have := r.isLt; omega), zero_mul]

theorem addV_zero (H : Head) (I j d : ℕ) (h : 256 * (I + 1) ≤ j) : H.addV I j d = 0 := by
  rw [Head.addV]
  refine Finset.sum_eq_zero fun r _ => ?_
  rw [Head.att, if_neg (by have := r.isLt; omega), zero_mul]

theorem accK_full (H0 H1 : Head) (I : ℕ) (b : ℕ → ℕ → ℝ) (j d : ℕ) :
    accK H0 H1 I (I + 1) b j d = b j d + pair (H0.addK I) (H1.addK I) j d := by
  by_cases h : j < 256 * (I + 1)
  · rw [accK, if_pos h]
  · rw [accK, if_neg h, pair, addK_zero H0 I _ _ (Nat.le_of_not_lt h), addK_zero H1 I _ _ (Nat.le_of_not_lt h), ite_self]

theorem accV_full (H0 H1 : Head) (I : ℕ) (b : ℕ → ℕ → ℝ) (j d : ℕ) :
    accV H0 H1 I (I + 1) b j d = b j d + pair (H0.addV I) (H1.addV I) j d := by
  by_cases h : j < 256 * (I + 1)
  · rw [accV, if_pos h]
  · rw [accV, if_neg h, pair, addV_zero H0 I _ _ (Nat.le_of_not_lt h), addV_zero H1 I _ _ (Nat.le_of_not_lt h), ite_self]

/-- The keys past the diagonal block add nothing to a query's gradient. -/
theorem dq_full (H : Head) (I r d : ℕ) (hI : I < 16) (hr : r < 256) :
    ∑ j ∈ Finset.range (256 * I + 256), H.dz (256 * I + r) j * H.K j d = H.dq (256 * I + r) d := by
  rw [Head.dq]
  refine Finset.sum_subset (Finset.range_mono (by omega)) fun j _ hj => ?_
  rw [Finset.mem_range] at hj
  rw [Head.dz, if_neg (by omega), zero_mul]

/-- What the loops start from. -/
abbrev zeroCarry : Carry := (k0_pay63 (F := Ideal), k0_pay63 (F := Ideal), k0_pay64 (F := Ideal), k0_pay63 (F := Ideal), k0_pay63 (F := Ideal), k0_pay64 (F := Ideal))

section Loops

variable (c : Dev nD) (i : grid0.Coords) (arg2 : Memref sig .tc .vmem S256x256 .bf16) (harg2 : arg2.IsWhole) (arg3 : Memref sig .tc .vmem S4096x256 .bf16) (harg3 : arg3.IsWhole) (arg4 : Memref sig .tc .vmem S4096x256 .bf16) (harg4 : arg4.IsWhole) (arg5 : Memref sig .tc .vmem S256x256 .f32) (harg5 : arg5.IsWhole) (arg6 : Memref sig .tc .vmem S256x256 .f32) (harg6 : arg6.IsWhole) (arg7 : Memref sig .tc .smem S4x16 .i32) (harg7 : arg7.IsWhole) (arg8 : Memref sig .tc .vmem S256x256 .bf16) (harg8 : arg8.IsWhole) (arg9 : Memref sig .tc .vmem S4096x256 .bf16) (harg9 : arg9.IsWhole) (arg10 : Memref sig .tc .vmem S4096x256 .bf16) (harg10 : arg10.IsWhole) (arg11 : Memref sig .tc .vmem S4096x256 .f32) (harg11 : arg11.IsWhole) (arg12 : Memref sig .tc .vmem S4096x256 .f32) (harg12 : arg12.IsWhole) (W : BitVec 32) (hw : k0_chk1 i W) (w32 w37 : BitVec 32) (v4 v6 v8 v10 : Vec Ideal S256x128 .bf16) (v13 v16 : Vec Ideal S256x1 .f32) (X3 : BufTy.Contents (Elt Ideal) arg3.view.ty) (X4 : BufTy.Contents (Elt Ideal) arg4.view.ty) (H0 H1 : Head)
  (h3 : ∀ (j : Fin 4096) (d : Fin 256), arg3.view.read (Elt Ideal) X3 (ix2 j d) = ((pair H0.K H1.K j.val d.val : ℝ) : EReal))
  (h4 : ∀ (j : Fin 4096) (d : Fin 256), arg4.view.read (Elt Ideal) X4 (ix2 j d) = ((pair H0.V H1.V j.val d.val : ℝ) : EReal))
  (hr0 : Rows H0 (i 1).val v4 v8 v13) (hr1 : Rows H1 (i 1).val v6 v10 v16)

include h3 h4 hr0 hr1 in
theorem loop1_inv (G11 : BufTy.Contents (Elt Ideal) arg11.view.ty) (G12 : BufTy.Contents (Elt Ideal) arg12.view.ty) (b11 b12 : ℕ → ℕ → ℝ) (hW : W = BitVec.ofNat 32 (i 1).val)
    (hb11 : ∀ (j : Fin 4096) (d : Fin 256), arg11.view.read (Elt Ideal) G11 (ix2 j d) = ((b11 j.val d.val : ℝ) : EReal))
    (hb12 : ∀ (j : Fin 4096) (d : Fin 256), arg12.view.read (Elt Ideal) G12 (ix2 j d) = ((b12 j.val d.val : ℝ) : EReal)) :
    Inv H0 H1 (i 1).val (i 1).val arg11 arg12 G11 G12 b11 b12 (loop1 c i arg2 harg2 arg3 harg3 arg4 harg4 arg5 harg5 arg6 harg6 arg7 harg7 arg8 harg8 arg9 harg9 arg10 harg10 arg11 harg11 arg12 harg12 W hw w32 w37 v4 v6 v8 v10 v13 v16 X3 X4 G11 G12) := by
  have hn : Scf.trips (k0_t1_loop i W).lb (k0_t1_loop i W).ub (k0_t1_loop i W).st = (i 1).val := by subst hW; exact trips1 i
  have h0 : Inv H0 H1 (i 1).val 0 arg11 arg12 G11 G12 b11 b12 (zeroCarry, [], []) :=
    ⟨sums_zero H0 (i 1).val, sums_zero H1 (i 1).val, fun j d => by rw [accK, if_neg (by omega), add_zero]; exact hb11 j d,
      fun j d => by rw [accV, if_neg (by omega), add_zero]; exact hb12 j d⟩
  have h := loop_inv c i arg2 harg2 arg3 harg3 arg4 harg4 arg5 harg5 arg6 harg6 arg7 harg7 arg8 harg8 arg9 harg9 arg10 harg10 arg11 harg11 arg12 harg12 (BitVec.ofNat 32 ↑(i 1)) v4 v6 v8 v10 v13 v16 rowNo colNo (k0_pay63 (F := Ideal)) (k0_pay64 (F := Ideal)) W hw w32 w37 1#32 X3 X4 G11 G12 zeroCarry H0 H1 h3 h4 hr0 hr1 b11 b12 hW h0 (i 1).val le_rfl
  unfold loop1
  rw [hn]
  exact h

theorem loop2_eq (F11 : BufTy.Contents (Elt Ideal) arg11.view.ty) (F12 : BufTy.Contents (Elt Ideal) arg12.view.ty) (C : Carry) (hW : W = BitVec.ofNat 32 (i 1).val) :
    loop2 c i arg2 harg2 arg3 harg3 arg4 harg4 arg5 harg5 arg6 harg6 arg7 harg7 arg8 harg8 arg9 harg9 arg10 harg10 arg11 harg11 arg12 harg12 W hw w32 w37 v4 v6 v8 v10 v13 v16 X3 X4 F11 F12 C = (C, [], []) := by
  have hn : Scf.trips (k0_t2_loop i W).lb (k0_t2_loop i W).ub (k0_t2_loop i W).st = 0 := by subst hW; exact trips2 i
  unfold loop2
  rw [hn]
  rfl

end Loops

section Diag

variable (i : grid0.Coords) (arg3 arg4 : Memref sig .tc .vmem S4096x256 .bf16) (arg11 arg12 : Memref sig .tc .vmem S4096x256 .f32) (v4 v6 v8 v10 : Vec Ideal S256x128 .bf16) (v13 v16 : Vec Ideal S256x1 .f32) (X3 : BufTy.Contents (Elt Ideal) arg3.view.ty) (X4 : BufTy.Contents (Elt Ideal) arg4.view.ty) (C : Carry) (H0 H1 : Head)
  (h3 : ∀ (j : Fin 4096) (d : Fin 256), arg3.view.read (Elt Ideal) X3 (ix2 j d) = ((pair H0.K H1.K j.val d.val : ℝ) : EReal))
  (h4 : ∀ (j : Fin 4096) (d : Fin 256), arg4.view.read (Elt Ideal) X4 (ix2 j d) = ((pair H0.V H1.V j.val d.val : ℝ) : EReal))
  (hr0 : Rows H0 (i 1).val v4 v8 v13) (hr1 : Rows H1 (i 1).val v6 v10 v16)
  (s0 : Sums H0 (i 1).val (i 1).val C.1 C.2.1 C.2.2.1) (s1 : Sums H1 (i 1).val (i 1).val C.2.2.2.1 C.2.2.2.2.1 C.2.2.2.2.2)

include h3 h4 hr0 hr1 s0 s1

theorem diag11_read (g : BufTy.Contents (Elt Ideal) arg11.view.ty) (L : List (View.Piece (Elt Ideal) S4096x256 .f32)) (b : ℕ → ℕ → ℝ)
    (hL : ∀ (j : Fin 4096) (d : Fin 256), arg11.view.read (Elt Ideal) (arg11.view.writes (Elt Ideal) g L) (ix2 j d) = ((accK H0 H1 (i 1).val (i 1).val b j.val d.val : ℝ) : EReal))
    (j : Fin 4096) (d : Fin 256) :
    arg11.view.read (Elt Ideal) (arg11.view.writes (Elt Ideal) g (diag11 i arg3 arg4 arg11 v4 v6 v8 v10 v13 v16 X3 X4 C g L)) (ix2 j d)
      = ((b j.val d.val + pair (H0.addK (i 1).val) (H1.addK (i 1).val) j.val d.val : ℝ) : EReal) := by
  obtain ⟨k0, k1⟩ := keys_of H0 H1 arg3 arg4 X3 X4 h3 h4 (i 1).val _ _ (k0_off6_inb i) (k0_off7_inb i) (off6_val i) (off7_val i)
  obtain ⟨W2, hW2⟩ : ∃ W : Vec Ideal S256x128 .f32 → Vec Ideal S256x128 .f32, W = (fun w => k0_pay86 v4 v8 k0_pay62 C.2.1 (k0_pay77 rowNo colNo) (k0_pay79 (blkOf arg4 X4 (k0_off6 i) (k0_off6_inb i))) (k0_pay82 v4 (blkOf arg3 X3 (k0_off6 i) (k0_off6_inb i))) (k0_pay83 v4 v13 rowNo colNo k0_pay61 C.1 (blkOf arg3 X3 (k0_off6 i) (k0_off6_inb i))) w) := ⟨_, rfl⟩
  obtain ⟨W3, hW3⟩ : ∃ W : Vec Ideal S256x128 .f32 → Vec Ideal S256x128 .f32, W = (fun w => k0_pay98 v6 C.2.2.2.2.1 (k0_pay77 rowNo colNo) (k0_pay91 v6 (k0_pay88 (blkOf arg3 X3 (k0_off7 i) (k0_off7_inb i)))) (k0_pay93 v6 v10 v16 k0_pay61 C.2.2.2.1 (k0_pay77 rowNo colNo) (k0_pay88 (blkOf arg3 X3 (k0_off7 i) (k0_off7_inb i))) (blkOf arg4 X4 (k0_off7 i) (k0_off7_inb i))) (k0_pay95 v6 v10 v16 k0_pay61 k0_pay62 C.2.2.2.1 (k0_pay77 rowNo colNo) (k0_pay88 (blkOf arg3 X3 (k0_off7 i) (k0_off7_inb i))) (blkOf arg4 X4 (k0_off7 i) (k0_off7_inb i))) (k0_pay96 v6 v10 v16 k0_pay61 k0_pay62 C.2.2.2.1 (k0_pay77 rowNo colNo) (k0_pay88 (blkOf arg3 X3 (k0_off7 i) (k0_off7_inb i))) (blkOf arg4 X4 (k0_off7 i) (k0_off7_inb i))) w) := ⟨_, rfl⟩
  have qW2 : ∀ (w : Vec Ideal S256x128 .f32) (y : Fin 256 → Fin 128 → ℝ), (∀ j d, w (ix2 j d) = ((y j d : ℝ) : EReal)) →
      ∀ j d, W2 w (ix2 j d) = ((y j d + H0.addK (i 1).val (256 * (i 1).val + j.val) d.val : ℝ) : EReal) := by
    subst hW2
    exact fun w y hw j d => pay86_val H0 (i 1).val v4 (blkOf arg3 X3 (k0_off6 i) (k0_off6_inb i)) v8 (blkOf arg4 X4 (k0_off6 i) (k0_off6_inb i)) hr0.q k0.k hr0.o k0.v v13 C.1 C.2.1 hr0.t s0.seen s0.psum w y hw j d
  have qW3 : ∀ (w : Vec Ideal S256x128 .f32) (y : Fin 256 → Fin 128 → ℝ), (∀ j d, w (ix2 j d) = ((y j d : ℝ) : EReal)) →
      ∀ j d, W3 w (ix2 j d) = ((y j d + H1.addK (i 1).val (256 * (i 1).val + j.val) d.val : ℝ) : EReal) := by
    subst hW3
    exact fun w y hw j d => (congrFun (second_diag_dk C.2.2.2.2.1 v16 C.2.2.2.1 w v6 (blkOf arg3 X3 (k0_off7 i) (k0_off7_inb i)) v10 (blkOf arg4 X4 (k0_off7 i) (k0_off7_inb i))) (ix2 j d)).trans (pay86_val H1 (i 1).val v6 (blkOf arg3 X3 (k0_off7 i) (k0_off7_inb i)) v10 (blkOf arg4 X4 (k0_off7 i) (k0_off7_inb i)) hr1.q k1.k hr1.o k1.v v16 C.2.2.2.1 C.2.2.2.2.1 hr1.t s1.seen s1.psum w y hw j d)
  have h := read_two arg11 g L (k0_off6 i) (k0_off7 i) (k0_off6_inb i) (k0_off7_inb i) (off6_val i) (off7_val i) W2 W3
    (accK H0 H1 (i 1).val (i 1).val b) (H0.addK (i 1).val) (H1.addK (i 1).val) hL qW2 qW3 j d
  rw [acc_next] at h
  rw [← accK_full, ← h]
  subst hW2 hW3
  rfl

theorem diag12_read (g : BufTy.Contents (Elt Ideal) arg12.view.ty) (L : List (View.Piece (Elt Ideal) S4096x256 .f32)) (b : ℕ → ℕ → ℝ)
    (hL : ∀ (j : Fin 4096) (d : Fin 256), arg12.view.read (Elt Ideal) (arg12.view.writes (Elt Ideal) g L) (ix2 j d) = ((accV H0 H1 (i 1).val (i 1).val b j.val d.val : ℝ) : EReal))
    (j : Fin 4096) (d : Fin 256) :
    arg12.view.read (Elt Ideal) (arg12.view.writes (Elt Ideal) g (diag12 i arg3 arg4 arg12 v4 v6 v8 v10 v13 v16 X3 X4 C g L)) (ix2 j d)
      = ((b j.val d.val + pair (H0.addV (i 1).val) (H1.addV (i 1).val) j.val d.val : ℝ) : EReal) := by
  obtain ⟨k0, k1⟩ := keys_of H0 H1 arg3 arg4 X3 X4 h3 h4 (i 1).val _ _ (k0_off6_inb i) (k0_off7_inb i) (off6_val i) (off7_val i)
  obtain ⟨W2, hW2⟩ : ∃ W : Vec Ideal S256x128 .f32 → Vec Ideal S256x128 .f32, W = (fun w => k0_pay87 v8 (k0_pay83 v4 v13 rowNo colNo k0_pay61 C.1 (blkOf arg3 X3 (k0_off6 i) (k0_off6_inb i))) w) := ⟨_, rfl⟩
  obtain ⟨W3, hW3⟩ : ∃ W : Vec Ideal S256x128 .f32 → Vec Ideal S256x128 .f32, W = (fun w => k0_pay99 v10 (k0_pay92 v6 v16 k0_pay61 C.2.2.2.1 (k0_pay77 rowNo colNo) (k0_pay88 (blkOf arg3 X3 (k0_off7 i) (k0_off7_inb i)))) w) := ⟨_, rfl⟩
  have qW2 : ∀ (w : Vec Ideal S256x128 .f32) (y : Fin 256 → Fin 128 → ℝ), (∀ j d, w (ix2 j d) = ((y j d : ℝ) : EReal)) →
      ∀ j d, W2 w (ix2 j d) = ((y j d + H0.addV (i 1).val (256 * (i 1).val + j.val) d.val : ℝ) : EReal) := by
    subst hW2
    exact fun w y hw j d => pay87_val H0 (i 1).val v4 (blkOf arg3 X3 (k0_off6 i) (k0_off6_inb i)) v8 hr0.q k0.k hr0.o v13 C.1 hr0.t s0.seen w y hw j d
  have qW3 : ∀ (w : Vec Ideal S256x128 .f32) (y : Fin 256 → Fin 128 → ℝ), (∀ j d, w (ix2 j d) = ((y j d : ℝ) : EReal)) →
      ∀ j d, W3 w (ix2 j d) = ((y j d + H1.addV (i 1).val (256 * (i 1).val + j.val) d.val : ℝ) : EReal) := by
    subst hW3
    exact fun w y hw j d => (congrFun (second_diag_dv v16 C.2.2.2.1 w v6 (blkOf arg3 X3 (k0_off7 i) (k0_off7_inb i)) v10) (ix2 j d)).trans (pay87_val H1 (i 1).val v6 (blkOf arg3 X3 (k0_off7 i) (k0_off7_inb i)) v10 hr1.q k1.k hr1.o v16 C.2.2.2.1 hr1.t s1.seen w y hw j d)
  have h := read_two arg12 g L (k0_off6 i) (k0_off7 i) (k0_off6_inb i) (k0_off7_inb i) (off6_val i) (off7_val i) W2 W3
    (accV H0 H1 (i 1).val (i 1).val b) (H0.addV (i 1).val) (H1.addV (i 1).val) hL qW2 qW3 j d
  rw [acc_next] at h
  rw [← accV_full, ← h]
  subst hW2 hW3
  rfl

theorem diag6_read (m : Memref sig .tc .vmem S256x256 .bf16) (f : BufTy.Contents (Elt Ideal) m.view.ty) (r d : Fin 256) :
    m.view.read (Elt Ideal) (m.view.writes (Elt Ideal) f (diag6 i arg3 arg4 v4 v6 v8 v10 v13 v16 X3 X4 C)) (ix2 r d)
      = ((pair H0.dq H1.dq (256 * (i 1).val + r.val) d.val : ℝ) : EReal) := by
  obtain ⟨k0, k1⟩ := keys_of H0 H1 arg3 arg4 X3 X4 h3 h4 (i 1).val _ _ (k0_off6_inb i) (k0_off7_inb i) (off6_val i) (off7_val i)
  have hI : (i 1).val < 16 := (i 1).isLt
  by_cases hd : d.val < 128
  · rw [pair, if_pos hd]
    refine (View.read_writes_cons_unit_of_not_mem m.view f inb_S256x256_S256x128_0_128 _ _ (ix2 r d) rfl 1 (by
      show d.val < 128 ∨ 128 + 128 ≤ d.val
      omega)).trans ?_
    refine (View.read_writes_cons_unit_of_mem m.view f inb_S256x256_S256x128_0_0 _ [] (ix2 r d) (ix2 r (⟨d.val, hd⟩ : Fin 128)) rfl
      (Fin.forall_fin_two.mpr ⟨(Nat.zero_add r.val).symm, (Nat.zero_add d.val).symm⟩)).trans ?_
    refine (pay85_val H0 (i 1).val v4 (blkOf arg3 X3 (k0_off6 i) (k0_off6_inb i)) v8 (blkOf arg4 X4 (k0_off6 i) (k0_off6_inb i)) hr0.q k0.k hr0.o k0.v v13 C.1 C.2.1 hr0.t s0.seen s0.psum C.2.2.1 s0.dq r ⟨d.val, hd⟩).trans ?_
    rw [dq_full H0 _ _ _ hI r.isLt]
  · have hd2 := d.isLt
    rw [pair, if_neg hd]
    refine (View.read_writes_cons_unit_of_mem m.view f inb_S256x256_S256x128_0_128 _ _ (ix2 r d) (ix2 r (⟨d.val - 128, by omega⟩ : Fin 128)) rfl
      (Fin.forall_fin_two.mpr ⟨(Nat.zero_add r.val).symm, (Nat.add_sub_cancel' (Nat.le_of_not_lt hd)).symm⟩)).trans ?_
    refine (congrFun (second_diag_dq C.2.2.2.2.1 v16 C.2.2.2.1 C.2.2.2.2.2 v6 (blkOf arg3 X3 (k0_off7 i) (k0_off7_inb i)) v10 (blkOf arg4 X4 (k0_off7 i) (k0_off7_inb i))) _).trans ?_
    refine (pay85_val H1 (i 1).val v6 (blkOf arg3 X3 (k0_off7 i) (k0_off7_inb i)) v10 (blkOf arg4 X4 (k0_off7 i) (k0_off7_inb i)) hr1.q k1.k hr1.o k1.v v16 C.2.2.2.1 C.2.2.2.2.1 hr1.t s1.seen s1.psum C.2.2.2.2.2 s1.dq r ⟨d.val - 128, by omega⟩).trans ?_
    rw [dq_full H1 _ _ _ hI r.isLt]

end Diag

end Cert.KernelIdeal.Sb
-- ==== Proof.Point.lean ====
/- What a point of each case leaves in the accumulators and stores in the outputs. -/
module

public import proofs.«01_k».proof.Proof.Diag
public import proofs.«01_k».proof.Proof.Body

@[expose] public section

set_option maxRecDepth 16384

noncomputable section

namespace Cert.KernelIdeal.Sb

open Idealize.ShloMosaic Idealize.ShloMosaic.TcCoe
open Idealize.ShloMosaic.Tactic
open Cert.KernelIdeal.Gen Cert.Sb

/-- A half block of a 256-row block reads the block at its row and column. -/
theorem halfOf_val {e : EltTy} (m : Memref sig .tc .vmem S256x256 e) (X : BufTy.Contents (Elt Ideal) m.view.ty)
    (l : ℕ) (inb : ∀ a, (![0, l] : Fin 2 → ℕ) a + S256x128.size a ≤ S256x256.size a)
    (j : Fin 256) (d : Fin 128) (D : Fin 256) (hD : D.val = l + d.val) :
    View.readAt (Elt Ideal) m.view (Rect.unit (s := S256x256) ![0, l] S256x128.size inb).toLoadRect X (ix2 j d) = m.view.read (Elt Ideal) X (ix2 j D) := by
  refine congrArg (m.view.read (Elt Ideal) X) ?_
  refine funext fun a => Fin.ext ?_
  fin_cases a
  · show 0 + 1 * j.val = j.val
    omega
  · show l + 1 * d.val = D.val
    omega

/-- The whole of a buffer reads the buffer. -/
theorem wholeOf_val {e : EltTy} (m : Memref sig .tc .vmem S4096x256 e) (X : BufTy.Contents (Elt Ideal) m.view.ty)
    (inb : ∀ a, (![0, 0] : Fin 2 → ℕ) a + S4096x256.size a ≤ S4096x256.size a) (j : Fin 4096) (d : Fin 256) :
    View.readAt (Elt Ideal) m.view (Rect.unit (s := S4096x256) ![0, 0] S4096x256.size inb).toLoadRect X (ix2 j d) = m.view.read (Elt Ideal) X (ix2 j d) := by
  refine congrArg (m.view.read (Elt Ideal) X) ?_
  refine funext fun a => Fin.ext ?_
  fin_cases a
  · show 0 + 1 * j.val = j.val
    omega
  · show 0 + 1 * d.val = d.val
    omega

/-- One store of the whole of a buffer leaves what was stored. -/
theorem whole_read {e : EltTy} (v : View sig .tc .vmem S4096x256 e) (f : BufTy.Contents (Elt Ideal) v.ty)
    (inb : ∀ a, (![0, 0] : Fin 2 → ℕ) a + S4096x256.size a ≤ S4096x256.size a) (w : Vec Ideal S4096x256 e) (j : Fin 4096) (d : Fin 256) :
    v.read (Elt Ideal) (v.writes (Elt Ideal) f [(⟨Rect.unit (s := S4096x256) ![0, 0] S4096x256.size inb, w⟩ : View.Piece (Elt Ideal) S4096x256 e)]) (ix2 j d) = w (ix2 j d) :=
  View.read_writes_cons_unit_of_mem v f inb w [] (ix2 j d) (ix2 j d) rfl
    (Fin.forall_fin_two.mpr ⟨(Nat.zero_add j.val).symm, (Nat.zero_add d.val).symm⟩)

section Point

variable (i : grid0.Coords) (arg3 arg4 : Memref sig .tc .vmem S4096x256 .bf16) (arg11 arg12 : Memref sig .tc .vmem S4096x256 .f32) (v4 v6 v8 v10 : Vec Ideal S256x128 .bf16) (v13 v16 : Vec Ideal S256x1 .f32) (X3 : BufTy.Contents (Elt Ideal) arg3.view.ty) (X4 : BufTy.Contents (Elt Ideal) arg4.view.ty) (H0 H1 : Head)
  (h3 : ∀ (j : Fin 4096) (d : Fin 256), arg3.view.read (Elt Ideal) X3 (ix2 j d) = ((pair H0.K H1.K j.val d.val : ℝ) : EReal))
  (h4 : ∀ (j : Fin 4096) (d : Fin 256), arg4.view.read (Elt Ideal) X4 (ix2 j d) = ((pair H0.V H1.V j.val d.val : ℝ) : EReal))
  (hr0 : Rows H0 (i 1).val v4 v8 v13) (hr1 : Rows H1 (i 1).val v6 v10 v16)
  (G11 : BufTy.Contents (Elt Ideal) arg11.view.ty) (G12 : BufTy.Contents (Elt Ideal) arg12.view.ty) (b11 b12 : ℕ → ℕ → ℝ) (S T : Carry × List (View.Piece (Elt Ideal) S4096x256 .f32) × List (View.Piece (Elt Ideal) S4096x256 .f32)) (hT : T = (S.1, [], []))
  (hS : Inv H0 H1 (i 1).val (i 1).val arg11 arg12 G11 G12 b11 b12 S)

include h3 h4 hr0 hr1 hT hS

theorem point11 (g : BufTy.Contents (Elt Ideal) arg11.view.ty) (L : List (View.Piece (Elt Ideal) S4096x256 .f32)) (hL : arg11.view.writes (Elt Ideal) g L = arg11.view.writes (Elt Ideal) G11 S.2.1)
    (j : Fin 4096) (d : Fin 256) :
    arg11.view.read (Elt Ideal) (arg11.view.writes (Elt Ideal) g (diag11 i arg3 arg4 arg11 v4 v6 v8 v10 v13 v16 X3 X4 T.1 g (T.2.1 ++ L))) (ix2 j d)
      = ((b11 j.val d.val + pair (H0.addK (i 1).val) (H1.addK (i 1).val) j.val d.val : ℝ) : EReal) := by
  subst hT
  exact diag11_read i arg3 arg4 arg11 v4 v6 v8 v10 v13 v16 X3 X4 S.1 H0 H1 h3 h4 hr0 hr1 hS.s0 hS.s1 g L b11 (fun j d => by rw [hL]; exact hS.r11 j d) j d

theorem point12 (g : BufTy.Contents (Elt Ideal) arg12.view.ty) (L : List (View.Piece (Elt Ideal) S4096x256 .f32)) (hL : arg12.view.writes (Elt Ideal) g L = arg12.view.writes (Elt Ideal) G12 S.2.2)
    (j : Fin 4096) (d : Fin 256) :
    arg12.view.read (Elt Ideal) (arg12.view.writes (Elt Ideal) g (diag12 i arg3 arg4 arg12 v4 v6 v8 v10 v13 v16 X3 X4 T.1 g (T.2.2 ++ L))) (ix2 j d)
      = ((b12 j.val d.val + pair (H0.addV (i 1).val) (H1.addV (i 1).val) j.val d.val : ℝ) : EReal) := by
  subst hT
  exact diag12_read i arg3 arg4 arg12 v4 v6 v8 v10 v13 v16 X3 X4 S.1 H0 H1 h3 h4 hr0 hr1 hS.s0 hS.s1 g L b12 (fun j d => by rw [hL]; exact hS.r12 j d) j d

theorem point6 (m : Memref sig .tc .vmem S256x256 .bf16) (f : BufTy.Contents (Elt Ideal) m.view.ty) (r d : Fin 256) :
    m.view.read (Elt Ideal) (m.view.writes (Elt Ideal) f (diag6 i arg3 arg4 v4 v6 v8 v10 v13 v16 X3 X4 T.1)) (ix2 r d)
      = ((pair H0.dq H1.dq (256 * (i 1).val + r.val) d.val : ℝ) : EReal) := by
  subst hT
  exact diag6_read i arg3 arg4 v4 v6 v8 v10 v13 v16 X3 X4 S.1 H0 H1 h3 h4 hr0 hr1 hS.s0 hS.s1 m f r d

end Point

section Rows

variable (i : grid0.Coords) (arg2 : Memref sig .tc .vmem S256x256 .bf16) (harg2 : arg2.IsWhole) (arg5 : Memref sig .tc .vmem S256x256 .f32) (harg5 : arg5.IsWhole) (arg6 : Memref sig .tc .vmem S256x256 .f32) (harg6 : arg6.IsWhole) (x0 : Vec Ideal S256x256 .bf16) (x3 x4 : Vec Ideal S256x256 .f32) (H0 H1 : Head)
  (hx0 : ∀ r d : Fin 256, x0 (ix2 r d) = ((pair H0.Q H1.Q (256 * (i 1).val + r.val) d.val : ℝ) : EReal))
  (hx3 : ∀ r d : Fin 256, x3 (ix2 r d) = ((pair H0.D H1.D (256 * (i 1).val + r.val) d.val : ℝ) : EReal))
  (hx4 : ∀ r : Fin 256, x4 (ix2 r 0) = ((∑ j ∈ Finset.range 4096, H0.l1 (256 * (i 1).val + r.val) j : ℝ) : EReal))
  (hx5 : ∀ r : Fin 256, x4 (ix2 r 128) = ((∑ j ∈ Finset.range 4096, H1.l1 (256 * (i 1).val + r.val) j : ℝ) : EReal))

include hx0 hx3 hx4 hx5

theorem rows0 : Rows H0 (i 1).val (k0_pay55 (View.readAt (Elt Ideal) arg2.view (Rect.unit (s := S256x256) ![0, 0] S256x128.size inb_S256x256_S256x128_0_0).toLoadRect (harg2.unread x0))) (k0_pay57 (View.readAt (Elt Ideal) arg5.view (Rect.unit (s := S256x256) ![0, 0] S256x128.size inb_S256x256_S256x128_0_0).toLoadRect (harg5.unread x3))) (k0_pay59 (View.readAt (Elt Ideal) arg6.view (Rect.unit (s := S256x256) ![0, 0] S256x128.size inb_S256x256_S256x128_0_0).toLoadRect (harg6.unread x4))) where
  q r d := by
    have hd := d.isLt
    rw [pay55_val]
    refine (halfOf_val arg2 _ 0 inb_S256x256_S256x128_0_0 r d ⟨d.val, by omega⟩ (Nat.zero_add d.val).symm).trans ?_
    rw [Memref.IsWhole.read_unread, hx0, pair, if_pos hd]
  o r d := by
    have hd := d.isLt
    rw [pay57_eq]
    refine (halfOf_val arg5 _ 0 inb_S256x256_S256x128_0_0 r d ⟨d.val, by omega⟩ (Nat.zero_add d.val).symm).trans ?_
    rw [Memref.IsWhole.read_unread, hx3, pair, if_pos hd]
  t r := by
    rw [pay59_val]
    refine (halfOf_val arg6 _ 0 inb_S256x256_S256x128_0_0 r 0 0 rfl).trans ?_
    rw [Memref.IsWhole.read_unread, hx4]

theorem rows1 : Rows H1 (i 1).val (k0_pay56 (View.readAt (Elt Ideal) arg2.view (Rect.unit (s := S256x256) ![0, 128] S256x128.size inb_S256x256_S256x128_0_128).toLoadRect (harg2.unread x0))) (k0_pay58 (View.readAt (Elt Ideal) arg5.view (Rect.unit (s := S256x256) ![0, 128] S256x128.size inb_S256x256_S256x128_0_128).toLoadRect (harg5.unread x3))) (k0_pay60 (View.readAt (Elt Ideal) arg6.view (Rect.unit (s := S256x256) ![0, 128] S256x128.size inb_S256x256_S256x128_0_128).toLoadRect (harg6.unread x4))) where
  q r d := by
    have hd := d.isLt
    rw [pay56_val]
    refine (halfOf_val arg2 _ 128 inb_S256x256_S256x128_0_128 r d ⟨128 + d.val, by omega⟩ rfl).trans ?_
    rw [Memref.IsWhole.read_unread, hx0, pair, if_neg (Nat.not_lt.mpr (Nat.le_add_right 128 d.val)), Nat.add_sub_cancel_left]
  o r d := by
    have hd := d.isLt
    rw [pay58_eq]
    refine (halfOf_val arg5 _ 128 inb_S256x256_S256x128_0_128 r d ⟨128 + d.val, by omega⟩ rfl).trans ?_
    rw [Memref.IsWhole.read_unread, hx3, pair, if_neg (Nat.not_lt.mpr (Nat.le_add_right 128 d.val)), Nat.add_sub_cancel_left]
  t r := by
    rw [pay60_val]
    refine (halfOf_val arg6 _ 128 inb_S256x256_S256x128_0_128 r 0 128 rfl).trans ?_
    rw [Memref.IsWhole.read_unread, hx5]

end Rows

section CaseA

variable (c : Dev nD) (i : grid0.Coords) (arg2 : Memref sig .tc .vmem S256x256 .bf16) (harg2 : arg2.IsWhole) (arg3 : Memref sig .tc .vmem S4096x256 .bf16) (harg3 : arg3.IsWhole) (arg4 : Memref sig .tc .vmem S4096x256 .bf16) (harg4 : arg4.IsWhole) (arg5 : Memref sig .tc .vmem S256x256 .f32) (harg5 : arg5.IsWhole) (arg6 : Memref sig .tc .vmem S256x256 .f32) (harg6 : arg6.IsWhole) (arg7 : Memref sig .tc .smem S4x16 .i32) (harg7 : arg7.IsWhole) (arg8 : Memref sig .tc .vmem S256x256 .bf16) (harg8 : arg8.IsWhole) (arg9 : Memref sig .tc .vmem S4096x256 .bf16) (harg9 : arg9.IsWhole) (arg10 : Memref sig .tc .vmem S4096x256 .bf16) (harg10 : arg10.IsWhole) (arg11 : Memref sig .tc .vmem S4096x256 .f32) (harg11 : arg11.IsWhole) (arg12 : Memref sig .tc .vmem S4096x256 .f32) (harg12 : arg12.IsWhole) (hc0 : cond0_0 i) (hc1 : ¬cond0_1 i) (x0 : Vec Ideal S256x256 .bf16) (x1 : Vec Ideal S4096x256 .bf16) (x2 : Vec Ideal S4096x256 .bf16) (x3 : Vec Ideal S256x256 .f32) (x4 : Vec Ideal S256x256 .f32) (x5 : Vec Ideal S4x16 .i32) (hk : Chk i arg7 harg7 x5) (H0 H1 : Head)
  (hx0 : ∀ r d : Fin 256, x0 (ix2 r d) = ((pair H0.Q H1.Q (256 * (i 1).val + r.val) d.val : ℝ) : EReal))
  (hx1 : ∀ (j : Fin 4096) (d : Fin 256), x1 (ix2 j d) = ((pair H0.K H1.K j.val d.val : ℝ) : EReal))
  (hx2 : ∀ (j : Fin 4096) (d : Fin 256), x2 (ix2 j d) = ((pair H0.V H1.V j.val d.val : ℝ) : EReal))
  (hx3 : ∀ r d : Fin 256, x3 (ix2 r d) = ((pair H0.D H1.D (256 * (i 1).val + r.val) d.val : ℝ) : EReal))
  (hx4 : ∀ r : Fin 256, x4 (ix2 r 0) = ((∑ j ∈ Finset.range 4096, H0.l1 (256 * (i 1).val + r.val) j : ℝ) : EReal))
  (hx5 : ∀ r : Fin 256, x4 (ix2 r 128) = ((∑ j ∈ Finset.range 4096, H1.l1 (256 * (i 1).val + r.val) j : ℝ) : EReal))
  (hW : wordOf i arg7 harg7 x5 = BitVec.ofNat 32 (i 1).val)

include hx0 hx1 hx2 hx3 hx4 hx5 hW

theorem atA_11 (j : Fin 4096) (d : Fin 256) : arg11.view.read (Elt Ideal) (arg11.view.writes (Elt Ideal) arg11.view.junk (bodyRunA (F := Ideal) c i arg2 harg2 arg3 harg3 arg4 harg4 arg5 harg5 arg6 harg6 arg7 harg7 arg8 harg8 arg9 harg9 arg10 harg10 arg11 harg11 arg12 harg12 hc0 hc1 x0 x1 x2 x3 x4 x5 hk).2.2.2.1) (ix2 j d)
    = ((pair (H0.addK (i 1).val) (H1.addK (i 1).val) j.val d.val : ℝ) : EReal) := by
  rw [runA_11]
  exact ((point11 i arg3 arg4 arg11 arg12 _ _ _ _ _ _ (harg3.unread x1) (harg4.unread x2) H0 H1 (fun j d => by rw [Memref.IsWhole.read_unread]; exact hx1 j d) (fun j d => by rw [Memref.IsWhole.read_unread]; exact hx2 j d) (rows0 i arg2 harg2 arg5 harg5 arg6 harg6 x0 x3 x4 H0 H1 hx0 hx3 hx4 hx5) (rows1 i arg2 harg2 arg5 harg5 arg6 harg6 x0 x3 x4 H0 H1 hx0 hx3 hx4 hx5) (arg11.view.writes (Elt Ideal) arg11.view.junk start11) (arg12.view.writes (Elt Ideal) arg12.view.junk start12) (fun _ _ => 0) (fun _ _ => 0) _ _ (loop2_eq c i arg2 harg2 arg3 harg3 arg4 harg4 arg5 harg5 arg6 harg6 arg7 harg7 arg8 harg8 arg9 harg9 arg10 harg10 arg11 harg11 arg12 harg12 (wordOf i arg7 harg7 x5) (hk _) _ _ _ _ _ _ _ _ (harg3.unread x1) (harg4.unread x2) _ _ _ hW) (loop1_inv c i arg2 harg2 arg3 harg3 arg4 harg4 arg5 harg5 arg6 harg6 arg7 harg7 arg8 harg8 arg9 harg9 arg10 harg10 arg11 harg11 arg12 harg12 (wordOf i arg7 harg7 x5) (hk _) _ _ _ _ _ _ _ _ (harg3.unread x1) (harg4.unread x2) H0 H1 (fun j d => by rw [Memref.IsWhole.read_unread]; exact hx1 j d) (fun j d => by rw [Memref.IsWhole.read_unread]; exact hx2 j d) (rows0 i arg2 harg2 arg5 harg5 arg6 harg6 x0 x3 x4 H0 H1 hx0 hx3 hx4 hx5) (rows1 i arg2 harg2 arg5 harg5 arg6 harg6 x0 x3 x4 H0 H1 hx0 hx3 hx4 hx5) (arg11.view.writes (Elt Ideal) arg11.view.junk start11) (arg12.view.writes (Elt Ideal) arg12.view.junk start12) (fun _ _ => 0) (fun _ _ => 0) hW (fun j d => (whole_read arg11.view _ _ _ j d).trans (pay53_val j d)) (fun j d => (whole_read arg12.view _ _ _ j d).trans (pay54_val j d))) arg11.view.junk _ (View.writes_append _ _ _ _) j d).trans (by rw [zero_add]))

theorem atA_12 (j : Fin 4096) (d : Fin 256) : arg12.view.read (Elt Ideal) (arg12.view.writes (Elt Ideal) arg12.view.junk (bodyRunA (F := Ideal) c i arg2 harg2 arg3 harg3 arg4 harg4 arg5 harg5 arg6 harg6 arg7 harg7 arg8 harg8 arg9 harg9 arg10 harg10 arg11 harg11 arg12 harg12 hc0 hc1 x0 x1 x2 x3 x4 x5 hk).2.2.2.2.1) (ix2 j d)
    = ((pair (H0.addV (i 1).val) (H1.addV (i 1).val) j.val d.val : ℝ) : EReal) := by
  rw [runA_12]
  exact ((point12 i arg3 arg4 arg11 arg12 _ _ _ _ _ _ (harg3.unread x1) (harg4.unread x2) H0 H1 (fun j d => by rw [Memref.IsWhole.read_unread]; exact hx1 j d) (fun j d => by rw [Memref.IsWhole.read_unread]; exact hx2 j d) (rows0 i arg2 harg2 arg5 harg5 arg6 harg6 x0 x3 x4 H0 H1 hx0 hx3 hx4 hx5) (rows1 i arg2 harg2 arg5 harg5 arg6 harg6 x0 x3 x4 H0 H1 hx0 hx3 hx4 hx5) (arg11.view.writes (Elt Ideal) arg11.view.junk start11) (arg12.view.writes (Elt Ideal) arg12.view.junk start12) (fun _ _ => 0) (fun _ _ => 0) _ _ (loop2_eq c i arg2 harg2 arg3 harg3 arg4 harg4 arg5 harg5 arg6 harg6 arg7 harg7 arg8 harg8 arg9 harg9 arg10 harg10 arg11 harg11 arg12 harg12 (wordOf i arg7 harg7 x5) (hk _) _ _ _ _ _ _ _ _ (harg3.unread x1) (harg4.unread x2) _ _ _ hW) (loop1_inv c i arg2 harg2 arg3 harg3 arg4 harg4 arg5 harg5 arg6 harg6 arg7 harg7 arg8 harg8 arg9 harg9 arg10 harg10 arg11 harg11 arg12 harg12 (wordOf i arg7 harg7 x5) (hk _) _ _ _ _ _ _ _ _ (harg3.unread x1) (harg4.unread x2) H0 H1 (fun j d => by rw [Memref.IsWhole.read_unread]; exact hx1 j d) (fun j d => by rw [Memref.IsWhole.read_unread]; exact hx2 j d) (rows0 i arg2 harg2 arg5 harg5 arg6 harg6 x0 x3 x4 H0 H1 hx0 hx3 hx4 hx5) (rows1 i arg2 harg2 arg5 harg5 arg6 harg6 x0 x3 x4 H0 H1 hx0 hx3 hx4 hx5) (arg11.view.writes (Elt Ideal) arg11.view.junk start11) (arg12.view.writes (Elt Ideal) arg12.view.junk start12) (fun _ _ => 0) (fun _ _ => 0) hW (fun j d => (whole_read arg11.view _ _ _ j d).trans (pay53_val j d)) (fun j d => (whole_read arg12.view _ _ _ j d).trans (pay54_val j d))) arg12.view.junk _ (View.writes_append _ _ _ _) j d).trans (by rw [zero_add]))

theorem atA_6 (m : Memref sig .tc .vmem S256x256 .bf16) (f : BufTy.Contents (Elt Ideal) m.view.ty) (r d : Fin 256) :
    m.view.read (Elt Ideal) (m.view.writes (Elt Ideal) f (bodyRunA (F := Ideal) c i arg2 harg2 arg3 harg3 arg4 harg4 arg5 harg5 arg6 harg6 arg7 harg7 arg8 harg8 arg9 harg9 arg10 harg10 arg11 harg11 arg12 harg12 hc0 hc1 x0 x1 x2 x3 x4 x5 hk).1) (ix2 r d) = ((pair H0.dq H1.dq (256 * (i 1).val + r.val) d.val : ℝ) : EReal) := by
  rw [runA_6]
  exact point6 i arg3 arg4 arg11 arg12 _ _ _ _ _ _ (harg3.unread x1) (harg4.unread x2) H0 H1 (fun j d => by rw [Memref.IsWhole.read_unread]; exact hx1 j d) (fun j d => by rw [Memref.IsWhole.read_unread]; exact hx2 j d) (rows0 i arg2 harg2 arg5 harg5 arg6 harg6 x0 x3 x4 H0 H1 hx0 hx3 hx4 hx5) (rows1 i arg2 harg2 arg5 harg5 arg6 harg6 x0 x3 x4 H0 H1 hx0 hx3 hx4 hx5) (arg11.view.writes (Elt Ideal) arg11.view.junk start11) (arg12.view.writes (Elt Ideal) arg12.view.junk start12) (fun _ _ => 0) (fun _ _ => 0) _ _ (loop2_eq c i arg2 harg2 arg3 harg3 arg4 harg4 arg5 harg5 arg6 harg6 arg7 harg7 arg8 harg8 arg9 harg9 arg10 harg10 arg11 harg11 arg12 harg12 (wordOf i arg7 harg7 x5) (hk _) _ _ _ _ _ _ _ _ (harg3.unread x1) (harg4.unread x2) _ _ _ hW) (loop1_inv c i arg2 harg2 arg3 harg3 arg4 harg4 arg5 harg5 arg6 harg6 arg7 harg7 arg8 harg8 arg9 harg9 arg10 harg10 arg11 harg11 arg12 harg12 (wordOf i arg7 harg7 x5) (hk _) _ _ _ _ _ _ _ _ (harg3.unread x1) (harg4.unread x2) H0 H1 (fun j d => by rw [Memref.IsWhole.read_unread]; exact hx1 j d) (fun j d => by rw [Memref.IsWhole.read_unread]; exact hx2 j d) (rows0 i arg2 harg2 arg5 harg5 arg6 harg6 x0 x3 x4 H0 H1 hx0 hx3 hx4 hx5) (rows1 i arg2 harg2 arg5 harg5 arg6 harg6 x0 x3 x4 H0 H1 hx0 hx3 hx4 hx5) (arg11.view.writes (Elt Ideal) arg11.view.junk start11) (arg12.view.writes (Elt Ideal) arg12.view.junk start12) (fun _ _ => 0) (fun _ _ => 0) hW (fun j d => (whole_read arg11.view _ _ _ j d).trans (pay53_val j d)) (fun j d => (whole_read arg12.view _ _ _ j d).trans (pay54_val j d))) m f r d

end CaseA

section CaseB

variable (c : Dev nD) (i : grid0.Coords) (arg2 : Memref sig .tc .vmem S256x256 .bf16) (harg2 : arg2.IsWhole) (arg3 : Memref sig .tc .vmem S4096x256 .bf16) (harg3 : arg3.IsWhole) (arg4 : Memref sig .tc .vmem S4096x256 .bf16) (harg4 : arg4.IsWhole) (arg5 : Memref sig .tc .vmem S256x256 .f32) (harg5 : arg5.IsWhole) (arg6 : Memref sig .tc .vmem S256x256 .f32) (harg6 : arg6.IsWhole) (arg7 : Memref sig .tc .smem S4x16 .i32) (harg7 : arg7.IsWhole) (arg8 : Memref sig .tc .vmem S256x256 .bf16) (harg8 : arg8.IsWhole) (arg9 : Memref sig .tc .vmem S4096x256 .bf16) (harg9 : arg9.IsWhole) (arg10 : Memref sig .tc .vmem S4096x256 .bf16) (harg10 : arg10.IsWhole) (arg11 : Memref sig .tc .vmem S4096x256 .f32) (harg11 : arg11.IsWhole) (arg12 : Memref sig .tc .vmem S4096x256 .f32) (harg12 : arg12.IsWhole) (hc0 : ¬cond0_0 i) (hc1 : ¬cond0_1 i) (x0 : Vec Ideal S256x256 .bf16) (x1 : Vec Ideal S4096x256 .bf16) (x2 : Vec Ideal S4096x256 .bf16) (x3 : Vec Ideal S256x256 .f32) (x4 : Vec Ideal S256x256 .f32) (x5 : Vec Ideal S4x16 .i32) (hk : Chk i arg7 harg7 x5) (xs0 : Vec Ideal S4096x256 .f32) (xs1 : Vec Ideal S4096x256 .f32) (H0 H1 : Head)
  (hx0 : ∀ r d : Fin 256, x0 (ix2 r d) = ((pair H0.Q H1.Q (256 * (i 1).val + r.val) d.val : ℝ) : EReal))
  (hx1 : ∀ (j : Fin 4096) (d : Fin 256), x1 (ix2 j d) = ((pair H0.K H1.K j.val d.val : ℝ) : EReal))
  (hx2 : ∀ (j : Fin 4096) (d : Fin 256), x2 (ix2 j d) = ((pair H0.V H1.V j.val d.val : ℝ) : EReal))
  (hx3 : ∀ r d : Fin 256, x3 (ix2 r d) = ((pair H0.D H1.D (256 * (i 1).val + r.val) d.val : ℝ) : EReal))
  (hx4 : ∀ r : Fin 256, x4 (ix2 r 0) = ((∑ j ∈ Finset.range 4096, H0.l1 (256 * (i 1).val + r.val) j : ℝ) : EReal))
  (hx5 : ∀ r : Fin 256, x4 (ix2 r 128) = ((∑ j ∈ Finset.range 4096, H1.l1 (256 * (i 1).val + r.val) j : ℝ) : EReal))
  (hW : wordOf i arg7 harg7 x5 = BitVec.ofNat 32 (i 1).val) (b11 b12 : ℕ → ℕ → ℝ)
  (hs0 : ∀ (j : Fin 4096) (d : Fin 256), xs0 (ix2 j d) = ((b11 j.val d.val : ℝ) : EReal))
  (hs1 : ∀ (j : Fin 4096) (d : Fin 256), xs1 (ix2 j d) = ((b12 j.val d.val : ℝ) : EReal))

include hx0 hx1 hx2 hx3 hx4 hx5 hW hs0 hs1

theorem atB_11 (j : Fin 4096) (d : Fin 256) : arg11.view.read (Elt Ideal) (arg11.view.writes (Elt Ideal) (harg11.unread xs0) (bodyRunB (F := Ideal) c i arg2 harg2 arg3 harg3 arg4 harg4 arg5 harg5 arg6 harg6 arg7 harg7 arg8 harg8 arg9 harg9 arg10 harg10 arg11 harg11 arg12 harg12 hc0 hc1 x0 x1 x2 x3 x4 x5 hk xs0 xs1).2.2.2.1) (ix2 j d)
    = ((b11 j.val d.val + pair (H0.addK (i 1).val) (H1.addK (i 1).val) j.val d.val : ℝ) : EReal) := by
  rw [runB_11]
  exact point11 i arg3 arg4 arg11 arg12 _ _ _ _ _ _ (harg3.unread x1) (harg4.unread x2) H0 H1 (fun j d => by rw [Memref.IsWhole.read_unread]; exact hx1 j d) (fun j d => by rw [Memref.IsWhole.read_unread]; exact hx2 j d) (rows0 i arg2 harg2 arg5 harg5 arg6 harg6 x0 x3 x4 H0 H1 hx0 hx3 hx4 hx5) (rows1 i arg2 harg2 arg5 harg5 arg6 harg6 x0 x3 x4 H0 H1 hx0 hx3 hx4 hx5) (harg11.unread xs0) (harg12.unread xs1) b11 b12 _ _ (loop2_eq c i arg2 harg2 arg3 harg3 arg4 harg4 arg5 harg5 arg6 harg6 arg7 harg7 arg8 harg8 arg9 harg9 arg10 harg10 arg11 harg11 arg12 harg12 (wordOf i arg7 harg7 x5) (hk _) _ _ _ _ _ _ _ _ (harg3.unread x1) (harg4.unread x2) _ _ _ hW) (loop1_inv c i arg2 harg2 arg3 harg3 arg4 harg4 arg5 harg5 arg6 harg6 arg7 harg7 arg8 harg8 arg9 harg9 arg10 harg10 arg11 harg11 arg12 harg12 (wordOf i arg7 harg7 x5) (hk _) _ _ _ _ _ _ _ _ (harg3.unread x1) (harg4.unread x2) H0 H1 (fun j d => by rw [Memref.IsWhole.read_unread]; exact hx1 j d) (fun j d => by rw [Memref.IsWhole.read_unread]; exact hx2 j d) (rows0 i arg2 harg2 arg5 harg5 arg6 harg6 x0 x3 x4 H0 H1 hx0 hx3 hx4 hx5) (rows1 i arg2 harg2 arg5 harg5 arg6 harg6 x0 x3 x4 H0 H1 hx0 hx3 hx4 hx5) (harg11.unread xs0) (harg12.unread xs1) b11 b12 hW (fun j d => by rw [Memref.IsWhole.read_unread]; exact hs0 j d) (fun j d => by rw [Memref.IsWhole.read_unread]; exact hs1 j d)) (harg11.unread xs0) _ rfl j d

theorem atB_12 (j : Fin 4096) (d : Fin 256) : arg12.view.read (Elt Ideal) (arg12.view.writes (Elt Ideal) (harg12.unread xs1) (bodyRunB (F := Ideal) c i arg2 harg2 arg3 harg3 arg4 harg4 arg5 harg5 arg6 harg6 arg7 harg7 arg8 harg8 arg9 harg9 arg10 harg10 arg11 harg11 arg12 harg12 hc0 hc1 x0 x1 x2 x3 x4 x5 hk xs0 xs1).2.2.2.2.1) (ix2 j d)
    = ((b12 j.val d.val + pair (H0.addV (i 1).val) (H1.addV (i 1).val) j.val d.val : ℝ) : EReal) := by
  rw [runB_12]
  exact point12 i arg3 arg4 arg11 arg12 _ _ _ _ _ _ (harg3.unread x1) (harg4.unread x2) H0 H1 (fun j d => by rw [Memref.IsWhole.read_unread]; exact hx1 j d) (fun j d => by rw [Memref.IsWhole.read_unread]; exact hx2 j d) (rows0 i arg2 harg2 arg5 harg5 arg6 harg6 x0 x3 x4 H0 H1 hx0 hx3 hx4 hx5) (rows1 i arg2 harg2 arg5 harg5 arg6 harg6 x0 x3 x4 H0 H1 hx0 hx3 hx4 hx5) (harg11.unread xs0) (harg12.unread xs1) b11 b12 _ _ (loop2_eq c i arg2 harg2 arg3 harg3 arg4 harg4 arg5 harg5 arg6 harg6 arg7 harg7 arg8 harg8 arg9 harg9 arg10 harg10 arg11 harg11 arg12 harg12 (wordOf i arg7 harg7 x5) (hk _) _ _ _ _ _ _ _ _ (harg3.unread x1) (harg4.unread x2) _ _ _ hW) (loop1_inv c i arg2 harg2 arg3 harg3 arg4 harg4 arg5 harg5 arg6 harg6 arg7 harg7 arg8 harg8 arg9 harg9 arg10 harg10 arg11 harg11 arg12 harg12 (wordOf i arg7 harg7 x5) (hk _) _ _ _ _ _ _ _ _ (harg3.unread x1) (harg4.unread x2) H0 H1 (fun j d => by rw [Memref.IsWhole.read_unread]; exact hx1 j d) (fun j d => by rw [Memref.IsWhole.read_unread]; exact hx2 j d) (rows0 i arg2 harg2 arg5 harg5 arg6 harg6 x0 x3 x4 H0 H1 hx0 hx3 hx4 hx5) (rows1 i arg2 harg2 arg5 harg5 arg6 harg6 x0 x3 x4 H0 H1 hx0 hx3 hx4 hx5) (harg11.unread xs0) (harg12.unread xs1) b11 b12 hW (fun j d => by rw [Memref.IsWhole.read_unread]; exact hs0 j d) (fun j d => by rw [Memref.IsWhole.read_unread]; exact hs1 j d)) (harg12.unread xs1) _ rfl j d

theorem atB_6 (m : Memref sig .tc .vmem S256x256 .bf16) (f : BufTy.Contents (Elt Ideal) m.view.ty) (r d : Fin 256) :
    m.view.read (Elt Ideal) (m.view.writes (Elt Ideal) f (bodyRunB (F := Ideal) c i arg2 harg2 arg3 harg3 arg4 harg4 arg5 harg5 arg6 harg6 arg7 harg7 arg8 harg8 arg9 harg9 arg10 harg10 arg11 harg11 arg12 harg12 hc0 hc1 x0 x1 x2 x3 x4 x5 hk xs0 xs1).1) (ix2 r d) = ((pair H0.dq H1.dq (256 * (i 1).val + r.val) d.val : ℝ) : EReal) := by
  rw [runB_6]
  exact point6 i arg3 arg4 arg11 arg12 _ _ _ _ _ _ (harg3.unread x1) (harg4.unread x2) H0 H1 (fun j d => by rw [Memref.IsWhole.read_unread]; exact hx1 j d) (fun j d => by rw [Memref.IsWhole.read_unread]; exact hx2 j d) (rows0 i arg2 harg2 arg5 harg5 arg6 harg6 x0 x3 x4 H0 H1 hx0 hx3 hx4 hx5) (rows1 i arg2 harg2 arg5 harg5 arg6 harg6 x0 x3 x4 H0 H1 hx0 hx3 hx4 hx5) (harg11.unread xs0) (harg12.unread xs1) b11 b12 _ _ (loop2_eq c i arg2 harg2 arg3 harg3 arg4 harg4 arg5 harg5 arg6 harg6 arg7 harg7 arg8 harg8 arg9 harg9 arg10 harg10 arg11 harg11 arg12 harg12 (wordOf i arg7 harg7 x5) (hk _) _ _ _ _ _ _ _ _ (harg3.unread x1) (harg4.unread x2) _ _ _ hW) (loop1_inv c i arg2 harg2 arg3 harg3 arg4 harg4 arg5 harg5 arg6 harg6 arg7 harg7 arg8 harg8 arg9 harg9 arg10 harg10 arg11 harg11 arg12 harg12 (wordOf i arg7 harg7 x5) (hk _) _ _ _ _ _ _ _ _ (harg3.unread x1) (harg4.unread x2) H0 H1 (fun j d => by rw [Memref.IsWhole.read_unread]; exact hx1 j d) (fun j d => by rw [Memref.IsWhole.read_unread]; exact hx2 j d) (rows0 i arg2 harg2 arg5 harg5 arg6 harg6 x0 x3 x4 H0 H1 hx0 hx3 hx4 hx5) (rows1 i arg2 harg2 arg5 harg5 arg6 harg6 x0 x3 x4 H0 H1 hx0 hx3 hx4 hx5) (harg11.unread xs0) (harg12.unread xs1) b11 b12 hW (fun j d => by rw [Memref.IsWhole.read_unread]; exact hs0 j d) (fun j d => by rw [Memref.IsWhole.read_unread]; exact hs1 j d)) m f r d

end CaseB

section CaseC

variable (c : Dev nD) (i : grid0.Coords) (arg2 : Memref sig .tc .vmem S256x256 .bf16) (harg2 : arg2.IsWhole) (arg3 : Memref sig .tc .vmem S4096x256 .bf16) (harg3 : arg3.IsWhole) (arg4 : Memref sig .tc .vmem S4096x256 .bf16) (harg4 : arg4.IsWhole) (arg5 : Memref sig .tc .vmem S256x256 .f32) (harg5 : arg5.IsWhole) (arg6 : Memref sig .tc .vmem S256x256 .f32) (harg6 : arg6.IsWhole) (arg7 : Memref sig .tc .smem S4x16 .i32) (harg7 : arg7.IsWhole) (arg8 : Memref sig .tc .vmem S256x256 .bf16) (harg8 : arg8.IsWhole) (arg9 : Memref sig .tc .vmem S4096x256 .bf16) (harg9 : arg9.IsWhole) (arg10 : Memref sig .tc .vmem S4096x256 .bf16) (harg10 : arg10.IsWhole) (arg11 : Memref sig .tc .vmem S4096x256 .f32) (harg11 : arg11.IsWhole) (arg12 : Memref sig .tc .vmem S4096x256 .f32) (harg12 : arg12.IsWhole) (hc0 : ¬cond0_0 i) (hc1 : cond0_1 i) (x0 : Vec Ideal S256x256 .bf16) (x1 : Vec Ideal S4096x256 .bf16) (x2 : Vec Ideal S4096x256 .bf16) (x3 : Vec Ideal S256x256 .f32) (x4 : Vec Ideal S256x256 .f32) (x5 : Vec Ideal S4x16 .i32) (hk : Chk i arg7 harg7 x5) (xs0 : Vec Ideal S4096x256 .f32) (xs1 : Vec Ideal S4096x256 .f32) (H0 H1 : Head)
  (hx0 : ∀ r d : Fin 256, x0 (ix2 r d) = ((pair H0.Q H1.Q (256 * (i 1).val + r.val) d.val : ℝ) : EReal))
  (hx1 : ∀ (j : Fin 4096) (d : Fin 256), x1 (ix2 j d) = ((pair H0.K H1.K j.val d.val : ℝ) : EReal))
  (hx2 : ∀ (j : Fin 4096) (d : Fin 256), x2 (ix2 j d) = ((pair H0.V H1.V j.val d.val : ℝ) : EReal))
  (hx3 : ∀ r d : Fin 256, x3 (ix2 r d) = ((pair H0.D H1.D (256 * (i 1).val + r.val) d.val : ℝ) : EReal))
  (hx4 : ∀ r : Fin 256, x4 (ix2 r 0) = ((∑ j ∈ Finset.range 4096, H0.l1 (256 * (i 1).val + r.val) j : ℝ) : EReal))
  (hx5 : ∀ r : Fin 256, x4 (ix2 r 128) = ((∑ j ∈ Finset.range 4096, H1.l1 (256 * (i 1).val + r.val) j : ℝ) : EReal))
  (hW : wordOf i arg7 harg7 x5 = BitVec.ofNat 32 (i 1).val) (b11 b12 : ℕ → ℕ → ℝ)
  (hs0 : ∀ (j : Fin 4096) (d : Fin 256), xs0 (ix2 j d) = ((b11 j.val d.val : ℝ) : EReal))
  (hs1 : ∀ (j : Fin 4096) (d : Fin 256), xs1 (ix2 j d) = ((b12 j.val d.val : ℝ) : EReal))

include hx0 hx1 hx2 hx3 hx4 hx5 hW hs0 hs1

theorem atC_11 (j : Fin 4096) (d : Fin 256) : arg11.view.read (Elt Ideal) (arg11.view.writes (Elt Ideal) (harg11.unread xs0) (bodyRunC (F := Ideal) c i arg2 harg2 arg3 harg3 arg4 harg4 arg5 harg5 arg6 harg6 arg7 harg7 arg8 harg8 arg9 harg9 arg10 harg10 arg11 harg11 arg12 harg12 hc0 hc1 x0 x1 x2 x3 x4 x5 hk xs0 xs1).2.2.2.1) (ix2 j d)
    = ((b11 j.val d.val + pair (H0.addK (i 1).val) (H1.addK (i 1).val) j.val d.val : ℝ) : EReal) := by
  rw [runC_11]
  exact point11 i arg3 arg4 arg11 arg12 _ _ _ _ _ _ (harg3.unread x1) (harg4.unread x2) H0 H1 (fun j d => by rw [Memref.IsWhole.read_unread]; exact hx1 j d) (fun j d => by rw [Memref.IsWhole.read_unread]; exact hx2 j d) (rows0 i arg2 harg2 arg5 harg5 arg6 harg6 x0 x3 x4 H0 H1 hx0 hx3 hx4 hx5) (rows1 i arg2 harg2 arg5 harg5 arg6 harg6 x0 x3 x4 H0 H1 hx0 hx3 hx4 hx5) (harg11.unread xs0) (harg12.unread xs1) b11 b12 _ _ (loop2_eq c i arg2 harg2 arg3 harg3 arg4 harg4 arg5 harg5 arg6 harg6 arg7 harg7 arg8 harg8 arg9 harg9 arg10 harg10 arg11 harg11 arg12 harg12 (wordOf i arg7 harg7 x5) (hk _) _ _ _ _ _ _ _ _ (harg3.unread x1) (harg4.unread x2) _ _ _ hW) (loop1_inv c i arg2 harg2 arg3 harg3 arg4 harg4 arg5 harg5 arg6 harg6 arg7 harg7 arg8 harg8 arg9 harg9 arg10 harg10 arg11 harg11 arg12 harg12 (wordOf i arg7 harg7 x5) (hk _) _ _ _ _ _ _ _ _ (harg3.unread x1) (harg4.unread x2) H0 H1 (fun j d => by rw [Memref.IsWhole.read_unread]; exact hx1 j d) (fun j d => by rw [Memref.IsWhole.read_unread]; exact hx2 j d) (rows0 i arg2 harg2 arg5 harg5 arg6 harg6 x0 x3 x4 H0 H1 hx0 hx3 hx4 hx5) (rows1 i arg2 harg2 arg5 harg5 arg6 harg6 x0 x3 x4 H0 H1 hx0 hx3 hx4 hx5) (harg11.unread xs0) (harg12.unread xs1) b11 b12 hW (fun j d => by rw [Memref.IsWhole.read_unread]; exact hs0 j d) (fun j d => by rw [Memref.IsWhole.read_unread]; exact hs1 j d)) (harg11.unread xs0) _ rfl j d

theorem atC_12 (j : Fin 4096) (d : Fin 256) : arg12.view.read (Elt Ideal) (arg12.view.writes (Elt Ideal) (harg12.unread xs1) (bodyRunC (F := Ideal) c i arg2 harg2 arg3 harg3 arg4 harg4 arg5 harg5 arg6 harg6 arg7 harg7 arg8 harg8 arg9 harg9 arg10 harg10 arg11 harg11 arg12 harg12 hc0 hc1 x0 x1 x2 x3 x4 x5 hk xs0 xs1).2.2.2.2.1) (ix2 j d)
    = ((b12 j.val d.val + pair (H0.addV (i 1).val) (H1.addV (i 1).val) j.val d.val : ℝ) : EReal) := by
  rw [runC_12]
  exact point12 i arg3 arg4 arg11 arg12 _ _ _ _ _ _ (harg3.unread x1) (harg4.unread x2) H0 H1 (fun j d => by rw [Memref.IsWhole.read_unread]; exact hx1 j d) (fun j d => by rw [Memref.IsWhole.read_unread]; exact hx2 j d) (rows0 i arg2 harg2 arg5 harg5 arg6 harg6 x0 x3 x4 H0 H1 hx0 hx3 hx4 hx5) (rows1 i arg2 harg2 arg5 harg5 arg6 harg6 x0 x3 x4 H0 H1 hx0 hx3 hx4 hx5) (harg11.unread xs0) (harg12.unread xs1) b11 b12 _ _ (loop2_eq c i arg2 harg2 arg3 harg3 arg4 harg4 arg5 harg5 arg6 harg6 arg7 harg7 arg8 harg8 arg9 harg9 arg10 harg10 arg11 harg11 arg12 harg12 (wordOf i arg7 harg7 x5) (hk _) _ _ _ _ _ _ _ _ (harg3.unread x1) (harg4.unread x2) _ _ _ hW) (loop1_inv c i arg2 harg2 arg3 harg3 arg4 harg4 arg5 harg5 arg6 harg6 arg7 harg7 arg8 harg8 arg9 harg9 arg10 harg10 arg11 harg11 arg12 harg12 (wordOf i arg7 harg7 x5) (hk _) _ _ _ _ _ _ _ _ (harg3.unread x1) (harg4.unread x2) H0 H1 (fun j d => by rw [Memref.IsWhole.read_unread]; exact hx1 j d) (fun j d => by rw [Memref.IsWhole.read_unread]; exact hx2 j d) (rows0 i arg2 harg2 arg5 harg5 arg6 harg6 x0 x3 x4 H0 H1 hx0 hx3 hx4 hx5) (rows1 i arg2 harg2 arg5 harg5 arg6 harg6 x0 x3 x4 H0 H1 hx0 hx3 hx4 hx5) (harg11.unread xs0) (harg12.unread xs1) b11 b12 hW (fun j d => by rw [Memref.IsWhole.read_unread]; exact hs0 j d) (fun j d => by rw [Memref.IsWhole.read_unread]; exact hs1 j d)) (harg12.unread xs1) _ rfl j d

theorem atC_6 (m : Memref sig .tc .vmem S256x256 .bf16) (f : BufTy.Contents (Elt Ideal) m.view.ty) (r d : Fin 256) :
    m.view.read (Elt Ideal) (m.view.writes (Elt Ideal) f (bodyRunC (F := Ideal) c i arg2 harg2 arg3 harg3 arg4 harg4 arg5 harg5 arg6 harg6 arg7 harg7 arg8 harg8 arg9 harg9 arg10 harg10 arg11 harg11 arg12 harg12 hc0 hc1 x0 x1 x2 x3 x4 x5 hk xs0 xs1).1) (ix2 r d) = ((pair H0.dq H1.dq (256 * (i 1).val + r.val) d.val : ℝ) : EReal) := by
  rw [runC_6]
  exact point6 i arg3 arg4 arg11 arg12 _ _ _ _ _ _ (harg3.unread x1) (harg4.unread x2) H0 H1 (fun j d => by rw [Memref.IsWhole.read_unread]; exact hx1 j d) (fun j d => by rw [Memref.IsWhole.read_unread]; exact hx2 j d) (rows0 i arg2 harg2 arg5 harg5 arg6 harg6 x0 x3 x4 H0 H1 hx0 hx3 hx4 hx5) (rows1 i arg2 harg2 arg5 harg5 arg6 harg6 x0 x3 x4 H0 H1 hx0 hx3 hx4 hx5) (harg11.unread xs0) (harg12.unread xs1) b11 b12 _ _ (loop2_eq c i arg2 harg2 arg3 harg3 arg4 harg4 arg5 harg5 arg6 harg6 arg7 harg7 arg8 harg8 arg9 harg9 arg10 harg10 arg11 harg11 arg12 harg12 (wordOf i arg7 harg7 x5) (hk _) _ _ _ _ _ _ _ _ (harg3.unread x1) (harg4.unread x2) _ _ _ hW) (loop1_inv c i arg2 harg2 arg3 harg3 arg4 harg4 arg5 harg5 arg6 harg6 arg7 harg7 arg8 harg8 arg9 harg9 arg10 harg10 arg11 harg11 arg12 harg12 (wordOf i arg7 harg7 x5) (hk _) _ _ _ _ _ _ _ _ (harg3.unread x1) (harg4.unread x2) H0 H1 (fun j d => by rw [Memref.IsWhole.read_unread]; exact hx1 j d) (fun j d => by rw [Memref.IsWhole.read_unread]; exact hx2 j d) (rows0 i arg2 harg2 arg5 harg5 arg6 harg6 x0 x3 x4 H0 H1 hx0 hx3 hx4 hx5) (rows1 i arg2 harg2 arg5 harg5 arg6 harg6 x0 x3 x4 H0 H1 hx0 hx3 hx4 hx5) (harg11.unread xs0) (harg12.unread xs1) b11 b12 hW (fun j d => by rw [Memref.IsWhole.read_unread]; exact hs0 j d) (fun j d => by rw [Memref.IsWhole.read_unread]; exact hs1 j d)) m f r d

theorem atC_7 (m : Memref sig .tc .vmem S4096x256 .bf16) (f : BufTy.Contents (Elt Ideal) m.view.ty) (j : Fin 4096) (d : Fin 256) :
    m.view.read (Elt Ideal) (m.view.writes (Elt Ideal) f (bodyRunC (F := Ideal) c i arg2 harg2 arg3 harg3 arg4 harg4 arg5 harg5 arg6 harg6 arg7 harg7 arg8 harg8 arg9 harg9 arg10 harg10 arg11 harg11 arg12 harg12 hc0 hc1 x0 x1 x2 x3 x4 x5 hk xs0 xs1).2.1) (ix2 j d)
      = ((b11 j.val d.val + pair (H0.addK (i 1).val) (H1.addK (i 1).val) j.val d.val : ℝ) : EReal) := by
  rw [runC_7]
  refine (whole_read m.view f inb_S4096x256_S4096x256_0_0 _ j d).trans ?_
  rw [pay1_eq]
  refine (wholeOf_val arg11 _ inb_S4096x256_S4096x256_0_0 j d).trans ?_
  exact atC_11 c i arg2 harg2 arg3 harg3 arg4 harg4 arg5 harg5 arg6 harg6 arg7 harg7 arg8 harg8 arg9 harg9 arg10 harg10 arg11 harg11 arg12 harg12 hc0 hc1 x0 x1 x2 x3 x4 x5 hk xs0 xs1 H0 H1 hx0 hx1 hx2 hx3 hx4 hx5 hW b11 b12 hs0 hs1 j d

theorem atC_8 (m : Memref sig .tc .vmem S4096x256 .bf16) (f : BufTy.Contents (Elt Ideal) m.view.ty) (j : Fin 4096) (d : Fin 256) :
    m.view.read (Elt Ideal) (m.view.writes (Elt Ideal) f (bodyRunC (F := Ideal) c i arg2 harg2 arg3 harg3 arg4 harg4 arg5 harg5 arg6 harg6 arg7 harg7 arg8 harg8 arg9 harg9 arg10 harg10 arg11 harg11 arg12 harg12 hc0 hc1 x0 x1 x2 x3 x4 x5 hk xs0 xs1).2.2.1) (ix2 j d)
      = ((b12 j.val d.val + pair (H0.addV (i 1).val) (H1.addV (i 1).val) j.val d.val : ℝ) : EReal) := by
  rw [runC_8]
  refine (whole_read m.view f inb_S4096x256_S4096x256_0_0 _ j d).trans ?_
  rw [pay2_eq]
  refine (wholeOf_val arg12 _ inb_S4096x256_S4096x256_0_0 j d).trans ?_
  exact atC_12 c i arg2 harg2 arg3 harg3 arg4 harg4 arg5 harg5 arg6 harg6 arg7 harg7 arg8 harg8 arg9 harg9 arg10 harg10 arg11 harg11 arg12 harg12 hc0 hc1 x0 x1 x2 x3 x4 x5 hk xs0 xs1 H0 H1 hx0 hx1 hx2 hx3 hx4 hx5 hW b11 b12 hs0 hs1 j d

end CaseC

end Cert.KernelIdeal.Sb
-- ==== Proof.Sweep.lean ====
/- The sums the launch carries over the blocks of queries, and what it leaves in the results. -/
module

public import proofs.«01_k».proof.Proof.Blocks
public import proofs.«01_k».proof.Proof.Point

@[expose] public section

set_option maxRecDepth 16384

noncomputable section

namespace Cert.KernelIdeal.Sb

open Idealize.ShloMosaic Idealize.ShloMosaic.TcCoe Idealize.ShloMosaic.ValueKit
open Idealize.ShloMosaic.Tactic
open Cert.KernelIdeal.Gen Cert.Sb

variable (m : (ℓ : Loc nD τ sig) → Buf (Elt Ideal) ℓ) (c : Dev nD)

/-- The head of number `h` of the arguments. -/
abbrev hd (h : ℕ) : Head := headOf (argQ m c) (argK m c) (argV m c) (argD m c) h

/-- What a pair of heads' keys have got of the first `n` blocks of queries, and their values. -/
def sumK (h n j d : ℕ) : ℝ := ∑ i ∈ Finset.range n, pair ((hd m c (2 * h)).addK i) ((hd m c (2 * h + 1)).addK i) j d
def sumV (h n j d : ℕ) : ℝ := ∑ i ∈ Finset.range n, pair ((hd m c (2 * h)).addV i) ((hd m c (2 * h + 1)).addV i) j d

theorem sum_blocks (f : ℕ → ℝ) (n : ℕ) : ∑ i ∈ Finset.range n, ∑ r : Fin 256, f (256 * i + r.val) = ∑ r ∈ Finset.range (256 * n), f r := by
  induction n with
  | zero => simp
  | succ n ih => rw [Finset.sum_range_succ, ih, sum_block, Nat.mul_succ]

theorem pair_sum (f g : ℕ → ℕ → ℕ → ℝ) (n j d : ℕ) :
    ∑ i ∈ Finset.range n, pair (f i) (g i) j d = pair (fun j d => ∑ i ∈ Finset.range n, f i j d) (fun j d => ∑ i ∈ Finset.range n, g i j d) j d := by
  unfold pair
  split <;> rfl

theorem addK_all (H : Head) (j d : ℕ) : ∑ i ∈ Finset.range 16, H.addK i j d = H.dk j d :=
  sum_blocks (fun r => H.dz r j * H.Q r d) 16

theorem addV_all (H : Head) (j d : ℕ) : ∑ i ∈ Finset.range 16, H.addV i j d = H.dv j d :=
  sum_blocks (fun r => H.att r j * H.D r d) 16

theorem sumK_all (h j d : ℕ) : sumK m c h 16 j d = pair (hd m c (2 * h)).dk (hd m c (2 * h + 1)).dk j d := by
  unfold sumK
  rw [pair_sum]
  simp only [addK_all]

theorem sumV_all (h j d : ℕ) : sumV m c h 16 j d = pair (hd m c (2 * h)).dv (hd m c (2 * h + 1)).dv j d := by
  unfold sumV
  rw [pair_sum]
  simp only [addV_all]

theorem coords0 : ∀ t : Fin cfg0.N, ((grid0.coords t) 0).val = t.val / 16 := (by decide +kernel : ∀ t : Fin grid0.N, _)
theorem coords1 : ∀ t : Fin cfg0.N, ((grid0.coords t) 1).val = t.val % 16 := (by decide +kernel : ∀ t : Fin grid0.N, _)

variable (t : Fin cfg0.N) (f0 : Finite (argQ m c)) (f1 : Finite (argK m c)) (f2 : Finite (argV m c)) (f3 : Finite (argD m c))

/-- The pair of heads of a point. -/
abbrev ha : Head := hd m c (2 * ((grid0.coords t) 0).val)
abbrev hb : Head := hd m c (2 * ((grid0.coords t) 0).val + 1)

include f0 f1 f2 in
theorem in0 (r d : Fin 256) : (iblk m c 0 t : Vec Ideal S256x256 .bf16) (ix2 r d) = ((pair (ha m c t).Q (hb m c t).Q (256 * ((grid0.coords t) 1).val + r.val) d.val : ℝ) : EReal) :=
  (iblk0 m c t f0 f1 f2 r d).trans (congrArg _ (pair_entry _ _ _ _).symm)
include f0 f1 f2 in
theorem in1 (j : Fin 4096) (d : Fin 256) : (iblk m c 1 t : Vec Ideal S4096x256 .bf16) (ix2 j d) = ((pair (ha m c t).K (hb m c t).K j.val d.val : ℝ) : EReal) :=
  (iblk1 m c t f0 f1 f2 j d).trans (congrArg _ (pair_entry _ _ _ _).symm)
include f0 f1 f2 in
theorem in2 (j : Fin 4096) (d : Fin 256) : (iblk m c 2 t : Vec Ideal S4096x256 .bf16) (ix2 j d) = ((pair (ha m c t).V (hb m c t).V j.val d.val : ℝ) : EReal) :=
  (iblk2 m c t f0 f1 f2 j d).trans (congrArg _ (pair_entry _ _ _ _).symm)
include f3 in
theorem in3 (r d : Fin 256) : (iblk m c 3 t : Vec Ideal S256x256 .f32) (ix2 r d) = ((pair (ha m c t).D (hb m c t).D (256 * ((grid0.coords t) 1).val + r.val) d.val : ℝ) : EReal) :=
  (iblk3 m c t f3 r d).trans (congrArg _ (pair_entry _ _ _ _).symm)
include f0 f1 in
theorem in4a (r : Fin 256) : (iblk m c 4 t : Vec Ideal S256x256 .f32) (ix2 r 0) = ((∑ j ∈ Finset.range 4096, (ha m c t).l1 (256 * ((grid0.coords t) 1).val + r.val) j : ℝ) : EReal) := by
  refine (iblk4 m c t f0 f1 r 0).trans (congrArg _ ?_)
  rw [show (256 * ((grid0.coords t) 0).val + (0 : Fin 256).val) / 128 = 2 * ((grid0.coords t) 0).val by show (256 * ((grid0.coords t) 0).val + 0) / 128 = _; omega]
include f0 f1 in
theorem in4b (r : Fin 256) : (iblk m c 4 t : Vec Ideal S256x256 .f32) (ix2 r 128) = ((∑ j ∈ Finset.range 4096, (hb m c t).l1 (256 * ((grid0.coords t) 1).val + r.val) j : ℝ) : EReal) := by
  refine (iblk4 m c t f0 f1 r 128).trans (congrArg _ ?_)
  rw [show (256 * ((grid0.coords t) 0).val + (128 : Fin 256).val) / 128 = 2 * ((grid0.coords t) 0).val + 1 by show (256 * ((grid0.coords t) 0).val + 128) / 128 = _; omega]

theorem word (c : Dev nD) (t : Fin cfg0.N) : wordOf (grid0.coords t) (ms0_5 t) (hs0_5 t) (iblk m c 5 t) = BitVec.ofNat 32 ((grid0.coords t) 1).val :=
  word_eq m c t _

section CaseA

variable (h0 : t.val % 16 = 0) (h1 : ¬t.val % 16 = 15)

include f0 f1 f2 f3 h0 h1 in
theorem outA_11 (j : Fin 4096) (d : Fin 256) : (outsAt0 m c t.val t.isLt).2.2.2.1 (ix2 j d) = ((pair ((ha m c t).addK ((grid0.coords t) 1).val) ((hb m c t).addK ((grid0.coords t) 1).val) j.val d.val : ℝ) : EReal) := by
  rw [outsAt0_A m c t h0 h1]
  exact atA_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t) (iblk m c 5 t) (chkAt m c t) (ha m c t) (hb m c t) (in0 m c t f0 f1 f2) (in1 m c t f0 f1 f2) (in2 m c t f0 f1 f2) (in3 m c t f3) (in4a m c t f0 f1) (in4b m c t f0 f1) (word m c t) j d

include f0 f1 f2 f3 h0 h1 in
theorem outA_12 (j : Fin 4096) (d : Fin 256) : (outsAt0 m c t.val t.isLt).2.2.2.2 (ix2 j d) = ((pair ((ha m c t).addV ((grid0.coords t) 1).val) ((hb m c t).addV ((grid0.coords t) 1).val) j.val d.val : ℝ) : EReal) := by
  rw [outsAt0_A m c t h0 h1]
  exact atA_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t) (iblk m c 5 t) (chkAt m c t) (ha m c t) (hb m c t) (in0 m c t f0 f1 f2) (in1 m c t f0 f1 f2) (in2 m c t f0 f1 f2) (in3 m c t f3) (in4a m c t f0 f1) (in4b m c t f0 f1) (word m c t) j d

include f0 f1 f2 f3 h0 h1 in
theorem outA_6 (r d : Fin 256) : (outsAt0 m c t.val t.isLt).1 (ix2 r d) = ((pair (ha m c t).dq (hb m c t).dq (256 * ((grid0.coords t) 1).val + r.val) d.val : ℝ) : EReal) := by
  rw [outsAt0_A m c t h0 h1]
  dsimp only
  unfold out0_A_6
  exact atA_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t) (iblk m c 5 t) (chkAt m c t) (ha m c t) (hb m c t) (in0 m c t f0 f1 f2) (in1 m c t f0 f1 f2) (in2 m c t f0 f1 f2) (in3 m c t f3) (in4a m c t f0 f1) (in4b m c t f0 f1) (word m c t) (Memref.whole cc0_stg6_0) VO0_6.junk r d

end CaseA

section CaseB

variable (h0 : ¬t.val % 16 = 0) (h1 : ¬t.val % 16 = 15)
  (b11 b12 : ℕ → ℕ → ℝ)
  (s0 : ∀ (j : Fin 4096) (d : Fin 256), (outsAt0 m c (t.val - 1) (Nat.lt_of_le_of_lt (Nat.sub_le _ _) t.isLt)).2.2.2.1 (ix2 j d) = ((b11 j.val d.val : ℝ) : EReal))
  (s1 : ∀ (j : Fin 4096) (d : Fin 256), (outsAt0 m c (t.val - 1) (Nat.lt_of_le_of_lt (Nat.sub_le _ _) t.isLt)).2.2.2.2 (ix2 j d) = ((b12 j.val d.val : ℝ) : EReal))

include f0 f1 f2 f3 h0 h1 s0 s1 in
theorem outB_11 (j : Fin 4096) (d : Fin 256) : (outsAt0 m c t.val t.isLt).2.2.2.1 (ix2 j d) = ((b11 j.val d.val + pair ((ha m c t).addK ((grid0.coords t) 1).val) ((hb m c t).addK ((grid0.coords t) 1).val) j.val d.val : ℝ) : EReal) := by
  rw [outsAt0_B m c t h0 h1]
  exact atB_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (chkAt m c t) (outsAt0 m c (t.val - 1) (Nat.lt_of_le_of_lt (Nat.sub_le _ _) t.isLt)).2.2.2.1 (outsAt0 m c (t.val - 1) (Nat.lt_of_le_of_lt (Nat.sub_le _ _) t.isLt)).2.2.2.2 (ha m c t) (hb m c t) (in0 m c t f0 f1 f2) (in1 m c t f0 f1 f2) (in2 m c t f0 f1 f2) (in3 m c t f3) (in4a m c t f0 f1) (in4b m c t f0 f1) (word m c t) b11 b12 s0 s1 j d

include f0 f1 f2 f3 h0 h1 s0 s1 in
theorem outB_12 (j : Fin 4096) (d : Fin 256) : (outsAt0 m c t.val t.isLt).2.2.2.2 (ix2 j d) = ((b12 j.val d.val + pair ((ha m c t).addV ((grid0.coords t) 1).val) ((hb m c t).addV ((grid0.coords t) 1).val) j.val d.val : ℝ) : EReal) := by
  rw [outsAt0_B m c t h0 h1]
  exact atB_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (chkAt m c t) (outsAt0 m c (t.val - 1) (Nat.lt_of_le_of_lt (Nat.sub_le _ _) t.isLt)).2.2.2.1 (outsAt0 m c (t.val - 1) (Nat.lt_of_le_of_lt (Nat.sub_le _ _) t.isLt)).2.2.2.2 (ha m c t) (hb m c t) (in0 m c t f0 f1 f2) (in1 m c t f0 f1 f2) (in2 m c t f0 f1 f2) (in3 m c t f3) (in4a m c t f0 f1) (in4b m c t f0 f1) (word m c t) b11 b12 s0 s1 j d

include f0 f1 f2 f3 h0 h1 s0 s1 in
theorem outB_6 (r d : Fin 256) : (outsAt0 m c t.val t.isLt).1 (ix2 r d) = ((pair (ha m c t).dq (hb m c t).dq (256 * ((grid0.coords t) 1).val + r.val) d.val : ℝ) : EReal) := by
  rw [outsAt0_B m c t h0 h1]
  dsimp only
  unfold out0_B_6
  exact atB_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (chkAt m c t) (outsAt0 m c (t.val - 1) (Nat.lt_of_le_of_lt (Nat.sub_le _ _) t.isLt)).2.2.2.1 (outsAt0 m c (t.val - 1) (Nat.lt_of_le_of_lt (Nat.sub_le _ _) t.isLt)).2.2.2.2 (ha m c t) (hb m c t) (in0 m c t f0 f1 f2) (in1 m c t f0 f1 f2) (in2 m c t f0 f1 f2) (in3 m c t f3) (in4a m c t f0 f1) (in4b m c t f0 f1) (word m c t) b11 b12 s0 s1 (Memref.whole cc0_stg6_0) VO0_6.junk r d

end CaseB

section CaseC

variable (h0 : ¬t.val % 16 = 0) (h1 : t.val % 16 = 15)
  (b11 b12 : ℕ → ℕ → ℝ)
  (s0 : ∀ (j : Fin 4096) (d : Fin 256), (outsAt0 m c (t.val - 1) (Nat.lt_of_le_of_lt (Nat.sub_le _ _) t.isLt)).2.2.2.1 (ix2 j d) = ((b11 j.val d.val : ℝ) : EReal))
  (s1 : ∀ (j : Fin 4096) (d : Fin 256), (outsAt0 m c (t.val - 1) (Nat.lt_of_le_of_lt (Nat.sub_le _ _) t.isLt)).2.2.2.2 (ix2 j d) = ((b12 j.val d.val : ℝ) : EReal))

include f0 f1 f2 f3 h0 h1 s0 s1 in
theorem outC_11 (j : Fin 4096) (d : Fin 256) : (outsAt0 m c t.val t.isLt).2.2.2.1 (ix2 j d) = ((b11 j.val d.val + pair ((ha m c t).addK ((grid0.coords t) 1).val) ((hb m c t).addK ((grid0.coords t) 1).val) j.val d.val : ℝ) : EReal) := by
  rw [outsAt0_C m c t h0 h1]
  exact atC_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (chkAt m c t) (outsAt0 m c (t.val - 1) (Nat.lt_of_le_of_lt (Nat.sub_le _ _) t.isLt)).2.2.2.1 (outsAt0 m c (t.val - 1) (Nat.lt_of_le_of_lt (Nat.sub_le _ _) t.isLt)).2.2.2.2 (ha m c t) (hb m c t) (in0 m c t f0 f1 f2) (in1 m c t f0 f1 f2) (in2 m c t f0 f1 f2) (in3 m c t f3) (in4a m c t f0 f1) (in4b m c t f0 f1) (word m c t) b11 b12 s0 s1 j d

include f0 f1 f2 f3 h0 h1 s0 s1 in
theorem outC_12 (j : Fin 4096) (d : Fin 256) : (outsAt0 m c t.val t.isLt).2.2.2.2 (ix2 j d) = ((b12 j.val d.val + pair ((ha m c t).addV ((grid0.coords t) 1).val) ((hb m c t).addV ((grid0.coords t) 1).val) j.val d.val : ℝ) : EReal) := by
  rw [outsAt0_C m c t h0 h1]
  exact atC_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (chkAt m c t) (outsAt0 m c (t.val - 1) (Nat.lt_of_le_of_lt (Nat.sub_le _ _) t.isLt)).2.2.2.1 (outsAt0 m c (t.val - 1) (Nat.lt_of_le_of_lt (Nat.sub_le _ _) t.isLt)).2.2.2.2 (ha m c t) (hb m c t) (in0 m c t f0 f1 f2) (in1 m c t f0 f1 f2) (in2 m c t f0 f1 f2) (in3 m c t f3) (in4a m c t f0 f1) (in4b m c t f0 f1) (word m c t) b11 b12 s0 s1 j d

include f0 f1 f2 f3 h0 h1 s0 s1 in
theorem outC_6 (r d : Fin 256) : (outsAt0 m c t.val t.isLt).1 (ix2 r d) = ((pair (ha m c t).dq (hb m c t).dq (256 * ((grid0.coords t) 1).val + r.val) d.val : ℝ) : EReal) := by
  rw [outsAt0_C m c t h0 h1]
  dsimp only
  unfold out0_C_6
  exact atC_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (chkAt m c t) (outsAt0 m c (t.val - 1) (Nat.lt_of_le_of_lt (Nat.sub_le _ _) t.isLt)).2.2.2.1 (outsAt0 m c (t.val - 1) (Nat.lt_of_le_of_lt (Nat.sub_le _ _) t.isLt)).2.2.2.2 (ha m c t) (hb m c t) (in0 m c t f0 f1 f2) (in1 m c t f0 f1 f2) (in2 m c t f0 f1 f2) (in3 m c t f3) (in4a m c t f0 f1) (in4b m c t f0 f1) (word m c t) b11 b12 s0 s1 (Memref.whole cc0_stg6_0) VO0_6.junk r d

include f0 f1 f2 f3 h0 h1 s0 s1 in
theorem outC_7 (j : Fin 4096) (d : Fin 256) : (outsAt0 m c t.val t.isLt).2.1 (ix2 j d) = ((b11 j.val d.val + pair ((ha m c t).addK ((grid0.coords t) 1).val) ((hb m c t).addK ((grid0.coords t) 1).val) j.val d.val : ℝ) : EReal) := by
  rw [outsAt0_C m c t h0 h1]
  dsimp only
  unfold out0_C_7
  exact atC_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (chkAt m c t) (outsAt0 m c (t.val - 1) (Nat.lt_of_le_of_lt (Nat.sub_le _ _) t.isLt)).2.2.2.1 (outsAt0 m c (t.val - 1) (Nat.lt_of_le_of_lt (Nat.sub_le _ _) t.isLt)).2.2.2.2 (ha m c t) (hb m c t) (in0 m c t f0 f1 f2) (in1 m c t f0 f1 f2) (in2 m c t f0 f1 f2) (in3 m c t f3) (in4a m c t f0 f1) (in4b m c t f0 f1) (word m c t) b11 b12 s0 s1 (Memref.whole cc0_stg7_0) VO0_7.junk j d

include f0 f1 f2 f3 h0 h1 s0 s1 in
theorem outC_8 (j : Fin 4096) (d : Fin 256) : (outsAt0 m c t.val t.isLt).2.2.1 (ix2 j d) = ((b12 j.val d.val + pair ((ha m c t).addV ((grid0.coords t) 1).val) ((hb m c t).addV ((grid0.coords t) 1).val) j.val d.val : ℝ) : EReal) := by
  rw [outsAt0_C m c t h0 h1]
  dsimp only
  unfold out0_C_8
  exact atC_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (chkAt m c t) (outsAt0 m c (t.val - 1) (Nat.lt_of_le_of_lt (Nat.sub_le _ _) t.isLt)).2.2.2.1 (outsAt0 m c (t.val - 1) (Nat.lt_of_le_of_lt (Nat.sub_le _ _) t.isLt)).2.2.2.2 (ha m c t) (hb m c t) (in0 m c t f0 f1 f2) (in1 m c t f0 f1 f2) (in2 m c t f0 f1 f2) (in3 m c t f3) (in4a m c t f0 f1) (in4b m c t f0 f1) (word m c t) b11 b12 s0 s1 (Memref.whole cc0_stg8_0) VO0_8.junk j d

end CaseC

end Cert.KernelIdeal.Sb
-- ==== Proof.Carry.lean ====
/- What the launch carries from block to block, point by point, and the three result arrays it ends with. -/
module

public import proofs.«01_k».proof.Proof.Sweep

@[expose] public section

set_option maxRecDepth 16384

noncomputable section

namespace Cert.KernelIdeal.Sb

open Idealize.ShloMosaic Idealize.ShloMosaic.TcCoe Idealize.ShloMosaic.ValueKit
open Idealize.ShloMosaic.Tactic
open Cert.KernelIdeal.Gen Cert.Sb

variable (m : (ℓ : Loc nD τ sig) → Buf (Elt Ideal) ℓ) (c : Dev nD)

variable (f0 : Finite (argQ m c)) (f1 : Finite (argK m c)) (f2 : Finite (argV m c)) (f3 : Finite (argD m c))

theorem sumK_one (h j d : ℕ) : sumK m c h 1 j d = pair ((hd m c (2 * h)).addK 0) ((hd m c (2 * h + 1)).addK 0) j d := by
  unfold sumK
  rw [Finset.sum_range_one]

theorem sumV_one (h j d : ℕ) : sumV m c h 1 j d = pair ((hd m c (2 * h)).addV 0) ((hd m c (2 * h + 1)).addV 0) j d := by
  unfold sumV
  rw [Finset.sum_range_one]

theorem sumK_succ (h n j d : ℕ) : sumK m c h (n + 1) j d = sumK m c h n j d + pair ((hd m c (2 * h)).addK n) ((hd m c (2 * h + 1)).addK n) j d := by
  unfold sumK
  rw [Finset.sum_range_succ _ n]

theorem sumV_succ (h n j d : ℕ) : sumV m c h (n + 1) j d = sumV m c h n j d + pair ((hd m c (2 * h)).addV n) ((hd m c (2 * h + 1)).addV n) j d := by
  unfold sumV
  rw [Finset.sum_range_succ _ n]

/-- The two arrays carried, after a point: the sums over the blocks of queries seen so far. -/
def Carried (t : Fin cfg0.N) : Prop :=
  (∀ (j : Fin 4096) (d : Fin 256), (outsAt0 m c t.val t.isLt).2.2.2.1 (ix2 j d) = ((sumK m c (t.val / 16) (t.val % 16 + 1) j.val d.val : ℝ) : EReal))
  ∧ (∀ (j : Fin 4096) (d : Fin 256), (outsAt0 m c t.val t.isLt).2.2.2.2 (ix2 j d) = ((sumV m c (t.val / 16) (t.val % 16 + 1) j.val d.val : ℝ) : EReal))

/-- A point that is not the first of its pair of heads finds the sums over the blocks before it. -/
theorem carried_before (t : Fin cfg0.N) (h0 : ¬t.val % 16 = 0)
    (ih : Carried m c ⟨t.val - 1, Nat.lt_of_le_of_lt (Nat.sub_le _ _) t.isLt⟩) :
    (∀ (j : Fin 4096) (d : Fin 256), (outsAt0 m c (t.val - 1) (Nat.lt_of_le_of_lt (Nat.sub_le _ _) t.isLt)).2.2.2.1 (ix2 j d) = ((sumK m c (t.val / 16) (t.val % 16) j.val d.val : ℝ) : EReal))
    ∧ (∀ (j : Fin 4096) (d : Fin 256), (outsAt0 m c (t.val - 1) (Nat.lt_of_le_of_lt (Nat.sub_le _ _) t.isLt)).2.2.2.2 (ix2 j d) = ((sumV m c (t.val / 16) (t.val % 16) j.val d.val : ℝ) : EReal)) := by
  have e1 : (t.val - 1) / 16 = t.val / 16 := by omega
  have e2 : (t.val - 1) % 16 + 1 = t.val % 16 := by omega
  obtain ⟨k, v⟩ := ih
  dsimp only at k v
  rw [e1, e2] at k v
  exact ⟨k, v⟩

include f0 f1 f2 f3 in
theorem carried : ∀ (n : ℕ) (hn : n < cfg0.N), Carried m c ⟨n, hn⟩ := by
  intro n
  induction n using Nat.strong_induction_on with
  | _ n ih =>
    intro hn
    by_cases h0 : n % 16 = 0
    · have h1 : ¬n % 16 = 15 := by omega
      refine ⟨fun j d => ?_, fun j d => ?_⟩
      · refine (outA_11 m c ⟨n, hn⟩ f0 f1 f2 f3 h0 h1 j d).trans (congrArg _ ?_)
        rw [coords1, ha, hb, coords0, h0, sumK_one]
      · refine (outA_12 m c ⟨n, hn⟩ f0 f1 f2 f3 h0 h1 j d).trans (congrArg _ ?_)
        rw [coords1, ha, hb, coords0, h0, sumV_one]
    · obtain ⟨s0, s1⟩ := carried_before m c ⟨n, hn⟩ h0 (ih (n - 1) (by omega) _)
      by_cases h1 : n % 16 = 15
      · refine ⟨fun j d => ?_, fun j d => ?_⟩
        · refine (outC_11 m c ⟨n, hn⟩ f0 f1 f2 f3 h0 h1 _ _ s0 s1 j d).trans (congrArg _ ?_)
          rw [coords1, ha, hb, coords0, sumK_succ]
        · refine (outC_12 m c ⟨n, hn⟩ f0 f1 f2 f3 h0 h1 _ _ s0 s1 j d).trans (congrArg _ ?_)
          rw [coords1, ha, hb, coords0, sumV_succ]
      · refine ⟨fun j d => ?_, fun j d => ?_⟩
        · refine (outB_11 m c ⟨n, hn⟩ f0 f1 f2 f3 h0 h1 _ _ s0 s1 j d).trans (congrArg _ ?_)
          rw [coords1, ha, hb, coords0, sumK_succ]
        · refine (outB_12 m c ⟨n, hn⟩ f0 f1 f2 f3 h0 h1 _ _ s0 s1 j d).trans (congrArg _ ?_)
          rw [coords1, ha, hb, coords0, sumV_succ]

include f0 f1 f2 f3 in
/-- Every point leaves its block of the queries' gradient. -/
theorem left6 (t : Fin cfg0.N) (r d : Fin 256) : (outsAt0 m c t.val t.isLt).1 (ix2 r d)
    = ((pair (hd m c (2 * (t.val / 16))).dq (hd m c (2 * (t.val / 16) + 1)).dq (256 * (t.val % 16) + r.val) d.val : ℝ) : EReal) := by
  rw [← coords0 t, ← coords1 t]
  by_cases h0 : t.val % 16 = 0
  · exact outA_6 m c t f0 f1 f2 f3 h0 (by omega) r d
  · obtain ⟨s0, s1⟩ := carried_before m c t h0 (carried m c f0 f1 f2 f3 _ _)
    by_cases h1 : t.val % 16 = 15
    · exact outC_6 m c t f0 f1 f2 f3 h0 h1 _ _ s0 s1 r d
    · exact outB_6 m c t f0 f1 f2 f3 h0 h1 _ _ s0 s1 r d

include f0 f1 f2 f3 in
/-- The last point of a pair of heads leaves the whole sums. -/
theorem left7 (t : Fin cfg0.N) (h1 : t.val % 16 = 15) (j : Fin 4096) (d : Fin 256) : (outsAt0 m c t.val t.isLt).2.1 (ix2 j d)
    = ((pair (hd m c (2 * (t.val / 16))).dk (hd m c (2 * (t.val / 16) + 1)).dk j.val d.val : ℝ) : EReal) := by
  have h0 : ¬t.val % 16 = 0 := by omega
  obtain ⟨s0, s1⟩ := carried_before m c t h0 (carried m c f0 f1 f2 f3 _ _)
  refine (outC_7 m c t f0 f1 f2 f3 h0 h1 _ _ s0 s1 j d).trans (congrArg _ ?_)
  rw [← sumK_all, sumK_succ _ _ _ 15, coords1, ha, hb, coords0, h1]

include f0 f1 f2 f3 in
theorem left8 (t : Fin cfg0.N) (h1 : t.val % 16 = 15) (j : Fin 4096) (d : Fin 256) : (outsAt0 m c t.val t.isLt).2.2.1 (ix2 j d)
    = ((pair (hd m c (2 * (t.val / 16))).dv (hd m c (2 * (t.val / 16) + 1)).dv j.val d.val : ℝ) : EReal) := by
  have h0 : ¬t.val % 16 = 0 := by omega
  obtain ⟨s0, s1⟩ := carried_before m c t h0 (carried m c f0 f1 f2 f3 _ _)
  refine (outC_8 m c t f0 f1 f2 f3 h0 h1 _ _ s0 s1 j d).trans (congrArg _ ?_)
  rw [← sumV_all, sumV_succ _ _ _ 15, coords1, ha, hb, coords0, h1]

/-- The result arrays. -/
abbrev resQ : (⟨2, ![4096, 1024]⟩ : Shape).Idx → EReal := fun y => (((hd m c ((y 1).val / 128)).dq (y 0).val ((y 1).val % 128) : ℝ) : EReal)
abbrev resK : (⟨2, ![4096, 1024]⟩ : Shape).Idx → EReal := fun y => (((hd m c ((y 1).val / 128)).dk (y 0).val ((y 1).val % 128) : ℝ) : EReal)
abbrev resV : (⟨2, ![4096, 1024]⟩ : Shape).Idx → EReal := fun y => (((hd m c ((y 1).val / 128)).dv (y 0).val ((y 1).val % 128) : ℝ) : EReal)

/-- A pair of heads at a column of its block is the head of that column of the array. -/
theorem pair_col (f : Head → ℕ → ℕ → ℝ) (h r d R C : ℕ) (hd' : d < 256) (hR : R = r) (hC : C = 256 * h + d) :
    pair (f (hd m c (2 * h))) (f (hd m c (2 * h + 1))) r d = f (hd m c (C / 128)) R (C % 128) := by
  subst hR hC
  unfold pair
  split
  · rw [show (256 * h + d) / 128 = 2 * h by omega, show (256 * h + d) % 128 = d by omega]
  · rw [show (256 * h + d) / 128 = 2 * h + 1 by omega, show (256 * h + d) % 128 = d - 128 by omega]

theorem index6 : ∀ t : Fin cfg0.N, win0_6.index t = ![t.val % 16, t.val / 16] := (by decide +kernel : ∀ t : Fin grid0.N, _)
theorem index7 : ∀ t : Fin cfg0.N, win0_7.index t = ![0, t.val / 16] := (by decide +kernel : ∀ t : Fin grid0.N, _)
theorem index8 : ∀ t : Fin cfg0.N, win0_8.index t = ![0, t.val / 16] := (by decide +kernel : ∀ t : Fin grid0.N, _)

include f0 f1 f2 f3 in
theorem final6 : (dats m 0 c).arrAt 6 cfg0.N = resQ m c := by
  refine (dats m 0 c).arrAt_eq_of_covers 6 _ (by decide +kernel) fun t hf y => ?_
  blk_simp
  rw [after0_6]
  obtain ⟨r, d, rfl⟩ : ∃ r d, y = ix2 r d := ⟨y 0, y 1, eq_ix2 y⟩
  refine (left6 m c f0 f1 f2 f3 t r d).trans (congrArg _ ?_)
  refine pair_col m c Head.dq _ _ _ _ _ d.isLt ?_ ?_
  · blk_simp [index6]
    try omega
  · blk_simp [index6]
    try omega

include f0 f1 f2 f3 in
theorem final7 : (dats m 0 c).arrAt 7 cfg0.N = resK m c := by
  refine (dats m 0 c).arrAt_eq_of_covers 7 _ (by decide +kernel) fun t hf y => ?_
  blk_simp
  rw [after0_7]
  obtain ⟨r, d, rfl⟩ : ∃ r d, y = ix2 r d := ⟨y 0, y 1, eq_ix2 y⟩
  refine (left7 m c f0 f1 f2 f3 t ((flush0_7 t).mp hf) r d).trans (congrArg _ ?_)
  refine pair_col m c Head.dk _ _ _ _ _ d.isLt ?_ ?_
  · blk_simp [index7]
    try omega
  · blk_simp [index7]
    try omega

include f0 f1 f2 f3 in
theorem final8 : (dats m 0 c).arrAt 8 cfg0.N = resV m c := by
  refine (dats m 0 c).arrAt_eq_of_covers 8 _ (by decide +kernel) fun t hf y => ?_
  blk_simp
  rw [after0_8]
  obtain ⟨r, d, rfl⟩ : ∃ r d, y = ix2 r d := ⟨y 0, y 1, eq_ix2 y⟩
  refine (left8 m c f0 f1 f2 f3 t ((flush0_8 t).mp hf) r d).trans (congrArg _ ?_)
  refine pair_col m c Head.dv _ _ _ _ _ d.isLt ?_ ?_
  · blk_simp [index8]
    try omega
  · blk_simp [index8]
    try omega

end Cert.KernelIdeal.Sb
-- ==== Proof.Value.lean ====
/- The value claim: the three gradients of the launch are the three of the reference, on finite arguments. -/
module

public import proofs.«01_k».proof.Proof.Carry
public import proofs.«01_k».proof.Proof.RefVal
public import proofs.«01_k».proof.Proof.Gen.ReferenceIdeal.Run
public import proofs.«01_k».proof.Defs

@[expose] public section

set_option maxRecDepth 16384

noncomputable section

namespace Cert.Sb

open Idealize.ShloMosaic Idealize.ShloMosaic.TcCoe
open Cert.KernelIdeal.Sb Cert.ReferenceIdeal.Sb

theorem and_one {a b : BitVec 1} (h : a &&& b = 1#1) : a = 1#1 ∧ b = 1#1 := by
  revert a b
  decide

theorem lt_top_one {x : EReal} (h : Ideal.cmp .olt (max x (-x)) ⊤ = 1#1) : x ≠ ⊤ ∧ x ≠ ⊥ := by
  constructor
  · rintro rfl
    simp [Ideal.cmp] at h
  · rintro rfl
    simp [Ideal.cmp] at h

/-- The precondition's side conditions. -/
theorem pre_facts : Cert.Pre_finite.Facts where
  bitsLt_bf16_f32 := by decide
  bcast_S_S4096x1024 := by decide

/-- The precondition at an element: each argument's is finite. -/
theorem pre_at [Cert.Pre_finite.Facts] (x0 x1 x2 x3 : Arr) (h : Cert.Pre_finite.fn (F := Ideal) x0 x1 x2 x3 = fun _ => 1#1) :
    Finite x0 ∧ Finite x1 ∧ Finite x2 ∧ Finite x3 := by
  have key : ∀ j, (x0 j ≠ ⊤ ∧ x0 j ≠ ⊥) ∧ (x1 j ≠ ⊤ ∧ x1 j ≠ ⊥) ∧ (x2 j ≠ ⊤ ∧ x2 j ≠ ⊥) ∧ (x3 j ≠ ⊤ ∧ x3 j ≠ ⊥) := by
    intro j
    have e : ((Ideal.cmp .olt (max (x0 j) (-(x0 j))) (Ideal.ofBits .f32 0x7F800000#32) &&& Ideal.cmp .olt (max (x1 j) (-(x1 j))) (Ideal.ofBits .f32 0x7F800000#32))
        &&& Ideal.cmp .olt (max (x2 j) (-(x2 j))) (Ideal.ofBits .f32 0x7F800000#32))
        &&& Ideal.cmp .olt (max (x3 j) (-(x3 j))) (Ideal.ofBits .f32 0x7F800000#32) = 1#1 := congrFun h j
    rw [inf_top] at e
    obtain ⟨e012, e3⟩ := and_one e
    obtain ⟨e01, e2⟩ := and_one e012
    obtain ⟨e0, e1⟩ := and_one e01
    exact ⟨lt_top_one e0, lt_top_one e1, lt_top_one e2, lt_top_one e3⟩
  exact ⟨fun j => (key j).1, fun j => (key j).2.1, fun j => (key j).2.2.1, fun j => (key j).2.2.2⟩

open Cert.ReferenceIdeal.Read in
theorem ref_dq (x0 x1 x2 x3 : Arr) (f0 : Finite x0) (f1 : Finite x1) (f2 : Finite x2) (f3 : Finite x3) :
    (val_main_v58 (F := Ideal) x0 x1 x2 x3 : Arr) = fun y => (((headOf x0 x1 x2 x3 ((y 1).val / 128)).dq (y 0).val ((y 1).val % 128) : ℝ) : EReal) := by
  funext y
  obtain ⟨r, d, rfl⟩ : ∃ r d, y = ix2 r d := ⟨y 0, y 1, eq_ix2 y⟩
  exact res_dq x0 x1 x2 x3 f0 f1 f2 f3 r d

open Cert.ReferenceIdeal.Read in
theorem ref_dk (x0 x1 x2 x3 : Arr) (f0 : Finite x0) (f1 : Finite x1) (f2 : Finite x2) (f3 : Finite x3) :
    (val_main_v55 (F := Ideal) x0 x1 x2 x3 : Arr) = fun y => (((headOf x0 x1 x2 x3 ((y 1).val / 128)).dk (y 0).val ((y 1).val % 128) : ℝ) : EReal) := by
  funext y
  obtain ⟨r, d, rfl⟩ : ∃ r d, y = ix2 r d := ⟨y 0, y 1, eq_ix2 y⟩
  exact res_dk x0 x1 x2 x3 f0 f1 f2 f3 r d

open Cert.ReferenceIdeal.Read in
theorem ref_dv (x0 x1 x2 x3 : Arr) (f0 : Finite x0) (f1 : Finite x1) (f3 : Finite x3) :
    (val_main_v52 (F := Ideal) x0 x1 x3 : Arr) = fun y => (((headOf x0 x1 x2 x3 ((y 1).val / 128)).dv (y 0).val ((y 1).val % 128) : ℝ) : EReal) := by
  funext y
  obtain ⟨r, d, rfl⟩ : ∃ r d, y = ix2 r d := ⟨y 0, y 1, eq_ix2 y⟩
  exact res_dv x0 x1 x2 x3 f0 f1 f3 r d

section Kernel

open Cert.KernelIdeal Cert.KernelIdeal.Gen

/-- The launch's run with its results written out. -/
theorem kernel_run (m : (ℓ : Loc nD τ sig) → Buf (Elt Ideal) ℓ) (ρ : Dev nD → PrngReg)
    (hf : ∀ c : Dev nD, Finite (argQ m c) ∧ Finite (argK m c) ∧ Finite (argV m c) ∧ Finite (argD m c)) :
    θ_run (defs (F := Ideal)) (onTc (τ := τ) (main (F := Ideal))) ⟨m, fun _ => 0, ρ⟩ (fun r => ∀ c : Dev nD,
      r.2.mem ((c.tc : Thread nD τ).loc main_v28_0) = resQ m c
      ∧ r.2.mem ((c.tc : Thread nD τ).loc main_v28_1) = resK m c
      ∧ r.2.mem ((c.tc : Thread nD τ).loc main_v28_2) = resV m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  refine (θ_run defs _ _).mono (fun r h c => ?_) (θ_run_and (run_main m ρ) (unchanged m ρ))
  obtain ⟨f0, f1, f2, f3⟩ := hf c
  exact ⟨(h.1.out_eq c 6).trans (final6 m c f0 f1 f2 f3), (h.1.out_eq c 7).trans (final7 m c f0 f1 f2 f3),
    (h.1.out_eq c 8).trans (final8 m c f0 f1 f2 f3), h.2 c⟩

end Kernel

/-- The launch's gradients are the reference's. -/
theorem algebraic : Cert.algebraic_KernelIdeal_ReferenceIdeal_pre_finite (hKernelIdeal := Cert.KernelIdeal.Gen.facts)
    (hReferenceIdeal := Cert.ReferenceIdeal.Gen.facts) (hPre_finite := pre_facts) := by
  intro m g m' g' hp ha
  have hf : ∀ c : Dev Cert.KernelIdeal.nD, Finite (argQ m c) ∧ Finite (argK m c) ∧ Finite (argV m c) ∧ Finite (argD m c) :=
    fun c => @pre_at pre_facts _ _ _ _ (hp c)
  refine ⟨fun c => resQ m c, fun c => resK m c, fun c => resV m c, kernel_run m g hf, ?_⟩
  refine (θ_run Cert.ReferenceIdeal.defs _ _).mono (fun r h c => ?_) (Cert.ReferenceIdeal.Value.run m' g')
  obtain ⟨f0, f1, f2, f3⟩ := hf c
  obtain ⟨a0, a1, a2, a3⟩ := ha c
  obtain ⟨h58, h55, h52, hrest⟩ := h c
  refine ⟨h58.trans ?_, h55.trans ?_, h52.trans ?_, hrest⟩
  · rw [Cert.ReferenceIdeal.Read.val_main_v58_eq, a0, a1, a2, a3]
    exact ref_dq _ _ _ _ f0 f1 f2 f3
  · rw [Cert.ReferenceIdeal.Read.val_main_v55_eq, a0, a1, a2, a3]
    exact ref_dk _ _ _ _ f0 f1 f2 f3
  · rw [Cert.ReferenceIdeal.Read.val_main_v52_eq, a0, a1, a3]
    exact ref_dv _ _ (argV m c) _ f0 f1 f3

end Cert.Sb
-- ==== Proof.ActGrad.lean ====
/- The gradient of the down projection's input: a block of the launch's product is the reference's product there. -/
module

public import proofs.«01_k».proof.Proof.Gen.DactIdeal
public import proofs.«01_k».proof.Proof.Gen.DactIdeal.Skeleton
public import proofs.«01_k».proof.Proof.Gen.DactIdeal.Launch
public import proofs.«01_k».proof.Proof.Gen.DactIdeal.Points
public import proofs.«01_k».proof.Proof.Gen.DactIdeal.Frame
public import proofs.«01_k».proof.Proof.Gen.DactReferenceIdeal
public import proofs.«01_k».proof.Proof.Gen.DactReferenceIdeal.Run
public import proofs.«01_k».proof.Proof.Gen.DactReferenceIdeal.Read
public import proofs.«01_k».proof.Defs
public import Idealize.ShloMosaic.Lib.Pipeline.Value
public import Idealize.ShloMosaic.Lib.Pipeline.ValueKit
public import Idealize.ShloMosaic.Lib.StableHlo.Run

@[expose] public section

set_option maxRecDepth 16384

noncomputable section

namespace Cert.DactIdeal.Val

open Idealize.ShloMosaic Idealize.ShloMosaic.TcCoe Idealize.ShloMosaic.Tactic Idealize.SL.Sem
open Idealize.ShloMosaic.Pipeline (Dat)
open Cert.DactIdeal Cert.DactIdeal.Gen
open scoped BigOperators

variable (m : (ℓ : Loc nD τ sig) → Buf (Elt Ideal) ℓ)

/-- The product of the rows of `a2` with the rows of `a1`. -/
abbrev REF (a1 : FVec Ideal S5632x2048 .bf16) (a2 : FVec Ideal S4096x2048 .bf16) : FVec Ideal S4096x5632 .f32 :=
  Cert.DactReferenceIdeal.Read.val_main_v6 (F := Ideal) a1 a2

/-- The blocks a point works on. -/
theorem idx : ∀ t : Fin cfg0.N, win0_0.index t = ![t.val / 11, 0] ∧ win0_1.index t = ![t.val % 11, 0] ∧ win0_2.index t = ![t.val / 11, t.val % 11] :=
  (by decide +kernel : ∀ t : Fin grid0.N, _)

/-- A point's product is the reference's at the place it is stored. -/
theorem point (c : Dev nD) (t : Fin cfg0.N) (y) :
    k0_pay1 (iblk m c 0 t) (iblk m c 1 t) y
      = REF (m ((c : Thread nD τ).loc main_arg1)) (m ((c : Thread nD τ).loc main_arg2)) (((cfg0.win 2).blk t).view.emb y) := by
  pointwise [k0_pay1, REF, Cert.DactReferenceIdeal.Read.val_main_v6, Cert.DactReferenceIdeal.Read.val_main_v3, Cert.DactReferenceIdeal.Read.val_main_v1]
  blk_point [iblk, V, idx t]

/-- The array after the run. -/
theorem final (c : Dev nD) : (dats m 0 c).arrAt 2 (cfgs 0).N = REF (m ((c : Thread nD τ).loc main_arg1)) (m ((c : Thread nD τ).loc main_arg2)) := by
  refine (dats m 0 c).arrAt_eq_of_covers 2 _ (by decide +kernel) fun t hf y => ?_
  blk_simp
  rw [after0_2]
  frame_out
  exact point m c t y

/-- The launch's result is the reference's. -/
theorem algebraic : Cert.algebraic_DactIdeal_DactReferenceIdeal (hDactIdeal := Cert.DactIdeal.Gen.facts)
    (hDactReferenceIdeal := Cert.DactReferenceIdeal.Gen.facts) := by
  intro m g m' g' _ ha
  refine ⟨fun c => REF (m ((c : Thread nD τ).loc main_arg1)) (m ((c : Thread nD τ).loc main_arg2)), ?_, ?_⟩
  · refine (θ_run defs _ _).mono (fun r h c => ?_) (θ_run_and (run_main m g) (unchanged m g))
    exact ⟨(h.1.out_eq c 2).trans (final m c), h.2 c⟩
  · refine (θ_run Cert.DactReferenceIdeal.defs _ _).mono (fun r h c => ?_) (Cert.DactReferenceIdeal.Value.run m' g')
    obtain ⟨a0, a1, a2⟩ := ha c
    obtain ⟨h6, hrest⟩ := h c
    refine ⟨h6.trans ?_, hrest⟩
    rw [Cert.DactReferenceIdeal.Read.val_main_v6_eq, a1, a2]

end Cert.DactIdeal.Val

end
-- ==== Proof.DownGrad.lean ====
/- The gradient of the down projection's weight: the product accumulated over four points is the reference's. -/
module

public import proofs.«01_k».proof.Proof.Gen.GdownIdeal
public import proofs.«01_k».proof.Proof.Gen.GdownIdeal.Skeleton
public import proofs.«01_k».proof.Proof.Gen.GdownIdeal.Launch
public import proofs.«01_k».proof.Proof.Gen.GdownIdeal.Points
public import proofs.«01_k».proof.Proof.Gen.GdownIdeal.Frame
public import proofs.«01_k».proof.Proof.Gen.GdownReferenceIdeal
public import proofs.«01_k».proof.Proof.Gen.GdownReferenceIdeal.Run
public import proofs.«01_k».proof.Proof.Gen.GdownReferenceIdeal.Read
public import proofs.«01_k».proof.Defs
public import Idealize.ShloMosaic.Lib.Pipeline.Value
public import Idealize.ShloMosaic.Lib.Pipeline.ValueKit
public import Idealize.ShloMosaic.Lib.StableHlo.Run

@[expose] public section

set_option maxRecDepth 16384

noncomputable section

namespace Cert.GdownIdeal.Val

open Idealize.ShloMosaic Idealize.ShloMosaic.TcCoe Idealize.ShloMosaic.Tactic Idealize.SL.Sem
open Idealize.ShloMosaic.Pipeline (Dat)
open Cert.GdownIdeal Cert.GdownIdeal.Gen
open scoped BigOperators

variable (m : (ℓ : Loc nD τ sig) → Buf (Elt Ideal) ℓ)

/-- The product of the columns of `a0` with the columns of `a2`. -/
abbrev REF (a0 : FVec Ideal S4096x5632 .bf16) (a2 : FVec Ideal S4096x2048 .bf16) : FVec Ideal S5632x2048 .f32 :=
  Cert.GdownReferenceIdeal.Read.val_main_v5 (F := Ideal) a0 a2

/-- The blocks a point works on. -/
theorem idx : ∀ t : Fin cfg0.N, win0_0.index t = ![t.val % 4, t.val / 8] ∧ win0_1.index t = ![t.val % 4, t.val / 4 % 2] ∧ win0_2.index t = ![t.val / 8, t.val / 4 % 2] :=
  (by decide +kernel : ∀ t : Fin grid0.N, _)

/-- A block's product at an element. -/
def part (x0 : FVec Ideal S1024x1408 .bf16) (x1 : FVec Ideal S1024x1024 .bf16) (y : S1408x1024.Idx) : EReal :=
  ∑ k : Fin 1024, x0 (ix2 k (y 0)) * x1 (ix2 k (y 1))

theorem pay1_at (y : S1408x1024.Idx) : k0_pay1 (F := Ideal) y = (0 : EReal) := by
  pointwise [k0_pay1]

theorem pay2_at (acc : FVec Ideal S1408x1024 .f32) (x0 : FVec Ideal S1024x1408 .bf16) (x1 : FVec Ideal S1024x1024 .bf16) (y : S1408x1024.Idx) :
    k0_pay2 acc x0 x1 y = (acc y : EReal) + part x0 x1 y := by
  pointwise [k0_pay2, part]
  blk_ext

theorem ref_at (a0 : FVec Ideal S4096x5632 .bf16) (a2 : FVec Ideal S4096x2048 .bf16) (j : S5632x2048.Idx) :
    REF a0 a2 j = (∑ k : Fin 4096, a0 (ix2 k (j 0)) * a2 (ix2 k (j 1)) : EReal) := by
  pointwise [REF, Cert.GdownReferenceIdeal.Read.val_main_v5, Cert.GdownReferenceIdeal.Read.val_main_v4, Cert.GdownReferenceIdeal.Read.val_main_v3, Cert.GdownReferenceIdeal.Read.val_main_v0]
  exact Finset.sum_congr rfl fun k _ => mul_comm _ _

/-- The scratch at a run's first point. -/
theorem first (c : Dev nD) (t : Fin cfg0.N) (h : t.val % 4 = 0) (y : S1408x1024.Idx) :
    (outsAt0 m c t.val t.isLt).2 y = (0 : EReal) + part (iblk m c 0 t) (iblk m c 1 t) y := by
  rw [outsAt0_A m c t h (by omega)]
  frame_out
  rw [pay2_at, pay1_at]

/-- The scratch at a later point. -/
theorem next (c : Dev nD) (t : Fin cfg0.N) (h : ¬t.val % 4 = 0) (y : S1408x1024.Idx) :
    (outsAt0 m c t.val t.isLt).2 y = ((outsAt0 m c (t.val - 1) (Nat.lt_of_le_of_lt (Nat.sub_le _ _) t.isLt)).2 y : EReal) + part (iblk m c 0 t) (iblk m c 1 t) y := by
  by_cases h2 : t.val % 4 = 3
  · rw [outsAt0_C m c t h h2]
    frame_out
    rw [pay2_at]
    exact congrArg (· + part (iblk m c 0 t) (iblk m c 1 t) y) (congrFun (Memref.IsWhole.read_unread _ _) y)
  · rw [outsAt0_B m c t h h2]
    frame_out
    rw [pay2_at]
    exact congrArg (· + part (iblk m c 0 t) (iblk m c 1 t) y) (congrFun (Memref.IsWhole.read_unread _ _) y)

/-- The last point writes the scratch out. -/
theorem out_last (c : Dev nD) (t : Fin cfg0.N) (h2 : t.val % 4 = 3) (y : S1408x1024.Idx) :
    (outsAt0 m c t.val t.isLt).1 y = (outsAt0 m c t.val t.isLt).2 y := by
  rw [outsAt0_C m c t (by omega) h2]
  frame_out

/-- The array after the run. -/
theorem final (c : Dev nD) : (dats m 0 c).arrAt 2 (cfgs 0).N = REF (m ((c : Thread nD τ).loc main_arg0)) (m ((c : Thread nD τ).loc main_arg2)) := by
  refine (dats m 0 c).arrAt_eq_of_covers 2 _ (by decide +kernel) fun t hf y => ?_
  blk_simp
  have h3 : t.val % 4 = 3 := (flush0_2 t).mp hf
  rw [after0_2, out_last m c t h3, Pipeline.eq_sum_fin_of_reset_step_apply_of_flush (fun n h => (outsAt0 m c n h).2) 4 (fun _ => 0)
    (fun p j => part (iblk m c 0 p) (iblk m c 1 p) j) (first m c) (next m c) t h3 _, zero_add, ref_at]
  unfold part
  refine Fin.sum_mul_add_congr fun s k hl => ?_
  blk_point [iblk, V, idx t, idx ⟨_, Pipeline.run_point_lt_of_flush t h3 s⟩]

/-- The launch's result is the reference's. -/
theorem algebraic : Cert.algebraic_GdownIdeal_GdownReferenceIdeal (hGdownIdeal := Cert.GdownIdeal.Gen.facts)
    (hGdownReferenceIdeal := Cert.GdownReferenceIdeal.Gen.facts) := by
  intro m g m' g' _ ha
  refine ⟨fun c => REF (m ((c : Thread nD τ).loc main_arg0)) (m ((c : Thread nD τ).loc main_arg2)), ?_, ?_⟩
  · refine (θ_run defs _ _).mono (fun r h c => ?_) (θ_run_and (run_main m g) (unchanged m g))
    exact ⟨(h.1.out_eq c 2).trans (final m c), h.2 c⟩
  · refine (θ_run Cert.GdownReferenceIdeal.defs _ _).mono (fun r h c => ?_) (Cert.GdownReferenceIdeal.Value.run m' g')
    obtain ⟨a0, a1, a2⟩ := ha c
    obtain ⟨h5, hrest⟩ := h c
    refine ⟨h5.trans ?_, hrest⟩
    rw [Cert.GdownReferenceIdeal.Read.val_main_v5_eq, a0, a2]

end Cert.GdownIdeal.Val

end
-- ==== Proof.GateGrad.lean ====
/- The gradient of the gate's half of the up projection's weight, written into its two shards. -/
module

public import proofs.«01_k».proof.Proof.Gen.GgateIdeal
public import proofs.«01_k».proof.Proof.Gen.GgateIdeal.Skeleton
public import proofs.«01_k».proof.Proof.Gen.GgateIdeal.Launch
public import proofs.«01_k».proof.Proof.Gen.GgateIdeal.Points
public import proofs.«01_k».proof.Proof.Gen.GgateIdeal.Frame
public import proofs.«01_k».proof.Proof.Gen.GgateReferenceIdeal
public import proofs.«01_k».proof.Proof.Gen.GgateReferenceIdeal.Run
public import proofs.«01_k».proof.Proof.Gen.GgateReferenceIdeal.Read
public import proofs.«01_k».proof.Defs
public import Idealize.ShloMosaic.Lib.Pipeline.Value
public import Idealize.ShloMosaic.Lib.Pipeline.ValueKit
public import Idealize.ShloMosaic.Lib.StableHlo.Run

@[expose] public section

set_option maxRecDepth 16384

noncomputable section

namespace Cert.GgateIdeal.Val

open Idealize.ShloMosaic Idealize.ShloMosaic.TcCoe Idealize.ShloMosaic.Tactic Idealize.SL.Sem
open Idealize.ShloMosaic.Pipeline (Dat)
open Cert.GgateIdeal Cert.GgateIdeal.Gen
open scoped BigOperators

variable (m : (ℓ : Loc nD τ sig) → Buf (Elt Ideal) ℓ)

/-- The half's gradient in its shards, the other half as it was. -/
abbrev REF (a0 : FVec Ideal S4096x2048 .bf16) (a1 : FVec Ideal S4096x5632 .bf16) (a2 : FVec Ideal S4x2048x2816 .f32) : FVec Ideal S4x2048x2816 .f32 :=
  Cert.GgateReferenceIdeal.Read.val_main_v10 (F := Ideal) a0 a1 a2

/-- The blocks a point works on. -/
theorem idx : ∀ t : Fin cfg0.N, win0_0.index t = ![t.val % 4, t.val / 16] ∧ win0_1.index t = ![t.val % 4, t.val / 4 % 4] ∧ win0_2.index t = ![t.val / 4 % 4 / 2, t.val / 16, t.val / 4 % 4 % 2] :=
  (by decide +kernel : ∀ t : Fin grid0.N, _)

/-- A block's product at an element. -/
def part (x0 : FVec Ideal S1024x1024 .bf16) (x1 : FVec Ideal S1024x1408 .bf16) (y : S1024x1408.Idx) : EReal :=
  ∑ k : Fin 1024, x0 (ix2 k (y 0)) * x1 (ix2 k (y 1))

/-- The product of two columns, the second at its place in the half. -/
def prod (a0 : FVec Ideal S4096x2048 .bf16) (a1 : FVec Ideal S4096x5632 .bf16) (i : S4x2048x2816.Idx) : EReal :=
  ∑ k : Fin 4096, a0 (ix2 k (i 1)) * a1 (ix2 k ⟨((i 0).val * 2816 + (i 2).val) % 5632, Nat.mod_lt _ (by decide)⟩)

theorem pay1_at (y : S1024x1408.Idx) : k0_pay1 (F := Ideal) y = (0 : EReal) := by
  pointwise [k0_pay1]

theorem pay2_at (acc : FVec Ideal S1024x1408 .f32) (x0 : FVec Ideal S1024x1024 .bf16) (x1 : FVec Ideal S1024x1408 .bf16) (y : S1024x1408.Idx) :
    k0_pay2 acc x0 x1 y = (acc y : EReal) + part x0 x1 y := by
  pointwise [k0_pay2, part]
  blk_ext

theorem pay3_at (acc : FVec Ideal S1024x1408 .f32) (y : S1x1024x1408.Idx) : k0_pay3 acc y = acc (ix2 (y 1) (y 2)) := by
  pointwise [k0_pay3]
  blk_ext

theorem ref_at (a0 : FVec Ideal S4096x2048 .bf16) (a1 : FVec Ideal S4096x5632 .bf16) (a2 : FVec Ideal S4x2048x2816 .f32) (i : S4x2048x2816.Idx) :
    REF a0 a1 a2 i = (if (i 0).val < 2 then prod a0 a1 i else a2 i : EReal) := by
  have hi : (i 0).val < 4 := (i 0).isLt
  have hi2 : (i 2).val < 2816 := (i 2).isLt
  pointwise [REF, Cert.GgateReferenceIdeal.Read.val_main_v10, Cert.GgateReferenceIdeal.Read.val_main_v9, Cert.GgateReferenceIdeal.Read.val_main_v8, Cert.GgateReferenceIdeal.Read.val_main_v7, Cert.GgateReferenceIdeal.Read.val_main_v5, Cert.GgateReferenceIdeal.Read.val_main_v4, Cert.GgateReferenceIdeal.Read.val_main_v2, Cert.GgateReferenceIdeal.Read.val_main_v1, prod]
  by_cases h : (i 0).val < 2
  · rw [dif_pos h, if_pos h]
    exact Finset.sum_congr rfl fun k _ => (mul_comm _ _).trans
      (congrArg (fun z => (a0 (ix2 k (i 1)) * a1 (ix2 k z) : EReal)) (Fin.ext (Nat.mod_eq_of_lt (by omega)).symm))
  · rw [dif_neg h, if_neg h]
    blk_ext

/-- The scratch at a run's first point. -/
theorem first (c : Dev nD) (t : Fin cfg0.N) (h : t.val % 4 = 0) (y : S1024x1408.Idx) :
    (outsAt0 m c t.val t.isLt).2 y = (0 : EReal) + part (iblk m c 0 t) (iblk m c 1 t) y := by
  rw [outsAt0_A m c t h (by omega)]
  frame_out
  rw [pay2_at, pay1_at]

/-- The scratch at a later point. -/
theorem next (c : Dev nD) (t : Fin cfg0.N) (h : ¬t.val % 4 = 0) (y : S1024x1408.Idx) :
    (outsAt0 m c t.val t.isLt).2 y = ((outsAt0 m c (t.val - 1) (Nat.lt_of_le_of_lt (Nat.sub_le _ _) t.isLt)).2 y : EReal) + part (iblk m c 0 t) (iblk m c 1 t) y := by
  by_cases h2 : t.val % 4 = 3
  · rw [outsAt0_C m c t h h2]
    frame_out
    rw [pay2_at]
    exact congrArg (· + part (iblk m c 0 t) (iblk m c 1 t) y) (congrFun (Memref.IsWhole.read_unread _ _) y)
  · rw [outsAt0_B m c t h h2]
    frame_out
    rw [pay2_at]
    exact congrArg (· + part (iblk m c 0 t) (iblk m c 1 t) y) (congrFun (Memref.IsWhole.read_unread _ _) y)

/-- The last point writes the scratch out. -/
theorem out_last (c : Dev nD) (t : Fin cfg0.N) (h2 : t.val % 4 = 3) (y : S1x1024x1408.Idx) :
    (outsAt0 m c t.val t.isLt).1 y = (outsAt0 m c t.val t.isLt).2 (ix2 (y 1) (y 2)) := by
  rw [outsAt0_C m c t (by omega) h2]
  frame_out
  rw [pay3_at]

/-- What the result's array holds before the launch. -/
theorem entry (c : Dev nD) : V m c main_v0 = m ((c : Thread nD τ).loc main_arg2) := by
  unfold V
  after_results
  try rfl

/-- The array after the run. -/
theorem final (c : Dev nD) : (dats m 0 c).arrAt 2 (cfgs 0).N = REF (m ((c : Thread nD τ).loc main_arg0)) (m ((c : Thread nD τ).loc main_arg1)) (m ((c : Thread nD τ).loc main_arg2)) := by
  have e : (dats m 0 c).arrAt 2 (cfgs 0).N = fun i => if (i 0 : ℕ) < 2 then prod (m ((c : Thread nD τ).loc main_arg0)) (m ((c : Thread nD τ).loc main_arg1)) i else V m c main_v0 i := by
    refine (dats m 0 c).arrAt_eq_of_coversWhere 2 _ (fun β => β 0 < 2) (by decide +kernel) (fun t hf y => ?_)
      (fun j => by blk_simp [Pipeline.Window.cell_apply]; try omega)
    blk_simp
    have h3 : t.val % 4 = 3 := (flush0_2 t).mp hf
    rw [after0_2, out_last m c t h3, Pipeline.eq_sum_fin_of_reset_step_apply_of_flush (fun n h => (outsAt0 m c n h).2) 4 (fun _ => 0)
      (fun p j => part (iblk m c 0 p) (iblk m c 1 p) j) (first m c) (next m c) t h3 _, zero_add]
    unfold part prod
    refine Fin.sum_mul_add_congr fun s k hl => ?_
    blk_point [iblk, V, idx t, idx ⟨_, Pipeline.run_point_lt_of_flush t h3 s⟩]
  rw [e, entry]
  funext i
  rw [ref_at]

/-- The launch's result is the reference's. -/
theorem algebraic : Cert.algebraic_GgateIdeal_GgateReferenceIdeal (hGgateIdeal := Cert.GgateIdeal.Gen.facts)
    (hGgateReferenceIdeal := Cert.GgateReferenceIdeal.Gen.facts) := by
  intro m g m' g' _ ha
  refine ⟨fun c => REF (m ((c : Thread nD τ).loc main_arg0)) (m ((c : Thread nD τ).loc main_arg1)) (m ((c : Thread nD τ).loc main_arg2)), ?_, ?_⟩
  · refine (θ_run defs _ _).mono (fun r h c => ?_) (θ_run_and (run_main m g) (unchanged m g))
    exact ⟨(h.1.out_eq c 2).trans (final m c), h.2 c⟩
  · refine (θ_run Cert.GgateReferenceIdeal.defs _ _).mono (fun r h c => ?_) (Cert.GgateReferenceIdeal.Value.run m' g')
    obtain ⟨a0, a1, a2⟩ := ha c
    obtain ⟨h10, hrest⟩ := h c
    refine ⟨h10.trans ?_, hrest⟩
    rw [Cert.GgateReferenceIdeal.Read.val_main_v10_eq, a0, a1, a2]

end Cert.GgateIdeal.Val

end
-- ==== Proof.ValGrad.lean ====
/- The gradient of the value's half of the up projection's weight, written into its two shards. -/
module

public import proofs.«01_k».proof.Proof.Gen.GvalIdeal
public import proofs.«01_k».proof.Proof.Gen.GvalIdeal.Skeleton
public import proofs.«01_k».proof.Proof.Gen.GvalIdeal.Launch
public import proofs.«01_k».proof.Proof.Gen.GvalIdeal.Points
public import proofs.«01_k».proof.Proof.Gen.GvalIdeal.Frame
public import proofs.«01_k».proof.Proof.Gen.GvalReferenceIdeal
public import proofs.«01_k».proof.Proof.Gen.GvalReferenceIdeal.Run
public import proofs.«01_k».proof.Proof.Gen.GvalReferenceIdeal.Read
public import proofs.«01_k».proof.Defs
public import Idealize.ShloMosaic.Lib.Pipeline.Value
public import Idealize.ShloMosaic.Lib.Pipeline.ValueKit
public import Idealize.ShloMosaic.Lib.StableHlo.Run

@[expose] public section

set_option maxRecDepth 16384

noncomputable section

namespace Cert.GvalIdeal.Val

open Idealize.ShloMosaic Idealize.ShloMosaic.TcCoe Idealize.ShloMosaic.Tactic Idealize.SL.Sem
open Idealize.ShloMosaic.Pipeline (Dat)
open Cert.GvalIdeal Cert.GvalIdeal.Gen
open scoped BigOperators

variable (m : (ℓ : Loc nD τ sig) → Buf (Elt Ideal) ℓ)

/-- The half's gradient in its shards, the other half as it was. -/
abbrev REF (a0 : FVec Ideal S4096x2048 .bf16) (a1 : FVec Ideal S4096x5632 .bf16) (a2 : FVec Ideal S4x2048x2816 .f32) : FVec Ideal S4x2048x2816 .f32 :=
  Cert.GvalReferenceIdeal.Read.val_main_v10 (F := Ideal) a0 a1 a2

/-- The blocks a point works on. -/
theorem idx : ∀ t : Fin cfg0.N, win0_0.index t = ![t.val % 4, t.val / 16] ∧ win0_1.index t = ![t.val % 4, t.val / 4 % 4] ∧ win0_2.index t = ![t.val / 4 % 4 / 2 + 2, t.val / 16, t.val / 4 % 4 % 2] :=
  (by decide +kernel : ∀ t : Fin grid0.N, _)

/-- A block's product at an element. -/
def part (x0 : FVec Ideal S1024x1024 .bf16) (x1 : FVec Ideal S1024x1408 .bf16) (y : S1024x1408.Idx) : EReal :=
  ∑ k : Fin 1024, x0 (ix2 k (y 0)) * x1 (ix2 k (y 1))

/-- The product of two columns, the second at its place in the half. -/
def prod (a0 : FVec Ideal S4096x2048 .bf16) (a1 : FVec Ideal S4096x5632 .bf16) (i : S4x2048x2816.Idx) : EReal :=
  ∑ k : Fin 4096, a0 (ix2 k (i 1)) * a1 (ix2 k ⟨((i 0).val * 2816 + (i 2).val) % 5632, Nat.mod_lt _ (by decide)⟩)

theorem pay1_at (y : S1024x1408.Idx) : k0_pay1 (F := Ideal) y = (0 : EReal) := by
  pointwise [k0_pay1]

theorem pay2_at (acc : FVec Ideal S1024x1408 .f32) (x0 : FVec Ideal S1024x1024 .bf16) (x1 : FVec Ideal S1024x1408 .bf16) (y : S1024x1408.Idx) :
    k0_pay2 acc x0 x1 y = (acc y : EReal) + part x0 x1 y := by
  pointwise [k0_pay2, part]
  blk_ext

theorem pay3_at (acc : FVec Ideal S1024x1408 .f32) (y : S1x1024x1408.Idx) : k0_pay3 acc y = acc (ix2 (y 1) (y 2)) := by
  pointwise [k0_pay3]
  blk_ext

theorem ref_at (a0 : FVec Ideal S4096x2048 .bf16) (a1 : FVec Ideal S4096x5632 .bf16) (a2 : FVec Ideal S4x2048x2816 .f32) (i : S4x2048x2816.Idx) :
    REF a0 a1 a2 i = (if 2 ≤ (i 0).val then prod a0 a1 i else a2 i : EReal) := by
  have hi : (i 0).val < 4 := (i 0).isLt
  have hi2 : (i 2).val < 2816 := (i 2).isLt
  pointwise [REF, Cert.GvalReferenceIdeal.Read.val_main_v10, Cert.GvalReferenceIdeal.Read.val_main_v9, Cert.GvalReferenceIdeal.Read.val_main_v8, Cert.GvalReferenceIdeal.Read.val_main_v6, Cert.GvalReferenceIdeal.Read.val_main_v5, Cert.GvalReferenceIdeal.Read.val_main_v3, Cert.GvalReferenceIdeal.Read.val_main_v2, Cert.GvalReferenceIdeal.Read.val_main_v0, prod]
  by_cases h : (i 0).val < 2
  · rw [dif_pos h]
    refine Eq.trans ?_ (if_neg (by omega)).symm
    blk_ext
  · rw [dif_neg h]
    refine Eq.trans ?_ (if_pos (by omega)).symm
    exact Finset.sum_congr rfl fun k _ => (mul_comm _ _).trans
      (congrArg (fun z => (a0 (ix2 k (i 1)) * a1 (ix2 k z) : EReal)) (Fin.ext (by show ((i 0).val - 2) * 2816 + (i 2).val = ((i 0).val * 2816 + (i 2).val) % 5632; omega)))

/-- The scratch at a run's first point. -/
theorem first (c : Dev nD) (t : Fin cfg0.N) (h : t.val % 4 = 0) (y : S1024x1408.Idx) :
    (outsAt0 m c t.val t.isLt).2 y = (0 : EReal) + part (iblk m c 0 t) (iblk m c 1 t) y := by
  rw [outsAt0_A m c t h (by omega)]
  frame_out
  rw [pay2_at, pay1_at]

/-- The scratch at a later point. -/
theorem next (c : Dev nD) (t : Fin cfg0.N) (h : ¬t.val % 4 = 0) (y : S1024x1408.Idx) :
    (outsAt0 m c t.val t.isLt).2 y = ((outsAt0 m c (t.val - 1) (Nat.lt_of_le_of_lt (Nat.sub_le _ _) t.isLt)).2 y : EReal) + part (iblk m c 0 t) (iblk m c 1 t) y := by
  by_cases h2 : t.val % 4 = 3
  · rw [outsAt0_C m c t h h2]
    frame_out
    rw [pay2_at]
    exact congrArg (· + part (iblk m c 0 t) (iblk m c 1 t) y) (congrFun (Memref.IsWhole.read_unread _ _) y)
  · rw [outsAt0_B m c t h h2]
    frame_out
    rw [pay2_at]
    exact congrArg (· + part (iblk m c 0 t) (iblk m c 1 t) y) (congrFun (Memref.IsWhole.read_unread _ _) y)

/-- The last point writes the scratch out. -/
theorem out_last (c : Dev nD) (t : Fin cfg0.N) (h2 : t.val % 4 = 3) (y : S1x1024x1408.Idx) :
    (outsAt0 m c t.val t.isLt).1 y = (outsAt0 m c t.val t.isLt).2 (ix2 (y 1) (y 2)) := by
  rw [outsAt0_C m c t (by omega) h2]
  frame_out
  rw [pay3_at]

/-- What the result's array holds before the launch. -/
theorem entry (c : Dev nD) : V m c main_v0 = m ((c : Thread nD τ).loc main_arg2) := by
  unfold V
  after_results
  try rfl

/-- The array after the run. -/
theorem final (c : Dev nD) : (dats m 0 c).arrAt 2 (cfgs 0).N = REF (m ((c : Thread nD τ).loc main_arg0)) (m ((c : Thread nD τ).loc main_arg1)) (m ((c : Thread nD τ).loc main_arg2)) := by
  have e : (dats m 0 c).arrAt 2 (cfgs 0).N = fun i => if 2 ≤ (i 0 : ℕ) then prod (m ((c : Thread nD τ).loc main_arg0)) (m ((c : Thread nD τ).loc main_arg1)) i else V m c main_v0 i := by
    refine (dats m 0 c).arrAt_eq_of_coversWhere 2 _ (fun β => 2 ≤ β 0) (by decide +kernel) (fun t hf y => ?_)
      (fun j => by blk_simp [Pipeline.Window.cell_apply]; try omega)
    blk_simp
    have h3 : t.val % 4 = 3 := (flush0_2 t).mp hf
    rw [after0_2, out_last m c t h3, Pipeline.eq_sum_fin_of_reset_step_apply_of_flush (fun n h => (outsAt0 m c n h).2) 4 (fun _ => 0)
      (fun p j => part (iblk m c 0 p) (iblk m c 1 p) j) (first m c) (next m c) t h3 _, zero_add]
    unfold part prod
    refine Fin.sum_mul_add_congr fun s k hl => ?_
    blk_point [iblk, V, idx t, idx ⟨_, Pipeline.run_point_lt_of_flush t h3 s⟩]
  rw [e, entry]
  funext i
  rw [ref_at]

/-- The launch's result is the reference's. -/
theorem algebraic : Cert.algebraic_GvalIdeal_GvalReferenceIdeal (hGvalIdeal := Cert.GvalIdeal.Gen.facts)
    (hGvalReferenceIdeal := Cert.GvalReferenceIdeal.Gen.facts) := by
  intro m g m' g' _ ha
  refine ⟨fun c => REF (m ((c : Thread nD τ).loc main_arg0)) (m ((c : Thread nD τ).loc main_arg1)) (m ((c : Thread nD τ).loc main_arg2)), ?_, ?_⟩
  · refine (θ_run defs _ _).mono (fun r h c => ?_) (θ_run_and (run_main m g) (unchanged m g))
    exact ⟨(h.1.out_eq c 2).trans (final m c), h.2 c⟩
  · refine (θ_run Cert.GvalReferenceIdeal.defs _ _).mono (fun r h c => ?_) (Cert.GvalReferenceIdeal.Value.run m' g')
    obtain ⟨a0, a1, a2⟩ := ha c
    obtain ⟨h10, hrest⟩ := h c
    refine ⟨h10.trans ?_, hrest⟩
    rw [Cert.GvalReferenceIdeal.Read.val_main_v10_eq, a0, a1, a2]

end Cert.GvalIdeal.Val

end
-- ==== Proof.HiddenGrad.lean ====
/- The gradient of the up projection's input: eight products, four of each half, added up in the scratch are the reference's one product. -/
module

public import proofs.«01_k».proof.Proof.Gen.DhnIdeal
public import proofs.«01_k».proof.Proof.Gen.DhnIdeal.Skeleton
public import proofs.«01_k».proof.Proof.Gen.DhnIdeal.Launch
public import proofs.«01_k».proof.Proof.Gen.DhnIdeal.Points
public import proofs.«01_k».proof.Proof.Gen.DhnIdeal.Frame
public import proofs.«01_k».proof.Proof.Gen.DhnReferenceIdeal
public import proofs.«01_k».proof.Proof.Gen.DhnReferenceIdeal.Run
public import proofs.«01_k».proof.Proof.Gen.DhnReferenceIdeal.Read
public import proofs.«01_k».proof.Defs
public import Idealize.ShloMosaic.Lib.Pipeline.Value
public import Idealize.ShloMosaic.Lib.Pipeline.ValueKit
public import Idealize.ShloMosaic.Lib.StableHlo.Run

@[expose] public section

set_option maxRecDepth 16384

noncomputable section

namespace Cert.DhnIdeal.Val

open Idealize.ShloMosaic Idealize.ShloMosaic.TcCoe Idealize.ShloMosaic.Tactic Idealize.SL.Sem
open Idealize.ShloMosaic.Pipeline (Dat)
open Cert.DhnIdeal Cert.DhnIdeal.Gen
open scoped BigOperators

variable (m : (ℓ : Loc nD τ sig) → Buf (Elt Ideal) ℓ)

/-- The product of the rows of the two halves side by side with the rows of the shards side by side. -/
abbrev REF (a0 : FVec Ideal S4x2048x2816 .bf16) (a1 a2 : FVec Ideal S4096x5632 .bf16) : FVec Ideal S4096x2048 .f32 :=
  Cert.DhnReferenceIdeal.Read.val_main_v9 (F := Ideal) a0 a1 a2

/-- The blocks a point works on. -/
theorem idx : ∀ t : Fin cfg0.N, win0_0.index t = ![t.val / 16, min (t.val % 8) 3] ∧ win0_1.index t = ![t.val / 16, t.val % 8 - 4]
    ∧ win0_2.index t = ![min (t.val % 8) 3 / 2, t.val / 8 % 2, min (t.val % 8) 3 % 2]
    ∧ win0_3.index t = ![(t.val % 8 - 4) / 2 + 2, t.val / 8 % 2, (t.val % 8 - 4) % 2] ∧ win0_4.index t = ![t.val / 16, t.val / 8 % 2] :=
  (by decide +kernel : ∀ t : Fin grid0.N, _)

/-- A block's product at an element. -/
def part (x : FVec Ideal S1024x1408 .bf16) (w : FVec Ideal S1x1024x1408 .bf16) (y : S1024x1024.Idx) : EReal :=
  ∑ k : Fin 1408, x (ix2 (y 0) k) * w (ix3 0 (y 1) k)

/-- What a point adds: a block of the first half in the first four points, of the second in the rest. -/
def term (c : Dev nD) (t : Fin cfg0.N) (y : S1024x1024.Idx) : EReal :=
  ∑ k : Fin 1408, if t.val % 8 ≤ 3 then (show FVec Ideal S1024x1408 .bf16 from iblk m c 0 t) (ix2 (y 0) k) * (show FVec Ideal S1x1024x1408 .bf16 from iblk m c 2 t) (ix3 0 (y 1) k)
    else (show FVec Ideal S1024x1408 .bf16 from iblk m c 1 t) (ix2 (y 0) k) * (show FVec Ideal S1x1024x1408 .bf16 from iblk m c 3 t) (ix3 0 (y 1) k)

theorem term_low (c : Dev nD) (t : Fin cfg0.N) (h : t.val % 8 ≤ 3) (y : S1024x1024.Idx) : term m c t y = part (iblk m c 0 t) (iblk m c 2 t) y :=
  Finset.sum_congr rfl fun k _ => if_pos h

theorem term_high (c : Dev nD) (t : Fin cfg0.N) (h : ¬t.val % 8 ≤ 3) (y : S1024x1024.Idx) : term m c t y = part (iblk m c 1 t) (iblk m c 3 t) y :=
  Finset.sum_congr rfl fun k _ => if_neg h

theorem pay1_at (y : S1024x1024.Idx) : k0_pay1 (F := Ideal) y = (0 : EReal) := by
  pointwise [k0_pay1]

theorem pay2_at (acc : FVec Ideal S1024x1024 .f32) (x : FVec Ideal S1024x1408 .bf16) (w : FVec Ideal S1x1024x1408 .bf16) (y : S1024x1024.Idx) :
    k0_pay2 acc x w y = (acc y : EReal) + part x w y := by
  pointwise [k0_pay2, part]
  blk_ext

theorem pay3_at (acc : FVec Ideal S1024x1024 .f32) (x : FVec Ideal S1024x1408 .bf16) (w : FVec Ideal S1x1024x1408 .bf16) (y : S1024x1024.Idx) :
    k0_pay3 acc x w y = (acc y : EReal) + part x w y := by
  pointwise [k0_pay3, part]
  blk_ext

/-- The two halves side by side, at a row and a column. -/
def both (a1 a2 : FVec Ideal S4096x5632 .bf16) (r : Fin 4096) (l : Fin 11264) : EReal :=
  if h : l.val < 5632 then a1 (ix2 r ⟨l.val, h⟩) else a2 (ix2 r ⟨l.val - 5632, by omega⟩)

/-- The shards side by side, at a row and a column. -/
def wide (a0 : FVec Ideal S4x2048x2816 .bf16) (r : Fin 2048) (l : Fin 11264) : EReal :=
  a0 (ix3 ⟨l.val / 2816, by omega⟩ r ⟨l.val % 2816, Nat.mod_lt _ (by decide)⟩)

theorem ref_at (a0 : FVec Ideal S4x2048x2816 .bf16) (a1 a2 : FVec Ideal S4096x5632 .bf16) (j : S4096x2048.Idx) :
    REF a0 a1 a2 j = (∑ l : Fin 11264, both a1 a2 (j 0) l * wide a0 (j 1) l : EReal) := by
  pointwise [REF, Cert.DhnReferenceIdeal.Read.val_main_v9, Cert.DhnReferenceIdeal.Read.val_main_v5, Cert.DhnReferenceIdeal.Read.val_main_v4, Cert.DhnReferenceIdeal.Read.val_main_v2, Cert.DhnReferenceIdeal.Read.val_main_v1, Cert.DhnReferenceIdeal.Read.val_main_v0, both, wide]

/-- The scratch at a run's first point. -/
theorem first (c : Dev nD) (t : Fin cfg0.N) (h : t.val % 8 = 0) (y : S1024x1024.Idx) :
    (outsAt0 m c t.val t.isLt).2 y = (0 : EReal) + term m c t y := by
  rw [outsAt0_A m c t h (by omega) (by omega) (by omega), term_low m c t (by omega)]
  frame_out
  rw [pay2_at, pay1_at]

/-- The scratch at a later point. -/
theorem next (c : Dev nD) (t : Fin cfg0.N) (h : ¬t.val % 8 = 0) (y : S1024x1024.Idx) :
    (outsAt0 m c t.val t.isLt).2 y = ((outsAt0 m c (t.val - 1) (Nat.lt_of_le_of_lt (Nat.sub_le _ _) t.isLt)).2 y : EReal) + term m c t y := by
  by_cases h1 : t.val % 8 ≤ 3
  · rw [outsAt0_B m c t h h1 (by omega) (by omega), term_low m c t h1]
    frame_out
    rw [pay2_at]
    exact congrArg (· + part (iblk m c 0 t) (iblk m c 2 t) y) (congrFun (Memref.IsWhole.read_unread _ _) y)
  · rw [term_high m c t h1]
    by_cases h3 : t.val % 8 = 7
    · rw [outsAt0_D m c t h h1 (by omega) h3]
      frame_out
      rw [pay3_at]
      exact congrArg (· + part (iblk m c 1 t) (iblk m c 3 t) y) (congrFun (Memref.IsWhole.read_unread _ _) y)
    · rw [outsAt0_C m c t h h1 (by omega) h3]
      frame_out
      rw [pay3_at]
      exact congrArg (· + part (iblk m c 1 t) (iblk m c 3 t) y) (congrFun (Memref.IsWhole.read_unread _ _) y)

/-- The last point writes the scratch out. -/
theorem out_last (c : Dev nD) (t : Fin cfg0.N) (h3 : t.val % 8 = 7) (y : S1024x1024.Idx) :
    (outsAt0 m c t.val t.isLt).1 y = (outsAt0 m c t.val t.isLt).2 y := by
  rw [outsAt0_D m c t (by omega) (by omega) (by omega) h3]
  frame_out

/-- The array after the run. -/
theorem final (c : Dev nD) : (dats m 0 c).arrAt 4 (cfgs 0).N = REF (m ((c : Thread nD τ).loc main_arg0)) (m ((c : Thread nD τ).loc main_arg1)) (m ((c : Thread nD τ).loc main_arg2)) := by
  refine (dats m 0 c).arrAt_eq_of_covers 4 _ (by decide +kernel) fun t hf y => ?_
  blk_simp
  have h7 : t.val % 8 = 7 := (flush0_4 t).mp hf
  rw [after0_4, out_last m c t h7, Pipeline.eq_sum_fin_of_reset_step_apply_of_flush (fun n h => (outsAt0 m c n h).2) 8 (fun _ => 0)
    (fun p j => term m c p j) (first m c) (next m c) t h7 _, zero_add, ref_at]
  unfold term
  refine Fin.sum_mul_add_congr fun s k hl => ?_
  have hs : (8 * (t.val / 8) + s.val) % 8 = s.val := by omega
  have ix := idx ⟨_, Pipeline.run_point_lt_of_flush t h7 s⟩
  by_cases h1 : s.val ≤ 3
  · refine (if_pos (by show (8 * (t.val / 8) + s.val) % 8 ≤ 3; omega)).trans ?_
    unfold both wide
    rw [dif_pos (by show s.val * 1408 + k.val < 5632; omega)]
    blk_point [iblk, V, idx t, ix]
  · refine (if_neg (by show ¬(8 * (t.val / 8) + s.val) % 8 ≤ 3; omega)).trans ?_
    unfold both wide
    rw [dif_neg (by show ¬s.val * 1408 + k.val < 5632; omega)]
    blk_point [iblk, V, idx t, ix]

/-- The launch's result is the reference's. -/
theorem algebraic : Cert.algebraic_DhnIdeal_DhnReferenceIdeal (hDhnIdeal := Cert.DhnIdeal.Gen.facts)
    (hDhnReferenceIdeal := Cert.DhnReferenceIdeal.Gen.facts) := by
  intro m g m' g' _ ha
  refine ⟨fun c => REF (m ((c : Thread nD τ).loc main_arg0)) (m ((c : Thread nD τ).loc main_arg1)) (m ((c : Thread nD τ).loc main_arg2)), ?_, ?_⟩
  · refine (θ_run defs _ _).mono (fun r h c => ?_) (θ_run_and (run_main m g) (unchanged m g))
    exact ⟨(h.1.out_eq c 4).trans (final m c), h.2 c⟩
  · refine (θ_run Cert.DhnReferenceIdeal.defs _ _).mono (fun r h c => ?_) (Cert.DhnReferenceIdeal.Value.run m' g')
    obtain ⟨a0, a1, a2⟩ := ha c
    obtain ⟨h9, hrest⟩ := h c
    refine ⟨h9.trans ?_, hrest⟩
    rw [Cert.DhnReferenceIdeal.Read.val_main_v9_eq, a0, a1, a2]

end Cert.DhnIdeal.Val

end
-- ==== Proof.MixGrad.lean ====
/- The gradient of the output projection's input: a block of the launch's product is the reference's product there. -/
module

public import proofs.«01_k».proof.Proof.Gen.DmixIdeal
public import proofs.«01_k».proof.Proof.Gen.DmixIdeal.Skeleton
public import proofs.«01_k».proof.Proof.Gen.DmixIdeal.Launch
public import proofs.«01_k».proof.Proof.Gen.DmixIdeal.Points
public import proofs.«01_k».proof.Proof.Gen.DmixIdeal.Frame
public import proofs.«01_k».proof.Proof.Gen.DmixReferenceIdeal
public import proofs.«01_k».proof.Proof.Gen.DmixReferenceIdeal.Run
public import proofs.«01_k».proof.Proof.Gen.DmixReferenceIdeal.Read
public import proofs.«01_k».proof.Defs
public import Idealize.ShloMosaic.Lib.Pipeline.Value
public import Idealize.ShloMosaic.Lib.Pipeline.ValueKit
public import Idealize.ShloMosaic.Lib.StableHlo.Run

@[expose] public section

set_option maxRecDepth 16384

noncomputable section

namespace Cert.DmixIdeal.Val

open Idealize.ShloMosaic Idealize.ShloMosaic.TcCoe Idealize.ShloMosaic.Tactic Idealize.SL.Sem
open Idealize.ShloMosaic.Pipeline (Dat)
open Cert.DmixIdeal Cert.DmixIdeal.Gen
open scoped BigOperators

variable (m : (ℓ : Loc nD τ sig) → Buf (Elt Ideal) ℓ)

/-- The product of the rows of `a1` with the rows of `a0`. -/
abbrev REF (a0 : FVec Ideal S2048x2048 .bf16) (a1 : FVec Ideal S4096x2048 .bf16) : FVec Ideal S4096x2048 .f32 :=
  Cert.DmixReferenceIdeal.Read.val_main_v6 (F := Ideal) a0 a1

/-- The blocks a point works on. -/
theorem idx : ∀ t : Fin cfg0.N, win0_0.index t = ![t.val / 4, 0] ∧ win0_1.index t = ![t.val % 4, 0] ∧ win0_2.index t = ![t.val / 4, t.val % 4] :=
  (by decide +kernel : ∀ t : Fin grid0.N, _)

/-- A point's product is the reference's at the place it is stored. -/
theorem point (c : Dev nD) (t : Fin cfg0.N) (y) :
    k0_pay1 (iblk m c 0 t) (iblk m c 1 t) y
      = REF (m ((c : Thread nD τ).loc main_arg0)) (m ((c : Thread nD τ).loc main_arg1)) (((cfg0.win 2).blk t).view.emb y) := by
  pointwise [k0_pay1, REF, Cert.DmixReferenceIdeal.Read.val_main_v6, Cert.DmixReferenceIdeal.Read.val_main_v2, Cert.DmixReferenceIdeal.Read.val_main_v1]
  blk_point [iblk, V, idx t]

/-- The array after the run. -/
theorem final (c : Dev nD) : (dats m 0 c).arrAt 2 (cfgs 0).N = REF (m ((c : Thread nD τ).loc main_arg0)) (m ((c : Thread nD τ).loc main_arg1)) := by
  refine (dats m 0 c).arrAt_eq_of_covers 2 _ (by decide +kernel) fun t hf y => ?_
  blk_simp
  rw [after0_2]
  frame_out
  exact point m c t y

/-- The launch's result is the reference's. -/
theorem algebraic : Cert.algebraic_DmixIdeal_DmixReferenceIdeal (hDmixIdeal := Cert.DmixIdeal.Gen.facts)
    (hDmixReferenceIdeal := Cert.DmixReferenceIdeal.Gen.facts) := by
  intro m g m' g' _ ha
  refine ⟨fun c => REF (m ((c : Thread nD τ).loc main_arg0)) (m ((c : Thread nD τ).loc main_arg1)), ?_, ?_⟩
  · refine (θ_run defs _ _).mono (fun r h c => ?_) (θ_run_and (run_main m g) (unchanged m g))
    exact ⟨(h.1.out_eq c 2).trans (final m c), h.2 c⟩
  · refine (θ_run Cert.DmixReferenceIdeal.defs _ _).mono (fun r h c => ?_) (Cert.DmixReferenceIdeal.Value.run m' g')
    obtain ⟨a0, a1⟩ := ha c
    obtain ⟨h6, hrest⟩ := h c
    refine ⟨h6.trans ?_, hrest⟩
    rw [Cert.DmixReferenceIdeal.Read.val_main_v6_eq, a0, a1]

end Cert.DmixIdeal.Val

end
-- ==== Proof.OutGrad.lean ====
/- The gradient of half of the output projection's weight: the product accumulated over four points is the reference's. -/
module

public import proofs.«01_k».proof.Proof.Gen.GoutIdeal
public import proofs.«01_k».proof.Proof.Gen.GoutIdeal.Skeleton
public import proofs.«01_k».proof.Proof.Gen.GoutIdeal.Launch
public import proofs.«01_k».proof.Proof.Gen.GoutIdeal.Points
public import proofs.«01_k».proof.Proof.Gen.GoutIdeal.Frame
public import proofs.«01_k».proof.Proof.Gen.GoutReferenceIdeal
public import proofs.«01_k».proof.Proof.Gen.GoutReferenceIdeal.Run
public import proofs.«01_k».proof.Proof.Gen.GoutReferenceIdeal.Read
public import proofs.«01_k».proof.Defs
public import Idealize.ShloMosaic.Lib.Pipeline.Value
public import Idealize.ShloMosaic.Lib.Pipeline.ValueKit
public import Idealize.ShloMosaic.Lib.StableHlo.Run

@[expose] public section

set_option maxRecDepth 16384

noncomputable section

namespace Cert.GoutIdeal.Val

open Idealize.ShloMosaic Idealize.ShloMosaic.TcCoe Idealize.ShloMosaic.Tactic Idealize.SL.Sem
open Idealize.ShloMosaic.Pipeline (Dat)
open Cert.GoutIdeal Cert.GoutIdeal.Gen
open scoped BigOperators

variable (m : (ℓ : Loc nD τ sig) → Buf (Elt Ideal) ℓ)

/-- The product of the columns of `a0` with the columns of `a1`. -/
abbrev REF (a0 : FVec Ideal S4096x1024 .bf16) (a1 : FVec Ideal S4096x2048 .bf16) : FVec Ideal S1024x2048 .f32 :=
  Cert.GoutReferenceIdeal.Read.val_main_v5 (F := Ideal) a0 a1

/-- The blocks a point works on. -/
theorem idx : ∀ t : Fin cfg0.N, win0_0.index t = ![t.val % 4, 0] ∧ win0_1.index t = ![t.val % 4, t.val / 4 % 2] ∧ win0_2.index t = ![0, t.val / 4 % 2] :=
  (by decide +kernel : ∀ t : Fin grid0.N, _)

/-- A block's product at an element. -/
def part (x0 : FVec Ideal S1024x1024 .bf16) (x1 : FVec Ideal S1024x1024 .bf16) (y : S1024x1024.Idx) : EReal :=
  ∑ k : Fin 1024, x0 (ix2 k (y 0)) * x1 (ix2 k (y 1))

theorem pay1_at (y : S1024x1024.Idx) : k0_pay1 (F := Ideal) y = (0 : EReal) := by
  pointwise [k0_pay1]

theorem pay2_at (acc : FVec Ideal S1024x1024 .f32) (x0 : FVec Ideal S1024x1024 .bf16) (x1 : FVec Ideal S1024x1024 .bf16) (y : S1024x1024.Idx) :
    k0_pay2 acc x0 x1 y = (acc y : EReal) + part x0 x1 y := by
  pointwise [k0_pay2, part]
  blk_ext

theorem ref_at (a0 : FVec Ideal S4096x1024 .bf16) (a1 : FVec Ideal S4096x2048 .bf16) (j : S1024x2048.Idx) :
    REF a0 a1 j = (∑ k : Fin 4096, a0 (ix2 k (j 0)) * a1 (ix2 k (j 1)) : EReal) := by
  pointwise [REF, Cert.GoutReferenceIdeal.Read.val_main_v5, Cert.GoutReferenceIdeal.Read.val_main_v4, Cert.GoutReferenceIdeal.Read.val_main_v2, Cert.GoutReferenceIdeal.Read.val_main_v1]
  exact Finset.sum_congr rfl fun k _ => mul_comm _ _

/-- The scratch at a run's first point. -/
theorem first (c : Dev nD) (t : Fin cfg0.N) (h : t.val % 4 = 0) (y : S1024x1024.Idx) :
    (outsAt0 m c t.val t.isLt).2 y = (0 : EReal) + part (iblk m c 0 t) (iblk m c 1 t) y := by
  rw [outsAt0_A m c t h (by omega)]
  frame_out
  rw [pay2_at, pay1_at]

/-- The scratch at a later point. -/
theorem next (c : Dev nD) (t : Fin cfg0.N) (h : ¬t.val % 4 = 0) (y : S1024x1024.Idx) :
    (outsAt0 m c t.val t.isLt).2 y = ((outsAt0 m c (t.val - 1) (Nat.lt_of_le_of_lt (Nat.sub_le _ _) t.isLt)).2 y : EReal) + part (iblk m c 0 t) (iblk m c 1 t) y := by
  by_cases h2 : t.val % 4 = 3
  · rw [outsAt0_C m c t h h2]
    frame_out
    rw [pay2_at]
    exact congrArg (· + part (iblk m c 0 t) (iblk m c 1 t) y) (congrFun (Memref.IsWhole.read_unread _ _) y)
  · rw [outsAt0_B m c t h h2]
    frame_out
    rw [pay2_at]
    exact congrArg (· + part (iblk m c 0 t) (iblk m c 1 t) y) (congrFun (Memref.IsWhole.read_unread _ _) y)

/-- The last point writes the scratch out. -/
theorem out_last (c : Dev nD) (t : Fin cfg0.N) (h2 : t.val % 4 = 3) (y : S1024x1024.Idx) :
    (outsAt0 m c t.val t.isLt).1 y = (outsAt0 m c t.val t.isLt).2 y := by
  rw [outsAt0_C m c t (by omega) h2]
  frame_out

/-- The array after the run. -/
theorem final (c : Dev nD) : (dats m 0 c).arrAt 2 (cfgs 0).N = REF (m ((c : Thread nD τ).loc main_arg0)) (m ((c : Thread nD τ).loc main_arg1)) := by
  refine (dats m 0 c).arrAt_eq_of_covers 2 _ (by decide +kernel) fun t hf y => ?_
  blk_simp
  have h3 : t.val % 4 = 3 := (flush0_2 t).mp hf
  rw [after0_2, out_last m c t h3, Pipeline.eq_sum_fin_of_reset_step_apply_of_flush (fun n h => (outsAt0 m c n h).2) 4 (fun _ => 0)
    (fun p j => part (iblk m c 0 p) (iblk m c 1 p) j) (first m c) (next m c) t h3 _, zero_add, ref_at]
  unfold part
  refine Fin.sum_mul_add_congr fun s k hl => ?_
  blk_point [iblk, V, idx t, idx ⟨_, Pipeline.run_point_lt_of_flush t h3 s⟩]

/-- The launch's result is the reference's. -/
theorem algebraic : Cert.algebraic_GoutIdeal_GoutReferenceIdeal (hGoutIdeal := Cert.GoutIdeal.Gen.facts)
    (hGoutReferenceIdeal := Cert.GoutReferenceIdeal.Gen.facts) := by
  intro m g m' g' _ ha
  refine ⟨fun c => REF (m ((c : Thread nD τ).loc main_arg0)) (m ((c : Thread nD τ).loc main_arg1)), ?_, ?_⟩
  · refine (θ_run defs _ _).mono (fun r h c => ?_) (θ_run_and (run_main m g) (unchanged m g))
    exact ⟨(h.1.out_eq c 2).trans (final m c), h.2 c⟩
  · refine (θ_run Cert.GoutReferenceIdeal.defs _ _).mono (fun r h c => ?_) (Cert.GoutReferenceIdeal.Value.run m' g')
    obtain ⟨a0, a1⟩ := ha c
    obtain ⟨h5, hrest⟩ := h c
    refine ⟨h5.trans ?_, hrest⟩
    rw [Cert.GoutReferenceIdeal.Read.val_main_v5_eq, a0, a1]

end Cert.GoutIdeal.Val

end
-- ==== Proof.InGrad.lean ====
/- The gradient of a block of 1024 columns of the input projection's weight: the product accumulated over four points is the reference's. -/
module

public import proofs.«01_k».proof.Proof.Gen.GinIdeal
public import proofs.«01_k».proof.Proof.Gen.GinIdeal.Skeleton
public import proofs.«01_k».proof.Proof.Gen.GinIdeal.Launch
public import proofs.«01_k».proof.Proof.Gen.GinIdeal.Points
public import proofs.«01_k».proof.Proof.Gen.GinIdeal.Frame
public import proofs.«01_k».proof.Proof.Gen.GinReferenceIdeal
public import proofs.«01_k».proof.Proof.Gen.GinReferenceIdeal.Run
public import proofs.«01_k».proof.Proof.Gen.GinReferenceIdeal.Read
public import proofs.«01_k».proof.Defs
public import Idealize.ShloMosaic.Lib.Pipeline.Value
public import Idealize.ShloMosaic.Lib.Pipeline.ValueKit
public import Idealize.ShloMosaic.Lib.StableHlo.Run

@[expose] public section

set_option maxRecDepth 16384

noncomputable section

namespace Cert.GinIdeal.Val

open Idealize.ShloMosaic Idealize.ShloMosaic.TcCoe Idealize.ShloMosaic.Tactic Idealize.SL.Sem
open Idealize.ShloMosaic.Pipeline (Dat)
open Cert.GinIdeal Cert.GinIdeal.Gen
open scoped BigOperators

variable (m : (ℓ : Loc nD τ sig) → Buf (Elt Ideal) ℓ)

/-- The product of the columns of `a0` with the columns of `a1`. -/
abbrev REF (a0 : FVec Ideal S4096x2048 .bf16) (a1 : FVec Ideal S4096x1024 .bf16) : FVec Ideal S2048x1024 .f32 :=
  Cert.GinReferenceIdeal.Read.val_main_v5 (F := Ideal) a0 a1

/-- The blocks a point works on. -/
theorem idx : ∀ t : Fin cfg0.N, win0_0.index t = ![t.val % 4, t.val / 4] ∧ win0_1.index t = ![t.val % 4, 0] ∧ win0_2.index t = ![t.val / 4, 0] :=
  (by decide +kernel : ∀ t : Fin grid0.N, _)

/-- A block's product at an element. -/
def part (x0 : FVec Ideal S1024x1024 .bf16) (x1 : FVec Ideal S1024x1024 .bf16) (y : S1024x1024.Idx) : EReal :=
  ∑ k : Fin 1024, x0 (ix2 k (y 0)) * x1 (ix2 k (y 1))

theorem pay1_at (y : S1024x1024.Idx) : k0_pay1 (F := Ideal) y = (0 : EReal) := by
  pointwise [k0_pay1]

theorem pay2_at (acc : FVec Ideal S1024x1024 .f32) (x0 : FVec Ideal S1024x1024 .bf16) (x1 : FVec Ideal S1024x1024 .bf16) (y : S1024x1024.Idx) :
    k0_pay2 acc x0 x1 y = (acc y : EReal) + part x0 x1 y := by
  pointwise [k0_pay2, part]
  blk_ext

theorem ref_at (a0 : FVec Ideal S4096x2048 .bf16) (a1 : FVec Ideal S4096x1024 .bf16) (j : S2048x1024.Idx) :
    REF a0 a1 j = (∑ k : Fin 4096, a0 (ix2 k (j 0)) * a1 (ix2 k (j 1)) : EReal) := by
  pointwise [REF, Cert.GinReferenceIdeal.Read.val_main_v5, Cert.GinReferenceIdeal.Read.val_main_v4, Cert.GinReferenceIdeal.Read.val_main_v2, Cert.GinReferenceIdeal.Read.val_main_v1]
  exact Finset.sum_congr rfl fun k _ => mul_comm _ _

/-- The scratch at a run's first point. -/
theorem first (c : Dev nD) (t : Fin cfg0.N) (h : t.val % 4 = 0) (y : S1024x1024.Idx) :
    (outsAt0 m c t.val t.isLt).2 y = (0 : EReal) + part (iblk m c 0 t) (iblk m c 1 t) y := by
  rw [outsAt0_A m c t h (by omega)]
  frame_out
  rw [pay2_at, pay1_at]

/-- The scratch at a later point. -/
theorem next (c : Dev nD) (t : Fin cfg0.N) (h : ¬t.val % 4 = 0) (y : S1024x1024.Idx) :
    (outsAt0 m c t.val t.isLt).2 y = ((outsAt0 m c (t.val - 1) (Nat.lt_of_le_of_lt (Nat.sub_le _ _) t.isLt)).2 y : EReal) + part (iblk m c 0 t) (iblk m c 1 t) y := by
  by_cases h2 : t.val % 4 = 3
  · rw [outsAt0_C m c t h h2]
    frame_out
    rw [pay2_at]
    exact congrArg (· + part (iblk m c 0 t) (iblk m c 1 t) y) (congrFun (Memref.IsWhole.read_unread _ _) y)
  · rw [outsAt0_B m c t h h2]
    frame_out
    rw [pay2_at]
    exact congrArg (· + part (iblk m c 0 t) (iblk m c 1 t) y) (congrFun (Memref.IsWhole.read_unread _ _) y)

/-- The last point writes the scratch out. -/
theorem out_last (c : Dev nD) (t : Fin cfg0.N) (h2 : t.val % 4 = 3) (y : S1024x1024.Idx) :
    (outsAt0 m c t.val t.isLt).1 y = (outsAt0 m c t.val t.isLt).2 y := by
  rw [outsAt0_C m c t (by omega) h2]
  frame_out

/-- The array after the run. -/
theorem final (c : Dev nD) : (dats m 0 c).arrAt 2 (cfgs 0).N = REF (m ((c : Thread nD τ).loc main_arg0)) (m ((c : Thread nD τ).loc main_arg1)) := by
  refine (dats m 0 c).arrAt_eq_of_covers 2 _ (by decide +kernel) fun t hf y => ?_
  blk_simp
  have h3 : t.val % 4 = 3 := (flush0_2 t).mp hf
  rw [after0_2, out_last m c t h3, Pipeline.eq_sum_fin_of_reset_step_apply_of_flush (fun n h => (outsAt0 m c n h).2) 4 (fun _ => 0)
    (fun p j => part (iblk m c 0 p) (iblk m c 1 p) j) (first m c) (next m c) t h3 _, zero_add, ref_at]
  unfold part
  refine Fin.sum_mul_add_congr fun s k hl => ?_
  blk_point [iblk, V, idx t, idx ⟨_, Pipeline.run_point_lt_of_flush t h3 s⟩]

/-- The launch's result is the reference's. -/
theorem algebraic : Cert.algebraic_GinIdeal_GinReferenceIdeal (hGinIdeal := Cert.GinIdeal.Gen.facts)
    (hGinReferenceIdeal := Cert.GinReferenceIdeal.Gen.facts) := by
  intro m g m' g' _ ha
  refine ⟨fun c => REF (m ((c : Thread nD τ).loc main_arg0)) (m ((c : Thread nD τ).loc main_arg1)), ?_, ?_⟩
  · refine (θ_run defs _ _).mono (fun r h c => ?_) (θ_run_and (run_main m g) (unchanged m g))
    exact ⟨(h.1.out_eq c 2).trans (final m c), h.2 c⟩
  · refine (θ_run Cert.GinReferenceIdeal.defs _ _).mono (fun r h c => ?_) (Cert.GinReferenceIdeal.Value.run m' g')
    obtain ⟨a0, a1⟩ := ha c
    obtain ⟨h5, hrest⟩ := h c
    refine ⟨h5.trans ?_, hrest⟩
    rw [Cert.GinReferenceIdeal.Read.val_main_v5_eq, a0, a1]

end Cert.GinIdeal.Val

end
-- ==== Proof.ConvGrad.lean ====
/- The gradient of the input projection's columns before the convolution: the product accumulated over four points is the reference's. -/
module

public import proofs.«01_k».proof.Proof.Gen.GconvIdeal
public import proofs.«01_k».proof.Proof.Gen.GconvIdeal.Skeleton
public import proofs.«01_k».proof.Proof.Gen.GconvIdeal.Launch
public import proofs.«01_k».proof.Proof.Gen.GconvIdeal.Points
public import proofs.«01_k».proof.Proof.Gen.GconvIdeal.Frame
public import proofs.«01_k».proof.Proof.Gen.GconvReferenceIdeal
public import proofs.«01_k».proof.Proof.Gen.GconvReferenceIdeal.Run
public import proofs.«01_k».proof.Proof.Gen.GconvReferenceIdeal.Read
public import proofs.«01_k».proof.Defs
public import Idealize.ShloMosaic.Lib.Pipeline.Value
public import Idealize.ShloMosaic.Lib.Pipeline.ValueKit
public import Idealize.ShloMosaic.Lib.StableHlo.Run

@[expose] public section

set_option maxRecDepth 16384

noncomputable section

namespace Cert.GconvIdeal.Val

open Idealize.ShloMosaic Idealize.ShloMosaic.TcCoe Idealize.ShloMosaic.Tactic Idealize.SL.Sem
open Idealize.ShloMosaic.Pipeline (Dat)
open Cert.GconvIdeal Cert.GconvIdeal.Gen
open scoped BigOperators

variable (m : (ℓ : Loc nD τ sig) → Buf (Elt Ideal) ℓ)

/-- The product of the columns of `a0` with the columns of `a1`. -/
abbrev REF (a0 : FVec Ideal S4096x2048 .bf16) (a1 : FVec Ideal S4096x3072 .bf16) : FVec Ideal S2048x3072 .f32 :=
  Cert.GconvReferenceIdeal.Read.val_main_v5 (F := Ideal) a0 a1

/-- The blocks a point works on. -/
theorem idx : ∀ t : Fin cfg0.N, win0_0.index t = ![t.val % 4, t.val / 12] ∧ win0_1.index t = ![t.val % 4, t.val / 4 % 3] ∧ win0_2.index t = ![t.val / 12, t.val / 4 % 3] :=
  (by decide +kernel : ∀ t : Fin grid0.N, _)

/-- A block's product at an element. -/
def part (x0 : FVec Ideal S1024x1024 .bf16) (x1 : FVec Ideal S1024x1024 .bf16) (y : S1024x1024.Idx) : EReal :=
  ∑ k : Fin 1024, x0 (ix2 k (y 0)) * x1 (ix2 k (y 1))

theorem pay1_at (y : S1024x1024.Idx) : k0_pay1 (F := Ideal) y = (0 : EReal) := by
  pointwise [k0_pay1]

theorem pay2_at (acc : FVec Ideal S1024x1024 .f32) (x0 : FVec Ideal S1024x1024 .bf16) (x1 : FVec Ideal S1024x1024 .bf16) (y : S1024x1024.Idx) :
    k0_pay2 acc x0 x1 y = (acc y : EReal) + part x0 x1 y := by
  pointwise [k0_pay2, part]
  blk_ext

theorem ref_at (a0 : FVec Ideal S4096x2048 .bf16) (a1 : FVec Ideal S4096x3072 .bf16) (j : S2048x3072.Idx) :
    REF a0 a1 j = (∑ k : Fin 4096, a0 (ix2 k (j 0)) * a1 (ix2 k (j 1)) : EReal) := by
  pointwise [REF, Cert.GconvReferenceIdeal.Read.val_main_v5, Cert.GconvReferenceIdeal.Read.val_main_v4, Cert.GconvReferenceIdeal.Read.val_main_v2, Cert.GconvReferenceIdeal.Read.val_main_v1]
  exact Finset.sum_congr rfl fun k _ => mul_comm _ _

/-- The scratch at a run's first point. -/
theorem first (c : Dev nD) (t : Fin cfg0.N) (h : t.val % 4 = 0) (y : S1024x1024.Idx) :
    (outsAt0 m c t.val t.isLt).2 y = (0 : EReal) + part (iblk m c 0 t) (iblk m c 1 t) y := by
  rw [outsAt0_A m c t h (by omega)]
  frame_out
  rw [pay2_at, pay1_at]

/-- The scratch at a later point. -/
theorem next (c : Dev nD) (t : Fin cfg0.N) (h : ¬t.val % 4 = 0) (y : S1024x1024.Idx) :
    (outsAt0 m c t.val t.isLt).2 y = ((outsAt0 m c (t.val - 1) (Nat.lt_of_le_of_lt (Nat.sub_le _ _) t.isLt)).2 y : EReal) + part (iblk m c 0 t) (iblk m c 1 t) y := by
  by_cases h2 : t.val % 4 = 3
  · rw [outsAt0_C m c t h h2]
    frame_out
    rw [pay2_at]
    exact congrArg (· + part (iblk m c 0 t) (iblk m c 1 t) y) (congrFun (Memref.IsWhole.read_unread _ _) y)
  · rw [outsAt0_B m c t h h2]
    frame_out
    rw [pay2_at]
    exact congrArg (· + part (iblk m c 0 t) (iblk m c 1 t) y) (congrFun (Memref.IsWhole.read_unread _ _) y)

/-- The last point writes the scratch out. -/
theorem out_last (c : Dev nD) (t : Fin cfg0.N) (h2 : t.val % 4 = 3) (y : S1024x1024.Idx) :
    (outsAt0 m c t.val t.isLt).1 y = (outsAt0 m c t.val t.isLt).2 y := by
  rw [outsAt0_C m c t (by omega) h2]
  frame_out

/-- The array after the run. -/
theorem final (c : Dev nD) : (dats m 0 c).arrAt 2 (cfgs 0).N = REF (m ((c : Thread nD τ).loc main_arg0)) (m ((c : Thread nD τ).loc main_arg1)) := by
  refine (dats m 0 c).arrAt_eq_of_covers 2 _ (by decide +kernel) fun t hf y => ?_
  blk_simp
  have h3 : t.val % 4 = 3 := (flush0_2 t).mp hf
  rw [after0_2, out_last m c t h3, Pipeline.eq_sum_fin_of_reset_step_apply_of_flush (fun n h => (outsAt0 m c n h).2) 4 (fun _ => 0)
    (fun p j => part (iblk m c 0 p) (iblk m c 1 p) j) (first m c) (next m c) t h3 _, zero_add, ref_at]
  unfold part
  refine Fin.sum_mul_add_congr fun s k hl => ?_
  blk_point [iblk, V, idx t, idx ⟨_, Pipeline.run_point_lt_of_flush t h3 s⟩]

/-- The launch's result is the reference's. -/
theorem algebraic : Cert.algebraic_GconvIdeal_GconvReferenceIdeal (hGconvIdeal := Cert.GconvIdeal.Gen.facts)
    (hGconvReferenceIdeal := Cert.GconvReferenceIdeal.Gen.facts) := by
  intro m g m' g' _ ha
  refine ⟨fun c => REF (m ((c : Thread nD τ).loc main_arg0)) (m ((c : Thread nD τ).loc main_arg1)), ?_, ?_⟩
  · refine (θ_run defs _ _).mono (fun r h c => ?_) (θ_run_and (run_main m g) (unchanged m g))
    exact ⟨(h.1.out_eq c 2).trans (final m c), h.2 c⟩
  · refine (θ_run Cert.GconvReferenceIdeal.defs _ _).mono (fun r h c => ?_) (Cert.GconvReferenceIdeal.Value.run m' g')
    obtain ⟨a0, a1⟩ := ha c
    obtain ⟨h5, hrest⟩ := h c
    refine ⟨h5.trans ?_, hrest⟩
    rw [Cert.GconvReferenceIdeal.Read.val_main_v5_eq, a0, a1]

end Cert.GconvIdeal.Val

end
-- ==== Proof.NarrowProj.lean ====
/- The narrow columns of the input projection: a block of the launch's product is the reference's product there, and nothing in the padding. -/
module

public import proofs.«01_k».proof.Proof.Gen.PbaIdeal
public import proofs.«01_k».proof.Proof.Gen.PbaIdeal.Skeleton
public import proofs.«01_k».proof.Proof.Gen.PbaIdeal.Launch
public import proofs.«01_k».proof.Proof.Gen.PbaIdeal.Points
public import proofs.«01_k».proof.Proof.Gen.PbaIdeal.Frame
public import proofs.«01_k».proof.Proof.Gen.PbaReferenceIdeal
public import proofs.«01_k».proof.Proof.Gen.PbaReferenceIdeal.Run
public import proofs.«01_k».proof.Proof.Gen.PbaReferenceIdeal.Read
public import proofs.«01_k».proof.Defs
public import Idealize.ShloMosaic.Lib.Pipeline.Value
public import Idealize.ShloMosaic.Lib.KernelVsHost
public import Idealize.ShloMosaic.Lib.Pipeline.ValueKit
public import Idealize.ShloMosaic.Lib.StableHlo.Run

@[expose] public section

set_option maxRecDepth 16384

noncomputable section

namespace Cert.PbaIdeal.Val

open Idealize.ShloMosaic Idealize.ShloMosaic.TcCoe Idealize.ShloMosaic.Tactic Idealize.SL.Sem
open Idealize.ShloMosaic.Pipeline (Dat)
open Cert.PbaIdeal Cert.PbaIdeal.Gen
open scoped BigOperators

variable (m : (ℓ : Loc nD τ sig) → Buf (Elt Ideal) ℓ)

/-- The product of the rows of `a0` with the last columns of `a1`, filled up with zeros to whole lanes. -/
abbrev REF (a0 : FVec Ideal S4096x2048 .bf16) (a1 : FVec Ideal S2048x7184 .bf16) : FVec Ideal S4096x128 .f32 :=
  Cert.PbaReferenceIdeal.Read.val_main_v2 (F := Ideal) a0 a1

/-- The blocks a point works on. -/
theorem idx : ∀ t : Fin cfg0.N, win0_0.index t = ![t.val, 0] ∧ win0_1.index t = ![0, 56] ∧ win0_2.index t = ![t.val, 0] :=
  (by decide +kernel : ∀ t : Fin grid0.N, _)

/-- The launch reads the weight padded to whole lanes. -/
theorem entry (c : Dev nD) : V m c main_v0 = pad S2048x7296 ![0, 0] ![0, 112] ![0, 0] (m ((c : Thread nD τ).loc main_arg1) : FVec Ideal S2048x7184 .bf16)
    (sitofp .bf16 (constantI S_ 32 0#32) : FVec Ideal S_ .bf16) pads_S2048x7184_S2048x7296_000_01120 h_S_ := by
  unfold V
  simp only [hostOps0, hostOps0_1, List.flatten_cons, List.flatten_nil, List.append_nil, List.cons_append, List.nil_append]
  after_results
  try rfl

/-- The padded weight is the weight at its own columns. -/
theorem entry_in (c : Dev nD) (k : Fin 2048) (l : Fin 7184) (i : S2048x7296.Idx) (h0 : (i 0).val = k.val) (h1 : (i 1).val = l.val) :
    V m c main_v0 i = (m ((c : Thread nD τ).loc main_arg1) : FVec Ideal S2048x7184 .bf16) (ix2 k l) :=
  (congrFun (entry m c) i).trans (pad_apply_of_inside _ _ _ _ _ _ _ i (ix2 k l) (fun a => by
    match a with
    | ⟨0, _⟩ => simpa using h0
    | ⟨1, _⟩ => simpa using h1))

/-- The padded weight is zero behind them. -/
theorem entry_out (c : Dev nD) (i : S2048x7296.Idx) (h : 7184 ≤ (i 1).val) : V m c main_v0 i = (0 : EReal) := by
  refine (congrFun (entry m c) i).trans ((pad_apply_of_not_inside _ _ _ _ _ _ _ i 1 ?_).trans ?_)
  · simp
    omega
  · pointwise []
    simp [FloatOps.sitofp]

/-- A point's product is the reference's at the place it is stored. -/
theorem point (c : Dev nD) (t : Fin cfg0.N) (y) :
    k0_pay1 (iblk m c 0 t) (iblk m c 1 t) y
      = REF (m ((c : Thread nD τ).loc main_arg0)) (m ((c : Thread nD τ).loc main_arg1)) (((cfg0.win 2).blk t).view.emb y) := by
  pointwise [k0_pay1, REF, Cert.PbaReferenceIdeal.Read.val_main_v2, Cert.PbaReferenceIdeal.Read.val_main_v1, Cert.PbaReferenceIdeal.Read.val_main_v0]
  split
  · rename_i h
    refine Finset.sum_congr rfl fun k _ => ?_
    refine congrArg₂ (· * ·) ?_ ?_
    · blk_point [iblk, V, idx t]
    · unfold iblk
      refine entry_in m c k _ _ ?_ ?_
      · blk_simp [idx t]
      · blk_simp [idx t]
  · rename_i h
    have e : ∀ k : Fin 2048, iblk m c 1 t (ix2 k (y 1)) = (0 : EReal) := by
      intro k
      unfold iblk
      refine entry_out m c _ ?_
      blk_simp [idx t]
      blk_simp [idx t] at h
      omega
    have z : Cert.PbaReferenceIdeal.Read.val_main_call0_v0 (F := Ideal) = fun _ => (0 : EReal) := by
      funext i
      pointwise [Cert.PbaReferenceIdeal.Read.val_main_call0_v0, Cert.PbaReferenceIdeal.Read.val_main_c]
      simp [FloatOps.sitofp]
    refine Eq.trans ?_ (congrFun z _).symm
    exact Finset.sum_eq_zero fun k _ => by rw [e k]; exact mul_zero _

/-- The array after the run. -/
theorem final (c : Dev nD) : (dats m 0 c).arrAt 2 (cfgs 0).N = REF (m ((c : Thread nD τ).loc main_arg0)) (m ((c : Thread nD τ).loc main_arg1)) := by
  refine (dats m 0 c).arrAt_eq_of_covers 2 _ (by decide +kernel) fun t hf y => ?_
  blk_simp
  rw [after0_2]
  frame_out
  exact point m c t y

/-- The launch's result is the reference's. -/
theorem algebraic : Cert.algebraic_PbaIdeal_PbaReferenceIdeal (hPbaIdeal := Cert.PbaIdeal.Gen.facts)
    (hPbaReferenceIdeal := Cert.PbaReferenceIdeal.Gen.facts) := by
  intro m g m' g' _ ha
  refine ⟨fun c => REF (m ((c : Thread nD τ).loc main_arg0)) (m ((c : Thread nD τ).loc main_arg1)), ?_, ?_⟩
  · refine (θ_run defs _ _).mono (fun r h c => ?_) (θ_run_and (run_main m g) (unchanged m g))
    exact ⟨(h.1.out_eq c 2).trans (final m c), h.2 c⟩
  · refine (θ_run Cert.PbaReferenceIdeal.defs _ _).mono (fun r h c => ?_) (Cert.PbaReferenceIdeal.Value.run m' g')
    obtain ⟨a0, a1⟩ := ha c
    obtain ⟨h0, hrest⟩ := h c
    refine ⟨h0.trans ?_, hrest⟩
    rw [Cert.PbaReferenceIdeal.Read.val_main_v2_eq, a0, a1]

end Cert.PbaIdeal.Val

end
-- ==== Proof.NarrowGrad.lean ====
/- The gradient of the input projection's narrow columns: the product accumulated over four points is the reference's. -/
module

public import proofs.«01_k».proof.Proof.Gen.GbaIdeal
public import proofs.«01_k».proof.Proof.Gen.GbaIdeal.Skeleton
public import proofs.«01_k».proof.Proof.Gen.GbaIdeal.Launch
public import proofs.«01_k».proof.Proof.Gen.GbaIdeal.Points
public import proofs.«01_k».proof.Proof.Gen.GbaIdeal.Frame
public import proofs.«01_k».proof.Proof.Gen.GbaReferenceIdeal
public import proofs.«01_k».proof.Proof.Gen.GbaReferenceIdeal.Run
public import proofs.«01_k».proof.Proof.Gen.GbaReferenceIdeal.Read
public import proofs.«01_k».proof.Defs
public import Idealize.ShloMosaic.Lib.Pipeline.Value
public import Idealize.ShloMosaic.Lib.Pipeline.ValueKit
public import Idealize.ShloMosaic.Lib.StableHlo.Run

@[expose] public section

set_option maxRecDepth 16384

noncomputable section

namespace Cert.GbaIdeal.Val

open Idealize.ShloMosaic Idealize.ShloMosaic.TcCoe Idealize.ShloMosaic.Tactic Idealize.SL.Sem
open Idealize.ShloMosaic.Pipeline (Dat)
open Cert.GbaIdeal Cert.GbaIdeal.Gen
open scoped BigOperators

variable (m : (ℓ : Loc nD τ sig) → Buf (Elt Ideal) ℓ)

/-- The product of the columns of `a0` with the columns of `a1`. -/
abbrev REF (a0 : FVec Ideal S4096x2048 .bf16) (a1 : FVec Ideal S4096x128 .bf16) : FVec Ideal S2048x128 .f32 :=
  Cert.GbaReferenceIdeal.Read.val_main_v5 (F := Ideal) a0 a1

/-- The blocks a point works on. -/
theorem idx : ∀ t : Fin cfg0.N, win0_0.index t = ![t.val % 4, t.val / 4] ∧ win0_1.index t = ![t.val % 4, 0] ∧ win0_2.index t = ![t.val / 4, 0] :=
  (by decide +kernel : ∀ t : Fin grid0.N, _)

/-- A block's product at an element. -/
def part (x0 : FVec Ideal S1024x1024 .bf16) (x1 : FVec Ideal S1024x128 .bf16) (y : S1024x128.Idx) : EReal :=
  ∑ k : Fin 1024, x0 (ix2 k (y 0)) * x1 (ix2 k (y 1))

theorem pay1_at (y : S1024x128.Idx) : k0_pay1 (F := Ideal) y = (0 : EReal) := by
  pointwise [k0_pay1]

theorem pay2_at (acc : FVec Ideal S1024x128 .f32) (x0 : FVec Ideal S1024x1024 .bf16) (x1 : FVec Ideal S1024x128 .bf16) (y : S1024x128.Idx) :
    k0_pay2 acc x0 x1 y = (acc y : EReal) + part x0 x1 y := by
  pointwise [k0_pay2, part]
  blk_ext

theorem ref_at (a0 : FVec Ideal S4096x2048 .bf16) (a1 : FVec Ideal S4096x128 .bf16) (j : S2048x128.Idx) :
    REF a0 a1 j = (∑ k : Fin 4096, a0 (ix2 k (j 0)) * a1 (ix2 k (j 1)) : EReal) := by
  pointwise [REF, Cert.GbaReferenceIdeal.Read.val_main_v5, Cert.GbaReferenceIdeal.Read.val_main_v4, Cert.GbaReferenceIdeal.Read.val_main_v2, Cert.GbaReferenceIdeal.Read.val_main_v1]
  exact Finset.sum_congr rfl fun k _ => mul_comm _ _

/-- The scratch at a run's first point. -/
theorem first (c : Dev nD) (t : Fin cfg0.N) (h : t.val % 4 = 0) (y : S1024x128.Idx) :
    (outsAt0 m c t.val t.isLt).2 y = (0 : EReal) + part (iblk m c 0 t) (iblk m c 1 t) y := by
  rw [outsAt0_A m c t h (by omega)]
  frame_out
  rw [pay2_at, pay1_at]

/-- The scratch at a later point. -/
theorem next (c : Dev nD) (t : Fin cfg0.N) (h : ¬t.val % 4 = 0) (y : S1024x128.Idx) :
    (outsAt0 m c t.val t.isLt).2 y = ((outsAt0 m c (t.val - 1) (Nat.lt_of_le_of_lt (Nat.sub_le _ _) t.isLt)).2 y : EReal) + part (iblk m c 0 t) (iblk m c 1 t) y := by
  by_cases h2 : t.val % 4 = 3
  · rw [outsAt0_C m c t h h2]
    frame_out
    rw [pay2_at]
    exact congrArg (· + part (iblk m c 0 t) (iblk m c 1 t) y) (congrFun (Memref.IsWhole.read_unread _ _) y)
  · rw [outsAt0_B m c t h h2]
    frame_out
    rw [pay2_at]
    exact congrArg (· + part (iblk m c 0 t) (iblk m c 1 t) y) (congrFun (Memref.IsWhole.read_unread _ _) y)

/-- The last point writes the scratch out. -/
theorem out_last (c : Dev nD) (t : Fin cfg0.N) (h2 : t.val % 4 = 3) (y : S1024x128.Idx) :
    (outsAt0 m c t.val t.isLt).1 y = (outsAt0 m c t.val t.isLt).2 y := by
  rw [outsAt0_C m c t (by omega) h2]
  frame_out

/-- The array after the run. -/
theorem final (c : Dev nD) : (dats m 0 c).arrAt 2 (cfgs 0).N = REF (m ((c : Thread nD τ).loc main_arg0)) (m ((c : Thread nD τ).loc main_arg1)) := by
  refine (dats m 0 c).arrAt_eq_of_covers 2 _ (by decide +kernel) fun t hf y => ?_
  blk_simp
  have h3 : t.val % 4 = 3 := (flush0_2 t).mp hf
  rw [after0_2, out_last m c t h3, Pipeline.eq_sum_fin_of_reset_step_apply_of_flush (fun n h => (outsAt0 m c n h).2) 4 (fun _ => 0)
    (fun p j => part (iblk m c 0 p) (iblk m c 1 p) j) (first m c) (next m c) t h3 _, zero_add, ref_at]
  unfold part
  refine Fin.sum_mul_add_congr fun s k hl => ?_
  blk_point [iblk, V, idx t, idx ⟨_, Pipeline.run_point_lt_of_flush t h3 s⟩]

/-- The launch's result is the reference's. -/
theorem algebraic : Cert.algebraic_GbaIdeal_GbaReferenceIdeal (hGbaIdeal := Cert.GbaIdeal.Gen.facts)
    (hGbaReferenceIdeal := Cert.GbaReferenceIdeal.Gen.facts) := by
  intro m g m' g' _ ha
  refine ⟨fun c => REF (m ((c : Thread nD τ).loc main_arg0)) (m ((c : Thread nD τ).loc main_arg1)), ?_, ?_⟩
  · refine (θ_run defs _ _).mono (fun r h c => ?_) (θ_run_and (run_main m g) (unchanged m g))
    exact ⟨(h.1.out_eq c 2).trans (final m c), h.2 c⟩
  · refine (θ_run Cert.GbaReferenceIdeal.defs _ _).mono (fun r h c => ?_) (Cert.GbaReferenceIdeal.Value.run m' g')
    obtain ⟨a0, a1⟩ := ha c
    obtain ⟨h5, hrest⟩ := h c
    refine ⟨h5.trans ?_, hrest⟩
    rw [Cert.GbaReferenceIdeal.Read.val_main_v5_eq, a0, a1]

end Cert.GbaIdeal.Val

end
-- ==== Proof.AdamIn.lean ====
/- The optimiser's step of the input projection's weight: the rows of a block are the reference's there, whichever half of the gradient they come from. -/
module

public import proofs.«01_k».proof.Proof.Gen.AdInIdeal
public import proofs.«01_k».proof.Proof.Gen.AdInIdeal.Skeleton
public import proofs.«01_k».proof.Proof.Gen.AdInIdeal.Launch
public import proofs.«01_k».proof.Proof.Gen.AdInIdeal.Points
public import proofs.«01_k».proof.Proof.Gen.AdInIdeal.Frame
public import proofs.«01_k».proof.Proof.Gen.AdInReferenceIdeal
public import proofs.«01_k».proof.Proof.Gen.AdInReferenceIdeal.Run
public import proofs.«01_k».proof.Proof.Gen.AdInReferenceIdeal.Read
public import proofs.«01_k».proof.Defs
public import Idealize.ShloMosaic.Lib.Pipeline.Value
public import Idealize.ShloMosaic.Lib.Pipeline.ValueKit
public import Idealize.ShloMosaic.Lib.StableHlo.Run

@[expose] public section

set_option maxRecDepth 16384

noncomputable section

namespace Cert.AdInIdeal.Val

open Idealize.ShloMosaic Idealize.ShloMosaic.TcCoe Idealize.ShloMosaic.Tactic Idealize.SL.Sem
open Idealize.ShloMosaic.Pipeline (Dat)
open Cert.AdInIdeal Cert.AdInIdeal.Gen
open Cert.AdInReferenceIdeal.Read
open scoped BigOperators

variable (m : (ℓ : Loc nD τ sig) → Buf (Elt Ideal) ℓ)

/-! ## The blocks a point works on -/

theorem idx0 (hO : Ok m) : ∀ t : Fin (cfgM m hO).N, ((cfgM m hO).win 0).index t = ![t.val, 0] :=
  (by decide +kernel : ∀ t : Fin grid0.N, cc0_transform_0 (grid0.coords t) = ![t.val, 0])

theorem idx1 (hO : Ok m) : ∀ t : Fin (cfgM m hO).N, ((cfgM m hO).win 1).index t = ![t.val % 8, 0] :=
  (by decide +kernel : ∀ t : Fin grid0.N, cc0_transform_1 (grid0.coords t) = ![t.val % 8, 0])

theorem idx2 (hO : Ok m) : ∀ t : Fin (cfgM m hO).N, ((cfgM m hO).win 2).index t = ![t.val % 8, 0] :=
  (by decide +kernel : ∀ t : Fin grid0.N, cc0_transform_2 (grid0.coords t) = ![t.val % 8, 0])

theorem idx3 (hO : Ok m) : ∀ t : Fin (cfgM m hO).N, ((cfgM m hO).win 3).index t = ![t.val, 0] :=
  (by decide +kernel : ∀ t : Fin grid0.N, cc0_transform_3 (grid0.coords t) = ![t.val, 0])

theorem idx4 (hO : Ok m) : ∀ t : Fin (cfgM m hO).N, ((cfgM m hO).win 4).index t = ![t.val, 0] :=
  (by decide +kernel : ∀ t : Fin grid0.N, cc0_transform_4 (grid0.coords t) = ![t.val, 0])

theorem idx5 (hO : Ok m) : ∀ t : Fin (cfgM m hO).N, ((cfgM m hO).win 5).index t = ![t.val, 0] :=
  (by decide +kernel : ∀ t : Fin grid0.N, cc0_transform_5 (grid0.coords t) = ![t.val, 0])

theorem idx6 (hO : Ok m) : ∀ t : Fin (cfgM m hO).N, ((cfgM m hO).win 6).index t = ![t.val, 0] :=
  (by decide +kernel : ∀ t : Fin grid0.N, cc0_transform_6 (grid0.coords t) = ![t.val, 0])

theorem idx7 (hO : Ok m) : ∀ t : Fin (cfgM m hO).N, ((cfgM m hO).win 7).index t = ![t.val, 0] :=
  (by decide +kernel : ∀ t : Fin grid0.N, cc0_transform_7 (grid0.coords t) = ![t.val, 0])

theorem idx8 (hO : Ok m) : ∀ t : Fin (cfgM m hO).N, ((cfgM m hO).win 8).index t = ![t.val, 0] :=
  (by decide +kernel : ∀ t : Fin grid0.N, cc0_transform_8 (grid0.coords t) = ![t.val, 0])

/-- The launch reads any placement. -/
theorem ok : Ok m := trivial

/-- An argument's contents. -/
abbrev A (c : Dev nD) (b : Ref sig .tc) := m ((c : Thread nD τ).loc b)

/-- Zero blocks and `x`. -/
theorem zero_times (s x : ℕ) : 0 * s + x = x := by rw [Nat.zero_mul, Nat.zero_add]

/-- Two places with the same coordinates. -/
theorem same_place {p q : ℕ} (i j : (⟨2, ![p, q]⟩ : Shape).Idx) (h0 : (i 0).val = (j 0).val) (h1 : (i 1).val = (j 1).val) : i = j :=
  funext fun a => Fin.ext (match a with | 0 => h0 | 1 => h1)

/-- A block's entry of argument 0. -/
theorem at0 (c : Dev nD) (t : Fin (cfgM m (ok m)).N) (y : S128x1796.Idx) (j : S2048x1796.Idx)
    (h0 : (j 0).val = (t.val) * 128 + (y 0).val) (h1 : (j 1).val = (y 1).val) : iblk m (ok m) c 0 t y = A m c main_arg0 j := by
  have e : ∀ a, ((((((cfgM m (ok m)).win 0).blk t).view.emb y) a : Fin _) : ℕ) = ((cfgM m (ok m)).win 0).index t a * ((cfgM m (ok m)).win 0).size a + (y a).val := by
    intro a
    blk_simp
  rw [idx0] at e
  exact congrArg (A m c main_arg0) (same_place _ j ((e (0 : Fin 2)).trans h0.symm) ((e (1 : Fin 2)).trans ((zero_times _ _).trans h1.symm)))

/-- A block's entry of argument 1. -/
theorem at1 (c : Dev nD) (t : Fin (cfgM m (ok m)).N) (y : S128x1796.Idx) (j : S1024x1796.Idx)
    (h0 : (j 0).val = (t.val % 8) * 128 + (y 0).val) (h1 : (j 1).val = (y 1).val) : iblk m (ok m) c 1 t y = A m c main_arg1 j := by
  have e : ∀ a, ((((((cfgM m (ok m)).win 1).blk t).view.emb y) a : Fin _) : ℕ) = ((cfgM m (ok m)).win 1).index t a * ((cfgM m (ok m)).win 1).size a + (y a).val := by
    intro a
    blk_simp
  rw [idx1] at e
  exact congrArg (A m c main_arg1) (same_place _ j ((e (0 : Fin 2)).trans h0.symm) ((e (1 : Fin 2)).trans ((zero_times _ _).trans h1.symm)))

/-- A block's entry of argument 2. -/
theorem at2 (c : Dev nD) (t : Fin (cfgM m (ok m)).N) (y : S128x1796.Idx) (j : S1024x1796.Idx)
    (h0 : (j 0).val = (t.val % 8) * 128 + (y 0).val) (h1 : (j 1).val = (y 1).val) : iblk m (ok m) c 2 t y = A m c main_arg2 j := by
  have e : ∀ a, ((((((cfgM m (ok m)).win 2).blk t).view.emb y) a : Fin _) : ℕ) = ((cfgM m (ok m)).win 2).index t a * ((cfgM m (ok m)).win 2).size a + (y a).val := by
    intro a
    blk_simp
  rw [idx2] at e
  exact congrArg (A m c main_arg2) (same_place _ j ((e (0 : Fin 2)).trans h0.symm) ((e (1 : Fin 2)).trans ((zero_times _ _).trans h1.symm)))

/-- A block's entry of argument 4. -/
theorem at3 (c : Dev nD) (t : Fin (cfgM m (ok m)).N) (y : S128x1796.Idx) (j : S2048x1796.Idx)
    (h0 : (j 0).val = (t.val) * 128 + (y 0).val) (h1 : (j 1).val = (y 1).val) : iblk m (ok m) c 3 t y = A m c main_arg4 j := by
  have e : ∀ a, ((((((cfgM m (ok m)).win 3).blk t).view.emb y) a : Fin _) : ℕ) = ((cfgM m (ok m)).win 3).index t a * ((cfgM m (ok m)).win 3).size a + (y a).val := by
    intro a
    blk_simp
  rw [idx3] at e
  exact congrArg (A m c main_arg4) (same_place _ j ((e (0 : Fin 2)).trans h0.symm) ((e (1 : Fin 2)).trans ((zero_times _ _).trans h1.symm)))

/-- A block's entry of argument 5. -/
theorem at4 (c : Dev nD) (t : Fin (cfgM m (ok m)).N) (y : S128x1796.Idx) (j : S2048x1796.Idx)
    (h0 : (j 0).val = (t.val) * 128 + (y 0).val) (h1 : (j 1).val = (y 1).val) : iblk m (ok m) c 4 t y = A m c main_arg5 j := by
  have e : ∀ a, ((((((cfgM m (ok m)).win 4).blk t).view.emb y) a : Fin _) : ℕ) = ((cfgM m (ok m)).win 4).index t a * ((cfgM m (ok m)).win 4).size a + (y a).val := by
    intro a
    blk_simp
  rw [idx4] at e
  exact congrArg (A m c main_arg5) (same_place _ j ((e (0 : Fin 2)).trans h0.symm) ((e (1 : Fin 2)).trans ((zero_times _ _).trans h1.symm)))

/-! ## What the body leaves -/

/-- The reference's result 0: the joined gradient. -/
abbrev R5 (c : Dev nD) : FVec Ideal S2048x1796 .f32 := val_main_v5 (F := Ideal) (A m c main_arg1) (A m c main_arg2) (A m c main_arg3)

/-- The body's result 0 at a point. -/
abbrev P5 (c : Dev nD) (t : Fin (cfgM m (ok m)).N) : FVec Ideal S128x1796 .f32 := k0_pay2 (F := Ideal) (grid0.coords t) (A m c main_arg3 (ix1 0)) (iblk m (ok m) c 1 t) (iblk m (ok m) c 2 t)

/-- What the body leaves in result 0's block. -/
theorem left5 (c : Dev nD) (t : Fin (cfgM m (ok m)).N) : (dats m (ok m) 0 c).after 5 t = P5 m c t := by
  obtain rfl : c = 0 := Subsingleton.elim _ _
  rw [after0_5]
  unfold outsAt0
  dsimp only
  frame_out
  skip
  congr 1 <;> first | exact Memref.IsWhole.read_unread _ _ | (refine congrArg (A m 0 main_arg3) (funext fun (a : Fin 1) => ?_); obtain rfl := (Subsingleton.elim a (0 : Fin 1) : a = (0 : Fin 1)); rfl)

/-- The reference's result 1: the change of the weight. -/
abbrev R6 (c : Dev nD) : FVec Ideal S2048x1796 .f32 := val_main_v29 (F := Ideal) (A m c main_arg0) (A m c main_arg1) (A m c main_arg2) (A m c main_arg3) (A m c main_arg4) (A m c main_arg5)

/-- The body's result 1 at a point. -/
abbrev P6 (c : Dev nD) (t : Fin (cfgM m (ok m)).N) : FVec Ideal S128x1796 .f32 := k0_pay1 (F := Ideal) (k0_pay5 (grid0.coords t) (A m c main_arg3 (ix1 0)) (iblk m (ok m) c 1 t) (iblk m (ok m) c 2 t) (iblk m (ok m) c 0 t) (iblk m (ok m) c 3 t) (iblk m (ok m) c 4 t))

/-- What the body leaves in result 1's block. -/
theorem left6 (c : Dev nD) (t : Fin (cfgM m (ok m)).N) : (dats m (ok m) 0 c).after 6 t = P6 m c t := by
  obtain rfl : c = 0 := Subsingleton.elim _ _
  rw [after0_6]
  unfold outsAt0
  dsimp only
  frame_out
  refine congrArg _ ?_
  congr 1 <;> first | exact Memref.IsWhole.read_unread _ _ | (refine congrArg (A m 0 main_arg3) (funext fun (a : Fin 1) => ?_); obtain rfl := (Subsingleton.elim a (0 : Fin 1) : a = (0 : Fin 1)); rfl)

/-- The reference's result 2: the new first moment. -/
abbrev R7 (c : Dev nD) : FVec Ideal S2048x1796 .f32 := val_main_v10 (F := Ideal) (A m c main_arg1) (A m c main_arg2) (A m c main_arg3) (A m c main_arg4)

/-- The body's result 2 at a point. -/
abbrev P7 (c : Dev nD) (t : Fin (cfgM m (ok m)).N) : FVec Ideal S128x1796 .f32 := k0_pay3 (F := Ideal) (grid0.coords t) (A m c main_arg3 (ix1 0)) (iblk m (ok m) c 1 t) (iblk m (ok m) c 2 t) (iblk m (ok m) c 3 t)

/-- What the body leaves in result 2's block. -/
theorem left7 (c : Dev nD) (t : Fin (cfgM m (ok m)).N) : (dats m (ok m) 0 c).after 7 t = P7 m c t := by
  obtain rfl : c = 0 := Subsingleton.elim _ _
  rw [after0_7]
  unfold outsAt0
  dsimp only
  frame_out
  skip
  congr 1 <;> first | exact Memref.IsWhole.read_unread _ _ | (refine congrArg (A m 0 main_arg3) (funext fun (a : Fin 1) => ?_); obtain rfl := (Subsingleton.elim a (0 : Fin 1) : a = (0 : Fin 1)); rfl)

/-- The reference's result 3: the new second moment. -/
abbrev R8 (c : Dev nD) : FVec Ideal S2048x1796 .f32 := val_main_v16 (F := Ideal) (A m c main_arg1) (A m c main_arg2) (A m c main_arg3) (A m c main_arg5)

/-- The body's result 3 at a point. -/
abbrev P8 (c : Dev nD) (t : Fin (cfgM m (ok m)).N) : FVec Ideal S128x1796 .f32 := k0_pay4 (F := Ideal) (grid0.coords t) (A m c main_arg3 (ix1 0)) (iblk m (ok m) c 1 t) (iblk m (ok m) c 2 t) (iblk m (ok m) c 4 t)

/-- What the body leaves in result 3's block. -/
theorem left8 (c : Dev nD) (t : Fin (cfgM m (ok m)).N) : (dats m (ok m) 0 c).after 8 t = P8 m c t := by
  obtain rfl : c = 0 := Subsingleton.elim _ _
  rw [after0_8]
  unfold outsAt0
  dsimp only
  frame_out
  skip
  congr 1 <;> first | exact Memref.IsWhole.read_unread _ _ | (refine congrArg (A m 0 main_arg3) (funext fun (a : Fin 1) => ?_); obtain rfl := (Subsingleton.elim a (0 : Fin 1) : a = (0 : Fin 1)); rfl)

/-! ## The gradient -/

/-- Which blocks are the upper half's. -/
theorem upper : ∀ t : Fin grid0.N, Scalar.cmpi .slt (BitVec.ofNat 32 (grid0.coords t 0).val) 8#32 = if t.val < 8 then 1#1 else 0#1 := by
  decide +kernel

/-- The number of blocks. -/
theorem count : grid0.N = 16 := by decide +kernel

/-- The half a block is taken from. -/
theorem half_of (t : Fin grid0.N) (p : BitVec 32) (a b : FVec Ideal S128x1796 .f32) (y : S128x1796.Idx) :
    k0_pay2 (F := Ideal) (grid0.coords t) p a b y = if (t.val < 8 ↔ p = 0#32) then a y else b y := by
  pointwise [k0_pay2]
  rw [upper t]
  by_cases hp : p = 0#32
  · subst hp
    by_cases h : t.val < 8 <;> simp [h, Scalar.cmpi, IntOp.cmpi, Scalar.xori, IntOp.xori, Scalar.select]
  · have hb : (p == 0#32) = false := beq_eq_false_iff_ne.mpr hp
    by_cases h : t.val < 8 <;> simp [h, hp, hb, Scalar.cmpi, IntOp.cmpi, Scalar.xori, IntOp.xori, Scalar.select]

/-- The upper half over the lower one. -/
abbrev over (a b : FVec Ideal S1024x1796 .f32) (j : S2048x1796.Idx) : EReal :=
  if h : (j 0).val < 1024 then a (ix2 ⟨(j 0).val, h⟩ (j 1)) else b (ix2 ⟨(j 0).val - 1024, by have := (j 0).isLt; simp at this; omega⟩ (j 1))

/-- The joined gradient, entry by entry. -/
theorem joined (a b : FVec Ideal S1024x1796 .f32) (p : IVec S2 32) (j : S2048x1796.Idx) :
    val_main_v5 (F := Ideal) a b p j = if p (ix1 0) = 0#32 then over a b j else over b a j := by
  pointwise [val_main_v5, val_main_v4, val_main_v3, val_main_v2, val_main_v1, val_main_v0, val_main_c, over]
  by_cases hp : p (ix1 0) = 0#32
  · simp [hp, IntOp.cmpi, Scalar.select]
  · have hb : (p (ix1 0) == 0#32) = false := beq_eq_false_iff_ne.mpr hp
    simp [hp, hb, IntOp.cmpi, Scalar.select]

/-- A block of the gradient is the joined gradient's there. -/
theorem point5 (c : Dev nD) (t : Fin (cfgM m (ok m)).N) (y : S128x1796.Idx) (j : S2048x1796.Idx)
    (h0 : (j 0).val = t.val * 128 + (y 0).val) (h1 : (j 1).val = (y 1).val) : P5 m c t y = R5 m c j := by
  refine (half_of t _ _ _ y).trans (Eq.trans ?_ (joined _ _ _ j).symm)
  have hy : (y 0).val < 128 := (y 0).isLt
  have ht : t.val < 16 := count ▸ t.isLt
  by_cases hp : (A m c main_arg3 (ix1 0)) = 0#32 <;> by_cases h : t.val < 8
  · refine (if_pos (iff_of_true h hp)).trans (Eq.trans (Eq.trans ?_ (dif_pos (by omega)).symm) (if_pos hp).symm)
    exact at1 m c t y _ (by show (j 0).val = _; rw [Nat.mod_eq_of_lt h]; exact h0) h1
  · refine (if_neg (fun q => h (q.mpr hp))).trans (Eq.trans (Eq.trans ?_ (dif_neg (by omega)).symm) (if_pos hp).symm)
    exact at2 m c t y _ (by show (j 0).val - _ = _; omega) h1
  · refine (if_neg (fun q => hp (q.mp h))).trans (Eq.trans (Eq.trans ?_ (dif_pos (by omega)).symm) (if_neg hp).symm)
    exact at2 m c t y _ (by show (j 0).val = _; rw [Nat.mod_eq_of_lt h]; exact h0) h1
  · refine (if_pos (iff_of_false h hp)).trans (Eq.trans (Eq.trans ?_ (dif_neg (by omega)).symm) (if_neg hp).symm)
    exact at1 m c t y _ (by show (j 0).val - _ = _; omega) h1

/-! ## The step -/

/-- The entries of result 1's block. -/
theorem point6 (c : Dev nD) (t : Fin (cfgM m (ok m)).N) (y : S128x1796.Idx) (j : S2048x1796.Idx)
    (h0 : (j 0).val = t.val * 128 + (y 0).val) (h1 : (j 1).val = (y 1).val) : P6 m c t y = R6 m c j := by
  have g := point5 m c t y j h0 h1
  have e0 := at0 m c t y j h0 h1
  have e3 := at3 m c t y j h0 h1
  have e4 := at4 m c t y j h0 h1
  pointwise [P6, R6, k0_pay1, k0_pay5, k0_pay3, k0_pay4, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_cst_7, val_main_cst_6, val_main_cst_5, val_main_cst_4, val_main_cst_3, val_main_cst_2, val_main_cst_1, val_main_cst_0, val_main_cst]
  simp only [P5, R5] at g
  simp only [g, e0, e3, e4]

/-- The entries of result 2's block. -/
theorem point7 (c : Dev nD) (t : Fin (cfgM m (ok m)).N) (y : S128x1796.Idx) (j : S2048x1796.Idx)
    (h0 : (j 0).val = t.val * 128 + (y 0).val) (h1 : (j 1).val = (y 1).val) : P7 m c t y = R7 m c j := by
  have g := point5 m c t y j h0 h1
  have e3 := at3 m c t y j h0 h1
  pointwise [P7, R7, k0_pay3, val_main_v10, val_main_v9, val_main_v8, val_main_v7, val_main_v6, val_main_cst_0, val_main_cst]
  simp only [P5, R5] at g
  simp only [g, e3]

/-- The entries of result 3's block. -/
theorem point8 (c : Dev nD) (t : Fin (cfgM m (ok m)).N) (y : S128x1796.Idx) (j : S2048x1796.Idx)
    (h0 : (j 0).val = t.val * 128 + (y 0).val) (h1 : (j 1).val = (y 1).val) : P8 m c t y = R8 m c j := by
  have g := point5 m c t y j h0 h1
  have e4 := at4 m c t y j h0 h1
  pointwise [P8, R8, k0_pay4, val_main_v16, val_main_v15, val_main_v14, val_main_v13, val_main_v12, val_main_v11, val_main_cst_1, val_main_cst_2]
  simp only [P5, R5] at g
  simp only [g, e4]

/-- Result 0 after the run. -/
theorem final5 (c : Dev nD) : (dats m (ok m) 0 c).arrAt 5 (cfgM m (ok m)).N = R5 m c := by
  refine (dats m (ok m) 0 c).arrAt_eq_of_covers 5 _ ?_ fun t hf y => ?_
  · exact (by decide +kernel : ((cfg0 (F := Ideal) ⟨fun | ⟨0, _⟩ => (fun _ => (0#32 : BitVec 32)), trivial⟩).win 5).Covers)
  · refine (congrFun (left5 m c t) y).trans (point5 m c t y _ ?_ ?_) <;> blk_simp <;> rw [idx5]
    · rfl
    · exact zero_times _ _

/-- Result 1 after the run. -/
theorem final6 (c : Dev nD) : (dats m (ok m) 0 c).arrAt 6 (cfgM m (ok m)).N = R6 m c := by
  refine (dats m (ok m) 0 c).arrAt_eq_of_covers 6 _ ?_ fun t hf y => ?_
  · exact (by decide +kernel : ((cfg0 (F := Ideal) ⟨fun | ⟨0, _⟩ => (fun _ => (0#32 : BitVec 32)), trivial⟩).win 6).Covers)
  · refine (congrFun (left6 m c t) y).trans (point6 m c t y _ ?_ ?_) <;> blk_simp <;> rw [idx6]
    · rfl
    · exact zero_times _ _

/-- Result 2 after the run. -/
theorem final7 (c : Dev nD) : (dats m (ok m) 0 c).arrAt 7 (cfgM m (ok m)).N = R7 m c := by
  refine (dats m (ok m) 0 c).arrAt_eq_of_covers 7 _ ?_ fun t hf y => ?_
  · exact (by decide +kernel : ((cfg0 (F := Ideal) ⟨fun | ⟨0, _⟩ => (fun _ => (0#32 : BitVec 32)), trivial⟩).win 7).Covers)
  · refine (congrFun (left7 m c t) y).trans (point7 m c t y _ ?_ ?_) <;> blk_simp <;> rw [idx7]
    · rfl
    · exact zero_times _ _

/-- Result 3 after the run. -/
theorem final8 (c : Dev nD) : (dats m (ok m) 0 c).arrAt 8 (cfgM m (ok m)).N = R8 m c := by
  refine (dats m (ok m) 0 c).arrAt_eq_of_covers 8 _ ?_ fun t hf y => ?_
  · exact (by decide +kernel : ((cfg0 (F := Ideal) ⟨fun | ⟨0, _⟩ => (fun _ => (0#32 : BitVec 32)), trivial⟩).win 8).Covers)
  · refine (congrFun (left8 m c t) y).trans (point8 m c t y _ ?_ ?_) <;> blk_simp <;> rw [idx8]
    · rfl
    · exact zero_times _ _

/-- The launch's results are the reference's. -/
theorem algebraic : Cert.algebraic_AdInIdeal_AdInReferenceIdeal (hAdInIdeal := Cert.AdInIdeal.Gen.facts)
    (hAdInReferenceIdeal := Cert.AdInReferenceIdeal.Gen.facts) := by
  intro m g m' g' _ ha
  refine ⟨R5 m, R6 m, R7 m, R8 m, ?_, ?_⟩
  · refine (θ_run defs _ _).mono (fun r h c => ?_) (θ_run_and (run_main m g (ok m)) (unchanged m g (ok m)))
    exact ⟨((h.1 c).1 5).trans (final5 m c), ((h.1 c).1 6).trans (final6 m c), ((h.1 c).1 7).trans (final7 m c),
      ((h.1 c).1 8).trans (final8 m c), h.2 c⟩
  · refine (θ_run Cert.AdInReferenceIdeal.defs _ _).mono (fun r h c => ?_) (Cert.AdInReferenceIdeal.Value.run m' g')
    obtain ⟨a0, a1, a2, a3, a4, a5⟩ := ha c
    obtain ⟨h0, h1, h2, h3, hrest⟩ := h c
    refine ⟨h0.trans ?_, h1.trans ?_, h2.trans ?_, h3.trans ?_, hrest⟩
    · rw [val_main_v5_eq, a1, a2, a3]
    · rw [val_main_v29_eq, a0, a1, a2, a3, a4, a5]
    · rw [val_main_v10_eq, a1, a2, a3, a4]
    · rw [val_main_v16_eq, a1, a2, a3, a5]

end Cert.AdInIdeal.Val

end
-- ==== Proof.AdamOut.lean ====
/- The optimiser's step of the output projection's weight: the rows of a block are the reference's there, whichever half of the gradient they come from. -/
module

public import proofs.«01_k».proof.Proof.Gen.AdOutIdeal
public import proofs.«01_k».proof.Proof.Gen.AdOutIdeal.Skeleton
public import proofs.«01_k».proof.Proof.Gen.AdOutIdeal.Launch
public import proofs.«01_k».proof.Proof.Gen.AdOutIdeal.Points
public import proofs.«01_k».proof.Proof.Gen.AdOutIdeal.Frame
public import proofs.«01_k».proof.Proof.Gen.AdOutReferenceIdeal
public import proofs.«01_k».proof.Proof.Gen.AdOutReferenceIdeal.Run
public import proofs.«01_k».proof.Proof.Gen.AdOutReferenceIdeal.Read
public import proofs.«01_k».proof.Defs
public import Idealize.ShloMosaic.Lib.Pipeline.Value
public import Idealize.ShloMosaic.Lib.Pipeline.ValueKit
public import Idealize.ShloMosaic.Lib.StableHlo.Run

@[expose] public section

set_option maxRecDepth 16384

noncomputable section

namespace Cert.AdOutIdeal.Val

open Idealize.ShloMosaic Idealize.ShloMosaic.TcCoe Idealize.ShloMosaic.Tactic Idealize.SL.Sem
open Idealize.ShloMosaic.Pipeline (Dat)
open Cert.AdOutIdeal Cert.AdOutIdeal.Gen
open Cert.AdOutReferenceIdeal.Read
open scoped BigOperators

variable (m : (ℓ : Loc nD τ sig) → Buf (Elt Ideal) ℓ)

/-! ## The blocks a point works on -/

theorem idx0 (hO : Ok m) : ∀ t : Fin (cfgM m hO).N, ((cfgM m hO).win 0).index t = ![t.val, 0] :=
  (by decide +kernel : ∀ t : Fin grid0.N, cc0_transform_0 (grid0.coords t) = ![t.val, 0])

theorem idx1 (hO : Ok m) : ∀ t : Fin (cfgM m hO).N, ((cfgM m hO).win 1).index t = ![t.val % 2, 0] :=
  (by decide +kernel : ∀ t : Fin grid0.N, cc0_transform_1 (grid0.coords t) = ![t.val % 2, 0])

theorem idx2 (hO : Ok m) : ∀ t : Fin (cfgM m hO).N, ((cfgM m hO).win 2).index t = ![t.val % 2, 0] :=
  (by decide +kernel : ∀ t : Fin grid0.N, cc0_transform_2 (grid0.coords t) = ![t.val % 2, 0])

theorem idx3 (hO : Ok m) : ∀ t : Fin (cfgM m hO).N, ((cfgM m hO).win 3).index t = ![t.val, 0] :=
  (by decide +kernel : ∀ t : Fin grid0.N, cc0_transform_3 (grid0.coords t) = ![t.val, 0])

theorem idx4 (hO : Ok m) : ∀ t : Fin (cfgM m hO).N, ((cfgM m hO).win 4).index t = ![t.val, 0] :=
  (by decide +kernel : ∀ t : Fin grid0.N, cc0_transform_4 (grid0.coords t) = ![t.val, 0])

theorem idx5 (hO : Ok m) : ∀ t : Fin (cfgM m hO).N, ((cfgM m hO).win 5).index t = ![t.val, 0] :=
  (by decide +kernel : ∀ t : Fin grid0.N, cc0_transform_5 (grid0.coords t) = ![t.val, 0])

theorem idx6 (hO : Ok m) : ∀ t : Fin (cfgM m hO).N, ((cfgM m hO).win 6).index t = ![t.val, 0] :=
  (by decide +kernel : ∀ t : Fin grid0.N, cc0_transform_6 (grid0.coords t) = ![t.val, 0])

theorem idx7 (hO : Ok m) : ∀ t : Fin (cfgM m hO).N, ((cfgM m hO).win 7).index t = ![t.val, 0] :=
  (by decide +kernel : ∀ t : Fin grid0.N, cc0_transform_7 (grid0.coords t) = ![t.val, 0])

theorem idx8 (hO : Ok m) : ∀ t : Fin (cfgM m hO).N, ((cfgM m hO).win 8).index t = ![t.val, 0] :=
  (by decide +kernel : ∀ t : Fin grid0.N, cc0_transform_8 (grid0.coords t) = ![t.val, 0])

/-- The launch reads any placement. -/
theorem ok : Ok m := trivial

/-- An argument's contents. -/
abbrev A (c : Dev nD) (b : Ref sig .tc) := m ((c : Thread nD τ).loc b)

/-- Zero blocks and `x`. -/
theorem zero_times (s x : ℕ) : 0 * s + x = x := by rw [Nat.zero_mul, Nat.zero_add]

/-- Two places with the same coordinates. -/
theorem same_place {p q : ℕ} (i j : (⟨2, ![p, q]⟩ : Shape).Idx) (h0 : (i 0).val = (j 0).val) (h1 : (i 1).val = (j 1).val) : i = j :=
  funext fun a => Fin.ext (match a with | 0 => h0 | 1 => h1)

/-- A block's entry of argument 0. -/
theorem at0 (c : Dev nD) (t : Fin (cfgM m (ok m)).N) (y : S128x2048.Idx) (j : S512x2048.Idx)
    (h0 : (j 0).val = (t.val) * 128 + (y 0).val) (h1 : (j 1).val = (y 1).val) : iblk m (ok m) c 0 t y = A m c main_arg0 j := by
  have e : ∀ a, ((((((cfgM m (ok m)).win 0).blk t).view.emb y) a : Fin _) : ℕ) = ((cfgM m (ok m)).win 0).index t a * ((cfgM m (ok m)).win 0).size a + (y a).val := by
    intro a
    blk_simp
  rw [idx0] at e
  exact congrArg (A m c main_arg0) (same_place _ j ((e (0 : Fin 2)).trans h0.symm) ((e (1 : Fin 2)).trans ((zero_times _ _).trans h1.symm)))

/-- A block's entry of argument 1. -/
theorem at1 (c : Dev nD) (t : Fin (cfgM m (ok m)).N) (y : S128x2048.Idx) (j : S256x2048.Idx)
    (h0 : (j 0).val = (t.val % 2) * 128 + (y 0).val) (h1 : (j 1).val = (y 1).val) : iblk m (ok m) c 1 t y = A m c main_arg1 j := by
  have e : ∀ a, ((((((cfgM m (ok m)).win 1).blk t).view.emb y) a : Fin _) : ℕ) = ((cfgM m (ok m)).win 1).index t a * ((cfgM m (ok m)).win 1).size a + (y a).val := by
    intro a
    blk_simp
  rw [idx1] at e
  exact congrArg (A m c main_arg1) (same_place _ j ((e (0 : Fin 2)).trans h0.symm) ((e (1 : Fin 2)).trans ((zero_times _ _).trans h1.symm)))

/-- A block's entry of argument 2. -/
theorem at2 (c : Dev nD) (t : Fin (cfgM m (ok m)).N) (y : S128x2048.Idx) (j : S256x2048.Idx)
    (h0 : (j 0).val = (t.val % 2) * 128 + (y 0).val) (h1 : (j 1).val = (y 1).val) : iblk m (ok m) c 2 t y = A m c main_arg2 j := by
  have e : ∀ a, ((((((cfgM m (ok m)).win 2).blk t).view.emb y) a : Fin _) : ℕ) = ((cfgM m (ok m)).win 2).index t a * ((cfgM m (ok m)).win 2).size a + (y a).val := by
    intro a
    blk_simp
  rw [idx2] at e
  exact congrArg (A m c main_arg2) (same_place _ j ((e (0 : Fin 2)).trans h0.symm) ((e (1 : Fin 2)).trans ((zero_times _ _).trans h1.symm)))

/-- A block's entry of argument 4. -/
theorem at3 (c : Dev nD) (t : Fin (cfgM m (ok m)).N) (y : S128x2048.Idx) (j : S512x2048.Idx)
    (h0 : (j 0).val = (t.val) * 128 + (y 0).val) (h1 : (j 1).val = (y 1).val) : iblk m (ok m) c 3 t y = A m c main_arg4 j := by
  have e : ∀ a, ((((((cfgM m (ok m)).win 3).blk t).view.emb y) a : Fin _) : ℕ) = ((cfgM m (ok m)).win 3).index t a * ((cfgM m (ok m)).win 3).size a + (y a).val := by
    intro a
    blk_simp
  rw [idx3] at e
  exact congrArg (A m c main_arg4) (same_place _ j ((e (0 : Fin 2)).trans h0.symm) ((e (1 : Fin 2)).trans ((zero_times _ _).trans h1.symm)))

/-- A block's entry of argument 5. -/
theorem at4 (c : Dev nD) (t : Fin (cfgM m (ok m)).N) (y : S128x2048.Idx) (j : S512x2048.Idx)
    (h0 : (j 0).val = (t.val) * 128 + (y 0).val) (h1 : (j 1).val = (y 1).val) : iblk m (ok m) c 4 t y = A m c main_arg5 j := by
  have e : ∀ a, ((((((cfgM m (ok m)).win 4).blk t).view.emb y) a : Fin _) : ℕ) = ((cfgM m (ok m)).win 4).index t a * ((cfgM m (ok m)).win 4).size a + (y a).val := by
    intro a
    blk_simp
  rw [idx4] at e
  exact congrArg (A m c main_arg5) (same_place _ j ((e (0 : Fin 2)).trans h0.symm) ((e (1 : Fin 2)).trans ((zero_times _ _).trans h1.symm)))

/-! ## What the body leaves -/

/-- The reference's result 0: the joined gradient. -/
abbrev R5 (c : Dev nD) : FVec Ideal S512x2048 .f32 := val_main_v5 (F := Ideal) (A m c main_arg1) (A m c main_arg2) (A m c main_arg3)

/-- The body's result 0 at a point. -/
abbrev P5 (c : Dev nD) (t : Fin (cfgM m (ok m)).N) : FVec Ideal S128x2048 .f32 := k0_pay2 (F := Ideal) (grid0.coords t) (A m c main_arg3 (ix1 0)) (iblk m (ok m) c 1 t) (iblk m (ok m) c 2 t)

/-- What the body leaves in result 0's block. -/
theorem left5 (c : Dev nD) (t : Fin (cfgM m (ok m)).N) : (dats m (ok m) 0 c).after 5 t = P5 m c t := by
  obtain rfl : c = 0 := Subsingleton.elim _ _
  rw [after0_5]
  unfold outsAt0
  dsimp only
  frame_out
  skip
  congr 1 <;> first | exact Memref.IsWhole.read_unread _ _ | (refine congrArg (A m 0 main_arg3) (funext fun (a : Fin 1) => ?_); obtain rfl := (Subsingleton.elim a (0 : Fin 1) : a = (0 : Fin 1)); rfl)

/-- The reference's result 1: the change of the weight. -/
abbrev R6 (c : Dev nD) : FVec Ideal S512x2048 .f32 := val_main_v29 (F := Ideal) (A m c main_arg0) (A m c main_arg1) (A m c main_arg2) (A m c main_arg3) (A m c main_arg4) (A m c main_arg5)

/-- The body's result 1 at a point. -/
abbrev P6 (c : Dev nD) (t : Fin (cfgM m (ok m)).N) : FVec Ideal S128x2048 .f32 := k0_pay1 (F := Ideal) (k0_pay5 (grid0.coords t) (A m c main_arg3 (ix1 0)) (iblk m (ok m) c 1 t) (iblk m (ok m) c 2 t) (iblk m (ok m) c 0 t) (iblk m (ok m) c 3 t) (iblk m (ok m) c 4 t))

/-- What the body leaves in result 1's block. -/
theorem left6 (c : Dev nD) (t : Fin (cfgM m (ok m)).N) : (dats m (ok m) 0 c).after 6 t = P6 m c t := by
  obtain rfl : c = 0 := Subsingleton.elim _ _
  rw [after0_6]
  unfold outsAt0
  dsimp only
  frame_out
  refine congrArg _ ?_
  congr 1 <;> first | exact Memref.IsWhole.read_unread _ _ | (refine congrArg (A m 0 main_arg3) (funext fun (a : Fin 1) => ?_); obtain rfl := (Subsingleton.elim a (0 : Fin 1) : a = (0 : Fin 1)); rfl)

/-- The reference's result 2: the new first moment. -/
abbrev R7 (c : Dev nD) : FVec Ideal S512x2048 .f32 := val_main_v10 (F := Ideal) (A m c main_arg1) (A m c main_arg2) (A m c main_arg3) (A m c main_arg4)

/-- The body's result 2 at a point. -/
abbrev P7 (c : Dev nD) (t : Fin (cfgM m (ok m)).N) : FVec Ideal S128x2048 .f32 := k0_pay3 (F := Ideal) (grid0.coords t) (A m c main_arg3 (ix1 0)) (iblk m (ok m) c 1 t) (iblk m (ok m) c 2 t) (iblk m (ok m) c 3 t)

/-- What the body leaves in result 2's block. -/
theorem left7 (c : Dev nD) (t : Fin (cfgM m (ok m)).N) : (dats m (ok m) 0 c).after 7 t = P7 m c t := by
  obtain rfl : c = 0 := Subsingleton.elim _ _
  rw [after0_7]
  unfold outsAt0
  dsimp only
  frame_out
  skip
  congr 1 <;> first | exact Memref.IsWhole.read_unread _ _ | (refine congrArg (A m 0 main_arg3) (funext fun (a : Fin 1) => ?_); obtain rfl := (Subsingleton.elim a (0 : Fin 1) : a = (0 : Fin 1)); rfl)

/-- The reference's result 3: the new second moment. -/
abbrev R8 (c : Dev nD) : FVec Ideal S512x2048 .f32 := val_main_v16 (F := Ideal) (A m c main_arg1) (A m c main_arg2) (A m c main_arg3) (A m c main_arg5)

/-- The body's result 3 at a point. -/
abbrev P8 (c : Dev nD) (t : Fin (cfgM m (ok m)).N) : FVec Ideal S128x2048 .f32 := k0_pay4 (F := Ideal) (grid0.coords t) (A m c main_arg3 (ix1 0)) (iblk m (ok m) c 1 t) (iblk m (ok m) c 2 t) (iblk m (ok m) c 4 t)

/-- What the body leaves in result 3's block. -/
theorem left8 (c : Dev nD) (t : Fin (cfgM m (ok m)).N) : (dats m (ok m) 0 c).after 8 t = P8 m c t := by
  obtain rfl : c = 0 := Subsingleton.elim _ _
  rw [after0_8]
  unfold outsAt0
  dsimp only
  frame_out
  skip
  congr 1 <;> first | exact Memref.IsWhole.read_unread _ _ | (refine congrArg (A m 0 main_arg3) (funext fun (a : Fin 1) => ?_); obtain rfl := (Subsingleton.elim a (0 : Fin 1) : a = (0 : Fin 1)); rfl)

/-! ## The gradient -/

/-- Which blocks are the upper half's. -/
theorem upper : ∀ t : Fin grid0.N, Scalar.cmpi .slt (BitVec.ofNat 32 (grid0.coords t 0).val) 2#32 = if t.val < 2 then 1#1 else 0#1 := by
  decide +kernel

/-- The number of blocks. -/
theorem count : grid0.N = 4 := by decide +kernel

/-- The half a block is taken from. -/
theorem half_of (t : Fin grid0.N) (p : BitVec 32) (a b : FVec Ideal S128x2048 .f32) (y : S128x2048.Idx) :
    k0_pay2 (F := Ideal) (grid0.coords t) p a b y = if (t.val < 2 ↔ p = 0#32) then a y else b y := by
  pointwise [k0_pay2]
  rw [upper t]
  by_cases hp : p = 0#32
  · subst hp
    by_cases h : t.val < 2 <;> simp [h, Scalar.cmpi, IntOp.cmpi, Scalar.xori, IntOp.xori, Scalar.select]
  · have hb : (p == 0#32) = false := beq_eq_false_iff_ne.mpr hp
    by_cases h : t.val < 2 <;> simp [h, hp, hb, Scalar.cmpi, IntOp.cmpi, Scalar.xori, IntOp.xori, Scalar.select]

/-- The upper half over the lower one. -/
abbrev over (a b : FVec Ideal S256x2048 .f32) (j : S512x2048.Idx) : EReal :=
  if h : (j 0).val < 256 then a (ix2 ⟨(j 0).val, h⟩ (j 1)) else b (ix2 ⟨(j 0).val - 256, by have := (j 0).isLt; simp at this; omega⟩ (j 1))

/-- The joined gradient, entry by entry. -/
theorem joined (a b : FVec Ideal S256x2048 .f32) (p : IVec S2 32) (j : S512x2048.Idx) :
    val_main_v5 (F := Ideal) a b p j = if p (ix1 0) = 0#32 then over a b j else over b a j := by
  pointwise [val_main_v5, val_main_v4, val_main_v3, val_main_v2, val_main_v1, val_main_v0, val_main_c, over]
  by_cases hp : p (ix1 0) = 0#32
  · simp [hp, IntOp.cmpi, Scalar.select]
  · have hb : (p (ix1 0) == 0#32) = false := beq_eq_false_iff_ne.mpr hp
    simp [hp, hb, IntOp.cmpi, Scalar.select]

/-- A block of the gradient is the joined gradient's there. -/
theorem point5 (c : Dev nD) (t : Fin (cfgM m (ok m)).N) (y : S128x2048.Idx) (j : S512x2048.Idx)
    (h0 : (j 0).val = t.val * 128 + (y 0).val) (h1 : (j 1).val = (y 1).val) : P5 m c t y = R5 m c j := by
  refine (half_of t _ _ _ y).trans (Eq.trans ?_ (joined _ _ _ j).symm)
  have hy : (y 0).val < 128 := (y 0).isLt
  have ht : t.val < 4 := count ▸ t.isLt
  by_cases hp : (A m c main_arg3 (ix1 0)) = 0#32 <;> by_cases h : t.val < 2
  · refine (if_pos (iff_of_true h hp)).trans (Eq.trans (Eq.trans ?_ (dif_pos (by omega)).symm) (if_pos hp).symm)
    exact at1 m c t y _ (by show (j 0).val = _; rw [Nat.mod_eq_of_lt h]; exact h0) h1
  · refine (if_neg (fun q => h (q.mpr hp))).trans (Eq.trans (Eq.trans ?_ (dif_neg (by omega)).symm) (if_pos hp).symm)
    exact at2 m c t y _ (by show (j 0).val - _ = _; omega) h1
  · refine (if_neg (fun q => hp (q.mp h))).trans (Eq.trans (Eq.trans ?_ (dif_pos (by omega)).symm) (if_neg hp).symm)
    exact at2 m c t y _ (by show (j 0).val = _; rw [Nat.mod_eq_of_lt h]; exact h0) h1
  · refine (if_pos (iff_of_false h hp)).trans (Eq.trans (Eq.trans ?_ (dif_neg (by omega)).symm) (if_neg hp).symm)
    exact at1 m c t y _ (by show (j 0).val - _ = _; omega) h1

/-! ## The step -/

/-- The entries of result 1's block. -/
theorem point6 (c : Dev nD) (t : Fin (cfgM m (ok m)).N) (y : S128x2048.Idx) (j : S512x2048.Idx)
    (h0 : (j 0).val = t.val * 128 + (y 0).val) (h1 : (j 1).val = (y 1).val) : P6 m c t y = R6 m c j := by
  have g := point5 m c t y j h0 h1
  have e0 := at0 m c t y j h0 h1
  have e3 := at3 m c t y j h0 h1
  have e4 := at4 m c t y j h0 h1
  pointwise [P6, R6, k0_pay1, k0_pay5, k0_pay3, k0_pay4, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_cst_7, val_main_cst_6, val_main_cst_5, val_main_cst_4, val_main_cst_3, val_main_cst_2, val_main_cst_1, val_main_cst_0, val_main_cst]
  simp only [P5, R5] at g
  simp only [g, e0, e3, e4]

/-- The entries of result 2's block. -/
theorem point7 (c : Dev nD) (t : Fin (cfgM m (ok m)).N) (y : S128x2048.Idx) (j : S512x2048.Idx)
    (h0 : (j 0).val = t.val * 128 + (y 0).val) (h1 : (j 1).val = (y 1).val) : P7 m c t y = R7 m c j := by
  have g := point5 m c t y j h0 h1
  have e3 := at3 m c t y j h0 h1
  pointwise [P7, R7, k0_pay3, val_main_v10, val_main_v9, val_main_v8, val_main_v7, val_main_v6, val_main_cst_0, val_main_cst]
  simp only [P5, R5] at g
  simp only [g, e3]

/-- The entries of result 3's block. -/
theorem point8 (c : Dev nD) (t : Fin (cfgM m (ok m)).N) (y : S128x2048.Idx) (j : S512x2048.Idx)
    (h0 : (j 0).val = t.val * 128 + (y 0).val) (h1 : (j 1).val = (y 1).val) : P8 m c t y = R8 m c j := by
  have g := point5 m c t y j h0 h1
  have e4 := at4 m c t y j h0 h1
  pointwise [P8, R8, k0_pay4, val_main_v16, val_main_v15, val_main_v14, val_main_v13, val_main_v12, val_main_v11, val_main_cst_1, val_main_cst_2]
  simp only [P5, R5] at g
  simp only [g, e4]

/-- Result 0 after the run. -/
theorem final5 (c : Dev nD) : (dats m (ok m) 0 c).arrAt 5 (cfgM m (ok m)).N = R5 m c := by
  refine (dats m (ok m) 0 c).arrAt_eq_of_covers 5 _ ?_ fun t hf y => ?_
  · exact (by decide +kernel : ((cfg0 (F := Ideal) ⟨fun | ⟨0, _⟩ => (fun _ => (0#32 : BitVec 32)), trivial⟩).win 5).Covers)
  · refine (congrFun (left5 m c t) y).trans (point5 m c t y _ ?_ ?_) <;> blk_simp <;> rw [idx5]
    · rfl
    · exact zero_times _ _

/-- Result 1 after the run. -/
theorem final6 (c : Dev nD) : (dats m (ok m) 0 c).arrAt 6 (cfgM m (ok m)).N = R6 m c := by
  refine (dats m (ok m) 0 c).arrAt_eq_of_covers 6 _ ?_ fun t hf y => ?_
  · exact (by decide +kernel : ((cfg0 (F := Ideal) ⟨fun | ⟨0, _⟩ => (fun _ => (0#32 : BitVec 32)), trivial⟩).win 6).Covers)
  · refine (congrFun (left6 m c t) y).trans (point6 m c t y _ ?_ ?_) <;> blk_simp <;> rw [idx6]
    · rfl
    · exact zero_times _ _

/-- Result 2 after the run. -/
theorem final7 (c : Dev nD) : (dats m (ok m) 0 c).arrAt 7 (cfgM m (ok m)).N = R7 m c := by
  refine (dats m (ok m) 0 c).arrAt_eq_of_covers 7 _ ?_ fun t hf y => ?_
  · exact (by decide +kernel : ((cfg0 (F := Ideal) ⟨fun | ⟨0, _⟩ => (fun _ => (0#32 : BitVec 32)), trivial⟩).win 7).Covers)
  · refine (congrFun (left7 m c t) y).trans (point7 m c t y _ ?_ ?_) <;> blk_simp <;> rw [idx7]
    · rfl
    · exact zero_times _ _

/-- Result 3 after the run. -/
theorem final8 (c : Dev nD) : (dats m (ok m) 0 c).arrAt 8 (cfgM m (ok m)).N = R8 m c := by
  refine (dats m (ok m) 0 c).arrAt_eq_of_covers 8 _ ?_ fun t hf y => ?_
  · exact (by decide +kernel : ((cfg0 (F := Ideal) ⟨fun | ⟨0, _⟩ => (fun _ => (0#32 : BitVec 32)), trivial⟩).win 8).Covers)
  · refine (congrFun (left8 m c t) y).trans (point8 m c t y _ ?_ ?_) <;> blk_simp <;> rw [idx8]
    · rfl
    · exact zero_times _ _

/-- The launch's results are the reference's. -/
theorem algebraic : Cert.algebraic_AdOutIdeal_AdOutReferenceIdeal (hAdOutIdeal := Cert.AdOutIdeal.Gen.facts)
    (hAdOutReferenceIdeal := Cert.AdOutReferenceIdeal.Gen.facts) := by
  intro m g m' g' _ ha
  refine ⟨R5 m, R6 m, R7 m, R8 m, ?_, ?_⟩
  · refine (θ_run defs _ _).mono (fun r h c => ?_) (θ_run_and (run_main m g (ok m)) (unchanged m g (ok m)))
    exact ⟨((h.1 c).1 5).trans (final5 m c), ((h.1 c).1 6).trans (final6 m c), ((h.1 c).1 7).trans (final7 m c),
      ((h.1 c).1 8).trans (final8 m c), h.2 c⟩
  · refine (θ_run Cert.AdOutReferenceIdeal.defs _ _).mono (fun r h c => ?_) (Cert.AdOutReferenceIdeal.Value.run m' g')
    obtain ⟨a0, a1, a2, a3, a4, a5⟩ := ha c
    obtain ⟨h0, h1, h2, h3, hrest⟩ := h c
    refine ⟨h0.trans ?_, h1.trans ?_, h2.trans ?_, h3.trans ?_, hrest⟩
    · rw [val_main_v5_eq, a1, a2, a3]
    · rw [val_main_v29_eq, a0, a1, a2, a3, a4, a5]
    · rw [val_main_v10_eq, a1, a2, a3, a4]
    · rw [val_main_v16_eq, a1, a2, a3, a5]

end Cert.AdOutIdeal.Val

end
-- ==== Proof.AdamUp.lean ====
/- The optimiser's step of the feed-forward layer's first weight: the rows of a block are the reference's there, whichever half of the gradient they come from. -/
module

public import proofs.«01_k».proof.Proof.Gen.AdUpIdeal
public import proofs.«01_k».proof.Proof.Gen.AdUpIdeal.Skeleton
public import proofs.«01_k».proof.Proof.Gen.AdUpIdeal.Launch
public import proofs.«01_k».proof.Proof.Gen.AdUpIdeal.Points
public import proofs.«01_k».proof.Proof.Gen.AdUpIdeal.Frame
public import proofs.«01_k».proof.Proof.Gen.AdUpReferenceIdeal
public import proofs.«01_k».proof.Proof.Gen.AdUpReferenceIdeal.Run
public import proofs.«01_k».proof.Proof.Gen.AdUpReferenceIdeal.Read
public import proofs.«01_k».proof.Defs
public import Idealize.ShloMosaic.Lib.Pipeline.Value
public import Idealize.ShloMosaic.Lib.Pipeline.ValueKit
public import Idealize.ShloMosaic.Lib.StableHlo.Run

@[expose] public section

set_option maxRecDepth 16384

noncomputable section

namespace Cert.AdUpIdeal.Val

open Idealize.ShloMosaic Idealize.ShloMosaic.TcCoe Idealize.ShloMosaic.Tactic Idealize.SL.Sem
open Idealize.ShloMosaic.Pipeline (Dat)
open Cert.AdUpIdeal Cert.AdUpIdeal.Gen
open Cert.AdUpReferenceIdeal.Read
open scoped BigOperators

variable (m : (ℓ : Loc nD τ sig) → Buf (Elt Ideal) ℓ)

/-! ## The blocks a point works on -/

theorem idx0 (hO : Ok m) : ∀ t : Fin (cfgM m hO).N, ((cfgM m hO).win 0).index t = ![t.val, 0] :=
  (by decide +kernel : ∀ t : Fin grid0.N, cc0_transform_0 (grid0.coords t) = ![t.val, 0])

theorem idx1 (hO : Ok m) : ∀ t : Fin (cfgM m hO).N, ((cfgM m hO).win 1).index t = ![t.val % 8, 0] :=
  (by decide +kernel : ∀ t : Fin grid0.N, cc0_transform_1 (grid0.coords t) = ![t.val % 8, 0])

theorem idx2 (hO : Ok m) : ∀ t : Fin (cfgM m hO).N, ((cfgM m hO).win 2).index t = ![t.val % 8, 0] :=
  (by decide +kernel : ∀ t : Fin grid0.N, cc0_transform_2 (grid0.coords t) = ![t.val % 8, 0])

theorem idx3 (hO : Ok m) : ∀ t : Fin (cfgM m hO).N, ((cfgM m hO).win 3).index t = ![t.val, 0] :=
  (by decide +kernel : ∀ t : Fin grid0.N, cc0_transform_3 (grid0.coords t) = ![t.val, 0])

theorem idx4 (hO : Ok m) : ∀ t : Fin (cfgM m hO).N, ((cfgM m hO).win 4).index t = ![t.val, 0] :=
  (by decide +kernel : ∀ t : Fin grid0.N, cc0_transform_4 (grid0.coords t) = ![t.val, 0])

theorem idx5 (hO : Ok m) : ∀ t : Fin (cfgM m hO).N, ((cfgM m hO).win 5).index t = ![t.val, 0] :=
  (by decide +kernel : ∀ t : Fin grid0.N, cc0_transform_5 (grid0.coords t) = ![t.val, 0])

theorem idx6 (hO : Ok m) : ∀ t : Fin (cfgM m hO).N, ((cfgM m hO).win 6).index t = ![t.val, 0] :=
  (by decide +kernel : ∀ t : Fin grid0.N, cc0_transform_6 (grid0.coords t) = ![t.val, 0])

theorem idx7 (hO : Ok m) : ∀ t : Fin (cfgM m hO).N, ((cfgM m hO).win 7).index t = ![t.val, 0] :=
  (by decide +kernel : ∀ t : Fin grid0.N, cc0_transform_7 (grid0.coords t) = ![t.val, 0])

theorem idx8 (hO : Ok m) : ∀ t : Fin (cfgM m hO).N, ((cfgM m hO).win 8).index t = ![t.val, 0] :=
  (by decide +kernel : ∀ t : Fin grid0.N, cc0_transform_8 (grid0.coords t) = ![t.val, 0])

/-- The launch reads any placement. -/
theorem ok : Ok m := trivial

/-- An argument's contents. -/
abbrev A (c : Dev nD) (b : Ref sig .tc) := m ((c : Thread nD τ).loc b)

/-- Zero blocks and `x`. -/
theorem zero_times (s x : ℕ) : 0 * s + x = x := by rw [Nat.zero_mul, Nat.zero_add]

/-- Two places with the same coordinates. -/
theorem same_place {p q : ℕ} (i j : (⟨2, ![p, q]⟩ : Shape).Idx) (h0 : (i 0).val = (j 0).val) (h1 : (i 1).val = (j 1).val) : i = j :=
  funext fun a => Fin.ext (match a with | 0 => h0 | 1 => h1)

/-- A block's entry of argument 0. -/
theorem at0 (c : Dev nD) (t : Fin (cfgM m (ok m)).N) (y : S128x2816.Idx) (j : S2048x2816.Idx)
    (h0 : (j 0).val = (t.val) * 128 + (y 0).val) (h1 : (j 1).val = (y 1).val) : iblk m (ok m) c 0 t y = A m c main_arg0 j := by
  have e : ∀ a, ((((((cfgM m (ok m)).win 0).blk t).view.emb y) a : Fin _) : ℕ) = ((cfgM m (ok m)).win 0).index t a * ((cfgM m (ok m)).win 0).size a + (y a).val := by
    intro a
    blk_simp
  rw [idx0] at e
  exact congrArg (A m c main_arg0) (same_place _ j ((e (0 : Fin 2)).trans h0.symm) ((e (1 : Fin 2)).trans ((zero_times _ _).trans h1.symm)))

/-- A block's entry of argument 1. -/
theorem at1 (c : Dev nD) (t : Fin (cfgM m (ok m)).N) (y : S128x2816.Idx) (j : S1024x2816.Idx)
    (h0 : (j 0).val = (t.val % 8) * 128 + (y 0).val) (h1 : (j 1).val = (y 1).val) : iblk m (ok m) c 1 t y = A m c main_arg1 j := by
  have e : ∀ a, ((((((cfgM m (ok m)).win 1).blk t).view.emb y) a : Fin _) : ℕ) = ((cfgM m (ok m)).win 1).index t a * ((cfgM m (ok m)).win 1).size a + (y a).val := by
    intro a
    blk_simp
  rw [idx1] at e
  exact congrArg (A m c main_arg1) (same_place _ j ((e (0 : Fin 2)).trans h0.symm) ((e (1 : Fin 2)).trans ((zero_times _ _).trans h1.symm)))

/-- A block's entry of argument 2. -/
theorem at2 (c : Dev nD) (t : Fin (cfgM m (ok m)).N) (y : S128x2816.Idx) (j : S1024x2816.Idx)
    (h0 : (j 0).val = (t.val % 8) * 128 + (y 0).val) (h1 : (j 1).val = (y 1).val) : iblk m (ok m) c 2 t y = A m c main_arg2 j := by
  have e : ∀ a, ((((((cfgM m (ok m)).win 2).blk t).view.emb y) a : Fin _) : ℕ) = ((cfgM m (ok m)).win 2).index t a * ((cfgM m (ok m)).win 2).size a + (y a).val := by
    intro a
    blk_simp
  rw [idx2] at e
  exact congrArg (A m c main_arg2) (same_place _ j ((e (0 : Fin 2)).trans h0.symm) ((e (1 : Fin 2)).trans ((zero_times _ _).trans h1.symm)))

/-- A block's entry of argument 4. -/
theorem at3 (c : Dev nD) (t : Fin (cfgM m (ok m)).N) (y : S128x2816.Idx) (j : S2048x2816.Idx)
    (h0 : (j 0).val = (t.val) * 128 + (y 0).val) (h1 : (j 1).val = (y 1).val) : iblk m (ok m) c 3 t y = A m c main_arg4 j := by
  have e : ∀ a, ((((((cfgM m (ok m)).win 3).blk t).view.emb y) a : Fin _) : ℕ) = ((cfgM m (ok m)).win 3).index t a * ((cfgM m (ok m)).win 3).size a + (y a).val := by
    intro a
    blk_simp
  rw [idx3] at e
  exact congrArg (A m c main_arg4) (same_place _ j ((e (0 : Fin 2)).trans h0.symm) ((e (1 : Fin 2)).trans ((zero_times _ _).trans h1.symm)))

/-- A block's entry of argument 5. -/
theorem at4 (c : Dev nD) (t : Fin (cfgM m (ok m)).N) (y : S128x2816.Idx) (j : S2048x2816.Idx)
    (h0 : (j 0).val = (t.val) * 128 + (y 0).val) (h1 : (j 1).val = (y 1).val) : iblk m (ok m) c 4 t y = A m c main_arg5 j := by
  have e : ∀ a, ((((((cfgM m (ok m)).win 4).blk t).view.emb y) a : Fin _) : ℕ) = ((cfgM m (ok m)).win 4).index t a * ((cfgM m (ok m)).win 4).size a + (y a).val := by
    intro a
    blk_simp
  rw [idx4] at e
  exact congrArg (A m c main_arg5) (same_place _ j ((e (0 : Fin 2)).trans h0.symm) ((e (1 : Fin 2)).trans ((zero_times _ _).trans h1.symm)))

/-! ## What the body leaves -/

/-- The reference's result 0: the joined gradient. -/
abbrev R5 (c : Dev nD) : FVec Ideal S2048x2816 .f32 := val_main_v5 (F := Ideal) (A m c main_arg1) (A m c main_arg2) (A m c main_arg3)

/-- The body's result 0 at a point. -/
abbrev P5 (c : Dev nD) (t : Fin (cfgM m (ok m)).N) : FVec Ideal S128x2816 .f32 := k0_pay2 (F := Ideal) (grid0.coords t) (A m c main_arg3 (ix1 0)) (iblk m (ok m) c 1 t) (iblk m (ok m) c 2 t)

/-- What the body leaves in result 0's block. -/
theorem left5 (c : Dev nD) (t : Fin (cfgM m (ok m)).N) : (dats m (ok m) 0 c).after 5 t = P5 m c t := by
  obtain rfl : c = 0 := Subsingleton.elim _ _
  rw [after0_5]
  unfold outsAt0
  dsimp only
  frame_out
  skip
  congr 1 <;> first | exact Memref.IsWhole.read_unread _ _ | (refine congrArg (A m 0 main_arg3) (funext fun (a : Fin 1) => ?_); obtain rfl := (Subsingleton.elim a (0 : Fin 1) : a = (0 : Fin 1)); rfl)

/-- The reference's result 1: the change of the weight. -/
abbrev R6 (c : Dev nD) : FVec Ideal S2048x2816 .f32 := val_main_v29 (F := Ideal) (A m c main_arg0) (A m c main_arg1) (A m c main_arg2) (A m c main_arg3) (A m c main_arg4) (A m c main_arg5)

/-- The body's result 1 at a point. -/
abbrev P6 (c : Dev nD) (t : Fin (cfgM m (ok m)).N) : FVec Ideal S128x2816 .f32 := k0_pay1 (F := Ideal) (k0_pay5 (grid0.coords t) (A m c main_arg3 (ix1 0)) (iblk m (ok m) c 1 t) (iblk m (ok m) c 2 t) (iblk m (ok m) c 0 t) (iblk m (ok m) c 3 t) (iblk m (ok m) c 4 t))

/-- What the body leaves in result 1's block. -/
theorem left6 (c : Dev nD) (t : Fin (cfgM m (ok m)).N) : (dats m (ok m) 0 c).after 6 t = P6 m c t := by
  obtain rfl : c = 0 := Subsingleton.elim _ _
  rw [after0_6]
  unfold outsAt0
  dsimp only
  frame_out
  refine congrArg _ ?_
  congr 1 <;> first | exact Memref.IsWhole.read_unread _ _ | (refine congrArg (A m 0 main_arg3) (funext fun (a : Fin 1) => ?_); obtain rfl := (Subsingleton.elim a (0 : Fin 1) : a = (0 : Fin 1)); rfl)

/-- The reference's result 2: the new first moment. -/
abbrev R7 (c : Dev nD) : FVec Ideal S2048x2816 .f32 := val_main_v10 (F := Ideal) (A m c main_arg1) (A m c main_arg2) (A m c main_arg3) (A m c main_arg4)

/-- The body's result 2 at a point. -/
abbrev P7 (c : Dev nD) (t : Fin (cfgM m (ok m)).N) : FVec Ideal S128x2816 .f32 := k0_pay3 (F := Ideal) (grid0.coords t) (A m c main_arg3 (ix1 0)) (iblk m (ok m) c 1 t) (iblk m (ok m) c 2 t) (iblk m (ok m) c 3 t)

/-- What the body leaves in result 2's block. -/
theorem left7 (c : Dev nD) (t : Fin (cfgM m (ok m)).N) : (dats m (ok m) 0 c).after 7 t = P7 m c t := by
  obtain rfl : c = 0 := Subsingleton.elim _ _
  rw [after0_7]
  unfold outsAt0
  dsimp only
  frame_out
  skip
  congr 1 <;> first | exact Memref.IsWhole.read_unread _ _ | (refine congrArg (A m 0 main_arg3) (funext fun (a : Fin 1) => ?_); obtain rfl := (Subsingleton.elim a (0 : Fin 1) : a = (0 : Fin 1)); rfl)

/-- The reference's result 3: the new second moment. -/
abbrev R8 (c : Dev nD) : FVec Ideal S2048x2816 .f32 := val_main_v16 (F := Ideal) (A m c main_arg1) (A m c main_arg2) (A m c main_arg3) (A m c main_arg5)

/-- The body's result 3 at a point. -/
abbrev P8 (c : Dev nD) (t : Fin (cfgM m (ok m)).N) : FVec Ideal S128x2816 .f32 := k0_pay4 (F := Ideal) (grid0.coords t) (A m c main_arg3 (ix1 0)) (iblk m (ok m) c 1 t) (iblk m (ok m) c 2 t) (iblk m (ok m) c 4 t)

/-- What the body leaves in result 3's block. -/
theorem left8 (c : Dev nD) (t : Fin (cfgM m (ok m)).N) : (dats m (ok m) 0 c).after 8 t = P8 m c t := by
  obtain rfl : c = 0 := Subsingleton.elim _ _
  rw [after0_8]
  unfold outsAt0
  dsimp only
  frame_out
  skip
  congr 1 <;> first | exact Memref.IsWhole.read_unread _ _ | (refine congrArg (A m 0 main_arg3) (funext fun (a : Fin 1) => ?_); obtain rfl := (Subsingleton.elim a (0 : Fin 1) : a = (0 : Fin 1)); rfl)

/-! ## The gradient -/

/-- Which blocks are the upper half's. -/
theorem upper : ∀ t : Fin grid0.N, Scalar.cmpi .slt (BitVec.ofNat 32 (grid0.coords t 0).val) 8#32 = if t.val < 8 then 1#1 else 0#1 := by
  decide +kernel

/-- The number of blocks. -/
theorem count : grid0.N = 16 := by decide +kernel

/-- The half a block is taken from. -/
theorem half_of (t : Fin grid0.N) (p : BitVec 32) (a b : FVec Ideal S128x2816 .f32) (y : S128x2816.Idx) :
    k0_pay2 (F := Ideal) (grid0.coords t) p a b y = if (t.val < 8 ↔ p = 0#32) then a y else b y := by
  pointwise [k0_pay2]
  rw [upper t]
  by_cases hp : p = 0#32
  · subst hp
    by_cases h : t.val < 8 <;> simp [h, Scalar.cmpi, IntOp.cmpi, Scalar.xori, IntOp.xori, Scalar.select]
  · have hb : (p == 0#32) = false := beq_eq_false_iff_ne.mpr hp
    by_cases h : t.val < 8 <;> simp [h, hp, hb, Scalar.cmpi, IntOp.cmpi, Scalar.xori, IntOp.xori, Scalar.select]

/-- The upper half over the lower one. -/
abbrev over (a b : FVec Ideal S1024x2816 .f32) (j : S2048x2816.Idx) : EReal :=
  if h : (j 0).val < 1024 then a (ix2 ⟨(j 0).val, h⟩ (j 1)) else b (ix2 ⟨(j 0).val - 1024, by have := (j 0).isLt; simp at this; omega⟩ (j 1))

/-- The joined gradient, entry by entry. -/
theorem joined (a b : FVec Ideal S1024x2816 .f32) (p : IVec S2 32) (j : S2048x2816.Idx) :
    val_main_v5 (F := Ideal) a b p j = if p (ix1 0) = 0#32 then over a b j else over b a j := by
  pointwise [val_main_v5, val_main_v4, val_main_v3, val_main_v2, val_main_v1, val_main_v0, val_main_c, over]
  by_cases hp : p (ix1 0) = 0#32
  · simp [hp, IntOp.cmpi, Scalar.select]
  · have hb : (p (ix1 0) == 0#32) = false := beq_eq_false_iff_ne.mpr hp
    simp [hp, hb, IntOp.cmpi, Scalar.select]

/-- A block of the gradient is the joined gradient's there. -/
theorem point5 (c : Dev nD) (t : Fin (cfgM m (ok m)).N) (y : S128x2816.Idx) (j : S2048x2816.Idx)
    (h0 : (j 0).val = t.val * 128 + (y 0).val) (h1 : (j 1).val = (y 1).val) : P5 m c t y = R5 m c j := by
  refine (half_of t _ _ _ y).trans (Eq.trans ?_ (joined _ _ _ j).symm)
  have hy : (y 0).val < 128 := (y 0).isLt
  have ht : t.val < 16 := count ▸ t.isLt
  by_cases hp : (A m c main_arg3 (ix1 0)) = 0#32 <;> by_cases h : t.val < 8
  · refine (if_pos (iff_of_true h hp)).trans (Eq.trans (Eq.trans ?_ (dif_pos (by omega)).symm) (if_pos hp).symm)
    exact at1 m c t y _ (by show (j 0).val = _; rw [Nat.mod_eq_of_lt h]; exact h0) h1
  · refine (if_neg (fun q => h (q.mpr hp))).trans (Eq.trans (Eq.trans ?_ (dif_neg (by omega)).symm) (if_pos hp).symm)
    exact at2 m c t y _ (by show (j 0).val - _ = _; omega) h1
  · refine (if_neg (fun q => hp (q.mp h))).trans (Eq.trans (Eq.trans ?_ (dif_pos (by omega)).symm) (if_neg hp).symm)
    exact at2 m c t y _ (by show (j 0).val = _; rw [Nat.mod_eq_of_lt h]; exact h0) h1
  · refine (if_pos (iff_of_false h hp)).trans (Eq.trans (Eq.trans ?_ (dif_neg (by omega)).symm) (if_neg hp).symm)
    exact at1 m c t y _ (by show (j 0).val - _ = _; omega) h1

/-! ## The step -/

/-- The entries of result 1's block. -/
theorem point6 (c : Dev nD) (t : Fin (cfgM m (ok m)).N) (y : S128x2816.Idx) (j : S2048x2816.Idx)
    (h0 : (j 0).val = t.val * 128 + (y 0).val) (h1 : (j 1).val = (y 1).val) : P6 m c t y = R6 m c j := by
  have g := point5 m c t y j h0 h1
  have e0 := at0 m c t y j h0 h1
  have e3 := at3 m c t y j h0 h1
  have e4 := at4 m c t y j h0 h1
  pointwise [P6, R6, k0_pay1, k0_pay5, k0_pay3, k0_pay4, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_cst_7, val_main_cst_6, val_main_cst_5, val_main_cst_4, val_main_cst_3, val_main_cst_2, val_main_cst_1, val_main_cst_0, val_main_cst]
  simp only [P5, R5] at g
  simp only [g, e0, e3, e4]

/-- The entries of result 2's block. -/
theorem point7 (c : Dev nD) (t : Fin (cfgM m (ok m)).N) (y : S128x2816.Idx) (j : S2048x2816.Idx)
    (h0 : (j 0).val = t.val * 128 + (y 0).val) (h1 : (j 1).val = (y 1).val) : P7 m c t y = R7 m c j := by
  have g := point5 m c t y j h0 h1
  have e3 := at3 m c t y j h0 h1
  pointwise [P7, R7, k0_pay3, val_main_v10, val_main_v9, val_main_v8, val_main_v7, val_main_v6, val_main_cst_0, val_main_cst]
  simp only [P5, R5] at g
  simp only [g, e3]

/-- The entries of result 3's block. -/
theorem point8 (c : Dev nD) (t : Fin (cfgM m (ok m)).N) (y : S128x2816.Idx) (j : S2048x2816.Idx)
    (h0 : (j 0).val = t.val * 128 + (y 0).val) (h1 : (j 1).val = (y 1).val) : P8 m c t y = R8 m c j := by
  have g := point5 m c t y j h0 h1
  have e4 := at4 m c t y j h0 h1
  pointwise [P8, R8, k0_pay4, val_main_v16, val_main_v15, val_main_v14, val_main_v13, val_main_v12, val_main_v11, val_main_cst_1, val_main_cst_2]
  simp only [P5, R5] at g
  simp only [g, e4]

/-- Result 0 after the run. -/
theorem final5 (c : Dev nD) : (dats m (ok m) 0 c).arrAt 5 (cfgM m (ok m)).N = R5 m c := by
  refine (dats m (ok m) 0 c).arrAt_eq_of_covers 5 _ ?_ fun t hf y => ?_
  · exact (by decide +kernel : ((cfg0 (F := Ideal) ⟨fun | ⟨0, _⟩ => (fun _ => (0#32 : BitVec 32)), trivial⟩).win 5).Covers)
  · refine (congrFun (left5 m c t) y).trans (point5 m c t y _ ?_ ?_) <;> blk_simp <;> rw [idx5]
    · rfl
    · exact zero_times _ _

/-- Result 1 after the run. -/
theorem final6 (c : Dev nD) : (dats m (ok m) 0 c).arrAt 6 (cfgM m (ok m)).N = R6 m c := by
  refine (dats m (ok m) 0 c).arrAt_eq_of_covers 6 _ ?_ fun t hf y => ?_
  · exact (by decide +kernel : ((cfg0 (F := Ideal) ⟨fun | ⟨0, _⟩ => (fun _ => (0#32 : BitVec 32)), trivial⟩).win 6).Covers)
  · refine (congrFun (left6 m c t) y).trans (point6 m c t y _ ?_ ?_) <;> blk_simp <;> rw [idx6]
    · rfl
    · exact zero_times _ _

/-- Result 2 after the run. -/
theorem final7 (c : Dev nD) : (dats m (ok m) 0 c).arrAt 7 (cfgM m (ok m)).N = R7 m c := by
  refine (dats m (ok m) 0 c).arrAt_eq_of_covers 7 _ ?_ fun t hf y => ?_
  · exact (by decide +kernel : ((cfg0 (F := Ideal) ⟨fun | ⟨0, _⟩ => (fun _ => (0#32 : BitVec 32)), trivial⟩).win 7).Covers)
  · refine (congrFun (left7 m c t) y).trans (point7 m c t y _ ?_ ?_) <;> blk_simp <;> rw [idx7]
    · rfl
    · exact zero_times _ _

/-- Result 3 after the run. -/
theorem final8 (c : Dev nD) : (dats m (ok m) 0 c).arrAt 8 (cfgM m (ok m)).N = R8 m c := by
  refine (dats m (ok m) 0 c).arrAt_eq_of_covers 8 _ ?_ fun t hf y => ?_
  · exact (by decide +kernel : ((cfg0 (F := Ideal) ⟨fun | ⟨0, _⟩ => (fun _ => (0#32 : BitVec 32)), trivial⟩).win 8).Covers)
  · refine (congrFun (left8 m c t) y).trans (point8 m c t y _ ?_ ?_) <;> blk_simp <;> rw [idx8]
    · rfl
    · exact zero_times _ _

/-- The launch's results are the reference's. -/
theorem algebraic : Cert.algebraic_AdUpIdeal_AdUpReferenceIdeal (hAdUpIdeal := Cert.AdUpIdeal.Gen.facts)
    (hAdUpReferenceIdeal := Cert.AdUpReferenceIdeal.Gen.facts) := by
  intro m g m' g' _ ha
  refine ⟨R5 m, R6 m, R7 m, R8 m, ?_, ?_⟩
  · refine (θ_run defs _ _).mono (fun r h c => ?_) (θ_run_and (run_main m g (ok m)) (unchanged m g (ok m)))
    exact ⟨((h.1 c).1 5).trans (final5 m c), ((h.1 c).1 6).trans (final6 m c), ((h.1 c).1 7).trans (final7 m c),
      ((h.1 c).1 8).trans (final8 m c), h.2 c⟩
  · refine (θ_run Cert.AdUpReferenceIdeal.defs _ _).mono (fun r h c => ?_) (Cert.AdUpReferenceIdeal.Value.run m' g')
    obtain ⟨a0, a1, a2, a3, a4, a5⟩ := ha c
    obtain ⟨h0, h1, h2, h3, hrest⟩ := h c
    refine ⟨h0.trans ?_, h1.trans ?_, h2.trans ?_, h3.trans ?_, hrest⟩
    · rw [val_main_v5_eq, a1, a2, a3]
    · rw [val_main_v29_eq, a0, a1, a2, a3, a4, a5]
    · rw [val_main_v10_eq, a1, a2, a3, a4]
    · rw [val_main_v16_eq, a1, a2, a3, a5]

end Cert.AdUpIdeal.Val

end
-- ==== Proof.AdamDown.lean ====
/- The optimiser's step of the feed-forward layer's second weight: the rows of a block are the reference's there, whichever half of the gradient they come from. -/
module

public import proofs.«01_k».proof.Proof.Gen.AdDownIdeal
public import proofs.«01_k».proof.Proof.Gen.AdDownIdeal.Skeleton
public import proofs.«01_k».proof.Proof.Gen.AdDownIdeal.Launch
public import proofs.«01_k».proof.Proof.Gen.AdDownIdeal.Points
public import proofs.«01_k».proof.Proof.Gen.AdDownIdeal.Frame
public import proofs.«01_k».proof.Proof.Gen.AdDownReferenceIdeal
public import proofs.«01_k».proof.Proof.Gen.AdDownReferenceIdeal.Run
public import proofs.«01_k».proof.Proof.Gen.AdDownReferenceIdeal.Read
public import proofs.«01_k».proof.Defs
public import Idealize.ShloMosaic.Lib.Pipeline.Value
public import Idealize.ShloMosaic.Lib.Pipeline.ValueKit
public import Idealize.ShloMosaic.Lib.StableHlo.Run

@[expose] public section

set_option maxRecDepth 16384

noncomputable section

namespace Cert.AdDownIdeal.Val

open Idealize.ShloMosaic Idealize.ShloMosaic.TcCoe Idealize.ShloMosaic.Tactic Idealize.SL.Sem
open Idealize.ShloMosaic.Pipeline (Dat)
open Cert.AdDownIdeal Cert.AdDownIdeal.Gen
open Cert.AdDownReferenceIdeal.Read
open scoped BigOperators

variable (m : (ℓ : Loc nD τ sig) → Buf (Elt Ideal) ℓ)

/-! ## The blocks a point works on -/

theorem idx0 (hO : Ok m) : ∀ t : Fin (cfgM m hO).N, ((cfgM m hO).win 0).index t = ![t.val, 0] :=
  (by decide +kernel : ∀ t : Fin grid0.N, cc0_transform_0 (grid0.coords t) = ![t.val, 0])

theorem idx1 (hO : Ok m) : ∀ t : Fin (cfgM m hO).N, ((cfgM m hO).win 1).index t = ![t.val % 11, 0] :=
  (by decide +kernel : ∀ t : Fin grid0.N, cc0_transform_1 (grid0.coords t) = ![t.val % 11, 0])

theorem idx2 (hO : Ok m) : ∀ t : Fin (cfgM m hO).N, ((cfgM m hO).win 2).index t = ![t.val % 11, 0] :=
  (by decide +kernel : ∀ t : Fin grid0.N, cc0_transform_2 (grid0.coords t) = ![t.val % 11, 0])

theorem idx3 (hO : Ok m) : ∀ t : Fin (cfgM m hO).N, ((cfgM m hO).win 3).index t = ![t.val, 0] :=
  (by decide +kernel : ∀ t : Fin grid0.N, cc0_transform_3 (grid0.coords t) = ![t.val, 0])

theorem idx4 (hO : Ok m) : ∀ t : Fin (cfgM m hO).N, ((cfgM m hO).win 4).index t = ![t.val, 0] :=
  (by decide +kernel : ∀ t : Fin grid0.N, cc0_transform_4 (grid0.coords t) = ![t.val, 0])

theorem idx5 (hO : Ok m) : ∀ t : Fin (cfgM m hO).N, ((cfgM m hO).win 5).index t = ![t.val, 0] :=
  (by decide +kernel : ∀ t : Fin grid0.N, cc0_transform_5 (grid0.coords t) = ![t.val, 0])

theorem idx6 (hO : Ok m) : ∀ t : Fin (cfgM m hO).N, ((cfgM m hO).win 6).index t = ![t.val, 0] :=
  (by decide +kernel : ∀ t : Fin grid0.N, cc0_transform_6 (grid0.coords t) = ![t.val, 0])

theorem idx7 (hO : Ok m) : ∀ t : Fin (cfgM m hO).N, ((cfgM m hO).win 7).index t = ![t.val, 0] :=
  (by decide +kernel : ∀ t : Fin grid0.N, cc0_transform_7 (grid0.coords t) = ![t.val, 0])

theorem idx8 (hO : Ok m) : ∀ t : Fin (cfgM m hO).N, ((cfgM m hO).win 8).index t = ![t.val, 0] :=
  (by decide +kernel : ∀ t : Fin grid0.N, cc0_transform_8 (grid0.coords t) = ![t.val, 0])

/-- The launch reads any placement. -/
theorem ok : Ok m := trivial

/-- An argument's contents. -/
abbrev A (c : Dev nD) (b : Ref sig .tc) := m ((c : Thread nD τ).loc b)

/-- Zero blocks and `x`. -/
theorem zero_times (s x : ℕ) : 0 * s + x = x := by rw [Nat.zero_mul, Nat.zero_add]

/-- Two places with the same coordinates. -/
theorem same_place {p q : ℕ} (i j : (⟨2, ![p, q]⟩ : Shape).Idx) (h0 : (i 0).val = (j 0).val) (h1 : (i 1).val = (j 1).val) : i = j :=
  funext fun a => Fin.ext (match a with | 0 => h0 | 1 => h1)

/-- A block's entry of argument 0. -/
theorem at0 (c : Dev nD) (t : Fin (cfgM m (ok m)).N) (y : S64x2048.Idx) (j : S1408x2048.Idx)
    (h0 : (j 0).val = (t.val) * 64 + (y 0).val) (h1 : (j 1).val = (y 1).val) : iblk m (ok m) c 0 t y = A m c main_arg0 j := by
  have e : ∀ a, ((((((cfgM m (ok m)).win 0).blk t).view.emb y) a : Fin _) : ℕ) = ((cfgM m (ok m)).win 0).index t a * ((cfgM m (ok m)).win 0).size a + (y a).val := by
    intro a
    blk_simp
  rw [idx0] at e
  exact congrArg (A m c main_arg0) (same_place _ j ((e (0 : Fin 2)).trans h0.symm) ((e (1 : Fin 2)).trans ((zero_times _ _).trans h1.symm)))

/-- A block's entry of argument 1. -/
theorem at1 (c : Dev nD) (t : Fin (cfgM m (ok m)).N) (y : S64x2048.Idx) (j : S704x2048.Idx)
    (h0 : (j 0).val = (t.val % 11) * 64 + (y 0).val) (h1 : (j 1).val = (y 1).val) : iblk m (ok m) c 1 t y = A m c main_arg1 j := by
  have e : ∀ a, ((((((cfgM m (ok m)).win 1).blk t).view.emb y) a : Fin _) : ℕ) = ((cfgM m (ok m)).win 1).index t a * ((cfgM m (ok m)).win 1).size a + (y a).val := by
    intro a
    blk_simp
  rw [idx1] at e
  exact congrArg (A m c main_arg1) (same_place _ j ((e (0 : Fin 2)).trans h0.symm) ((e (1 : Fin 2)).trans ((zero_times _ _).trans h1.symm)))

/-- A block's entry of argument 2. -/
theorem at2 (c : Dev nD) (t : Fin (cfgM m (ok m)).N) (y : S64x2048.Idx) (j : S704x2048.Idx)
    (h0 : (j 0).val = (t.val % 11) * 64 + (y 0).val) (h1 : (j 1).val = (y 1).val) : iblk m (ok m) c 2 t y = A m c main_arg2 j := by
  have e : ∀ a, ((((((cfgM m (ok m)).win 2).blk t).view.emb y) a : Fin _) : ℕ) = ((cfgM m (ok m)).win 2).index t a * ((cfgM m (ok m)).win 2).size a + (y a).val := by
    intro a
    blk_simp
  rw [idx2] at e
  exact congrArg (A m c main_arg2) (same_place _ j ((e (0 : Fin 2)).trans h0.symm) ((e (1 : Fin 2)).trans ((zero_times _ _).trans h1.symm)))

/-- A block's entry of argument 4. -/
theorem at3 (c : Dev nD) (t : Fin (cfgM m (ok m)).N) (y : S64x2048.Idx) (j : S1408x2048.Idx)
    (h0 : (j 0).val = (t.val) * 64 + (y 0).val) (h1 : (j 1).val = (y 1).val) : iblk m (ok m) c 3 t y = A m c main_arg4 j := by
  have e : ∀ a, ((((((cfgM m (ok m)).win 3).blk t).view.emb y) a : Fin _) : ℕ) = ((cfgM m (ok m)).win 3).index t a * ((cfgM m (ok m)).win 3).size a + (y a).val := by
    intro a
    blk_simp
  rw [idx3] at e
  exact congrArg (A m c main_arg4) (same_place _ j ((e (0 : Fin 2)).trans h0.symm) ((e (1 : Fin 2)).trans ((zero_times _ _).trans h1.symm)))

/-- A block's entry of argument 5. -/
theorem at4 (c : Dev nD) (t : Fin (cfgM m (ok m)).N) (y : S64x2048.Idx) (j : S1408x2048.Idx)
    (h0 : (j 0).val = (t.val) * 64 + (y 0).val) (h1 : (j 1).val = (y 1).val) : iblk m (ok m) c 4 t y = A m c main_arg5 j := by
  have e : ∀ a, ((((((cfgM m (ok m)).win 4).blk t).view.emb y) a : Fin _) : ℕ) = ((cfgM m (ok m)).win 4).index t a * ((cfgM m (ok m)).win 4).size a + (y a).val := by
    intro a
    blk_simp
  rw [idx4] at e
  exact congrArg (A m c main_arg5) (same_place _ j ((e (0 : Fin 2)).trans h0.symm) ((e (1 : Fin 2)).trans ((zero_times _ _).trans h1.symm)))

/-! ## What the body leaves -/

/-- The reference's result 0: the joined gradient. -/
abbrev R5 (c : Dev nD) : FVec Ideal S1408x2048 .f32 := val_main_v5 (F := Ideal) (A m c main_arg1) (A m c main_arg2) (A m c main_arg3)

/-- The body's result 0 at a point. -/
abbrev P5 (c : Dev nD) (t : Fin (cfgM m (ok m)).N) : FVec Ideal S64x2048 .f32 := k0_pay2 (F := Ideal) (grid0.coords t) (A m c main_arg3 (ix1 0)) (iblk m (ok m) c 1 t) (iblk m (ok m) c 2 t)

/-- What the body leaves in result 0's block. -/
theorem left5 (c : Dev nD) (t : Fin (cfgM m (ok m)).N) : (dats m (ok m) 0 c).after 5 t = P5 m c t := by
  obtain rfl : c = 0 := Subsingleton.elim _ _
  rw [after0_5]
  unfold outsAt0
  dsimp only
  frame_out
  skip
  congr 1 <;> first | exact Memref.IsWhole.read_unread _ _ | (refine congrArg (A m 0 main_arg3) (funext fun (a : Fin 1) => ?_); obtain rfl := (Subsingleton.elim a (0 : Fin 1) : a = (0 : Fin 1)); rfl)

/-- The reference's result 1: the change of the weight. -/
abbrev R6 (c : Dev nD) : FVec Ideal S1408x2048 .f32 := val_main_v29 (F := Ideal) (A m c main_arg0) (A m c main_arg1) (A m c main_arg2) (A m c main_arg3) (A m c main_arg4) (A m c main_arg5)

/-- The body's result 1 at a point. -/
abbrev P6 (c : Dev nD) (t : Fin (cfgM m (ok m)).N) : FVec Ideal S64x2048 .f32 := k0_pay1 (F := Ideal) (k0_pay5 (grid0.coords t) (A m c main_arg3 (ix1 0)) (iblk m (ok m) c 1 t) (iblk m (ok m) c 2 t) (iblk m (ok m) c 0 t) (iblk m (ok m) c 3 t) (iblk m (ok m) c 4 t))

/-- What the body leaves in result 1's block. -/
theorem left6 (c : Dev nD) (t : Fin (cfgM m (ok m)).N) : (dats m (ok m) 0 c).after 6 t = P6 m c t := by
  obtain rfl : c = 0 := Subsingleton.elim _ _
  rw [after0_6]
  unfold outsAt0
  dsimp only
  frame_out
  refine congrArg _ ?_
  congr 1 <;> first | exact Memref.IsWhole.read_unread _ _ | (refine congrArg (A m 0 main_arg3) (funext fun (a : Fin 1) => ?_); obtain rfl := (Subsingleton.elim a (0 : Fin 1) : a = (0 : Fin 1)); rfl)

/-- The reference's result 2: the new first moment. -/
abbrev R7 (c : Dev nD) : FVec Ideal S1408x2048 .f32 := val_main_v10 (F := Ideal) (A m c main_arg1) (A m c main_arg2) (A m c main_arg3) (A m c main_arg4)

/-- The body's result 2 at a point. -/
abbrev P7 (c : Dev nD) (t : Fin (cfgM m (ok m)).N) : FVec Ideal S64x2048 .f32 := k0_pay3 (F := Ideal) (grid0.coords t) (A m c main_arg3 (ix1 0)) (iblk m (ok m) c 1 t) (iblk m (ok m) c 2 t) (iblk m (ok m) c 3 t)

/-- What the body leaves in result 2's block. -/
theorem left7 (c : Dev nD) (t : Fin (cfgM m (ok m)).N) : (dats m (ok m) 0 c).after 7 t = P7 m c t := by
  obtain rfl : c = 0 := Subsingleton.elim _ _
  rw [after0_7]
  unfold outsAt0
  dsimp only
  frame_out
  skip
  congr 1 <;> first | exact Memref.IsWhole.read_unread _ _ | (refine congrArg (A m 0 main_arg3) (funext fun (a : Fin 1) => ?_); obtain rfl := (Subsingleton.elim a (0 : Fin 1) : a = (0 : Fin 1)); rfl)

/-- The reference's result 3: the new second moment. -/
abbrev R8 (c : Dev nD) : FVec Ideal S1408x2048 .f32 := val_main_v16 (F := Ideal) (A m c main_arg1) (A m c main_arg2) (A m c main_arg3) (A m c main_arg5)

/-- The body's result 3 at a point. -/
abbrev P8 (c : Dev nD) (t : Fin (cfgM m (ok m)).N) : FVec Ideal S64x2048 .f32 := k0_pay4 (F := Ideal) (grid0.coords t) (A m c main_arg3 (ix1 0)) (iblk m (ok m) c 1 t) (iblk m (ok m) c 2 t) (iblk m (ok m) c 4 t)

/-- What the body leaves in result 3's block. -/
theorem left8 (c : Dev nD) (t : Fin (cfgM m (ok m)).N) : (dats m (ok m) 0 c).after 8 t = P8 m c t := by
  obtain rfl : c = 0 := Subsingleton.elim _ _
  rw [after0_8]
  unfold outsAt0
  dsimp only
  frame_out
  skip
  congr 1 <;> first | exact Memref.IsWhole.read_unread _ _ | (refine congrArg (A m 0 main_arg3) (funext fun (a : Fin 1) => ?_); obtain rfl := (Subsingleton.elim a (0 : Fin 1) : a = (0 : Fin 1)); rfl)

/-! ## The gradient -/

/-- Which blocks are the upper half's. -/
theorem upper : ∀ t : Fin grid0.N, Scalar.cmpi .slt (BitVec.ofNat 32 (grid0.coords t 0).val) 11#32 = if t.val < 11 then 1#1 else 0#1 := by
  decide +kernel

/-- The number of blocks. -/
theorem count : grid0.N = 22 := by decide +kernel

/-- The half a block is taken from. -/
theorem half_of (t : Fin grid0.N) (p : BitVec 32) (a b : FVec Ideal S64x2048 .f32) (y : S64x2048.Idx) :
    k0_pay2 (F := Ideal) (grid0.coords t) p a b y = if (t.val < 11 ↔ p = 0#32) then a y else b y := by
  pointwise [k0_pay2]
  rw [upper t]
  by_cases hp : p = 0#32
  · subst hp
    by_cases h : t.val < 11 <;> simp [h, Scalar.cmpi, IntOp.cmpi, Scalar.xori, IntOp.xori, Scalar.select]
  · have hb : (p == 0#32) = false := beq_eq_false_iff_ne.mpr hp
    by_cases h : t.val < 11 <;> simp [h, hp, hb, Scalar.cmpi, IntOp.cmpi, Scalar.xori, IntOp.xori, Scalar.select]

/-- The upper half over the lower one. -/
abbrev over (a b : FVec Ideal S704x2048 .f32) (j : S1408x2048.Idx) : EReal :=
  if h : (j 0).val < 704 then a (ix2 ⟨(j 0).val, h⟩ (j 1)) else b (ix2 ⟨(j 0).val - 704, by have := (j 0).isLt; simp at this; omega⟩ (j 1))

/-- The joined gradient, entry by entry. -/
theorem joined (a b : FVec Ideal S704x2048 .f32) (p : IVec S2 32) (j : S1408x2048.Idx) :
    val_main_v5 (F := Ideal) a b p j = if p (ix1 0) = 0#32 then over a b j else over b a j := by
  pointwise [val_main_v5, val_main_v4, val_main_v3, val_main_v2, val_main_v1, val_main_v0, val_main_c, over]
  by_cases hp : p (ix1 0) = 0#32
  · simp [hp, IntOp.cmpi, Scalar.select]
  · have hb : (p (ix1 0) == 0#32) = false := beq_eq_false_iff_ne.mpr hp
    simp [hp, hb, IntOp.cmpi, Scalar.select]

/-- A block of the gradient is the joined gradient's there. -/
theorem point5 (c : Dev nD) (t : Fin (cfgM m (ok m)).N) (y : S64x2048.Idx) (j : S1408x2048.Idx)
    (h0 : (j 0).val = t.val * 64 + (y 0).val) (h1 : (j 1).val = (y 1).val) : P5 m c t y = R5 m c j := by
  refine (half_of t _ _ _ y).trans (Eq.trans ?_ (joined _ _ _ j).symm)
  have hy : (y 0).val < 64 := (y 0).isLt
  have ht : t.val < 22 := count ▸ t.isLt
  by_cases hp : (A m c main_arg3 (ix1 0)) = 0#32 <;> by_cases h : t.val < 11
  · refine (if_pos (iff_of_true h hp)).trans (Eq.trans (Eq.trans ?_ (dif_pos (by omega)).symm) (if_pos hp).symm)
    exact at1 m c t y _ (by show (j 0).val = _; rw [Nat.mod_eq_of_lt h]; exact h0) h1
  · refine (if_neg (fun q => h (q.mpr hp))).trans (Eq.trans (Eq.trans ?_ (dif_neg (by omega)).symm) (if_pos hp).symm)
    exact at2 m c t y _ (by show (j 0).val - _ = _; omega) h1
  · refine (if_neg (fun q => hp (q.mp h))).trans (Eq.trans (Eq.trans ?_ (dif_pos (by omega)).symm) (if_neg hp).symm)
    exact at2 m c t y _ (by show (j 0).val = _; rw [Nat.mod_eq_of_lt h]; exact h0) h1
  · refine (if_pos (iff_of_false h hp)).trans (Eq.trans (Eq.trans ?_ (dif_neg (by omega)).symm) (if_neg hp).symm)
    exact at1 m c t y _ (by show (j 0).val - _ = _; omega) h1

/-! ## The step -/

/-- The entries of result 1's block. -/
theorem point6 (c : Dev nD) (t : Fin (cfgM m (ok m)).N) (y : S64x2048.Idx) (j : S1408x2048.Idx)
    (h0 : (j 0).val = t.val * 64 + (y 0).val) (h1 : (j 1).val = (y 1).val) : P6 m c t y = R6 m c j := by
  have g := point5 m c t y j h0 h1
  have e0 := at0 m c t y j h0 h1
  have e3 := at3 m c t y j h0 h1
  have e4 := at4 m c t y j h0 h1
  pointwise [P6, R6, k0_pay1, k0_pay5, k0_pay3, k0_pay4, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_cst_7, val_main_cst_6, val_main_cst_5, val_main_cst_4, val_main_cst_3, val_main_cst_2, val_main_cst_1, val_main_cst_0, val_main_cst]
  simp only [P5, R5] at g
  simp only [g, e0, e3, e4]

/-- The entries of result 2's block. -/
theorem point7 (c : Dev nD) (t : Fin (cfgM m (ok m)).N) (y : S64x2048.Idx) (j : S1408x2048.Idx)
    (h0 : (j 0).val = t.val * 64 + (y 0).val) (h1 : (j 1).val = (y 1).val) : P7 m c t y = R7 m c j := by
  have g := point5 m c t y j h0 h1
  have e3 := at3 m c t y j h0 h1
  pointwise [P7, R7, k0_pay3, val_main_v10, val_main_v9, val_main_v8, val_main_v7, val_main_v6, val_main_cst_0, val_main_cst]
  simp only [P5, R5] at g
  simp only [g, e3]

/-- The entries of result 3's block. -/
theorem point8 (c : Dev nD) (t : Fin (cfgM m (ok m)).N) (y : S64x2048.Idx) (j : S1408x2048.Idx)
    (h0 : (j 0).val = t.val * 64 + (y 0).val) (h1 : (j 1).val = (y 1).val) : P8 m c t y = R8 m c j := by
  have g := point5 m c t y j h0 h1
  have e4 := at4 m c t y j h0 h1
  pointwise [P8, R8, k0_pay4, val_main_v16, val_main_v15, val_main_v14, val_main_v13, val_main_v12, val_main_v11, val_main_cst_1, val_main_cst_2]
  simp only [P5, R5] at g
  simp only [g, e4]

/-- Result 0 after the run. -/
theorem final5 (c : Dev nD) : (dats m (ok m) 0 c).arrAt 5 (cfgM m (ok m)).N = R5 m c := by
  refine (dats m (ok m) 0 c).arrAt_eq_of_covers 5 _ ?_ fun t hf y => ?_
  · exact (by decide +kernel : ((cfg0 (F := Ideal) ⟨fun | ⟨0, _⟩ => (fun _ => (0#32 : BitVec 32)), trivial⟩).win 5).Covers)
  · refine (congrFun (left5 m c t) y).trans (point5 m c t y _ ?_ ?_) <;> blk_simp <;> rw [idx5]
    · rfl
    · exact zero_times _ _

/-- Result 1 after the run. -/
theorem final6 (c : Dev nD) : (dats m (ok m) 0 c).arrAt 6 (cfgM m (ok m)).N = R6 m c := by
  refine (dats m (ok m) 0 c).arrAt_eq_of_covers 6 _ ?_ fun t hf y => ?_
  · exact (by decide +kernel : ((cfg0 (F := Ideal) ⟨fun | ⟨0, _⟩ => (fun _ => (0#32 : BitVec 32)), trivial⟩).win 6).Covers)
  · refine (congrFun (left6 m c t) y).trans (point6 m c t y _ ?_ ?_) <;> blk_simp <;> rw [idx6]
    · rfl
    · exact zero_times _ _

/-- Result 2 after the run. -/
theorem final7 (c : Dev nD) : (dats m (ok m) 0 c).arrAt 7 (cfgM m (ok m)).N = R7 m c := by
  refine (dats m (ok m) 0 c).arrAt_eq_of_covers 7 _ ?_ fun t hf y => ?_
  · exact (by decide +kernel : ((cfg0 (F := Ideal) ⟨fun | ⟨0, _⟩ => (fun _ => (0#32 : BitVec 32)), trivial⟩).win 7).Covers)
  · refine (congrFun (left7 m c t) y).trans (point7 m c t y _ ?_ ?_) <;> blk_simp <;> rw [idx7]
    · rfl
    · exact zero_times _ _

/-- Result 3 after the run. -/
theorem final8 (c : Dev nD) : (dats m (ok m) 0 c).arrAt 8 (cfgM m (ok m)).N = R8 m c := by
  refine (dats m (ok m) 0 c).arrAt_eq_of_covers 8 _ ?_ fun t hf y => ?_
  · exact (by decide +kernel : ((cfg0 (F := Ideal) ⟨fun | ⟨0, _⟩ => (fun _ => (0#32 : BitVec 32)), trivial⟩).win 8).Covers)
  · refine (congrFun (left8 m c t) y).trans (point8 m c t y _ ?_ ?_) <;> blk_simp <;> rw [idx8]
    · rfl
    · exact zero_times _ _

/-- The launch's results are the reference's. -/
theorem algebraic : Cert.algebraic_AdDownIdeal_AdDownReferenceIdeal (hAdDownIdeal := Cert.AdDownIdeal.Gen.facts)
    (hAdDownReferenceIdeal := Cert.AdDownReferenceIdeal.Gen.facts) := by
  intro m g m' g' _ ha
  refine ⟨R5 m, R6 m, R7 m, R8 m, ?_, ?_⟩
  · refine (θ_run defs _ _).mono (fun r h c => ?_) (θ_run_and (run_main m g (ok m)) (unchanged m g (ok m)))
    exact ⟨((h.1 c).1 5).trans (final5 m c), ((h.1 c).1 6).trans (final6 m c), ((h.1 c).1 7).trans (final7 m c),
      ((h.1 c).1 8).trans (final8 m c), h.2 c⟩
  · refine (θ_run Cert.AdDownReferenceIdeal.defs _ _).mono (fun r h c => ?_) (Cert.AdDownReferenceIdeal.Value.run m' g')
    obtain ⟨a0, a1, a2, a3, a4, a5⟩ := ha c
    obtain ⟨h0, h1, h2, h3, hrest⟩ := h c
    refine ⟨h0.trans ?_, h1.trans ?_, h2.trans ?_, h3.trans ?_, hrest⟩
    · rw [val_main_v5_eq, a1, a2, a3]
    · rw [val_main_v29_eq, a0, a1, a2, a3, a4, a5]
    · rw [val_main_v10_eq, a1, a2, a3, a4]
    · rw [val_main_v16_eq, a1, a2, a3, a5]

end Cert.AdDownIdeal.Val

end
-- ==== Proof.AdamSmall.lean ====
/- The optimiser's step of the small parameters: element by element the reference's. -/
module

public import proofs.«01_k».proof.Proof.Gen.AdSmallIdeal
public import proofs.«01_k».proof.Proof.Gen.AdSmallIdeal.Skeleton
public import proofs.«01_k».proof.Proof.Gen.AdSmallIdeal.Launch
public import proofs.«01_k».proof.Proof.Gen.AdSmallIdeal.Points
public import proofs.«01_k».proof.Proof.Gen.AdSmallIdeal.Frame
public import proofs.«01_k».proof.Proof.Gen.AdSmallReferenceIdeal
public import proofs.«01_k».proof.Proof.Gen.AdSmallReferenceIdeal.Run
public import proofs.«01_k».proof.Proof.Gen.AdSmallReferenceIdeal.Read
public import proofs.«01_k».proof.Proof.Gen.AdSmallIdeal.Value
public import proofs.«01_k».proof.Defs
public import Idealize.ShloMosaic.Lib.Pipeline.Value
public import Idealize.ShloMosaic.Lib.Pipeline.ValueKit
public import Idealize.ShloMosaic.Lib.StableHlo.Run

@[expose] public section

set_option maxRecDepth 16384

noncomputable section

namespace Cert.AdSmallIdeal.Val

open Idealize.ShloMosaic Idealize.ShloMosaic.TcCoe Idealize.ShloMosaic.Tactic Idealize.SL.Sem
open Idealize.ShloMosaic.Pipeline (Dat)
open Cert.AdSmallIdeal Cert.AdSmallIdeal.Gen
open scoped BigOperators

variable (m : (ℓ : Loc nD τ sig) → Buf (Elt Ideal) ℓ)

/-- The step's change of the parameter. -/
theorem delta (w g m v : FVec Ideal S280x128 .f32) : Value.G4 (F := Ideal) g m v w = Cert.AdSmallReferenceIdeal.Read.val_main_v23 (F := Ideal) w g m v := by
  funext i
  pointwise [Value.G4, Cert.AdSmallReferenceIdeal.Read.val_main_v23, Cert.AdSmallReferenceIdeal.Read.val_main_v22, Cert.AdSmallReferenceIdeal.Read.val_main_v21, Cert.AdSmallReferenceIdeal.Read.val_main_v20, Cert.AdSmallReferenceIdeal.Read.val_main_v19, Cert.AdSmallReferenceIdeal.Read.val_main_v18, Cert.AdSmallReferenceIdeal.Read.val_main_v17, Cert.AdSmallReferenceIdeal.Read.val_main_v16, Cert.AdSmallReferenceIdeal.Read.val_main_v15, Cert.AdSmallReferenceIdeal.Read.val_main_v14, Cert.AdSmallReferenceIdeal.Read.val_main_v13, Cert.AdSmallReferenceIdeal.Read.val_main_v12, Cert.AdSmallReferenceIdeal.Read.val_main_v11, Cert.AdSmallReferenceIdeal.Read.val_main_v10, Cert.AdSmallReferenceIdeal.Read.val_main_v9, Cert.AdSmallReferenceIdeal.Read.val_main_v8, Cert.AdSmallReferenceIdeal.Read.val_main_v7, Cert.AdSmallReferenceIdeal.Read.val_main_v6, Cert.AdSmallReferenceIdeal.Read.val_main_v5, Cert.AdSmallReferenceIdeal.Read.val_main_v4, Cert.AdSmallReferenceIdeal.Read.val_main_v3, Cert.AdSmallReferenceIdeal.Read.val_main_v2, Cert.AdSmallReferenceIdeal.Read.val_main_v1, Cert.AdSmallReferenceIdeal.Read.val_main_v0, Cert.AdSmallReferenceIdeal.Read.val_main_cst_7, Cert.AdSmallReferenceIdeal.Read.val_main_cst_6, Cert.AdSmallReferenceIdeal.Read.val_main_cst_5, Cert.AdSmallReferenceIdeal.Read.val_main_cst_4, Cert.AdSmallReferenceIdeal.Read.val_main_cst_3, Cert.AdSmallReferenceIdeal.Read.val_main_cst_2, Cert.AdSmallReferenceIdeal.Read.val_main_cst_1, Cert.AdSmallReferenceIdeal.Read.val_main_cst_0, Cert.AdSmallReferenceIdeal.Read.val_main_cst, Cert.AdSmallReferenceIdeal.Read.val_main_cst_0]

/-- The new first moment. -/
theorem first_moment (g m : FVec Ideal S280x128 .f32) : Value.G5 (F := Ideal) g m = Cert.AdSmallReferenceIdeal.Read.val_main_v4 (F := Ideal) g m := by
  funext i
  pointwise [Value.G5, Cert.AdSmallReferenceIdeal.Read.val_main_v4, Cert.AdSmallReferenceIdeal.Read.val_main_v3, Cert.AdSmallReferenceIdeal.Read.val_main_v2, Cert.AdSmallReferenceIdeal.Read.val_main_v1, Cert.AdSmallReferenceIdeal.Read.val_main_v0, Cert.AdSmallReferenceIdeal.Read.val_main_cst, Cert.AdSmallReferenceIdeal.Read.val_main_cst_0]

/-- The new second moment. -/
theorem second_moment (g v : FVec Ideal S280x128 .f32) : Value.G6 (F := Ideal) g v = Cert.AdSmallReferenceIdeal.Read.val_main_v10 (F := Ideal) g v := by
  funext i
  pointwise [Value.G6, Cert.AdSmallReferenceIdeal.Read.val_main_v10, Cert.AdSmallReferenceIdeal.Read.val_main_v9, Cert.AdSmallReferenceIdeal.Read.val_main_v8, Cert.AdSmallReferenceIdeal.Read.val_main_v7, Cert.AdSmallReferenceIdeal.Read.val_main_v6, Cert.AdSmallReferenceIdeal.Read.val_main_v5, Cert.AdSmallReferenceIdeal.Read.val_main_cst_1, Cert.AdSmallReferenceIdeal.Read.val_main_cst_2]

/-- The launch's results are the reference's. -/
theorem algebraic : Cert.algebraic_AdSmallIdeal_AdSmallReferenceIdeal (hAdSmallIdeal := Cert.AdSmallIdeal.Gen.facts)
    (hAdSmallReferenceIdeal := Cert.AdSmallReferenceIdeal.Gen.facts) := by
  intro m g m' g' _ ha
  refine ⟨_, _, _, Value.run m g, ?_⟩
  refine (θ_run Cert.AdSmallReferenceIdeal.defs _ _).mono (fun r h c => ?_) (Cert.AdSmallReferenceIdeal.Value.run m' g')
  obtain ⟨a0, a1, a2, a3⟩ := ha c
  obtain ⟨h0, h1, h2, hrest⟩ := h c
  refine ⟨h0.trans ?_, h1.trans ?_, h2.trans ?_, hrest⟩
  · rw [Cert.AdSmallReferenceIdeal.Read.val_main_v23_eq, a0, a1, a2, a3, delta]
  · rw [Cert.AdSmallReferenceIdeal.Read.val_main_v4_eq, a1, a2, first_moment]
  · rw [Cert.AdSmallReferenceIdeal.Read.val_main_v10_eq, a1, a3, second_moment]

end Cert.AdSmallIdeal.Val

end
-- ==== Proof.NormPre.lean ====
/- The norm before the mixer: a block of the launch's rows is the reference's there. -/
module

public import proofs.«01_k».proof.Proof.Gen.RpreIdeal
public import proofs.«01_k».proof.Proof.Gen.RpreIdeal.Skeleton
public import proofs.«01_k».proof.Proof.Gen.RpreIdeal.Launch
public import proofs.«01_k».proof.Proof.Gen.RpreIdeal.Points
public import proofs.«01_k».proof.Proof.Gen.RpreIdeal.Frame
public import proofs.«01_k».proof.Proof.Gen.RpreReferenceIdeal
public import proofs.«01_k».proof.Proof.Gen.RpreReferenceIdeal.Run
public import proofs.«01_k».proof.Proof.Gen.RpreReferenceIdeal.Read
public import proofs.«01_k».proof.Defs
public import Idealize.ShloMosaic.Lib.Pipeline.Value
public import Idealize.ShloMosaic.Lib.Pipeline.ValueKit
public import Idealize.ShloMosaic.Lib.StableHlo.Run

@[expose] public section

set_option maxRecDepth 16384

noncomputable section

namespace Cert.RpreIdeal.Val

open Idealize.ShloMosaic Idealize.ShloMosaic.TcCoe Idealize.ShloMosaic.Tactic Idealize.SL.Sem
open Idealize.ShloMosaic.Pipeline (Dat)
open Cert.RpreIdeal Cert.RpreIdeal.Gen
open scoped BigOperators

variable (m : (ℓ : Loc nD τ sig) → Buf (Elt Ideal) ℓ)

/-- The rows of `a0` divided by their root mean square and multiplied by `a1`. -/
abbrev REF (a0 : FVec Ideal S4096x2048 .f32) (a1 : FVec Ideal S1x2048 .f32) : FVec Ideal S4096x2048 .bf16 :=
  Cert.RpreReferenceIdeal.Read.val_main_v12 (F := Ideal) a0 a1

/-- The blocks a point works on. -/
theorem idx : ∀ t : Fin cfg0.N, win0_0.index t = ![t.val, 0] ∧ win0_1.index t = ![0, 0] ∧ win0_2.index t = ![t.val, 0] :=
  (by decide +kernel : ∀ t : Fin grid0.N, _)

/-- A point's rows are the reference's at the place they are stored. -/
theorem point (c : Dev nD) (t : Fin cfg0.N) (y) :
    k0_pay1 (iblk m c 0 t) (iblk m c 1 t) y = REF (m ((c : Thread nD τ).loc main_arg0)) (m ((c : Thread nD τ).loc main_arg1)) (((cfg0.win 2).blk t).view.emb y) := by
  pointwise [k0_pay1, REF, Cert.RpreReferenceIdeal.Read.val_main_v12, Cert.RpreReferenceIdeal.Read.val_main_v11, Cert.RpreReferenceIdeal.Read.val_main_v10, Cert.RpreReferenceIdeal.Read.val_main_v9, Cert.RpreReferenceIdeal.Read.val_main_v8, Cert.RpreReferenceIdeal.Read.val_main_v7, Cert.RpreReferenceIdeal.Read.val_main_v6, Cert.RpreReferenceIdeal.Read.val_main_v5, Cert.RpreReferenceIdeal.Read.val_main_v4, Cert.RpreReferenceIdeal.Read.val_main_v3, Cert.RpreReferenceIdeal.Read.val_main_v2, Cert.RpreReferenceIdeal.Read.val_main_v1, Cert.RpreReferenceIdeal.Read.val_main_v0, Cert.RpreReferenceIdeal.Read.val_main_cst, Cert.RpreReferenceIdeal.Read.val_main_cst_0, Cert.RpreReferenceIdeal.Read.val_main_cst_1]
  blk_point [iblk, V, idx t]

/-- The array after the run. -/
theorem final (c : Dev nD) : (dats m 0 c).arrAt 2 (cfgs 0).N = REF (m ((c : Thread nD τ).loc main_arg0)) (m ((c : Thread nD τ).loc main_arg1)) := by
  refine (dats m 0 c).arrAt_eq_of_covers 2 _ (by decide +kernel) fun t hf y => ?_
  blk_simp
  rw [after0_2]
  frame_out
  exact point m c t y

/-- The launch's result is the reference's. -/
theorem algebraic : Cert.algebraic_RpreIdeal_RpreReferenceIdeal (hRpreIdeal := Cert.RpreIdeal.Gen.facts)
    (hRpreReferenceIdeal := Cert.RpreReferenceIdeal.Gen.facts) := by
  intro m g m' g' _ ha
  refine ⟨fun c => REF (m ((c : Thread nD τ).loc main_arg0)) (m ((c : Thread nD τ).loc main_arg1)), ?_, ?_⟩
  · refine (θ_run defs _ _).mono (fun r h c => ?_) (θ_run_and (run_main m g) (unchanged m g))
    exact ⟨(h.1.out_eq c 2).trans (final m c), h.2 c⟩
  · refine (θ_run Cert.RpreReferenceIdeal.defs _ _).mono (fun r h c => ?_) (Cert.RpreReferenceIdeal.Value.run m' g')
    obtain ⟨a0, a1⟩ := ha c
    obtain ⟨h0, hrest⟩ := h c
    refine ⟨h0.trans ?_, hrest⟩
    rw [Cert.RpreReferenceIdeal.Read.val_main_v12_eq, a0, a1]

end Cert.RpreIdeal.Val

end
-- ==== Proof.NormPost.lean ====
/- The norm behind the mixer, added to its input: a block of the launch's rows is the reference's there. -/
module

public import proofs.«01_k».proof.Proof.Gen.RpostIdeal
public import proofs.«01_k».proof.Proof.Gen.RpostIdeal.Skeleton
public import proofs.«01_k».proof.Proof.Gen.RpostIdeal.Launch
public import proofs.«01_k».proof.Proof.Gen.RpostIdeal.Points
public import proofs.«01_k».proof.Proof.Gen.RpostIdeal.Frame
public import proofs.«01_k».proof.Proof.Gen.RpostReferenceIdeal
public import proofs.«01_k».proof.Proof.Gen.RpostReferenceIdeal.Run
public import proofs.«01_k».proof.Proof.Gen.RpostReferenceIdeal.Read
public import proofs.«01_k».proof.Defs
public import Idealize.ShloMosaic.Lib.Pipeline.Value
public import Idealize.ShloMosaic.Lib.Pipeline.ValueKit
public import Idealize.ShloMosaic.Lib.StableHlo.Run

@[expose] public section

set_option maxRecDepth 16384

noncomputable section

namespace Cert.RpostIdeal.Val

open Idealize.ShloMosaic Idealize.ShloMosaic.TcCoe Idealize.ShloMosaic.Tactic Idealize.SL.Sem
open Idealize.ShloMosaic.Pipeline (Dat)
open Cert.RpostIdeal Cert.RpostIdeal.Gen
open scoped BigOperators

variable (m : (ℓ : Loc nD τ sig) → Buf (Elt Ideal) ℓ)

/-- The rows of `a0` divided by their root mean square and multiplied by `a1`, added to `a2`. -/
abbrev REF (a0 : FVec Ideal S4096x2048 .f32) (a1 : FVec Ideal S1x2048 .f32) (a2 : FVec Ideal S4096x2048 .f32) : FVec Ideal S4096x2048 .f32 :=
  Cert.RpostReferenceIdeal.Read.val_main_v12 (F := Ideal) a0 a1 a2

/-- The blocks a point works on. -/
theorem idx : ∀ t : Fin cfg0.N, win0_0.index t = ![t.val, 0] ∧ win0_1.index t = ![0, 0] ∧ win0_2.index t = ![t.val, 0] ∧ win0_3.index t = ![t.val, 0] :=
  (by decide +kernel : ∀ t : Fin grid0.N, _)

/-- A point's rows are the reference's at the place they are stored. -/
theorem point (c : Dev nD) (t : Fin cfg0.N) (y) :
    k0_pay1 (iblk m c 0 t) (iblk m c 1 t) (iblk m c 2 t) y = REF (m ((c : Thread nD τ).loc main_arg0)) (m ((c : Thread nD τ).loc main_arg1)) (m ((c : Thread nD τ).loc main_arg2)) (((cfg0.win 3).blk t).view.emb y) := by
  pointwise [k0_pay1, REF, Cert.RpostReferenceIdeal.Read.val_main_v12, Cert.RpostReferenceIdeal.Read.val_main_v11, Cert.RpostReferenceIdeal.Read.val_main_v10, Cert.RpostReferenceIdeal.Read.val_main_v9, Cert.RpostReferenceIdeal.Read.val_main_v8, Cert.RpostReferenceIdeal.Read.val_main_v7, Cert.RpostReferenceIdeal.Read.val_main_v6, Cert.RpostReferenceIdeal.Read.val_main_v5, Cert.RpostReferenceIdeal.Read.val_main_v4, Cert.RpostReferenceIdeal.Read.val_main_v3, Cert.RpostReferenceIdeal.Read.val_main_v2, Cert.RpostReferenceIdeal.Read.val_main_v1, Cert.RpostReferenceIdeal.Read.val_main_v0, Cert.RpostReferenceIdeal.Read.val_main_cst, Cert.RpostReferenceIdeal.Read.val_main_cst_0, Cert.RpostReferenceIdeal.Read.val_main_cst_1]
  blk_point [iblk, V, idx t]

/-- The array after the run. -/
theorem final (c : Dev nD) : (dats m 0 c).arrAt 3 (cfgs 0).N = REF (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  frame_out
  exact point m c t y

/-- The launch's result is the reference's. -/
theorem algebraic : Cert.algebraic_RpostIdeal_RpostReferenceIdeal (hRpostIdeal := Cert.RpostIdeal.Gen.facts)
    (hRpostReferenceIdeal := Cert.RpostReferenceIdeal.Gen.facts) := by
  intro m g m' g' _ ha
  refine ⟨fun c => REF (m ((c : Thread nD τ).loc main_arg0)) (m ((c : Thread nD τ).loc main_arg1)) (m ((c : Thread nD τ).loc main_arg2)), ?_, ?_⟩
  · refine (θ_run defs _ _).mono (fun r h c => ?_) (θ_run_and (run_main m g) (unchanged m g))
    exact ⟨(h.1.out_eq c 3).trans (final m c), h.2 c⟩
  · refine (θ_run Cert.RpostReferenceIdeal.defs _ _).mono (fun r h c => ?_) (Cert.RpostReferenceIdeal.Value.run m' g')
    obtain ⟨a0, a1, a2⟩ := ha c
    obtain ⟨h0, hrest⟩ := h c
    refine ⟨h0.trans ?_, hrest⟩
    rw [Cert.RpostReferenceIdeal.Read.val_main_v12_eq, a0, a1, a2]

end Cert.RpostIdeal.Val

end
-- ==== Proof.RowGrad.lean ====
/- The gradient of one row's norm, over the extended reals: the kernel's form and the transposed one are the same for any entries. -/
module

public import Idealize.ShloMosaic.Lib.Pointwise

@[expose] public section

namespace Cert.RowGrad

open Idealize.ShloMosaic
open scoped BigOperators

/-- A sum times a real number that is not negative. -/
theorem sum_times {n : ℕ} (f : Fin n → EReal) {r : ℝ} (hr : 0 ≤ r) : (∑ k, f k) * (r : EReal) = ∑ k, f k * (r : EReal) := by
  induction n with
  | zero => simp
  | succ n ih => rw [Fin.sum_univ_succ, Fin.sum_univ_succ, EReal.right_distrib_of_nonneg_of_ne_top (EReal.coe_nonneg.mpr hr) (EReal.coe_ne_top r), ih]

/-- Twice a real multiple. -/
theorem twice (a : ℝ) (T : EReal) : (a : EReal) * T + (a : EReal) * T = ((a + a : ℝ) : EReal) * T := by
  rw [EReal.coe_add]
  rcases le_total 0 a with h | h
  · exact (EReal.right_distrib_of_nonneg (EReal.coe_nonneg.mpr h) (EReal.coe_nonneg.mpr h)).symm
  · have h' : (0 : EReal) ≤ ((-a : ℝ) : EReal) := EReal.coe_nonneg.mpr (by linarith)
    have n : ∀ b : ℝ, (b : EReal) * T = ((-b : ℝ) : EReal) * -T := fun b => by rw [EReal.coe_neg, neg_mul_neg]
    rw [← EReal.coe_add, n a, n (a + a), neg_add, EReal.coe_add]
    exact (EReal.right_distrib_of_nonneg h' h').symm

/-- A sum of squares with an infinite entry. -/
theorem infinite {n : ℕ} (x : Fin n → EReal) (k : Fin n) (h : x k = ⊤ ∨ x k = ⊥) : ∑ k, x k * x k = ⊤ := by
  have hs : ∀ j, 0 ≤ x j * x j := fun j => by
    rcases le_total 0 (x j) with h | h
    · exact mul_nonneg h h
    · rw [← neg_mul_neg]; exact mul_nonneg (EReal.neg_nonneg.mpr h) (EReal.neg_nonneg.mpr h)
  have ht : x k * x k = ⊤ := by rcases h with h | h <;> rw [h] <;> rfl
  exact top_le_iff.mp (ht ▸ Finset.single_le_sum (f := fun j => x j * x j) (fun j _ => hs j) (Finset.mem_univ k))

/-- The gradient of a row's norm, the kernel's way and the transposed way. -/
theorem row {n : ℕ} (x d : Fin n → EReal) (h D X : EReal) (j : Fin n) (hX : x j = X) {N e : ℝ} (hN : 0 < N) (he : 0 < e) {q r : EReal}
    (hq : q = Ideal.div (∑ k, x k * x k) (N : EReal) + (e : EReal)) (hr : r = Ideal.rsqrt q) :
    h + r * (D - X * r * Ideal.div (∑ k, d k * (x k * r)) (N : EReal))
      = h + D * r + X * Ideal.div ((∑ k, x k * d k) * (((-(1 / 2) : ℝ) : EReal) * Ideal.div r q)) (N : EReal)
        + Ideal.div ((∑ k, x k * d k) * (((-(1 / 2) : ℝ) : EReal) * Ideal.div r q)) (N : EReal) * X := by
  by_cases hf : ∃ k, x k = ⊤ ∨ x k = ⊥
  · obtain ⟨k, hk⟩ := hf
    have q0 : q = ⊤ := by
      rw [hq, infinite x k hk, Ideal.div_coe hN.ne', EReal.top_mul_coe_of_pos (by positivity), EReal.top_add_coe]
    have r0 : r = 0 := by rw [hr, q0, Ideal.rsqrt_top]
    have z : Ideal.div 0 (⊤ : EReal) = 0 := by simp [Ideal.div]
    rw [r0, q0, z]
    simp only [Ideal.div_coe hN.ne']
    simp
  · have hf' : ∀ k, ∃ a : ℝ, x k = (a : EReal) := fun k =>
      ⟨(x k).toReal, (EReal.coe_toReal (fun q => hf ⟨k, .inl q⟩) (fun q => hf ⟨k, .inr q⟩)).symm⟩
    choose a ha using hf'
    have hs : (∑ k, x k * x k) = ((∑ k, a k * a k : ℝ) : EReal) := by
      rw [Finset.sum_congr rfl (fun k _ => by rw [ha k, ← EReal.coe_mul])]
      exact (map_sum (⟨⟨Real.toEReal, EReal.coe_zero⟩, EReal.coe_add⟩ : ℝ →+ EReal) _ _).symm
    have hp : 0 ≤ ∑ k, a k * a k := Finset.sum_nonneg fun k _ => mul_self_nonneg _
    obtain ⟨Q, hQ⟩ : ∃ Q : ℝ, Q = (∑ k, a k * a k) * (1 / N) + e := ⟨_, rfl⟩
    have hQ0 : 0 < Q := by rw [hQ]; positivity
    have q0 : q = (Q : EReal) := by rw [hq, hs, Ideal.div_coe hN.ne', ← EReal.coe_mul, ← EReal.coe_add, hQ]
    obtain ⟨p, hp'⟩ : ∃ p : ℝ, p = (Real.sqrt Q)⁻¹ := ⟨_, rfl⟩
    have hp0 : 0 < p := by rw [hp']; positivity
    have r0 : r = (p : EReal) := by
      rw [hr, q0, Ideal.rsqrt_coe, if_neg (not_lt.mpr hQ0.le), if_neg hQ0.ne', hp']
    have hpp : p * p = 1 / Q := by
      rw [hp', ← mul_inv, Real.mul_self_sqrt hQ0.le, one_div]
    have hT : (∑ k, d k * (x k * r)) = (∑ k, x k * d k) * (p : EReal) := by
      rw [sum_times _ hp0.le, r0]
      exact Finset.sum_congr rfl fun k _ => by rw [mul_comm (x k) (d k), mul_assoc]
    rw [hT, r0, q0, ← hX, ha j]
    generalize (∑ k, x k * d k) = T
    generalize a j = b
    simp only [Ideal.div_coe hN.ne', Ideal.div_coe hQ0.ne']
    rw [sub_eq_add_neg, EReal.left_distrib_of_nonneg_of_ne_top (EReal.coe_nonneg.mpr hp0.le) (EReal.coe_ne_top p), mul_comm (p : EReal) D,
      add_assoc, add_assoc]
    refine congrArg (h + ·) (congrArg (D * (p : EReal) + ·) ?_)
    have e1 : (p : EReal) * -((b : EReal) * (p : EReal) * (T * (p : EReal) * ((1 / N : ℝ) : EReal))) = ((-(b * p * p * p * (1 / N)) : ℝ) : EReal) * T := by
      simp only [EReal.coe_neg, EReal.coe_mul, neg_mul, mul_neg]
      exact congrArg Neg.neg (by ac_rfl)
    have e2 : (b : EReal) * (T * (((-(1 / 2) : ℝ) : EReal) * ((p : EReal) * ((1 / Q : ℝ) : EReal))) * ((1 / N : ℝ) : EReal))
        = ((b * -(1 / 2) * p * (1 / Q) * (1 / N) : ℝ) : EReal) * T := by
      simp only [EReal.coe_mul]
      ac_rfl
    rw [e1, mul_comm _ (b : EReal), e2, twice, ← hpp]
    exact congrArg (· * T) (congrArg _ (by ring))

theorem ofBits_width : Ideal.ofBits .f32 0x45000000#32 = ((2048 : ℝ) : EReal) := by
  simp [Ideal.ofBits, Ideal.ieee, ← EReal.coe_mul]
  norm_num

theorem ofBits_eps : Ideal.ofBits .f32 0x358637BD#32 = ((8796093 * (2 ^ 43)⁻¹ : ℝ) : EReal) := by
  simp [Ideal.ofBits, Ideal.ieee, EReal.coe_mul]

theorem ofBits_half : Ideal.ofBits .f32 0xBF000000#32 = ((-(1 / 2) : ℝ) : EReal) := by
  simp [Ideal.ofBits, Ideal.ieee, ← EReal.coe_mul]
  norm_num

/-- A row's mean square, with the small constant. -/
noncomputable def ms (x : Fin 2048 → EReal) : EReal :=
  Ideal.div (∑ k, x k * x k) (Ideal.ofBits .f32 0x45000000#32) + Ideal.ofBits .f32 0x358637BD#32

/-- What a row is multiplied by. -/
noncomputable def rt (x : Fin 2048 → EReal) : EReal := Ideal.rsqrt (ms x)

/-- The gradient at a row's entry, as the kernel computes it. -/
noncomputable def here (x d : Fin 2048 → EReal) (X D : EReal) : EReal :=
  rt x * (D - X * rt x * Ideal.div (∑ k, d k * (x k * rt x)) (Ideal.ofBits .f32 0x45000000#32))

/-- The row's share of the gradient in the transposed form. -/
noncomputable def share (x d : Fin 2048 → EReal) : EReal :=
  Ideal.div ((∑ k, x k * d k) * (Ideal.ofBits .f32 0xBF000000#32 * Ideal.div (rt x) (ms x))) (Ideal.ofBits .f32 0x45000000#32)

/-- The two forms are the same. -/
theorem forms (x d : Fin 2048 → EReal) (h D X : EReal) (j : Fin 2048) (hX : x j = X) :
    h + here x d X D = h + D * rt x + X * share x d + share x d * X := by
  unfold here share
  rw [ofBits_half, ofBits_width]
  exact row x d h D X j hX (by norm_num) (by positivity : (0 : ℝ) < 8796093 * (2 ^ 43)⁻¹) (by rw [ms, ofBits_width, ofBits_eps]) rfl

end Cert.RowGrad
-- ==== Proof.NormPreGrad.lean ====
/- The gradient of the norm before the mixer: a block of the launch's rows is the reference's there, and the gain's gradient is added up block by block. -/
module

public import proofs.«01_k».proof.Proof.Gen.BpreIdeal
public import proofs.«01_k».proof.Proof.Gen.BpreIdeal.Skeleton
public import proofs.«01_k».proof.Proof.Gen.BpreIdeal.Launch
public import proofs.«01_k».proof.Proof.Gen.BpreIdeal.Points
public import proofs.«01_k».proof.Proof.Gen.BpreIdeal.Frame
public import proofs.«01_k».proof.Proof.Gen.BpreReferenceIdeal
public import proofs.«01_k».proof.Proof.Gen.BpreReferenceIdeal.Run
public import proofs.«01_k».proof.Proof.Gen.BpreReferenceIdeal.Read
public import proofs.«01_k».proof.Defs
public import proofs.«01_k».proof.Proof.RowGrad
public import Idealize.ShloMosaic.Lib.Pipeline.Value
public import Idealize.ShloMosaic.Lib.Pipeline.ValueKit
public import Idealize.ShloMosaic.Lib.StableHlo.Run

@[expose] public section

set_option maxRecDepth 16384

noncomputable section

namespace Cert.BpreIdeal.Val

open Idealize.ShloMosaic Idealize.ShloMosaic.TcCoe Idealize.ShloMosaic.Tactic Idealize.SL.Sem
open Idealize.ShloMosaic.Pipeline (Dat)
open Cert.BpreIdeal Cert.BpreIdeal.Gen
open Cert.RowGrad
open Cert.BpreReferenceIdeal.Read
open scoped BigOperators

variable (m : (ℓ : Loc nD τ sig) → Buf (Elt Ideal) ℓ)

/-- The reference's first result: the gradient of the norm's input. -/
abbrev R0 (a0 : FVec Ideal S4096x2048 .f32) (a1 : FVec Ideal S1x2048 .f32) (a2 a3 : FVec Ideal S4096x2048 .f32) : FVec Ideal S4096x2048 .f32 := val_main_v34 (F := Ideal) a0 a1 a2 a3

/-- The reference's second result: the gradient of the gain. -/
abbrev R1 (a0 a2 : FVec Ideal S4096x2048 .f32) : FVec Ideal S1x2048 .f32 := val_main_v17 (F := Ideal) a0 a2

/-- The blocks a point works on. -/
theorem idx : ∀ t : Fin cfg0.N, win0_0.index t = ![t.val, 0] ∧ win0_1.index t = ![0, 0] ∧ win0_2.index t = ![t.val, 0] ∧ win0_3.index t = ![t.val, 0] ∧ win0_4.index t = ![t.val, 0] ∧ win0_5.index t = ![0, 0] :=
  (by decide +kernel : ∀ t : Fin grid0.N, _)

/-! ## The gradient of the input -/

/-- The body's gradient of the input at an entry. -/
theorem pay3_at (v0 : FVec Ideal S256x2048 .f32) (v1 : FVec Ideal S1x2048 .f32) (v2 v3 : FVec Ideal S256x2048 .f32) (y : S256x2048.Idx) :
    k0_pay3 (F := Ideal) v0 v1 v2 v3 y = (v3 y : EReal) + here (fun k => v0 (ix2 (y 0) k)) (fun k => v2 (ix2 (y 0) k) * v1 (ix2 0 k)) (v0 y) (v2 y * v1 (ix2 0 (y 1))) := by
  pointwise [k0_pay3, k0_pay2, k0_pay1, here, rt, ms]
  blk_ext

/-- The reference's gradient of the input at an entry. -/
theorem ref0_at (a0 : FVec Ideal S4096x2048 .f32) (a1 : FVec Ideal S1x2048 .f32) (a2 a3 : FVec Ideal S4096x2048 .f32) (i : S4096x2048.Idx) :
    R0 a0 a1 a2 a3 i = (a3 i : EReal) + (a2 i * a1 (ix2 0 (i 1))) * rt (fun k => a0 (ix2 (i 0) k))
      + a0 i * share (fun k => a0 (ix2 (i 0) k)) (fun k => a2 (ix2 (i 0) k) * a1 (ix2 0 k))
      + share (fun k => a0 (ix2 (i 0) k)) (fun k => a2 (ix2 (i 0) k) * a1 (ix2 0 k)) * a0 i := by
  pointwise [R0, share, rt, ms, val_main_v34, val_main_v33, val_main_v32, val_main_v31, val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_6, val_main_cst_5, val_main_cst_4, val_main_cst_3, val_main_cst_2, val_main_cst_1, val_main_cst_0]
  simp only [Finset.univ_unique, Finset.sum_singleton]

/-- A point's rows are the reference's at the place they are stored. -/
theorem point (c : Dev nD) (t : Fin cfg0.N) (y) : k0_pay3 (F := Ideal) (iblk m c 0 t) (iblk m c 1 t) (iblk m c 2 t) (iblk m c 3 t) y = R0 (m ((c : Thread nD τ).loc main_arg0)) (m ((c : Thread nD τ).loc main_arg1)) (m ((c : Thread nD τ).loc main_arg2)) (m ((c : Thread nD τ).loc main_arg3)) (((cfg0.win 4).blk t).view.emb y) := by
  refine (pay3_at _ _ _ _ y).trans (Eq.trans ?_ (ref0_at (m ((c : Thread nD τ).loc main_arg0)) (m ((c : Thread nD τ).loc main_arg1)) (m ((c : Thread nD τ).loc main_arg2)) (m ((c : Thread nD τ).loc main_arg3)) _).symm)
  refine (forms _ _ _ _ _ (y 1) (by blk_ext)).trans ?_
  blk_point [iblk, V, idx t]

/-- The first array after the run. -/
theorem final0 (c : Dev nD) : (dats m 0 c).arrAt 4 (cfgs 0).N = R0 (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4]
  by_cases h : t.val % 16 = 0
  · rw [outsAt0_A m c t h]
    frame_out
    exact point m c t y
  · rw [outsAt0_B m c t h]
    frame_out
    exact point m c t y

/-! ## The gradient of the gain -/

/-- A block's rows' share of the gain's gradient. -/
def part (v0 v2 : FVec Ideal S256x2048 .f32) (y : S1x2048.Idx) : EReal :=
  ∑ k : Fin 256, v2 (ix2 k (y 1)) * (v0 (ix2 k (y 1)) * rt (fun l => v0 (ix2 k l)))

theorem pay4_at (y : S1x2048.Idx) : k0_pay4 (F := Ideal) y = (0 : EReal) := by
  pointwise [k0_pay4]

theorem pay5_at (v0 v2 : FVec Ideal S256x2048 .f32) (acc : FVec Ideal S1x2048 .f32) (y : S1x2048.Idx) :
    k0_pay5 (F := Ideal) v0 v2 acc y = (acc y : EReal) + part v0 v2 y := by
  pointwise [k0_pay5, k0_pay2, k0_pay1, part, rt, ms]
  blk_ext

theorem ref1_at (a0 a2 : FVec Ideal S4096x2048 .f32) (j : S1x2048.Idx) :
    R1 a0 a2 j = (∑ k : Fin 4096, a2 (ix2 k (j 1)) * (a0 (ix2 k (j 1)) * rt (fun l => a0 (ix2 k l))) : EReal) := by
  pointwise [R1, rt, ms, val_main_v17, val_main_v16, val_main_v15, val_main_v12, val_main_v11, val_main_v7, val_main_v6, val_main_v5, val_main_v4, val_main_v3, val_main_v2, val_main_v1, val_main_v0, val_main_cst_3, val_main_cst_1, val_main_cst_0, val_main_cst]
  exact Finset.sum_congr rfl fun k _ => mul_comm _ _

/-- The gain's gradient after the first point. -/
theorem first (c : Dev nD) (t : Fin cfg0.N) (h : t.val % 16 = 0) (y : S1x2048.Idx) :
    (outsAt0 m c t.val t.isLt).2 y = (0 : EReal) + part (iblk m c 0 t) (iblk m c 2 t) y := by
  rw [outsAt0_A m c t h]
  frame_out
  rw [pay5_at, pay4_at]

/-- The gain's gradient after a later point. -/
theorem next (c : Dev nD) (t : Fin cfg0.N) (h : ¬t.val % 16 = 0) (y : S1x2048.Idx) :
    (outsAt0 m c t.val t.isLt).2 y = ((outsAt0 m c (t.val - 1) (Nat.lt_of_le_of_lt (Nat.sub_le _ _) t.isLt)).2 y : EReal) + part (iblk m c 0 t) (iblk m c 2 t) y := by
  rw [outsAt0_B m c t h]
  frame_out
  rw [pay5_at]

/-- The second array after the run. -/
theorem final1 (c : Dev nD) : (dats m 0 c).arrAt 5 (cfgs 0).N = R1 (m ((c : Thread nD τ).loc main_arg0)) (m ((c : Thread nD τ).loc main_arg2)) := by
  refine (dats m 0 c).arrAt_eq_of_covers 5 _ (by decide +kernel) fun t hf y => ?_
  blk_simp
  have h3 : t.val % 16 = 15 := (flush0_5 t).mp hf
  rw [after0_5, Pipeline.eq_sum_fin_of_reset_step_apply_of_flush (fun n h => (outsAt0 m c n h).2) 16 (fun _ => 0)
    (fun p j => part (iblk m c 0 p) (iblk m c 2 p) j) (first m c) (next m c) t h3 _, zero_add, ref1_at]
  unfold part
  refine Fin.sum_mul_add_congr fun s k hl => ?_
  blk_point [iblk, V, idx t, idx ⟨_, Pipeline.run_point_lt_of_flush t h3 s⟩]

/-- The launch's results are the reference's. -/
theorem algebraic : Cert.algebraic_BpreIdeal_BpreReferenceIdeal (hBpreIdeal := Cert.BpreIdeal.Gen.facts)
    (hBpreReferenceIdeal := Cert.BpreReferenceIdeal.Gen.facts) := by
  intro m g m' g' _ ha
  refine ⟨fun c => R0 (m ((c : Thread nD τ).loc main_arg0)) (m ((c : Thread nD τ).loc main_arg1)) (m ((c : Thread nD τ).loc main_arg2)) (m ((c : Thread nD τ).loc main_arg3)), fun c => R1 (m ((c : Thread nD τ).loc main_arg0)) (m ((c : Thread nD τ).loc main_arg2)), ?_, ?_⟩
  · refine (θ_run defs _ _).mono (fun r h c => ?_) (θ_run_and (run_main m g) (unchanged m g))
    exact ⟨(h.1.out_eq c 4).trans (final0 m c), (h.1.out_eq c 5).trans (final1 m c), h.2 c⟩
  · refine (θ_run Cert.BpreReferenceIdeal.defs _ _).mono (fun r h c => ?_) (Cert.BpreReferenceIdeal.Value.run m' g')
    obtain ⟨a0, a1, a2, a3⟩ := ha c
    obtain ⟨h0, h1, hrest⟩ := h c
    refine ⟨h0.trans ?_, h1.trans ?_, hrest⟩
    · rw [val_main_v34_eq, a0, a1, a2, a3]
    · rw [val_main_v17_eq, a0, a2]

end Cert.BpreIdeal.Val

end
-- ==== Proof.NormPostGrad.lean ====
/- The gradient of the norm after the mixer: a block of the launch's rows is the reference's there, and the gain's gradient is added up block by block. -/
module

public import proofs.«01_k».proof.Proof.Gen.BpostIdeal
public import proofs.«01_k».proof.Proof.Gen.BpostIdeal.Skeleton
public import proofs.«01_k».proof.Proof.Gen.BpostIdeal.Launch
public import proofs.«01_k».proof.Proof.Gen.BpostIdeal.Points
public import proofs.«01_k».proof.Proof.Gen.BpostIdeal.Frame
public import proofs.«01_k».proof.Proof.Gen.BpostReferenceIdeal
public import proofs.«01_k».proof.Proof.Gen.BpostReferenceIdeal.Run
public import proofs.«01_k».proof.Proof.Gen.BpostReferenceIdeal.Read
public import proofs.«01_k».proof.Defs
public import proofs.«01_k».proof.Proof.RowGrad
public import Idealize.ShloMosaic.Lib.Pipeline.Value
public import Idealize.ShloMosaic.Lib.Pipeline.ValueKit
public import Idealize.ShloMosaic.Lib.StableHlo.Run

@[expose] public section

set_option maxRecDepth 16384

noncomputable section

namespace Cert.BpostIdeal.Val

open Idealize.ShloMosaic Idealize.ShloMosaic.TcCoe Idealize.ShloMosaic.Tactic Idealize.SL.Sem
open Idealize.ShloMosaic.Pipeline (Dat)
open Cert.BpostIdeal Cert.BpostIdeal.Gen
open Cert.RowGrad
open Cert.BpostReferenceIdeal.Read
open scoped BigOperators

variable (m : (ℓ : Loc nD τ sig) → Buf (Elt Ideal) ℓ)

/-- The reference's first result: the gradient of the norm's input. -/
abbrev R0 (a0 : FVec Ideal S4096x2048 .f32) (a1 : FVec Ideal S1x2048 .f32) (a2 : FVec Ideal S4096x2048 .f32) : FVec Ideal S4096x2048 .bf16 := val_main_v34 (F := Ideal) a0 a1 a2

/-- The reference's second result: the gradient of the gain. -/
abbrev R1 (a0 a2 : FVec Ideal S4096x2048 .f32) : FVec Ideal S1x2048 .f32 := val_main_v17 (F := Ideal) a0 a2

/-- The blocks a point works on. -/
theorem idx : ∀ t : Fin cfg0.N, win0_0.index t = ![t.val, 0] ∧ win0_1.index t = ![0, 0] ∧ win0_2.index t = ![t.val, 0] ∧ win0_3.index t = ![t.val, 0] ∧ win0_4.index t = ![0, 0] :=
  (by decide +kernel : ∀ t : Fin grid0.N, _)

/-! ## The gradient of the input -/

/-- The body's gradient of the input at an entry. -/
theorem pay3_at (v0 : FVec Ideal S256x2048 .f32) (v1 : FVec Ideal S1x2048 .f32) (v2 : FVec Ideal S256x2048 .f32) (y : S256x2048.Idx) :
    k0_pay3 (F := Ideal) v0 v1 v2 y = here (fun k => v0 (ix2 (y 0) k)) (fun k => v2 (ix2 (y 0) k) * v1 (ix2 0 k)) (v0 y) (v2 y * v1 (ix2 0 (y 1))) := by
  pointwise [k0_pay3, k0_pay2, k0_pay1, here, rt, ms]
  blk_ext

/-- The reference's gradient of the input at an entry. -/
theorem ref0_at (a0 : FVec Ideal S4096x2048 .f32) (a1 : FVec Ideal S1x2048 .f32) (a2 : FVec Ideal S4096x2048 .f32) (i : S4096x2048.Idx) :
    R0 a0 a1 a2 i = (a2 i * a1 (ix2 0 (i 1))) * rt (fun k => a0 (ix2 (i 0) k))
      + a0 i * share (fun k => a0 (ix2 (i 0) k)) (fun k => a2 (ix2 (i 0) k) * a1 (ix2 0 k))
      + share (fun k => a0 (ix2 (i 0) k)) (fun k => a2 (ix2 (i 0) k) * a1 (ix2 0 k)) * a0 i := by
  pointwise [R0, share, rt, ms, val_main_v34, val_main_v33, val_main_v32, val_main_v31, val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_6, val_main_cst_5, val_main_cst_4, val_main_cst_3, val_main_cst_2, val_main_cst_1, val_main_cst_0]
  simp only [Finset.univ_unique, Finset.sum_singleton]

/-- A point's rows are the reference's at the place they are stored. -/
theorem point (c : Dev nD) (t : Fin cfg0.N) (y) : k0_pay3 (F := Ideal) (iblk m c 0 t) (iblk m c 1 t) (iblk m c 2 t) y = R0 (m ((c : Thread nD τ).loc main_arg0)) (m ((c : Thread nD τ).loc main_arg1)) (m ((c : Thread nD τ).loc main_arg2)) (((cfg0.win 3).blk t).view.emb y) := by
  refine (pay3_at _ _ _ y).trans (Eq.trans ?_ (ref0_at (m ((c : Thread nD τ).loc main_arg0)) (m ((c : Thread nD τ).loc main_arg1)) (m ((c : Thread nD τ).loc main_arg2)) _).symm)
  refine ((zero_add _).symm.trans (forms _ _ 0 _ _ (y 1) (by blk_ext))).trans ?_
  rw [zero_add]
  blk_point [iblk, V, idx t]

/-- The first array after the run. -/
theorem final0 (c : Dev nD) : (dats m 0 c).arrAt 3 (cfgs 0).N = R0 (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  by_cases h : t.val % 16 = 0
  · rw [outsAt0_A m c t h]
    frame_out
    exact point m c t y
  · rw [outsAt0_B m c t h]
    frame_out
    exact point m c t y

/-! ## The gradient of the gain -/

/-- A block's rows' share of the gain's gradient. -/
def part (v0 v2 : FVec Ideal S256x2048 .f32) (y : S1x2048.Idx) : EReal :=
  ∑ k : Fin 256, v2 (ix2 k (y 1)) * (v0 (ix2 k (y 1)) * rt (fun l => v0 (ix2 k l)))

theorem pay4_at (y : S1x2048.Idx) : k0_pay4 (F := Ideal) y = (0 : EReal) := by
  pointwise [k0_pay4]

theorem pay5_at (v0 v2 : FVec Ideal S256x2048 .f32) (acc : FVec Ideal S1x2048 .f32) (y : S1x2048.Idx) :
    k0_pay5 (F := Ideal) v0 v2 acc y = (acc y : EReal) + part v0 v2 y := by
  pointwise [k0_pay5, k0_pay2, k0_pay1, part, rt, ms]
  blk_ext

theorem ref1_at (a0 a2 : FVec Ideal S4096x2048 .f32) (j : S1x2048.Idx) :
    R1 a0 a2 j = (∑ k : Fin 4096, a2 (ix2 k (j 1)) * (a0 (ix2 k (j 1)) * rt (fun l => a0 (ix2 k l))) : EReal) := by
  pointwise [R1, rt, ms, val_main_v17, val_main_v16, val_main_v15, val_main_v12, val_main_v11, val_main_v7, val_main_v6, val_main_v5, val_main_v4, val_main_v3, val_main_v2, val_main_v1, val_main_v0, val_main_cst_3, val_main_cst_1, val_main_cst_0, val_main_cst]
  exact Finset.sum_congr rfl fun k _ => mul_comm _ _

/-- The gain's gradient after the first point. -/
theorem first (c : Dev nD) (t : Fin cfg0.N) (h : t.val % 16 = 0) (y : S1x2048.Idx) :
    (outsAt0 m c t.val t.isLt).2 y = (0 : EReal) + part (iblk m c 0 t) (iblk m c 2 t) y := by
  rw [outsAt0_A m c t h]
  frame_out
  rw [pay5_at, pay4_at]

/-- The gain's gradient after a later point. -/
theorem next (c : Dev nD) (t : Fin cfg0.N) (h : ¬t.val % 16 = 0) (y : S1x2048.Idx) :
    (outsAt0 m c t.val t.isLt).2 y = ((outsAt0 m c (t.val - 1) (Nat.lt_of_le_of_lt (Nat.sub_le _ _) t.isLt)).2 y : EReal) + part (iblk m c 0 t) (iblk m c 2 t) y := by
  rw [outsAt0_B m c t h]
  frame_out
  rw [pay5_at]

/-- The second array after the run. -/
theorem final1 (c : Dev nD) : (dats m 0 c).arrAt 4 (cfgs 0).N = R1 (m ((c : Thread nD τ).loc main_arg0)) (m ((c : Thread nD τ).loc main_arg2)) := by
  refine (dats m 0 c).arrAt_eq_of_covers 4 _ (by decide +kernel) fun t hf y => ?_
  blk_simp
  have h3 : t.val % 16 = 15 := (flush0_4 t).mp hf
  rw [after0_4, Pipeline.eq_sum_fin_of_reset_step_apply_of_flush (fun n h => (outsAt0 m c n h).2) 16 (fun _ => 0)
    (fun p j => part (iblk m c 0 p) (iblk m c 2 p) j) (first m c) (next m c) t h3 _, zero_add, ref1_at]
  unfold part
  refine Fin.sum_mul_add_congr fun s k hl => ?_
  blk_point [iblk, V, idx t, idx ⟨_, Pipeline.run_point_lt_of_flush t h3 s⟩]

/-- The launch's results are the reference's. -/
theorem algebraic : Cert.algebraic_BpostIdeal_BpostReferenceIdeal (hBpostIdeal := Cert.BpostIdeal.Gen.facts)
    (hBpostReferenceIdeal := Cert.BpostReferenceIdeal.Gen.facts) := by
  intro m g m' g' _ ha
  refine ⟨fun c => R0 (m ((c : Thread nD τ).loc main_arg0)) (m ((c : Thread nD τ).loc main_arg1)) (m ((c : Thread nD τ).loc main_arg2)), fun c => R1 (m ((c : Thread nD τ).loc main_arg0)) (m ((c : Thread nD τ).loc main_arg2)), ?_, ?_⟩
  · refine (θ_run defs _ _).mono (fun r h c => ?_) (θ_run_and (run_main m g) (unchanged m g))
    exact ⟨(h.1.out_eq c 3).trans (final0 m c), (h.1.out_eq c 4).trans (final1 m c), h.2 c⟩
  · refine (θ_run Cert.BpostReferenceIdeal.defs _ _).mono (fun r h c => ?_) (Cert.BpostReferenceIdeal.Value.run m' g')
    obtain ⟨a0, a1, a2⟩ := ha c
    obtain ⟨h0, h1, hrest⟩ := h c
    refine ⟨h0.trans ?_, h1.trans ?_, hrest⟩
    · rw [val_main_v34_eq, a0, a1, a2]
    · rw [val_main_v17_eq, a0, a2]

end Cert.BpostIdeal.Val

end
-- ==== Proof.LossHead.lean ====
/- The end of the forward pass and the start of the backward one: the last norm, the error, its squares and its gradient, block by block. -/
module

public import proofs.«01_k».proof.Proof.Gen.LheadIdeal
public import proofs.«01_k».proof.Proof.Gen.LheadIdeal.Skeleton
public import proofs.«01_k».proof.Proof.Gen.LheadIdeal.Launch
public import proofs.«01_k».proof.Proof.Gen.LheadIdeal.Points
public import proofs.«01_k».proof.Proof.Gen.LheadIdeal.Frame
public import proofs.«01_k».proof.Proof.Gen.LheadReferenceIdeal
public import proofs.«01_k».proof.Proof.Gen.LheadReferenceIdeal.Run
public import proofs.«01_k».proof.Proof.Gen.LheadReferenceIdeal.Read
public import proofs.«01_k».proof.Defs
public import proofs.«01_k».proof.Proof.RowGrad
public import Idealize.ShloMosaic.Lib.Pipeline.Value
public import Idealize.ShloMosaic.Lib.Pipeline.ValueKit
public import Idealize.ShloMosaic.Lib.StableHlo.Run

@[expose] public section

set_option maxRecDepth 16384

noncomputable section

namespace Cert.LheadIdeal.Val

open Idealize.ShloMosaic Idealize.ShloMosaic.TcCoe Idealize.ShloMosaic.Tactic Idealize.SL.Sem
open Idealize.ShloMosaic.Pipeline (Dat)
open Cert.LheadIdeal Cert.LheadIdeal.Gen
open Cert.RowGrad
open Cert.LheadReferenceIdeal.Read
open scoped BigOperators

variable (m : (ℓ : Loc nD τ sig) → Buf (Elt Ideal) ℓ)

/-- The reference's results: the error's gradient, the gradient of the norm's input, the gradient of the gain, and the columns' sums of squared errors. -/
abbrev R4 (a0 : FVec Ideal S4096x2048 .f32) (a1 : FVec Ideal S1x2048 .f32) (a2 a3 : FVec Ideal S4096x2048 .f32) : FVec Ideal S4096x2048 .f32 := val_main_v30 (F := Ideal) a0 a1 a2 a3
abbrev R5 (a0 : FVec Ideal S4096x2048 .f32) (a1 : FVec Ideal S1x2048 .f32) (a2 a3 : FVec Ideal S4096x2048 .f32) : FVec Ideal S4096x2048 .bf16 := val_main_v50 (F := Ideal) a0 a1 a2 a3
abbrev R6 (a0 : FVec Ideal S4096x2048 .f32) (a1 : FVec Ideal S1x2048 .f32) (a2 a3 : FVec Ideal S4096x2048 .f32) : FVec Ideal S1x2048 .f32 := val_main_v33 (F := Ideal) a0 a1 a2 a3
abbrev R7 (a0 : FVec Ideal S4096x2048 .f32) (a1 : FVec Ideal S1x2048 .f32) (a2 a3 : FVec Ideal S4096x2048 .f32) : FVec Ideal S1x2048 .f32 := val_main_v67 (F := Ideal) a0 a1 a2 a3

/-- The blocks a point works on. -/
theorem idx : ∀ t : Fin cfg0.N, win0_0.index t = ![t.val, 0] ∧ win0_1.index t = ![0, 0] ∧ win0_2.index t = ![t.val, 0] ∧ win0_3.index t = ![t.val, 0] ∧ win0_4.index t = ![t.val, 0] ∧ win0_5.index t = ![t.val, 0] ∧ win0_6.index t = ![0, 0] ∧ win0_7.index t = ![0, 0] :=
  (by decide +kernel : ∀ t : Fin grid0.N, _)

/-- The error at an entry. -/
def err (X R G H T : EReal) : EReal := H + X * R * G - T

/-- The transposed form's factors are the kernel's one. -/
theorem scale (e : EReal) : Ideal.div (Ideal.ofBits .f32 0x3F000000#32 * Ideal.ofBits .f32 0x3F800000#32) (Ideal.ofBits .f32 0x45000000#32) * (Ideal.ofBits .f32 0x40000000#32 * e)
    = e * Ideal.ofBits .f32 0x3A000000#32 := by
  have h0 : Ideal.ofBits .f32 0x3F000000#32 = ((1 / 2 : ℝ) : EReal) := by simp [Ideal.ofBits, Ideal.ieee, ← EReal.coe_mul]; norm_num
  have h1 : Ideal.ofBits .f32 0x3F800000#32 = ((1 : ℝ) : EReal) := by simp [Ideal.ofBits, Ideal.ieee, ← EReal.coe_mul]; norm_num
  have h2 : Ideal.ofBits .f32 0x40000000#32 = ((2 : ℝ) : EReal) := by simp [Ideal.ofBits, Ideal.ieee, ← EReal.coe_mul]; norm_num
  have h3 : Ideal.ofBits .f32 0x3A000000#32 = ((1 / 2048 : ℝ) : EReal) := by simp [Ideal.ofBits, Ideal.ieee, ← EReal.coe_mul]; norm_num
  rw [h0, h1, h2, h3, ofBits_width, Ideal.div_coe (by norm_num), ← mul_assoc, ← EReal.coe_mul, ← EReal.coe_mul, ← EReal.coe_mul, mul_comm e]
  exact congrArg (· * e) (congrArg _ (by norm_num))

/-! ## The error's gradient -/

theorem pay8_at (v0 : FVec Ideal S256x2048 .f32) (v1 : FVec Ideal S1x2048 .f32) (v2 v3 : FVec Ideal S256x2048 .f32) (y : S256x2048.Idx) :
    k0_pay8 (F := Ideal) v0 v1 v2 v3 y = err (v0 y) (rt (fun k => v0 (ix2 (y 0) k))) (v1 (ix2 0 (y 1))) (v2 y) (v3 y) * Ideal.ofBits .f32 0x3A000000#32 := by
  pointwise [k0_pay8, k0_pay7, k0_pay6, k0_pay5, err, rt, ms]

theorem ref4_at (a0 : FVec Ideal S4096x2048 .f32) (a1 : FVec Ideal S1x2048 .f32) (a2 a3 : FVec Ideal S4096x2048 .f32) (i : S4096x2048.Idx) :
    R4 a0 a1 a2 a3 i = err (a0 i) (rt (fun k => a0 (ix2 (i 0) k))) (a1 (ix2 0 (i 1))) (a2 i) (a3 i) * Ideal.ofBits .f32 0x3A000000#32 := by
  refine Eq.trans ?_ (scale _)
  pointwise [R4, err, rt, ms, val_main_v50, val_main_v49, val_main_v48, val_main_v47, val_main_v46, val_main_v45, val_main_v44, val_main_v43, val_main_v42, val_main_v41, val_main_v40, val_main_v39, val_main_v38, val_main_v37, val_main_v36, val_main_v35, val_main_v34, val_main_v33, val_main_v32, val_main_v31, val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_18, val_main_cst_17, val_main_cst_16, val_main_cst_15, val_main_cst_14, val_main_cst_13, val_main_cst_12, val_main_cst_11, val_main_cst_10, val_main_cst_9, val_main_cst_8, val_main_cst_7, val_main_cst_6, val_main_cst_5, val_main_cst_4, val_main_cst_3, val_main_cst_2, val_main_cst_1, val_main_cst_0]

theorem point4 (c : Dev nD) (t : Fin cfg0.N) (y) : k0_pay8 (F := Ideal) (iblk m c 0 t) (iblk m c 1 t) (iblk m c 2 t) (iblk m c 3 t) y = R4 (m ((c : Thread nD τ).loc main_arg0)) (m ((c : Thread nD τ).loc main_arg1)) (m ((c : Thread nD τ).loc main_arg2)) (m ((c : Thread nD τ).loc main_arg3)) (((cfg0.win 4).blk t).view.emb y) := by
  refine (pay8_at _ _ _ _ y).trans (Eq.trans ?_ (ref4_at (m ((c : Thread nD τ).loc main_arg0)) (m ((c : Thread nD τ).loc main_arg1)) (m ((c : Thread nD τ).loc main_arg2)) (m ((c : Thread nD τ).loc main_arg3)) _).symm)
  blk_point [iblk, V, idx t]

/-- The error's gradient after the run. -/
theorem final4 (c : Dev nD) : (dats m 0 c).arrAt 4 (cfgs 0).N = R4 (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4]
  by_cases h : t.val % 16 = 0
  · rw [outsAt0_A m c t h]
    frame_out
    exact point4 m c t y
  · rw [outsAt0_B m c t h]
    frame_out
    exact point4 m c t y

/-! ## The gradient of the norm's input -/

theorem pay9_at (v0 : FVec Ideal S256x2048 .f32) (v1 : FVec Ideal S1x2048 .f32) (v2 v3 : FVec Ideal S256x2048 .f32) (y : S256x2048.Idx) :
    k0_pay9 (F := Ideal) v0 v1 v2 v3 y = here (fun k => v0 (ix2 (y 0) k)) (fun k => err (v0 (ix2 (y 0) k)) (rt (fun l => v0 (ix2 (y 0) l))) (v1 (ix2 0 k)) (v2 (ix2 (y 0) k)) (v3 (ix2 (y 0) k)) * Ideal.ofBits .f32 0x3A000000#32 * v1 (ix2 0 k)) (v0 y) (err (v0 y) (rt (fun k => v0 (ix2 (y 0) k))) (v1 (ix2 0 (y 1))) (v2 y) (v3 y) * Ideal.ofBits .f32 0x3A000000#32 * v1 (ix2 0 (y 1))) := by
  pointwise [k0_pay9, k0_pay8, k0_pay7, k0_pay6, k0_pay5, here, err, rt, ms]
  blk_ext

theorem ref5_at (a0 : FVec Ideal S4096x2048 .f32) (a1 : FVec Ideal S1x2048 .f32) (a2 a3 : FVec Ideal S4096x2048 .f32) (i : S4096x2048.Idx) :
    R5 a0 a1 a2 a3 i = (err (a0 i) (rt (fun k => a0 (ix2 (i 0) k))) (a1 (ix2 0 (i 1))) (a2 i) (a3 i) * Ideal.ofBits .f32 0x3A000000#32 * a1 (ix2 0 (i 1))) * rt (fun k => a0 (ix2 (i 0) k))
      + a0 i * share (fun k => a0 (ix2 (i 0) k)) (fun k => err (a0 (ix2 (i 0) k)) (rt (fun l => a0 (ix2 (i 0) l))) (a1 (ix2 0 k)) (a2 (ix2 (i 0) k)) (a3 (ix2 (i 0) k)) * Ideal.ofBits .f32 0x3A000000#32 * a1 (ix2 0 k))
      + share (fun k => a0 (ix2 (i 0) k)) (fun k => err (a0 (ix2 (i 0) k)) (rt (fun l => a0 (ix2 (i 0) l))) (a1 (ix2 0 k)) (a2 (ix2 (i 0) k)) (a3 (ix2 (i 0) k)) * Ideal.ofBits .f32 0x3A000000#32 * a1 (ix2 0 k)) * a0 i := by
  simp only [← scale]
  pointwise [R5, share, err, rt, ms, val_main_v50, val_main_v49, val_main_v48, val_main_v47, val_main_v46, val_main_v45, val_main_v44, val_main_v43, val_main_v42, val_main_v41, val_main_v40, val_main_v39, val_main_v38, val_main_v37, val_main_v36, val_main_v35, val_main_v34, val_main_v33, val_main_v32, val_main_v31, val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_18, val_main_cst_17, val_main_cst_16, val_main_cst_15, val_main_cst_14, val_main_cst_13, val_main_cst_12, val_main_cst_11, val_main_cst_10, val_main_cst_9, val_main_cst_8, val_main_cst_7, val_main_cst_6, val_main_cst_5, val_main_cst_4, val_main_cst_3, val_main_cst_2, val_main_cst_1, val_main_cst_0]
  simp only [Finset.univ_unique, Finset.sum_singleton]

theorem point5 (c : Dev nD) (t : Fin cfg0.N) (y) : k0_pay9 (F := Ideal) (iblk m c 0 t) (iblk m c 1 t) (iblk m c 2 t) (iblk m c 3 t) y = R5 (m ((c : Thread nD τ).loc main_arg0)) (m ((c : Thread nD τ).loc main_arg1)) (m ((c : Thread nD τ).loc main_arg2)) (m ((c : Thread nD τ).loc main_arg3)) (((cfg0.win 5).blk t).view.emb y) := by
  refine (pay9_at _ _ _ _ y).trans (Eq.trans ?_ (ref5_at (m ((c : Thread nD τ).loc main_arg0)) (m ((c : Thread nD τ).loc main_arg1)) (m ((c : Thread nD τ).loc main_arg2)) (m ((c : Thread nD τ).loc main_arg3)) _).symm)
  refine ((zero_add _).symm.trans (forms _ _ 0 _ _ (y 1) (by blk_ext))).trans ?_
  rw [zero_add]
  blk_point [iblk, V, idx t]

/-- The gradient of the norm's input after the run. -/
theorem final5 (c : Dev nD) : (dats m 0 c).arrAt 5 (cfgs 0).N = R5 (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp
  rw [after0_5]
  by_cases h : t.val % 16 = 0
  · rw [outsAt0_A m c t h]
    frame_out
    exact point5 m c t y
  · rw [outsAt0_B m c t h]
    frame_out
    exact point5 m c t y

/-! ## The gradient of the gain -/

/-- A block's rows' share of the gain's gradient. -/
def part6 (v0 : FVec Ideal S256x2048 .f32) (v1 : FVec Ideal S1x2048 .f32) (v2 v3 : FVec Ideal S256x2048 .f32) (y : S1x2048.Idx) : EReal :=
  ∑ k : Fin 256, err (v0 (ix2 (k) (y 1))) (rt (fun l => v0 (ix2 (k) l))) (v1 (ix2 0 (y 1))) (v2 (ix2 (k) (y 1))) (v3 (ix2 (k) (y 1))) * Ideal.ofBits .f32 0x3A000000#32 * (v0 (ix2 k (y 1)) * rt (fun l => v0 (ix2 k l)))

theorem zero6_at (y : S1x2048.Idx) : k0_pay1 (F := Ideal) y = (0 : EReal) := by
  pointwise [k0_pay1]

theorem pay3_at (v0 : FVec Ideal S256x2048 .f32) (v1 : FVec Ideal S1x2048 .f32) (v2 v3 : FVec Ideal S256x2048 .f32) (acc : FVec Ideal S1x2048 .f32) (y : S1x2048.Idx) :
    k0_pay3 (F := Ideal) (k0_pay6 v0) (k0_pay8 v0 v1 v2 v3) acc y = (acc y : EReal) + part6 v0 v1 v2 v3 y := by
  pointwise [k0_pay3, k0_pay8, k0_pay7, k0_pay6, k0_pay5, part6, err, rt, ms]
  blk_ext

theorem ref6_at (a0 : FVec Ideal S4096x2048 .f32) (a1 : FVec Ideal S1x2048 .f32) (a2 a3 : FVec Ideal S4096x2048 .f32) (j : S1x2048.Idx) :
    R6 a0 a1 a2 a3 j = (∑ k : Fin 4096, err (a0 (ix2 (k) (j 1))) (rt (fun l => a0 (ix2 (k) l))) (a1 (ix2 0 (j 1))) (a2 (ix2 (k) (j 1))) (a3 (ix2 (k) (j 1))) * Ideal.ofBits .f32 0x3A000000#32 * (a0 (ix2 k (j 1)) * rt (fun l => a0 (ix2 k l))) : EReal) := by
  simp only [← scale]
  pointwise [R6, err, rt, ms, val_main_v50, val_main_v49, val_main_v48, val_main_v47, val_main_v46, val_main_v45, val_main_v44, val_main_v43, val_main_v42, val_main_v41, val_main_v40, val_main_v39, val_main_v38, val_main_v37, val_main_v36, val_main_v35, val_main_v34, val_main_v33, val_main_v32, val_main_v31, val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_18, val_main_cst_17, val_main_cst_16, val_main_cst_15, val_main_cst_14, val_main_cst_13, val_main_cst_12, val_main_cst_11, val_main_cst_10, val_main_cst_9, val_main_cst_8, val_main_cst_7, val_main_cst_6, val_main_cst_5, val_main_cst_4, val_main_cst_3, val_main_cst_2, val_main_cst_1, val_main_cst_0]
  exact Finset.sum_congr rfl fun k _ => mul_comm _ _

/-- The gain's gradient after the first point. -/
theorem first6 (c : Dev nD) (t : Fin cfg0.N) (h : t.val % 16 = 0) (y : S1x2048.Idx) :
    (outsAt0 m c t.val t.isLt).2.2.1 y = (0 : EReal) + part6 (iblk m c 0 t) (iblk m c 1 t) (iblk m c 2 t) (iblk m c 3 t) y := by
  rw [outsAt0_A m c t h]
  frame_out
  rw [pay3_at, zero6_at]

/-- The gain's gradient after a later point. -/
theorem next6 (c : Dev nD) (t : Fin cfg0.N) (h : ¬t.val % 16 = 0) (y : S1x2048.Idx) :
    (outsAt0 m c t.val t.isLt).2.2.1 y = ((outsAt0 m c (t.val - 1) (Nat.lt_of_le_of_lt (Nat.sub_le _ _) t.isLt)).2.2.1 y : EReal) + part6 (iblk m c 0 t) (iblk m c 1 t) (iblk m c 2 t) (iblk m c 3 t) y := by
  rw [outsAt0_B m c t h]
  frame_out
  rw [pay3_at]

/-- The gain's gradient after the run. -/
theorem final6 (c : Dev nD) : (dats m 0 c).arrAt 6 (cfgs 0).N = R6 (m ((c : Thread nD τ).loc main_arg0)) (m ((c : Thread nD τ).loc main_arg1)) (m ((c : Thread nD τ).loc main_arg2)) (m ((c : Thread nD τ).loc main_arg3)) := by
  refine (dats m 0 c).arrAt_eq_of_covers 6 _ (by decide +kernel) fun t hf y => ?_
  blk_simp
  have h3 : t.val % 16 = 15 := (flush0_6 t).mp hf
  rw [after0_6, Pipeline.eq_sum_fin_of_reset_step_apply_of_flush (fun n h => (outsAt0 m c n h).2.2.1) 16 (fun _ => 0)
    (fun p j => part6 (iblk m c 0 p) (iblk m c 1 p) (iblk m c 2 p) (iblk m c 3 p) j) (first6 m c) (next6 m c) t h3 _, zero_add, ref6_at]
  unfold part6
  refine Fin.sum_mul_add_congr fun s k hl => ?_
  blk_point [iblk, V, idx t, idx ⟨_, Pipeline.run_point_lt_of_flush t h3 s⟩]

/-! ## The squares -/

/-- A block's rows' squared errors, by column. -/
def part7 (v0 : FVec Ideal S256x2048 .f32) (v1 : FVec Ideal S1x2048 .f32) (v2 v3 : FVec Ideal S256x2048 .f32) (y : S1x2048.Idx) : EReal :=
  ∑ k : Fin 256, err (v0 (ix2 (k) (y 1))) (rt (fun l => v0 (ix2 (k) l))) (v1 (ix2 0 (y 1))) (v2 (ix2 (k) (y 1))) (v3 (ix2 (k) (y 1))) * err (v0 (ix2 (k) (y 1))) (rt (fun l => v0 (ix2 (k) l))) (v1 (ix2 0 (y 1))) (v2 (ix2 (k) (y 1))) (v3 (ix2 (k) (y 1)))

theorem zero7_at (y : S1x2048.Idx) : k0_pay2 (F := Ideal) y = (0 : EReal) := by
  pointwise [k0_pay2]

theorem pay4_at (v0 : FVec Ideal S256x2048 .f32) (v1 : FVec Ideal S1x2048 .f32) (v2 v3 : FVec Ideal S256x2048 .f32) (acc : FVec Ideal S1x2048 .f32) (y : S1x2048.Idx) :
    k0_pay4 (F := Ideal) (k0_pay7 v0 v1 v2 v3) acc y = (acc y : EReal) + part7 v0 v1 v2 v3 y := by
  pointwise [k0_pay4, k0_pay7, k0_pay6, k0_pay5, part7, err, rt, ms]
  blk_ext

theorem ref7_at (a0 : FVec Ideal S4096x2048 .f32) (a1 : FVec Ideal S1x2048 .f32) (a2 a3 : FVec Ideal S4096x2048 .f32) (j : S1x2048.Idx) :
    R7 a0 a1 a2 a3 j = (∑ k : Fin 4096, err (a0 (ix2 (k) (j 1))) (rt (fun l => a0 (ix2 (k) l))) (a1 (ix2 0 (j 1))) (a2 (ix2 (k) (j 1))) (a3 (ix2 (k) (j 1))) * err (a0 (ix2 (k) (j 1))) (rt (fun l => a0 (ix2 (k) l))) (a1 (ix2 0 (j 1))) (a2 (ix2 (k) (j 1))) (a3 (ix2 (k) (j 1))) : EReal) := by
  pointwise [R7, err, rt, ms, val_main_v67, val_main_v66, val_main_v65, val_main_v64, val_main_v63, val_main_v62, val_main_v61, val_main_v60, val_main_v59, val_main_v58, val_main_v57, val_main_v56, val_main_v55, val_main_v54, val_main_v53, val_main_v52, val_main_v51, val_main_cst, val_main_cst_18, val_main_cst_17, val_main_cst_16, val_main_cst_15, val_main_cst_14, val_main_cst_13, val_main_cst_12, val_main_cst_11, val_main_cst_10, val_main_cst_9, val_main_cst_8, val_main_cst_7, val_main_cst_6, val_main_cst_5, val_main_cst_4, val_main_cst_3, val_main_cst_2, val_main_cst_1, val_main_cst_0]

/-- The squares after the first point. -/
theorem first7 (c : Dev nD) (t : Fin cfg0.N) (h : t.val % 16 = 0) (y : S1x2048.Idx) :
    (outsAt0 m c t.val t.isLt).2.2.2 y = (0 : EReal) + part7 (iblk m c 0 t) (iblk m c 1 t) (iblk m c 2 t) (iblk m c 3 t) y := by
  rw [outsAt0_A m c t h]
  frame_out
  rw [pay4_at, zero7_at]

/-- The squares after a later point. -/
theorem next7 (c : Dev nD) (t : Fin cfg0.N) (h : ¬t.val % 16 = 0) (y : S1x2048.Idx) :
    (outsAt0 m c t.val t.isLt).2.2.2 y = ((outsAt0 m c (t.val - 1) (Nat.lt_of_le_of_lt (Nat.sub_le _ _) t.isLt)).2.2.2 y : EReal) + part7 (iblk m c 0 t) (iblk m c 1 t) (iblk m c 2 t) (iblk m c 3 t) y := by
  rw [outsAt0_B m c t h]
  frame_out
  rw [pay4_at]

/-- The squares after the run. -/
theorem final7 (c : Dev nD) : (dats m 0 c).arrAt 7 (cfgs 0).N = R7 (m ((c : Thread nD τ).loc main_arg0)) (m ((c : Thread nD τ).loc main_arg1)) (m ((c : Thread nD τ).loc main_arg2)) (m ((c : Thread nD τ).loc main_arg3)) := by
  refine (dats m 0 c).arrAt_eq_of_covers 7 _ (by decide +kernel) fun t hf y => ?_
  blk_simp
  have h3 : t.val % 16 = 15 := (flush0_7 t).mp hf
  rw [after0_7, Pipeline.eq_sum_fin_of_reset_step_apply_of_flush (fun n h => (outsAt0 m c n h).2.2.2) 16 (fun _ => 0)
    (fun p j => part7 (iblk m c 0 p) (iblk m c 1 p) (iblk m c 2 p) (iblk m c 3 p) j) (first7 m c) (next7 m c) t h3 _, zero_add, ref7_at]
  unfold part7
  refine Fin.sum_mul_add_congr fun s k hl => ?_
  blk_point [iblk, V, idx t, idx ⟨_, Pipeline.run_point_lt_of_flush t h3 s⟩]

/-- The launch's results are the reference's. -/
theorem algebraic : Cert.algebraic_LheadIdeal_LheadReferenceIdeal (hLheadIdeal := Cert.LheadIdeal.Gen.facts)
    (hLheadReferenceIdeal := Cert.LheadReferenceIdeal.Gen.facts) := by
  intro m g m' g' _ ha
  refine ⟨fun c => R4 (m ((c : Thread nD τ).loc main_arg0)) (m ((c : Thread nD τ).loc main_arg1)) (m ((c : Thread nD τ).loc main_arg2)) (m ((c : Thread nD τ).loc main_arg3)), fun c => R5 (m ((c : Thread nD τ).loc main_arg0)) (m ((c : Thread nD τ).loc main_arg1)) (m ((c : Thread nD τ).loc main_arg2)) (m ((c : Thread nD τ).loc main_arg3)), fun c => R6 (m ((c : Thread nD τ).loc main_arg0)) (m ((c : Thread nD τ).loc main_arg1)) (m ((c : Thread nD τ).loc main_arg2)) (m ((c : Thread nD τ).loc main_arg3)), fun c => R7 (m ((c : Thread nD τ).loc main_arg0)) (m ((c : Thread nD τ).loc main_arg1)) (m ((c : Thread nD τ).loc main_arg2)) (m ((c : Thread nD τ).loc main_arg3)), ?_, ?_⟩
  · refine (θ_run defs _ _).mono (fun r h c => ?_) (θ_run_and (run_main m g) (unchanged m g))
    exact ⟨(h.1.out_eq c 4).trans (final4 m c), (h.1.out_eq c 5).trans (final5 m c), (h.1.out_eq c 6).trans (final6 m c),
      (h.1.out_eq c 7).trans (final7 m c), h.2 c⟩
  · refine (θ_run Cert.LheadReferenceIdeal.defs _ _).mono (fun r h c => ?_) (Cert.LheadReferenceIdeal.Value.run m' g')
    obtain ⟨a0, a1, a2, a3⟩ := ha c
    obtain ⟨h0, h1, h2, h3, hrest⟩ := h c
    refine ⟨h0.trans ?_, h1.trans ?_, h2.trans ?_, h3.trans ?_, hrest⟩
    · rw [val_main_v30_eq, a0, a1, a2, a3]
    · rw [val_main_v50_eq, a0, a1, a2, a3]
    · rw [val_main_v33_eq, a0, a1, a2, a3]
    · rw [val_main_v67_eq, a0, a1, a2, a3]

end Cert.LheadIdeal.Val

end
-- ==== Proof.UpProd.lean ====
/- The up projection: a block of the launch's product is the reference's product there. -/
module

public import proofs.«01_k».proof.Proof.Gen.FupIdeal
public import proofs.«01_k».proof.Proof.Gen.FupIdeal.Skeleton
public import proofs.«01_k».proof.Proof.Gen.FupIdeal.Launch
public import proofs.«01_k».proof.Proof.Gen.FupIdeal.Points
public import proofs.«01_k».proof.Proof.Gen.FupIdeal.Frame
public import proofs.«01_k».proof.Proof.Gen.FupReferenceIdeal
public import proofs.«01_k».proof.Proof.Gen.FupReferenceIdeal.Run
public import proofs.«01_k».proof.Proof.Gen.FupReferenceIdeal.Read
public import proofs.«01_k».proof.Defs
public import Idealize.ShloMosaic.Lib.Pipeline.Value
public import Idealize.ShloMosaic.Lib.Pipeline.ValueKit
public import Idealize.ShloMosaic.Lib.StableHlo.Run

@[expose] public section

set_option maxRecDepth 16384

noncomputable section

namespace Cert.FupIdeal.Val

open Idealize.ShloMosaic Idealize.ShloMosaic.TcCoe Idealize.ShloMosaic.Tactic Idealize.SL.Sem
open Idealize.ShloMosaic.Pipeline (Dat)
open Cert.FupIdeal Cert.FupIdeal.Gen
open scoped BigOperators

variable (m : (ℓ : Loc nD τ sig) → Buf (Elt Ideal) ℓ)

/-- The product of the rows of `a0` with the columns of the shards side by side. -/
abbrev REF (a0 : FVec Ideal S4096x2048 .bf16) (a1 : FVec Ideal S4x2048x2816 .bf16) : FVec Ideal S4096x11264 .f32 :=
  Cert.FupReferenceIdeal.Read.val_main_v2 (F := Ideal) a0 a1

/-- The blocks a point works on. -/
theorem idx : ∀ t : Fin cfg0.N, win0_0.index t = ![t.val / 8, 0] ∧ win0_1.index t = ![t.val % 8 / 2, 0, t.val % 8 % 2] ∧ win0_2.index t = ![t.val / 8, t.val % 8] :=
  (by decide +kernel : ∀ t : Fin grid0.N, _)

/-- A point's product is the reference's at the place it is stored. -/
theorem point (c : Dev nD) (t : Fin cfg0.N) (y) :
    k0_pay1 (iblk m c 0 t) (iblk m c 1 t) y
      = REF (m ((c : Thread nD τ).loc main_arg0)) (m ((c : Thread nD τ).loc main_arg1)) (((cfg0.win 2).blk t).view.emb y) := by
  pointwise [k0_pay1, REF, Cert.FupReferenceIdeal.Read.val_main_v2, Cert.FupReferenceIdeal.Read.val_main_v1, Cert.FupReferenceIdeal.Read.val_main_v0]
  blk_point [iblk, V, idx t]

/-- The array after the run. -/
theorem final (c : Dev nD) : (dats m 0 c).arrAt 2 (cfgs 0).N = REF (m ((c : Thread nD τ).loc main_arg0)) (m ((c : Thread nD τ).loc main_arg1)) := by
  refine (dats m 0 c).arrAt_eq_of_covers 2 _ (by decide +kernel) fun t hf y => ?_
  blk_simp
  rw [after0_2]
  frame_out
  exact point m c t y

/-- The launch's result is the reference's. -/
theorem algebraic : Cert.algebraic_FupIdeal_FupReferenceIdeal (hFupIdeal := Cert.FupIdeal.Gen.facts)
    (hFupReferenceIdeal := Cert.FupReferenceIdeal.Gen.facts) := by
  intro m g m' g' _ ha
  refine ⟨fun c => REF (m ((c : Thread nD τ).loc main_arg0)) (m ((c : Thread nD τ).loc main_arg1)), ?_, ?_⟩
  · refine (θ_run defs _ _).mono (fun r h c => ?_) (θ_run_and (run_main m g) (unchanged m g))
    exact ⟨(h.1.out_eq c 2).trans (final m c), h.2 c⟩
  · refine (θ_run Cert.FupReferenceIdeal.defs _ _).mono (fun r h c => ?_) (Cert.FupReferenceIdeal.Value.run m' g')
    obtain ⟨a0, a1⟩ := ha c
    obtain ⟨h2, hrest⟩ := h c
    refine ⟨h2.trans ?_, hrest⟩
    rw [Cert.FupReferenceIdeal.Read.val_main_v2_eq, a0, a1]

end Cert.FupIdeal.Val

end
-- ==== Proof.DownProd.lean ====
/- The down projection: four products added up in the scratch are the reference's one product. -/
module

public import proofs.«01_k».proof.Proof.Gen.FdownIdeal
public import proofs.«01_k».proof.Proof.Gen.FdownIdeal.Skeleton
public import proofs.«01_k».proof.Proof.Gen.FdownIdeal.Launch
public import proofs.«01_k».proof.Proof.Gen.FdownIdeal.Points
public import proofs.«01_k».proof.Proof.Gen.FdownIdeal.Frame
public import proofs.«01_k».proof.Proof.Gen.FdownReferenceIdeal
public import proofs.«01_k».proof.Proof.Gen.FdownReferenceIdeal.Run
public import proofs.«01_k».proof.Proof.Gen.FdownReferenceIdeal.Read
public import proofs.«01_k».proof.Defs
public import Idealize.ShloMosaic.Lib.Pipeline.Value
public import Idealize.ShloMosaic.Lib.Pipeline.ValueKit
public import Idealize.ShloMosaic.Lib.StableHlo.Run

@[expose] public section

set_option maxRecDepth 16384

noncomputable section

namespace Cert.FdownIdeal.Val

open Idealize.ShloMosaic Idealize.ShloMosaic.TcCoe Idealize.ShloMosaic.Tactic Idealize.SL.Sem
open Idealize.ShloMosaic.Pipeline (Dat)
open Cert.FdownIdeal Cert.FdownIdeal.Gen
open scoped BigOperators

variable (m : (ℓ : Loc nD τ sig) → Buf (Elt Ideal) ℓ)

/-- The product of the rows of `a0` with the columns of `a1`. -/
abbrev REF (a0 : FVec Ideal S4096x5632 .bf16) (a1 : FVec Ideal S5632x2048 .bf16) : FVec Ideal S4096x2048 .f32 :=
  Cert.FdownReferenceIdeal.Read.val_main_v0 (F := Ideal) a0 a1

/-- The blocks a point works on. -/
theorem idx : ∀ t : Fin cfg0.N, win0_0.index t = ![t.val / 16, t.val % 4] ∧ win0_1.index t = ![t.val % 4, t.val / 4 % 4] ∧ win0_2.index t = ![t.val / 16, t.val / 4 % 4] :=
  (by decide +kernel : ∀ t : Fin grid0.N, _)

/-- A block's product at an element. -/
def part (x0 : FVec Ideal S1024x1408 .bf16) (x1 : FVec Ideal S1408x512 .bf16) (y : S1024x512.Idx) : EReal :=
  ∑ k : Fin 1408, x0 (ix2 (y 0) k) * x1 (ix2 k (y 1))

theorem pay1_at (y : S1024x512.Idx) : k0_pay1 (F := Ideal) y = (0 : EReal) := by
  pointwise [k0_pay1]

theorem pay2_at (acc : FVec Ideal S1024x512 .f32) (x0 : FVec Ideal S1024x1408 .bf16) (x1 : FVec Ideal S1408x512 .bf16) (y : S1024x512.Idx) :
    k0_pay2 acc x0 x1 y = (acc y : EReal) + part x0 x1 y := by
  pointwise [k0_pay2, part]
  blk_ext

theorem ref_at (a0 : FVec Ideal S4096x5632 .bf16) (a1 : FVec Ideal S5632x2048 .bf16) (j : S4096x2048.Idx) :
    REF a0 a1 j = (∑ k : Fin 5632, a0 (ix2 (j 0) k) * a1 (ix2 k (j 1)) : EReal) := by
  pointwise [REF, Cert.FdownReferenceIdeal.Read.val_main_v0]

/-- The scratch at a run's first point. -/
theorem first (c : Dev nD) (t : Fin cfg0.N) (h : t.val % 4 = 0) (y : S1024x512.Idx) :
    (outsAt0 m c t.val t.isLt).2 y = (0 : EReal) + part (iblk m c 0 t) (iblk m c 1 t) y := by
  rw [outsAt0_A m c t h (by omega)]
  frame_out
  rw [pay2_at, pay1_at]

/-- The scratch at a later point. -/
theorem next (c : Dev nD) (t : Fin cfg0.N) (h : ¬t.val % 4 = 0) (y : S1024x512.Idx) :
    (outsAt0 m c t.val t.isLt).2 y = ((outsAt0 m c (t.val - 1) (Nat.lt_of_le_of_lt (Nat.sub_le _ _) t.isLt)).2 y : EReal) + part (iblk m c 0 t) (iblk m c 1 t) y := by
  by_cases h2 : t.val % 4 = 3
  · rw [outsAt0_C m c t h h2]
    frame_out
    rw [pay2_at]
    exact congrArg (· + part (iblk m c 0 t) (iblk m c 1 t) y) (congrFun (Memref.IsWhole.read_unread _ _) y)
  · rw [outsAt0_B m c t h h2]
    frame_out
    rw [pay2_at]
    exact congrArg (· + part (iblk m c 0 t) (iblk m c 1 t) y) (congrFun (Memref.IsWhole.read_unread _ _) y)

/-- The last point writes the scratch out. -/
theorem out_last (c : Dev nD) (t : Fin cfg0.N) (h2 : t.val % 4 = 3) (y : S1024x512.Idx) :
    (outsAt0 m c t.val t.isLt).1 y = (outsAt0 m c t.val t.isLt).2 y := by
  rw [outsAt0_C m c t (by omega) h2]
  frame_out

/-- The array after the run. -/
theorem final (c : Dev nD) : (dats m 0 c).arrAt 2 (cfgs 0).N = REF (m ((c : Thread nD τ).loc main_arg0)) (m ((c : Thread nD τ).loc main_arg1)) := by
  refine (dats m 0 c).arrAt_eq_of_covers 2 _ (by decide +kernel) fun t hf y => ?_
  blk_simp
  have h3 : t.val % 4 = 3 := (flush0_2 t).mp hf
  rw [after0_2, out_last m c t h3, Pipeline.eq_sum_fin_of_reset_step_apply_of_flush (fun n h => (outsAt0 m c n h).2) 4 (fun _ => 0)
    (fun p j => part (iblk m c 0 p) (iblk m c 1 p) j) (first m c) (next m c) t h3 _, zero_add, ref_at]
  unfold part
  refine Fin.sum_mul_add_congr fun s k hl => ?_
  blk_point [iblk, V, idx t, idx ⟨_, Pipeline.run_point_lt_of_flush t h3 s⟩]

/-- The launch's result is the reference's. -/
theorem algebraic : Cert.algebraic_FdownIdeal_FdownReferenceIdeal (hFdownIdeal := Cert.FdownIdeal.Gen.facts)
    (hFdownReferenceIdeal := Cert.FdownReferenceIdeal.Gen.facts) := by
  intro m g m' g' _ ha
  refine ⟨fun c => REF (m ((c : Thread nD τ).loc main_arg0)) (m ((c : Thread nD τ).loc main_arg1)), ?_, ?_⟩
  · refine (θ_run defs _ _).mono (fun r h c => ?_) (θ_run_and (run_main m g) (unchanged m g))
    exact ⟨(h.1.out_eq c 2).trans (final m c), h.2 c⟩
  · refine (θ_run Cert.FdownReferenceIdeal.defs _ _).mono (fun r h c => ?_) (Cert.FdownReferenceIdeal.Value.run m' g')
    obtain ⟨a0, a1⟩ := ha c
    obtain ⟨h0, hrest⟩ := h c
    refine ⟨h0.trans ?_, hrest⟩
    rw [Cert.FdownReferenceIdeal.Read.val_main_v0_eq, a0, a1]

end Cert.FdownIdeal.Val

end
-- ==== Proof.OutProd.lean ====
/- The output projection: two products, one of each half, added up in the scratch are the reference's one product. -/
module

public import proofs.«01_k».proof.Proof.Gen.OprojIdeal
public import proofs.«01_k».proof.Proof.Gen.OprojIdeal.Skeleton
public import proofs.«01_k».proof.Proof.Gen.OprojIdeal.Launch
public import proofs.«01_k».proof.Proof.Gen.OprojIdeal.Points
public import proofs.«01_k».proof.Proof.Gen.OprojIdeal.Frame
public import proofs.«01_k».proof.Proof.Gen.OprojReferenceIdeal
public import proofs.«01_k».proof.Proof.Gen.OprojReferenceIdeal.Run
public import proofs.«01_k».proof.Proof.Gen.OprojReferenceIdeal.Read
public import proofs.«01_k».proof.Defs
public import Idealize.ShloMosaic.Lib.Pipeline.Value
public import Idealize.ShloMosaic.Lib.Pipeline.ValueKit
public import Idealize.ShloMosaic.Lib.StableHlo.Run

@[expose] public section

set_option maxRecDepth 16384

noncomputable section

namespace Cert.OprojIdeal.Val

open Idealize.ShloMosaic Idealize.ShloMosaic.TcCoe Idealize.ShloMosaic.Tactic Idealize.SL.Sem
open Idealize.ShloMosaic.Pipeline (Dat)
open Cert.OprojIdeal Cert.OprojIdeal.Gen
open scoped BigOperators

variable (m : (ℓ : Loc nD τ sig) → Buf (Elt Ideal) ℓ)

/-- The product of the rows of the two halves side by side with the columns of `a2`. -/
abbrev REF (a0 a1 : FVec Ideal S4096x1024 .bf16) (a2 : FVec Ideal S2048x2048 .bf16) : FVec Ideal S4096x2048 .f32 :=
  Cert.OprojReferenceIdeal.Read.val_main_v1 (F := Ideal) a0 a1 a2

/-- The blocks a point works on. -/
theorem idx : ∀ t : Fin cfg0.N, win0_0.index t = ![t.val / 4, 0] ∧ win0_1.index t = ![t.val / 4, 0]
    ∧ win0_2.index t = ![0, t.val / 2 % 2] ∧ win0_3.index t = ![1, t.val / 2 % 2] ∧ win0_4.index t = ![t.val / 4, t.val / 2 % 2] :=
  (by decide +kernel : ∀ t : Fin grid0.N, _)

/-- A block's product at an element. -/
def part (x w : FVec Ideal S1024x1024 .bf16) (y : S1024x1024.Idx) : EReal :=
  ∑ k : Fin 1024, x (ix2 (y 0) k) * w (ix2 k (y 1))

/-- What a point adds: the first half's product in the first of the two points, the second's in the second. -/
def term (c : Dev nD) (t : Fin cfg0.N) (y : S1024x1024.Idx) : EReal :=
  ∑ k : Fin 1024, if t.val % 2 = 0 then (show FVec Ideal S1024x1024 .bf16 from iblk m c 0 t) (ix2 (y 0) k) * (show FVec Ideal S1024x1024 .bf16 from iblk m c 2 t) (ix2 k (y 1))
    else (show FVec Ideal S1024x1024 .bf16 from iblk m c 1 t) (ix2 (y 0) k) * (show FVec Ideal S1024x1024 .bf16 from iblk m c 3 t) (ix2 k (y 1))

theorem term_low (c : Dev nD) (t : Fin cfg0.N) (h : t.val % 2 = 0) (y : S1024x1024.Idx) : term m c t y = part (iblk m c 0 t) (iblk m c 2 t) y :=
  Finset.sum_congr rfl fun k _ => if_pos h

theorem term_high (c : Dev nD) (t : Fin cfg0.N) (h : ¬t.val % 2 = 0) (y : S1024x1024.Idx) : term m c t y = part (iblk m c 1 t) (iblk m c 3 t) y :=
  Finset.sum_congr rfl fun k _ => if_neg h

theorem pay1_at (y : S1024x1024.Idx) : k0_pay1 (F := Ideal) y = (0 : EReal) := by
  pointwise [k0_pay1]

theorem pay2_at (acc : FVec Ideal S1024x1024 .f32) (x w : FVec Ideal S1024x1024 .bf16) (y : S1024x1024.Idx) :
    k0_pay2 acc x w y = (acc y : EReal) + part x w y := by
  pointwise [k0_pay2, part]
  blk_ext

theorem pay3_at (acc : FVec Ideal S1024x1024 .f32) (x w : FVec Ideal S1024x1024 .bf16) (y : S1024x1024.Idx) :
    k0_pay3 acc x w y = (acc y : EReal) + part x w y := by
  pointwise [k0_pay3, part]
  blk_ext

/-- The two halves side by side, at a row and a column. -/
def both (a0 a1 : FVec Ideal S4096x1024 .bf16) (r : Fin 4096) (l : Fin 2048) : EReal :=
  if h : l.val < 1024 then a0 (ix2 r ⟨l.val, h⟩) else a1 (ix2 r ⟨l.val - 1024, by omega⟩)

theorem ref_at (a0 a1 : FVec Ideal S4096x1024 .bf16) (a2 : FVec Ideal S2048x2048 .bf16) (j : S4096x2048.Idx) :
    REF a0 a1 a2 j = (∑ l : Fin 2048, both a0 a1 (j 0) l * a2 (ix2 l (j 1)) : EReal) := by
  pointwise [REF, Cert.OprojReferenceIdeal.Read.val_main_v1, Cert.OprojReferenceIdeal.Read.val_main_v0, both]

/-- The scratch at a run's first point. -/
theorem first (c : Dev nD) (t : Fin cfg0.N) (h : t.val % 2 = 0) (y : S1024x1024.Idx) :
    (outsAt0 m c t.val t.isLt).2 y = (0 : EReal) + term m c t y := by
  rw [outsAt0_A m c t h h (by omega) (by omega), term_low m c t h]
  frame_out
  rw [pay2_at, pay1_at]

/-- The scratch at the second point. -/
theorem next (c : Dev nD) (t : Fin cfg0.N) (h : ¬t.val % 2 = 0) (y : S1024x1024.Idx) :
    (outsAt0 m c t.val t.isLt).2 y = ((outsAt0 m c (t.val - 1) (Nat.lt_of_le_of_lt (Nat.sub_le _ _) t.isLt)).2 y : EReal) + term m c t y := by
  rw [outsAt0_B m c t h h (by omega) (by omega), term_high m c t h]
  frame_out
  rw [pay3_at]
  exact congrArg (· + part (iblk m c 1 t) (iblk m c 3 t) y) (congrFun (Memref.IsWhole.read_unread _ _) y)

/-- The last point writes the scratch out. -/
theorem out_last (c : Dev nD) (t : Fin cfg0.N) (h1 : t.val % 2 = 1) (y : S1024x1024.Idx) :
    (outsAt0 m c t.val t.isLt).1 y = (outsAt0 m c t.val t.isLt).2 y := by
  rw [outsAt0_B m c t (by omega) (by omega) h1 h1]
  frame_out

/-- The array after the run. -/
theorem final (c : Dev nD) : (dats m 0 c).arrAt 4 (cfgs 0).N = REF (m ((c : Thread nD τ).loc main_arg0)) (m ((c : Thread nD τ).loc main_arg1)) (m ((c : Thread nD τ).loc main_arg2)) := by
  refine (dats m 0 c).arrAt_eq_of_covers 4 _ (by decide +kernel) fun t hf y => ?_
  blk_simp
  have h1 : t.val % 2 = 1 := (flush0_4 t).mp hf
  rw [after0_4, out_last m c t h1, Pipeline.eq_sum_fin_of_reset_step_apply_of_flush (fun n h => (outsAt0 m c n h).2) 2 (fun _ => 0)
    (fun p j => term m c p j) (first m c) (next m c) t h1 _, zero_add, ref_at]
  unfold term
  refine Fin.sum_mul_add_congr fun s k hl => ?_
  have ix := idx ⟨_, Pipeline.run_point_lt_of_flush t h1 s⟩
  by_cases h0 : s.val = 0
  · refine (if_pos (by show (2 * (t.val / 2) + s.val) % 2 = 0; omega)).trans ?_
    unfold both
    rw [dif_pos (by show s.val * 1024 + k.val < 1024; omega)]
    blk_point [iblk, V, idx t, ix]
  · refine (if_neg (by show ¬(2 * (t.val / 2) + s.val) % 2 = 0; omega)).trans ?_
    unfold both
    rw [dif_neg (by show ¬s.val * 1024 + k.val < 1024; omega)]
    blk_point [iblk, V, idx t, ix]

/-- The launch's result is the reference's. -/
theorem algebraic : Cert.algebraic_OprojIdeal_OprojReferenceIdeal (hOprojIdeal := Cert.OprojIdeal.Gen.facts)
    (hOprojReferenceIdeal := Cert.OprojReferenceIdeal.Gen.facts) := by
  intro m g m' g' _ ha
  refine ⟨fun c => REF (m ((c : Thread nD τ).loc main_arg0)) (m ((c : Thread nD τ).loc main_arg1)) (m ((c : Thread nD τ).loc main_arg2)), ?_, ?_⟩
  · refine (θ_run defs _ _).mono (fun r h c => ?_) (θ_run_and (run_main m g) (unchanged m g))
    exact ⟨(h.1.out_eq c 4).trans (final m c), h.2 c⟩
  · refine (θ_run Cert.OprojReferenceIdeal.defs _ _).mono (fun r h c => ?_) (Cert.OprojReferenceIdeal.Value.run m' g')
    obtain ⟨a0, a1, a2⟩ := ha c
    obtain ⟨h1, hrest⟩ := h c
    refine ⟨h1.trans ?_, hrest⟩
    rw [Cert.OprojReferenceIdeal.Read.val_main_v1_eq, a0, a1, a2]

end Cert.OprojIdeal.Val

end
-- ==== Proof.SbProj.lean ====
/- The input projection of the attention: a block of the launch's product is the reference's product there. -/
module

public import proofs.«01_k».proof.Proof.Gen.PsbIdeal
public import proofs.«01_k».proof.Proof.Gen.PsbIdeal.Skeleton
public import proofs.«01_k».proof.Proof.Gen.PsbIdeal.Launch
public import proofs.«01_k».proof.Proof.Gen.PsbIdeal.Points
public import proofs.«01_k».proof.Proof.Gen.PsbIdeal.Frame
public import proofs.«01_k».proof.Proof.Gen.PsbReferenceIdeal
public import proofs.«01_k».proof.Proof.Gen.PsbReferenceIdeal.Run
public import proofs.«01_k».proof.Proof.Gen.PsbReferenceIdeal.Read
public import proofs.«01_k».proof.Defs
public import Idealize.ShloMosaic.Lib.Pipeline.Value
public import Idealize.ShloMosaic.Lib.KernelVsHost
public import Idealize.ShloMosaic.Lib.Pipeline.ValueKit
public import Idealize.ShloMosaic.Lib.StableHlo.Run

@[expose] public section

set_option maxRecDepth 16384

noncomputable section

namespace Cert.PsbIdeal.Val

open Idealize.ShloMosaic Idealize.ShloMosaic.TcCoe Idealize.ShloMosaic.Tactic Idealize.SL.Sem
open Idealize.ShloMosaic.Pipeline (Dat)
open Cert.PsbIdeal Cert.PsbIdeal.Gen
open scoped BigOperators

variable (m : (ℓ : Loc nD τ sig) → Buf (Elt Ideal) ℓ)

/-- The product of the rows of `a0` with the columns of `a1` that the launch covers. -/
abbrev REF (a0 : FVec Ideal S4096x2048 .bf16) (a1 : FVec Ideal S2048x7184 .bf16) : FVec Ideal S4096x3072 .bf16 :=
  Cert.PsbReferenceIdeal.Read.val_main_v2 (F := Ideal) a0 a1

/-- The blocks a point works on. -/
theorem idx : ∀ t : Fin cfg0.N, win0_0.index t = ![t.val / 6, 0] ∧ win0_1.index t = ![0, t.val % 6] ∧ win0_2.index t = ![t.val / 6, t.val % 6] :=
  (by decide +kernel : ∀ t : Fin grid0.N, _)

/-- The launch reads the weight padded to whole lanes. -/
theorem entry (c : Dev nD) : V m c main_v0 = pad S2048x7296 ![0, 0] ![0, 112] ![0, 0] (m ((c : Thread nD τ).loc main_arg1) : FVec Ideal S2048x7184 .bf16)
    (sitofp .bf16 (constantI S_ 32 0#32) : FVec Ideal S_ .bf16) pads_S2048x7184_S2048x7296_000_01120 h_S_ := by
  unfold V
  simp only [hostOps0, hostOps0_1, List.flatten_cons, List.flatten_nil, List.append_nil, List.cons_append, List.nil_append]
  after_results
  try rfl

/-- The padded weight is the weight at its own columns. -/
theorem entry_at (c : Dev nD) (k : Fin 2048) (l : Fin 7184) (i : S2048x7296.Idx) (h0 : (i 0).val = k.val) (h1 : (i 1).val = l.val) :
    V m c main_v0 i = (m ((c : Thread nD τ).loc main_arg1) : FVec Ideal S2048x7184 .bf16) (ix2 k l) :=
  (congrFun (entry m c) i).trans (pad_apply_of_inside _ _ _ _ _ _ _ i (ix2 k l) (fun a => by
    match a with
    | ⟨0, _⟩ => simpa using h0
    | ⟨1, _⟩ => simpa using h1))

/-- The block of the weight a point works on. -/
theorem block (c : Dev nD) (t : Fin cfg0.N) (k : Fin 2048) (b : Fin 512) (l : Fin 7184) (h : l.val = (t.val % 6) * 512 + b.val) :
    (X0_1 m c t : FVec Ideal S2048x512 .bf16) (ix2 k b) = (m ((c : Thread nD τ).loc main_arg1) : FVec Ideal S2048x7184 .bf16) (ix2 k l) := by
  refine (dif_pos (moved0_1 t _)).trans ?_
  unfold iblk
  refine entry_at m c k l _ ?_ ?_
  · blk_simp [idx t]
  · blk_simp [idx t]
    exact h.symm

/-- A point's product is the reference's at the place it is stored. -/
theorem point (c : Dev nD) (t : Fin cfg0.N) (y) :
    k0_pay1 (iblk m c 0 t) (X0_1 m c t) y
      = REF (m ((c : Thread nD τ).loc main_arg0)) (m ((c : Thread nD τ).loc main_arg1)) (((cfg0.win 2).blk t).view.emb y) := by
  pointwise [k0_pay1, REF, Cert.PsbReferenceIdeal.Read.val_main_v2, Cert.PsbReferenceIdeal.Read.val_main_v1, Cert.PsbReferenceIdeal.Read.val_main_v0]
  refine Finset.sum_congr rfl fun k _ => ?_
  refine congrArg₂ (· * ·) ?_ (block m c t k _ _ ?_)
  · blk_point [iblk, V, idx t]
  · blk_simp [idx t]

/-- The array after the run. -/
theorem final (c : Dev nD) : (dats m 0 c).arrAt 2 (cfgs 0).N = REF (m ((c : Thread nD τ).loc main_arg0)) (m ((c : Thread nD τ).loc main_arg1)) := by
  refine (dats m 0 c).arrAt_eq_of_covers 2 _ (by decide +kernel) fun t hf y => ?_
  blk_simp
  rw [after0_2]
  unfold outsAt0
  frame_out
  exact point m c t y

/-- The launch's result is the reference's. -/
theorem algebraic : Cert.algebraic_PsbIdeal_PsbReferenceIdeal (hPsbIdeal := Cert.PsbIdeal.Gen.facts)
    (hPsbReferenceIdeal := Cert.PsbReferenceIdeal.Gen.facts) := by
  intro m g m' g' _ ha
  refine ⟨fun c => REF (m ((c : Thread nD τ).loc main_arg0)) (m ((c : Thread nD τ).loc main_arg1)), ?_, ?_⟩
  · refine (θ_run defs _ _).mono (fun r h c => ?_) (θ_run_and (run_main m g) (unchanged m g))
    exact ⟨(h.1.out_eq c 2).trans (final m c), h.2 c⟩
  · refine (θ_run Cert.PsbReferenceIdeal.defs _ _).mono (fun r h c => ?_) (Cert.PsbReferenceIdeal.Value.run m' g')
    obtain ⟨a0, a1⟩ := ha c
    obtain ⟨h0, hrest⟩ := h c
    refine ⟨h0.trans ?_, hrest⟩
    rw [Cert.PsbReferenceIdeal.Read.val_main_v2_eq, a0, a1]

end Cert.PsbIdeal.Val

end
-- ==== Proof.DnProj.lean ====
/- The input projection of the recurrence: a block of the launch's product is the reference's product there. -/
module

public import proofs.«01_k».proof.Proof.Gen.PdnIdeal
public import proofs.«01_k».proof.Proof.Gen.PdnIdeal.Skeleton
public import proofs.«01_k».proof.Proof.Gen.PdnIdeal.Launch
public import proofs.«01_k».proof.Proof.Gen.PdnIdeal.Points
public import proofs.«01_k».proof.Proof.Gen.PdnIdeal.Frame
public import proofs.«01_k».proof.Proof.Gen.PdnReferenceIdeal
public import proofs.«01_k».proof.Proof.Gen.PdnReferenceIdeal.Run
public import proofs.«01_k».proof.Proof.Gen.PdnReferenceIdeal.Read
public import proofs.«01_k».proof.Defs
public import Idealize.ShloMosaic.Lib.Pipeline.Value
public import Idealize.ShloMosaic.Lib.KernelVsHost
public import Idealize.ShloMosaic.Lib.Pipeline.ValueKit
public import Idealize.ShloMosaic.Lib.StableHlo.Run

@[expose] public section

set_option maxRecDepth 16384

noncomputable section

namespace Cert.PdnIdeal.Val

open Idealize.ShloMosaic Idealize.ShloMosaic.TcCoe Idealize.ShloMosaic.Tactic Idealize.SL.Sem
open Idealize.ShloMosaic.Pipeline (Dat)
open Cert.PdnIdeal Cert.PdnIdeal.Gen
open scoped BigOperators

variable (m : (ℓ : Loc nD τ sig) → Buf (Elt Ideal) ℓ)

/-- The product of the rows of `a0` with the columns of `a1` that the launch covers. -/
abbrev REF (a0 : FVec Ideal S4096x2048 .bf16) (a1 : FVec Ideal S2048x7184 .bf16) : FVec Ideal S4096x4096 .f32 :=
  Cert.PdnReferenceIdeal.Read.val_main_v1 (F := Ideal) a0 a1

/-- The blocks a point works on. -/
theorem idx : ∀ t : Fin cfg0.N, win0_0.index t = ![t.val / 8, 0] ∧ win0_1.index t = ![0, t.val % 8 + 6] ∧ win0_2.index t = ![t.val / 8, t.val % 8] :=
  (by decide +kernel : ∀ t : Fin grid0.N, _)

/-- The launch reads the weight padded to whole lanes. -/
theorem entry (c : Dev nD) : V m c main_v0 = pad S2048x7296 ![0, 0] ![0, 112] ![0, 0] (m ((c : Thread nD τ).loc main_arg1) : FVec Ideal S2048x7184 .bf16)
    (sitofp .bf16 (constantI S_ 32 0#32) : FVec Ideal S_ .bf16) pads_S2048x7184_S2048x7296_000_01120 h_S_ := by
  unfold V
  simp only [hostOps0, hostOps0_1, List.flatten_cons, List.flatten_nil, List.append_nil, List.cons_append, List.nil_append]
  after_results
  try rfl

/-- The padded weight is the weight at its own columns. -/
theorem entry_at (c : Dev nD) (k : Fin 2048) (l : Fin 7184) (i : S2048x7296.Idx) (h0 : (i 0).val = k.val) (h1 : (i 1).val = l.val) :
    V m c main_v0 i = (m ((c : Thread nD τ).loc main_arg1) : FVec Ideal S2048x7184 .bf16) (ix2 k l) :=
  (congrFun (entry m c) i).trans (pad_apply_of_inside _ _ _ _ _ _ _ i (ix2 k l) (fun a => by
    match a with
    | ⟨0, _⟩ => simpa using h0
    | ⟨1, _⟩ => simpa using h1))

/-- The block of the weight a point works on. -/
theorem block (c : Dev nD) (t : Fin cfg0.N) (k : Fin 2048) (b : Fin 512) (l : Fin 7184) (h : l.val = (t.val % 8 + 6) * 512 + b.val) :
    (X0_1 m c t : FVec Ideal S2048x512 .bf16) (ix2 k b) = (m ((c : Thread nD τ).loc main_arg1) : FVec Ideal S2048x7184 .bf16) (ix2 k l) := by
  refine (dif_pos (moved0_1 t _)).trans ?_
  unfold iblk
  refine entry_at m c k l _ ?_ ?_
  · blk_simp [idx t]
  · blk_simp [idx t]
    exact h.symm

/-- A point's product is the reference's at the place it is stored. -/
theorem point (c : Dev nD) (t : Fin cfg0.N) (y) :
    k0_pay1 (iblk m c 0 t) (X0_1 m c t) y
      = REF (m ((c : Thread nD τ).loc main_arg0)) (m ((c : Thread nD τ).loc main_arg1)) (((cfg0.win 2).blk t).view.emb y) := by
  pointwise [k0_pay1, REF, Cert.PdnReferenceIdeal.Read.val_main_v1, Cert.PdnReferenceIdeal.Read.val_main_v0]
  refine Finset.sum_congr rfl fun k _ => ?_
  refine congrArg₂ (· * ·) ?_ (block m c t k _ _ ?_)
  · blk_point [iblk, V, idx t]
  · blk_simp [idx t]
    show 3072 + (t.val % 8 * 512 + (y 1).val) = (t.val % 8 + 6) * 512 + (y 1).val
    omega

/-- The array after the run. -/
theorem final (c : Dev nD) : (dats m 0 c).arrAt 2 (cfgs 0).N = REF (m ((c : Thread nD τ).loc main_arg0)) (m ((c : Thread nD τ).loc main_arg1)) := by
  refine (dats m 0 c).arrAt_eq_of_covers 2 _ (by decide +kernel) fun t hf y => ?_
  blk_simp
  rw [after0_2]
  unfold outsAt0
  frame_out
  exact point m c t y

/-- The launch's result is the reference's. -/
theorem algebraic : Cert.algebraic_PdnIdeal_PdnReferenceIdeal (hPdnIdeal := Cert.PdnIdeal.Gen.facts)
    (hPdnReferenceIdeal := Cert.PdnReferenceIdeal.Gen.facts) := by
  intro m g m' g' _ ha
  refine ⟨fun c => REF (m ((c : Thread nD τ).loc main_arg0)) (m ((c : Thread nD τ).loc main_arg1)), ?_, ?_⟩
  · refine (θ_run defs _ _).mono (fun r h c => ?_) (θ_run_and (run_main m g) (unchanged m g))
    exact ⟨(h.1.out_eq c 2).trans (final m c), h.2 c⟩
  · refine (θ_run Cert.PdnReferenceIdeal.defs _ _).mono (fun r h c => ?_) (Cert.PdnReferenceIdeal.Value.run m' g')
    obtain ⟨a0, a1⟩ := ha c
    obtain ⟨h0, hrest⟩ := h c
    refine ⟨h0.trans ?_, hrest⟩
    rw [Cert.PdnReferenceIdeal.Read.val_main_v1_eq, a0, a1]

end Cert.PdnIdeal.Val

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Dact
public import proofs.«01_k».proof.Proof.Gen.Dact.Skeleton
public import proofs.«01_k».proof.Proof.Gen.Dact.Launch
public import proofs.«01_k».proof.Proof.Gen.Dact.Points
public import proofs.«01_k».proof.Proof.Gen.Dact.Frame
public import proofs.«01_k».proof.Proof.Gen.DactIdeal
public import proofs.«01_k».proof.Proof.Gen.DactIdeal.Skeleton
public import proofs.«01_k».proof.Proof.Gen.DactIdeal.Launch
public import proofs.«01_k».proof.Proof.Gen.DactIdeal.Points
public import proofs.«01_k».proof.Proof.Gen.DactIdeal.Frame
public import proofs.«01_k».proof.Proof.Gen.DactReferenceIdeal
public import proofs.«01_k».proof.Proof.Gen.DactReferenceIdeal.Run
public import proofs.«01_k».proof.Proof.Gen.DactReferenceIdeal.Read
public import proofs.«01_k».proof.Proof.Gen.Gdown
public import proofs.«01_k».proof.Proof.Gen.Gdown.Skeleton
public import proofs.«01_k».proof.Proof.Gen.Gdown.Launch
public import proofs.«01_k».proof.Proof.Gen.Gdown.Points
public import proofs.«01_k».proof.Proof.Gen.Gdown.Frame
public import proofs.«01_k».proof.Proof.Gen.GdownIdeal
public import proofs.«01_k».proof.Proof.Gen.GdownIdeal.Skeleton
public import proofs.«01_k».proof.Proof.Gen.GdownIdeal.Launch
public import proofs.«01_k».proof.Proof.Gen.GdownIdeal.Points
public import proofs.«01_k».proof.Proof.Gen.GdownIdeal.Frame
public import proofs.«01_k».proof.Proof.Gen.GdownReferenceIdeal
public import proofs.«01_k».proof.Proof.Gen.GdownReferenceIdeal.Run
public import proofs.«01_k».proof.Proof.Gen.GdownReferenceIdeal.Read
public import proofs.«01_k».proof.Proof.Gen.Ggate
public import proofs.«01_k».proof.Proof.Gen.Ggate.Skeleton
public import proofs.«01_k».proof.Proof.Gen.Ggate.Launch
public import proofs.«01_k».proof.Proof.Gen.Ggate.Points
public import proofs.«01_k».proof.Proof.Gen.Ggate.Frame
public import proofs.«01_k».proof.Proof.Gen.GgateIdeal
public import proofs.«01_k».proof.Proof.Gen.GgateIdeal.Skeleton
public import proofs.«01_k».proof.Proof.Gen.GgateIdeal.Launch
public import proofs.«01_k».proof.Proof.Gen.GgateIdeal.Points
public import proofs.«01_k».proof.Proof.Gen.GgateIdeal.Frame
public import proofs.«01_k».proof.Proof.Gen.GgateReferenceIdeal
public import proofs.«01_k».proof.Proof.Gen.GgateReferenceIdeal.Run
public import proofs.«01_k».proof.Proof.Gen.GgateReferenceIdeal.Read
public import proofs.«01_k».proof.Proof.Gen.Gval
public import proofs.«01_k».proof.Proof.Gen.Gval.Skeleton
public import proofs.«01_k».proof.Proof.Gen.Gval.Launch
public import proofs.«01_k».proof.Proof.Gen.Gval.Points
public import proofs.«01_k».proof.Proof.Gen.Gval.Frame
public import proofs.«01_k».proof.Proof.Gen.GvalIdeal
public import proofs.«01_k».proof.Proof.Gen.GvalIdeal.Skeleton
public import proofs.«01_k».proof.Proof.Gen.GvalIdeal.Launch
public import proofs.«01_k».proof.Proof.Gen.GvalIdeal.Points
public import proofs.«01_k».proof.Proof.Gen.GvalIdeal.Frame
public import proofs.«01_k».proof.Proof.Gen.GvalReferenceIdeal
public import proofs.«01_k».proof.Proof.Gen.GvalReferenceIdeal.Run
public import proofs.«01_k».proof.Proof.Gen.GvalReferenceIdeal.Read
public import proofs.«01_k».proof.Proof.Gen.Dhn
public import proofs.«01_k».proof.Proof.Gen.Dhn.Skeleton
public import proofs.«01_k».proof.Proof.Gen.Dhn.Launch
public import proofs.«01_k».proof.Proof.Gen.Dhn.Points
public import proofs.«01_k».proof.Proof.Gen.Dhn.Frame
public import proofs.«01_k».proof.Proof.Gen.DhnIdeal
public import proofs.«01_k».proof.Proof.Gen.DhnIdeal.Skeleton
public import proofs.«01_k».proof.Proof.Gen.DhnIdeal.Launch
public import proofs.«01_k».proof.Proof.Gen.DhnIdeal.Points
public import proofs.«01_k».proof.Proof.Gen.DhnIdeal.Frame
public import proofs.«01_k».proof.Proof.Gen.DhnReferenceIdeal
public import proofs.«01_k».proof.Proof.Gen.DhnReferenceIdeal.Run
public import proofs.«01_k».proof.Proof.Gen.DhnReferenceIdeal.Read
public import proofs.«01_k».proof.Proof.Gen.Dmix
public import proofs.«01_k».proof.Proof.Gen.Dmix.Skeleton
public import proofs.«01_k».proof.Proof.Gen.Dmix.Launch
public import proofs.«01_k».proof.Proof.Gen.Dmix.Points
public import proofs.«01_k».proof.Proof.Gen.Dmix.Frame
public import proofs.«01_k».proof.Proof.Gen.DmixIdeal
public import proofs.«01_k».proof.Proof.Gen.DmixIdeal.Skeleton
public import proofs.«01_k».proof.Proof.Gen.DmixIdeal.Launch
public import proofs.«01_k».proof.Proof.Gen.DmixIdeal.Points
public import proofs.«01_k».proof.Proof.Gen.DmixIdeal.Frame
public import proofs.«01_k».proof.Proof.Gen.DmixReferenceIdeal
public import proofs.«01_k».proof.Proof.Gen.DmixReferenceIdeal.Run
public import proofs.«01_k».proof.Proof.Gen.DmixReferenceIdeal.Read
public import proofs.«01_k».proof.Proof.Gen.Gout
public import proofs.«01_k».proof.Proof.Gen.Gout.Skeleton
public import proofs.«01_k».proof.Proof.Gen.Gout.Launch
public import proofs.«01_k».proof.Proof.Gen.Gout.Points
public import proofs.«01_k».proof.Proof.Gen.Gout.Frame
public import proofs.«01_k».proof.Proof.Gen.GoutIdeal
public import proofs.«01_k».proof.Proof.Gen.GoutIdeal.Skeleton
public import proofs.«01_k».proof.Proof.Gen.GoutIdeal.Launch
public import proofs.«01_k».proof.Proof.Gen.GoutIdeal.Points
public import proofs.«01_k».proof.Proof.Gen.GoutIdeal.Frame
public import proofs.«01_k».proof.Proof.Gen.GoutReferenceIdeal
public import proofs.«01_k».proof.Proof.Gen.GoutReferenceIdeal.Run
public import proofs.«01_k».proof.Proof.Gen.GoutReferenceIdeal.Read
public import proofs.«01_k».proof.Proof.Gen.Gin
public import proofs.«01_k».proof.Proof.Gen.Gin.Skeleton
public import proofs.«01_k».proof.Proof.Gen.Gin.Launch
public import proofs.«01_k».proof.Proof.Gen.Gin.Points
public import proofs.«01_k».proof.Proof.Gen.Gin.Frame
public import proofs.«01_k».proof.Proof.Gen.GinIdeal
public import proofs.«01_k».proof.Proof.Gen.GinIdeal.Skeleton
public import proofs.«01_k».proof.Proof.Gen.GinIdeal.Launch
public import proofs.«01_k».proof.Proof.Gen.GinIdeal.Points
public import proofs.«01_k».proof.Proof.Gen.GinIdeal.Frame
public import proofs.«01_k».proof.Proof.Gen.GinReferenceIdeal
public import proofs.«01_k».proof.Proof.Gen.GinReferenceIdeal.Run
public import proofs.«01_k».proof.Proof.Gen.GinReferenceIdeal.Read
public import proofs.«01_k».proof.Proof.Gen.Gconv
public import proofs.«01_k».proof.Proof.Gen.Gconv.Skeleton
public import proofs.«01_k».proof.Proof.Gen.Gconv.Launch
public import proofs.«01_k».proof.Proof.Gen.Gconv.Points
public import proofs.«01_k».proof.Proof.Gen.Gconv.Frame
public import proofs.«01_k».proof.Proof.Gen.GconvIdeal
public import proofs.«01_k».proof.Proof.Gen.GconvIdeal.Skeleton
public import proofs.«01_k».proof.Proof.Gen.GconvIdeal.Launch
public import proofs.«01_k».proof.Proof.Gen.GconvIdeal.Points
public import proofs.«01_k».proof.Proof.Gen.GconvIdeal.Frame
public import proofs.«01_k».proof.Proof.Gen.GconvReferenceIdeal
public import proofs.«01_k».proof.Proof.Gen.GconvReferenceIdeal.Run
public import proofs.«01_k».proof.Proof.Gen.GconvReferenceIdeal.Read
public import proofs.«01_k».proof.Proof.Gen.Fup
public import proofs.«01_k».proof.Proof.Gen.Fup.Skeleton
public import proofs.«01_k».proof.Proof.Gen.Fup.Launch
public import proofs.«01_k».proof.Proof.Gen.Fup.Points
public import proofs.«01_k».proof.Proof.Gen.Fup.Frame
public import proofs.«01_k».proof.Proof.Gen.FupIdeal
public import proofs.«01_k».proof.Proof.Gen.FupIdeal.Skeleton
public import proofs.«01_k».proof.Proof.Gen.FupIdeal.Launch
public import proofs.«01_k».proof.Proof.Gen.FupIdeal.Points
public import proofs.«01_k».proof.Proof.Gen.FupIdeal.Frame
public import proofs.«01_k».proof.Proof.Gen.FupReferenceIdeal
public import proofs.«01_k».proof.Proof.Gen.FupReferenceIdeal.Run
public import proofs.«01_k».proof.Proof.Gen.FupReferenceIdeal.Read
public import proofs.«01_k».proof.Proof.Gen.Fdown
public import proofs.«01_k».proof.Proof.Gen.Fdown.Skeleton
public import proofs.«01_k».proof.Proof.Gen.Fdown.Launch
public import proofs.«01_k».proof.Proof.Gen.Fdown.Points
public import proofs.«01_k».proof.Proof.Gen.Fdown.Frame
public import proofs.«01_k».proof.Proof.Gen.FdownIdeal
public import proofs.«01_k».proof.Proof.Gen.FdownIdeal.Skeleton
public import proofs.«01_k».proof.Proof.Gen.FdownIdeal.Launch
public import proofs.«01_k».proof.Proof.Gen.FdownIdeal.Points
public import proofs.«01_k».proof.Proof.Gen.FdownIdeal.Frame
public import proofs.«01_k».proof.Proof.Gen.FdownReferenceIdeal
public import proofs.«01_k».proof.Proof.Gen.FdownReferenceIdeal.Run
public import proofs.«01_k».proof.Proof.Gen.FdownReferenceIdeal.Read
public import proofs.«01_k».proof.Proof.Gen.Oproj
public import proofs.«01_k».proof.Proof.Gen.Oproj.Skeleton
public import proofs.«01_k».proof.Proof.Gen.Oproj.Launch
public import proofs.«01_k».proof.Proof.Gen.Oproj.Points
public import proofs.«01_k».proof.Proof.Gen.Oproj.Frame
public import proofs.«01_k».proof.Proof.Gen.OprojIdeal
public import proofs.«01_k».proof.Proof.Gen.OprojIdeal.Skeleton
public import proofs.«01_k».proof.Proof.Gen.OprojIdeal.Launch
public import proofs.«01_k».proof.Proof.Gen.OprojIdeal.Points
public import proofs.«01_k».proof.Proof.Gen.OprojIdeal.Frame
public import proofs.«01_k».proof.Proof.Gen.OprojReferenceIdeal
public import proofs.«01_k».proof.Proof.Gen.OprojReferenceIdeal.Run
public import proofs.«01_k».proof.Proof.Gen.OprojReferenceIdeal.Read
public import proofs.«01_k».proof.Proof.Gen.Psb
public import proofs.«01_k».proof.Proof.Gen.Psb.Skeleton
public import proofs.«01_k».proof.Proof.Gen.Psb.Launch
public import proofs.«01_k».proof.Proof.Gen.Psb.Points
public import proofs.«01_k».proof.Proof.Gen.Psb.Frame
public import proofs.«01_k».proof.Proof.Gen.PsbIdeal
public import proofs.«01_k».proof.Proof.Gen.PsbIdeal.Skeleton
public import proofs.«01_k».proof.Proof.Gen.PsbIdeal.Launch
public import proofs.«01_k».proof.Proof.Gen.PsbIdeal.Points
public import proofs.«01_k».proof.Proof.Gen.PsbIdeal.Frame
public import proofs.«01_k».proof.Proof.Gen.PsbReferenceIdeal
public import proofs.«01_k».proof.Proof.Gen.PsbReferenceIdeal.Run
public import proofs.«01_k».proof.Proof.Gen.PsbReferenceIdeal.Read
public import proofs.«01_k».proof.Proof.Gen.Pdn
public import proofs.«01_k».proof.Proof.Gen.Pdn.Skeleton
public import proofs.«01_k».proof.Proof.Gen.Pdn.Launch
public import proofs.«01_k».proof.Proof.Gen.Pdn.Points
public import proofs.«01_k».proof.Proof.Gen.Pdn.Frame
public import proofs.«01_k».proof.Proof.Gen.PdnIdeal
public import proofs.«01_k».proof.Proof.Gen.PdnIdeal.Skeleton
public import proofs.«01_k».proof.Proof.Gen.PdnIdeal.Launch
public import proofs.«01_k».proof.Proof.Gen.PdnIdeal.Points
public import proofs.«01_k».proof.Proof.Gen.PdnIdeal.Frame
public import proofs.«01_k».proof.Proof.Gen.PdnReferenceIdeal
public import proofs.«01_k».proof.Proof.Gen.PdnReferenceIdeal.Run
public import proofs.«01_k».proof.Proof.Gen.PdnReferenceIdeal.Read
public import proofs.«01_k».proof.Proof.Gen.Pba
public import proofs.«01_k».proof.Proof.Gen.Pba.Skeleton
public import proofs.«01_k».proof.Proof.Gen.Pba.Launch
public import proofs.«01_k».proof.Proof.Gen.Pba.Points
public import proofs.«01_k».proof.Proof.Gen.Pba.Frame
public import proofs.«01_k».proof.Proof.Gen.PbaIdeal
public import proofs.«01_k».proof.Proof.Gen.PbaIdeal.Skeleton
public import proofs.«01_k».proof.Proof.Gen.PbaIdeal.Launch
public import proofs.«01_k».proof.Proof.Gen.PbaIdeal.Points
public import proofs.«01_k».proof.Proof.Gen.PbaIdeal.Frame
public import proofs.«01_k».proof.Proof.Gen.PbaReferenceIdeal
public import proofs.«01_k».proof.Proof.Gen.PbaReferenceIdeal.Run
public import proofs.«01_k».proof.Proof.Gen.PbaReferenceIdeal.Read
public import proofs.«01_k».proof.Proof.Gen.Gba
public import proofs.«01_k».proof.Proof.Gen.Gba.Skeleton
public import proofs.«01_k».proof.Proof.Gen.Gba.Launch
public import proofs.«01_k».proof.Proof.Gen.Gba.Points
public import proofs.«01_k».proof.Proof.Gen.Gba.Frame
public import proofs.«01_k».proof.Proof.Gen.GbaIdeal
public import proofs.«01_k».proof.Proof.Gen.GbaIdeal.Skeleton
public import proofs.«01_k».proof.Proof.Gen.GbaIdeal.Launch
public import proofs.«01_k».proof.Proof.Gen.GbaIdeal.Points
public import proofs.«01_k».proof.Proof.Gen.GbaIdeal.Frame
public import proofs.«01_k».proof.Proof.Gen.GbaReferenceIdeal
public import proofs.«01_k».proof.Proof.Gen.GbaReferenceIdeal.Run
public import proofs.«01_k».proof.Proof.Gen.GbaReferenceIdeal.Read
public import proofs.«01_k».proof.Proof.Gen.AdIn
public import proofs.«01_k».proof.Proof.Gen.AdIn.Skeleton
public import proofs.«01_k».proof.Proof.Gen.AdIn.Launch
public import proofs.«01_k».proof.Proof.Gen.AdIn.Points
public import proofs.«01_k».proof.Proof.Gen.AdIn.Frame
public import proofs.«01_k».proof.Proof.Gen.AdInIdeal
public import proofs.«01_k».proof.Proof.Gen.AdInIdeal.Skeleton
public import proofs.«01_k».proof.Proof.Gen.AdInIdeal.Launch
public import proofs.«01_k».proof.Proof.Gen.AdInIdeal.Points
public import proofs.«01_k».proof.Proof.Gen.AdInIdeal.Frame
public import proofs.«01_k».proof.Proof.Gen.AdInReferenceIdeal
public import proofs.«01_k».proof.Proof.Gen.AdInReferenceIdeal.Run
public import proofs.«01_k».proof.Proof.Gen.AdInReferenceIdeal.Read
public import proofs.«01_k».proof.Proof.Gen.AdOut
public import proofs.«01_k».proof.Proof.Gen.AdOut.Skeleton
public import proofs.«01_k».proof.Proof.Gen.AdOut.Launch
public import proofs.«01_k».proof.Proof.Gen.AdOut.Points
public import proofs.«01_k».proof.Proof.Gen.AdOut.Frame
public import proofs.«01_k».proof.Proof.Gen.AdOutIdeal
public import proofs.«01_k».proof.Proof.Gen.AdOutIdeal.Skeleton
public import proofs.«01_k».proof.Proof.Gen.AdOutIdeal.Launch
public import proofs.«01_k».proof.Proof.Gen.AdOutIdeal.Points
public import proofs.«01_k».proof.Proof.Gen.AdOutIdeal.Frame
public import proofs.«01_k».proof.Proof.Gen.AdOutReferenceIdeal
public import proofs.«01_k».proof.Proof.Gen.AdOutReferenceIdeal.Run
public import proofs.«01_k».proof.Proof.Gen.AdOutReferenceIdeal.Read
public import proofs.«01_k».proof.Proof.Gen.AdUp
public import proofs.«01_k».proof.Proof.Gen.AdUp.Skeleton
public import proofs.«01_k».proof.Proof.Gen.AdUp.Launch
public import proofs.«01_k».proof.Proof.Gen.AdUp.Points
public import proofs.«01_k».proof.Proof.Gen.AdUp.Frame
public import proofs.«01_k».proof.Proof.Gen.AdUpIdeal
public import proofs.«01_k».proof.Proof.Gen.AdUpIdeal.Skeleton
public import proofs.«01_k».proof.Proof.Gen.AdUpIdeal.Launch
public import proofs.«01_k».proof.Proof.Gen.AdUpIdeal.Points
public import proofs.«01_k».proof.Proof.Gen.AdUpIdeal.Frame
public import proofs.«01_k».proof.Proof.Gen.AdUpReferenceIdeal
public import proofs.«01_k».proof.Proof.Gen.AdUpReferenceIdeal.Run
public import proofs.«01_k».proof.Proof.Gen.AdUpReferenceIdeal.Read
public import proofs.«01_k».proof.Proof.Gen.AdDown
public import proofs.«01_k».proof.Proof.Gen.AdDown.Skeleton
public import proofs.«01_k».proof.Proof.Gen.AdDown.Launch
public import proofs.«01_k».proof.Proof.Gen.AdDown.Points
public import proofs.«01_k».proof.Proof.Gen.AdDown.Frame
public import proofs.«01_k».proof.Proof.Gen.AdDownIdeal
public import proofs.«01_k».proof.Proof.Gen.AdDownIdeal.Skeleton
public import proofs.«01_k».proof.Proof.Gen.AdDownIdeal.Launch
public import proofs.«01_k».proof.Proof.Gen.AdDownIdeal.Points
public import proofs.«01_k».proof.Proof.Gen.AdDownIdeal.Frame
public import proofs.«01_k».proof.Proof.Gen.AdDownReferenceIdeal
public import proofs.«01_k».proof.Proof.Gen.AdDownReferenceIdeal.Run
public import proofs.«01_k».proof.Proof.Gen.AdDownReferenceIdeal.Read
public import proofs.«01_k».proof.Proof.Gen.AdSmall
public import proofs.«01_k».proof.Proof.Gen.AdSmall.Skeleton
public import proofs.«01_k».proof.Proof.Gen.AdSmall.Launch
public import proofs.«01_k».proof.Proof.Gen.AdSmall.Points
public import proofs.«01_k».proof.Proof.Gen.AdSmall.Frame
public import proofs.«01_k».proof.Proof.Gen.AdSmallIdeal
public import proofs.«01_k».proof.Proof.Gen.AdSmallIdeal.Skeleton
public import proofs.«01_k».proof.Proof.Gen.AdSmallIdeal.Launch
public import proofs.«01_k».proof.Proof.Gen.AdSmallIdeal.Points
public import proofs.«01_k».proof.Proof.Gen.AdSmallIdeal.Frame
public import proofs.«01_k».proof.Proof.Gen.AdSmallIdeal.Value
public import proofs.«01_k».proof.Proof.Gen.AdSmallReferenceIdeal
public import proofs.«01_k».proof.Proof.Gen.AdSmallReferenceIdeal.Run
public import proofs.«01_k».proof.Proof.Gen.AdSmallReferenceIdeal.Read
public import proofs.«01_k».proof.Proof.Gen.Rpre
public import proofs.«01_k».proof.Proof.Gen.Rpre.Skeleton
public import proofs.«01_k».proof.Proof.Gen.Rpre.Launch
public import proofs.«01_k».proof.Proof.Gen.Rpre.Points
public import proofs.«01_k».proof.Proof.Gen.Rpre.Frame
public import proofs.«01_k».proof.Proof.Gen.RpreIdeal
public import proofs.«01_k».proof.Proof.Gen.RpreIdeal.Skeleton
public import proofs.«01_k».proof.Proof.Gen.RpreIdeal.Launch
public import proofs.«01_k».proof.Proof.Gen.RpreIdeal.Points
public import proofs.«01_k».proof.Proof.Gen.RpreIdeal.Frame
public import proofs.«01_k».proof.Proof.Gen.RpreIdeal.Value
public import proofs.«01_k».proof.Proof.Gen.RpreReferenceIdeal
public import proofs.«01_k».proof.Proof.Gen.RpreReferenceIdeal.Run
public import proofs.«01_k».proof.Proof.Gen.RpreReferenceIdeal.Read
public import proofs.«01_k».proof.Proof.Gen.Rpost
public import proofs.«01_k».proof.Proof.Gen.Rpost.Skeleton
public import proofs.«01_k».proof.Proof.Gen.Rpost.Launch
public import proofs.«01_k».proof.Proof.Gen.Rpost.Points
public import proofs.«01_k».proof.Proof.Gen.Rpost.Frame
public import proofs.«01_k».proof.Proof.Gen.RpostIdeal
public import proofs.«01_k».proof.Proof.Gen.RpostIdeal.Skeleton
public import proofs.«01_k».proof.Proof.Gen.RpostIdeal.Launch
public import proofs.«01_k».proof.Proof.Gen.RpostIdeal.Points
public import proofs.«01_k».proof.Proof.Gen.RpostIdeal.Frame
public import proofs.«01_k».proof.Proof.Gen.RpostIdeal.Value
public import proofs.«01_k».proof.Proof.Gen.RpostReferenceIdeal
public import proofs.«01_k».proof.Proof.Gen.RpostReferenceIdeal.Run
public import proofs.«01_k».proof.Proof.Gen.RpostReferenceIdeal.Read
public import proofs.«01_k».proof.Proof.Gen.Bpre
public import proofs.«01_k».proof.Proof.Gen.Bpre.Skeleton
public import proofs.«01_k».proof.Proof.Gen.Bpre.Launch
public import proofs.«01_k».proof.Proof.Gen.Bpre.Points
public import proofs.«01_k».proof.Proof.Gen.Bpre.Frame
public import proofs.«01_k».proof.Proof.Gen.BpreIdeal
public import proofs.«01_k».proof.Proof.Gen.BpreIdeal.Skeleton
public import proofs.«01_k».proof.Proof.Gen.BpreIdeal.Launch
public import proofs.«01_k».proof.Proof.Gen.BpreIdeal.Points
public import proofs.«01_k».proof.Proof.Gen.BpreIdeal.Frame
public import proofs.«01_k».proof.Proof.Gen.BpreIdeal.Value
public import proofs.«01_k».proof.Proof.Gen.BpreReferenceIdeal
public import proofs.«01_k».proof.Proof.Gen.BpreReferenceIdeal.Run
public import proofs.«01_k».proof.Proof.Gen.BpreReferenceIdeal.Read
public import proofs.«01_k».proof.Proof.Gen.Bpost
public import proofs.«01_k».proof.Proof.Gen.Bpost.Skeleton
public import proofs.«01_k».proof.Proof.Gen.Bpost.Launch
public import proofs.«01_k».proof.Proof.Gen.Bpost.Points
public import proofs.«01_k».proof.Proof.Gen.Bpost.Frame
public import proofs.«01_k».proof.Proof.Gen.BpostIdeal
public import proofs.«01_k».proof.Proof.Gen.BpostIdeal.Skeleton
public import proofs.«01_k».proof.Proof.Gen.BpostIdeal.Launch
public import proofs.«01_k».proof.Proof.Gen.BpostIdeal.Points
public import proofs.«01_k».proof.Proof.Gen.BpostIdeal.Frame
public import proofs.«01_k».proof.Proof.Gen.BpostIdeal.Value
public import proofs.«01_k».proof.Proof.Gen.BpostReferenceIdeal
public import proofs.«01_k».proof.Proof.Gen.BpostReferenceIdeal.Run
public import proofs.«01_k».proof.Proof.Gen.BpostReferenceIdeal.Read
public import proofs.«01_k».proof.Proof.Gen.Lhead
public import proofs.«01_k».proof.Proof.Gen.Lhead.Skeleton
public import proofs.«01_k».proof.Proof.Gen.Lhead.Launch
public import proofs.«01_k».proof.Proof.Gen.Lhead.Points
public import proofs.«01_k».proof.Proof.Gen.Lhead.Frame
public import proofs.«01_k».proof.Proof.Gen.LheadIdeal
public import proofs.«01_k».proof.Proof.Gen.LheadIdeal.Skeleton
public import proofs.«01_k».proof.Proof.Gen.LheadIdeal.Launch
public import proofs.«01_k».proof.Proof.Gen.LheadIdeal.Points
public import proofs.«01_k».proof.Proof.Gen.LheadIdeal.Frame
public import proofs.«01_k».proof.Proof.Gen.LheadIdeal.Value
public import proofs.«01_k».proof.Proof.Gen.LheadReferenceIdeal
public import proofs.«01_k».proof.Proof.Gen.LheadReferenceIdeal.Run
public import proofs.«01_k».proof.Proof.Gen.LheadReferenceIdeal.Read
public import proofs.«01_k».proof.Proof.Body
public import proofs.«01_k».proof.Proof.Same
public import proofs.«01_k».proof.Proof.Value
public import proofs.«01_k».proof.Proof.ActGrad
public import proofs.«01_k».proof.Proof.DownGrad
public import proofs.«01_k».proof.Proof.GateGrad
public import proofs.«01_k».proof.Proof.ValGrad
public import proofs.«01_k».proof.Proof.HiddenGrad
public import proofs.«01_k».proof.Proof.MixGrad
public import proofs.«01_k».proof.Proof.OutGrad
public import proofs.«01_k».proof.Proof.InGrad
public import proofs.«01_k».proof.Proof.ConvGrad
public import proofs.«01_k».proof.Proof.NarrowProj
public import proofs.«01_k».proof.Proof.NarrowGrad
public import proofs.«01_k».proof.Proof.AdamIn
public import proofs.«01_k».proof.Proof.AdamOut
public import proofs.«01_k».proof.Proof.AdamUp
public import proofs.«01_k».proof.Proof.AdamDown
public import proofs.«01_k».proof.Proof.AdamSmall
public import proofs.«01_k».proof.Proof.NormPre
public import proofs.«01_k».proof.Proof.NormPost
public import proofs.«01_k».proof.Proof.NormPreGrad
public import proofs.«01_k».proof.Proof.NormPostGrad
public import proofs.«01_k».proof.Proof.LossHead
public import proofs.«01_k».proof.Proof.UpProd
public import proofs.«01_k».proof.Proof.DownProd
public import proofs.«01_k».proof.Proof.OutProd
public import proofs.«01_k».proof.Proof.SbProj
public import proofs.«01_k».proof.Proof.DnProj
public import Idealize.ShloMosaic.Adequacy
public import Idealize.ShloMosaic.Init

@[expose] public section

noncomputable section

namespace Cert.Proof

open Idealize.ShloMosaic Idealize.SL.Sem Cert.Kernel

/-- The kernel's program ends, its arguments unchanged and its counters at zero: the run of the one text, at the bits. -/
theorem frame_kernel : Cert.quiescent_Kernel := fun m ρ _ =>
  Same.transport Same.defs_eq Same.main_eq (Cert.KernelIdeal.Sb.frame (F := Bits) m ρ)

/-- The same text over the extended reals. -/
theorem frame_kernel_ideal : Cert.quiescent_KernelIdeal := fun m ρ _ => Cert.KernelIdeal.Sb.frame m ρ

/-- The reference's run. -/
theorem frame_reference : Cert.quiescent_ReferenceIdeal := fun m ρ _ => by
  exact (θ_run Cert.ReferenceIdeal.defs _ _).mono (fun r h => ⟨fun c => (h c).2.2.2,
    Idealize.ShloMosaic.sem_eq_zero_of_no_sems (by decide) r.2⟩) (Cert.ReferenceIdeal.Value.run m ρ)

/-- The runs of the products' references. -/
theorem frame_dact_reference : Cert.quiescent_DactReferenceIdeal := fun m ρ _ => by
  exact (θ_run Cert.DactReferenceIdeal.defs _ _).mono (fun r h => ⟨fun c => (h c).2,
    Idealize.ShloMosaic.sem_eq_zero_of_no_sems (by decide) r.2⟩) (Cert.DactReferenceIdeal.Value.run m ρ)
theorem frame_gdown_reference : Cert.quiescent_GdownReferenceIdeal := fun m ρ _ => by
  exact (θ_run Cert.GdownReferenceIdeal.defs _ _).mono (fun r h => ⟨fun c => (h c).2,
    Idealize.ShloMosaic.sem_eq_zero_of_no_sems (by decide) r.2⟩) (Cert.GdownReferenceIdeal.Value.run m ρ)
theorem frame_ggate_reference : Cert.quiescent_GgateReferenceIdeal := fun m ρ _ => by
  exact (θ_run Cert.GgateReferenceIdeal.defs _ _).mono (fun r h => ⟨fun c => (h c).2,
    Idealize.ShloMosaic.sem_eq_zero_of_no_sems (by decide) r.2⟩) (Cert.GgateReferenceIdeal.Value.run m ρ)
theorem frame_gval_reference : Cert.quiescent_GvalReferenceIdeal := fun m ρ _ => by
  exact (θ_run Cert.GvalReferenceIdeal.defs _ _).mono (fun r h => ⟨fun c => (h c).2,
    Idealize.ShloMosaic.sem_eq_zero_of_no_sems (by decide) r.2⟩) (Cert.GvalReferenceIdeal.Value.run m ρ)
theorem frame_dhn_reference : Cert.quiescent_DhnReferenceIdeal := fun m ρ _ => by
  exact (θ_run Cert.DhnReferenceIdeal.defs _ _).mono (fun r h => ⟨fun c => (h c).2,
    Idealize.ShloMosaic.sem_eq_zero_of_no_sems (by decide) r.2⟩) (Cert.DhnReferenceIdeal.Value.run m ρ)
theorem frame_dmix_reference : Cert.quiescent_DmixReferenceIdeal := fun m ρ _ => by
  exact (θ_run Cert.DmixReferenceIdeal.defs _ _).mono (fun r h => ⟨fun c => (h c).2,
    Idealize.ShloMosaic.sem_eq_zero_of_no_sems (by decide) r.2⟩) (Cert.DmixReferenceIdeal.Value.run m ρ)
theorem frame_gout_reference : Cert.quiescent_GoutReferenceIdeal := fun m ρ _ => by
  exact (θ_run Cert.GoutReferenceIdeal.defs _ _).mono (fun r h => ⟨fun c => (h c).2,
    Idealize.ShloMosaic.sem_eq_zero_of_no_sems (by decide) r.2⟩) (Cert.GoutReferenceIdeal.Value.run m ρ)
theorem frame_gin_reference : Cert.quiescent_GinReferenceIdeal := fun m ρ _ => by
  exact (θ_run Cert.GinReferenceIdeal.defs _ _).mono (fun r h => ⟨fun c => (h c).2,
    Idealize.ShloMosaic.sem_eq_zero_of_no_sems (by decide) r.2⟩) (Cert.GinReferenceIdeal.Value.run m ρ)
theorem frame_gconv_reference : Cert.quiescent_GconvReferenceIdeal := fun m ρ _ => by
  exact (θ_run Cert.GconvReferenceIdeal.defs _ _).mono (fun r h => ⟨fun c => (h c).2,
    Idealize.ShloMosaic.sem_eq_zero_of_no_sems (by decide) r.2⟩) (Cert.GconvReferenceIdeal.Value.run m ρ)
theorem frame_fup_reference : Cert.quiescent_FupReferenceIdeal := fun m ρ _ => by
  exact (θ_run Cert.FupReferenceIdeal.defs _ _).mono (fun r h => ⟨fun c => (h c).2,
    Idealize.ShloMosaic.sem_eq_zero_of_no_sems (by decide) r.2⟩) (Cert.FupReferenceIdeal.Value.run m ρ)
theorem frame_fdown_reference : Cert.quiescent_FdownReferenceIdeal := fun m ρ _ => by
  exact (θ_run Cert.FdownReferenceIdeal.defs _ _).mono (fun r h => ⟨fun c => (h c).2,
    Idealize.ShloMosaic.sem_eq_zero_of_no_sems (by decide) r.2⟩) (Cert.FdownReferenceIdeal.Value.run m ρ)
theorem frame_oproj_reference : Cert.quiescent_OprojReferenceIdeal := fun m ρ _ => by
  exact (θ_run Cert.OprojReferenceIdeal.defs _ _).mono (fun r h => ⟨fun c => (h c).2,
    Idealize.ShloMosaic.sem_eq_zero_of_no_sems (by decide) r.2⟩) (Cert.OprojReferenceIdeal.Value.run m ρ)
theorem frame_psb_reference : Cert.quiescent_PsbReferenceIdeal := fun m ρ _ => by
  exact (θ_run Cert.PsbReferenceIdeal.defs _ _).mono (fun r h => ⟨fun c => (h c).2,
    Idealize.ShloMosaic.sem_eq_zero_of_no_sems (by decide) r.2⟩) (Cert.PsbReferenceIdeal.Value.run m ρ)
theorem frame_pdn_reference : Cert.quiescent_PdnReferenceIdeal := fun m ρ _ => by
  exact (θ_run Cert.PdnReferenceIdeal.defs _ _).mono (fun r h => ⟨fun c => (h c).2,
    Idealize.ShloMosaic.sem_eq_zero_of_no_sems (by decide) r.2⟩) (Cert.PdnReferenceIdeal.Value.run m ρ)
theorem frame_pba_reference : Cert.quiescent_PbaReferenceIdeal := fun m ρ _ => by
  exact (θ_run Cert.PbaReferenceIdeal.defs _ _).mono (fun r h => ⟨fun c => (h c).2,
    Idealize.ShloMosaic.sem_eq_zero_of_no_sems (by decide) r.2⟩) (Cert.PbaReferenceIdeal.Value.run m ρ)
theorem frame_gba_reference : Cert.quiescent_GbaReferenceIdeal := fun m ρ _ => by
  exact (θ_run Cert.GbaReferenceIdeal.defs _ _).mono (fun r h => ⟨fun c => (h c).2,
    Idealize.ShloMosaic.sem_eq_zero_of_no_sems (by decide) r.2⟩) (Cert.GbaReferenceIdeal.Value.run m ρ)
theorem frame_adin_reference : Cert.quiescent_AdInReferenceIdeal := fun m ρ _ => by
  exact (θ_run Cert.AdInReferenceIdeal.defs _ _).mono (fun r h => ⟨fun c => (h c).2.2.2.2,
    Idealize.ShloMosaic.sem_eq_zero_of_no_sems (by decide) r.2⟩) (Cert.AdInReferenceIdeal.Value.run m ρ)
theorem frame_adout_reference : Cert.quiescent_AdOutReferenceIdeal := fun m ρ _ => by
  exact (θ_run Cert.AdOutReferenceIdeal.defs _ _).mono (fun r h => ⟨fun c => (h c).2.2.2.2,
    Idealize.ShloMosaic.sem_eq_zero_of_no_sems (by decide) r.2⟩) (Cert.AdOutReferenceIdeal.Value.run m ρ)
theorem frame_adup_reference : Cert.quiescent_AdUpReferenceIdeal := fun m ρ _ => by
  exact (θ_run Cert.AdUpReferenceIdeal.defs _ _).mono (fun r h => ⟨fun c => (h c).2.2.2.2,
    Idealize.ShloMosaic.sem_eq_zero_of_no_sems (by decide) r.2⟩) (Cert.AdUpReferenceIdeal.Value.run m ρ)
theorem frame_addown_reference : Cert.quiescent_AdDownReferenceIdeal := fun m ρ _ => by
  exact (θ_run Cert.AdDownReferenceIdeal.defs _ _).mono (fun r h => ⟨fun c => (h c).2.2.2.2,
    Idealize.ShloMosaic.sem_eq_zero_of_no_sems (by decide) r.2⟩) (Cert.AdDownReferenceIdeal.Value.run m ρ)
theorem frame_adsmall_reference : Cert.quiescent_AdSmallReferenceIdeal := fun m ρ _ => by
  exact (θ_run Cert.AdSmallReferenceIdeal.defs _ _).mono (fun r h => ⟨fun c => (h c).2.2.2,
    Idealize.ShloMosaic.sem_eq_zero_of_no_sems (by decide) r.2⟩) (Cert.AdSmallReferenceIdeal.Value.run m ρ)
theorem frame_rpre_reference : Cert.quiescent_RpreReferenceIdeal := fun m ρ _ => by
  exact (θ_run Cert.RpreReferenceIdeal.defs _ _).mono (fun r h => ⟨fun c => (h c).2,
    Idealize.ShloMosaic.sem_eq_zero_of_no_sems (by decide) r.2⟩) (Cert.RpreReferenceIdeal.Value.run m ρ)
theorem frame_rpost_reference : Cert.quiescent_RpostReferenceIdeal := fun m ρ _ => by
  exact (θ_run Cert.RpostReferenceIdeal.defs _ _).mono (fun r h => ⟨fun c => (h c).2,
    Idealize.ShloMosaic.sem_eq_zero_of_no_sems (by decide) r.2⟩) (Cert.RpostReferenceIdeal.Value.run m ρ)
theorem frame_bpre_reference : Cert.quiescent_BpreReferenceIdeal := fun m ρ _ => by
  exact (θ_run Cert.BpreReferenceIdeal.defs _ _).mono (fun r h => ⟨fun c => (h c).2.2,
    Idealize.ShloMosaic.sem_eq_zero_of_no_sems (by decide) r.2⟩) (Cert.BpreReferenceIdeal.Value.run m ρ)
theorem frame_bpost_reference : Cert.quiescent_BpostReferenceIdeal := fun m ρ _ => by
  exact (θ_run Cert.BpostReferenceIdeal.defs _ _).mono (fun r h => ⟨fun c => (h c).2.2,
    Idealize.ShloMosaic.sem_eq_zero_of_no_sems (by decide) r.2⟩) (Cert.BpostReferenceIdeal.Value.run m ρ)
theorem frame_lhead_reference : Cert.quiescent_LheadReferenceIdeal := fun m ρ _ => by
  exact (θ_run Cert.LheadReferenceIdeal.defs _ _).mono (fun r h => ⟨fun c => (h c).2.2.2.2,
    Idealize.ShloMosaic.sem_eq_zero_of_no_sems (by decide) r.2⟩) (Cert.LheadReferenceIdeal.Value.run m ρ)

theorem claim : Cert.Claim := ⟨Cert.Kernel.Gen.facts, Cert.KernelIdeal.Gen.facts, Cert.ReferenceIdeal.Gen.facts,
  Cert.Dact.Gen.facts, Cert.DactIdeal.Gen.facts, Cert.DactReferenceIdeal.Gen.facts,
  Cert.Gdown.Gen.facts, Cert.GdownIdeal.Gen.facts, Cert.GdownReferenceIdeal.Gen.facts,
  Cert.Ggate.Gen.facts, Cert.GgateIdeal.Gen.facts, Cert.GgateReferenceIdeal.Gen.facts,
  Cert.Gval.Gen.facts, Cert.GvalIdeal.Gen.facts, Cert.GvalReferenceIdeal.Gen.facts,
  Cert.Dhn.Gen.facts, Cert.DhnIdeal.Gen.facts, Cert.DhnReferenceIdeal.Gen.facts,
  Cert.Dmix.Gen.facts, Cert.DmixIdeal.Gen.facts, Cert.DmixReferenceIdeal.Gen.facts,
  Cert.Gout.Gen.facts, Cert.GoutIdeal.Gen.facts, Cert.GoutReferenceIdeal.Gen.facts,
  Cert.Gin.Gen.facts, Cert.GinIdeal.Gen.facts, Cert.GinReferenceIdeal.Gen.facts,
  Cert.Gconv.Gen.facts, Cert.GconvIdeal.Gen.facts, Cert.GconvReferenceIdeal.Gen.facts,
  Cert.Fup.Gen.facts, Cert.FupIdeal.Gen.facts, Cert.FupReferenceIdeal.Gen.facts,
  Cert.Fdown.Gen.facts, Cert.FdownIdeal.Gen.facts, Cert.FdownReferenceIdeal.Gen.facts,
  Cert.Oproj.Gen.facts, Cert.OprojIdeal.Gen.facts, Cert.OprojReferenceIdeal.Gen.facts,
  Cert.Psb.Gen.facts, Cert.PsbIdeal.Gen.facts, Cert.PsbReferenceIdeal.Gen.facts,
  Cert.Pdn.Gen.facts, Cert.PdnIdeal.Gen.facts, Cert.PdnReferenceIdeal.Gen.facts,
  Cert.Pba.Gen.facts, Cert.PbaIdeal.Gen.facts, Cert.PbaReferenceIdeal.Gen.facts,
  Cert.Gba.Gen.facts, Cert.GbaIdeal.Gen.facts, Cert.GbaReferenceIdeal.Gen.facts,
  Cert.AdIn.Gen.facts, Cert.AdInIdeal.Gen.facts, Cert.AdInReferenceIdeal.Gen.facts,
  Cert.AdOut.Gen.facts, Cert.AdOutIdeal.Gen.facts, Cert.AdOutReferenceIdeal.Gen.facts,
  Cert.AdUp.Gen.facts, Cert.AdUpIdeal.Gen.facts, Cert.AdUpReferenceIdeal.Gen.facts,
  Cert.AdDown.Gen.facts, Cert.AdDownIdeal.Gen.facts, Cert.AdDownReferenceIdeal.Gen.facts,
  Cert.AdSmall.Gen.facts, Cert.AdSmallIdeal.Gen.facts, Cert.AdSmallReferenceIdeal.Gen.facts,
  Cert.Rpre.Gen.facts, Cert.RpreIdeal.Gen.facts, Cert.RpreReferenceIdeal.Gen.facts,
  Cert.Rpost.Gen.facts, Cert.RpostIdeal.Gen.facts, Cert.RpostReferenceIdeal.Gen.facts,
  Cert.Bpre.Gen.facts, Cert.BpreIdeal.Gen.facts, Cert.BpreReferenceIdeal.Gen.facts,
  Cert.Bpost.Gen.facts, Cert.BpostIdeal.Gen.facts, Cert.BpostReferenceIdeal.Gen.facts,
  Cert.Lhead.Gen.facts, Cert.LheadIdeal.Gen.facts, Cert.LheadReferenceIdeal.Gen.facts,
  Cert.Sb.pre_facts,
  frame_kernel, frame_kernel_ideal, fun m ρ _ => Cert.KernelIdeal.Sb.frame m ρ, frame_reference, fun m ρ _ => frame_reference m ρ trivial,
  fun m ρ _ => Cert.Dact.Gen.frame m ρ, fun m ρ _ => Cert.DactIdeal.Gen.frame m ρ, frame_dact_reference,
  fun m ρ _ => Cert.Gdown.Gen.frame m ρ, fun m ρ _ => Cert.GdownIdeal.Gen.frame m ρ, frame_gdown_reference,
  fun m ρ _ => Cert.Ggate.Gen.frame m ρ, fun m ρ _ => Cert.GgateIdeal.Gen.frame m ρ, frame_ggate_reference,
  fun m ρ _ => Cert.Gval.Gen.frame m ρ, fun m ρ _ => Cert.GvalIdeal.Gen.frame m ρ, frame_gval_reference,
  fun m ρ _ => Cert.Dhn.Gen.frame m ρ, fun m ρ _ => Cert.DhnIdeal.Gen.frame m ρ, frame_dhn_reference,
  fun m ρ _ => Cert.Dmix.Gen.frame m ρ, fun m ρ _ => Cert.DmixIdeal.Gen.frame m ρ, frame_dmix_reference,
  fun m ρ _ => Cert.Gout.Gen.frame m ρ, fun m ρ _ => Cert.GoutIdeal.Gen.frame m ρ, frame_gout_reference,
  fun m ρ _ => Cert.Gin.Gen.frame m ρ, fun m ρ _ => Cert.GinIdeal.Gen.frame m ρ, frame_gin_reference,
  fun m ρ _ => Cert.Gconv.Gen.frame m ρ, fun m ρ _ => Cert.GconvIdeal.Gen.frame m ρ, frame_gconv_reference,
  fun m ρ _ => Cert.Fup.Gen.frame m ρ, fun m ρ _ => Cert.FupIdeal.Gen.frame m ρ, frame_fup_reference,
  fun m ρ _ => Cert.Fdown.Gen.frame m ρ, fun m ρ _ => Cert.FdownIdeal.Gen.frame m ρ, frame_fdown_reference,
  fun m ρ _ => Cert.Oproj.Gen.frame m ρ, fun m ρ _ => Cert.OprojIdeal.Gen.frame m ρ, frame_oproj_reference,
  fun m ρ _ => Cert.Psb.Gen.frame m ρ, fun m ρ _ => Cert.PsbIdeal.Gen.frame m ρ, frame_psb_reference,
  fun m ρ _ => Cert.Pdn.Gen.frame m ρ, fun m ρ _ => Cert.PdnIdeal.Gen.frame m ρ, frame_pdn_reference,
  fun m ρ _ => Cert.Pba.Gen.frame m ρ, fun m ρ _ => Cert.PbaIdeal.Gen.frame m ρ, frame_pba_reference,
  fun m ρ _ => Cert.Gba.Gen.frame m ρ, fun m ρ _ => Cert.GbaIdeal.Gen.frame m ρ, frame_gba_reference,
  fun m ρ _ => Cert.AdIn.Gen.frame m ρ trivial, fun m ρ _ => Cert.AdInIdeal.Gen.frame m ρ trivial, frame_adin_reference,
  fun m ρ _ => Cert.AdOut.Gen.frame m ρ trivial, fun m ρ _ => Cert.AdOutIdeal.Gen.frame m ρ trivial, frame_adout_reference,
  fun m ρ _ => Cert.AdUp.Gen.frame m ρ trivial, fun m ρ _ => Cert.AdUpIdeal.Gen.frame m ρ trivial, frame_adup_reference,
  fun m ρ _ => Cert.AdDown.Gen.frame m ρ trivial, fun m ρ _ => Cert.AdDownIdeal.Gen.frame m ρ trivial, frame_addown_reference,
  fun m ρ _ => Cert.AdSmall.Gen.frame m ρ, fun m ρ _ => Cert.AdSmallIdeal.Gen.frame m ρ, frame_adsmall_reference,
  fun m ρ _ => Cert.Rpre.Gen.frame m ρ, fun m ρ _ => Cert.RpreIdeal.Gen.frame m ρ, frame_rpre_reference,
  fun m ρ _ => Cert.Rpost.Gen.frame m ρ, fun m ρ _ => Cert.RpostIdeal.Gen.frame m ρ, frame_rpost_reference,
  fun m ρ _ => Cert.Bpre.Gen.frame m ρ, fun m ρ _ => Cert.BpreIdeal.Gen.frame m ρ, frame_bpre_reference,
  fun m ρ _ => Cert.Bpost.Gen.frame m ρ, fun m ρ _ => Cert.BpostIdeal.Gen.frame m ρ, frame_bpost_reference,
  fun m ρ _ => Cert.Lhead.Gen.frame m ρ, fun m ρ _ => Cert.LheadIdeal.Gen.frame m ρ, frame_lhead_reference,
  trivial, Cert.Sb.algebraic, trivial, Cert.DactIdeal.Val.algebraic, trivial, Cert.GdownIdeal.Val.algebraic,
  trivial, Cert.GgateIdeal.Val.algebraic,
  trivial, Cert.GvalIdeal.Val.algebraic,
  trivial, Cert.DhnIdeal.Val.algebraic,
  trivial, Cert.DmixIdeal.Val.algebraic,
  trivial, Cert.GoutIdeal.Val.algebraic,
  trivial, Cert.GinIdeal.Val.algebraic,
  trivial, Cert.GconvIdeal.Val.algebraic,
  trivial, Cert.FupIdeal.Val.algebraic,
  trivial, Cert.FdownIdeal.Val.algebraic,
  trivial, Cert.OprojIdeal.Val.algebraic,
  trivial, Cert.PsbIdeal.Val.algebraic,
  trivial, Cert.PdnIdeal.Val.algebraic,
  trivial, Cert.PbaIdeal.Val.algebraic,
  trivial, Cert.GbaIdeal.Val.algebraic,
  trivial, Cert.AdInIdeal.Val.algebraic,
  trivial, Cert.AdOutIdeal.Val.algebraic,
  trivial, Cert.AdUpIdeal.Val.algebraic,
  trivial, Cert.AdDownIdeal.Val.algebraic,
  trivial, Cert.AdSmallIdeal.Val.algebraic,
  trivial, Cert.RpreIdeal.Val.algebraic,
  trivial, Cert.RpostIdeal.Val.algebraic,
  trivial, Cert.BpreIdeal.Val.algebraic,
  trivial, Cert.BpostIdeal.Val.algebraic,
  trivial, Cert.LheadIdeal.Val.algebraic⟩

end Cert.Proof

end
